-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_ScatterRef (m : (ℓ : Loc Cert.ScatterRef.nD Cert.ScatterRef.τ Cert.ScatterRef.sig) → Buf (Elt Bits) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_JoinRef (m : (ℓ : Loc Cert.JoinRef.nD Cert.JoinRef.τ Cert.JoinRef.sig) → Buf (Elt Bits) ℓ) : Prop :=
  True

def Pre_Total (m : (ℓ : Loc Cert.Total.nD Cert.Total.τ Cert.Total.sig) → Buf (Elt Bits) ℓ) : Prop :=
  True

def Pre_TotalIdeal (m : (ℓ : Loc Cert.TotalIdeal.nD Cert.TotalIdeal.τ Cert.TotalIdeal.sig) → Buf (Elt Ideal) ℓ) : Prop :=
  True

def Pre_TotalRefIdeal (m : (ℓ : Loc Cert.TotalRefIdeal.nD Cert.TotalRefIdeal.τ Cert.TotalRefIdeal.sig) → Buf (Elt Ideal) ℓ) : Prop :=
  True

def Pre_TotalSmall (m : (ℓ : Loc Cert.TotalSmall.nD Cert.TotalSmall.τ Cert.TotalSmall.sig) → Buf (Elt Bits) ℓ) : Prop :=
  True

def Pre_TotalSmallIdeal (m : (ℓ : Loc Cert.TotalSmallIdeal.nD Cert.TotalSmallIdeal.τ Cert.TotalSmallIdeal.sig) → Buf (Elt Ideal) ℓ) : Prop :=
  True

def Pre_TotalSmallRefIdeal (m : (ℓ : Loc Cert.TotalSmallRefIdeal.nD Cert.TotalSmallRefIdeal.τ Cert.TotalSmallRefIdeal.sig) → Buf (Elt Ideal) ℓ) : Prop :=
  True

def Pre_UpdateFfnIn (m : (ℓ : Loc Cert.UpdateFfnIn.nD Cert.UpdateFfnIn.τ Cert.UpdateFfnIn.sig) → Buf (Elt Bits) ℓ) : Prop :=
  True

def Pre_UpdateFfnInIdeal (m : (ℓ : Loc Cert.UpdateFfnInIdeal.nD Cert.UpdateFfnInIdeal.τ Cert.UpdateFfnInIdeal.sig) → Buf (Elt Ideal) ℓ) : Prop :=
  True

def Pre_UpdateFfnInRefIdeal (m : (ℓ : Loc Cert.UpdateFfnInRefIdeal.nD Cert.UpdateFfnInRefIdeal.τ Cert.UpdateFfnInRefIdeal.sig) → Buf (Elt Ideal) ℓ) : Prop :=
  True

def Pre_UpdateFfnOut (m : (ℓ : Loc Cert.UpdateFfnOut.nD Cert.UpdateFfnOut.τ Cert.UpdateFfnOut.sig) → Buf (Elt Bits) ℓ) : Prop :=
  True

def Pre_UpdateFfnOutIdeal (m : (ℓ : Loc Cert.UpdateFfnOutIdeal.nD Cert.UpdateFfnOutIdeal.τ Cert.UpdateFfnOutIdeal.sig) → Buf (Elt Ideal) ℓ) : Prop :=
  True

def Pre_UpdateFfnOutRefIdeal (m : (ℓ : Loc Cert.UpdateFfnOutRefIdeal.nD Cert.UpdateFfnOutRefIdeal.τ Cert.UpdateFfnOutRefIdeal.sig) → Buf (Elt Ideal) ℓ) : Prop :=
  True

def Pre_UpdateQkv (m : (ℓ : Loc Cert.UpdateQkv.nD Cert.UpdateQkv.τ Cert.UpdateQkv.sig) → Buf (Elt Bits) ℓ) : Prop :=
  True

def Pre_UpdateQkvIdeal (m : (ℓ : Loc Cert.UpdateQkvIdeal.nD Cert.UpdateQkvIdeal.τ Cert.UpdateQkvIdeal.sig) → Buf (Elt Ideal) ℓ) : Prop :=
  True

def Pre_UpdateQkvRefIdeal (m : (ℓ : Loc Cert.UpdateQkvRefIdeal.nD Cert.UpdateQkvRefIdeal.τ Cert.UpdateQkvRefIdeal.sig) → Buf (Elt Ideal) ℓ) : Prop :=
  True

def Pre_UpdateKv (m : (ℓ : Loc Cert.UpdateKv.nD Cert.UpdateKv.τ Cert.UpdateKv.sig) → Buf (Elt Bits) ℓ) : Prop :=
  True

def Pre_UpdateKvIdeal (m : (ℓ : Loc Cert.UpdateKvIdeal.nD Cert.UpdateKvIdeal.τ Cert.UpdateKvIdeal.sig) → Buf (Elt Ideal) ℓ) : Prop :=
  True

def Pre_UpdateKvRefIdeal (m : (ℓ : Loc Cert.UpdateKvRefIdeal.nD Cert.UpdateKvRefIdeal.τ Cert.UpdateKvRefIdeal.sig) → Buf (Elt Ideal) ℓ) : Prop :=
  True

def Pre_UpdateSquare (m : (ℓ : Loc Cert.UpdateSquare.nD Cert.UpdateSquare.τ Cert.UpdateSquare.sig) → Buf (Elt Bits) ℓ) : Prop :=
  True

def Pre_UpdateSquareIdeal (m : (ℓ : Loc Cert.UpdateSquareIdeal.nD Cert.UpdateSquareIdeal.τ Cert.UpdateSquareIdeal.sig) → Buf (Elt Ideal) ℓ) : Prop :=
  True

def Pre_UpdateSquareRefIdeal (m : (ℓ : Loc Cert.UpdateSquareRefIdeal.nD Cert.UpdateSquareRefIdeal.τ Cert.UpdateSquareRefIdeal.sig) → Buf (Elt Ideal) ℓ) : Prop :=
  True

def Pre_UpdateSmall (m : (ℓ : Loc Cert.UpdateSmall.nD Cert.UpdateSmall.τ Cert.UpdateSmall.sig) → Buf (Elt Bits) ℓ) : Prop :=
  True

def Pre_UpdateSmallIdeal (m : (ℓ : Loc Cert.UpdateSmallIdeal.nD Cert.UpdateSmallIdeal.τ Cert.UpdateSmallIdeal.sig) → Buf (Elt Ideal) ℓ) : Prop :=
  True

def Pre_UpdateSmallRefIdeal (m : (ℓ : Loc Cert.UpdateSmallRefIdeal.nD Cert.UpdateSmallRefIdeal.τ Cert.UpdateSmallRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdRefIdeal (m : (ℓ : Loc Cert.ActBwdRefIdeal.nD Cert.ActBwdRefIdeal.τ Cert.ActBwdRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_QueryDw (m : (ℓ : Loc Cert.QueryDw.nD Cert.QueryDw.τ Cert.QueryDw.sig) → Buf (Elt Bits) ℓ) : Prop :=
  True

def Pre_QueryDwIdeal (m : (ℓ : Loc Cert.QueryDwIdeal.nD Cert.QueryDwIdeal.τ Cert.QueryDwIdeal.sig) → Buf (Elt Ideal) ℓ) : Prop :=
  True

def Pre_QueryDwRefIdeal (m : (ℓ : Loc Cert.QueryDwRefIdeal.nD Cert.QueryDwRefIdeal.τ Cert.QueryDwRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_QkvIn (m : (ℓ : Loc Cert.QkvIn.nD Cert.QkvIn.τ Cert.QkvIn.sig) → Buf (Elt Bits) ℓ) : Prop :=
  True

def Pre_QkvInIdeal (m : (ℓ : Loc Cert.QkvInIdeal.nD Cert.QkvInIdeal.τ Cert.QkvInIdeal.sig) → Buf (Elt Ideal) ℓ) : Prop :=
  True

def Pre_QkvInRefIdeal (m : (ℓ : Loc Cert.QkvInRefIdeal.nD Cert.QkvInRefIdeal.τ Cert.QkvInRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_KvIn (m : (ℓ : Loc Cert.KvIn.nD Cert.KvIn.τ Cert.KvIn.sig) → Buf (Elt Bits) ℓ) : Prop :=
  True

def Pre_KvInIdeal (m : (ℓ : Loc Cert.KvInIdeal.nD Cert.KvInIdeal.τ Cert.KvInIdeal.sig) → Buf (Elt Ideal) ℓ) : Prop :=
  True

def Pre_KvInRefIdeal (m : (ℓ : Loc Cert.KvInRefIdeal.nD Cert.KvInRefIdeal.τ Cert.KvInRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_QueryIn (m : (ℓ : Loc Cert.QueryIn.nD Cert.QueryIn.τ Cert.QueryIn.sig) → Buf (Elt Bits) ℓ) : Prop :=
  True

def Pre_QueryInIdeal (m : (ℓ : Loc Cert.QueryInIdeal.nD Cert.QueryInIdeal.τ Cert.QueryInIdeal.sig) → Buf (Elt Ideal) ℓ) : Prop :=
  True

def Pre_QueryInRefIdeal (m : (ℓ : Loc Cert.QueryInRefIdeal.nD Cert.QueryInRefIdeal.τ Cert.QueryInRefIdeal.sig) → Buf (Elt Ideal) ℓ) : Prop :=
  True

def Pre_QueryDx (m : (ℓ : Loc Cert.QueryDx.nD Cert.QueryDx.τ Cert.QueryDx.sig) → Buf (Elt Bits) ℓ) : Prop :=
  True

def Pre_QueryDxIdeal (m : (ℓ : Loc Cert.QueryDxIdeal.nD Cert.QueryDxIdeal.τ Cert.QueryDxIdeal.sig) → Buf (Elt Ideal) ℓ) : Prop :=
  True

def Pre_QueryDxRefIdeal (m : (ℓ : Loc Cert.QueryDxRefIdeal.nD Cert.QueryDxRefIdeal.τ Cert.QueryDxRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_dcum_finite [hPre_dcum_finite : Cert.Pre_dcum_finite.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_dcum_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2))) = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_dcum_finite [hPre_dcum_finite : Cert.Pre_dcum_finite.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_dcum_finite.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0))
      ∧ r.2.sem = fun _ => 0)

def quiescent_JoinRef [hJoinRef : Cert.JoinRef.Facts] : Prop :=
  ∀ (m : (ℓ : Loc Cert.JoinRef.nD Cert.JoinRef.τ Cert.JoinRef.sig) → Buf (Elt Bits) ℓ) (g : Dev Cert.JoinRef.nD → PrngReg), Pre_JoinRef m →
    θ_run (Cert.JoinRef.defs (F := Bits)) (onTc (τ := Cert.JoinRef.τ) (Cert.JoinRef.main (F := Bits))) ⟨m, fun _ => 0, g⟩ (fun r => (∀ c : Dev Cert.JoinRef.nD,
      r.2.mem ((c.tc : Thread Cert.JoinRef.nD Cert.JoinRef.τ).loc Cert.JoinRef.main_arg0) = m ((c.tc : Thread Cert.JoinRef.nD Cert.JoinRef.τ).loc Cert.JoinRef.main_arg0))
      ∧ r.2.sem = fun _ => 0)

def quiescent_Total [hTotal : Cert.Total.Facts] : Prop :=
  ∀ (m : (ℓ : Loc Cert.Total.nD Cert.Total.τ Cert.Total.sig) → Buf (Elt Bits) ℓ) (g : Dev Cert.Total.nD → PrngReg), Pre_Total m →
    θ_run (Cert.Total.defs (F := Bits)) (onTc (τ := Cert.Total.τ) (Cert.Total.main (F := Bits))) ⟨m, fun _ => 0, g⟩ (fun r => (∀ c : Dev Cert.Total.nD,
      r.2.mem ((c.tc : Thread Cert.Total.nD Cert.Total.τ).loc Cert.Total.main_arg0) = m ((c.tc : Thread Cert.Total.nD Cert.Total.τ).loc Cert.Total.main_arg0))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ r.2.sem = fun _ => 0)

def quiescent_TotalRefIdeal [hTotalRefIdeal : Cert.TotalRefIdeal.Facts] : Prop :=
  ∀ (m : (ℓ : Loc Cert.TotalRefIdeal.nD Cert.TotalRefIdeal.τ Cert.TotalRefIdeal.sig) → Buf (Elt Ideal) ℓ) (g : Dev Cert.TotalRefIdeal.nD → PrngReg), Pre_TotalRefIdeal m →
    θ_run (Cert.TotalRefIdeal.defs (F := Ideal)) (onTc (τ := Cert.TotalRefIdeal.τ) (Cert.TotalRefIdeal.main (F := Ideal))) ⟨m, fun _ => 0, g⟩ (fun r => (∀ c : Dev Cert.TotalRefIdeal.nD,
      r.2.mem ((c.tc : Thread Cert.TotalRefIdeal.nD Cert.TotalRefIdeal.τ).loc Cert.TotalRefIdeal.main_arg0) = m ((c.tc : Thread Cert.TotalRefIdeal.nD Cert.TotalRefIdeal.τ).loc Cert.TotalRefIdeal.main_arg0))
      ∧ r.2.sem = fun _ => 0)

def quiescent_TotalSmall [hTotalSmall : Cert.TotalSmall.Facts] : Prop :=
  ∀ (m : (ℓ : Loc Cert.TotalSmall.nD Cert.TotalSmall.τ Cert.TotalSmall.sig) → Buf (Elt Bits) ℓ) (g : Dev Cert.TotalSmall.nD → PrngReg), Pre_TotalSmall m →
    θ_run (Cert.TotalSmall.defs (F := Bits)) (onTc (τ := Cert.TotalSmall.τ) (Cert.TotalSmall.main (F := Bits))) ⟨m, fun _ => 0, g⟩ (fun r => (∀ c : Dev Cert.TotalSmall.nD,
      r.2.mem ((c.tc : Thread Cert.TotalSmall.nD Cert.TotalSmall.τ).loc Cert.TotalSmall.main_arg0) = m ((c.tc : Thread Cert.TotalSmall.nD Cert.TotalSmall.τ).loc Cert.TotalSmall.main_arg0))
      ∧ r.2.sem = fun _ => 0)

def quiescent_TotalSmallIdeal [hTotalSmallIdeal : Cert.TotalSmallIdeal.Facts] : Prop :=
  ∀ (m : (ℓ : Loc Cert.TotalSmallIdeal.nD Cert.TotalSmallIdeal.τ Cert.TotalSmallIdeal.sig) → Buf (Elt Ideal) ℓ) (g : Dev Cert.TotalSmallIdeal.nD → PrngReg), Pre_TotalSmallIdeal m →
    θ_run (Cert.TotalSmallIdeal.defs (F := Ideal)) (onTc (τ := Cert.TotalSmallIdeal.τ) (Cert.TotalSmallIdeal.main (F := Ideal))) ⟨m, fun _ => 0, g⟩ (fun r => (∀ c : Dev Cert.TotalSmallIdeal.nD,
      r.2.mem ((c.tc : Thread Cert.TotalSmallIdeal.nD Cert.TotalSmallIdeal.τ).loc Cert.TotalSmallIdeal.main_arg0) = m ((c.tc : Thread Cert.TotalSmallIdeal.nD Cert.TotalSmallIdeal.τ).loc Cert.TotalSmallIdeal.main_arg0))
      ∧ r.2.sem = fun _ => 0)

def quiescent_TotalSmallRefIdeal [hTotalSmallRefIdeal : Cert.TotalSmallRefIdeal.Facts] : Prop :=
  ∀ (m : (ℓ : Loc Cert.TotalSmallRefIdeal.nD Cert.TotalSmallRefIdeal.τ Cert.TotalSmallRefIdeal.sig) → Buf (Elt Ideal) ℓ) (g : Dev Cert.TotalSmallRefIdeal.nD → PrngReg), Pre_TotalSmallRefIdeal m →
    θ_run (Cert.TotalSmallRefIdeal.defs (F := Ideal)) (onTc (τ := Cert.TotalSmallRefIdeal.τ) (Cert.TotalSmallRefIdeal.main (F := Ideal))) ⟨m, fun _ => 0, g⟩ (fun r => (∀ c : Dev Cert.TotalSmallRefIdeal.nD,
      r.2.mem ((c.tc : Thread Cert.TotalSmallRefIdeal.nD Cert.TotalSmallRefIdeal.τ).loc Cert.TotalSmallRefIdeal.main_arg0) = m ((c.tc : Thread Cert.TotalSmallRefIdeal.nD Cert.TotalSmallRefIdeal.τ).loc Cert.TotalSmallRefIdeal.main_arg0))
      ∧ r.2.sem = fun _ => 0)

def quiescent_UpdateFfnIn [hUpdateFfnIn : Cert.UpdateFfnIn.Facts] : Prop :=
  ∀ (m : (ℓ : Loc Cert.UpdateFfnIn.nD Cert.UpdateFfnIn.τ Cert.UpdateFfnIn.sig) → Buf (Elt Bits) ℓ) (g : Dev Cert.UpdateFfnIn.nD → PrngReg), Pre_UpdateFfnIn m →
    θ_run (Cert.UpdateFfnIn.defs (F := Bits)) (onTc (τ := Cert.UpdateFfnIn.τ) (Cert.UpdateFfnIn.main (F := Bits))) ⟨m, fun _ => 0, g⟩ (fun r => (∀ c : Dev Cert.UpdateFfnIn.nD,
      r.2.mem ((c.tc : Thread Cert.UpdateFfnIn.nD Cert.UpdateFfnIn.τ).loc Cert.UpdateFfnIn.main_arg0) = m ((c.tc : Thread Cert.UpdateFfnIn.nD Cert.UpdateFfnIn.τ).loc Cert.UpdateFfnIn.main_arg0)
      ∧ r.2.mem ((c.tc : Thread Cert.UpdateFfnIn.nD Cert.UpdateFfnIn.τ).loc Cert.UpdateFfnIn.main_arg1) = m ((c.tc : Thread Cert.UpdateFfnIn.nD Cert.UpdateFfnIn.τ).loc Cert.UpdateFfnIn.main_arg1)
      ∧ r.2.mem ((c.tc : Thread Cert.UpdateFfnIn.nD Cert.UpdateFfnIn.τ).loc Cert.UpdateFfnIn.main_arg2) = m ((c.tc : Thread Cert.UpdateFfnIn.nD Cert.UpdateFfnIn.τ).loc Cert.UpdateFfnIn.main_arg2)
      ∧ r.2.mem ((c.tc : Thread Cert.UpdateFfnIn.nD Cert.UpdateFfnIn.τ).loc Cert.UpdateFfnIn.main_arg3) = m ((c.tc : Thread Cert.UpdateFfnIn.nD Cert.UpdateFfnIn.τ).loc Cert.UpdateFfnIn.main_arg3))
      ∧ r.2.sem = fun _ => 0)

def quiescent_UpdateFfnInIdeal [hUpdateFfnInIdeal : Cert.UpdateFfnInIdeal.Facts] : Prop :=
  ∀ (m : (ℓ : Loc Cert.UpdateFfnInIdeal.nD Cert.UpdateFfnInIdeal.τ Cert.UpdateFfnInIdeal.sig) → Buf (Elt Ideal) ℓ) (g : Dev Cert.UpdateFfnInIdeal.nD → PrngReg), Pre_UpdateFfnInIdeal m →
    θ_run (Cert.UpdateFfnInIdeal.defs (F := Ideal)) (onTc (τ := Cert.UpdateFfnInIdeal.τ) (Cert.UpdateFfnInIdeal.main (F := Ideal))) ⟨m, fun _ => 0, g⟩ (fun r => (∀ c : Dev Cert.UpdateFfnInIdeal.nD,
      r.2.mem ((c.tc : Thread Cert.UpdateFfnInIdeal.nD Cert.UpdateFfnInIdeal.τ).loc Cert.UpdateFfnInIdeal.main_arg0) = m ((c.tc : Thread Cert.UpdateFfnInIdeal.nD Cert.UpdateFfnInIdeal.τ).loc Cert.UpdateFfnInIdeal.main_arg0)
      ∧ r.2.mem ((c.tc : Thread Cert.UpdateFfnInIdeal.nD Cert.UpdateFfnInIdeal.τ).loc Cert.UpdateFfnInIdeal.main_arg1) = m ((c.tc : Thread Cert.UpdateFfnInIdeal.nD Cert.UpdateFfnInIdeal.τ).loc Cert.UpdateFfnInIdeal.main_arg1)
      ∧ r.2.mem ((c.tc : Thread Cert.UpdateFfnInIdeal.nD Cert.UpdateFfnInIdeal.τ).loc Cert.UpdateFfnInIdeal.main_arg2) = m ((c.tc : Thread Cert.UpdateFfnInIdeal.nD Cert.UpdateFfnInIdeal.τ).loc Cert.UpdateFfnInIdeal.main_arg2)
      ∧ r.2.mem ((c.tc : Thread Cert.UpdateFfnInIdeal.nD Cert.UpdateFfnInIdeal.τ).loc Cert.UpdateFfnInIdeal.main_arg3) = m ((c.tc : Thread Cert.UpdateFfnInIdeal.nD Cert.UpdateFfnInIdeal.τ).loc Cert.UpdateFfnInIdeal.main_arg3))
      ∧ r.2.sem = fun _ => 0)

def quiescent_UpdateFfnInRefIdeal [hUpdateFfnInRefIdeal : Cert.UpdateFfnInRefIdeal.Facts] : Prop :=
  ∀ (m : (ℓ : Loc Cert.UpdateFfnInRefIdeal.nD Cert.UpdateFfnInRefIdeal.τ Cert.UpdateFfnInRefIdeal.sig) → Buf (Elt Ideal) ℓ) (g : Dev Cert.UpdateFfnInRefIdeal.nD → PrngReg), Pre_UpdateFfnInRefIdeal m →
    θ_run (Cert.UpdateFfnInRefIdeal.defs (F := Ideal)) (onTc (τ := Cert.UpdateFfnInRefIdeal.τ) (Cert.UpdateFfnInRefIdeal.main (F := Ideal))) ⟨m, fun _ => 0, g⟩ (fun r => (∀ c : Dev Cert.UpdateFfnInRefIdeal.nD,
      r.2.mem ((c.tc : Thread Cert.UpdateFfnInRefIdeal.nD Cert.UpdateFfnInRefIdeal.τ).loc Cert.UpdateFfnInRefIdeal.main_arg0) = m ((c.tc : Thread Cert.UpdateFfnInRefIdeal.nD Cert.UpdateFfnInRefIdeal.τ).loc Cert.UpdateFfnInRefIdeal.main_arg0)
      ∧ r.2.mem ((c.tc : Thread Cert.UpdateFfnInRefIdeal.nD Cert.UpdateFfnInRefIdeal.τ).loc Cert.UpdateFfnInRefIdeal.main_arg1) = m ((c.tc : Thread Cert.UpdateFfnInRefIdeal.nD Cert.UpdateFfnInRefIdeal.τ).loc Cert.UpdateFfnInRefIdeal.main_arg1)
      ∧ r.2.mem ((c.tc : Thread Cert.UpdateFfnInRefIdeal.nD Cert.UpdateFfnInRefIdeal.τ).loc Cert.UpdateFfnInRefIdeal.main_arg2) = m ((c.tc : Thread Cert.UpdateFfnInRefIdeal.nD Cert.UpdateFfnInRefIdeal.τ).loc Cert.UpdateFfnInRefIdeal.main_arg2)
      ∧ r.2.mem ((c.tc : Thread Cert.UpdateFfnInRefIdeal.nD Cert.UpdateFfnInRefIdeal.τ).loc Cert.UpdateFfnInRefIdeal.main_arg3) = m ((c.tc : Thread Cert.UpdateFfnInRefIdeal.nD Cert.UpdateFfnInRefIdeal.τ).loc Cert.UpdateFfnInRefIdeal.main_arg3))
      ∧ r.2.sem = fun _ => 0)

def quiescent_UpdateFfnOut [hUpdateFfnOut : Cert.UpdateFfnOut.Facts] : Prop :=
  ∀ (m : (ℓ : Loc Cert.UpdateFfnOut.nD Cert.UpdateFfnOut.τ Cert.UpdateFfnOut.sig) → Buf (Elt Bits) ℓ) (g : Dev Cert.UpdateFfnOut.nD → PrngReg), Pre_UpdateFfnOut m →
    θ_run (Cert.UpdateFfnOut.defs (F := Bits)) (onTc (τ := Cert.UpdateFfnOut.τ) (Cert.UpdateFfnOut.main (F := Bits))) ⟨m, fun _ => 0, g⟩ (fun r => (∀ c : Dev Cert.UpdateFfnOut.nD,
      r.2.mem ((c.tc : Thread Cert.UpdateFfnOut.nD Cert.UpdateFfnOut.τ).loc Cert.UpdateFfnOut.main_arg0) = m ((c.tc : Thread Cert.UpdateFfnOut.nD Cert.UpdateFfnOut.τ).loc Cert.UpdateFfnOut.main_arg0)
      ∧ r.2.mem ((c.tc : Thread Cert.UpdateFfnOut.nD Cert.UpdateFfnOut.τ).loc Cert.UpdateFfnOut.main_arg1) = m ((c.tc : Thread Cert.UpdateFfnOut.nD Cert.UpdateFfnOut.τ).loc Cert.UpdateFfnOut.main_arg1)
      ∧ r.2.mem ((c.tc : Thread Cert.UpdateFfnOut.nD Cert.UpdateFfnOut.τ).loc Cert.UpdateFfnOut.main_arg2) = m ((c.tc : Thread Cert.UpdateFfnOut.nD Cert.UpdateFfnOut.τ).loc Cert.UpdateFfnOut.main_arg2)
      ∧ r.2.mem ((c.tc : Thread Cert.UpdateFfnOut.nD Cert.UpdateFfnOut.τ).loc Cert.UpdateFfnOut.main_arg3) = m ((c.tc : Thread Cert.UpdateFfnOut.nD Cert.UpdateFfnOut.τ).loc Cert.UpdateFfnOut.main_arg3))
      ∧ r.2.sem = fun _ => 0)

def quiescent_UpdateFfnOutIdeal [hUpdateFfnOutIdeal : Cert.UpdateFfnOutIdeal.Facts] : Prop :=
  ∀ (m : (ℓ : Loc Cert.UpdateFfnOutIdeal.nD Cert.UpdateFfnOutIdeal.τ Cert.UpdateFfnOutIdeal.sig) → Buf (Elt Ideal) ℓ) (g : Dev Cert.UpdateFfnOutIdeal.nD → PrngReg), Pre_UpdateFfnOutIdeal m →
    θ_run (Cert.UpdateFfnOutIdeal.defs (F := Ideal)) (onTc (τ := Cert.UpdateFfnOutIdeal.τ) (Cert.UpdateFfnOutIdeal.main (F := Ideal))) ⟨m, fun _ => 0, g⟩ (fun r => (∀ c : Dev Cert.UpdateFfnOutIdeal.nD,
      r.2.mem ((c.tc : Thread Cert.UpdateFfnOutIdeal.nD Cert.UpdateFfnOutIdeal.τ).loc Cert.UpdateFfnOutIdeal.main_arg0) = m ((c.tc : Thread Cert.UpdateFfnOutIdeal.nD Cert.UpdateFfnOutIdeal.τ).loc Cert.UpdateFfnOutIdeal.main_arg0)
      ∧ r.2.mem ((c.tc : Thread Cert.UpdateFfnOutIdeal.nD Cert.UpdateFfnOutIdeal.τ).loc Cert.UpdateFfnOutIdeal.main_arg1) = m ((c.tc : Thread Cert.UpdateFfnOutIdeal.nD Cert.UpdateFfnOutIdeal.τ).loc Cert.UpdateFfnOutIdeal.main_arg1)
      ∧ r.2.mem ((c.tc : Thread Cert.UpdateFfnOutIdeal.nD Cert.UpdateFfnOutIdeal.τ).loc Cert.UpdateFfnOutIdeal.main_arg2) = m ((c.tc : Thread Cert.UpdateFfnOutIdeal.nD Cert.UpdateFfnOutIdeal.τ).loc Cert.UpdateFfnOutIdeal.main_arg2)
      ∧ r.2.mem ((c.tc : Thread Cert.UpdateFfnOutIdeal.nD Cert.UpdateFfnOutIdeal.τ).loc Cert.UpdateFfnOutIdeal.main_arg3) = m ((c.tc : Thread Cert.UpdateFfnOutIdeal.nD Cert.UpdateFfnOutIdeal.τ).loc Cert.UpdateFfnOutIdeal.main_arg3))
      ∧ r.2.sem = fun _ => 0)

def quiescent_UpdateFfnOutRefIdeal [hUpdateFfnOutRefIdeal : Cert.UpdateFfnOutRefIdeal.Facts] : Prop :=
  ∀ (m : (ℓ : Loc Cert.UpdateFfnOutRefIdeal.nD Cert.UpdateFfnOutRefIdeal.τ Cert.UpdateFfnOutRefIdeal.sig) → Buf (Elt Ideal) ℓ) (g : Dev Cert.UpdateFfnOutRefIdeal.nD → PrngReg), Pre_UpdateFfnOutRefIdeal m →
    θ_run (Cert.UpdateFfnOutRefIdeal.defs (F := Ideal)) (onTc (τ := Cert.UpdateFfnOutRefIdeal.τ) (Cert.UpdateFfnOutRefIdeal.main (F := Ideal))) ⟨m, fun _ => 0, g⟩ (fun r => (∀ c : Dev Cert.UpdateFfnOutRefIdeal.nD,
      r.2.mem ((c.tc : Thread Cert.UpdateFfnOutRefIdeal.nD Cert.UpdateFfnOutRefIdeal.τ).loc Cert.UpdateFfnOutRefIdeal.main_arg0) = m ((c.tc : Thread Cert.UpdateFfnOutRefIdeal.nD Cert.UpdateFfnOutRefIdeal.τ).loc Cert.UpdateFfnOutRefIdeal.main_arg0)
      ∧ r.2.mem ((c.tc : Thread Cert.UpdateFfnOutRefIdeal.nD Cert.UpdateFfnOutRefIdeal.τ).loc Cert.UpdateFfnOutRefIdeal.main_arg1) = m ((c.tc : Thread Cert.UpdateFfnOutRefIdeal.nD Cert.UpdateFfnOutRefIdeal.τ).loc Cert.UpdateFfnOutRefIdeal.main_arg1)
      ∧ r.2.mem ((c.tc : Thread Cert.UpdateFfnOutRefIdeal.nD Cert.UpdateFfnOutRefIdeal.τ).loc Cert.UpdateFfnOutRefIdeal.main_arg2) = m ((c.tc : Thread Cert.UpdateFfnOutRefIdeal.nD Cert.UpdateFfnOutRefIdeal.τ).loc Cert.UpdateFfnOutRefIdeal.main_arg2)
      ∧ r.2.mem ((c.tc : Thread Cert.UpdateFfnOutRefIdeal.nD Cert.UpdateFfnOutRefIdeal.τ).loc Cert.UpdateFfnOutRefIdeal.main_arg3) = m ((c.tc : Thread Cert.UpdateFfnOutRefIdeal.nD Cert.UpdateFfnOutRefIdeal.τ).loc Cert.UpdateFfnOutRefIdeal.main_arg3))
      ∧ r.2.sem = fun _ => 0)

def quiescent_UpdateQkv [hUpdateQkv : Cert.UpdateQkv.Facts] : Prop :=
  ∀ (m : (ℓ : Loc Cert.UpdateQkv.nD Cert.UpdateQkv.τ Cert.UpdateQkv.sig) → Buf (Elt Bits) ℓ) (g : Dev Cert.UpdateQkv.nD → PrngReg), Pre_UpdateQkv m →
    θ_run (Cert.UpdateQkv.defs (F := Bits)) (onTc (τ := Cert.UpdateQkv.τ) (Cert.UpdateQkv.main (F := Bits))) ⟨m, fun _ => 0, g⟩ (fun r => (∀ c : Dev Cert.UpdateQkv.nD,
      r.2.mem ((c.tc : Thread Cert.UpdateQkv.nD Cert.UpdateQkv.τ).loc Cert.UpdateQkv.main_arg0) = m ((c.tc : Thread Cert.UpdateQkv.nD Cert.UpdateQkv.τ).loc Cert.UpdateQkv.main_arg0)
      ∧ r.2.mem ((c.tc : Thread Cert.UpdateQkv.nD Cert.UpdateQkv.τ).loc Cert.UpdateQkv.main_arg1) = m ((c.tc : Thread Cert.UpdateQkv.nD Cert.UpdateQkv.τ).loc Cert.UpdateQkv.main_arg1)
      ∧ r.2.mem ((c.tc : Thread Cert.UpdateQkv.nD Cert.UpdateQkv.τ).loc Cert.UpdateQkv.main_arg2) = m ((c.tc : Thread Cert.UpdateQkv.nD Cert.UpdateQkv.τ).loc Cert.UpdateQkv.main_arg2)
      ∧ r.2.mem ((c.tc : Thread Cert.UpdateQkv.nD Cert.UpdateQkv.τ).loc Cert.UpdateQkv.main_arg3) = m ((c.tc : Thread Cert.UpdateQkv.nD Cert.UpdateQkv.τ).loc Cert.UpdateQkv.main_arg3))
      ∧ r.2.sem = fun _ => 0)

def quiescent_UpdateQkvIdeal [hUpdateQkvIdeal : Cert.UpdateQkvIdeal.Facts] : Prop :=
  ∀ (m : (ℓ : Loc Cert.UpdateQkvIdeal.nD Cert.UpdateQkvIdeal.τ Cert.UpdateQkvIdeal.sig) → Buf (Elt Ideal) ℓ) (g : Dev Cert.UpdateQkvIdeal.nD → PrngReg), Pre_UpdateQkvIdeal m →
    θ_run (Cert.UpdateQkvIdeal.defs (F := Ideal)) (onTc (τ := Cert.UpdateQkvIdeal.τ) (Cert.UpdateQkvIdeal.main (F := Ideal))) ⟨m, fun _ => 0, g⟩ (fun r => (∀ c : Dev Cert.UpdateQkvIdeal.nD,
      r.2.mem ((c.tc : Thread Cert.UpdateQkvIdeal.nD Cert.UpdateQkvIdeal.τ).loc Cert.UpdateQkvIdeal.main_arg0) = m ((c.tc : Thread Cert.UpdateQkvIdeal.nD Cert.UpdateQkvIdeal.τ).loc Cert.UpdateQkvIdeal.main_arg0)
      ∧ r.2.mem ((c.tc : Thread Cert.UpdateQkvIdeal.nD Cert.UpdateQkvIdeal.τ).loc Cert.UpdateQkvIdeal.main_arg1) = m ((c.tc : Thread Cert.UpdateQkvIdeal.nD Cert.UpdateQkvIdeal.τ).loc Cert.UpdateQkvIdeal.main_arg1)
      ∧ r.2.mem ((c.tc : Thread Cert.UpdateQkvIdeal.nD Cert.UpdateQkvIdeal.τ).loc Cert.UpdateQkvIdeal.main_arg2) = m ((c.tc : Thread Cert.UpdateQkvIdeal.nD Cert.UpdateQkvIdeal.τ).loc Cert.UpdateQkvIdeal.main_arg2)
      ∧ r.2.mem ((c.tc : Thread Cert.UpdateQkvIdeal.nD Cert.UpdateQkvIdeal.τ).loc Cert.UpdateQkvIdeal.main_arg3) = m ((c.tc : Thread Cert.UpdateQkvIdeal.nD Cert.UpdateQkvIdeal.τ).loc Cert.UpdateQkvIdeal.main_arg3))
      ∧ r.2.sem = fun _ => 0)

def quiescent_UpdateQkvRefIdeal [hUpdateQkvRefIdeal : Cert.UpdateQkvRefIdeal.Facts] : Prop :=
  ∀ (m : (ℓ : Loc Cert.UpdateQkvRefIdeal.nD Cert.UpdateQkvRefIdeal.τ Cert.UpdateQkvRefIdeal.sig) → Buf (Elt Ideal) ℓ) (g : Dev Cert.UpdateQkvRefIdeal.nD → PrngReg), Pre_UpdateQkvRefIdeal m →
    θ_run (Cert.UpdateQkvRefIdeal.defs (F := Ideal)) (onTc (τ := Cert.UpdateQkvRefIdeal.τ) (Cert.UpdateQkvRefIdeal.main (F := Ideal))) ⟨m, fun _ => 0, g⟩ (fun r => (∀ c : Dev Cert.UpdateQkvRefIdeal.nD,
      r.2.mem ((c.tc : Thread Cert.UpdateQkvRefIdeal.nD Cert.UpdateQkvRefIdeal.τ).loc Cert.UpdateQkvRefIdeal.main_arg0) = m ((c.tc : Thread Cert.UpdateQkvRefIdeal.nD Cert.UpdateQkvRefIdeal.τ).loc Cert.UpdateQkvRefIdeal.main_arg0)
      ∧ r.2.mem ((c.tc : Thread Cert.UpdateQkvRefIdeal.nD Cert.UpdateQkvRefIdeal.τ).loc Cert.UpdateQkvRefIdeal.main_arg1) = m ((c.tc : Thread Cert.UpdateQkvRefIdeal.nD Cert.UpdateQkvRefIdeal.τ).loc Cert.UpdateQkvRefIdeal.main_arg1)
      ∧ r.2.mem ((c.tc : Thread Cert.UpdateQkvRefIdeal.nD Cert.UpdateQkvRefIdeal.τ).loc Cert.UpdateQkvRefIdeal.main_arg2) = m ((c.tc : Thread Cert.UpdateQkvRefIdeal.nD Cert.UpdateQkvRefIdeal.τ).loc Cert.UpdateQkvRefIdeal.main_arg2)
      ∧ r.2.mem ((c.tc : Thread Cert.UpdateQkvRefIdeal.nD Cert.UpdateQkvRefIdeal.τ).loc Cert.UpdateQkvRefIdeal.main_arg3) = m ((c.tc : Thread Cert.UpdateQkvRefIdeal.nD Cert.UpdateQkvRefIdeal.τ).loc Cert.UpdateQkvRefIdeal.main_arg3))
      ∧ r.2.sem = fun _ => 0)

def quiescent_UpdateKv [hUpdateKv : Cert.UpdateKv.Facts] : Prop :=
  ∀ (m : (ℓ : Loc Cert.UpdateKv.nD Cert.UpdateKv.τ Cert.UpdateKv.sig) → Buf (Elt Bits) ℓ) (g : Dev Cert.UpdateKv.nD → PrngReg), Pre_UpdateKv m →
    θ_run (Cert.UpdateKv.defs (F := Bits)) (onTc (τ := Cert.UpdateKv.τ) (Cert.UpdateKv.main (F := Bits))) ⟨m, fun _ => 0, g⟩ (fun r => (∀ c : Dev Cert.UpdateKv.nD,
      r.2.mem ((c.tc : Thread Cert.UpdateKv.nD Cert.UpdateKv.τ).loc Cert.UpdateKv.main_arg0) = m ((c.tc : Thread Cert.UpdateKv.nD Cert.UpdateKv.τ).loc Cert.UpdateKv.main_arg0)
      ∧ r.2.mem ((c.tc : Thread Cert.UpdateKv.nD Cert.UpdateKv.τ).loc Cert.UpdateKv.main_arg1) = m ((c.tc : Thread Cert.UpdateKv.nD Cert.UpdateKv.τ).loc Cert.UpdateKv.main_arg1)
      ∧ r.2.mem ((c.tc : Thread Cert.UpdateKv.nD Cert.UpdateKv.τ).loc Cert.UpdateKv.main_arg2) = m ((c.tc : Thread Cert.UpdateKv.nD Cert.UpdateKv.τ).loc Cert.UpdateKv.main_arg2)
      ∧ r.2.mem ((c.tc : Thread Cert.UpdateKv.nD Cert.UpdateKv.τ).loc Cert.UpdateKv.main_arg3) = m ((c.tc : Thread Cert.UpdateKv.nD Cert.UpdateKv.τ).loc Cert.UpdateKv.main_arg3))
      ∧ r.2.sem = fun _ => 0)

def quiescent_UpdateKvIdeal [hUpdateKvIdeal : Cert.UpdateKvIdeal.Facts] : Prop :=
  ∀ (m : (ℓ : Loc Cert.UpdateKvIdeal.nD Cert.UpdateKvIdeal.τ Cert.UpdateKvIdeal.sig) → Buf (Elt Ideal) ℓ) (g : Dev Cert.UpdateKvIdeal.nD → PrngReg), Pre_UpdateKvIdeal m →
    θ_run (Cert.UpdateKvIdeal.defs (F := Ideal)) (onTc (τ := Cert.UpdateKvIdeal.τ) (Cert.UpdateKvIdeal.main (F := Ideal))) ⟨m, fun _ => 0, g⟩ (fun r => (∀ c : Dev Cert.UpdateKvIdeal.nD,
      r.2.mem ((c.tc : Thread Cert.UpdateKvIdeal.nD Cert.UpdateKvIdeal.τ).loc Cert.UpdateKvIdeal.main_arg0) = m ((c.tc : Thread Cert.UpdateKvIdeal.nD Cert.UpdateKvIdeal.τ).loc Cert.UpdateKvIdeal.main_arg0)
      ∧ r.2.mem ((c.tc : Thread Cert.UpdateKvIdeal.nD Cert.UpdateKvIdeal.τ).loc Cert.UpdateKvIdeal.main_arg1) = m ((c.tc : Thread Cert.UpdateKvIdeal.nD Cert.UpdateKvIdeal.τ).loc Cert.UpdateKvIdeal.main_arg1)
      ∧ r.2.mem ((c.tc : Thread Cert.UpdateKvIdeal.nD Cert.UpdateKvIdeal.τ).loc Cert.UpdateKvIdeal.main_arg2) = m ((c.tc : Thread Cert.UpdateKvIdeal.nD Cert.UpdateKvIdeal.τ).loc Cert.UpdateKvIdeal.main_arg2)
      ∧ r.2.mem ((c.tc : Thread Cert.UpdateKvIdeal.nD Cert.UpdateKvIdeal.τ).loc Cert.UpdateKvIdeal.main_arg3) = m ((c.tc : Thread Cert.UpdateKvIdeal.nD Cert.UpdateKvIdeal.τ).loc Cert.UpdateKvIdeal.main_arg3))
      ∧ r.2.sem = fun _ => 0)

def quiescent_UpdateKvRefIdeal [hUpdateKvRefIdeal : Cert.UpdateKvRefIdeal.Facts] : Prop :=
  ∀ (m : (ℓ : Loc Cert.UpdateKvRefIdeal.nD Cert.UpdateKvRefIdeal.τ Cert.UpdateKvRefIdeal.sig) → Buf (Elt Ideal) ℓ) (g : Dev Cert.UpdateKvRefIdeal.nD → PrngReg), Pre_UpdateKvRefIdeal m →
    θ_run (Cert.UpdateKvRefIdeal.defs (F := Ideal)) (onTc (τ := Cert.UpdateKvRefIdeal.τ) (Cert.UpdateKvRefIdeal.main (F := Ideal))) ⟨m, fun _ => 0, g⟩ (fun r => (∀ c : Dev Cert.UpdateKvRefIdeal.nD,
      r.2.mem ((c.tc : Thread Cert.UpdateKvRefIdeal.nD Cert.UpdateKvRefIdeal.τ).loc Cert.UpdateKvRefIdeal.main_arg0) = m ((c.tc : Thread Cert.UpdateKvRefIdeal.nD Cert.UpdateKvRefIdeal.τ).loc Cert.UpdateKvRefIdeal.main_arg0)
      ∧ r.2.mem ((c.tc : Thread Cert.UpdateKvRefIdeal.nD Cert.UpdateKvRefIdeal.τ).loc Cert.UpdateKvRefIdeal.main_arg1) = m ((c.tc : Thread Cert.UpdateKvRefIdeal.nD Cert.UpdateKvRefIdeal.τ).loc Cert.UpdateKvRefIdeal.main_arg1)
      ∧ r.2.mem ((c.tc : Thread Cert.UpdateKvRefIdeal.nD Cert.UpdateKvRefIdeal.τ).loc Cert.UpdateKvRefIdeal.main_arg2) = m ((c.tc : Thread Cert.UpdateKvRefIdeal.nD Cert.UpdateKvRefIdeal.τ).loc Cert.UpdateKvRefIdeal.main_arg2)
      ∧ r.2.mem ((c.tc : Thread Cert.UpdateKvRefIdeal.nD Cert.UpdateKvRefIdeal.τ).loc Cert.UpdateKvRefIdeal.main_arg3) = m ((c.tc : Thread Cert.UpdateKvRefIdeal.nD Cert.UpdateKvRefIdeal.τ).loc Cert.UpdateKvRefIdeal.main_arg3))
      ∧ r.2.sem = fun _ => 0)

def quiescent_UpdateSquare [hUpdateSquare : Cert.UpdateSquare.Facts] : Prop :=
  ∀ (m : (ℓ : Loc Cert.UpdateSquare.nD Cert.UpdateSquare.τ Cert.UpdateSquare.sig) → Buf (Elt Bits) ℓ) (g : Dev Cert.UpdateSquare.nD → PrngReg), Pre_UpdateSquare m →
    θ_run (Cert.UpdateSquare.defs (F := Bits)) (onTc (τ := Cert.UpdateSquare.τ) (Cert.UpdateSquare.main (F := Bits))) ⟨m, fun _ => 0, g⟩ (fun r => (∀ c : Dev Cert.UpdateSquare.nD,
      r.2.mem ((c.tc : Thread Cert.UpdateSquare.nD Cert.UpdateSquare.τ).loc Cert.UpdateSquare.main_arg0) = m ((c.tc : Thread Cert.UpdateSquare.nD Cert.UpdateSquare.τ).loc Cert.UpdateSquare.main_arg0)
      ∧ r.2.mem ((c.tc : Thread Cert.UpdateSquare.nD Cert.UpdateSquare.τ).loc Cert.UpdateSquare.main_arg1) = m ((c.tc : Thread Cert.UpdateSquare.nD Cert.UpdateSquare.τ).loc Cert.UpdateSquare.main_arg1)
      ∧ r.2.mem ((c.tc : Thread Cert.UpdateSquare.nD Cert.UpdateSquare.τ).loc Cert.UpdateSquare.main_arg2) = m ((c.tc : Thread Cert.UpdateSquare.nD Cert.UpdateSquare.τ).loc Cert.UpdateSquare.main_arg2)
      ∧ r.2.mem ((c.tc : Thread Cert.UpdateSquare.nD Cert.UpdateSquare.τ).loc Cert.UpdateSquare.main_arg3) = m ((c.tc : Thread Cert.UpdateSquare.nD Cert.UpdateSquare.τ).loc Cert.UpdateSquare.main_arg3))
      ∧ r.2.sem = fun _ => 0)

def quiescent_UpdateSquareIdeal [hUpdateSquareIdeal : Cert.UpdateSquareIdeal.Facts] : Prop :=
  ∀ (m : (ℓ : Loc Cert.UpdateSquareIdeal.nD Cert.UpdateSquareIdeal.τ Cert.UpdateSquareIdeal.sig) → Buf (Elt Ideal) ℓ) (g : Dev Cert.UpdateSquareIdeal.nD → PrngReg), Pre_UpdateSquareIdeal m →
    θ_run (Cert.UpdateSquareIdeal.defs (F := Ideal)) (onTc (τ := Cert.UpdateSquareIdeal.τ) (Cert.UpdateSquareIdeal.main (F := Ideal))) ⟨m, fun _ => 0, g⟩ (fun r => (∀ c : Dev Cert.UpdateSquareIdeal.nD,
      r.2.mem ((c.tc : Thread Cert.UpdateSquareIdeal.nD Cert.UpdateSquareIdeal.τ).loc Cert.UpdateSquareIdeal.main_arg0) = m ((c.tc : Thread Cert.UpdateSquareIdeal.nD Cert.UpdateSquareIdeal.τ).loc Cert.UpdateSquareIdeal.main_arg0)
      ∧ r.2.mem ((c.tc : Thread Cert.UpdateSquareIdeal.nD Cert.UpdateSquareIdeal.τ).loc Cert.UpdateSquareIdeal.main_arg1) = m ((c.tc : Thread Cert.UpdateSquareIdeal.nD Cert.UpdateSquareIdeal.τ).loc Cert.UpdateSquareIdeal.main_arg1)
      ∧ r.2.mem ((c.tc : Thread Cert.UpdateSquareIdeal.nD Cert.UpdateSquareIdeal.τ).loc Cert.UpdateSquareIdeal.main_arg2) = m ((c.tc : Thread Cert.UpdateSquareIdeal.nD Cert.UpdateSquareIdeal.τ).loc Cert.UpdateSquareIdeal.main_arg2)
      ∧ r.2.mem ((c.tc : Thread Cert.UpdateSquareIdeal.nD Cert.UpdateSquareIdeal.τ).loc Cert.UpdateSquareIdeal.main_arg3) = m ((c.tc : Thread Cert.UpdateSquareIdeal.nD Cert.UpdateSquareIdeal.τ).loc Cert.UpdateSquareIdeal.main_arg3))
      ∧ r.2.sem = fun _ => 0)

def quiescent_UpdateSquareRefIdeal [hUpdateSquareRefIdeal : Cert.UpdateSquareRefIdeal.Facts] : Prop :=
  ∀ (m : (ℓ : Loc Cert.UpdateSquareRefIdeal.nD Cert.UpdateSquareRefIdeal.τ Cert.UpdateSquareRefIdeal.sig) → Buf (Elt Ideal) ℓ) (g : Dev Cert.UpdateSquareRefIdeal.nD → PrngReg), Pre_UpdateSquareRefIdeal m →
    θ_run (Cert.UpdateSquareRefIdeal.defs (F := Ideal)) (onTc (τ := Cert.UpdateSquareRefIdeal.τ) (Cert.UpdateSquareRefIdeal.main (F := Ideal))) ⟨m, fun _ => 0, g⟩ (fun r => (∀ c : Dev Cert.UpdateSquareRefIdeal.nD,
      r.2.mem ((c.tc : Thread Cert.UpdateSquareRefIdeal.nD Cert.UpdateSquareRefIdeal.τ).loc Cert.UpdateSquareRefIdeal.main_arg0) = m ((c.tc : Thread Cert.UpdateSquareRefIdeal.nD Cert.UpdateSquareRefIdeal.τ).loc Cert.UpdateSquareRefIdeal.main_arg0)
      ∧ r.2.mem ((c.tc : Thread Cert.UpdateSquareRefIdeal.nD Cert.UpdateSquareRefIdeal.τ).loc Cert.UpdateSquareRefIdeal.main_arg1) = m ((c.tc : Thread Cert.UpdateSquareRefIdeal.nD Cert.UpdateSquareRefIdeal.τ).loc Cert.UpdateSquareRefIdeal.main_arg1)
      ∧ r.2.mem ((c.tc : Thread Cert.UpdateSquareRefIdeal.nD Cert.UpdateSquareRefIdeal.τ).loc Cert.UpdateSquareRefIdeal.main_arg2) = m ((c.tc : Thread Cert.UpdateSquareRefIdeal.nD Cert.UpdateSquareRefIdeal.τ).loc Cert.UpdateSquareRefIdeal.main_arg2)
      ∧ r.2.mem ((c.tc : Thread Cert.UpdateSquareRefIdeal.nD Cert.UpdateSquareRefIdeal.τ).loc Cert.UpdateSquareRefIdeal.main_arg3) = m ((c.tc : Thread Cert.UpdateSquareRefIdeal.nD Cert.UpdateSquareRefIdeal.τ).loc Cert.UpdateSquareRefIdeal.main_arg3))
      ∧ r.2.sem = fun _ => 0)

def quiescent_UpdateSmall [hUpdateSmall : Cert.UpdateSmall.Facts] : Prop :=
  ∀ (m : (ℓ : Loc Cert.UpdateSmall.nD Cert.UpdateSmall.τ Cert.UpdateSmall.sig) → Buf (Elt Bits) ℓ) (g : Dev Cert.UpdateSmall.nD → PrngReg), Pre_UpdateSmall m →
    θ_run (Cert.UpdateSmall.defs (F := Bits)) (onTc (τ := Cert.UpdateSmall.τ) (Cert.UpdateSmall.main (F := Bits))) ⟨m, fun _ => 0, g⟩ (fun r => (∀ c : Dev Cert.UpdateSmall.nD,
      r.2.mem ((c.tc : Thread Cert.UpdateSmall.nD Cert.UpdateSmall.τ).loc Cert.UpdateSmall.main_arg0) = m ((c.tc : Thread Cert.UpdateSmall.nD Cert.UpdateSmall.τ).loc Cert.UpdateSmall.main_arg0)
      ∧ r.2.mem ((c.tc : Thread Cert.UpdateSmall.nD Cert.UpdateSmall.τ).loc Cert.UpdateSmall.main_arg1) = m ((c.tc : Thread Cert.UpdateSmall.nD Cert.UpdateSmall.τ).loc Cert.UpdateSmall.main_arg1)
      ∧ r.2.mem ((c.tc : Thread Cert.UpdateSmall.nD Cert.UpdateSmall.τ).loc Cert.UpdateSmall.main_arg2) = m ((c.tc : Thread Cert.UpdateSmall.nD Cert.UpdateSmall.τ).loc Cert.UpdateSmall.main_arg2)
      ∧ r.2.mem ((c.tc : Thread Cert.UpdateSmall.nD Cert.UpdateSmall.τ).loc Cert.UpdateSmall.main_arg3) = m ((c.tc : Thread Cert.UpdateSmall.nD Cert.UpdateSmall.τ).loc Cert.UpdateSmall.main_arg3))
      ∧ r.2.sem = fun _ => 0)

def quiescent_UpdateSmallIdeal [hUpdateSmallIdeal : Cert.UpdateSmallIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg), Pre_UpdateSmallIdeal m →
    θ_run (Cert.UpdateSmallIdeal.defs (F := Ideal)) (onTc (τ := Cert.UpdateSmallIdeal.τ) (Cert.UpdateSmallIdeal.main (F := Ideal))) ⟨m, fun _ => 0, g⟩ (fun r => (∀ c : Dev Cert.UpdateSmallIdeal.nD,
      r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
      ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
      ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
      ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ r.2.sem = fun _ => 0)

def quiescent_UpdateSmallRefIdeal [hUpdateSmallRefIdeal : Cert.UpdateSmallRefIdeal.Facts] : Prop :=
  ∀ (m : (ℓ : Loc Cert.UpdateSmallRefIdeal.nD Cert.UpdateSmallRefIdeal.τ Cert.UpdateSmallRefIdeal.sig) → Buf (Elt Ideal) ℓ) (g : Dev Cert.UpdateSmallRefIdeal.nD → PrngReg), Pre_UpdateSmallRefIdeal m →
    θ_run (Cert.UpdateSmallRefIdeal.defs (F := Ideal)) (onTc (τ := Cert.UpdateSmallRefIdeal.τ) (Cert.UpdateSmallRefIdeal.main (F := Ideal))) ⟨m, fun _ => 0, g⟩ (fun r => (∀ c : Dev Cert.UpdateSmallRefIdeal.nD,
      r.2.mem ((c.tc : Thread Cert.UpdateSmallRefIdeal.nD Cert.UpdateSmallRefIdeal.τ).loc Cert.UpdateSmallRefIdeal.main_arg0) = m ((c.tc : Thread Cert.UpdateSmallRefIdeal.nD Cert.UpdateSmallRefIdeal.τ).loc Cert.UpdateSmallRefIdeal.main_arg0)
      ∧ r.2.mem ((c.tc : Thread Cert.UpdateSmallRefIdeal.nD Cert.UpdateSmallRefIdeal.τ).loc Cert.UpdateSmallRefIdeal.main_arg1) = m ((c.tc : Thread Cert.UpdateSmallRefIdeal.nD Cert.UpdateSmallRefIdeal.τ).loc Cert.UpdateSmallRefIdeal.main_arg1)
      ∧ r.2.mem ((c.tc : Thread Cert.UpdateSmallRefIdeal.nD Cert.UpdateSmallRefIdeal.τ).loc Cert.UpdateSmallRefIdeal.main_arg2) = m ((c.tc : Thread Cert.UpdateSmallRefIdeal.nD Cert.UpdateSmallRefIdeal.τ).loc Cert.UpdateSmallRefIdeal.main_arg2)
      ∧ r.2.mem ((c.tc : Thread Cert.UpdateSmallRefIdeal.nD Cert.UpdateSmallRefIdeal.τ).loc Cert.UpdateSmallRefIdeal.main_arg3) = m ((c.tc : Thread Cert.UpdateSmallRefIdeal.nD Cert.UpdateSmallRefIdeal.τ).loc Cert.UpdateSmallRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0))
      ∧ r.2.sem = fun _ => 0)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1))
      ∧ r.2.sem = fun _ => 0)

def quiescent_ActBwdRefIdeal [hActBwdRefIdeal : Cert.ActBwdRefIdeal.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_QueryDw [hQueryDw : Cert.QueryDw.Facts] : Prop :=
  ∀ (m : (ℓ : Loc Cert.QueryDw.nD Cert.QueryDw.τ Cert.QueryDw.sig) → Buf (Elt Bits) ℓ) (g : Dev Cert.QueryDw.nD → PrngReg), Pre_QueryDw m →
    θ_run (Cert.QueryDw.defs (F := Bits)) (onTc (τ := Cert.QueryDw.τ) (Cert.QueryDw.main (F := Bits))) ⟨m, fun _ => 0, g⟩ (fun r => (∀ c : Dev Cert.QueryDw.nD,
      r.2.mem ((c.tc : Thread Cert.QueryDw.nD Cert.QueryDw.τ).loc Cert.QueryDw.main_arg0) = m ((c.tc : Thread Cert.QueryDw.nD Cert.QueryDw.τ).loc Cert.QueryDw.main_arg0)
      ∧ r.2.mem ((c.tc : Thread Cert.QueryDw.nD Cert.QueryDw.τ).loc Cert.QueryDw.main_arg1) = m ((c.tc : Thread Cert.QueryDw.nD Cert.QueryDw.τ).loc Cert.QueryDw.main_arg1))
      ∧ r.2.sem = fun _ => 0)

def quiescent_QueryDwIdeal [hQueryDwIdeal : Cert.QueryDwIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg), Pre_QueryDwIdeal m →
    θ_run (Cert.QueryDwIdeal.defs (F := Ideal)) (onTc (τ := Cert.QueryDwIdeal.τ) (Cert.QueryDwIdeal.main (F := Ideal))) ⟨m, fun _ => 0, g⟩ (fun r => (∀ c : Dev Cert.QueryDwIdeal.nD,
      r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
      ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ r.2.sem = fun _ => 0)

def quiescent_QueryDwRefIdeal [hQueryDwRefIdeal : Cert.QueryDwRefIdeal.Facts] : Prop :=
  ∀ (m : (ℓ : Loc Cert.QueryDwRefIdeal.nD Cert.QueryDwRefIdeal.τ Cert.QueryDwRefIdeal.sig) → Buf (Elt Ideal) ℓ) (g : Dev Cert.QueryDwRefIdeal.nD → PrngReg), Pre_QueryDwRefIdeal m →
    θ_run (Cert.QueryDwRefIdeal.defs (F := Ideal)) (onTc (τ := Cert.QueryDwRefIdeal.τ) (Cert.QueryDwRefIdeal.main (F := Ideal))) ⟨m, fun _ => 0, g⟩ (fun r => (∀ c : Dev Cert.QueryDwRefIdeal.nD,
      r.2.mem ((c.tc : Thread Cert.QueryDwRefIdeal.nD Cert.QueryDwRefIdeal.τ).loc Cert.QueryDwRefIdeal.main_arg0) = m ((c.tc : Thread Cert.QueryDwRefIdeal.nD Cert.QueryDwRefIdeal.τ).loc Cert.QueryDwRefIdeal.main_arg0)
      ∧ r.2.mem ((c.tc : Thread Cert.QueryDwRefIdeal.nD Cert.QueryDwRefIdeal.τ).loc Cert.QueryDwRefIdeal.main_arg1) = m ((c.tc : Thread Cert.QueryDwRefIdeal.nD Cert.QueryDwRefIdeal.τ).loc Cert.QueryDwRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_QkvIn [hQkvIn : Cert.QkvIn.Facts] : Prop :=
  ∀ (m : (ℓ : Loc Cert.QkvIn.nD Cert.QkvIn.τ Cert.QkvIn.sig) → Buf (Elt Bits) ℓ) (g : Dev Cert.QkvIn.nD → PrngReg), Pre_QkvIn m →
    θ_run (Cert.QkvIn.defs (F := Bits)) (onTc (τ := Cert.QkvIn.τ) (Cert.QkvIn.main (F := Bits))) ⟨m, fun _ => 0, g⟩ (fun r => (∀ c : Dev Cert.QkvIn.nD,
      r.2.mem ((c.tc : Thread Cert.QkvIn.nD Cert.QkvIn.τ).loc Cert.QkvIn.main_arg0) = m ((c.tc : Thread Cert.QkvIn.nD Cert.QkvIn.τ).loc Cert.QkvIn.main_arg0)
      ∧ r.2.mem ((c.tc : Thread Cert.QkvIn.nD Cert.QkvIn.τ).loc Cert.QkvIn.main_arg1) = m ((c.tc : Thread Cert.QkvIn.nD Cert.QkvIn.τ).loc Cert.QkvIn.main_arg1))
      ∧ r.2.sem = fun _ => 0)

def quiescent_QkvInIdeal [hQkvInIdeal : Cert.QkvInIdeal.Facts] : Prop :=
  ∀ (m : (ℓ : Loc Cert.QkvInIdeal.nD Cert.QkvInIdeal.τ Cert.QkvInIdeal.sig) → Buf (Elt Ideal) ℓ) (g : Dev Cert.QkvInIdeal.nD → PrngReg), Pre_QkvInIdeal m →
    θ_run (Cert.QkvInIdeal.defs (F := Ideal)) (onTc (τ := Cert.QkvInIdeal.τ) (Cert.QkvInIdeal.main (F := Ideal))) ⟨m, fun _ => 0, g⟩ (fun r => (∀ c : Dev Cert.QkvInIdeal.nD,
      r.2.mem ((c.tc : Thread Cert.QkvInIdeal.nD Cert.QkvInIdeal.τ).loc Cert.QkvInIdeal.main_arg0) = m ((c.tc : Thread Cert.QkvInIdeal.nD Cert.QkvInIdeal.τ).loc Cert.QkvInIdeal.main_arg0)
      ∧ r.2.mem ((c.tc : Thread Cert.QkvInIdeal.nD Cert.QkvInIdeal.τ).loc Cert.QkvInIdeal.main_arg1) = m ((c.tc : Thread Cert.QkvInIdeal.nD Cert.QkvInIdeal.τ).loc Cert.QkvInIdeal.main_arg1))
      ∧ r.2.sem = fun _ => 0)

def quiescent_QkvInRefIdeal [hQkvInRefIdeal : Cert.QkvInRefIdeal.Facts] : Prop :=
  ∀ (m : (ℓ : Loc Cert.QkvInRefIdeal.nD Cert.QkvInRefIdeal.τ Cert.QkvInRefIdeal.sig) → Buf (Elt Ideal) ℓ) (g : Dev Cert.QkvInRefIdeal.nD → PrngReg), Pre_QkvInRefIdeal m →
    θ_run (Cert.QkvInRefIdeal.defs (F := Ideal)) (onTc (τ := Cert.QkvInRefIdeal.τ) (Cert.QkvInRefIdeal.main (F := Ideal))) ⟨m, fun _ => 0, g⟩ (fun r => (∀ c : Dev Cert.QkvInRefIdeal.nD,
      r.2.mem ((c.tc : Thread Cert.QkvInRefIdeal.nD Cert.QkvInRefIdeal.τ).loc Cert.QkvInRefIdeal.main_arg0) = m ((c.tc : Thread Cert.QkvInRefIdeal.nD Cert.QkvInRefIdeal.τ).loc Cert.QkvInRefIdeal.main_arg0)
      ∧ r.2.mem ((c.tc : Thread Cert.QkvInRefIdeal.nD Cert.QkvInRefIdeal.τ).loc Cert.QkvInRefIdeal.main_arg1) = m ((c.tc : Thread Cert.QkvInRefIdeal.nD Cert.QkvInRefIdeal.τ).loc Cert.QkvInRefIdeal.main_arg1))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1))
      ∧ r.2.sem = fun _ => 0)

def quiescent_KvIn [hKvIn : Cert.KvIn.Facts] : Prop :=
  ∀ (m : (ℓ : Loc Cert.KvIn.nD Cert.KvIn.τ Cert.KvIn.sig) → Buf (Elt Bits) ℓ) (g : Dev Cert.KvIn.nD → PrngReg), Pre_KvIn m →
    θ_run (Cert.KvIn.defs (F := Bits)) (onTc (τ := Cert.KvIn.τ) (Cert.KvIn.main (F := Bits))) ⟨m, fun _ => 0, g⟩ (fun r => (∀ c : Dev Cert.KvIn.nD,
      r.2.mem ((c.tc : Thread Cert.KvIn.nD Cert.KvIn.τ).loc Cert.KvIn.main_arg0) = m ((c.tc : Thread Cert.KvIn.nD Cert.KvIn.τ).loc Cert.KvIn.main_arg0)
      ∧ r.2.mem ((c.tc : Thread Cert.KvIn.nD Cert.KvIn.τ).loc Cert.KvIn.main_arg1) = m ((c.tc : Thread Cert.KvIn.nD Cert.KvIn.τ).loc Cert.KvIn.main_arg1))
      ∧ r.2.sem = fun _ => 0)

def quiescent_KvInIdeal [hKvInIdeal : Cert.KvInIdeal.Facts] : Prop :=
  ∀ (m : (ℓ : Loc Cert.KvInIdeal.nD Cert.KvInIdeal.τ Cert.KvInIdeal.sig) → Buf (Elt Ideal) ℓ) (g : Dev Cert.KvInIdeal.nD → PrngReg), Pre_KvInIdeal m →
    θ_run (Cert.KvInIdeal.defs (F := Ideal)) (onTc (τ := Cert.KvInIdeal.τ) (Cert.KvInIdeal.main (F := Ideal))) ⟨m, fun _ => 0, g⟩ (fun r => (∀ c : Dev Cert.KvInIdeal.nD,
      r.2.mem ((c.tc : Thread Cert.KvInIdeal.nD Cert.KvInIdeal.τ).loc Cert.KvInIdeal.main_arg0) = m ((c.tc : Thread Cert.KvInIdeal.nD Cert.KvInIdeal.τ).loc Cert.KvInIdeal.main_arg0)
      ∧ r.2.mem ((c.tc : Thread Cert.KvInIdeal.nD Cert.KvInIdeal.τ).loc Cert.KvInIdeal.main_arg1) = m ((c.tc : Thread Cert.KvInIdeal.nD Cert.KvInIdeal.τ).loc Cert.KvInIdeal.main_arg1))
      ∧ r.2.sem = fun _ => 0)

def quiescent_KvInRefIdeal [hKvInRefIdeal : Cert.KvInRefIdeal.Facts] : Prop :=
  ∀ (m : (ℓ : Loc Cert.KvInRefIdeal.nD Cert.KvInRefIdeal.τ Cert.KvInRefIdeal.sig) → Buf (Elt Ideal) ℓ) (g : Dev Cert.KvInRefIdeal.nD → PrngReg), Pre_KvInRefIdeal m →
    θ_run (Cert.KvInRefIdeal.defs (F := Ideal)) (onTc (τ := Cert.KvInRefIdeal.τ) (Cert.KvInRefIdeal.main (F := Ideal))) ⟨m, fun _ => 0, g⟩ (fun r => (∀ c : Dev Cert.KvInRefIdeal.nD,
      r.2.mem ((c.tc : Thread Cert.KvInRefIdeal.nD Cert.KvInRefIdeal.τ).loc Cert.KvInRefIdeal.main_arg0) = m ((c.tc : Thread Cert.KvInRefIdeal.nD Cert.KvInRefIdeal.τ).loc Cert.KvInRefIdeal.main_arg0)
      ∧ r.2.mem ((c.tc : Thread Cert.KvInRefIdeal.nD Cert.KvInRefIdeal.τ).loc Cert.KvInRefIdeal.main_arg1) = m ((c.tc : Thread Cert.KvInRefIdeal.nD Cert.KvInRefIdeal.τ).loc Cert.KvInRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_QueryIn [hQueryIn : Cert.QueryIn.Facts] : Prop :=
  ∀ (m : (ℓ : Loc Cert.QueryIn.nD Cert.QueryIn.τ Cert.QueryIn.sig) → Buf (Elt Bits) ℓ) (g : Dev Cert.QueryIn.nD → PrngReg), Pre_QueryIn m →
    θ_run (Cert.QueryIn.defs (F := Bits)) (onTc (τ := Cert.QueryIn.τ) (Cert.QueryIn.main (F := Bits))) ⟨m, fun _ => 0, g⟩ (fun r => (∀ c : Dev Cert.QueryIn.nD,
      r.2.mem ((c.tc : Thread Cert.QueryIn.nD Cert.QueryIn.τ).loc Cert.QueryIn.main_arg0) = m ((c.tc : Thread Cert.QueryIn.nD Cert.QueryIn.τ).loc Cert.QueryIn.main_arg0)
      ∧ r.2.mem ((c.tc : Thread Cert.QueryIn.nD Cert.QueryIn.τ).loc Cert.QueryIn.main_arg1) = m ((c.tc : Thread Cert.QueryIn.nD Cert.QueryIn.τ).loc Cert.QueryIn.main_arg1))
      ∧ r.2.sem = fun _ => 0)

def quiescent_QueryInIdeal [hQueryInIdeal : Cert.QueryInIdeal.Facts] : Prop :=
  ∀ (m : (ℓ : Loc Cert.QueryInIdeal.nD Cert.QueryInIdeal.τ Cert.QueryInIdeal.sig) → Buf (Elt Ideal) ℓ) (g : Dev Cert.QueryInIdeal.nD → PrngReg), Pre_QueryInIdeal m →
    θ_run (Cert.QueryInIdeal.defs (F := Ideal)) (onTc (τ := Cert.QueryInIdeal.τ) (Cert.QueryInIdeal.main (F := Ideal))) ⟨m, fun _ => 0, g⟩ (fun r => (∀ c : Dev Cert.QueryInIdeal.nD,
      r.2.mem ((c.tc : Thread Cert.QueryInIdeal.nD Cert.QueryInIdeal.τ).loc Cert.QueryInIdeal.main_arg0) = m ((c.tc : Thread Cert.QueryInIdeal.nD Cert.QueryInIdeal.τ).loc Cert.QueryInIdeal.main_arg0)
      ∧ r.2.mem ((c.tc : Thread Cert.QueryInIdeal.nD Cert.QueryInIdeal.τ).loc Cert.QueryInIdeal.main_arg1) = m ((c.tc : Thread Cert.QueryInIdeal.nD Cert.QueryInIdeal.τ).loc Cert.QueryInIdeal.main_arg1))
      ∧ r.2.sem = fun _ => 0)

def quiescent_QueryInRefIdeal [hQueryInRefIdeal : Cert.QueryInRefIdeal.Facts] : Prop :=
  ∀ (m : (ℓ : Loc Cert.QueryInRefIdeal.nD Cert.QueryInRefIdeal.τ Cert.QueryInRefIdeal.sig) → Buf (Elt Ideal) ℓ) (g : Dev Cert.QueryInRefIdeal.nD → PrngReg), Pre_QueryInRefIdeal m →
    θ_run (Cert.QueryInRefIdeal.defs (F := Ideal)) (onTc (τ := Cert.QueryInRefIdeal.τ) (Cert.QueryInRefIdeal.main (F := Ideal))) ⟨m, fun _ => 0, g⟩ (fun r => (∀ c : Dev Cert.QueryInRefIdeal.nD,
      r.2.mem ((c.tc : Thread Cert.QueryInRefIdeal.nD Cert.QueryInRefIdeal.τ).loc Cert.QueryInRefIdeal.main_arg0) = m ((c.tc : Thread Cert.QueryInRefIdeal.nD Cert.QueryInRefIdeal.τ).loc Cert.QueryInRefIdeal.main_arg0)
      ∧ r.2.mem ((c.tc : Thread Cert.QueryInRefIdeal.nD Cert.QueryInRefIdeal.τ).loc Cert.QueryInRefIdeal.main_arg1) = m ((c.tc : Thread Cert.QueryInRefIdeal.nD Cert.QueryInRefIdeal.τ).loc Cert.QueryInRefIdeal.main_arg1))
      ∧ r.2.sem = fun _ => 0)

def quiescent_QueryDx [hQueryDx : Cert.QueryDx.Facts] : Prop :=
  ∀ (m : (ℓ : Loc Cert.QueryDx.nD Cert.QueryDx.τ Cert.QueryDx.sig) → Buf (Elt Bits) ℓ) (g : Dev Cert.QueryDx.nD → PrngReg), Pre_QueryDx m →
    θ_run (Cert.QueryDx.defs (F := Bits)) (onTc (τ := Cert.QueryDx.τ) (Cert.QueryDx.main (F := Bits))) ⟨m, fun _ => 0, g⟩ (fun r => (∀ c : Dev Cert.QueryDx.nD,
      r.2.mem ((c.tc : Thread Cert.QueryDx.nD Cert.QueryDx.τ).loc Cert.QueryDx.main_arg0) = m ((c.tc : Thread Cert.QueryDx.nD Cert.QueryDx.τ).loc Cert.QueryDx.main_arg0)
      ∧ r.2.mem ((c.tc : Thread Cert.QueryDx.nD Cert.QueryDx.τ).loc Cert.QueryDx.main_arg1) = m ((c.tc : Thread Cert.QueryDx.nD Cert.QueryDx.τ).loc Cert.QueryDx.main_arg1))
      ∧ r.2.sem = fun _ => 0)

def quiescent_QueryDxIdeal [hQueryDxIdeal : Cert.QueryDxIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg), Pre_QueryDxIdeal m →
    θ_run (Cert.QueryDxIdeal.defs (F := Ideal)) (onTc (τ := Cert.QueryDxIdeal.τ) (Cert.QueryDxIdeal.main (F := Ideal))) ⟨m, fun _ => 0, g⟩ (fun r => (∀ c : Dev Cert.QueryDxIdeal.nD,
      r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
      ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1))
      ∧ r.2.sem = fun _ => 0)

def quiescent_QueryDxRefIdeal [hQueryDxRefIdeal : Cert.QueryDxRefIdeal.Facts] : Prop :=
  ∀ (m : (ℓ : Loc Cert.QueryDxRefIdeal.nD Cert.QueryDxRefIdeal.τ Cert.QueryDxRefIdeal.sig) → Buf (Elt Ideal) ℓ) (g : Dev Cert.QueryDxRefIdeal.nD → PrngReg), Pre_QueryDxRefIdeal m →
    θ_run (Cert.QueryDxRefIdeal.defs (F := Ideal)) (onTc (τ := Cert.QueryDxRefIdeal.τ) (Cert.QueryDxRefIdeal.main (F := Ideal))) ⟨m, fun _ => 0, g⟩ (fun r => (∀ c : Dev Cert.QueryDxRefIdeal.nD,
      r.2.mem ((c.tc : Thread Cert.QueryDxRefIdeal.nD Cert.QueryDxRefIdeal.τ).loc Cert.QueryDxRefIdeal.main_arg0) = m ((c.tc : Thread Cert.QueryDxRefIdeal.nD Cert.QueryDxRefIdeal.τ).loc Cert.QueryDxRefIdeal.main_arg0)
      ∧ r.2.mem ((c.tc : Thread Cert.QueryDxRefIdeal.nD Cert.QueryDxRefIdeal.τ).loc Cert.QueryDxRefIdeal.main_arg1) = m ((c.tc : Thread Cert.QueryDxRefIdeal.nD Cert.QueryDxRefIdeal.τ).loc Cert.QueryDxRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdIdeal_pre_dcum_finite [hGateBwdIdeal : Cert.GateBwdIdeal.Facts] [hPre_dcum_finite : Cert.Pre_dcum_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_dcum_finite m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2))
      ∧ r.2.sem = fun _ => 0)

def quiescent_GateBwdRefIdeal_pre_dcum_finite [hGateBwdRefIdeal : Cert.GateBwdRefIdeal.Facts] [hPre_dcum_finite : Cert.Pre_dcum_finite.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_dcum_finite m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![12288, 1024]⟩ ⟨2, ![49152, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![12288, 1024]⟩ ⟨2, ![49152, 1024]⟩ (Layout.meshBlock [2, 2, 2] ![[0, 1], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 12288, 1024]⟩ ⟨3, ![32, 12288, 1024]⟩ 0 8 c (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v8)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨3, ![4, 6144, 1024]⟩ ⟨3, ![32, 6144, 1024]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨3, ![4, 12288, 1024]⟩ ⟨3, ![32, 12288, 1024]⟩ 0 8 c (m' (((0 : Dev Cert.SwapRef.nD).tc : Thread Cert.SwapRef.nD Cert.SwapRef.τ).loc Cert.SwapRef.main_arg0))) →
    ∃ (v0 : Buf (Elt Bits) (((0 : Dev Cert.SwapRef.nD).tc : Thread Cert.SwapRef.nD Cert.SwapRef.τ).loc Cert.SwapRef.main_v8)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨3, ![4, 6144, 1024]⟩ ⟨3, ![32, 6144, 1024]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![4, 6144, 1024]⟩ ⟨3, ![32, 6144, 1024]⟩ 0 8 c (m' (((0 : Dev Cert.ScatterRefIdeal.nD).tc : Thread Cert.ScatterRefIdeal.nD Cert.ScatterRefIdeal.τ).loc Cert.ScatterRefIdeal.main_arg0))) →
    ∃ (v0 : Buf (Elt Ideal) (((0 : Dev Cert.ScatterRefIdeal.nD).tc : Thread Cert.ScatterRefIdeal.nD Cert.ScatterRefIdeal.τ).loc Cert.ScatterRefIdeal.main_v2)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1) = Layout.block ⟨3, ![4, 6144, 1024]⟩ ⟨3, ![32, 6144, 1024]⟩ 0 8 c v0
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![4, 6144, 1024]⟩ ⟨3, ![32, 6144, 1024]⟩ 0 8 c (m' (((0 : Dev Cert.ScatterRef.nD).tc : Thread Cert.ScatterRef.nD Cert.ScatterRef.τ).loc Cert.ScatterRef.main_arg0))) →
    ∃ (v0 : Buf (Elt Bits) (((0 : Dev Cert.ScatterRef.nD).tc : Thread Cert.ScatterRef.nD Cert.ScatterRef.τ).loc Cert.ScatterRef.main_v2)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1) = Layout.block ⟨3, ![4, 6144, 1024]⟩ ⟨3, ![32, 6144, 1024]⟩ 0 8 c v0
          ∧ r.2.mem ((c.tc : Thread Cert.Scatter.nD Cert.Scatter.τ).loc Cert.Scatter.main_arg0) = m ((c.tc : Thread Cert.Scatter.nD Cert.Scatter.τ).loc Cert.Scatter.main_arg0))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m ((c.tc : Thread Cert.JoinIdeal.nD Cert.JoinIdeal.τ).loc Cert.JoinIdeal.main_arg0) = Layout.block ⟨2, ![6144, 1024]⟩ ⟨2, ![49152, 1024]⟩ 0 8 c (m' (((0 : Dev Cert.JoinRefIdeal.nD).tc : Thread Cert.JoinRefIdeal.nD Cert.JoinRefIdeal.τ).loc Cert.JoinRefIdeal.main_arg0))) →
    ∃ (v0 : Buf (Elt Ideal) (((0 : Dev Cert.JoinRefIdeal.nD).tc : Thread Cert.JoinRefIdeal.nD Cert.JoinRefIdeal.τ).loc Cert.JoinRefIdeal.main_v0)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v1) = Layout.blockN ⟨3, ![2, 6144, 1024]⟩ ⟨3, ![8, 6144, 1024]⟩ (Layout.meshBlock [2, 2, 2] ![[0, 1], [], []] c) v0
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ θ_run (Cert.JoinRefIdeal.defs (F := Ideal)) (onTc (τ := Cert.JoinRefIdeal.τ) (Cert.JoinRefIdeal.main (F := Ideal))) ⟨m', fun _ => 0, g'⟩ (fun r =>
          r.2.mem (((0 : Dev Cert.JoinRefIdeal.nD).tc : Thread Cert.JoinRefIdeal.nD Cert.JoinRefIdeal.τ).loc Cert.JoinRefIdeal.main_v0) = v0
          ∧ r.2.mem (((0 : Dev Cert.JoinRefIdeal.nD).tc : Thread Cert.JoinRefIdeal.nD Cert.JoinRefIdeal.τ).loc Cert.JoinRefIdeal.main_arg0) = m' (((0 : Dev Cert.JoinRefIdeal.nD).tc : Thread Cert.JoinRefIdeal.nD Cert.JoinRefIdeal.τ).loc Cert.JoinRefIdeal.main_arg0))

def bitexact_Join_JoinRef [hJoin : Cert.Join.Facts] [hJoinRef : Cert.JoinRef.Facts] : Prop :=
  ∀ (m : (ℓ : Loc Cert.Join.nD Cert.Join.τ Cert.Join.sig) → Buf (Elt Bits) ℓ) (g : Dev Cert.Join.nD → PrngReg)
    (m' : (ℓ : Loc Cert.JoinRef.nD Cert.JoinRef.τ Cert.JoinRef.sig) → Buf (Elt Bits) ℓ) (g' : Dev Cert.JoinRef.nD → PrngReg), Pre_Join m →
    (∀ c : Dev Cert.Join.nD,
      m ((c.tc : Thread Cert.Join.nD Cert.Join.τ).loc Cert.Join.main_arg0) = Layout.block ⟨2, ![6144, 1024]⟩ ⟨2, ![49152, 1024]⟩ 0 8 c (m' (((0 : Dev Cert.JoinRef.nD).tc : Thread Cert.JoinRef.nD Cert.JoinRef.τ).loc Cert.JoinRef.main_arg0))) →
    ∃ (v0 : Buf (Elt Bits) (((0 : Dev Cert.JoinRef.nD).tc : Thread Cert.JoinRef.nD Cert.JoinRef.τ).loc Cert.JoinRef.main_v0)),
      θ_run (Cert.Join.defs (F := Bits)) (onTc (τ := Cert.Join.τ) (Cert.Join.main (F := Bits))) ⟨m, fun _ => 0, g⟩ (fun r => ∀ c : Dev Cert.Join.nD,
          r.2.mem ((c.tc : Thread Cert.Join.nD Cert.Join.τ).loc Cert.Join.main_v1) = Layout.blockN ⟨3, ![2, 6144, 1024]⟩ ⟨3, ![8, 6144, 1024]⟩ (Layout.meshBlock [2, 2, 2] ![[0, 1], [], []] c) v0
          ∧ r.2.mem ((c.tc : Thread Cert.Join.nD Cert.Join.τ).loc Cert.Join.main_arg0) = m ((c.tc : Thread Cert.Join.nD Cert.Join.τ).loc Cert.Join.main_arg0))
      ∧ θ_run (Cert.JoinRef.defs (F := Bits)) (onTc (τ := Cert.JoinRef.τ) (Cert.JoinRef.main (F := Bits))) ⟨m', fun _ => 0, g'⟩ (fun r =>
          r.2.mem (((0 : Dev Cert.JoinRef.nD).tc : Thread Cert.JoinRef.nD Cert.JoinRef.τ).loc Cert.JoinRef.main_v0) = v0
          ∧ r.2.mem (((0 : Dev Cert.JoinRef.nD).tc : Thread Cert.JoinRef.nD Cert.JoinRef.τ).loc Cert.JoinRef.main_arg0) = m' (((0 : Dev Cert.JoinRef.nD).tc : Thread Cert.JoinRef.nD Cert.JoinRef.τ).loc Cert.JoinRef.main_arg0))

def preserves_Total_TotalIdeal : Prop :=
  True

def algebraic_TotalIdeal_TotalRefIdeal [hTotalIdeal : Cert.TotalIdeal.Facts] [hTotalRefIdeal : Cert.TotalRefIdeal.Facts] : Prop :=
  ∀ (m : (ℓ : Loc Cert.TotalIdeal.nD Cert.TotalIdeal.τ Cert.TotalIdeal.sig) → Buf (Elt Ideal) ℓ) (g : Dev Cert.TotalIdeal.nD → PrngReg)
    (m' : (ℓ : Loc Cert.TotalRefIdeal.nD Cert.TotalRefIdeal.τ Cert.TotalRefIdeal.sig) → Buf (Elt Ideal) ℓ) (g' : Dev Cert.TotalRefIdeal.nD → PrngReg), Pre_TotalIdeal m →
    (∀ c : Dev Cert.TotalIdeal.nD,
      m' ((c.tc : Thread Cert.TotalRefIdeal.nD Cert.TotalRefIdeal.τ).loc Cert.TotalRefIdeal.main_arg0) = m ((c.tc : Thread Cert.TotalIdeal.nD Cert.TotalIdeal.τ).loc Cert.TotalIdeal.main_arg0)) →
    ∃ (v0 : (c : Dev Cert.TotalIdeal.nD) → Buf (Elt Ideal) ((c.tc : Thread Cert.TotalIdeal.nD Cert.TotalIdeal.τ).loc Cert.TotalIdeal.main_v0)),
      θ_run (Cert.TotalIdeal.defs (F := Ideal)) (onTc (τ := Cert.TotalIdeal.τ) (Cert.TotalIdeal.main (F := Ideal))) ⟨m, fun _ => 0, g⟩ (fun r => ∀ c : Dev Cert.TotalIdeal.nD,
          r.2.mem ((c.tc : Thread Cert.TotalIdeal.nD Cert.TotalIdeal.τ).loc Cert.TotalIdeal.main_v0) = v0 c
          ∧ r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ θ_run (Cert.TotalRefIdeal.defs (F := Ideal)) (onTc (τ := Cert.TotalRefIdeal.τ) (Cert.TotalRefIdeal.main (F := Ideal))) ⟨m', fun _ => 0, g'⟩ (fun r => ∀ c : Dev Cert.TotalRefIdeal.nD,
          r.2.mem ((c.tc : Thread Cert.TotalRefIdeal.nD Cert.TotalRefIdeal.τ).loc Cert.TotalRefIdeal.main_v1) = v0 c
          ∧ r.2.mem ((c.tc : Thread Cert.TotalRefIdeal.nD Cert.TotalRefIdeal.τ).loc Cert.TotalRefIdeal.main_arg0) = m' ((c.tc : Thread Cert.TotalRefIdeal.nD Cert.TotalRefIdeal.τ).loc Cert.TotalRefIdeal.main_arg0))

def preserves_TotalSmall_TotalSmallIdeal : Prop :=
  True

def algebraic_TotalSmallIdeal_TotalSmallRefIdeal [hTotalSmallIdeal : Cert.TotalSmallIdeal.Facts] [hTotalSmallRefIdeal : Cert.TotalSmallRefIdeal.Facts] : Prop :=
  ∀ (m : (ℓ : Loc Cert.TotalSmallIdeal.nD Cert.TotalSmallIdeal.τ Cert.TotalSmallIdeal.sig) → Buf (Elt Ideal) ℓ) (g : Dev Cert.TotalSmallIdeal.nD → PrngReg)
    (m' : (ℓ : Loc Cert.TotalSmallRefIdeal.nD Cert.TotalSmallRefIdeal.τ Cert.TotalSmallRefIdeal.sig) → Buf (Elt Ideal) ℓ) (g' : Dev Cert.TotalSmallRefIdeal.nD → PrngReg), Pre_TotalSmallIdeal m →
    (∀ c : Dev Cert.TotalSmallIdeal.nD,
      m' ((c.tc : Thread Cert.TotalSmallRefIdeal.nD Cert.TotalSmallRefIdeal.τ).loc Cert.TotalSmallRefIdeal.main_arg0) = m ((c.tc : Thread Cert.TotalSmallIdeal.nD Cert.TotalSmallIdeal.τ).loc Cert.TotalSmallIdeal.main_arg0)) →
    ∃ (v0 : (c : Dev Cert.TotalSmallIdeal.nD) → Buf (Elt Ideal) ((c.tc : Thread Cert.TotalSmallIdeal.nD Cert.TotalSmallIdeal.τ).loc Cert.TotalSmallIdeal.main_v0)),
      θ_run (Cert.TotalSmallIdeal.defs (F := Ideal)) (onTc (τ := Cert.TotalSmallIdeal.τ) (Cert.TotalSmallIdeal.main (F := Ideal))) ⟨m, fun _ => 0, g⟩ (fun r => ∀ c : Dev Cert.TotalSmallIdeal.nD,
          r.2.mem ((c.tc : Thread Cert.TotalSmallIdeal.nD Cert.TotalSmallIdeal.τ).loc Cert.TotalSmallIdeal.main_v0) = v0 c
          ∧ r.2.mem ((c.tc : Thread Cert.TotalSmallIdeal.nD Cert.TotalSmallIdeal.τ).loc Cert.TotalSmallIdeal.main_arg0) = m ((c.tc : Thread Cert.TotalSmallIdeal.nD Cert.TotalSmallIdeal.τ).loc Cert.TotalSmallIdeal.main_arg0))
      ∧ θ_run (Cert.TotalSmallRefIdeal.defs (F := Ideal)) (onTc (τ := Cert.TotalSmallRefIdeal.τ) (Cert.TotalSmallRefIdeal.main (F := Ideal))) ⟨m', fun _ => 0, g'⟩ (fun r => ∀ c : Dev Cert.TotalSmallRefIdeal.nD,
          r.2.mem ((c.tc : Thread Cert.TotalSmallRefIdeal.nD Cert.TotalSmallRefIdeal.τ).loc Cert.TotalSmallRefIdeal.main_v0) = v0 c
          ∧ r.2.mem ((c.tc : Thread Cert.TotalSmallRefIdeal.nD Cert.TotalSmallRefIdeal.τ).loc Cert.TotalSmallRefIdeal.main_arg0) = m' ((c.tc : Thread Cert.TotalSmallRefIdeal.nD Cert.TotalSmallRefIdeal.τ).loc Cert.TotalSmallRefIdeal.main_arg0))

def preserves_UpdateFfnIn_UpdateFfnInIdeal : Prop :=
  True

def algebraic_UpdateFfnInIdeal_UpdateFfnInRefIdeal [hUpdateFfnInIdeal : Cert.UpdateFfnInIdeal.Facts] [hUpdateFfnInRefIdeal : Cert.UpdateFfnInRefIdeal.Facts] : Prop :=
  ∀ (m : (ℓ : Loc Cert.UpdateFfnInIdeal.nD Cert.UpdateFfnInIdeal.τ Cert.UpdateFfnInIdeal.sig) → Buf (Elt Ideal) ℓ) (g : Dev Cert.UpdateFfnInIdeal.nD → PrngReg)
    (m' : (ℓ : Loc Cert.UpdateFfnInRefIdeal.nD Cert.UpdateFfnInRefIdeal.τ Cert.UpdateFfnInRefIdeal.sig) → Buf (Elt Ideal) ℓ) (g' : Dev Cert.UpdateFfnInRefIdeal.nD → PrngReg), Pre_UpdateFfnInIdeal m →
    (∀ c : Dev Cert.UpdateFfnInIdeal.nD,
      m' ((c.tc : Thread Cert.UpdateFfnInRefIdeal.nD Cert.UpdateFfnInRefIdeal.τ).loc Cert.UpdateFfnInRefIdeal.main_arg0) = m ((c.tc : Thread Cert.UpdateFfnInIdeal.nD Cert.UpdateFfnInIdeal.τ).loc Cert.UpdateFfnInIdeal.main_arg0)
      ∧ m' ((c.tc : Thread Cert.UpdateFfnInRefIdeal.nD Cert.UpdateFfnInRefIdeal.τ).loc Cert.UpdateFfnInRefIdeal.main_arg1) = m ((c.tc : Thread Cert.UpdateFfnInIdeal.nD Cert.UpdateFfnInIdeal.τ).loc Cert.UpdateFfnInIdeal.main_arg1)
      ∧ m' ((c.tc : Thread Cert.UpdateFfnInRefIdeal.nD Cert.UpdateFfnInRefIdeal.τ).loc Cert.UpdateFfnInRefIdeal.main_arg2) = m ((c.tc : Thread Cert.UpdateFfnInIdeal.nD Cert.UpdateFfnInIdeal.τ).loc Cert.UpdateFfnInIdeal.main_arg2)
      ∧ m' ((c.tc : Thread Cert.UpdateFfnInRefIdeal.nD Cert.UpdateFfnInRefIdeal.τ).loc Cert.UpdateFfnInRefIdeal.main_arg3) = m ((c.tc : Thread Cert.UpdateFfnInIdeal.nD Cert.UpdateFfnInIdeal.τ).loc Cert.UpdateFfnInIdeal.main_arg3)) →
    ∃ (v0 : (c : Dev Cert.UpdateFfnInIdeal.nD) → Buf (Elt Ideal) ((c.tc : Thread Cert.UpdateFfnInIdeal.nD Cert.UpdateFfnInIdeal.τ).loc Cert.UpdateFfnInIdeal.main_v0_0)) (v1 : (c : Dev Cert.UpdateFfnInIdeal.nD) → Buf (Elt Ideal) ((c.tc : Thread Cert.UpdateFfnInIdeal.nD Cert.UpdateFfnInIdeal.τ).loc Cert.UpdateFfnInIdeal.main_v0_1)) (v2 : (c : Dev Cert.UpdateFfnInIdeal.nD) → Buf (Elt Ideal) ((c.tc : Thread Cert.UpdateFfnInIdeal.nD Cert.UpdateFfnInIdeal.τ).loc Cert.UpdateFfnInIdeal.main_v0_2)),
      θ_run (Cert.UpdateFfnInIdeal.defs (F := Ideal)) (onTc (τ := Cert.UpdateFfnInIdeal.τ) (Cert.UpdateFfnInIdeal.main (F := Ideal))) ⟨m, fun _ => 0, g⟩ (fun r => ∀ c : Dev Cert.UpdateFfnInIdeal.nD,
          r.2.mem ((c.tc : Thread Cert.UpdateFfnInIdeal.nD Cert.UpdateFfnInIdeal.τ).loc Cert.UpdateFfnInIdeal.main_v0_0) = v0 c
          ∧ r.2.mem ((c.tc : Thread Cert.UpdateFfnInIdeal.nD Cert.UpdateFfnInIdeal.τ).loc Cert.UpdateFfnInIdeal.main_v0_1) = v1 c
          ∧ r.2.mem ((c.tc : Thread Cert.UpdateFfnInIdeal.nD Cert.UpdateFfnInIdeal.τ).loc Cert.UpdateFfnInIdeal.main_v0_2) = v2 c
          ∧ r.2.mem ((c.tc : Thread Cert.UpdateFfnInIdeal.nD Cert.UpdateFfnInIdeal.τ).loc Cert.UpdateFfnInIdeal.main_arg0) = m ((c.tc : Thread Cert.UpdateFfnInIdeal.nD Cert.UpdateFfnInIdeal.τ).loc Cert.UpdateFfnInIdeal.main_arg0)
          ∧ r.2.mem ((c.tc : Thread Cert.UpdateFfnInIdeal.nD Cert.UpdateFfnInIdeal.τ).loc Cert.UpdateFfnInIdeal.main_arg1) = m ((c.tc : Thread Cert.UpdateFfnInIdeal.nD Cert.UpdateFfnInIdeal.τ).loc Cert.UpdateFfnInIdeal.main_arg1)
          ∧ r.2.mem ((c.tc : Thread Cert.UpdateFfnInIdeal.nD Cert.UpdateFfnInIdeal.τ).loc Cert.UpdateFfnInIdeal.main_arg2) = m ((c.tc : Thread Cert.UpdateFfnInIdeal.nD Cert.UpdateFfnInIdeal.τ).loc Cert.UpdateFfnInIdeal.main_arg2)
          ∧ r.2.mem ((c.tc : Thread Cert.UpdateFfnInIdeal.nD Cert.UpdateFfnInIdeal.τ).loc Cert.UpdateFfnInIdeal.main_arg3) = m ((c.tc : Thread Cert.UpdateFfnInIdeal.nD Cert.UpdateFfnInIdeal.τ).loc Cert.UpdateFfnInIdeal.main_arg3))
      ∧ θ_run (Cert.UpdateFfnInRefIdeal.defs (F := Ideal)) (onTc (τ := Cert.UpdateFfnInRefIdeal.τ) (Cert.UpdateFfnInRefIdeal.main (F := Ideal))) ⟨m', fun _ => 0, g'⟩ (fun r => ∀ c : Dev Cert.UpdateFfnInRefIdeal.nD,
          r.2.mem ((c.tc : Thread Cert.UpdateFfnInRefIdeal.nD Cert.UpdateFfnInRefIdeal.τ).loc Cert.UpdateFfnInRefIdeal.main_v23) = v0 c
          ∧ r.2.mem ((c.tc : Thread Cert.UpdateFfnInRefIdeal.nD Cert.UpdateFfnInRefIdeal.τ).loc Cert.UpdateFfnInRefIdeal.main_v4) = v1 c
          ∧ r.2.mem ((c.tc : Thread Cert.UpdateFfnInRefIdeal.nD Cert.UpdateFfnInRefIdeal.τ).loc Cert.UpdateFfnInRefIdeal.main_v10) = v2 c
          ∧ r.2.mem ((c.tc : Thread Cert.UpdateFfnInRefIdeal.nD Cert.UpdateFfnInRefIdeal.τ).loc Cert.UpdateFfnInRefIdeal.main_arg0) = m' ((c.tc : Thread Cert.UpdateFfnInRefIdeal.nD Cert.UpdateFfnInRefIdeal.τ).loc Cert.UpdateFfnInRefIdeal.main_arg0)
          ∧ r.2.mem ((c.tc : Thread Cert.UpdateFfnInRefIdeal.nD Cert.UpdateFfnInRefIdeal.τ).loc Cert.UpdateFfnInRefIdeal.main_arg1) = m' ((c.tc : Thread Cert.UpdateFfnInRefIdeal.nD Cert.UpdateFfnInRefIdeal.τ).loc Cert.UpdateFfnInRefIdeal.main_arg1)
          ∧ r.2.mem ((c.tc : Thread Cert.UpdateFfnInRefIdeal.nD Cert.UpdateFfnInRefIdeal.τ).loc Cert.UpdateFfnInRefIdeal.main_arg2) = m' ((c.tc : Thread Cert.UpdateFfnInRefIdeal.nD Cert.UpdateFfnInRefIdeal.τ).loc Cert.UpdateFfnInRefIdeal.main_arg2)
          ∧ r.2.mem ((c.tc : Thread Cert.UpdateFfnInRefIdeal.nD Cert.UpdateFfnInRefIdeal.τ).loc Cert.UpdateFfnInRefIdeal.main_arg3) = m' ((c.tc : Thread Cert.UpdateFfnInRefIdeal.nD Cert.UpdateFfnInRefIdeal.τ).loc Cert.UpdateFfnInRefIdeal.main_arg3))

def preserves_UpdateFfnOut_UpdateFfnOutIdeal : Prop :=
  True

def algebraic_UpdateFfnOutIdeal_UpdateFfnOutRefIdeal [hUpdateFfnOutIdeal : Cert.UpdateFfnOutIdeal.Facts] [hUpdateFfnOutRefIdeal : Cert.UpdateFfnOutRefIdeal.Facts] : Prop :=
  ∀ (m : (ℓ : Loc Cert.UpdateFfnOutIdeal.nD Cert.UpdateFfnOutIdeal.τ Cert.UpdateFfnOutIdeal.sig) → Buf (Elt Ideal) ℓ) (g : Dev Cert.UpdateFfnOutIdeal.nD → PrngReg)
    (m' : (ℓ : Loc Cert.UpdateFfnOutRefIdeal.nD Cert.UpdateFfnOutRefIdeal.τ Cert.UpdateFfnOutRefIdeal.sig) → Buf (Elt Ideal) ℓ) (g' : Dev Cert.UpdateFfnOutRefIdeal.nD → PrngReg), Pre_UpdateFfnOutIdeal m →
    (∀ c : Dev Cert.UpdateFfnOutIdeal.nD,
      m' ((c.tc : Thread Cert.UpdateFfnOutRefIdeal.nD Cert.UpdateFfnOutRefIdeal.τ).loc Cert.UpdateFfnOutRefIdeal.main_arg0) = m ((c.tc : Thread Cert.UpdateFfnOutIdeal.nD Cert.UpdateFfnOutIdeal.τ).loc Cert.UpdateFfnOutIdeal.main_arg0)
      ∧ m' ((c.tc : Thread Cert.UpdateFfnOutRefIdeal.nD Cert.UpdateFfnOutRefIdeal.τ).loc Cert.UpdateFfnOutRefIdeal.main_arg1) = m ((c.tc : Thread Cert.UpdateFfnOutIdeal.nD Cert.UpdateFfnOutIdeal.τ).loc Cert.UpdateFfnOutIdeal.main_arg1)
      ∧ m' ((c.tc : Thread Cert.UpdateFfnOutRefIdeal.nD Cert.UpdateFfnOutRefIdeal.τ).loc Cert.UpdateFfnOutRefIdeal.main_arg2) = m ((c.tc : Thread Cert.UpdateFfnOutIdeal.nD Cert.UpdateFfnOutIdeal.τ).loc Cert.UpdateFfnOutIdeal.main_arg2)
      ∧ m' ((c.tc : Thread Cert.UpdateFfnOutRefIdeal.nD Cert.UpdateFfnOutRefIdeal.τ).loc Cert.UpdateFfnOutRefIdeal.main_arg3) = m ((c.tc : Thread Cert.UpdateFfnOutIdeal.nD Cert.UpdateFfnOutIdeal.τ).loc Cert.UpdateFfnOutIdeal.main_arg3)) →
    ∃ (v0 : (c : Dev Cert.UpdateFfnOutIdeal.nD) → Buf (Elt Ideal) ((c.tc : Thread Cert.UpdateFfnOutIdeal.nD Cert.UpdateFfnOutIdeal.τ).loc Cert.UpdateFfnOutIdeal.main_v0_0)) (v1 : (c : Dev Cert.UpdateFfnOutIdeal.nD) → Buf (Elt Ideal) ((c.tc : Thread Cert.UpdateFfnOutIdeal.nD Cert.UpdateFfnOutIdeal.τ).loc Cert.UpdateFfnOutIdeal.main_v0_1)) (v2 : (c : Dev Cert.UpdateFfnOutIdeal.nD) → Buf (Elt Ideal) ((c.tc : Thread Cert.UpdateFfnOutIdeal.nD Cert.UpdateFfnOutIdeal.τ).loc Cert.UpdateFfnOutIdeal.main_v0_2)),
      θ_run (Cert.UpdateFfnOutIdeal.defs (F := Ideal)) (onTc (τ := Cert.UpdateFfnOutIdeal.τ) (Cert.UpdateFfnOutIdeal.main (F := Ideal))) ⟨m, fun _ => 0, g⟩ (fun r => ∀ c : Dev Cert.UpdateFfnOutIdeal.nD,
          r.2.mem ((c.tc : Thread Cert.UpdateFfnOutIdeal.nD Cert.UpdateFfnOutIdeal.τ).loc Cert.UpdateFfnOutIdeal.main_v0_0) = v0 c
          ∧ r.2.mem ((c.tc : Thread Cert.UpdateFfnOutIdeal.nD Cert.UpdateFfnOutIdeal.τ).loc Cert.UpdateFfnOutIdeal.main_v0_1) = v1 c
          ∧ r.2.mem ((c.tc : Thread Cert.UpdateFfnOutIdeal.nD Cert.UpdateFfnOutIdeal.τ).loc Cert.UpdateFfnOutIdeal.main_v0_2) = v2 c
          ∧ r.2.mem ((c.tc : Thread Cert.UpdateFfnOutIdeal.nD Cert.UpdateFfnOutIdeal.τ).loc Cert.UpdateFfnOutIdeal.main_arg0) = m ((c.tc : Thread Cert.UpdateFfnOutIdeal.nD Cert.UpdateFfnOutIdeal.τ).loc Cert.UpdateFfnOutIdeal.main_arg0)
          ∧ r.2.mem ((c.tc : Thread Cert.UpdateFfnOutIdeal.nD Cert.UpdateFfnOutIdeal.τ).loc Cert.UpdateFfnOutIdeal.main_arg1) = m ((c.tc : Thread Cert.UpdateFfnOutIdeal.nD Cert.UpdateFfnOutIdeal.τ).loc Cert.UpdateFfnOutIdeal.main_arg1)
          ∧ r.2.mem ((c.tc : Thread Cert.UpdateFfnOutIdeal.nD Cert.UpdateFfnOutIdeal.τ).loc Cert.UpdateFfnOutIdeal.main_arg2) = m ((c.tc : Thread Cert.UpdateFfnOutIdeal.nD Cert.UpdateFfnOutIdeal.τ).loc Cert.UpdateFfnOutIdeal.main_arg2)
          ∧ r.2.mem ((c.tc : Thread Cert.UpdateFfnOutIdeal.nD Cert.UpdateFfnOutIdeal.τ).loc Cert.UpdateFfnOutIdeal.main_arg3) = m ((c.tc : Thread Cert.UpdateFfnOutIdeal.nD Cert.UpdateFfnOutIdeal.τ).loc Cert.UpdateFfnOutIdeal.main_arg3))
      ∧ θ_run (Cert.UpdateFfnOutRefIdeal.defs (F := Ideal)) (onTc (τ := Cert.UpdateFfnOutRefIdeal.τ) (Cert.UpdateFfnOutRefIdeal.main (F := Ideal))) ⟨m', fun _ => 0, g'⟩ (fun r => ∀ c : Dev Cert.UpdateFfnOutRefIdeal.nD,
          r.2.mem ((c.tc : Thread Cert.UpdateFfnOutRefIdeal.nD Cert.UpdateFfnOutRefIdeal.τ).loc Cert.UpdateFfnOutRefIdeal.main_v23) = v0 c
          ∧ r.2.mem ((c.tc : Thread Cert.UpdateFfnOutRefIdeal.nD Cert.UpdateFfnOutRefIdeal.τ).loc Cert.UpdateFfnOutRefIdeal.main_v4) = v1 c
          ∧ r.2.mem ((c.tc : Thread Cert.UpdateFfnOutRefIdeal.nD Cert.UpdateFfnOutRefIdeal.τ).loc Cert.UpdateFfnOutRefIdeal.main_v10) = v2 c
          ∧ r.2.mem ((c.tc : Thread Cert.UpdateFfnOutRefIdeal.nD Cert.UpdateFfnOutRefIdeal.τ).loc Cert.UpdateFfnOutRefIdeal.main_arg0) = m' ((c.tc : Thread Cert.UpdateFfnOutRefIdeal.nD Cert.UpdateFfnOutRefIdeal.τ).loc Cert.UpdateFfnOutRefIdeal.main_arg0)
          ∧ r.2.mem ((c.tc : Thread Cert.UpdateFfnOutRefIdeal.nD Cert.UpdateFfnOutRefIdeal.τ).loc Cert.UpdateFfnOutRefIdeal.main_arg1) = m' ((c.tc : Thread Cert.UpdateFfnOutRefIdeal.nD Cert.UpdateFfnOutRefIdeal.τ).loc Cert.UpdateFfnOutRefIdeal.main_arg1)
          ∧ r.2.mem ((c.tc : Thread Cert.UpdateFfnOutRefIdeal.nD Cert.UpdateFfnOutRefIdeal.τ).loc Cert.UpdateFfnOutRefIdeal.main_arg2) = m' ((c.tc : Thread Cert.UpdateFfnOutRefIdeal.nD Cert.UpdateFfnOutRefIdeal.τ).loc Cert.UpdateFfnOutRefIdeal.main_arg2)
          ∧ r.2.mem ((c.tc : Thread Cert.UpdateFfnOutRefIdeal.nD Cert.UpdateFfnOutRefIdeal.τ).loc Cert.UpdateFfnOutRefIdeal.main_arg3) = m' ((c.tc : Thread Cert.UpdateFfnOutRefIdeal.nD Cert.UpdateFfnOutRefIdeal.τ).loc Cert.UpdateFfnOutRefIdeal.main_arg3))

def preserves_UpdateQkv_UpdateQkvIdeal : Prop :=
  True

def algebraic_UpdateQkvIdeal_UpdateQkvRefIdeal [hUpdateQkvIdeal : Cert.UpdateQkvIdeal.Facts] [hUpdateQkvRefIdeal : Cert.UpdateQkvRefIdeal.Facts] : Prop :=
  ∀ (m : (ℓ : Loc Cert.UpdateQkvIdeal.nD Cert.UpdateQkvIdeal.τ Cert.UpdateQkvIdeal.sig) → Buf (Elt Ideal) ℓ) (g : Dev Cert.UpdateQkvIdeal.nD → PrngReg)
    (m' : (ℓ : Loc Cert.UpdateQkvRefIdeal.nD Cert.UpdateQkvRefIdeal.τ Cert.UpdateQkvRefIdeal.sig) → Buf (Elt Ideal) ℓ) (g' : Dev Cert.UpdateQkvRefIdeal.nD → PrngReg), Pre_UpdateQkvIdeal m →
    (∀ c : Dev Cert.UpdateQkvIdeal.nD,
      m' ((c.tc : Thread Cert.UpdateQkvRefIdeal.nD Cert.UpdateQkvRefIdeal.τ).loc Cert.UpdateQkvRefIdeal.main_arg0) = m ((c.tc : Thread Cert.UpdateQkvIdeal.nD Cert.UpdateQkvIdeal.τ).loc Cert.UpdateQkvIdeal.main_arg0)
      ∧ m' ((c.tc : Thread Cert.UpdateQkvRefIdeal.nD Cert.UpdateQkvRefIdeal.τ).loc Cert.UpdateQkvRefIdeal.main_arg1) = m ((c.tc : Thread Cert.UpdateQkvIdeal.nD Cert.UpdateQkvIdeal.τ).loc Cert.UpdateQkvIdeal.main_arg1)
      ∧ m' ((c.tc : Thread Cert.UpdateQkvRefIdeal.nD Cert.UpdateQkvRefIdeal.τ).loc Cert.UpdateQkvRefIdeal.main_arg2) = m ((c.tc : Thread Cert.UpdateQkvIdeal.nD Cert.UpdateQkvIdeal.τ).loc Cert.UpdateQkvIdeal.main_arg2)
      ∧ m' ((c.tc : Thread Cert.UpdateQkvRefIdeal.nD Cert.UpdateQkvRefIdeal.τ).loc Cert.UpdateQkvRefIdeal.main_arg3) = m ((c.tc : Thread Cert.UpdateQkvIdeal.nD Cert.UpdateQkvIdeal.τ).loc Cert.UpdateQkvIdeal.main_arg3)) →
    ∃ (v0 : (c : Dev Cert.UpdateQkvIdeal.nD) → Buf (Elt Ideal) ((c.tc : Thread Cert.UpdateQkvIdeal.nD Cert.UpdateQkvIdeal.τ).loc Cert.UpdateQkvIdeal.main_v0_0)) (v1 : (c : Dev Cert.UpdateQkvIdeal.nD) → Buf (Elt Ideal) ((c.tc : Thread Cert.UpdateQkvIdeal.nD Cert.UpdateQkvIdeal.τ).loc Cert.UpdateQkvIdeal.main_v0_1)) (v2 : (c : Dev Cert.UpdateQkvIdeal.nD) → Buf (Elt Ideal) ((c.tc : Thread Cert.UpdateQkvIdeal.nD Cert.UpdateQkvIdeal.τ).loc Cert.UpdateQkvIdeal.main_v0_2)),
      θ_run (Cert.UpdateQkvIdeal.defs (F := Ideal)) (onTc (τ := Cert.UpdateQkvIdeal.τ) (Cert.UpdateQkvIdeal.main (F := Ideal))) ⟨m, fun _ => 0, g⟩ (fun r => ∀ c : Dev Cert.UpdateQkvIdeal.nD,
          r.2.mem ((c.tc : Thread Cert.UpdateQkvIdeal.nD Cert.UpdateQkvIdeal.τ).loc Cert.UpdateQkvIdeal.main_v0_0) = v0 c
          ∧ r.2.mem ((c.tc : Thread Cert.UpdateQkvIdeal.nD Cert.UpdateQkvIdeal.τ).loc Cert.UpdateQkvIdeal.main_v0_1) = v1 c
          ∧ r.2.mem ((c.tc : Thread Cert.UpdateQkvIdeal.nD Cert.UpdateQkvIdeal.τ).loc Cert.UpdateQkvIdeal.main_v0_2) = v2 c
          ∧ r.2.mem ((c.tc : Thread Cert.UpdateQkvIdeal.nD Cert.UpdateQkvIdeal.τ).loc Cert.UpdateQkvIdeal.main_arg0) = m ((c.tc : Thread Cert.UpdateQkvIdeal.nD Cert.UpdateQkvIdeal.τ).loc Cert.UpdateQkvIdeal.main_arg0)
          ∧ r.2.mem ((c.tc : Thread Cert.UpdateQkvIdeal.nD Cert.UpdateQkvIdeal.τ).loc Cert.UpdateQkvIdeal.main_arg1) = m ((c.tc : Thread Cert.UpdateQkvIdeal.nD Cert.UpdateQkvIdeal.τ).loc Cert.UpdateQkvIdeal.main_arg1)
          ∧ r.2.mem ((c.tc : Thread Cert.UpdateQkvIdeal.nD Cert.UpdateQkvIdeal.τ).loc Cert.UpdateQkvIdeal.main_arg2) = m ((c.tc : Thread Cert.UpdateQkvIdeal.nD Cert.UpdateQkvIdeal.τ).loc Cert.UpdateQkvIdeal.main_arg2)
          ∧ r.2.mem ((c.tc : Thread Cert.UpdateQkvIdeal.nD Cert.UpdateQkvIdeal.τ).loc Cert.UpdateQkvIdeal.main_arg3) = m ((c.tc : Thread Cert.UpdateQkvIdeal.nD Cert.UpdateQkvIdeal.τ).loc Cert.UpdateQkvIdeal.main_arg3))
      ∧ θ_run (Cert.UpdateQkvRefIdeal.defs (F := Ideal)) (onTc (τ := Cert.UpdateQkvRefIdeal.τ) (Cert.UpdateQkvRefIdeal.main (F := Ideal))) ⟨m', fun _ => 0, g'⟩ (fun r => ∀ c : Dev Cert.UpdateQkvRefIdeal.nD,
          r.2.mem ((c.tc : Thread Cert.UpdateQkvRefIdeal.nD Cert.UpdateQkvRefIdeal.τ).loc Cert.UpdateQkvRefIdeal.main_v23) = v0 c
          ∧ r.2.mem ((c.tc : Thread Cert.UpdateQkvRefIdeal.nD Cert.UpdateQkvRefIdeal.τ).loc Cert.UpdateQkvRefIdeal.main_v4) = v1 c
          ∧ r.2.mem ((c.tc : Thread Cert.UpdateQkvRefIdeal.nD Cert.UpdateQkvRefIdeal.τ).loc Cert.UpdateQkvRefIdeal.main_v10) = v2 c
          ∧ r.2.mem ((c.tc : Thread Cert.UpdateQkvRefIdeal.nD Cert.UpdateQkvRefIdeal.τ).loc Cert.UpdateQkvRefIdeal.main_arg0) = m' ((c.tc : Thread Cert.UpdateQkvRefIdeal.nD Cert.UpdateQkvRefIdeal.τ).loc Cert.UpdateQkvRefIdeal.main_arg0)
          ∧ r.2.mem ((c.tc : Thread Cert.UpdateQkvRefIdeal.nD Cert.UpdateQkvRefIdeal.τ).loc Cert.UpdateQkvRefIdeal.main_arg1) = m' ((c.tc : Thread Cert.UpdateQkvRefIdeal.nD Cert.UpdateQkvRefIdeal.τ).loc Cert.UpdateQkvRefIdeal.main_arg1)
          ∧ r.2.mem ((c.tc : Thread Cert.UpdateQkvRefIdeal.nD Cert.UpdateQkvRefIdeal.τ).loc Cert.UpdateQkvRefIdeal.main_arg2) = m' ((c.tc : Thread Cert.UpdateQkvRefIdeal.nD Cert.UpdateQkvRefIdeal.τ).loc Cert.UpdateQkvRefIdeal.main_arg2)
          ∧ r.2.mem ((c.tc : Thread Cert.UpdateQkvRefIdeal.nD Cert.UpdateQkvRefIdeal.τ).loc Cert.UpdateQkvRefIdeal.main_arg3) = m' ((c.tc : Thread Cert.UpdateQkvRefIdeal.nD Cert.UpdateQkvRefIdeal.τ).loc Cert.UpdateQkvRefIdeal.main_arg3))

def preserves_UpdateKv_UpdateKvIdeal : Prop :=
  True

def algebraic_UpdateKvIdeal_UpdateKvRefIdeal [hUpdateKvIdeal : Cert.UpdateKvIdeal.Facts] [hUpdateKvRefIdeal : Cert.UpdateKvRefIdeal.Facts] : Prop :=
  ∀ (m : (ℓ : Loc Cert.UpdateKvIdeal.nD Cert.UpdateKvIdeal.τ Cert.UpdateKvIdeal.sig) → Buf (Elt Ideal) ℓ) (g : Dev Cert.UpdateKvIdeal.nD → PrngReg)
    (m' : (ℓ : Loc Cert.UpdateKvRefIdeal.nD Cert.UpdateKvRefIdeal.τ Cert.UpdateKvRefIdeal.sig) → Buf (Elt Ideal) ℓ) (g' : Dev Cert.UpdateKvRefIdeal.nD → PrngReg), Pre_UpdateKvIdeal m →
    (∀ c : Dev Cert.UpdateKvIdeal.nD,
      m' ((c.tc : Thread Cert.UpdateKvRefIdeal.nD Cert.UpdateKvRefIdeal.τ).loc Cert.UpdateKvRefIdeal.main_arg0) = m ((c.tc : Thread Cert.UpdateKvIdeal.nD Cert.UpdateKvIdeal.τ).loc Cert.UpdateKvIdeal.main_arg0)
      ∧ m' ((c.tc : Thread Cert.UpdateKvRefIdeal.nD Cert.UpdateKvRefIdeal.τ).loc Cert.UpdateKvRefIdeal.main_arg1) = m ((c.tc : Thread Cert.UpdateKvIdeal.nD Cert.UpdateKvIdeal.τ).loc Cert.UpdateKvIdeal.main_arg1)
      ∧ m' ((c.tc : Thread Cert.UpdateKvRefIdeal.nD Cert.UpdateKvRefIdeal.τ).loc Cert.UpdateKvRefIdeal.main_arg2) = m ((c.tc : Thread Cert.UpdateKvIdeal.nD Cert.UpdateKvIdeal.τ).loc Cert.UpdateKvIdeal.main_arg2)
      ∧ m' ((c.tc : Thread Cert.UpdateKvRefIdeal.nD Cert.UpdateKvRefIdeal.τ).loc Cert.UpdateKvRefIdeal.main_arg3) = m ((c.tc : Thread Cert.UpdateKvIdeal.nD Cert.UpdateKvIdeal.τ).loc Cert.UpdateKvIdeal.main_arg3)) →
    ∃ (v0 : (c : Dev Cert.UpdateKvIdeal.nD) → Buf (Elt Ideal) ((c.tc : Thread Cert.UpdateKvIdeal.nD Cert.UpdateKvIdeal.τ).loc Cert.UpdateKvIdeal.main_v0_0)) (v1 : (c : Dev Cert.UpdateKvIdeal.nD) → Buf (Elt Ideal) ((c.tc : Thread Cert.UpdateKvIdeal.nD Cert.UpdateKvIdeal.τ).loc Cert.UpdateKvIdeal.main_v0_1)) (v2 : (c : Dev Cert.UpdateKvIdeal.nD) → Buf (Elt Ideal) ((c.tc : Thread Cert.UpdateKvIdeal.nD Cert.UpdateKvIdeal.τ).loc Cert.UpdateKvIdeal.main_v0_2)),
      θ_run (Cert.UpdateKvIdeal.defs (F := Ideal)) (onTc (τ := Cert.UpdateKvIdeal.τ) (Cert.UpdateKvIdeal.main (F := Ideal))) ⟨m, fun _ => 0, g⟩ (fun r => ∀ c : Dev Cert.UpdateKvIdeal.nD,
          r.2.mem ((c.tc : Thread Cert.UpdateKvIdeal.nD Cert.UpdateKvIdeal.τ).loc Cert.UpdateKvIdeal.main_v0_0) = v0 c
          ∧ r.2.mem ((c.tc : Thread Cert.UpdateKvIdeal.nD Cert.UpdateKvIdeal.τ).loc Cert.UpdateKvIdeal.main_v0_1) = v1 c
          ∧ r.2.mem ((c.tc : Thread Cert.UpdateKvIdeal.nD Cert.UpdateKvIdeal.τ).loc Cert.UpdateKvIdeal.main_v0_2) = v2 c
          ∧ r.2.mem ((c.tc : Thread Cert.UpdateKvIdeal.nD Cert.UpdateKvIdeal.τ).loc Cert.UpdateKvIdeal.main_arg0) = m ((c.tc : Thread Cert.UpdateKvIdeal.nD Cert.UpdateKvIdeal.τ).loc Cert.UpdateKvIdeal.main_arg0)
          ∧ r.2.mem ((c.tc : Thread Cert.UpdateKvIdeal.nD Cert.UpdateKvIdeal.τ).loc Cert.UpdateKvIdeal.main_arg1) = m ((c.tc : Thread Cert.UpdateKvIdeal.nD Cert.UpdateKvIdeal.τ).loc Cert.UpdateKvIdeal.main_arg1)
          ∧ r.2.mem ((c.tc : Thread Cert.UpdateKvIdeal.nD Cert.UpdateKvIdeal.τ).loc Cert.UpdateKvIdeal.main_arg2) = m ((c.tc : Thread Cert.UpdateKvIdeal.nD Cert.UpdateKvIdeal.τ).loc Cert.UpdateKvIdeal.main_arg2)
          ∧ r.2.mem ((c.tc : Thread Cert.UpdateKvIdeal.nD Cert.UpdateKvIdeal.τ).loc Cert.UpdateKvIdeal.main_arg3) = m ((c.tc : Thread Cert.UpdateKvIdeal.nD Cert.UpdateKvIdeal.τ).loc Cert.UpdateKvIdeal.main_arg3))
      ∧ θ_run (Cert.UpdateKvRefIdeal.defs (F := Ideal)) (onTc (τ := Cert.UpdateKvRefIdeal.τ) (Cert.UpdateKvRefIdeal.main (F := Ideal))) ⟨m', fun _ => 0, g'⟩ (fun r => ∀ c : Dev Cert.UpdateKvRefIdeal.nD,
          r.2.mem ((c.tc : Thread Cert.UpdateKvRefIdeal.nD Cert.UpdateKvRefIdeal.τ).loc Cert.UpdateKvRefIdeal.main_v23) = v0 c
          ∧ r.2.mem ((c.tc : Thread Cert.UpdateKvRefIdeal.nD Cert.UpdateKvRefIdeal.τ).loc Cert.UpdateKvRefIdeal.main_v4) = v1 c
          ∧ r.2.mem ((c.tc : Thread Cert.UpdateKvRefIdeal.nD Cert.UpdateKvRefIdeal.τ).loc Cert.UpdateKvRefIdeal.main_v10) = v2 c
          ∧ r.2.mem ((c.tc : Thread Cert.UpdateKvRefIdeal.nD Cert.UpdateKvRefIdeal.τ).loc Cert.UpdateKvRefIdeal.main_arg0) = m' ((c.tc : Thread Cert.UpdateKvRefIdeal.nD Cert.UpdateKvRefIdeal.τ).loc Cert.UpdateKvRefIdeal.main_arg0)
          ∧ r.2.mem ((c.tc : Thread Cert.UpdateKvRefIdeal.nD Cert.UpdateKvRefIdeal.τ).loc Cert.UpdateKvRefIdeal.main_arg1) = m' ((c.tc : Thread Cert.UpdateKvRefIdeal.nD Cert.UpdateKvRefIdeal.τ).loc Cert.UpdateKvRefIdeal.main_arg1)
          ∧ r.2.mem ((c.tc : Thread Cert.UpdateKvRefIdeal.nD Cert.UpdateKvRefIdeal.τ).loc Cert.UpdateKvRefIdeal.main_arg2) = m' ((c.tc : Thread Cert.UpdateKvRefIdeal.nD Cert.UpdateKvRefIdeal.τ).loc Cert.UpdateKvRefIdeal.main_arg2)
          ∧ r.2.mem ((c.tc : Thread Cert.UpdateKvRefIdeal.nD Cert.UpdateKvRefIdeal.τ).loc Cert.UpdateKvRefIdeal.main_arg3) = m' ((c.tc : Thread Cert.UpdateKvRefIdeal.nD Cert.UpdateKvRefIdeal.τ).loc Cert.UpdateKvRefIdeal.main_arg3))

def preserves_UpdateSquare_UpdateSquareIdeal : Prop :=
  True

def algebraic_UpdateSquareIdeal_UpdateSquareRefIdeal [hUpdateSquareIdeal : Cert.UpdateSquareIdeal.Facts] [hUpdateSquareRefIdeal : Cert.UpdateSquareRefIdeal.Facts] : Prop :=
  ∀ (m : (ℓ : Loc Cert.UpdateSquareIdeal.nD Cert.UpdateSquareIdeal.τ Cert.UpdateSquareIdeal.sig) → Buf (Elt Ideal) ℓ) (g : Dev Cert.UpdateSquareIdeal.nD → PrngReg)
    (m' : (ℓ : Loc Cert.UpdateSquareRefIdeal.nD Cert.UpdateSquareRefIdeal.τ Cert.UpdateSquareRefIdeal.sig) → Buf (Elt Ideal) ℓ) (g' : Dev Cert.UpdateSquareRefIdeal.nD → PrngReg), Pre_UpdateSquareIdeal m →
    (∀ c : Dev Cert.UpdateSquareIdeal.nD,
      m' ((c.tc : Thread Cert.UpdateSquareRefIdeal.nD Cert.UpdateSquareRefIdeal.τ).loc Cert.UpdateSquareRefIdeal.main_arg0) = m ((c.tc : Thread Cert.UpdateSquareIdeal.nD Cert.UpdateSquareIdeal.τ).loc Cert.UpdateSquareIdeal.main_arg0)
      ∧ m' ((c.tc : Thread Cert.UpdateSquareRefIdeal.nD Cert.UpdateSquareRefIdeal.τ).loc Cert.UpdateSquareRefIdeal.main_arg1) = m ((c.tc : Thread Cert.UpdateSquareIdeal.nD Cert.UpdateSquareIdeal.τ).loc Cert.UpdateSquareIdeal.main_arg1)
      ∧ m' ((c.tc : Thread Cert.UpdateSquareRefIdeal.nD Cert.UpdateSquareRefIdeal.τ).loc Cert.UpdateSquareRefIdeal.main_arg2) = m ((c.tc : Thread Cert.UpdateSquareIdeal.nD Cert.UpdateSquareIdeal.τ).loc Cert.UpdateSquareIdeal.main_arg2)
      ∧ m' ((c.tc : Thread Cert.UpdateSquareRefIdeal.nD Cert.UpdateSquareRefIdeal.τ).loc Cert.UpdateSquareRefIdeal.main_arg3) = m ((c.tc : Thread Cert.UpdateSquareIdeal.nD Cert.UpdateSquareIdeal.τ).loc Cert.UpdateSquareIdeal.main_arg3)) →
    ∃ (v0 : (c : Dev Cert.UpdateSquareIdeal.nD) → Buf (Elt Ideal) ((c.tc : Thread Cert.UpdateSquareIdeal.nD Cert.UpdateSquareIdeal.τ).loc Cert.UpdateSquareIdeal.main_v0_0)) (v1 : (c : Dev Cert.UpdateSquareIdeal.nD) → Buf (Elt Ideal) ((c.tc : Thread Cert.UpdateSquareIdeal.nD Cert.UpdateSquareIdeal.τ).loc Cert.UpdateSquareIdeal.main_v0_1)) (v2 : (c : Dev Cert.UpdateSquareIdeal.nD) → Buf (Elt Ideal) ((c.tc : Thread Cert.UpdateSquareIdeal.nD Cert.UpdateSquareIdeal.τ).loc Cert.UpdateSquareIdeal.main_v0_2)),
      θ_run (Cert.UpdateSquareIdeal.defs (F := Ideal)) (onTc (τ := Cert.UpdateSquareIdeal.τ) (Cert.UpdateSquareIdeal.main (F := Ideal))) ⟨m, fun _ => 0, g⟩ (fun r => ∀ c : Dev Cert.UpdateSquareIdeal.nD,
          r.2.mem ((c.tc : Thread Cert.UpdateSquareIdeal.nD Cert.UpdateSquareIdeal.τ).loc Cert.UpdateSquareIdeal.main_v0_0) = v0 c
          ∧ r.2.mem ((c.tc : Thread Cert.UpdateSquareIdeal.nD Cert.UpdateSquareIdeal.τ).loc Cert.UpdateSquareIdeal.main_v0_1) = v1 c
          ∧ r.2.mem ((c.tc : Thread Cert.UpdateSquareIdeal.nD Cert.UpdateSquareIdeal.τ).loc Cert.UpdateSquareIdeal.main_v0_2) = v2 c
          ∧ r.2.mem ((c.tc : Thread Cert.UpdateSquareIdeal.nD Cert.UpdateSquareIdeal.τ).loc Cert.UpdateSquareIdeal.main_arg0) = m ((c.tc : Thread Cert.UpdateSquareIdeal.nD Cert.UpdateSquareIdeal.τ).loc Cert.UpdateSquareIdeal.main_arg0)
          ∧ r.2.mem ((c.tc : Thread Cert.UpdateSquareIdeal.nD Cert.UpdateSquareIdeal.τ).loc Cert.UpdateSquareIdeal.main_arg1) = m ((c.tc : Thread Cert.UpdateSquareIdeal.nD Cert.UpdateSquareIdeal.τ).loc Cert.UpdateSquareIdeal.main_arg1)
          ∧ r.2.mem ((c.tc : Thread Cert.UpdateSquareIdeal.nD Cert.UpdateSquareIdeal.τ).loc Cert.UpdateSquareIdeal.main_arg2) = m ((c.tc : Thread Cert.UpdateSquareIdeal.nD Cert.UpdateSquareIdeal.τ).loc Cert.UpdateSquareIdeal.main_arg2)
          ∧ r.2.mem ((c.tc : Thread Cert.UpdateSquareIdeal.nD Cert.UpdateSquareIdeal.τ).loc Cert.UpdateSquareIdeal.main_arg3) = m ((c.tc : Thread Cert.UpdateSquareIdeal.nD Cert.UpdateSquareIdeal.τ).loc Cert.UpdateSquareIdeal.main_arg3))
      ∧ θ_run (Cert.UpdateSquareRefIdeal.defs (F := Ideal)) (onTc (τ := Cert.UpdateSquareRefIdeal.τ) (Cert.UpdateSquareRefIdeal.main (F := Ideal))) ⟨m', fun _ => 0, g'⟩ (fun r => ∀ c : Dev Cert.UpdateSquareRefIdeal.nD,
          r.2.mem ((c.tc : Thread Cert.UpdateSquareRefIdeal.nD Cert.UpdateSquareRefIdeal.τ).loc Cert.UpdateSquareRefIdeal.main_v23) = v0 c
          ∧ r.2.mem ((c.tc : Thread Cert.UpdateSquareRefIdeal.nD Cert.UpdateSquareRefIdeal.τ).loc Cert.UpdateSquareRefIdeal.main_v4) = v1 c
          ∧ r.2.mem ((c.tc : Thread Cert.UpdateSquareRefIdeal.nD Cert.UpdateSquareRefIdeal.τ).loc Cert.UpdateSquareRefIdeal.main_v10) = v2 c
          ∧ r.2.mem ((c.tc : Thread Cert.UpdateSquareRefIdeal.nD Cert.UpdateSquareRefIdeal.τ).loc Cert.UpdateSquareRefIdeal.main_arg0) = m' ((c.tc : Thread Cert.UpdateSquareRefIdeal.nD Cert.UpdateSquareRefIdeal.τ).loc Cert.UpdateSquareRefIdeal.main_arg0)
          ∧ r.2.mem ((c.tc : Thread Cert.UpdateSquareRefIdeal.nD Cert.UpdateSquareRefIdeal.τ).loc Cert.UpdateSquareRefIdeal.main_arg1) = m' ((c.tc : Thread Cert.UpdateSquareRefIdeal.nD Cert.UpdateSquareRefIdeal.τ).loc Cert.UpdateSquareRefIdeal.main_arg1)
          ∧ r.2.mem ((c.tc : Thread Cert.UpdateSquareRefIdeal.nD Cert.UpdateSquareRefIdeal.τ).loc Cert.UpdateSquareRefIdeal.main_arg2) = m' ((c.tc : Thread Cert.UpdateSquareRefIdeal.nD Cert.UpdateSquareRefIdeal.τ).loc Cert.UpdateSquareRefIdeal.main_arg2)
          ∧ r.2.mem ((c.tc : Thread Cert.UpdateSquareRefIdeal.nD Cert.UpdateSquareRefIdeal.τ).loc Cert.UpdateSquareRefIdeal.main_arg3) = m' ((c.tc : Thread Cert.UpdateSquareRefIdeal.nD Cert.UpdateSquareRefIdeal.τ).loc Cert.UpdateSquareRefIdeal.main_arg3))

def preserves_UpdateSmall_UpdateSmallIdeal : Prop :=
  True

def algebraic_UpdateSmallIdeal_UpdateSmallRefIdeal [hUpdateSmallIdeal : Cert.UpdateSmallIdeal.Facts] [hUpdateSmallRefIdeal : Cert.UpdateSmallRefIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg)
    (m' : (ℓ : Loc Cert.UpdateSmallRefIdeal.nD Cert.UpdateSmallRefIdeal.τ Cert.UpdateSmallRefIdeal.sig) → Buf (Elt Ideal) ℓ) (g' : Dev Cert.UpdateSmallRefIdeal.nD → PrngReg), Pre_UpdateSmallIdeal m →
    (∀ c : Dev Cert.UpdateSmallIdeal.nD,
      m' ((c.tc : Thread Cert.UpdateSmallRefIdeal.nD Cert.UpdateSmallRefIdeal.τ).loc Cert.UpdateSmallRefIdeal.main_arg0) = m ((c.tc : Thread Cert.UpdateSmallIdeal.nD Cert.UpdateSmallIdeal.τ).loc Cert.UpdateSmallIdeal.main_arg0)
      ∧ m' ((c.tc : Thread Cert.UpdateSmallRefIdeal.nD Cert.UpdateSmallRefIdeal.τ).loc Cert.UpdateSmallRefIdeal.main_arg1) = m ((c.tc : Thread Cert.UpdateSmallIdeal.nD Cert.UpdateSmallIdeal.τ).loc Cert.UpdateSmallIdeal.main_arg1)
      ∧ m' ((c.tc : Thread Cert.UpdateSmallRefIdeal.nD Cert.UpdateSmallRefIdeal.τ).loc Cert.UpdateSmallRefIdeal.main_arg2) = m ((c.tc : Thread Cert.UpdateSmallIdeal.nD Cert.UpdateSmallIdeal.τ).loc Cert.UpdateSmallIdeal.main_arg2)
      ∧ m' ((c.tc : Thread Cert.UpdateSmallRefIdeal.nD Cert.UpdateSmallRefIdeal.τ).loc Cert.UpdateSmallRefIdeal.main_arg3) = m ((c.tc : Thread Cert.UpdateSmallIdeal.nD Cert.UpdateSmallIdeal.τ).loc Cert.UpdateSmallIdeal.main_arg3)) →
    ∃ (v0 : (c : Dev Cert.UpdateSmallIdeal.nD) → Buf (Elt Ideal) ((c.tc : Thread Cert.UpdateSmallIdeal.nD Cert.UpdateSmallIdeal.τ).loc Cert.UpdateSmallIdeal.main_v0_0)) (v1 : (c : Dev Cert.UpdateSmallIdeal.nD) → Buf (Elt Ideal) ((c.tc : Thread Cert.UpdateSmallIdeal.nD Cert.UpdateSmallIdeal.τ).loc Cert.UpdateSmallIdeal.main_v0_1)) (v2 : (c : Dev Cert.UpdateSmallIdeal.nD) → Buf (Elt Ideal) ((c.tc : Thread Cert.UpdateSmallIdeal.nD Cert.UpdateSmallIdeal.τ).loc Cert.UpdateSmallIdeal.main_v0_2)),
      θ_run (Cert.UpdateSmallIdeal.defs (F := Ideal)) (onTc (τ := Cert.UpdateSmallIdeal.τ) (Cert.UpdateSmallIdeal.main (F := Ideal))) ⟨m, fun _ => 0, g⟩ (fun r => ∀ c : Dev Cert.UpdateSmallIdeal.nD,
          r.2.mem ((c.tc : Thread Cert.UpdateSmallIdeal.nD Cert.UpdateSmallIdeal.τ).loc Cert.UpdateSmallIdeal.main_v0_0) = v0 c
          ∧ r.2.mem ((c.tc : Thread Cert.UpdateSmallIdeal.nD Cert.UpdateSmallIdeal.τ).loc Cert.UpdateSmallIdeal.main_v0_1) = v1 c
          ∧ r.2.mem ((c.tc : Thread Cert.UpdateSmallIdeal.nD Cert.UpdateSmallIdeal.τ).loc Cert.UpdateSmallIdeal.main_v0_2) = v2 c
          ∧ r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
          ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
          ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
          ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ θ_run (Cert.UpdateSmallRefIdeal.defs (F := Ideal)) (onTc (τ := Cert.UpdateSmallRefIdeal.τ) (Cert.UpdateSmallRefIdeal.main (F := Ideal))) ⟨m', fun _ => 0, g'⟩ (fun r => ∀ c : Dev Cert.UpdateSmallRefIdeal.nD,
          r.2.mem ((c.tc : Thread Cert.UpdateSmallRefIdeal.nD Cert.UpdateSmallRefIdeal.τ).loc Cert.UpdateSmallRefIdeal.main_v23) = v0 c
          ∧ r.2.mem ((c.tc : Thread Cert.UpdateSmallRefIdeal.nD Cert.UpdateSmallRefIdeal.τ).loc Cert.UpdateSmallRefIdeal.main_v4) = v1 c
          ∧ r.2.mem ((c.tc : Thread Cert.UpdateSmallRefIdeal.nD Cert.UpdateSmallRefIdeal.τ).loc Cert.UpdateSmallRefIdeal.main_v10) = v2 c
          ∧ r.2.mem ((c.tc : Thread Cert.UpdateSmallRefIdeal.nD Cert.UpdateSmallRefIdeal.τ).loc Cert.UpdateSmallRefIdeal.main_arg0) = m' ((c.tc : Thread Cert.UpdateSmallRefIdeal.nD Cert.UpdateSmallRefIdeal.τ).loc Cert.UpdateSmallRefIdeal.main_arg0)
          ∧ r.2.mem ((c.tc : Thread Cert.UpdateSmallRefIdeal.nD Cert.UpdateSmallRefIdeal.τ).loc Cert.UpdateSmallRefIdeal.main_arg1) = m' ((c.tc : Thread Cert.UpdateSmallRefIdeal.nD Cert.UpdateSmallRefIdeal.τ).loc Cert.UpdateSmallRefIdeal.main_arg1)
          ∧ r.2.mem ((c.tc : Thread Cert.UpdateSmallRefIdeal.nD Cert.UpdateSmallRefIdeal.τ).loc Cert.UpdateSmallRefIdeal.main_arg2) = m' ((c.tc : Thread Cert.UpdateSmallRefIdeal.nD Cert.UpdateSmallRefIdeal.τ).loc Cert.UpdateSmallRefIdeal.main_arg2)
          ∧ r.2.mem ((c.tc : Thread Cert.UpdateSmallRefIdeal.nD Cert.UpdateSmallRefIdeal.τ).loc Cert.UpdateSmallRefIdeal.main_arg3) = m' ((c.tc : Thread Cert.UpdateSmallRefIdeal.nD Cert.UpdateSmallRefIdeal.τ).loc Cert.UpdateSmallRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v2)) (v1 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v6) = v0 c
          ∧ r.2.mem ((c.tc : Thread Cert.LossRefIdeal.nD Cert.LossRefIdeal.τ).loc Cert.LossRefIdeal.main_v9) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v4) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v6) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v5) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v5) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v5) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v5) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v2) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v23) = v0 c
          ∧ r.2.mem ((c.tc : Thread Cert.NormBwdRefIdeal.nD Cert.NormBwdRefIdeal.τ).loc Cert.NormBwdRefIdeal.main_v25) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v4) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0))

def preserves_ActBwd_ActBwdIdeal : Prop :=
  True

def algebraic_ActBwdIdeal_ActBwdRefIdeal [hActBwdIdeal : Cert.ActBwdIdeal.Facts] [hActBwdRefIdeal : Cert.ActBwdRefIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActBwdRefIdeal.nD Cert.ActBwdRefIdeal.τ Cert.ActBwdRefIdeal.sig) → Buf (Elt Ideal) ℓ) (g' : Dev Cert.ActBwdRefIdeal.nD → PrngReg), Pre_ActBwdIdeal m →
    (∀ c : Dev Cert.ActBwdIdeal.nD,
      m' ((c.tc : Thread Cert.ActBwdRefIdeal.nD Cert.ActBwdRefIdeal.τ).loc Cert.ActBwdRefIdeal.main_arg0) = m ((c.tc : Thread Cert.ActBwdIdeal.nD Cert.ActBwdIdeal.τ).loc Cert.ActBwdIdeal.main_arg0)
      ∧ m' ((c.tc : Thread Cert.ActBwdRefIdeal.nD Cert.ActBwdRefIdeal.τ).loc Cert.ActBwdRefIdeal.main_arg1) = m ((c.tc : Thread Cert.ActBwdIdeal.nD Cert.ActBwdIdeal.τ).loc Cert.ActBwdIdeal.main_arg1)) →
    ∃ (v0 : (c : Dev Cert.ActBwdIdeal.nD) → Buf (Elt Ideal) ((c.tc : Thread Cert.ActBwdIdeal.nD Cert.ActBwdIdeal.τ).loc Cert.ActBwdIdeal.main_v0)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v0) = v0 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1))
      ∧ θ_run (Cert.ActBwdRefIdeal.defs (F := Ideal)) (onTc (τ := Cert.ActBwdRefIdeal.τ) (Cert.ActBwdRefIdeal.main (F := Ideal))) ⟨m', fun _ => 0, g'⟩ (fun r => ∀ c : Dev Cert.ActBwdRefIdeal.nD,
          r.2.mem ((c.tc : Thread Cert.ActBwdRefIdeal.nD Cert.ActBwdRefIdeal.τ).loc Cert.ActBwdRefIdeal.main_v18) = v0 c
          ∧ r.2.mem ((c.tc : Thread Cert.ActBwdRefIdeal.nD Cert.ActBwdRefIdeal.τ).loc Cert.ActBwdRefIdeal.main_arg0) = m' ((c.tc : Thread Cert.ActBwdRefIdeal.nD Cert.ActBwdRefIdeal.τ).loc Cert.ActBwdRefIdeal.main_arg0)
          ∧ r.2.mem ((c.tc : Thread Cert.ActBwdRefIdeal.nD Cert.ActBwdRefIdeal.τ).loc Cert.ActBwdRefIdeal.main_arg1) = m' ((c.tc : Thread Cert.ActBwdRefIdeal.nD Cert.ActBwdRefIdeal.τ).loc Cert.ActBwdRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v5) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v4) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_QueryDw_QueryDwIdeal : Prop :=
  True

def algebraic_QueryDwIdeal_QueryDwRefIdeal [hQueryDwIdeal : Cert.QueryDwIdeal.Facts] [hQueryDwRefIdeal : Cert.QueryDwRefIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg)
    (m' : (ℓ : Loc Cert.QueryDwRefIdeal.nD Cert.QueryDwRefIdeal.τ Cert.QueryDwRefIdeal.sig) → Buf (Elt Ideal) ℓ) (g' : Dev Cert.QueryDwRefIdeal.nD → PrngReg), Pre_QueryDwIdeal m →
    (∀ c : Dev Cert.QueryDwIdeal.nD,
      m' ((c.tc : Thread Cert.QueryDwRefIdeal.nD Cert.QueryDwRefIdeal.τ).loc Cert.QueryDwRefIdeal.main_arg0) = m ((c.tc : Thread Cert.QueryDwIdeal.nD Cert.QueryDwIdeal.τ).loc Cert.QueryDwIdeal.main_arg0)
      ∧ m' ((c.tc : Thread Cert.QueryDwRefIdeal.nD Cert.QueryDwRefIdeal.τ).loc Cert.QueryDwRefIdeal.main_arg1) = m ((c.tc : Thread Cert.QueryDwIdeal.nD Cert.QueryDwIdeal.τ).loc Cert.QueryDwIdeal.main_arg1)) →
    ∃ (v0 : (c : Dev Cert.QueryDwIdeal.nD) → Buf (Elt Ideal) ((c.tc : Thread Cert.QueryDwIdeal.nD Cert.QueryDwIdeal.τ).loc Cert.QueryDwIdeal.main_v0)),
      θ_run (Cert.QueryDwIdeal.defs (F := Ideal)) (onTc (τ := Cert.QueryDwIdeal.τ) (Cert.QueryDwIdeal.main (F := Ideal))) ⟨m, fun _ => 0, g⟩ (fun r => ∀ c : Dev Cert.QueryDwIdeal.nD,
          r.2.mem ((c.tc : Thread Cert.QueryDwIdeal.nD Cert.QueryDwIdeal.τ).loc Cert.QueryDwIdeal.main_v0) = v0 c
          ∧ r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
          ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ θ_run (Cert.QueryDwRefIdeal.defs (F := Ideal)) (onTc (τ := Cert.QueryDwRefIdeal.τ) (Cert.QueryDwRefIdeal.main (F := Ideal))) ⟨m', fun _ => 0, g'⟩ (fun r => ∀ c : Dev Cert.QueryDwRefIdeal.nD,
          r.2.mem ((c.tc : Thread Cert.QueryDwRefIdeal.nD Cert.QueryDwRefIdeal.τ).loc Cert.QueryDwRefIdeal.main_v4) = v0 c
          ∧ r.2.mem ((c.tc : Thread Cert.QueryDwRefIdeal.nD Cert.QueryDwRefIdeal.τ).loc Cert.QueryDwRefIdeal.main_arg0) = m' ((c.tc : Thread Cert.QueryDwRefIdeal.nD Cert.QueryDwRefIdeal.τ).loc Cert.QueryDwRefIdeal.main_arg0)
          ∧ r.2.mem ((c.tc : Thread Cert.QueryDwRefIdeal.nD Cert.QueryDwRefIdeal.τ).loc Cert.QueryDwRefIdeal.main_arg1) = m' ((c.tc : Thread Cert.QueryDwRefIdeal.nD Cert.QueryDwRefIdeal.τ).loc Cert.QueryDwRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v2) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_QkvIn_QkvInIdeal : Prop :=
  True

def algebraic_QkvInIdeal_QkvInRefIdeal [hQkvInIdeal : Cert.QkvInIdeal.Facts] [hQkvInRefIdeal : Cert.QkvInRefIdeal.Facts] : Prop :=
  ∀ (m : (ℓ : Loc Cert.QkvInIdeal.nD Cert.QkvInIdeal.τ Cert.QkvInIdeal.sig) → Buf (Elt Ideal) ℓ) (g : Dev Cert.QkvInIdeal.nD → PrngReg)
    (m' : (ℓ : Loc Cert.QkvInRefIdeal.nD Cert.QkvInRefIdeal.τ Cert.QkvInRefIdeal.sig) → Buf (Elt Ideal) ℓ) (g' : Dev Cert.QkvInRefIdeal.nD → PrngReg), Pre_QkvInIdeal m →
    (∀ c : Dev Cert.QkvInIdeal.nD,
      m' ((c.tc : Thread Cert.QkvInRefIdeal.nD Cert.QkvInRefIdeal.τ).loc Cert.QkvInRefIdeal.main_arg0) = m ((c.tc : Thread Cert.QkvInIdeal.nD Cert.QkvInIdeal.τ).loc Cert.QkvInIdeal.main_arg0)
      ∧ m' ((c.tc : Thread Cert.QkvInRefIdeal.nD Cert.QkvInRefIdeal.τ).loc Cert.QkvInRefIdeal.main_arg1) = m ((c.tc : Thread Cert.QkvInIdeal.nD Cert.QkvInIdeal.τ).loc Cert.QkvInIdeal.main_arg1)) →
    ∃ (v0 : (c : Dev Cert.QkvInIdeal.nD) → Buf (Elt Ideal) ((c.tc : Thread Cert.QkvInIdeal.nD Cert.QkvInIdeal.τ).loc Cert.QkvInIdeal.main_v0)),
      θ_run (Cert.QkvInIdeal.defs (F := Ideal)) (onTc (τ := Cert.QkvInIdeal.τ) (Cert.QkvInIdeal.main (F := Ideal))) ⟨m, fun _ => 0, g⟩ (fun r => ∀ c : Dev Cert.QkvInIdeal.nD,
          r.2.mem ((c.tc : Thread Cert.QkvInIdeal.nD Cert.QkvInIdeal.τ).loc Cert.QkvInIdeal.main_v0) = v0 c
          ∧ r.2.mem ((c.tc : Thread Cert.QkvInIdeal.nD Cert.QkvInIdeal.τ).loc Cert.QkvInIdeal.main_arg0) = m ((c.tc : Thread Cert.QkvInIdeal.nD Cert.QkvInIdeal.τ).loc Cert.QkvInIdeal.main_arg0)
          ∧ r.2.mem ((c.tc : Thread Cert.QkvInIdeal.nD Cert.QkvInIdeal.τ).loc Cert.QkvInIdeal.main_arg1) = m ((c.tc : Thread Cert.QkvInIdeal.nD Cert.QkvInIdeal.τ).loc Cert.QkvInIdeal.main_arg1))
      ∧ θ_run (Cert.QkvInRefIdeal.defs (F := Ideal)) (onTc (τ := Cert.QkvInRefIdeal.τ) (Cert.QkvInRefIdeal.main (F := Ideal))) ⟨m', fun _ => 0, g'⟩ (fun r => ∀ c : Dev Cert.QkvInRefIdeal.nD,
          r.2.mem ((c.tc : Thread Cert.QkvInRefIdeal.nD Cert.QkvInRefIdeal.τ).loc Cert.QkvInRefIdeal.main_v4) = v0 c
          ∧ r.2.mem ((c.tc : Thread Cert.QkvInRefIdeal.nD Cert.QkvInRefIdeal.τ).loc Cert.QkvInRefIdeal.main_arg0) = m' ((c.tc : Thread Cert.QkvInRefIdeal.nD Cert.QkvInRefIdeal.τ).loc Cert.QkvInRefIdeal.main_arg0)
          ∧ r.2.mem ((c.tc : Thread Cert.QkvInRefIdeal.nD Cert.QkvInRefIdeal.τ).loc Cert.QkvInRefIdeal.main_arg1) = m' ((c.tc : Thread Cert.QkvInRefIdeal.nD Cert.QkvInRefIdeal.τ).loc Cert.QkvInRefIdeal.main_arg1))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)) →
    ∃ (v0 : (c : Dev Cert.QkvDxIdeal.nD) → Buf (Elt Ideal) ((c.tc : Thread Cert.QkvDxIdeal.nD Cert.QkvDxIdeal.τ).loc Cert.QkvDxIdeal.main_v0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v5) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1))

def preserves_KvIn_KvInIdeal : Prop :=
  True

def algebraic_KvInIdeal_KvInRefIdeal [hKvInIdeal : Cert.KvInIdeal.Facts] [hKvInRefIdeal : Cert.KvInRefIdeal.Facts] : Prop :=
  ∀ (m : (ℓ : Loc Cert.KvInIdeal.nD Cert.KvInIdeal.τ Cert.KvInIdeal.sig) → Buf (Elt Ideal) ℓ) (g : Dev Cert.KvInIdeal.nD → PrngReg)
    (m' : (ℓ : Loc Cert.KvInRefIdeal.nD Cert.KvInRefIdeal.τ Cert.KvInRefIdeal.sig) → Buf (Elt Ideal) ℓ) (g' : Dev Cert.KvInRefIdeal.nD → PrngReg), Pre_KvInIdeal m →
    (∀ c : Dev Cert.KvInIdeal.nD,
      m' ((c.tc : Thread Cert.KvInRefIdeal.nD Cert.KvInRefIdeal.τ).loc Cert.KvInRefIdeal.main_arg0) = m ((c.tc : Thread Cert.KvInIdeal.nD Cert.KvInIdeal.τ).loc Cert.KvInIdeal.main_arg0)
      ∧ m' ((c.tc : Thread Cert.KvInRefIdeal.nD Cert.KvInRefIdeal.τ).loc Cert.KvInRefIdeal.main_arg1) = m ((c.tc : Thread Cert.KvInIdeal.nD Cert.KvInIdeal.τ).loc Cert.KvInIdeal.main_arg1)) →
    ∃ (v0 : (c : Dev Cert.KvInIdeal.nD) → Buf (Elt Ideal) ((c.tc : Thread Cert.KvInIdeal.nD Cert.KvInIdeal.τ).loc Cert.KvInIdeal.main_v0)),
      θ_run (Cert.KvInIdeal.defs (F := Ideal)) (onTc (τ := Cert.KvInIdeal.τ) (Cert.KvInIdeal.main (F := Ideal))) ⟨m, fun _ => 0, g⟩ (fun r => ∀ c : Dev Cert.KvInIdeal.nD,
          r.2.mem ((c.tc : Thread Cert.KvInIdeal.nD Cert.KvInIdeal.τ).loc Cert.KvInIdeal.main_v0) = v0 c
          ∧ r.2.mem ((c.tc : Thread Cert.KvInIdeal.nD Cert.KvInIdeal.τ).loc Cert.KvInIdeal.main_arg0) = m ((c.tc : Thread Cert.KvInIdeal.nD Cert.KvInIdeal.τ).loc Cert.KvInIdeal.main_arg0)
          ∧ r.2.mem ((c.tc : Thread Cert.KvInIdeal.nD Cert.KvInIdeal.τ).loc Cert.KvInIdeal.main_arg1) = m ((c.tc : Thread Cert.KvInIdeal.nD Cert.KvInIdeal.τ).loc Cert.KvInIdeal.main_arg1))
      ∧ θ_run (Cert.KvInRefIdeal.defs (F := Ideal)) (onTc (τ := Cert.KvInRefIdeal.τ) (Cert.KvInRefIdeal.main (F := Ideal))) ⟨m', fun _ => 0, g'⟩ (fun r => ∀ c : Dev Cert.KvInRefIdeal.nD,
          r.2.mem ((c.tc : Thread Cert.KvInRefIdeal.nD Cert.KvInRefIdeal.τ).loc Cert.KvInRefIdeal.main_v3) = v0 c
          ∧ r.2.mem ((c.tc : Thread Cert.KvInRefIdeal.nD Cert.KvInRefIdeal.τ).loc Cert.KvInRefIdeal.main_arg0) = m' ((c.tc : Thread Cert.KvInRefIdeal.nD Cert.KvInRefIdeal.τ).loc Cert.KvInRefIdeal.main_arg0)
          ∧ r.2.mem ((c.tc : Thread Cert.KvInRefIdeal.nD Cert.KvInRefIdeal.τ).loc Cert.KvInRefIdeal.main_arg1) = m' ((c.tc : Thread Cert.KvInRefIdeal.nD Cert.KvInRefIdeal.τ).loc Cert.KvInRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v0)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v4) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_QueryIn_QueryInIdeal : Prop :=
  True

def algebraic_QueryInIdeal_QueryInRefIdeal [hQueryInIdeal : Cert.QueryInIdeal.Facts] [hQueryInRefIdeal : Cert.QueryInRefIdeal.Facts] : Prop :=
  ∀ (m : (ℓ : Loc Cert.QueryInIdeal.nD Cert.QueryInIdeal.τ Cert.QueryInIdeal.sig) → Buf (Elt Ideal) ℓ) (g : Dev Cert.QueryInIdeal.nD → PrngReg)
    (m' : (ℓ : Loc Cert.QueryInRefIdeal.nD Cert.QueryInRefIdeal.τ Cert.QueryInRefIdeal.sig) → Buf (Elt Ideal) ℓ) (g' : Dev Cert.QueryInRefIdeal.nD → PrngReg), Pre_QueryInIdeal m →
    (∀ c : Dev Cert.QueryInIdeal.nD,
      m' ((c.tc : Thread Cert.QueryInRefIdeal.nD Cert.QueryInRefIdeal.τ).loc Cert.QueryInRefIdeal.main_arg0) = m ((c.tc : Thread Cert.QueryInIdeal.nD Cert.QueryInIdeal.τ).loc Cert.QueryInIdeal.main_arg0)
      ∧ m' ((c.tc : Thread Cert.QueryInRefIdeal.nD Cert.QueryInRefIdeal.τ).loc Cert.QueryInRefIdeal.main_arg1) = m ((c.tc : Thread Cert.QueryInIdeal.nD Cert.QueryInIdeal.τ).loc Cert.QueryInIdeal.main_arg1)) →
    ∃ (v0 : (c : Dev Cert.QueryInIdeal.nD) → Buf (Elt Ideal) ((c.tc : Thread Cert.QueryInIdeal.nD Cert.QueryInIdeal.τ).loc Cert.QueryInIdeal.main_v0)),
      θ_run (Cert.QueryInIdeal.defs (F := Ideal)) (onTc (τ := Cert.QueryInIdeal.τ) (Cert.QueryInIdeal.main (F := Ideal))) ⟨m, fun _ => 0, g⟩ (fun r => ∀ c : Dev Cert.QueryInIdeal.nD,
          r.2.mem ((c.tc : Thread Cert.QueryInIdeal.nD Cert.QueryInIdeal.τ).loc Cert.QueryInIdeal.main_v0) = v0 c
          ∧ r.2.mem ((c.tc : Thread Cert.QueryInIdeal.nD Cert.QueryInIdeal.τ).loc Cert.QueryInIdeal.main_arg0) = m ((c.tc : Thread Cert.QueryInIdeal.nD Cert.QueryInIdeal.τ).loc Cert.QueryInIdeal.main_arg0)
          ∧ r.2.mem ((c.tc : Thread Cert.QueryInIdeal.nD Cert.QueryInIdeal.τ).loc Cert.QueryInIdeal.main_arg1) = m ((c.tc : Thread Cert.QueryInIdeal.nD Cert.QueryInIdeal.τ).loc Cert.QueryInIdeal.main_arg1))
      ∧ θ_run (Cert.QueryInRefIdeal.defs (F := Ideal)) (onTc (τ := Cert.QueryInRefIdeal.τ) (Cert.QueryInRefIdeal.main (F := Ideal))) ⟨m', fun _ => 0, g'⟩ (fun r => ∀ c : Dev Cert.QueryInRefIdeal.nD,
          r.2.mem ((c.tc : Thread Cert.QueryInRefIdeal.nD Cert.QueryInRefIdeal.τ).loc Cert.QueryInRefIdeal.main_v3) = v0 c
          ∧ r.2.mem ((c.tc : Thread Cert.QueryInRefIdeal.nD Cert.QueryInRefIdeal.τ).loc Cert.QueryInRefIdeal.main_arg0) = m' ((c.tc : Thread Cert.QueryInRefIdeal.nD Cert.QueryInRefIdeal.τ).loc Cert.QueryInRefIdeal.main_arg0)
          ∧ r.2.mem ((c.tc : Thread Cert.QueryInRefIdeal.nD Cert.QueryInRefIdeal.τ).loc Cert.QueryInRefIdeal.main_arg1) = m' ((c.tc : Thread Cert.QueryInRefIdeal.nD Cert.QueryInRefIdeal.τ).loc Cert.QueryInRefIdeal.main_arg1))

def preserves_QueryDx_QueryDxIdeal : Prop :=
  True

def algebraic_QueryDxIdeal_QueryDxRefIdeal [hQueryDxIdeal : Cert.QueryDxIdeal.Facts] [hQueryDxRefIdeal : Cert.QueryDxRefIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg)
    (m' : (ℓ : Loc Cert.QueryDxRefIdeal.nD Cert.QueryDxRefIdeal.τ Cert.QueryDxRefIdeal.sig) → Buf (Elt Ideal) ℓ) (g' : Dev Cert.QueryDxRefIdeal.nD → PrngReg), Pre_QueryDxIdeal m →
    (∀ c : Dev Cert.QueryDxIdeal.nD,
      m' ((c.tc : Thread Cert.QueryDxRefIdeal.nD Cert.QueryDxRefIdeal.τ).loc Cert.QueryDxRefIdeal.main_arg0) = m ((c.tc : Thread Cert.QueryDxIdeal.nD Cert.QueryDxIdeal.τ).loc Cert.QueryDxIdeal.main_arg0)
      ∧ m' ((c.tc : Thread Cert.QueryDxRefIdeal.nD Cert.QueryDxRefIdeal.τ).loc Cert.QueryDxRefIdeal.main_arg1) = m ((c.tc : Thread Cert.QueryDxIdeal.nD Cert.QueryDxIdeal.τ).loc Cert.QueryDxIdeal.main_arg1)) →
    ∃ (v0 : (c : Dev Cert.QueryDxIdeal.nD) → Buf (Elt Ideal) ((c.tc : Thread Cert.QueryDxIdeal.nD Cert.QueryDxIdeal.τ).loc Cert.QueryDxIdeal.main_v0)),
      θ_run (Cert.QueryDxIdeal.defs (F := Ideal)) (onTc (τ := Cert.QueryDxIdeal.τ) (Cert.QueryDxIdeal.main (F := Ideal))) ⟨m, fun _ => 0, g⟩ (fun r => ∀ c : Dev Cert.QueryDxIdeal.nD,
          r.2.mem ((c.tc : Thread Cert.QueryDxIdeal.nD Cert.QueryDxIdeal.τ).loc Cert.QueryDxIdeal.main_v0) = v0 c
          ∧ r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
          ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1))
      ∧ θ_run (Cert.QueryDxRefIdeal.defs (F := Ideal)) (onTc (τ := Cert.QueryDxRefIdeal.τ) (Cert.QueryDxRefIdeal.main (F := Ideal))) ⟨m', fun _ => 0, g'⟩ (fun r => ∀ c : Dev Cert.QueryDxRefIdeal.nD,
          r.2.mem ((c.tc : Thread Cert.QueryDxRefIdeal.nD Cert.QueryDxRefIdeal.τ).loc Cert.QueryDxRefIdeal.main_v4) = v0 c
          ∧ r.2.mem ((c.tc : Thread Cert.QueryDxRefIdeal.nD Cert.QueryDxRefIdeal.τ).loc Cert.QueryDxRefIdeal.main_arg0) = m' ((c.tc : Thread Cert.QueryDxRefIdeal.nD Cert.QueryDxRefIdeal.τ).loc Cert.QueryDxRefIdeal.main_arg0)
          ∧ r.2.mem ((c.tc : Thread Cert.QueryDxRefIdeal.nD Cert.QueryDxRefIdeal.τ).loc Cert.QueryDxRefIdeal.main_arg1) = m' ((c.tc : Thread Cert.QueryDxRefIdeal.nD Cert.QueryDxRefIdeal.τ).loc Cert.QueryDxRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)) →
    ∃ (v0 : (c : Dev Cert.MixDxIdeal.nD) → Buf (Elt Ideal) ((c.tc : Thread Cert.MixDxIdeal.nD Cert.MixDxIdeal.τ).loc Cert.MixDxIdeal.main_v0)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v0) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v3) = v0 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1))

def preserves_GateBwd_GateBwdIdeal : Prop :=
  True

def algebraic_GateBwdIdeal_GateBwdRefIdeal_pre_dcum_finite [hGateBwdIdeal : Cert.GateBwdIdeal.Facts] [hGateBwdRefIdeal : Cert.GateBwdRefIdeal.Facts] [hPre_dcum_finite : Cert.Pre_dcum_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_dcum_finite m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v5_0)) (v1 : (c : Dev Cert.GateBwdIdeal.nD) → Buf (Elt Ideal) ((c.tc : Thread Cert.GateBwdIdeal.nD Cert.GateBwdIdeal.τ).loc Cert.GateBwdIdeal.main_v6)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v5_0) = v0 c
          ∧ r.2.mem ((c.tc : Thread Cert.GateBwdIdeal.nD Cert.GateBwdIdeal.τ).loc Cert.GateBwdIdeal.main_v6) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v16) = v0 c
          ∧ r.2.mem ((c.tc : Thread Cert.GateBwdRefIdeal.nD Cert.GateBwdRefIdeal.τ).loc Cert.GateBwdRefIdeal.main_v17) = v1 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v7) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def Claim : Prop :=
  ∃ (hGather : Cert.Gather.Facts) (hGatherIdeal : Cert.GatherIdeal.Facts) (hGatherRefIdeal : Cert.GatherRefIdeal.Facts) (hGatherRef : Cert.GatherRef.Facts) (hSwap : Cert.Swap.Facts) (hSwapIdeal : Cert.SwapIdeal.Facts) (hSwapRefIdeal : Cert.SwapRefIdeal.Facts) (hSwapRef : Cert.SwapRef.Facts) (hScatter : Cert.Scatter.Facts) (hScatterIdeal : Cert.ScatterIdeal.Facts) (hScatterRefIdeal : Cert.ScatterRefIdeal.Facts) (hScatterRef : Cert.ScatterRef.Facts) (hJoin : Cert.Join.Facts) (hJoinIdeal : Cert.JoinIdeal.Facts) (hJoinRefIdeal : Cert.JoinRefIdeal.Facts) (hJoinRef : Cert.JoinRef.Facts) (hTotal : Cert.Total.Facts) (hTotalIdeal : Cert.TotalIdeal.Facts) (hTotalRefIdeal : Cert.TotalRefIdeal.Facts) (hTotalSmall : Cert.TotalSmall.Facts) (hTotalSmallIdeal : Cert.TotalSmallIdeal.Facts) (hTotalSmallRefIdeal : Cert.TotalSmallRefIdeal.Facts) (hUpdateFfnIn : Cert.UpdateFfnIn.Facts) (hUpdateFfnInIdeal : Cert.UpdateFfnInIdeal.Facts) (hUpdateFfnInRefIdeal : Cert.UpdateFfnInRefIdeal.Facts) (hUpdateFfnOut : Cert.UpdateFfnOut.Facts) (hUpdateFfnOutIdeal : Cert.UpdateFfnOutIdeal.Facts) (hUpdateFfnOutRefIdeal : Cert.UpdateFfnOutRefIdeal.Facts) (hUpdateQkv : Cert.UpdateQkv.Facts) (hUpdateQkvIdeal : Cert.UpdateQkvIdeal.Facts) (hUpdateQkvRefIdeal : Cert.UpdateQkvRefIdeal.Facts) (hUpdateKv : Cert.UpdateKv.Facts) (hUpdateKvIdeal : Cert.UpdateKvIdeal.Facts) (hUpdateKvRefIdeal : Cert.UpdateKvRefIdeal.Facts) (hUpdateSquare : Cert.UpdateSquare.Facts) (hUpdateSquareIdeal : Cert.UpdateSquareIdeal.Facts) (hUpdateSquareRefIdeal : Cert.UpdateSquareRefIdeal.Facts) (hUpdateSmall : Cert.UpdateSmall.Facts) (hUpdateSmallIdeal : Cert.UpdateSmallIdeal.Facts) (hUpdateSmallRefIdeal : Cert.UpdateSmallRefIdeal.Facts) (hLoss : Cert.Loss.Facts) (hLossIdeal : Cert.LossIdeal.Facts) (hLossRefIdeal : Cert.LossRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hFfnOutDx : Cert.FfnOutDx.Facts) (hFfnOutDxIdeal : Cert.FfnOutDxIdeal.Facts) (hFfnOutDxRefIdeal : Cert.FfnOutDxRefIdeal.Facts) (hFfnOutDw : Cert.FfnOutDw.Facts) (hFfnOutDwIdeal : Cert.FfnOutDwIdeal.Facts) (hFfnOutDwRefIdeal : Cert.FfnOutDwRefIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hNorm : Cert.Norm.Facts) (hNormIdeal : Cert.NormIdeal.Facts) (hNormRefIdeal : Cert.NormRefIdeal.Facts) (hNormBwd : Cert.NormBwd.Facts) (hNormBwdIdeal : Cert.NormBwdIdeal.Facts) (hNormBwdRefIdeal : Cert.NormBwdRefIdeal.Facts) (hAct : Cert.Act.Facts) (hActIdeal : Cert.ActIdeal.Facts) (hActRefIdeal : Cert.ActRefIdeal.Facts) (hActBwd : Cert.ActBwd.Facts) (hActBwdIdeal : Cert.ActBwdIdeal.Facts) (hActBwdRefIdeal : Cert.ActBwdRefIdeal.Facts) (hQkvDw : Cert.QkvDw.Facts) (hQkvDwIdeal : Cert.QkvDwIdeal.Facts) (hQkvDwRefIdeal : Cert.QkvDwRefIdeal.Facts) (hKvDw : Cert.KvDw.Facts) (hKvDwIdeal : Cert.KvDwIdeal.Facts) (hKvDwRefIdeal : Cert.KvDwRefIdeal.Facts) (hQueryDw : Cert.QueryDw.Facts) (hQueryDwIdeal : Cert.QueryDwIdeal.Facts) (hQueryDwRefIdeal : Cert.QueryDwRefIdeal.Facts) (hMixDw : Cert.MixDw.Facts) (hMixDwIdeal : Cert.MixDwIdeal.Facts) (hMixDwRefIdeal : Cert.MixDwRefIdeal.Facts) (hQkvIn : Cert.QkvIn.Facts) (hQkvInIdeal : Cert.QkvInIdeal.Facts) (hQkvInRefIdeal : Cert.QkvInRefIdeal.Facts) (hQkvDx : Cert.QkvDx.Facts) (hQkvDxIdeal : Cert.QkvDxIdeal.Facts) (hQkvDxRefIdeal : Cert.QkvDxRefIdeal.Facts) (hKvIn : Cert.KvIn.Facts) (hKvInIdeal : Cert.KvInIdeal.Facts) (hKvInRefIdeal : Cert.KvInRefIdeal.Facts) (hKvDx : Cert.KvDx.Facts) (hKvDxIdeal : Cert.KvDxIdeal.Facts) (hKvDxRefIdeal : Cert.KvDxRefIdeal.Facts) (hQueryIn : Cert.QueryIn.Facts) (hQueryInIdeal : Cert.QueryInIdeal.Facts) (hQueryInRefIdeal : Cert.QueryInRefIdeal.Facts) (hQueryDx : Cert.QueryDx.Facts) (hQueryDxIdeal : Cert.QueryDxIdeal.Facts) (hQueryDxRefIdeal : Cert.QueryDxRefIdeal.Facts) (hMixOut : Cert.MixOut.Facts) (hMixOutIdeal : Cert.MixOutIdeal.Facts) (hMixOutRefIdeal : Cert.MixOutRefIdeal.Facts) (hMixDx : Cert.MixDx.Facts) (hMixDxIdeal : Cert.MixDxIdeal.Facts) (hMixDxRefIdeal : Cert.MixDxRefIdeal.Facts) (hGateBwd : Cert.GateBwd.Facts) (hGateBwdIdeal : Cert.GateBwdIdeal.Facts) (hGateBwdRefIdeal : Cert.GateBwdRefIdeal.Facts) (hGate : Cert.Gate.Facts) (hGateIdeal : Cert.GateIdeal.Facts) (hGateRefIdeal : Cert.GateRefIdeal.Facts) (hPre_dcum_finite : Cert.Pre_dcum_finite.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Scatter (hScatter := hScatter)
    ∧ quiescent_ScatterIdeal (hScatterIdeal := hScatterIdeal)
    ∧ quiescent_ScatterRefIdeal (hScatterRefIdeal := hScatterRefIdeal)
    ∧ quiescent_ScatterRef (hScatterRef := hScatterRef)
    ∧ quiescent_Join (hJoin := hJoin)
    ∧ quiescent_JoinIdeal (hJoinIdeal := hJoinIdeal)
    ∧ quiescent_JoinRefIdeal (hJoinRefIdeal := hJoinRefIdeal)
    ∧ quiescent_JoinRef (hJoinRef := hJoinRef)
    ∧ quiescent_Total (hTotal := hTotal)
    ∧ quiescent_TotalIdeal (hTotalIdeal := hTotalIdeal)
    ∧ quiescent_TotalRefIdeal (hTotalRefIdeal := hTotalRefIdeal)
    ∧ quiescent_TotalSmall (hTotalSmall := hTotalSmall)
    ∧ quiescent_TotalSmallIdeal (hTotalSmallIdeal := hTotalSmallIdeal)
    ∧ quiescent_TotalSmallRefIdeal (hTotalSmallRefIdeal := hTotalSmallRefIdeal)
    ∧ quiescent_UpdateFfnIn (hUpdateFfnIn := hUpdateFfnIn)
    ∧ quiescent_UpdateFfnInIdeal (hUpdateFfnInIdeal := hUpdateFfnInIdeal)
    ∧ quiescent_UpdateFfnInRefIdeal (hUpdateFfnInRefIdeal := hUpdateFfnInRefIdeal)
    ∧ quiescent_UpdateFfnOut (hUpdateFfnOut := hUpdateFfnOut)
    ∧ quiescent_UpdateFfnOutIdeal (hUpdateFfnOutIdeal := hUpdateFfnOutIdeal)
    ∧ quiescent_UpdateFfnOutRefIdeal (hUpdateFfnOutRefIdeal := hUpdateFfnOutRefIdeal)
    ∧ quiescent_UpdateQkv (hUpdateQkv := hUpdateQkv)
    ∧ quiescent_UpdateQkvIdeal (hUpdateQkvIdeal := hUpdateQkvIdeal)
    ∧ quiescent_UpdateQkvRefIdeal (hUpdateQkvRefIdeal := hUpdateQkvRefIdeal)
    ∧ quiescent_UpdateKv (hUpdateKv := hUpdateKv)
    ∧ quiescent_UpdateKvIdeal (hUpdateKvIdeal := hUpdateKvIdeal)
    ∧ quiescent_UpdateKvRefIdeal (hUpdateKvRefIdeal := hUpdateKvRefIdeal)
    ∧ quiescent_UpdateSquare (hUpdateSquare := hUpdateSquare)
    ∧ quiescent_UpdateSquareIdeal (hUpdateSquareIdeal := hUpdateSquareIdeal)
    ∧ quiescent_UpdateSquareRefIdeal (hUpdateSquareRefIdeal := hUpdateSquareRefIdeal)
    ∧ quiescent_UpdateSmall (hUpdateSmall := hUpdateSmall)
    ∧ quiescent_UpdateSmallIdeal (hUpdateSmallIdeal := hUpdateSmallIdeal)
    ∧ quiescent_UpdateSmallRefIdeal (hUpdateSmallRefIdeal := hUpdateSmallRefIdeal)
    ∧ quiescent_Loss (hLoss := hLoss)
    ∧ quiescent_LossIdeal (hLossIdeal := hLossIdeal)
    ∧ quiescent_LossRefIdeal (hLossRefIdeal := hLossRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_Norm (hNorm := hNorm)
    ∧ quiescent_NormIdeal (hNormIdeal := hNormIdeal)
    ∧ quiescent_NormRefIdeal (hNormRefIdeal := hNormRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_Act (hAct := hAct)
    ∧ quiescent_ActIdeal (hActIdeal := hActIdeal)
    ∧ quiescent_ActRefIdeal (hActRefIdeal := hActRefIdeal)
    ∧ quiescent_ActBwd (hActBwd := hActBwd)
    ∧ quiescent_ActBwdIdeal (hActBwdIdeal := hActBwdIdeal)
    ∧ quiescent_ActBwdRefIdeal (hActBwdRefIdeal := hActBwdRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_QueryDw (hQueryDw := hQueryDw)
    ∧ quiescent_QueryDwIdeal (hQueryDwIdeal := hQueryDwIdeal)
    ∧ quiescent_QueryDwRefIdeal (hQueryDwRefIdeal := hQueryDwRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_QkvIn (hQkvIn := hQkvIn)
    ∧ quiescent_QkvInIdeal (hQkvInIdeal := hQkvInIdeal)
    ∧ quiescent_QkvInRefIdeal (hQkvInRefIdeal := hQkvInRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_KvIn (hKvIn := hKvIn)
    ∧ quiescent_KvInIdeal (hKvInIdeal := hKvInIdeal)
    ∧ quiescent_KvInRefIdeal (hKvInRefIdeal := hKvInRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_QueryIn (hQueryIn := hQueryIn)
    ∧ quiescent_QueryInIdeal (hQueryInIdeal := hQueryInIdeal)
    ∧ quiescent_QueryInRefIdeal (hQueryInRefIdeal := hQueryInRefIdeal)
    ∧ quiescent_QueryDx (hQueryDx := hQueryDx)
    ∧ quiescent_QueryDxIdeal (hQueryDxIdeal := hQueryDxIdeal)
    ∧ quiescent_QueryDxRefIdeal (hQueryDxRefIdeal := hQueryDxRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_GateBwd (hGateBwd := hGateBwd)
    ∧ quiescent_GateBwdIdeal (hGateBwdIdeal := hGateBwdIdeal)
    ∧ quiescent_GateBwdIdeal_pre_dcum_finite (hGateBwdIdeal := hGateBwdIdeal) (hPre_dcum_finite := hPre_dcum_finite)
    ∧ quiescent_GateBwdRefIdeal (hGateBwdRefIdeal := hGateBwdRefIdeal)
    ∧ quiescent_GateBwdRefIdeal_pre_dcum_finite (hGateBwdRefIdeal := hGateBwdRefIdeal) (hPre_dcum_finite := hPre_dcum_finite)
    ∧ quiescent_Gate (hGate := hGate)
    ∧ quiescent_GateIdeal (hGateIdeal := hGateIdeal)
    ∧ quiescent_GateRefIdeal (hGateRefIdeal := hGateRefIdeal)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Scatter_ScatterIdeal
    ∧ algebraic_ScatterIdeal_ScatterRefIdeal (hScatterIdeal := hScatterIdeal) (hScatterRefIdeal := hScatterRefIdeal)
    ∧ bitexact_Scatter_ScatterRef (hScatter := hScatter) (hScatterRef := hScatterRef)
    ∧ preserves_Join_JoinIdeal
    ∧ algebraic_JoinIdeal_JoinRefIdeal (hJoinIdeal := hJoinIdeal) (hJoinRefIdeal := hJoinRefIdeal)
    ∧ bitexact_Join_JoinRef (hJoin := hJoin) (hJoinRef := hJoinRef)
    ∧ preserves_Total_TotalIdeal
    ∧ algebraic_TotalIdeal_TotalRefIdeal (hTotalIdeal := hTotalIdeal) (hTotalRefIdeal := hTotalRefIdeal)
    ∧ preserves_TotalSmall_TotalSmallIdeal
    ∧ algebraic_TotalSmallIdeal_TotalSmallRefIdeal (hTotalSmallIdeal := hTotalSmallIdeal) (hTotalSmallRefIdeal := hTotalSmallRefIdeal)
    ∧ preserves_UpdateFfnIn_UpdateFfnInIdeal
    ∧ algebraic_UpdateFfnInIdeal_UpdateFfnInRefIdeal (hUpdateFfnInIdeal := hUpdateFfnInIdeal) (hUpdateFfnInRefIdeal := hUpdateFfnInRefIdeal)
    ∧ preserves_UpdateFfnOut_UpdateFfnOutIdeal
    ∧ algebraic_UpdateFfnOutIdeal_UpdateFfnOutRefIdeal (hUpdateFfnOutIdeal := hUpdateFfnOutIdeal) (hUpdateFfnOutRefIdeal := hUpdateFfnOutRefIdeal)
    ∧ preserves_UpdateQkv_UpdateQkvIdeal
    ∧ algebraic_UpdateQkvIdeal_UpdateQkvRefIdeal (hUpdateQkvIdeal := hUpdateQkvIdeal) (hUpdateQkvRefIdeal := hUpdateQkvRefIdeal)
    ∧ preserves_UpdateKv_UpdateKvIdeal
    ∧ algebraic_UpdateKvIdeal_UpdateKvRefIdeal (hUpdateKvIdeal := hUpdateKvIdeal) (hUpdateKvRefIdeal := hUpdateKvRefIdeal)
    ∧ preserves_UpdateSquare_UpdateSquareIdeal
    ∧ algebraic_UpdateSquareIdeal_UpdateSquareRefIdeal (hUpdateSquareIdeal := hUpdateSquareIdeal) (hUpdateSquareRefIdeal := hUpdateSquareRefIdeal)
    ∧ preserves_UpdateSmall_UpdateSmallIdeal
    ∧ algebraic_UpdateSmallIdeal_UpdateSmallRefIdeal (hUpdateSmallIdeal := hUpdateSmallIdeal) (hUpdateSmallRefIdeal := hUpdateSmallRefIdeal)
    ∧ preserves_Loss_LossIdeal
    ∧ algebraic_LossIdeal_LossRefIdeal (hLossIdeal := hLossIdeal) (hLossRefIdeal := hLossRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_Norm_NormIdeal
    ∧ algebraic_NormIdeal_NormRefIdeal (hNormIdeal := hNormIdeal) (hNormRefIdeal := hNormRefIdeal)
    ∧ preserves_NormBwd_NormBwdIdeal
    ∧ algebraic_NormBwdIdeal_NormBwdRefIdeal (hNormBwdIdeal := hNormBwdIdeal) (hNormBwdRefIdeal := hNormBwdRefIdeal)
    ∧ preserves_Act_ActIdeal
    ∧ algebraic_ActIdeal_ActRefIdeal (hActIdeal := hActIdeal) (hActRefIdeal := hActRefIdeal)
    ∧ preserves_ActBwd_ActBwdIdeal
    ∧ algebraic_ActBwdIdeal_ActBwdRefIdeal (hActBwdIdeal := hActBwdIdeal) (hActBwdRefIdeal := hActBwdRefIdeal)
    ∧ preserves_QkvDw_QkvDwIdeal
    ∧ algebraic_QkvDwIdeal_QkvDwRefIdeal (hQkvDwIdeal := hQkvDwIdeal) (hQkvDwRefIdeal := hQkvDwRefIdeal)
    ∧ preserves_KvDw_KvDwIdeal
    ∧ algebraic_KvDwIdeal_KvDwRefIdeal (hKvDwIdeal := hKvDwIdeal) (hKvDwRefIdeal := hKvDwRefIdeal)
    ∧ preserves_QueryDw_QueryDwIdeal
    ∧ algebraic_QueryDwIdeal_QueryDwRefIdeal (hQueryDwIdeal := hQueryDwIdeal) (hQueryDwRefIdeal := hQueryDwRefIdeal)
    ∧ preserves_MixDw_MixDwIdeal
    ∧ algebraic_MixDwIdeal_MixDwRefIdeal (hMixDwIdeal := hMixDwIdeal) (hMixDwRefIdeal := hMixDwRefIdeal)
    ∧ preserves_QkvIn_QkvInIdeal
    ∧ algebraic_QkvInIdeal_QkvInRefIdeal (hQkvInIdeal := hQkvInIdeal) (hQkvInRefIdeal := hQkvInRefIdeal)
    ∧ preserves_QkvDx_QkvDxIdeal
    ∧ algebraic_QkvDxIdeal_QkvDxRefIdeal (hQkvDxIdeal := hQkvDxIdeal) (hQkvDxRefIdeal := hQkvDxRefIdeal)
    ∧ preserves_KvIn_KvInIdeal
    ∧ algebraic_KvInIdeal_KvInRefIdeal (hKvInIdeal := hKvInIdeal) (hKvInRefIdeal := hKvInRefIdeal)
    ∧ preserves_KvDx_KvDxIdeal
    ∧ algebraic_KvDxIdeal_KvDxRefIdeal (hKvDxIdeal := hKvDxIdeal) (hKvDxRefIdeal := hKvDxRefIdeal)
    ∧ preserves_QueryIn_QueryInIdeal
    ∧ algebraic_QueryInIdeal_QueryInRefIdeal (hQueryInIdeal := hQueryInIdeal) (hQueryInRefIdeal := hQueryInRefIdeal)
    ∧ preserves_QueryDx_QueryDxIdeal
    ∧ algebraic_QueryDxIdeal_QueryDxRefIdeal (hQueryDxIdeal := hQueryDxIdeal) (hQueryDxRefIdeal := hQueryDxRefIdeal)
    ∧ preserves_MixOut_MixOutIdeal
    ∧ algebraic_MixOutIdeal_MixOutRefIdeal (hMixOutIdeal := hMixOutIdeal) (hMixOutRefIdeal := hMixOutRefIdeal)
    ∧ preserves_MixDx_MixDxIdeal
    ∧ algebraic_MixDxIdeal_MixDxRefIdeal (hMixDxIdeal := hMixDxIdeal) (hMixDxRefIdeal := hMixDxRefIdeal)
    ∧ preserves_GateBwd_GateBwdIdeal
    ∧ algebraic_GateBwdIdeal_GateBwdRefIdeal_pre_dcum_finite (hGateBwdIdeal := hGateBwdIdeal) (hGateBwdRefIdeal := hGateBwdRefIdeal) (hPre_dcum_finite := hPre_dcum_finite)
    ∧ preserves_Gate_GateIdeal
    ∧ algebraic_GateIdeal_GateRefIdeal (hGateIdeal := hGateIdeal) (hGateRefIdeal := hGateRefIdeal)
-- ==== Pre_dcum_finite.lean ====
abbrev S8192x2304 : Shape := ⟨2, ![8192, 2304]⟩
abbrev S128 : Shape := ⟨1, ![128]⟩
abbrev S8192x128 : Shape := ⟨2, ![8192, 128]⟩
abbrev S_ : Shape := ⟨0, ![]⟩

class Facts : Prop where
  bcast_S_S8192x128 : S_.BroadcastsInDim S8192x128 (![] : Fin 0 → Fin S8192x128.rank)

variable [Facts]

def fn {F : FTy → Type} [FloatOps F] (main_arg0 : FVec F S8192x2304 .f32) (main_arg1 : FVec F S128 .f32) (main_arg2 : FVec F S8192x128 .f32) : IVec S8192x128 1 :=
  let main_v0 : FVec F S8192x128 .f32 := Host.absf main_arg2
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  main_v2
-- ==== Gather.lean ====
abbrev S12288x1024 : Shape := ⟨2, ![12288, 1024]⟩
abbrev S4x12288x1024 : Shape := ⟨3, ![4, 12288, 1024]⟩
abbrev S6 : Shape := ⟨1, ![6]⟩
abbrev S_ : Shape := ⟨0, ![]⟩
abbrev S1x12288x1024 : Shape := ⟨3, ![1, 12288, 1024]⟩
abbrev S1 : Shape := ⟨1, ![1]⟩
abbrev S1x6144x1024 : Shape := ⟨3, ![1, 6144, 1024]⟩
abbrev S6144x1024 : Shape := ⟨2, ![6144, 1024]⟩

abbrev nBuf : Space → Nat
  | .hbm => 2
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S4x12288x1024, .bf16⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_8 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c6144_i32_9 : BitVec 32 := 6144#32
  let v18 : BitVec 32 := Scalar.muli v8 c6144_i32_9
  let c0_i32_20 : BitVec 32 := 0#32
  ![v10.toNat, v18.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c6144_i32 : BitVec 32 := 6144#32
  let v17 : BitVec 32 := Scalar.muli v8 c6144_i32
  let c0_i32_21 : BitVec 32 := 0#32
  ![v17.toNat, 0]
def k0_dev1 (d0 : Dev nD) : Nat :=
  let c0_i32_17 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_16 : BitVec 32 := 4#32
  let v23 : BitVec 32 := Scalar.muli v11 c4_i32_16
  let v24 : BitVec 32 := Scalar.addi c0_i32_17 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v25 : BitVec 32 := Scalar.muli v5 c2_i32_18
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v27 : BitVec 32 := Scalar.muli v8 c1_i32_19
  let v28 : BitVec 32 := Scalar.addi v26 v27
  v28.toNat
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v36 : BitVec 32 := Scalar.muli v2 c4_i32_24
  let v37 : BitVec 32 := Scalar.addi c0_i32_25 v36
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_26 : BitVec 32 := 2#32
  let v38 : BitVec 32 := Scalar.muli v12 c2_i32_26
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v40 : BitVec 32 := Scalar.muli v8 c1_i32_27
  let v41 : BitVec 32 := Scalar.addi v39 v40
  v41.toNat
def k0_dev3 (d0 : Dev nD) : Nat :=
  let c0_i32_33 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_32 : BitVec 32 := 4#32
  let v49 : BitVec 32 := Scalar.muli v13 c4_i32_32
  let v50 : BitVec 32 := Scalar.addi c0_i32_33 v49
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_34 : BitVec 32 := 2#32
  let v51 : BitVec 32 := Scalar.muli v14 c2_i32_34
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v53 : BitVec 32 := Scalar.muli v8 c1_i32_35
  let v54 : BitVec 32 := Scalar.addi v52 v53
  v54.toNat
def k0_off4 (d0 : Dev nD) : Fin 3 → Nat :=
  let c2_i32_40 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v65 : BitVec 32 := Scalar.muli c2_i32_40 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v66 : BitVec 32 := Scalar.addi v65 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c6144_i32_41 : BitVec 32 := 6144#32
  let v67 : BitVec 32 := Scalar.muli v8 c6144_i32_41
  let c0_i32_66 : BitVec 32 := 0#32
  ![v66.toNat, v67.toNat, 0]
def k0_dev4 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v94 : BitVec 32 := Scalar.muli v2 c4_i32_62
  let v95 : BitVec 32 := Scalar.addi c0_i32_63 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v96 : BitVec 32 := Scalar.muli v5 c2_i32_64
  let v97 : BitVec 32 := Scalar.addi v95 v96
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v68 : BitVec 32 := Scalar.subi c1_i32_42 v8
  let c1_i32_65 : BitVec 32 := 1#32
  let v98 : BitVec 32 := Scalar.muli v68 c1_i32_65
  let v99 : BitVec 32 := Scalar.addi v97 v98
  v99.toNat
def k0_off5 (d0 : Dev nD) : Fin 3 → Nat :=
  let c2_i32_45 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v72 : BitVec 32 := Scalar.muli c2_i32_45 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v73 : BitVec 32 := Scalar.addi v72 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c6144_i32_46 : BitVec 32 := 6144#32
  let v74 : BitVec 32 := Scalar.muli v8 c6144_i32_46
  let c0_i32_82 : BitVec 32 := 0#32
  ![v73.toNat, v74.toNat, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v119 : BitVec 32 := Scalar.muli v2 c4_i32_78
  let v120 : BitVec 32 := Scalar.addi c0_i32_79 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v121 : BitVec 32 := Scalar.muli v5 c2_i32_80
  let v122 : BitVec 32 := Scalar.addi v120 v121
  let c1_i32_47 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.subi c1_i32_47 v8
  let c1_i32_81 : BitVec 32 := 1#32
  let v123 : BitVec 32 := Scalar.muli v75 c1_i32_81
  let v124 : BitVec 32 := Scalar.addi v122 v123
  v124.toNat
def k0_off6 (d0 : Dev nD) : Fin 3 → Nat :=
  let c2_i32_50 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v79 : BitVec 32 := Scalar.muli c2_i32_50 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v80 : BitVec 32 := Scalar.addi v79 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c6144_i32_51 : BitVec 32 := 6144#32
  let v81 : BitVec 32 := Scalar.muli v8 c6144_i32_51
  let c0_i32_97 : BitVec 32 := 0#32
  ![v80.toNat, v81.toNat, 0]
def k0_dev6 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v144 : BitVec 32 := Scalar.muli v2 c4_i32_93
  let v145 : BitVec 32 := Scalar.addi c0_i32_94 v144
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v146 : BitVec 32 := Scalar.muli v5 c2_i32_95
  let v147 : BitVec 32 := Scalar.addi v145 v146
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v82 : BitVec 32 := Scalar.subi c1_i32_52 v8
  let c1_i32_96 : BitVec 32 := 1#32
  let v148 : BitVec 32 := Scalar.muli v82 c1_i32_96
  let v149 : BitVec 32 := Scalar.addi v147 v148
  v149.toNat
def k0_off7 (d0 : Dev nD) : Fin 3 → Nat :=
  let c2_i32_102 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v162 : BitVec 32 := Scalar.muli c2_i32_102 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v163 : BitVec 32 := Scalar.addi v162 v5
  let c1_i32_103 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v164 : BitVec 32 := Scalar.subi c1_i32_103 v8
  let c6144_i32_104 : BitVec 32 := 6144#32
  let v165 : BitVec 32 := Scalar.muli v164 c6144_i32_104
  let c0_i32_112 : BitVec 32 := 0#32
  ![v163.toNat, v165.toNat, 0]
def k0_off8 (d0 : Dev nD) : Fin 3 → Nat :=
  let c2_i32_117 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v183 : BitVec 32 := Scalar.muli c2_i32_117 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v184 : BitVec 32 := Scalar.addi v183 v12
  let c1_i32_118 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v185 : BitVec 32 := Scalar.subi c1_i32_118 v8
  let c6144_i32_119 : BitVec 32 := 6144#32
  let v186 : BitVec 32 := Scalar.muli v185 c6144_i32_119
  let c0_i32_127 : BitVec 32 := 0#32
  ![v184.toNat, v186.toNat, 0]
def k0_off9 (d0 : Dev nD) : Fin 3 → Nat :=
  let c2_i32_132 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v204 : BitVec 32 := Scalar.muli c2_i32_132 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v205 : BitVec 32 := Scalar.addi v204 v14
  let c1_i32_133 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v206 : BitVec 32 := Scalar.subi c1_i32_133 v8
  let c6144_i32_134 : BitVec 32 := 6144#32
  let v207 : BitVec 32 := Scalar.muli v206 c6144_i32_134
  let c0_i32_142 : BitVec 32 := 0#32
  ![v205.toNat, v207.toNat, 0]
-- ==== GatherRef.lean ====
abbrev S49152x1024 : Shape := ⟨2, ![49152, 1024]⟩
abbrev S4x12288x1024 : Shape := ⟨3, ![4, 12288, 1024]⟩

abbrev nBuf : Space → Nat
  | .hbm => 2
  | .vmem => 0
  | .smem => 0
  | _ => 0

abbrev bufTy : (tb : Table) → Fin (tcTables nBuf tb) → BufTy
  | .hbm, ⟨0, _⟩ => ⟨S49152x1024, .bf16⟩
  | .hbm, ⟨1, _⟩ => ⟨S4x12288x1024, .bf16⟩
  | _, _ => ⟨S49152x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Swap.lean ====
abbrev S4x12288x1024 : Shape := ⟨3, ![4, 12288, 1024]⟩
abbrev S4x6144x1024 : Shape := ⟨3, ![4, 6144, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x12288x1024, .f32⟩
  | .hbm, ⟨1, _⟩ => ⟨S4x6144x1024, .f32⟩
  | _, _ => ⟨S4x12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c0_i32_8 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c6144_i32 : BitVec 32 := 6144#32
  let v10 : BitVec 32 := Scalar.muli v9 c6144_i32
  let c0_i32_9 : BitVec 32 := 0#32
  ![0, v10.toNat, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v14 : BitVec 32 := Scalar.muli v5 c2_i32_6
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_7 : BitVec 32 := 1#32
  let v16 : BitVec 32 := Scalar.muli v11 c1_i32_7
  let v17 : BitVec 32 := Scalar.addi v15 v16
  v17.toNat
-- ==== SwapRef.lean ====
abbrev S32x12288x1024 : Shape := ⟨3, ![32, 12288, 1024]⟩
abbrev S4x2x4x2x6144x1024 : Shape := ⟨6, ![4, 2, 4, 2, 6144, 1024]⟩
abbrev S4x1x4x1x6144x1024 : Shape := ⟨6, ![4, 1, 4, 1, 6144, 1024]⟩
abbrev S4x4x6144x1024 : Shape := ⟨4, ![4, 4, 6144, 1024]⟩
abbrev S4x1x4x6144x1024 : Shape := ⟨5, ![4, 1, 4, 6144, 1024]⟩
abbrev S4x2x4x6144x1024 : Shape := ⟨5, ![4, 2, 4, 6144, 1024]⟩
abbrev S32x6144x1024 : Shape := ⟨3, ![32, 6144, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32x12288x1024, .f32⟩
  | .hbm, ⟨1, _⟩ => ⟨S4x2x4x2x6144x1024, .f32⟩
  | .hbm, ⟨2, _⟩ => ⟨S4x1x4x1x6144x1024, .f32⟩
  | .hbm, ⟨3, _⟩ => ⟨S4x4x6144x1024, .f32⟩
  | .hbm, ⟨4, _⟩ => ⟨S4x1x4x1x6144x1024, .f32⟩
  | .hbm, ⟨5, _⟩ => ⟨S4x4x6144x1024, .f32⟩
  | .hbm, ⟨6, _⟩ => ⟨S4x1x4x6144x1024, .f32⟩
  | .hbm, ⟨7, _⟩ => ⟨S4x1x4x6144x1024, .f32⟩
  | .hbm, ⟨8, _⟩ => ⟨S4x2x4x6144x1024, .f32⟩
  | .hbm, ⟨9, _⟩ => ⟨S32x6144x1024, .f32⟩
  | _, _ => ⟨S32x12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Scatter.lean ====
abbrev S4x6144x1024 : Shape := ⟨3, ![4, 6144, 1024]⟩
abbrev S3 : Shape := ⟨1, ![3]⟩
abbrev S_ : Shape := ⟨0, ![]⟩
abbrev S1x6144x1024 : Shape := ⟨3, ![1, 6144, 1024]⟩
abbrev S6144x1024 : Shape := ⟨2, ![6144, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x6144x1024, .bf16⟩
  | .hbm, ⟨1, _⟩ => ⟨S4x6144x1024, .bf16⟩
  | _, _ => ⟨S4x6144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_off2 (d0 : Dev nD) : Fin 3 → Nat :=
  let c2_i32_11 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v19 : BitVec 32 := Scalar.muli c2_i32_11 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_22 : BitVec 32 := 0#32
  let c0_i32_23 : BitVec 32 := 0#32
  ![v20.toNat, 0, 0]
def k0_dev1 (d0 : Dev nD) : Nat :=
  let c0_i32_17 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_16 : BitVec 32 := 4#32
  let v25 : BitVec 32 := Scalar.muli v15 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let v22 : BitVec 32 := Scalar.addi v21 v16
  let c0_i32_32 : BitVec 32 := 0#32
  let c0_i32_33 : BitVec 32 := 0#32
  ![v22.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_28 : BitVec 32 := 2#32
  let v41 : BitVec 32 := Scalar.muli v16 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v23 : BitVec 32 := Scalar.muli c2_i32_13 v17
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v24 : BitVec 32 := Scalar.addi v23 v18
  let c0_i32_42 : BitVec 32 := 0#32
  let c0_i32_43 : BitVec 32 := 0#32
  ![v24.toNat, 0, 0]
def k0_dev3 (d0 : Dev nD) : Nat :=
  let c0_i32_37 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_36 : BitVec 32 := 4#32
  let v53 : BitVec 32 := Scalar.muli v17 c4_i32_36
  let v54 : BitVec 32 := Scalar.addi c0_i32_37 v53
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let c2_i32_38 : BitVec 32 := 2#32
  let v55 : BitVec 32 := Scalar.muli v18 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ScatterRef.lean ====
abbrev S32x6144x1024 : Shape := ⟨3, ![32, 6144, 1024]⟩
abbrev S4x2x4x6144x1024 : Shape := ⟨5, ![4, 2, 4, 6144, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32x6144x1024, .bf16⟩
  | .hbm, ⟨1, _⟩ => ⟨S4x2x4x6144x1024, .bf16⟩
  | .hbm, ⟨2, _⟩ => ⟨S4x2x4x6144x1024, .bf16⟩
  | .hbm, ⟨3, _⟩ => ⟨S32x6144x1024, .bf16⟩
  | _, _ => ⟨S32x6144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Join.lean ====
abbrev S6144x1024 : Shape := ⟨2, ![6144, 1024]⟩
abbrev S2x6144x1024 : Shape := ⟨3, ![2, 6144, 1024]⟩
abbrev S_ : Shape := ⟨0, ![]⟩
abbrev S1x6144x1024 : Shape := ⟨3, ![1, 6144, 1024]⟩

abbrev nBuf : Space → Nat
  | .hbm => 2
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S2x6144x1024, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_cond1 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let v9 : BitVec 1 := Scalar.cmpi .eq v8 c0_i32
  let v10 : BitVec 32 := Scalar.extui v9
  let c0_i32_3 : BitVec 32 := 0#32
  let v11 : BitVec 1 := Scalar.cmpi .ne v10 c0_i32_3
  v11

def k0_dev1 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v17 : BitVec 32 := Scalar.muli v2 c4_i32_11
  let v18 : BitVec 32 := Scalar.addi c0_i32_12 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v19 : BitVec 32 := Scalar.muli v5 c2_i32_13
  let v20 : BitVec 32 := Scalar.addi v18 v19
  let c1_i32_10 : BitVec 32 := 1#32
  let c1_i32_14 : BitVec 32 := 1#32
  let v21 : BitVec 32 := Scalar.muli c1_i32_10 c1_i32_14
  let v22 : BitVec 32 := Scalar.addi v20 v21
  v22.toNat
def k0_cond2 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4 : BitVec 32 := 1#32
  let v12 : BitVec 1 := Scalar.cmpi .eq v8 c1_i32_4
  let v13 : BitVec 32 := Scalar.extui v12
  let c0_i32_5 : BitVec 32 := 0#32
  let v14 : BitVec 1 := Scalar.cmpi .ne v13 c0_i32_5
  v14

def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v17 : BitVec 32 := Scalar.muli v2 c4_i32_11
  let v18 : BitVec 32 := Scalar.addi c0_i32_12 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v19 : BitVec 32 := Scalar.muli v5 c2_i32_13
  let v20 : BitVec 32 := Scalar.addi v18 v19
  let c0_i32_10 : BitVec 32 := 0#32
  let c1_i32_14 : BitVec 32 := 1#32
  let v21 : BitVec 32 := Scalar.muli c0_i32_10 c1_i32_14
  let v22 : BitVec 32 := Scalar.addi v20 v21
  v22.toNat
-- ==== JoinRef.lean ====
abbrev S49152x1024 : Shape := ⟨2, ![49152, 1024]⟩
abbrev S8x6144x1024 : Shape := ⟨3, ![8, 6144, 1024]⟩

abbrev nBuf : Space → Nat
  | .hbm => 2
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S8x6144x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Total.lean ====
abbrev S4x6144x1024 : Shape := ⟨3, ![4, 6144, 1024]⟩
abbrev S6144x1024 : Shape := ⟨2, ![6144, 1024]⟩
abbrev S1x512x1024 : Shape := ⟨3, ![1, 512, 1024]⟩
abbrev S512x1024 : Shape := ⟨2, ![512, 1024]⟩

abbrev nBuf : Space → Nat
  | .hbm => 2
  | .vmem => 10
  | .smem => 0
  | _ => 0

abbrev bufTy : (tb : Table) → Fin (tcTables nBuf tb) → BufTy
  | .hbm, ⟨0, _⟩ => ⟨S4x6144x1024, .bf16⟩
  | .hbm, ⟨1, _⟩ => ⟨S6144x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | .local _ .vmem, ⟨9, _⟩ => ⟨S512x1024, .f32⟩
  | _, _ => ⟨S4x6144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== TotalRefIdeal.lean ====
abbrev S4x6144x1024 : Shape := ⟨3, ![4, 6144, 1024]⟩
abbrev S_ : Shape := ⟨0, ![]⟩
abbrev S6144x1024 : Shape := ⟨2, ![6144, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x6144x1024, .bf16⟩
  | .hbm, ⟨1, _⟩ => ⟨S4x6144x1024, .f32⟩
  | .hbm, ⟨2, _⟩ => ⟨S_, .f32⟩
  | .hbm, ⟨3, _⟩ => ⟨S6144x1024, .f32⟩
  | _, _ => ⟨S4x6144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== TotalSmall.lean ====
abbrev S8x96x128 : Shape := ⟨3, ![8, 96, 128]⟩
abbrev S96x128 : Shape := ⟨2, ![96, 128]⟩
abbrev S1x96x128 : Shape := ⟨3, ![1, 96, 128]⟩

abbrev nBuf : Space → Nat
  | .hbm => 2
  | .vmem => 9
  | .smem => 0
  | _ => 0

abbrev bufTy : (tb : Table) → Fin (tcTables nBuf tb) → BufTy
  | .hbm, ⟨0, _⟩ => ⟨S8x96x128, .f32⟩
  | .hbm, ⟨1, _⟩ => ⟨S96x128, .f32⟩
  | .local _ .vmem, ⟨0, _⟩ => ⟨S1x96x128, .f32⟩
  | .local _ .vmem, ⟨1, _⟩ => ⟨S1x96x128, .f32⟩
  | .local _ .vmem, ⟨2, _⟩ => ⟨S1x96x128, .f32⟩
  | .local _ .vmem, ⟨3, _⟩ => ⟨S1x96x128, .f32⟩
  | .local _ .vmem, ⟨4, _⟩ => ⟨S1x96x128, .f32⟩
  | .local _ .vmem, ⟨5, _⟩ => ⟨S1x96x128, .f32⟩
  | .local _ .vmem, ⟨6, _⟩ => ⟨S1x96x128, .f32⟩
  | .local _ .vmem, ⟨7, _⟩ => ⟨S1x96x128, .f32⟩
  | .local _ .vmem, ⟨8, _⟩ => ⟨S96x128, .f32⟩
  | _, _ => ⟨S8x96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S96x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== TotalSmallRefIdeal.lean ====
abbrev S8x96x128 : Shape := ⟨3, ![8, 96, 128]⟩
abbrev S_ : Shape := ⟨0, ![]⟩
abbrev S96x128 : Shape := ⟨2, ![96, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x96x128, .f32⟩
  | .hbm, ⟨1, _⟩ => ⟨S_, .f32⟩
  | .hbm, ⟨2, _⟩ => ⟨S96x128, .f32⟩
  | _, _ => ⟨S8x96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpdateFfnIn.lean ====
abbrev S4096x1408 : Shape := ⟨2, ![4096, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateFfnInIdeal.lean ====
abbrev S4096x1408 : Shape := ⟨2, ![4096, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateFfnInRefIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateFfnOut.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateFfnOutIdeal.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateFfnOutRefIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateQkv.lean ====
abbrev S1024x2304 : Shape := ⟨2, ![1024, 2304]⟩
abbrev S64x2304 : Shape := ⟨2, ![64, 2304]⟩

abbrev nBuf : Space → Nat
  | .hbm => 7
  | .vmem => 14
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .local _ .vmem, ⟨0, _⟩ => ⟨S64x2304, .f32⟩
  | .local _ .vmem, ⟨1, _⟩ => ⟨S64x2304, .f32⟩
  | .local _ .vmem, ⟨2, _⟩ => ⟨S64x2304, .f32⟩
  | .local _ .vmem, ⟨3, _⟩ => ⟨S64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateQkvIdeal.lean ====
abbrev S1024x2304 : Shape := ⟨2, ![1024, 2304]⟩
abbrev S64x2304 : Shape := ⟨2, ![64, 2304]⟩

abbrev nBuf : Space → Nat
  | .hbm => 7
  | .vmem => 14
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .local _ .vmem, ⟨0, _⟩ => ⟨S64x2304, .f32⟩
  | .local _ .vmem, ⟨1, _⟩ => ⟨S64x2304, .f32⟩
  | .local _ .vmem, ⟨2, _⟩ => ⟨S64x2304, .f32⟩
  | .local _ .vmem, ⟨3, _⟩ => ⟨S64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateQkvRefIdeal.lean ====
abbrev S1024x2304 : Shape := ⟨2, ![1024, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S_, .f32⟩
  | .hbm, ⟨5, _⟩ => ⟨S1024x2304, .f32⟩
  | .hbm, ⟨6, _⟩ => ⟨S1024x2304, .f32⟩
  | .hbm, ⟨7, _⟩ => ⟨S_, .f32⟩
  | .hbm, ⟨8, _⟩ => ⟨S1024x2304, .f32⟩
  | .hbm, ⟨9, _⟩ => ⟨S1024x2304, .f32⟩
  | .hbm, ⟨10, _⟩ => ⟨S1024x2304, .f32⟩
  | .hbm, ⟨11, _⟩ => ⟨S_, .f32⟩
  | .hbm, ⟨12, _⟩ => ⟨S1024x2304, .f32⟩
  | .hbm, ⟨13, _⟩ => ⟨S1024x2304, .f32⟩
  | .hbm, ⟨14, _⟩ => ⟨S1024x2304, .f32⟩
  | .hbm, ⟨15, _⟩ => ⟨S_, .f32⟩
  | .hbm, ⟨16, _⟩ => ⟨S1024x2304, .f32⟩
  | .hbm, ⟨17, _⟩ => ⟨S1024x2304, .f32⟩
  | .hbm, ⟨18, _⟩ => ⟨S1024x2304, .f32⟩
  | .hbm, ⟨19, _⟩ => ⟨S_, .f32⟩
  | .hbm, ⟨20, _⟩ => ⟨S1024x2304, .f32⟩
  | .hbm, ⟨21, _⟩ => ⟨S1024x2304, .f32⟩
  | .hbm, ⟨22, _⟩ => ⟨S_, .f32⟩
  | .hbm, ⟨23, _⟩ => ⟨S1024x2304, .f32⟩
  | .hbm, ⟨24, _⟩ => ⟨S1024x2304, .f32⟩
  | .hbm, ⟨25, _⟩ => ⟨S1024x2304, .f32⟩
  | .hbm, ⟨26, _⟩ => ⟨S_, .f32⟩
  | .hbm, ⟨27, _⟩ => ⟨S1024x2304, .f32⟩
  | .hbm, ⟨28, _⟩ => ⟨S1024x2304, .f32⟩
  | .hbm, ⟨29, _⟩ => ⟨S1024x2304, .f32⟩
  | .hbm, ⟨30, _⟩ => ⟨S_, .f32⟩
  | .hbm, ⟨31, _⟩ => ⟨S1024x2304, .f32⟩
  | .hbm, ⟨32, _⟩ => ⟨S1024x2304, .f32⟩
  | .hbm, ⟨33, _⟩ => ⟨S1024x2304, .f32⟩
  | .hbm, ⟨34, _⟩ => ⟨S_, .f32⟩
  | .hbm, ⟨35, _⟩ => ⟨S1024x2304, .f32⟩
  | .hbm, ⟨36, _⟩ => ⟨S1024x2304, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateKv.lean ====
abbrev S1024x516 : Shape := ⟨2, ![1024, 516]⟩
abbrev S256x516 : Shape := ⟨2, ![256, 516]⟩

abbrev nBuf : Space → Nat
  | .hbm => 7
  | .vmem => 14
  | .smem => 0
  | _ => 0

abbrev bufTy : (tb : Table) → Fin (tcTables nBuf tb) → BufTy
  | .hbm, ⟨0, _⟩ => ⟨S1024x516, .f32⟩
  | .hbm, ⟨1, _⟩ => ⟨S1024x516, .f32⟩
  | .hbm, ⟨2, _⟩ => ⟨S1024x516, .f32⟩
  | .hbm, ⟨3, _⟩ => ⟨S1024x516, .f32⟩
  | .hbm, ⟨4, _⟩ => ⟨S1024x516, .f32⟩
  | .hbm, ⟨5, _⟩ => ⟨S1024x516, .f32⟩
  | .hbm, ⟨6, _⟩ => ⟨S1024x516, .f32⟩
  | .local _ .vmem, ⟨0, _⟩ => ⟨S256x516, .f32⟩
  | .local _ .vmem, ⟨1, _⟩ => ⟨S256x516, .f32⟩
  | .local _ .vmem, ⟨2, _⟩ => ⟨S256x516, .f32⟩
  | .local _ .vmem, ⟨3, _⟩ => ⟨S256x516, .f32⟩
  | .local _ .vmem, ⟨4, _⟩ => ⟨S256x516, .f32⟩
  | .local _ .vmem, ⟨5, _⟩ => ⟨S256x516, .f32⟩
  | .local _ .vmem, ⟨6, _⟩ => ⟨S256x516, .f32⟩
  | .local _ .vmem, ⟨7, _⟩ => ⟨S256x516, .f32⟩
  | .local _ .vmem, ⟨8, _⟩ => ⟨S256x516, .f32⟩
  | .local _ .vmem, ⟨9, _⟩ => ⟨S256x516, .f32⟩
  | .local _ .vmem, ⟨10, _⟩ => ⟨S256x516, .f32⟩
  | .local _ .vmem, ⟨11, _⟩ => ⟨S256x516, .f32⟩
  | .local _ .vmem, ⟨12, _⟩ => ⟨S256x516, .f32⟩
  | .local _ .vmem, ⟨13, _⟩ => ⟨S256x516, .f32⟩
  | _, _ => ⟨S1024x516, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x516 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x516 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x516 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x516 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x516 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x516 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x516 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateKvIdeal.lean ====
abbrev S1024x516 : Shape := ⟨2, ![1024, 516]⟩
abbrev S256x516 : Shape := ⟨2, ![256, 516]⟩

abbrev nBuf : Space → Nat
  | .hbm => 7
  | .vmem => 14
  | .smem => 0
  | _ => 0

abbrev bufTy : (tb : Table) → Fin (tcTables nBuf tb) → BufTy
  | .hbm, ⟨0, _⟩ => ⟨S1024x516, .f32⟩
  | .hbm, ⟨1, _⟩ => ⟨S1024x516, .f32⟩
  | .hbm, ⟨2, _⟩ => ⟨S1024x516, .f32⟩
  | .hbm, ⟨3, _⟩ => ⟨S1024x516, .f32⟩
  | .hbm, ⟨4, _⟩ => ⟨S1024x516, .f32⟩
  | .hbm, ⟨5, _⟩ => ⟨S1024x516, .f32⟩
  | .hbm, ⟨6, _⟩ => ⟨S1024x516, .f32⟩
  | .local _ .vmem, ⟨0, _⟩ => ⟨S256x516, .f32⟩
  | .local _ .vmem, ⟨1, _⟩ => ⟨S256x516, .f32⟩
  | .local _ .vmem, ⟨2, _⟩ => ⟨S256x516, .f32⟩
  | .local _ .vmem, ⟨3, _⟩ => ⟨S256x516, .f32⟩
  | .local _ .vmem, ⟨4, _⟩ => ⟨S256x516, .f32⟩
  | .local _ .vmem, ⟨5, _⟩ => ⟨S256x516, .f32⟩
  | .local _ .vmem, ⟨6, _⟩ => ⟨S256x516, .f32⟩
  | .local _ .vmem, ⟨7, _⟩ => ⟨S256x516, .f32⟩
  | .local _ .vmem, ⟨8, _⟩ => ⟨S256x516, .f32⟩
  | .local _ .vmem, ⟨9, _⟩ => ⟨S256x516, .f32⟩
  | .local _ .vmem, ⟨10, _⟩ => ⟨S256x516, .f32⟩
  | .local _ .vmem, ⟨11, _⟩ => ⟨S256x516, .f32⟩
  | .local _ .vmem, ⟨12, _⟩ => ⟨S256x516, .f32⟩
  | .local _ .vmem, ⟨13, _⟩ => ⟨S256x516, .f32⟩
  | _, _ => ⟨S1024x516, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x516 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x516 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x516 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x516 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x516 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x516 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x516 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateKvRefIdeal.lean ====
abbrev S1024x516 : Shape := ⟨2, ![1024, 516]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x516, .f32⟩
  | .hbm, ⟨1, _⟩ => ⟨S1024x516, .f32⟩
  | .hbm, ⟨2, _⟩ => ⟨S1024x516, .f32⟩
  | .hbm, ⟨3, _⟩ => ⟨S1024x516, .f32⟩
  | .hbm, ⟨4, _⟩ => ⟨S_, .f32⟩
  | .hbm, ⟨5, _⟩ => ⟨S1024x516, .f32⟩
  | .hbm, ⟨6, _⟩ => ⟨S1024x516, .f32⟩
  | .hbm, ⟨7, _⟩ => ⟨S_, .f32⟩
  | .hbm, ⟨8, _⟩ => ⟨S1024x516, .f32⟩
  | .hbm, ⟨9, _⟩ => ⟨S1024x516, .f32⟩
  | .hbm, ⟨10, _⟩ => ⟨S1024x516, .f32⟩
  | .hbm, ⟨11, _⟩ => ⟨S_, .f32⟩
  | .hbm, ⟨12, _⟩ => ⟨S1024x516, .f32⟩
  | .hbm, ⟨13, _⟩ => ⟨S1024x516, .f32⟩
  | .hbm, ⟨14, _⟩ => ⟨S1024x516, .f32⟩
  | .hbm, ⟨15, _⟩ => ⟨S_, .f32⟩
  | .hbm, ⟨16, _⟩ => ⟨S1024x516, .f32⟩
  | .hbm, ⟨17, _⟩ => ⟨S1024x516, .f32⟩
  | .hbm, ⟨18, _⟩ => ⟨S1024x516, .f32⟩
  | .hbm, ⟨19, _⟩ => ⟨S_, .f32⟩
  | .hbm, ⟨20, _⟩ => ⟨S1024x516, .f32⟩
  | .hbm, ⟨21, _⟩ => ⟨S1024x516, .f32⟩
  | .hbm, ⟨22, _⟩ => ⟨S_, .f32⟩
  | .hbm, ⟨23, _⟩ => ⟨S1024x516, .f32⟩
  | .hbm, ⟨24, _⟩ => ⟨S1024x516, .f32⟩
  | .hbm, ⟨25, _⟩ => ⟨S1024x516, .f32⟩
  | .hbm, ⟨26, _⟩ => ⟨S_, .f32⟩
  | .hbm, ⟨27, _⟩ => ⟨S1024x516, .f32⟩
  | .hbm, ⟨28, _⟩ => ⟨S1024x516, .f32⟩
  | .hbm, ⟨29, _⟩ => ⟨S1024x516, .f32⟩
  | .hbm, ⟨30, _⟩ => ⟨S_, .f32⟩
  | .hbm, ⟨31, _⟩ => ⟨S1024x516, .f32⟩
  | .hbm, ⟨32, _⟩ => ⟨S1024x516, .f32⟩
  | .hbm, ⟨33, _⟩ => ⟨S1024x516, .f32⟩
  | .hbm, ⟨34, _⟩ => ⟨S_, .f32⟩
  | .hbm, ⟨35, _⟩ => ⟨S1024x516, .f32⟩
  | .hbm, ⟨36, _⟩ => ⟨S1024x516, .f32⟩
  | _, _ => ⟨S1024x516, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateSquare.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateSquareIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateSquareRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateSmall.lean ====
abbrev S72x128 : Shape := ⟨2, ![72, 128]⟩

abbrev nBuf : Space → Nat
  | .hbm => 7
  | .vmem => 7
  | .smem => 0
  | _ => 0

abbrev bufTy : (tb : Table) → Fin (tcTables nBuf tb) → BufTy
  | .hbm, ⟨0, _⟩ => ⟨S72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S72x128, .f32⟩
  | .hbm, ⟨5, _⟩ => ⟨S72x128, .f32⟩
  | .hbm, ⟨6, _⟩ => ⟨S72x128, .f32⟩
  | .local _ .vmem, ⟨0, _⟩ => ⟨S72x128, .f32⟩
  | .local _ .vmem, ⟨1, _⟩ => ⟨S72x128, .f32⟩
  | .local _ .vmem, ⟨2, _⟩ => ⟨S72x128, .f32⟩
  | .local _ .vmem, ⟨3, _⟩ => ⟨S72x128, .f32⟩
  | .local _ .vmem, ⟨4, _⟩ => ⟨S72x128, .f32⟩
  | .local _ .vmem, ⟨5, _⟩ => ⟨S72x128, .f32⟩
  | .local _ .vmem, ⟨6, _⟩ => ⟨S72x128, .f32⟩
  | _, _ => ⟨S72x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S72x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S72x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateSmallRefIdeal.lean ====
abbrev S72x128 : Shape := ⟨2, ![72, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S_, .f32⟩
  | .hbm, ⟨5, _⟩ => ⟨S72x128, .f32⟩
  | .hbm, ⟨6, _⟩ => ⟨S72x128, .f32⟩
  | .hbm, ⟨7, _⟩ => ⟨S_, .f32⟩
  | .hbm, ⟨8, _⟩ => ⟨S72x128, .f32⟩
  | .hbm, ⟨9, _⟩ => ⟨S72x128, .f32⟩
  | .hbm, ⟨10, _⟩ => ⟨S72x128, .f32⟩
  | .hbm, ⟨11, _⟩ => ⟨S_, .f32⟩
  | .hbm, ⟨12, _⟩ => ⟨S72x128, .f32⟩
  | .hbm, ⟨13, _⟩ => ⟨S72x128, .f32⟩
  | .hbm, ⟨14, _⟩ => ⟨S72x128, .f32⟩
  | .hbm, ⟨15, _⟩ => ⟨S_, .f32⟩
  | .hbm, ⟨16, _⟩ => ⟨S72x128, .f32⟩
  | .hbm, ⟨17, _⟩ => ⟨S72x128, .f32⟩
  | .hbm, ⟨18, _⟩ => ⟨S72x128, .f32⟩
  | .hbm, ⟨19, _⟩ => ⟨S_, .f32⟩
  | .hbm, ⟨20, _⟩ => ⟨S72x128, .f32⟩
  | .hbm, ⟨21, _⟩ => ⟨S72x128, .f32⟩
  | .hbm, ⟨22, _⟩ => ⟨S_, .f32⟩
  | .hbm, ⟨23, _⟩ => ⟨S72x128, .f32⟩
  | .hbm, ⟨24, _⟩ => ⟨S72x128, .f32⟩
  | .hbm, ⟨25, _⟩ => ⟨S72x128, .f32⟩
  | .hbm, ⟨26, _⟩ => ⟨S_, .f32⟩
  | .hbm, ⟨27, _⟩ => ⟨S72x128, .f32⟩
  | .hbm, ⟨28, _⟩ => ⟨S72x128, .f32⟩
  | .hbm, ⟨29, _⟩ => ⟨S72x128, .f32⟩
  | .hbm, ⟨30, _⟩ => ⟨S_, .f32⟩
  | .hbm, ⟨31, _⟩ => ⟨S72x128, .f32⟩
  | .hbm, ⟨32, _⟩ => ⟨S72x128, .f32⟩
  | .hbm, ⟨33, _⟩ => ⟨S72x128, .f32⟩
  | .hbm, ⟨34, _⟩ => ⟨S_, .f32⟩
  | .hbm, ⟨35, _⟩ => ⟨S72x128, .f32⟩
  | .hbm, ⟨36, _⟩ => ⟨S72x128, .f32⟩
  | _, _ => ⟨S72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Loss.lean ====
abbrev S8192x1024 : Shape := ⟨2, ![8192, 1024]⟩
abbrev S8x1024 : Shape := ⟨2, ![8, 1024]⟩
abbrev S512x1024 : Shape := ⟨2, ![512, 1024]⟩
abbrev S64x8x1024 : Shape := ⟨3, ![64, 8, 1024]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== FfnIn.lean ====
abbrev S8192x1024 : Shape := ⟨2, ![8192, 1024]⟩
abbrev S4x1024x1408 : Shape := ⟨3, ![4, 1024, 1408]⟩
abbrev S8192x5632 : Shape := ⟨2, ![8192, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S8192x1024 : Shape := ⟨2, ![8192, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnOut.lean ====
abbrev S8192x2816 : Shape := ⟨2, ![8192, 2816]⟩
abbrev S1x2816x1024 : Shape := ⟨3, ![1, 2816, 1024]⟩
abbrev S8192x1024 : Shape := ⟨2, ![8192, 1024]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutRefIdeal.lean ====
abbrev S8192x2816 : Shape := ⟨2, ![8192, 2816]⟩
abbrev S1x2816x1024 : Shape := ⟨3, ![1, 2816, 1024]⟩
abbrev S8192x1024 : Shape := ⟨2, ![8192, 1024]⟩
abbrev S2816x1024 : Shape := ⟨2, ![2816, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S8192x2816, .f32⟩
  | .hbm, ⟨4, _⟩ => ⟨S2816x1024, .bf16⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfnOutDx.lean ====
abbrev S8192x1024 : Shape := ⟨2, ![8192, 1024]⟩
abbrev S1x2816x1024 : Shape := ⟨3, ![1, 2816, 1024]⟩
abbrev S8192x2816 : Shape := ⟨2, ![8192, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x2816x1024, .bf16⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxRefIdeal.lean ====
abbrev S8192x1024 : Shape := ⟨2, ![8192, 1024]⟩
abbrev S1x2816x1024 : Shape := ⟨3, ![1, 2816, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x2816x1024, .bf16⟩
  | .hbm, ⟨2, _⟩ => ⟨S2816x1024, .bf16⟩
  | .hbm, ⟨3, _⟩ => ⟨S2816x1024, .f32⟩
  | .hbm, ⟨4, _⟩ => ⟨S1024x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnOutDw.lean ====
abbrev S8192x2816 : Shape := ⟨2, ![8192, 2816]⟩
abbrev S8192x1024 : Shape := ⟨2, ![8192, 1024]⟩
abbrev S1x2816x1024 : Shape := ⟨3, ![1, 2816, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S1x2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .f32⟩
  | .local _ .vmem, ⟨5, _⟩ => ⟨S1x1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩
abbrev S1x2816x1024 : Shape := ⟨3, ![1, 2816, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S2816x8192, .f32⟩
  | .hbm, ⟨4, _⟩ => ⟨S2816x1024, .f32⟩
  | .hbm, ⟨5, _⟩ => ⟨S1x2816x1024, .f32⟩
  | .hbm, ⟨6, _⟩ => ⟨S_, .f32⟩
  | .hbm, ⟨7, _⟩ => ⟨S1x2816x1024, .f32⟩
  | .hbm, ⟨8, _⟩ => ⟨S1x2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnInDx.lean ====
abbrev S8192x5632 : Shape := ⟨2, ![8192, 5632]⟩
abbrev S4x1024x1408 : Shape := ⟨3, ![4, 1024, 1408]⟩
abbrev S8192x1024 : Shape := ⟨2, ![8192, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S8192x5632 : Shape := ⟨2, ![8192, 5632]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S5632x1024 : Shape := ⟨2, ![5632, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x5632, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S5632x1024, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnInDw.lean ====
abbrev S8192x1024 : Shape := ⟨2, ![8192, 1024]⟩
abbrev S8192x5632 : Shape := ⟨2, ![8192, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩
abbrev S1024x4x1408 : Shape := ⟨3, ![1024, 4, 1408]⟩
abbrev S4x1024x1408 : Shape := ⟨3, ![4, 1024, 1408]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S1024x8192, .f32⟩
  | .hbm, ⟨4, _⟩ => ⟨S8192x5632, .f32⟩
  | .hbm, ⟨5, _⟩ => ⟨S1024x5632, .f32⟩
  | .hbm, ⟨6, _⟩ => ⟨S1024x4x1408, .f32⟩
  | .hbm, ⟨7, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormBwd.lean ====
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x1024, .f32⟩
  | .hbm, ⟨7, _⟩ => ⟨S_, .f32⟩
  | .hbm, ⟨8, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Act.lean ====
abbrev S8192x5632 : Shape := ⟨2, ![8192, 5632]⟩
abbrev S8192x2816 : Shape := ⟨2, ![8192, 2816]⟩
abbrev S256x2816 : Shape := ⟨2, ![256, 2816]⟩

abbrev nBuf : Space → Nat
  | .hbm => 2
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S8192x2816, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .bf16⟩
  | .local _ .vmem, ⟨5, _⟩ => ⟨S256x2816, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ActRefIdeal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S_, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== ActBwd.lean ====
abbrev S8192x5632 : Shape := ⟨2, ![8192, 5632]⟩
abbrev S8192x2816 : Shape := ⟨2, ![8192, 2816]⟩
abbrev S256x2816 : Shape := ⟨2, ![256, 2816]⟩
abbrev S256x5632 : Shape := ⟨2, ![256, 5632]⟩

abbrev nBuf : Space → Nat
  | .hbm => 3
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S8192x5632, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x5632, .bf16⟩
  | .local _ .vmem, ⟨7, _⟩ => ⟨S256x5632, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActBwdRefIdeal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x5632, .f32⟩
  | .hbm, ⟨23, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== QkvDw.lean ====
abbrev S8192x1024 : Shape := ⟨2, ![8192, 1024]⟩
abbrev S8192x9216 : Shape := ⟨2, ![8192, 9216]⟩
abbrev S4x1024x2304 : Shape := ⟨3, ![4, 1024, 2304]⟩
abbrev S1024x1024 : Shape := ⟨2, ![1024, 1024]⟩
abbrev S1024x1152 : Shape := ⟨2, ![1024, 1152]⟩
abbrev S1x1024x1152 : Shape := ⟨3, ![1, 1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S4x1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1x1024x1152, .f32⟩
  | .local _ .vmem, ⟨5, _⟩ => ⟨S1x1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwIdeal.lean ====
abbrev S8192x1024 : Shape := ⟨2, ![8192, 1024]⟩
abbrev S8192x9216 : Shape := ⟨2, ![8192, 9216]⟩
abbrev S4x1024x2304 : Shape := ⟨3, ![4, 1024, 2304]⟩
abbrev S1024x1024 : Shape := ⟨2, ![1024, 1024]⟩
abbrev S1024x1152 : Shape := ⟨2, ![1024, 1152]⟩
abbrev S1x1024x1152 : Shape := ⟨3, ![1, 1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S4x1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1x1024x1152, .f32⟩
  | .local _ .vmem, ⟨5, _⟩ => ⟨S1x1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwRefIdeal.lean ====
abbrev S8192x1024 : Shape := ⟨2, ![8192, 1024]⟩
abbrev S8192x9216 : Shape := ⟨2, ![8192, 9216]⟩
abbrev S1024x8192 : Shape := ⟨2, ![1024, 8192]⟩
abbrev S1024x9216 : Shape := ⟨2, ![1024, 9216]⟩
abbrev S1024x4x2304 : Shape := ⟨3, ![1024, 4, 2304]⟩
abbrev S4x1024x2304 : Shape := ⟨3, ![4, 1024, 2304]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S8192x1024, .f32⟩
  | .hbm, ⟨3, _⟩ => ⟨S1024x8192, .f32⟩
  | .hbm, ⟨4, _⟩ => ⟨S8192x9216, .f32⟩
  | .hbm, ⟨5, _⟩ => ⟨S1024x9216, .f32⟩
  | .hbm, ⟨6, _⟩ => ⟨S1024x4x2304, .f32⟩
  | .hbm, ⟨7, _⟩ => ⟨S4x1024x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KvDw.lean ====
abbrev S8192x1024 : Shape := ⟨2, ![8192, 1024]⟩
abbrev S8192x2304 : Shape := ⟨2, ![8192, 2304]⟩
abbrev S1x1024x2304 : Shape := ⟨3, ![1, 1024, 2304]⟩
abbrev S1024x1024 : Shape := ⟨2, ![1024, 1024]⟩
abbrev S1024x1152 : Shape := ⟨2, ![1024, 1152]⟩
abbrev S1x1024x1152 : Shape := ⟨3, ![1, 1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S1x1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1x1024x1152, .f32⟩
  | .local _ .vmem, ⟨5, _⟩ => ⟨S1x1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwIdeal.lean ====
abbrev S8192x1024 : Shape := ⟨2, ![8192, 1024]⟩
abbrev S8192x2304 : Shape := ⟨2, ![8192, 2304]⟩
abbrev S1x1024x2304 : Shape := ⟨3, ![1, 1024, 2304]⟩
abbrev S1024x1024 : Shape := ⟨2, ![1024, 1024]⟩
abbrev S1024x1152 : Shape := ⟨2, ![1024, 1152]⟩
abbrev S1x1024x1152 : Shape := ⟨3, ![1, 1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S1x1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1x1024x1152, .f32⟩
  | .local _ .vmem, ⟨5, _⟩ => ⟨S1x1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwRefIdeal.lean ====
abbrev S8192x1024 : Shape := ⟨2, ![8192, 1024]⟩
abbrev S8192x2304 : Shape := ⟨2, ![8192, 2304]⟩
abbrev S1024x8192 : Shape := ⟨2, ![1024, 8192]⟩
abbrev S1024x2304 : Shape := ⟨2, ![1024, 2304]⟩
abbrev S1x1024x2304 : Shape := ⟨3, ![1, 1024, 2304]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S8192x1024, .f32⟩
  | .hbm, ⟨3, _⟩ => ⟨S1024x8192, .f32⟩
  | .hbm, ⟨4, _⟩ => ⟨S8192x2304, .f32⟩
  | .hbm, ⟨5, _⟩ => ⟨S1024x2304, .f32⟩
  | .hbm, ⟨6, _⟩ => ⟨S1x1024x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QueryDw.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryDwIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryDwRefIdeal.lean ====
abbrev S8192x1024 : Shape := ⟨2, ![8192, 1024]⟩
abbrev S1024x8192 : Shape := ⟨2, ![1024, 8192]⟩
abbrev S1024x1024 : Shape := ⟨2, ![1024, 1024]⟩
abbrev S1x1024x1024 : Shape := ⟨3, ![1, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | .hbm, ⟨6, _⟩ => ⟨S1x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixDw.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwRefIdeal.lean ====
abbrev S8192x1024 : Shape := ⟨2, ![8192, 1024]⟩
abbrev S1024x8192 : Shape := ⟨2, ![1024, 8192]⟩
abbrev S1024x1024 : Shape := ⟨2, ![1024, 1024]⟩
abbrev S1x1024x1024 : Shape := ⟨3, ![1, 1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S1024x1024, .f32⟩
  | .hbm, ⟨4, _⟩ => ⟨S1x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QkvIn.lean ====
abbrev S8192x1024 : Shape := ⟨2, ![8192, 1024]⟩
abbrev S4x1024x2304 : Shape := ⟨3, ![4, 1024, 2304]⟩
abbrev S8192x9216 : Shape := ⟨2, ![8192, 9216]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x1024x2304, .bf16⟩
  | .hbm, ⟨2, _⟩ => ⟨S8192x9216, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvInIdeal.lean ====
abbrev S8192x1024 : Shape := ⟨2, ![8192, 1024]⟩
abbrev S4x1024x2304 : Shape := ⟨3, ![4, 1024, 2304]⟩
abbrev S8192x9216 : Shape := ⟨2, ![8192, 9216]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x1024x2304, .bf16⟩
  | .hbm, ⟨2, _⟩ => ⟨S8192x9216, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvInRefIdeal.lean ====
abbrev S8192x1024 : Shape := ⟨2, ![8192, 1024]⟩
abbrev S4x1024x2304 : Shape := ⟨3, ![4, 1024, 2304]⟩
abbrev S1024x4x2304 : Shape := ⟨3, ![1024, 4, 2304]⟩
abbrev S1024x9216 : Shape := ⟨2, ![1024, 9216]⟩
abbrev S8192x9216 : Shape := ⟨2, ![8192, 9216]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x2304, .bf16⟩
  | .hbm, ⟨2, _⟩ => ⟨S8192x1024, .f32⟩
  | .hbm, ⟨3, _⟩ => ⟨S4x1024x2304, .f32⟩
  | .hbm, ⟨4, _⟩ => ⟨S1024x4x2304, .f32⟩
  | .hbm, ⟨5, _⟩ => ⟨S1024x9216, .f32⟩
  | .hbm, ⟨6, _⟩ => ⟨S8192x9216, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QkvDx.lean ====
abbrev S8192x9216 : Shape := ⟨2, ![8192, 9216]⟩
abbrev S4x1024x2304 : Shape := ⟨3, ![4, 1024, 2304]⟩
abbrev S8192x1024 : Shape := ⟨2, ![8192, 1024]⟩
abbrev S1024x1152 : Shape := ⟨2, ![1024, 1152]⟩
abbrev S1x1024x1152 : Shape := ⟨3, ![1, 1024, 1152]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x9216, .bf16⟩
  | .hbm, ⟨1, _⟩ => ⟨S4x1024x2304, .bf16⟩
  | .hbm, ⟨2, _⟩ => ⟨S8192x1024, .f32⟩
  | .local _ .vmem, ⟨0, _⟩ => ⟨S1024x1152, .bf16⟩
  | .local _ .vmem, ⟨1, _⟩ => ⟨S1024x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDxIdeal.lean ====
abbrev S8192x9216 : Shape := ⟨2, ![8192, 9216]⟩
abbrev S4x1024x2304 : Shape := ⟨3, ![4, 1024, 2304]⟩
abbrev S8192x1024 : Shape := ⟨2, ![8192, 1024]⟩
abbrev S1024x1152 : Shape := ⟨2, ![1024, 1152]⟩
abbrev S1x1024x1152 : Shape := ⟨3, ![1, 1024, 1152]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x9216, .bf16⟩
  | .hbm, ⟨1, _⟩ => ⟨S4x1024x2304, .bf16⟩
  | .hbm, ⟨2, _⟩ => ⟨S8192x1024, .f32⟩
  | .local _ .vmem, ⟨0, _⟩ => ⟨S1024x1152, .bf16⟩
  | .local _ .vmem, ⟨1, _⟩ => ⟨S1024x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDxRefIdeal.lean ====
abbrev S8192x9216 : Shape := ⟨2, ![8192, 9216]⟩
abbrev S4x1024x2304 : Shape := ⟨3, ![4, 1024, 2304]⟩
abbrev S1024x4x2304 : Shape := ⟨3, ![1024, 4, 2304]⟩
abbrev S1024x9216 : Shape := ⟨2, ![1024, 9216]⟩
abbrev S9216x1024 : Shape := ⟨2, ![9216, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S4x1024x2304, .bf16⟩
  | .hbm, ⟨2, _⟩ => ⟨S8192x9216, .f32⟩
  | .hbm, ⟨3, _⟩ => ⟨S4x1024x2304, .f32⟩
  | .hbm, ⟨4, _⟩ => ⟨S1024x4x2304, .f32⟩
  | .hbm, ⟨5, _⟩ => ⟨S1024x9216, .f32⟩
  | .hbm, ⟨6, _⟩ => ⟨S9216x1024, .f32⟩
  | .hbm, ⟨7, _⟩ => ⟨S8192x1024, .f32⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KvIn.lean ====
abbrev S8192x1024 : Shape := ⟨2, ![8192, 1024]⟩
abbrev S1x1024x2304 : Shape := ⟨3, ![1, 1024, 2304]⟩
abbrev S8192x2304 : Shape := ⟨2, ![8192, 2304]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1x1024x2304, .bf16⟩
  | .hbm, ⟨2, _⟩ => ⟨S8192x2304, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvInIdeal.lean ====
abbrev S8192x1024 : Shape := ⟨2, ![8192, 1024]⟩
abbrev S1x1024x2304 : Shape := ⟨3, ![1, 1024, 2304]⟩
abbrev S8192x2304 : Shape := ⟨2, ![8192, 2304]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1x1024x2304, .bf16⟩
  | .hbm, ⟨2, _⟩ => ⟨S8192x2304, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvInRefIdeal.lean ====
abbrev S8192x1024 : Shape := ⟨2, ![8192, 1024]⟩
abbrev S1x1024x2304 : Shape := ⟨3, ![1, 1024, 2304]⟩
abbrev S1024x2304 : Shape := ⟨2, ![1024, 2304]⟩
abbrev S8192x2304 : Shape := ⟨2, ![8192, 2304]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x2304, .bf16⟩
  | .hbm, ⟨2, _⟩ => ⟨S8192x1024, .f32⟩
  | .hbm, ⟨3, _⟩ => ⟨S1024x2304, .bf16⟩
  | .hbm, ⟨4, _⟩ => ⟨S1024x2304, .f32⟩
  | .hbm, ⟨5, _⟩ => ⟨S8192x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvDx.lean ====
abbrev S8192x2304 : Shape := ⟨2, ![8192, 2304]⟩
abbrev S1x1024x2304 : Shape := ⟨3, ![1, 1024, 2304]⟩
abbrev S8192x1024 : Shape := ⟨2, ![8192, 1024]⟩
abbrev S1024x1152 : Shape := ⟨2, ![1024, 1152]⟩
abbrev S1x1024x1152 : Shape := ⟨3, ![1, 1024, 1152]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2304, .bf16⟩
  | .hbm, ⟨1, _⟩ => ⟨S1x1024x2304, .bf16⟩
  | .hbm, ⟨2, _⟩ => ⟨S8192x1024, .f32⟩
  | .local _ .vmem, ⟨0, _⟩ => ⟨S1024x1152, .bf16⟩
  | .local _ .vmem, ⟨1, _⟩ => ⟨S1024x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDxIdeal.lean ====
abbrev S8192x2304 : Shape := ⟨2, ![8192, 2304]⟩
abbrev S1x1024x2304 : Shape := ⟨3, ![1, 1024, 2304]⟩
abbrev S8192x1024 : Shape := ⟨2, ![8192, 1024]⟩
abbrev S1024x1152 : Shape := ⟨2, ![1024, 1152]⟩
abbrev S1x1024x1152 : Shape := ⟨3, ![1, 1024, 1152]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2304, .bf16⟩
  | .hbm, ⟨1, _⟩ => ⟨S1x1024x2304, .bf16⟩
  | .hbm, ⟨2, _⟩ => ⟨S8192x1024, .f32⟩
  | .local _ .vmem, ⟨0, _⟩ => ⟨S1024x1152, .bf16⟩
  | .local _ .vmem, ⟨1, _⟩ => ⟨S1024x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDxRefIdeal.lean ====
abbrev S8192x2304 : Shape := ⟨2, ![8192, 2304]⟩
abbrev S1x1024x2304 : Shape := ⟨3, ![1, 1024, 2304]⟩
abbrev S1024x2304 : Shape := ⟨2, ![1024, 2304]⟩
abbrev S2304x1024 : Shape := ⟨2, ![2304, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S1x1024x2304, .bf16⟩
  | .hbm, ⟨2, _⟩ => ⟨S8192x2304, .f32⟩
  | .hbm, ⟨3, _⟩ => ⟨S1024x2304, .bf16⟩
  | .hbm, ⟨4, _⟩ => ⟨S1024x2304, .f32⟩
  | .hbm, ⟨5, _⟩ => ⟨S2304x1024, .f32⟩
  | .hbm, ⟨6, _⟩ => ⟨S8192x1024, .f32⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QueryIn.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryInIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryInRefIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1024x1024, .bf16⟩
  | .hbm, ⟨4, _⟩ => ⟨S1024x1024, .f32⟩
  | .hbm, ⟨5, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QueryDx.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDxIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDxRefIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1024x1024, .bf16⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixOut.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S8192x1024, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S8192x1024, .f32⟩
  | .hbm, ⟨3, _⟩ => ⟨S1024x1024, .bf16⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixDx.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDxRefIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .bf16⟩
  | .hbm, ⟨2, _⟩ => ⟨S1024x1024, .bf16⟩
  | .hbm, ⟨3, _⟩ => ⟨S1024x1024, .f32⟩
  | .hbm, ⟨4, _⟩ => ⟨S1024x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateBwd.lean ====
abbrev S8192x2304 : Shape := ⟨2, ![8192, 2304]⟩
abbrev S128 : Shape := ⟨1, ![128]⟩
abbrev S8192x128 : Shape := ⟨2, ![8192, 128]⟩
abbrev S8x128 : Shape := ⟨2, ![8, 128]⟩
abbrev S256x256 : Shape := ⟨2, ![256, 256]⟩
abbrev S256x128 : Shape := ⟨2, ![256, 128]⟩
abbrev S1x128 : Shape := ⟨2, ![1, 128]⟩
abbrev S32x8x128 : Shape := ⟨3, ![32, 8, 128]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S8192x2304, .f32⟩
  | .hbm, ⟨1, _⟩ => ⟨S128, .f32⟩
  | .hbm, ⟨2, _⟩ => ⟨S8192x128, .f32⟩
  | .hbm, ⟨3, _⟩ => ⟨S8x128, .f32⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S256x256, .bf16⟩
  | .hbm, ⟨8, _⟩ => ⟨S8192x128, .f32⟩
  | .hbm, ⟨9, _⟩ => ⟨S8x128, .f32⟩
  | .hbm, ⟨10, _⟩ => ⟨S_, .f32⟩
  | .hbm, ⟨11, _⟩ => ⟨S128, .f32⟩
  | .local _ .vmem, ⟨0, _⟩ => ⟨S256x128, .f32⟩
  | .local _ .vmem, ⟨1, _⟩ => ⟨S256x128, .f32⟩
  | .local _ .vmem, ⟨2, _⟩ => ⟨S8x128, .f32⟩
  | .local _ .vmem, ⟨3, _⟩ => ⟨S256x256, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S8x128, .f32⟩
  | .local _ .vmem, ⟨9, _⟩ => ⟨S8x128, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_cst : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c16_i32_1 : BitVec 32 := 16#32
  let c0_i32 : BitVec 32 := 0#32
  ![v3.toNat, c16_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== GateBwdRefIdeal.lean ====
abbrev S8192x2304 : Shape := ⟨2, ![8192, 2304]⟩
abbrev S128 : Shape := ⟨1, ![128]⟩
abbrev S8192x128 : Shape := ⟨2, ![8192, 128]⟩
abbrev S2x4096x128 : Shape := ⟨3, ![2, 4096, 128]⟩
abbrev S_ : Shape := ⟨0, ![]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x2304, .f32⟩
  | .hbm, ⟨1, _⟩ => ⟨S128, .f32⟩
  | .hbm, ⟨2, _⟩ => ⟨S8192x128, .f32⟩
  | .hbm, ⟨3, _⟩ => ⟨S2x4096x128, .f32⟩
  | .hbm, ⟨4, _⟩ => ⟨S2x4096x128, .f32⟩
  | .hbm, ⟨5, _⟩ => ⟨S_, .f32⟩
  | .hbm, ⟨6, _⟩ => ⟨S_, .f32⟩
  | .hbm, ⟨7, _⟩ => ⟨S2x4096x128, .f32⟩
  | .hbm, ⟨8, _⟩ => ⟨S2x4096x128, .f32⟩
  | .hbm, ⟨9, _⟩ => ⟨S8192x128, .f32⟩
  | .hbm, ⟨10, _⟩ => ⟨S8192x128, .f32⟩
  | .hbm, ⟨11, _⟩ => ⟨S1x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S128, .f32⟩
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call1_call0_cst : Ref sig .tc := ⟨.hbm, 5, rfl⟩
abbrev main_call1_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Gate.lean ====
abbrev S8192x2304 : Shape := ⟨2, ![8192, 2304]⟩
abbrev S128 : Shape := ⟨1, ![128]⟩
abbrev S8x128 : Shape := ⟨2, ![8, 128]⟩
abbrev S256x256 : Shape := ⟨2, ![256, 256]⟩
abbrev S8192x128 : Shape := ⟨2, ![8192, 128]⟩
abbrev S256x128 : Shape := ⟨2, ![256, 128]⟩
abbrev S1x128 : Shape := ⟨2, ![1, 128]⟩

abbrev nBuf : Space → Nat
  | .hbm => 8
  | .vmem => 7
  | .smem => 0
  | _ => 0

abbrev bufTy : (tb : Table) → Fin (tcTables nBuf tb) → BufTy
  | .hbm, ⟨0, _⟩ => ⟨S8192x2304, .f32⟩
  | .hbm, ⟨1, _⟩ => ⟨S128, .f32⟩
  | .hbm, ⟨2, _⟩ => ⟨S8x128, .f32⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S256x256, .bf16⟩
  | .hbm, ⟨7, _⟩ => ⟨S8192x128, .f32⟩
  | .local _ .vmem, ⟨0, _⟩ => ⟨S256x128, .f32⟩
  | .local _ .vmem, ⟨1, _⟩ => ⟨S256x128, .f32⟩
  | .local _ .vmem, ⟨2, _⟩ => ⟨S8x128, .f32⟩
  | .local _ .vmem, ⟨3, _⟩ => ⟨S256x256, .bf16⟩
  | .local _ .vmem, ⟨4, _⟩ => ⟨S256x128, .f32⟩
  | .local _ .vmem, ⟨5, _⟩ => ⟨S256x128, .f32⟩
  | .local _ .vmem, ⟨6, _⟩ => ⟨S8x128, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let c0_i32 : BitVec 32 := 0#32
  ![v1.toNat, c16_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateRefIdeal.lean ====
abbrev S8192x2304 : Shape := ⟨2, ![8192, 2304]⟩
abbrev S128 : Shape := ⟨1, ![128]⟩
abbrev S8192x128 : Shape := ⟨2, ![8192, 128]⟩
abbrev S1x128 : Shape := ⟨2, ![1, 128]⟩
abbrev S_ : Shape := ⟨0, ![]⟩
abbrev S2x4096x128 : Shape := ⟨3, ![2, 4096, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x2304, .f32⟩
  | .hbm, ⟨1, _⟩ => ⟨S128, .f32⟩
  | .hbm, ⟨2, _⟩ => ⟨S8192x128, .f32⟩
  | .hbm, ⟨3, _⟩ => ⟨S1x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .i1⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S2x4096x128, .f32⟩
  | .hbm, ⟨23, _⟩ => ⟨S_, .f32⟩
  | .hbm, ⟨24, _⟩ => ⟨S_, .f32⟩
  | .hbm, ⟨25, _⟩ => ⟨S2x4096x128, .f32⟩
  | .hbm, ⟨26, _⟩ => ⟨S8192x128, .f32⟩
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_v5 : Ref sig .tc := ⟨.hbm, 22, rfl⟩
abbrev main_call1_call0_cst : Ref sig .tc := ⟨.hbm, 23, rfl⟩
abbrev main_call1_call0_v0 : Ref sig .tc := ⟨.hbm, 24, rfl⟩
abbrev main_v6 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== Proof.GateBwd.Later.lean ====
/-
  A running sum from the end: the reference's reversed cumulative sum of the tokens of one example, entry by entry.
-/
module

public import proofs.«01_k».proof.Proof.Gen.GateBwdRefIdeal
public import Idealize.ShloMosaic.Lib.Pipeline.ValueKit

@[expose] public section

set_option maxRecDepth 16384

noncomputable section

namespace Exchange.GateBwd

open Cert.GateBwdRefIdeal Cert.GateBwdRefIdeal.Gen Idealize.ShloMosaic Idealize.ShloMosaic.TcCoe Idealize.ShloMosaic.Pipeline
open scoped BigOperators

/-- Token `p` of example `e`, among all tokens. -/
def token (e : Fin 2) (p : Fin 4096) : Fin 8192 := ⟨e.val * 4096 + p.val, by omega⟩

theorem fold_add {ι : Type*} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- A sum over the part of a list that a window ending at `p` covers is the sum over the entries up to `p`. -/
theorem slide (f : Fin 4096 → EReal) (p : Fin 4096) :
    (∑ s : Fin 4096, if h : 4095 ≤ p.val + s.val then f ⟨p.val + s.val - 4095, by omega⟩ else 0) = ∑ s : Fin 4096, if s ≤ p then f s else 0 := by
  rw [← Equiv.sum_comp (Equiv.addRight (p + 1)) fun s => if s ≤ p then f s else 0]
  refine Finset.sum_congr rfl fun s _ => ?_
  have e : (Equiv.addRight (p + 1) s).val = (s.val + (p.val + 1)) % 4096 := by
    show (s + (p + 1)).val = _
    rw [Fin.val_add, Fin.val_add, Nat.add_mod_mod]
    rfl
  have hs := s.isLt
  have hp := p.isLt
  by_cases h : 4095 ≤ p.val + s.val
  · have e' : Equiv.addRight (p + 1) s = ⟨p.val + s.val - 4095, by omega⟩ := Fin.ext (by rw [e]; show _ = p.val + s.val - 4095; omega)
    rw [dif_pos h, e', if_pos (Fin.le_def.mpr (by show p.val + s.val - 4095 ≤ p.val; omega))]
  · rw [dif_neg h, if_neg fun g => by have := Fin.le_def.mp g; rw [e] at this; omega]

/-- The cumulative sum along the tokens of an example. -/
theorem cumulated (x : FVec Ideal S2x4096x128 .f32) (z : FVec Ideal S_ .f32) (hz : ∀ i, z i = 0) (e : Fin 2) (p : Fin 4096) (q : Fin 128) :
    Host.reduceWindowAdd (F := Ideal) (φ := .f32) ![1, 4096, 1] ![1, 1, 1] ![0, 4095, 0] ![0, 0, 0] x z
        reduceWindows_S2x4096x128_S2x4096x128_w1s1p0_0_w4096s1p4095_0_w1s1p0_0 h_S_ (ix3 e p q)
      = ∑ s : Fin 4096, if s ≤ p then x (ix3 e s q) else 0 := by
  rw [← slide fun s => x (ix3 e s q)]
  unfold Host.reduceWindowAdd
  rw [Ideal.hostReduceWindowAdd_def]
  unfold Ideal.hostReduceWindowAdd Host.reduceWindow
  refine (fold_add _ _ _).trans ?_
  rw [hz, zero_add, ← Fin.sum_univ_def]
  refine (Equiv.sum_comp (Shape.rowMajor ⟨3, ![1, 4096, 1]⟩).symm (fun w : (⟨3, ![1, 4096, 1]⟩ : Shape).Idx =>
    @dite EReal (∀ a : Fin 3, (![0, 4095, 0] : Fin 3 → ℕ) a ≤ (ix3 e p q a).val * (![1, 1, 1] : Fin 3 → ℕ) a + (w a).val
        ∧ (ix3 e p q a).val * (![1, 1, 1] : Fin 3 → ℕ) a + (w a).val - (![0, 4095, 0] : Fin 3 → ℕ) a < S2x4096x128.size a) (Nat.decidableForallFin _)
      (fun h => x fun a => ⟨(ix3 e p q a).val * (![1, 1, 1] : Fin 3 → ℕ) a + (w a).val - (![0, 4095, 0] : Fin 3 → ℕ) a, (h a).2⟩) fun _ => 0)).trans ?_
  rw [sum_idx3, Fin.sum_univ_one]
  refine Finset.sum_congr rfl fun s _ => ?_
  rw [Fin.sum_univ_one]
  have hs := s.isLt
  have hp := p.isLt
  by_cases h : 4095 ≤ p.val + s.val
  · rw [dif_pos h]
    refine (dif_pos fun a => ?_).trans (congrArg x (funext fun a => Fin.ext ?_))
    · match a with
      | ⟨0, _⟩ => exact ⟨Nat.zero_le _, by show e.val * 1 + 0 - 0 < 2; omega⟩
      | ⟨1, _⟩ => exact ⟨by show 4095 ≤ p.val * 1 + s.val; omega, by show p.val * 1 + s.val - 4095 < 4096; omega⟩
      | ⟨2, _⟩ => exact ⟨Nat.zero_le _, by show q.val * 1 + 0 - 0 < 128; omega⟩
    · match a with
      | ⟨0, _⟩ => show e.val * 1 + 0 - 0 = e.val; omega
      | ⟨1, _⟩ => show p.val * 1 + s.val - 4095 = p.val + s.val - 4095; omega
      | ⟨2, _⟩ => show q.val * 1 + 0 - 0 = q.val; omega
  · rw [dif_neg h]
    exact (dif_neg fun g => h (by have g1 : 4095 ≤ p.val * 1 + s.val := (g 1).1; omega))

/-- The sum of an example's entries from a token on. -/
def later (d : FVec Ideal S8192x128 .f32) (e : Fin 2) (p : Fin 4096) (q : Fin 128) : EReal :=
  ∑ s : Fin 4096, if p ≤ s then d (ix2 (token e s) q) else 0

/-- One sigmoid, with its argument's sign turned. -/
def gate (z : EReal) : EReal := Ideal.logistic (-z)

/-- The gradient of the gate's argument, as the reference writes it. -/
def turned (x : FVec Ideal S8192x2304 .f32) (b : FVec Ideal S128 .f32) (d : FVec Ideal S8192x128 .f32) : FVec Ideal S8192x128 .f32 :=
  mulf (shapeCast _ (Host.reverse [1] (Host.reduceWindowAdd ![1, 4096, 1] ![1, 1, 1] ![0, 4095, 0] ![0, 0, 0] (Host.reverse [1] (shapeCast _ d shapeCasts_S8192x128_S2x4096x128)) (broadcastInDim S_ ![] bcast_S_S_ (constant S_ .f32 0x00000000#32)) reduceWindows_S2x4096x128_S2x4096x128_w1s1p0_0_w4096s1p4095_0_w1s1p0_0 h_S_)) shapeCasts_S2x4096x128_S8192x128) (Host.divf (broadcastInDim S8192x128 ![] bcast_S_S8192x128 (constant S_ .f32 0x3F800000#32)) (addf (broadcastInDim S8192x128 ![] bcast_S_S8192x128 (constant S_ .f32 0x3F800000#32)) (Host.exp (Host.negf (Host.negf (addf (extractStridedSlice S8192x128 ![0, 2048] x slices_S8192x2304_S8192x128_0_2048) (broadcastInDim S8192x128 ![0, 1] bcast_S1x128_S8192x128_0_1 (broadcastInDim S1x128 ![1] bcast_S128_S1x128_1 b))))))))

/-- The gradient of the gate's bias. -/
def biasGrad (x : FVec Ideal S8192x2304 .f32) (b : FVec Ideal S128 .f32) (d : FVec Ideal S8192x128 .f32) : FVec Ideal S128 .f32 :=
  Host.reduceAdd (turned x b d) (constant (F := Ideal) S_ .f32 0x00000000#32) reducesTo_S8192x128_S128_d0 h_S_

theorem folded (y : FVec Ideal S2x4096x128 .f32) (e : Fin 2) (p : Fin 4096) (q : Fin 128) :
    (shapeCast S8192x128 y shapeCasts_S2x4096x128_S8192x128) (ix2 (token e p) q) = y (ix3 e p q) := by
  pointwise [token]

theorem unfolded (y : FVec Ideal S8192x128 .f32) (e : Fin 2) (p : Fin 4096) (q : Fin 128) :
    (shapeCast S2x4096x128 y shapeCasts_S8192x128_S2x4096x128) (ix3 e p q) = y (ix2 (token e p) q) := by
  pointwise [token]

theorem flipped (y : FVec Ideal S2x4096x128 .f32) (e : Fin 2) (p : Fin 4096) (q : Fin 128) :
    Host.reverse [1] y (ix3 e p q) = y (ix3 e p.rev q) := by
  refine congrArg y (funext fun a => ?_)
  match a with
  | ⟨0, _⟩ => exact if_neg (by simp)
  | ⟨1, _⟩ => exact if_pos (by simp)
  | ⟨2, _⟩ => exact if_neg (by simp)

theorem later_at (d : FVec Ideal S8192x128 .f32) (e : Fin 2) (p : Fin 4096) (q : Fin 128) :
    (shapeCast S8192x128 (Host.reverse [1] (Host.reduceWindowAdd (F := Ideal) (φ := .f32) ![1, 4096, 1] ![1, 1, 1] ![0, 4095, 0] ![0, 0, 0]
      (Host.reverse [1] (shapeCast S2x4096x128 d shapeCasts_S8192x128_S2x4096x128)) (broadcastInDim S_ ![] bcast_S_S_ (constant S_ .f32 0x00000000#32))
      reduceWindows_S2x4096x128_S2x4096x128_w1s1p0_0_w4096s1p4095_0_w1s1p0_0 h_S_)) shapeCasts_S2x4096x128_S8192x128) (ix2 (token e p) q) = later d e p q := by
  rw [folded, flipped, cumulated _ _ (fun i => by pointwise [])]
  refine Eq.trans (Finset.sum_congr rfl fun s _ => ?_) (Equiv.sum_comp Fin.revPerm fun s => if p ≤ s then d (ix2 (token e s) q) else 0)
  rw [flipped, unfolded]
  exact if_congr (by rw [Fin.revPerm_apply, Fin.le_rev_iff]) rfl rfl

theorem turned_at (x : FVec Ideal S8192x2304 .f32) (b : FVec Ideal S128 .f32) (d : FVec Ideal S8192x128 .f32) (e : Fin 2) (p : Fin 4096) (q : Fin 128) :
    turned x b d (ix2 (token e p) q) = later d e p q * gate (x (ix2 (token e p) ⟨2048 + q.val, by omega⟩) + b (ix1 q)) := by
  refine congrArg₂ (· * ·) (later_at d e p q) ?_
  pointwise [gate, Ideal.logistic]

theorem biasGrad_at (x : FVec Ideal S8192x2304 .f32) (b : FVec Ideal S128 .f32) (d : FVec Ideal S8192x128 .f32) (q : Fin 128) :
    biasGrad x b d (ix1 q) = ∑ p : Fin 8192, turned x b d (ix2 p q) := by
  pointwise [biasGrad]

/-- A sum from a token on: what is left of the token's block, and the later blocks. -/
theorem suffix (f : Fin 4096 → EReal) (j : Fin 16) (p : Fin 256) :
    (∑ k : Fin 256, if p ≤ k then f ⟨j.val * 256 + k.val, by omega⟩ else 0) + (∑ a : Fin 16, if j < a then ∑ k : Fin 256, f ⟨a.val * 256 + k.val, by omega⟩ else 0)
      = ∑ s : Fin 4096, if (⟨j.val * 256 + p.val, by omega⟩ : Fin 4096) ≤ s then f s else 0 := by
  refine Eq.trans ?_ (Fin.sum_mul_add_congr (S := 16) (n := 256) (F := fun a k => if (⟨j.val * 256 + p.val, by omega⟩ : Fin 4096) ≤ ⟨a.val * 256 + k.val, by omega⟩
    then f ⟨a.val * 256 + k.val, by omega⟩ else 0) fun a k hl => rfl)
  have own : (∑ k : Fin 256, if p ≤ k then f ⟨j.val * 256 + k.val, by omega⟩ else 0)
      = ∑ a : Fin 16, if a = j then ∑ k : Fin 256, (if p ≤ k then f ⟨a.val * 256 + k.val, by omega⟩ else 0) else 0 := by
    rw [Finset.sum_ite_eq' Finset.univ j, if_pos (Finset.mem_univ j)]
  rw [own, ← Finset.sum_add_distrib]
  refine Finset.sum_congr rfl fun a _ => ?_
  have hp := p.isLt
  rcases lt_trichotomy a j with h | h | h
  · have h' : a.val < j.val := h
    rw [if_neg h.ne, if_neg h.not_gt, zero_add]
    refine (Finset.sum_eq_zero fun k _ => if_neg fun g => ?_).symm
    have g' : j.val * 256 + p.val ≤ a.val * 256 + k.val := g
    have := k.isLt
    omega
  · subst h
    rw [if_pos rfl, if_neg (lt_irrefl a), add_zero]
    refine Finset.sum_congr rfl fun k _ => if_congr ⟨fun g => ?_, fun g => ?_⟩ rfl rfl
    · have g' : p.val ≤ k.val := g
      show a.val * 256 + p.val ≤ a.val * 256 + k.val
      omega
    · have g' : a.val * 256 + p.val ≤ a.val * 256 + k.val := g
      show p.val ≤ k.val
      omega
  · have h' : j.val < a.val := h
    rw [if_neg h.ne', if_pos h, zero_add]
    refine Finset.sum_congr rfl fun k _ => (if_pos ?_).symm
    show j.val * 256 + p.val ≤ a.val * 256 + k.val
    omega

/-- One block more. -/
theorem onward (g : Fin 16 → EReal) (j : Fin 16) : g j + (∑ a : Fin 16, if j < a then g a else 0) = ∑ a : Fin 16, if j ≤ a then g a else 0 := by
  have own : g j = ∑ a : Fin 16, if a = j then g a else 0 := by
    rw [Finset.sum_ite_eq' Finset.univ j, if_pos (Finset.mem_univ j)]
  rw [own, ← Finset.sum_add_distrib]
  refine Finset.sum_congr rfl fun a _ => ?_
  rcases lt_trichotomy a j with h | h | h
  · rw [if_neg h.ne, if_neg h.not_gt, if_neg h.not_ge, zero_add]
  · rw [if_pos h, if_neg h.not_gt, if_pos h.ge, add_zero]
  · rw [if_neg h.ne', if_pos h, if_pos h.le, zero_add]

end Exchange.GateBwd

end
-- ==== Proof.GateBwd.Value.lean ====
/-
  The gradient of the gate's argument and of its bias: a block of tokens against a triangle of ones, carried from the last
  block of an example to its first, is the sum from each token on.
-/
module

public import proofs.«01_k».proof.Proof.Gen.GateBwdIdeal.Frame
public import proofs.«01_k».proof.Proof.GateBwd.Later
public import Idealize.ShloMosaic.Lib.Pipeline.ValueKit
public import Idealize.ShloMosaic.Lib.Pipeline.ReadBack

@[expose] public section

set_option maxRecDepth 16384

noncomputable section

namespace Exchange.GateBwd

open Cert.GateBwdIdeal Cert.GateBwdIdeal.Gen Idealize.ShloMosaic Idealize.ShloMosaic.TcCoe Idealize.ShloMosaic.Pipeline
open scoped BigOperators

variable (m : (ℓ : Loc nD τ sig) → Buf (Elt Ideal) ℓ)

/-- Neither infinity. -/
def Finite (d : FVec Ideal S8192x128 .f32) : Prop := ∀ (p : Fin 8192) (q : Fin 128), d (ix2 p q) ≠ ⊤ ∧ d (ix2 p q) ≠ ⊥

/-- The three parts that a finite block is split into add up to the block, and a triangle of ones picks the rows from one on. -/
theorem scanned (d : FVec Ideal S256x128 .f32) (u : FVec Ideal S256x256 .bf16) (r : FVec Ideal S1x128 .f32)
    (hd : ∀ (k : Fin 256) (q : Fin 128), d (ix2 k q) ≠ ⊤ ∧ d (ix2 k q) ≠ ⊥) (hu : ∀ p k : Fin 256, u (ix2 p k) = (if p ≤ k then 1 else 0 : EReal))
    (p : Fin 256) (q : Fin 128) :
    k0_pay5 (F := Ideal) d u r (ix2 p q) = (∑ k : Fin 256, if p ≤ k then d (ix2 k q) else 0) + r (ix2 0 q) := by
  have e : ∀ k, d (ix2 k q) - d (ix2 k q) = 0 := fun k => EReal.sub_self (hd k q).1 (hd k q).2
  pointwise [k0_pay5]
  simp only [e, hu, sub_zero, mul_zero, Finset.sum_const_zero, add_zero, ite_mul, one_mul, zero_mul]

theorem carried (d : FVec Ideal S256x128 .f32) (u : FVec Ideal S256x256 .bf16) (r : FVec Ideal S1x128 .f32) (s : Fin 8) (q : Fin 128) :
    k0_pay6 (F := Ideal) d u r (ix2 s q) = k0_pay5 (F := Ideal) d u r (ix2 0 q) := by
  pointwise [k0_pay6]

theorem empty (y : S8x128.Idx) : k0_pay3 (F := Ideal) y = 0 := by pointwise [k0_pay3]

theorem cleared (y : S8x128.Idx) : k0_pay4 (F := Ideal) y = 0 := by pointwise [k0_pay4]

theorem stored (s z : FVec Ideal S256x128 .f32) (b : FVec Ideal S1x128 .f32) (p : Fin 256) (q : Fin 128) :
    k0_pay1 (F := Ideal) s z (k0_pay7 (F := Ideal) b) (ix2 p q) = s (ix2 p q) * gate (z (ix2 p q) + b (ix2 0 q)) := by
  pointwise [k0_pay1, k0_pay7, gate]
  rw [zero_sub]

/-- Row `s` of the eight that the `r`-th eight of a step's rows adds to. -/
def deal (r : Fin 32) (s : Fin 8) : Fin 256 := ⟨r.val * 8 + s.val, by omega⟩

theorem added (s z : FVec Ideal S256x128 .f32) (b : FVec Ideal S1x128 .f32) (v : FVec Ideal S8x128 .f32) (y : S8x128.Idx) :
    k0_pay2 (F := Ideal) s z b v y = v y + ∑ r : Fin 32, k0_pay1 (F := Ideal) s z b (ix2 (deal r (y 0)) (y 1)) := by
  pointwise [k0_pay2, deal]

/-- A step reads and writes a block of tokens, from the last of its example to the first, and the whole of the others. -/
theorem places : ∀ t : Fin cfg0.N, win0_0.index t = ![t.val / 16 * 16 + (15 - t.val % 16), 16] ∧ win0_1.index t = ![0, 0] ∧ win0_2.index t = ![0, 0]
    ∧ win0_3.index t = ![t.val / 16 * 16 + (15 - t.val % 16), 0] ∧ win0_4.index t = ![t.val / 16 * 16 + (15 - t.val % 16), 0] ∧ win0_5.index t = ![0, 0] := by
  decide +kernel

/-- A step's example. -/
def part (t : Fin cfg0.N) : Fin 2 := ⟨t.val / 16, by have := t.isLt; have e : cfg0.N = 32 := rfl; omega⟩

/-- A step's block of its example. -/
def spot (t : Fin cfg0.N) : Fin 16 := ⟨15 - t.val % 16, by omega⟩

/-- Row `p` of a step's block, among the example's tokens. -/
def row (t : Fin cfg0.N) (p : Fin 256) : Fin 4096 := ⟨(spot t).val * 256 + p.val, by omega⟩

theorem cmp_ge (p k : Fin 256) : IntOp.cmpi .sge (BitVec.ofNat 32 k.val) (BitVec.ofNat 32 p.val) = if p ≤ k then 1#1 else 0#1 := by
  revert p k
  decide +kernel

/-- The triangle of ones that the call finds. -/
theorem triangle (c : Dev nD) (p k : Fin 256) : (V m c main_v4 : FVec Ideal S256x256 .bf16) (ix2 p k) = (if p ≤ k then 1 else 0 : EReal) := by
  show StableHlo.after hostOps0 _ _ _ = _
  after_results
  pointwise []
  rw [cmp_ge]
  by_cases h : p ≤ k
  · rw [if_pos h, if_pos h]
    show (((1#1).toNat : ℝ) : EReal) = 1
    norm_num
  · rw [if_neg h, if_neg h]
    show (((0#1).toNat : ℝ) : EReal) = 0
    norm_num

/-- The bias as the call finds it, eight rows alike. -/
theorem bias (c : Dev nD) (s : Fin 8) (q : Fin 128) : (V m c main_v0 : FVec Ideal S8x128 .f32) (ix2 s q) = (m ((c.tc : Thread nD τ).loc main_arg1) : FVec Ideal S128 .f32) (ix1 q) := by
  show StableHlo.after hostOps0 _ _ _ = _
  after_results
  pointwise []

theorem read_z (c : Dev nD) (t : Fin cfg0.N) (p : Fin 256) (q : Fin 128) :
    (iblk m c 0 t : FVec Ideal S256x128 .f32) (ix2 p q) = m ((c.tc : Thread nD τ).loc main_arg0) (ix2 (token (part t) (row t p)) ⟨2048 + q.val, by omega⟩) := by
  blk_ext [token, row, spot, part, iblk, V, places t]

theorem read_b (c : Dev nD) (t : Fin cfg0.N) (s : Fin 8) (q : Fin 128) :
    (iblk m c 1 t : FVec Ideal S8x128 .f32) (ix2 s q) = (m ((c.tc : Thread nD τ).loc main_arg1) : FVec Ideal S128 .f32) (ix1 q) := by
  refine Eq.trans ?_ (bias m c s q)
  blk_ext [iblk, places t]

theorem read_u (c : Dev nD) (t : Fin cfg0.N) (p k : Fin 256) :
    (iblk m c 2 t : FVec Ideal S256x256 .bf16) (ix2 p k) = (if p ≤ k then 1 else 0 : EReal) := by
  refine Eq.trans ?_ (triangle m c p k)
  blk_ext [iblk, places t]

theorem read_d (c : Dev nD) (t : Fin cfg0.N) (p : Fin 256) (q : Fin 128) :
    (iblk m c 3 t : FVec Ideal S256x128 .f32) (ix2 p q) = m ((c.tc : Thread nD τ).loc main_arg2) (ix2 (token (part t) (row t p)) q) := by
  blk_ext [token, row, spot, part, iblk, V, places t]

/-- The bias's row that a step reads. -/
def biasRow (c : Dev nD) (t : Fin cfg0.N) : FVec Ideal S1x128 .f32 := View.ld (iblk m c 1 t) (Rect.unit ![0, 0] ![1, 128] inb_S8x128_S1x128_0_0)

theorem biasRow_at (c : Dev nD) (t : Fin cfg0.N) (q : Fin 128) :
    biasRow m c t (ix2 0 q) = (m ((c.tc : Thread nD τ).loc main_arg1) : FVec Ideal S128 .f32) (ix1 q) :=
  (View.ld_unit_apply_of _ _ _ _ _ (ix2 (0 : Fin 8) q) (by intro a; fin_cases a <;> simp)).trans (read_b m c t 0 q)

/-- What a step finds carried: nothing at the last block of an example. -/
def entering (c : Dev nD) (t : Fin cfg0.N) : FVec Ideal S1x128 .f32 := fun y =>
  if t.val % 16 = 0 then 0 else (outsAt0 m c (t.val - 1) (Nat.lt_of_le_of_lt (Nat.sub_le _ _) t.isLt)).2.2 (ix2 0 (y 1))

theorem entering_first (c : Dev nD) (t : Fin cfg0.N) (h : t.val % 16 = 0) :
    (View.whole cc0_scratch0).readCov (Val := Elt Ideal) [⟨Rect.unit ![0, 0] ![8, 128] inb_S8x128_S8x128_0_0, k0_pay3 (F := Ideal)⟩]
      (Rect.unit ![0, 0] ![1, 128] inb_S8x128_S1x128_0_0).toLoadRect = entering m c t := by
  refine (View.readCov_fill _ _ _ _ _ (by intro a; fin_cases a <;> rfl)).trans (funext fun y => ?_)
  exact (empty _).trans (if_pos h).symm

theorem entering_next (c : Dev nD) (t : Fin cfg0.N) (h : ¬t.val % 16 = 0) :
    View.ld ((View.whole cc0_scratch0).read (Elt Ideal) ((Memref.isWhole_whole cc0_scratch0).unread
        (outsAt0 m c (t.val - 1) (Nat.lt_of_le_of_lt (Nat.sub_le _ _) t.isLt)).2.2)) (Rect.unit ![0, 0] ![1, 128] inb_S8x128_S1x128_0_0) = entering m c t := by
  refine funext fun y => (congrArg (fun v => View.ld v _ y) (Memref.IsWhole.read_unread _ _)).trans (Eq.trans ?_ (if_neg h).symm)
  refine View.ld_unit_apply_of _ _ _ _ _ (ix2 (0 : Fin 8) (y 1)) ?_
  intro a
  fin_cases a
  · show 0 = 0 + (y 0).val
    have : (y 0).val < 1 := (y 0).isLt
    omega
  · show (y 1).val = 0 + (y 1).val
    omega

/-- What a step adds up, before the gate. -/
def scan (c : Dev nD) (t : Fin cfg0.N) : FVec Ideal S256x128 .f32 := k0_pay5 (F := Ideal) (iblk m c 3 t) (iblk m c 2 t) (entering m c t)

/-- What a step writes. -/
def write (c : Dev nD) (t : Fin cfg0.N) : FVec Ideal S256x128 .f32 := k0_pay1 (F := Ideal) (scan m c t) (iblk m c 0 t) (k0_pay7 (F := Ideal) (biasRow m c t))

theorem wrote (c : Dev nD) (t : Fin cfg0.N) : (outsAt0 m c t.val t.isLt).1 = write m c t := by
  unfold write scan
  by_cases h0 : t.val % 16 = 0
  · rw [← entering_first m c t h0]
    by_cases h1 : t.val % 32 = 0
    · rw [outsAt0_A m c t h0 h1]; funext y; frame_out; rfl
    · rw [outsAt0_C m c t h0 h1]; funext y; frame_out; rfl
  · have h1 : ¬t.val % 32 = 0 := by omega
    rw [← entering_next m c t h0, outsAt0_B m c t h0 h1]; funext y; frame_out; rfl

theorem kept (c : Dev nD) (t : Fin cfg0.N) : (outsAt0 m c t.val t.isLt).2.2 = k0_pay6 (F := Ideal) (iblk m c 3 t) (iblk m c 2 t) (entering m c t) := by
  by_cases h0 : t.val % 16 = 0
  · rw [← entering_first m c t h0]
    by_cases h1 : t.val % 32 = 0
    · rw [outsAt0_A m c t h0 h1]; funext y; frame_out
    · rw [outsAt0_C m c t h0 h1]; funext y; frame_out
  · have h1 : ¬t.val % 32 = 0 := by omega
    rw [← entering_next m c t h0, outsAt0_B m c t h0 h1]; funext y; frame_out; rfl

theorem restart (c : Dev nD) (t : Fin cfg0.N) (h : t.val % 32 = 0) :
    (outsAt0 m c t.val t.isLt).2.1 = k0_pay2 (F := Ideal) (scan m c t) (iblk m c 0 t) (k0_pay7 (F := Ideal) (biasRow m c t)) (k0_pay4 (F := Ideal)) := by
  have h0 : t.val % 16 = 0 := by omega
  unfold scan
  rw [← entering_first m c t h0, outsAt0_A m c t h0 h]; funext y; frame_out; rfl

theorem extend (c : Dev nD) (t : Fin cfg0.N) (h : ¬t.val % 32 = 0) :
    (outsAt0 m c t.val t.isLt).2.1 = k0_pay2 (F := Ideal) (scan m c t) (iblk m c 0 t) (k0_pay7 (F := Ideal) (biasRow m c t))
      (outsAt0 m c (t.val - 1) (Nat.lt_of_le_of_lt (Nat.sub_le _ _) t.isLt)).2.1 := by
  unfold scan
  by_cases h0 : t.val % 16 = 0
  · rw [← entering_first m c t h0, outsAt0_C m c t h0 h]; funext y; frame_out; rfl
  · rw [← entering_next m c t h0, outsAt0_B m c t h0 h]; funext y; frame_out; rfl

/-- The gradient that arrives. -/
abbrev grad (c : Dev nD) : FVec Ideal S8192x128 .f32 := m ((c.tc : Thread nD τ).loc main_arg2)

/-- The sum of a block of an example. -/
def whole (d : FVec Ideal S8192x128 .f32) (e : Fin 2) (q : Fin 128) (a : Fin 16) : EReal :=
  ∑ k : Fin 256, d (ix2 (token e ⟨a.val * 256 + k.val, by omega⟩) q)

theorem scan_at (c : Dev nD) (hd : Finite (grad m c)) (t : Fin cfg0.N) (p : Fin 256) (q : Fin 128) :
    scan m c t (ix2 p q) = (∑ k : Fin 256, if p ≤ k then grad m c (ix2 (token (part t) (row t k)) q) else 0) + entering m c t (ix2 0 q) := by
  refine (scanned _ _ _ (fun k q => ?_) (read_u m c t) p q).trans ?_
  · rw [read_d]; exact hd _ _
  · simp only [read_d]

/-- A step finds carried the sum of the blocks after its own. -/
theorem entering_at (c : Dev nD) (hd : Finite (grad m c)) (q : Fin 128) : ∀ (n : ℕ) (hn : n < cfg0.N),
    entering m c ⟨n, hn⟩ (ix2 0 q) = ∑ a : Fin 16, if spot ⟨n, hn⟩ < a then whole (grad m c) (part ⟨n, hn⟩) q a else 0 := by
  intro n
  have first : ∀ (n : ℕ) (hn : n < cfg0.N), n % 16 = 0 →
      entering m c ⟨n, hn⟩ (ix2 0 q) = ∑ a : Fin 16, if spot ⟨n, hn⟩ < a then whole (grad m c) (part ⟨n, hn⟩) q a else 0 := fun n hn h => by
    refine (if_pos h).trans (Finset.sum_eq_zero fun a _ => if_neg fun g => ?_).symm
    have g' : 15 - n % 16 < a.val := g
    omega
  induction n with
  | zero => exact fun hn => first 0 hn rfl
  | succ n ih =>
    intro hn
    by_cases h : (n + 1) % 16 = 0
    · exact first (n + 1) hn h
    · have hn' : n < cfg0.N := Nat.lt_of_succ_lt hn
      have e : entering m c ⟨n + 1, hn⟩ (ix2 0 q) = (outsAt0 m c n hn').2.2 (ix2 0 q) := if_neg h
      rw [e, kept m c ⟨n, hn'⟩, carried]
      refine (scan_at m c hd ⟨n, hn'⟩ 0 q).trans ?_
      rw [ih hn']
      refine Eq.trans (congrArg (· + _) (Finset.sum_congr rfl fun k _ => if_pos (Fin.zero_le k))) ((onward (whole (grad m c) (part ⟨n, hn'⟩) q) (spot ⟨n, hn'⟩)).trans ?_)
      have ep : part ⟨n + 1, hn⟩ = part ⟨n, hn'⟩ := Fin.ext (by show (n + 1) / 16 = n / 16; omega)
      rw [ep]
      refine Finset.sum_congr rfl fun a _ => if_congr ⟨fun g => ?_, fun g => ?_⟩ rfl rfl
      · have g' : 15 - n % 16 ≤ a.val := g
        show 15 - (n + 1) % 16 < a.val
        omega
      · have g' : 15 - (n + 1) % 16 < a.val := g
        show 15 - n % 16 ≤ a.val
        omega

theorem scan_later (c : Dev nD) (hd : Finite (grad m c)) (t : Fin cfg0.N) (p : Fin 256) (q : Fin 128) :
    scan m c t (ix2 p q) = later (grad m c) (part t) (row t p) q := by
  rw [scan_at m c hd, entering_at m c hd q t.val t.isLt]
  exact suffix (fun s => grad m c (ix2 (token (part t) s) q)) (spot t) p

/-- The gradient of the gate's argument. -/
abbrev back (c : Dev nD) : FVec Ideal S8192x128 .f32 := turned (m ((c.tc : Thread nD τ).loc main_arg0)) (m ((c.tc : Thread nD τ).loc main_arg1)) (grad m c)

theorem step (c : Dev nD) (hd : Finite (grad m c)) (t : Fin cfg0.N) (p : Fin 256) (q : Fin 128) :
    write m c t (ix2 p q) = back m c (ix2 (token (part t) (row t p)) q) := by
  refine (stored _ _ _ p q).trans (Eq.trans ?_ (turned_at _ _ _ (part t) (row t p) q).symm)
  rw [scan_later m c hd, read_z, biasRow_at]

/-- The call ends with the gradient of the gate's argument. -/
theorem final (c : Dev nD) (hd : Finite (grad m c)) : (dats m 0 c).arrAt 4 cfg0.N = back m c := by
  refine (dats m 0 c).arrAt_eq_of_covers 4 _ (by decide +kernel) fun t hf y => ?_
  blk_simp
  rw [after0_4, wrote]
  have e : ((cfg0.win 4).blk t).view.emb y = ix2 (token (part t) (row t (y 0))) (y 1) := by blk_ext [token, row, spot, part, places t]
  have e' : y = ix2 (y 0) (y 1) := by blk_ext []
  exact (congrArg _ e').trans ((step m c hd t (y 0) (y 1)).trans (congrArg _ e.symm))

/-- What the bias's eight rows hold after the last step. -/
theorem summed (c : Dev nD) (t : Fin cfg0.N) (ht : t.val % 32 = 31) (y : S8x128.Idx) :
    (outsAt0 m c t.val t.isLt).2.1 y = ∑ s : Fin 32, ∑ r : Fin 32,
      write m c ⟨32 * (t.val / 32) + s.val, run_point_lt_of_flush t ht s⟩ (ix2 (deal r (y 0)) (y 1)) := by
  rw [eq_sum_fin_of_reset_step_apply_of_flush (fun n h => (outsAt0 m c n h).2.1) 32 (fun _ => 0)
    (fun p j => ∑ r : Fin 32, write m c p (ix2 (deal r (j 0)) (j 1)))
    (fun t h j => by
      show (outsAt0 m c t.val t.isLt).2.1 j = _
      rw [restart m c t h, added, cleared]; rfl)
    (fun t h j => by
      show (outsAt0 m c t.val t.isLt).2.1 j = _
      rw [extend m c t h, added]; rfl) t ht y, zero_add]

/-- The last step. -/
def last : Fin cfg0.N := ⟨31, by decide⟩

/-- The bias's eight rows. -/
abbrev eights (c : Dev nD) : FVec Ideal S8x128 .f32 := (dats m 0 c).arrAt 5 cfg0.N

theorem eights_at (c : Dev nD) : eights m c = (outsAt0 m c last.val last.isLt).2.1 := by
  refine (dats m 0 c).arrAt_eq_of_after_last 5 last (by decide +kernel) _ fun j => ?_
  blk_simp
  rw [after0_5]

/-- The step that has the `n`-th block of all tokens; the blocks of an example come from the last to the first. -/
def turn (n : Fin 32) : Fin 32 := ⟨n.val / 16 * 16 + (15 - n.val % 16), by omega⟩

theorem turn_turn : Function.Involutive turn := fun n => Fin.ext (by
  show (n.val / 16 * 16 + (15 - n.val % 16)) / 16 * 16 + (15 - (n.val / 16 * 16 + (15 - n.val % 16)) % 16) = n.val
  omega)

/-- The eight rows add up to the bias's gradient. -/
theorem columns (c : Dev nD) (hd : Finite (grad m c)) (q : Fin 128) :
    ∑ s : Fin 8, eights m c (ix2 s q) = biasGrad (m ((c.tc : Thread nD τ).loc main_arg0)) (m ((c.tc : Thread nD τ).loc main_arg1)) (grad m c) (ix1 q) := by
  rw [biasGrad_at]
  refine (Fin.sum_fin_congr fun s => (congrFun (eights_at m c) (ix2 s q)).trans (summed m c last rfl (ix2 s q))).trans ?_
  rw [Finset.sum_comm]
  have one : ∀ t : Fin 32, ∑ s : Fin 8, ∑ r : Fin 32, write m c ⟨32 * (last.val / 32) + t.val, run_point_lt_of_flush last rfl t⟩ (ix2 (deal r s) q)
      = ∑ p : Fin 256, back m c (ix2 (token (part t) (row t p)) q) := fun t => by
    rw [Finset.sum_comm]
    refine Fin.sum_mul_add_congr fun r s hl => ?_
    have e : (⟨32 * (last.val / 32) + t.val, run_point_lt_of_flush last rfl t⟩ : Fin cfg0.N) = t := Fin.ext (Nat.zero_add _)
    rw [e]
    exact step m c hd t (deal r s) q
  refine (Fin.sum_fin_congr one).trans ?_
  refine (Equiv.sum_comp turn_turn.toPerm fun t : Fin 32 => ∑ p : Fin 256, back m c (ix2 (token (part t) (row t p)) q)).symm.trans ?_
  refine Fin.sum_mul_add_congr fun t p hl => congrArg (fun r : Fin 8192 => back m c (ix2 r q)) (Fin.ext ?_)
  show (t.val / 16 * 16 + (15 - t.val % 16)) / 16 * 4096 + ((15 - (t.val / 16 * 16 + (15 - t.val % 16)) % 16) * 256 + p.val) = t.val * 256 + p.val
  omega

end Exchange.GateBwd

end
-- ==== Proof.GateBwd.Claims.lean ====
/-
  The gradient of the gate: the frames, and the two results against the reference's when the gradient that comes in is finite.
-/
module

public import proofs.«01_k».proof.Defs
public import proofs.«01_k».proof.Proof.Gen.GateBwd
public import proofs.«01_k».proof.Proof.Gen.GateBwdRefIdeal.Run
public import proofs.«01_k».proof.Proof.Gen.Pre_dcum_finite
public import proofs.«01_k».proof.Proof.GateBwd.Value

@[expose] public section

set_option maxRecDepth 16384

noncomputable section

namespace Exchange.GateBwd

open Cert.GateBwdIdeal Cert.GateBwdIdeal.Gen Idealize.ShloMosaic Idealize.ShloMosaic.TcCoe Idealize.ShloMosaic.Pipeline Idealize.SL.Sem

variable (m : (ℓ : Loc nD τ sig) → Buf (Elt Ideal) ℓ)

/-- The bound of the precondition is the upper infinity. -/
theorem bound : Ideal.ofBits FTy.f32 0x7F800000#32 = ⊤ := by
  simp [Ideal.ofBits, Ideal.ieee]

/-- An array whose absolute values all lie below the upper infinity has neither infinity in it. -/
theorem finite_of_pre (a : FVec Ideal S8192x2304 .f32) (b : FVec Ideal S128 .f32) (d : FVec Ideal S8192x128 .f32)
    (h : Cert.Pre_dcum_finite.fn (F := Ideal) a b d = fun _ => 1#1) : Finite d := fun p q => by
  have e := congrFun h (ix2 p q)
  have e' : BitVec.ofBool (decide (max (d (ix2 p q)) (-d (ix2 p q)) < Ideal.ofBits FTy.f32 0x7F800000#32)) = 1#1 := e
  rw [bound] at e'
  have l : max (d (ix2 p q)) (-d (ix2 p q)) < ⊤ := by
    by_contra n
    rw [decide_eq_false n] at e'
    exact absurd e' (by decide)
  exact ⟨fun t => by simp [t] at l, fun t => by simp [t] at l⟩

/-- The line after the call adds the bias's eight rows. -/
theorem tail_value (c : Dev nD) (hd : Finite (grad m c)) : Pipeline.afterTail₀ cfgs (dats m) 0 (V0 m) [hostOps1] c main_v6
    = biasGrad (m ((c.tc : Thread nD τ).loc main_arg0)) (m ((c.tc : Thread nD τ).loc main_arg1)) (grad m c) := by
  have e : Pipeline.afterTail₀ cfgs (dats m) 0 (V0 m) [hostOps1] c main_v6
      = Host.reduceAdd (F := Ideal) (φ := .f32) (eights m c) (constant (F := Ideal) S_ .f32 0x00000000#32) reducesTo_S8x128_S128_d0 h_S_ := by
    unfold Pipeline.afterTail₀
    show StableHlo.after hostOps1 _ _ = _
    after_results
    rw [Pipeline.withArrays_arr spec0 winFacts0.arr_inj c _ _ 5]
  rw [e]
  funext i
  obtain ⟨q, rfl⟩ : ∃ q : Fin 128, i = ix1 q := ⟨i 0, by funext a; fin_cases a; rfl⟩
  rw [← columns m c hd]
  pointwise []

/-- The call with the line after it ends with the two gradients. -/
theorem run (g : Dev nD → PrngReg) (hd : ∀ c, Finite (grad m c)) : θ_run (defs (F := Ideal)) (onTc (τ := τ) (main (F := Ideal))) ⟨m, fun _ => 0, g⟩ (fun r => ∀ c : Dev nD,
    r.2.mem ((c.tc : Thread nD τ).loc main_v5_0) = back m c
    ∧ r.2.mem ((c.tc : Thread nD τ).loc main_v6) = biasGrad (m ((c.tc : Thread nD τ).loc main_arg0)) (m ((c.tc : Thread nD τ).loc main_arg1)) (grad m c)) :=
  (θ_run defs _ _).mono (fun _ h c => ⟨((h c).1 4).trans (final m c (hd c)), ((h c).2 main_v6 (by decide)).trans (tail_value m c (hd c))⟩) (run_main m g)

/-- The call's body table is one text, whichever floats it is read at. -/
theorem same : Cert.GateBwd.defs (F := Bits) = defs (F := Bits) :=
  congrArg (Pipeline.defs _) (congrArg Defs.onTc (funext fun l => funext fun p => match l, p with | 0, (_, _) => rfl))

theorem frame : Cert.quiescent_GateBwd (hGateBwd := Cert.GateBwd.Gen.facts) := fun m g _ => by
  rw [same]
  exact Gen.frame (F := Bits) m g

theorem frame_ideal : Cert.quiescent_GateBwdIdeal (hGateBwdIdeal := Gen.facts) := fun m g _ => Gen.frame (F := Ideal) m g

theorem frame_ideal_pre : Cert.quiescent_GateBwdIdeal_pre_dcum_finite (hGateBwdIdeal := Gen.facts) (hPre_dcum_finite := Cert.Pre_dcum_finite.Gen.facts) :=
  fun m g _ => Gen.frame (F := Ideal) m g

theorem frame_ref_ideal : Cert.quiescent_GateBwdRefIdeal (hGateBwdRefIdeal := Cert.GateBwdRefIdeal.Gen.facts) := fun m g _ =>
  (θ_run Cert.GateBwdRefIdeal.defs _ _).mono (fun _ h => ⟨fun c => (h c).2.2, funext fun s => ((by decide : ∀ _ : SemLoc Cert.GateBwdRefIdeal.sig, False) s.2).elim⟩)
    (Cert.GateBwdRefIdeal.Value.run (F := Ideal) m g)

theorem frame_ref_ideal_pre : Cert.quiescent_GateBwdRefIdeal_pre_dcum_finite (hGateBwdRefIdeal := Cert.GateBwdRefIdeal.Gen.facts)
    (hPre_dcum_finite := Cert.Pre_dcum_finite.Gen.facts) :=
  fun m g _ => frame_ref_ideal m g trivial

theorem algebraic : Cert.algebraic_GateBwdIdeal_GateBwdRefIdeal_pre_dcum_finite (hGateBwdIdeal := Gen.facts) (hGateBwdRefIdeal := Cert.GateBwdRefIdeal.Gen.facts)
    (hPre_dcum_finite := Cert.Pre_dcum_finite.Gen.facts) :=
  fun m g m' g' hP hA =>
    ⟨fun c => back m c, fun c => biasGrad (m ((c.tc : Thread nD τ).loc main_arg0)) (m ((c.tc : Thread nD τ).loc main_arg1)) (grad m c),
    (θ_run defs _ _).mono (fun _ h c => ⟨(h.1 c).1, (h.1 c).2, h.2 c⟩)
      (θ_run_and (run m g fun c => finite_of_pre _ _ _ (hP c)) (Gen.unchanged (F := Ideal) m g)),
    (θ_run Cert.GateBwdRefIdeal.defs _ _).mono
      (fun _ h c => ⟨(h c).1.trans (by rw [(hA c).1, (hA c).2.1, (hA c).2.2]; rfl),
        (h c).2.1.trans (by rw [(hA c).1, (hA c).2.1, (hA c).2.2]; rfl), (h c).2.2⟩)
      (Cert.GateBwdRefIdeal.Value.run (F := Ideal) m' g')⟩

end Exchange.GateBwd

end
-- ==== Proof.Gate.Sum.lean ====
/-
  The forgetting gate's reference, entry by entry: the log of the sigmoid, summed over the tokens of an example up to each one.
-/
module

public import proofs.«01_k».proof.Proof.Gen.GateRefIdeal
public import proofs.«01_k».proof.Proof.GateBwd.Later

@[expose] public section

set_option maxRecDepth 16384

noncomputable section

namespace Exchange.Gate

open Cert.GateRefIdeal Cert.GateRefIdeal.Gen Exchange.GateBwd Idealize.ShloMosaic Idealize.ShloMosaic.TcCoe Idealize.ShloMosaic.Pipeline
open scoped BigOperators

/-- The log of the sigmoid, as the kernel writes it. -/
def opened (z : EReal) : EReal := min z 0 - Ideal.log (1 + Ideal.exp (0 - max z (-z)))

theorem log_one : Ideal.log 1 = 0 := by
  show (if (1 : ℝ) ≤ 0 then ⊥ else ((Real.log 1 : ℝ) : EReal)) = 0
  rw [if_neg (by norm_num), Real.log_one]
  rfl

theorem shut : Ideal.log (1 + Ideal.exp ⊥) = 0 := by
  show Ideal.log (1 + 0) = 0
  rw [add_zero, log_one]

theorem greater (a b : ℝ) : ((max a b : ℝ) : EReal) = max (a : EReal) b := EReal.coe_strictMono.monotone.map_max

theorem lesser (a b : ℝ) : ((min a b : ℝ) : EReal) = min (a : EReal) b := EReal.coe_strictMono.monotone.map_min

theorem opened_bot : opened ⊥ = ⊥ := by simp [opened]

theorem opened_top : opened ⊤ = 0 := by
  have e : Ideal.log (1 + Ideal.exp (0 - max ⊤ (-⊤))) = 0 := by
    have e1 : (0 : EReal) - max ⊤ (-⊤) = ⊥ := by simp
    rw [e1]
    exact shut
  unfold opened
  rw [e]
  simp

/-- The part of the log of the sigmoid that both signs share. -/
theorem shared (r : ℝ) : Ideal.log (1 + Ideal.exp ((r : ℝ) : EReal)) = ((Real.log (1 + Real.exp r) : ℝ) : EReal) := by
  have e : (1 : EReal) + Ideal.exp ((r : ℝ) : EReal) = ((1 + Real.exp r : ℝ) : EReal) := rfl
  rw [e]
  exact if_neg (not_le.mpr (by positivity))

theorem opened_coe (r : ℝ) : opened (r : EReal) = ((min r 0 - Real.log (1 + Real.exp (-|r|)) : ℝ) : EReal) := by
  have e : (0 : EReal) - max (r : EReal) (-(r : EReal)) = ((-|r| : ℝ) : EReal) := by
    rw [zero_sub, abs, EReal.coe_neg]
    exact congrArg (-·) (greater r (-r)).symm
  unfold opened
  rw [e, shared, EReal.coe_sub, lesser]
  rfl

theorem opened_ne_top (z : EReal) : opened z ≠ ⊤ := by
  induction z with
  | bot => rw [opened_bot]; exact bot_ne_top
  | top => rw [opened_top]; exact EReal.zero_ne_top
  | coe r => rw [opened_coe]; exact EReal.coe_ne_top _

/-- The log of the sigmoid, as the reference writes it. -/
theorem soft (z : EReal) : -(max (-z) 0 + Ideal.log (1 + Ideal.exp (-max (-z) (- -z)))) = opened z := by
  induction z with
  | bot => rw [opened_bot]; simp [log_one]
  | top =>
    rw [opened_top]
    have e1 : -max (-(⊤ : EReal)) (- -⊤) = ⊥ := by simp
    rw [e1]
    have e : Ideal.log (1 + Ideal.exp ⊥) = 0 := by
      exact shut
    rw [e]
    simp
  | coe r =>
    have e : -max (-(r : EReal)) (- -(r : EReal)) = ((-|r| : ℝ) : EReal) := by
      rw [neg_neg, max_comm, abs, EReal.coe_neg]
      exact congrArg (-·) (greater r (-r)).symm
    have e' : max (-(r : EReal)) 0 = ((max (-r) 0 : ℝ) : EReal) := (greater (-r) 0).symm
    rw [e, shared, opened_coe, e', ← EReal.coe_add, ← EReal.coe_neg]
    refine congrArg _ ?_
    have m : max (-r) 0 = -min r 0 := by rw [← neg_zero, max_neg_neg, neg_zero]
    rw [m]
    ring

/-- The three parts that a value is split into add up to it, unless it is plus infinity. -/
theorem parts (x : EReal) (h : x ≠ ⊤) : x + (x - x) + ((x - x) - (x - x)) = x := by
  induction x with
  | bot => simp
  | top => exact absurd rfl h
  | coe r => rw [EReal.sub_self (EReal.coe_ne_top r) (EReal.coe_ne_bot r)]; simp

/-- The gate's argument. -/
def argument (x : FVec Ideal S8192x2304 .f32) (b : FVec Ideal S128 .f32) (p : Fin 8192) (q : Fin 128) : EReal :=
  x (ix2 p ⟨2048 + q.val, by omega⟩) + b (ix1 q)

/-- The cumulated gate, as the reference writes it. -/
def cum (x : FVec Ideal S8192x2304 .f32) (b : FVec Ideal S128 .f32) : FVec Ideal S8192x128 .f32 :=
  shapeCast _ (Host.reduceWindowAdd ![1, 4096, 1] ![1, 1, 1] ![0, 4095, 0] ![0, 0, 0] (shapeCast _ (Host.negf (select (cmpf .une (subf (Host.negf (addf (extractStridedSlice S8192x128 ![0, 2048] x slices_S8192x2304_S8192x128_0_2048) (broadcastInDim S8192x128 ![0, 1] bcast_S1x128_S8192x128_0_1 (broadcastInDim S1x128 ![1] bcast_S128_S1x128_1 b)))) (broadcastInDim S8192x128 ![] bcast_S_S8192x128 (constant S_ .f32 0x00000000#32))) (subf (Host.negf (addf (extractStridedSlice S8192x128 ![0, 2048] x slices_S8192x2304_S8192x128_0_2048) (broadcastInDim S8192x128 ![0, 1] bcast_S1x128_S8192x128_0_1 (broadcastInDim S1x128 ![1] bcast_S128_S1x128_1 b)))) (broadcastInDim S8192x128 ![] bcast_S_S8192x128 (constant S_ .f32 0x00000000#32)))) (addf (Host.negf (addf (extractStridedSlice S8192x128 ![0, 2048] x slices_S8192x2304_S8192x128_0_2048) (broadcastInDim S8192x128 ![0, 1] bcast_S1x128_S8192x128_0_1 (broadcastInDim S1x128 ![1] bcast_S128_S1x128_1 b)))) (broadcastInDim S8192x128 ![] bcast_S_S8192x128 (constant S_ .f32 0x00000000#32))) (addf (maximumf (Host.negf (addf (extractStridedSlice S8192x128 ![0, 2048] x slices_S8192x2304_S8192x128_0_2048) (broadcastInDim S8192x128 ![0, 1] bcast_S1x128_S8192x128_0_1 (broadcastInDim S1x128 ![1] bcast_S128_S1x128_1 b)))) (broadcastInDim S8192x128 ![] bcast_S_S8192x128 (constant S_ .f32 0x00000000#32))) (Host.log1p (Host.exp (Host.negf (Host.absf (subf (Host.negf (addf (extractStridedSlice S8192x128 ![0, 2048] x slices_S8192x2304_S8192x128_0_2048) (broadcastInDim S8192x128 ![0, 1] bcast_S1x128_S8192x128_0_1 (broadcastInDim S1x128 ![1] bcast_S128_S1x128_1 b)))) (broadcastInDim S8192x128 ![] bcast_S_S8192x128 (constant S_ .f32 0x00000000#32)))))))))) shapeCasts_S8192x128_S2x4096x128) (broadcastInDim S_ ![] bcast_S_S_ (constant S_ .f32 0x00000000#32)) reduceWindows_S2x4096x128_S2x4096x128_w1s1p0_0_w4096s1p4095_0_w1s1p0_0 h_S_) shapeCasts_S2x4096x128_S8192x128

theorem cum_at (x : FVec Ideal S8192x2304 .f32) (b : FVec Ideal S128 .f32) (e : Fin 2) (p : Fin 4096) (q : Fin 128) :
    cum x b (ix2 (token e p) q) = ∑ s : Fin 4096, if s ≤ p then opened (argument x b (token e s) q) else 0 := by
  refine (folded _ e p q).trans ((cumulated _ _ (fun i => by pointwise []) e p q).trans (Finset.sum_congr rfl fun s _ => if_congr Iff.rfl ?_ rfl))
  refine (unfolded _ e s q).trans (Eq.trans ?_ (soft _))
  pointwise [argument, Ideal.log1p]
  rw [if_neg (fun h => h rfl)]
  rfl

/-- A sum up to a token: the token's block up to it, and the earlier blocks. -/
theorem upto (f : Fin 4096 → EReal) (j : Fin 16) (p : Fin 256) :
    (∑ k : Fin 256, if k ≤ p then f ⟨j.val * 256 + k.val, by omega⟩ else 0) + (∑ a : Fin 16, if a < j then ∑ k : Fin 256, f ⟨a.val * 256 + k.val, by omega⟩ else 0)
      = ∑ s : Fin 4096, if s ≤ (⟨j.val * 256 + p.val, by omega⟩ : Fin 4096) then f s else 0 := by
  refine Eq.trans ?_ (Fin.sum_mul_add_congr (S := 16) (n := 256) (F := fun a k => if (⟨a.val * 256 + k.val, by omega⟩ : Fin 4096) ≤ ⟨j.val * 256 + p.val, by omega⟩
    then f ⟨a.val * 256 + k.val, by omega⟩ else 0) fun a k hl => rfl)
  have own : (∑ k : Fin 256, if k ≤ p then f ⟨j.val * 256 + k.val, by omega⟩ else 0)
      = ∑ a : Fin 16, if a = j then ∑ k : Fin 256, (if k ≤ p then f ⟨a.val * 256 + k.val, by omega⟩ else 0) else 0 := by
    rw [Finset.sum_ite_eq' Finset.univ j, if_pos (Finset.mem_univ j)]
  rw [own, ← Finset.sum_add_distrib]
  refine Finset.sum_congr rfl fun a _ => ?_
  have hp := p.isLt
  rcases lt_trichotomy a j with h | h | h
  · have h' : a.val < j.val := h
    rw [if_neg h.ne, if_pos h, zero_add]
    refine Finset.sum_congr rfl fun k _ => (if_pos ?_).symm
    show a.val * 256 + k.val ≤ j.val * 256 + p.val
    omega
  · subst h
    rw [if_pos rfl, if_neg (lt_irrefl a), add_zero]
    refine Finset.sum_congr rfl fun k _ => if_congr ⟨fun g => ?_, fun g => ?_⟩ rfl rfl
    · have g' : k.val ≤ p.val := g
      show a.val * 256 + k.val ≤ a.val * 256 + p.val
      omega
    · have g' : a.val * 256 + k.val ≤ a.val * 256 + p.val := g
      show k.val ≤ p.val
      omega
  · have h' : j.val < a.val := h
    rw [if_neg h.ne', if_neg h.not_gt, zero_add]
    refine (Finset.sum_eq_zero fun k _ => if_neg fun g => ?_).symm
    have g' : a.val * 256 + k.val ≤ j.val * 256 + p.val := g
    have := k.isLt
    omega

/-- One block more. -/
theorem further (g : Fin 16 → EReal) (j : Fin 16) : g j + (∑ a : Fin 16, if a < j then g a else 0) = ∑ a : Fin 16, if a ≤ j then g a else 0 := by
  have own : g j = ∑ a : Fin 16, if a = j then g a else 0 := by
    rw [Finset.sum_ite_eq' Finset.univ j, if_pos (Finset.mem_univ j)]
  rw [own, ← Finset.sum_add_distrib]
  refine Finset.sum_congr rfl fun a _ => ?_
  rcases lt_trichotomy a j with h | h | h
  · rw [if_neg h.ne, if_pos h, if_pos h.le, zero_add]
  · rw [if_pos h, if_neg h.not_lt, if_pos h.le, add_zero]
  · rw [if_neg h.ne', if_neg h.not_gt, if_neg h.not_ge, zero_add]

end Exchange.Gate

end
-- ==== Proof.Gate.Value.lean ====
/-
  The forgetting gate: a block of tokens against a triangle of ones, carried from block to block of an example, is the sum up to
  each token.
-/
module

public import proofs.«01_k».proof.Proof.Gen.GateIdeal.Frame
public import proofs.«01_k».proof.Proof.Gate.Sum
public import Idealize.ShloMosaic.Lib.Pipeline.ValueKit
public import Idealize.ShloMosaic.Lib.Pipeline.ReadBack

@[expose] public section

set_option maxRecDepth 16384

noncomputable section

namespace Exchange.Gate

open Cert.GateIdeal Cert.GateIdeal.Gen Exchange.GateBwd Idealize.ShloMosaic Idealize.ShloMosaic.TcCoe Idealize.ShloMosaic.Pipeline
open scoped BigOperators

variable (m : (ℓ : Loc nD τ sig) → Buf (Elt Ideal) ℓ)

/-- The three parts that a block is split into add up to the block, and a triangle of ones picks the rows up to one. -/
theorem scanned (z : FVec Ideal S256x128 .f32) (b : FVec Ideal S1x128 .f32) (u : FVec Ideal S256x256 .bf16) (r : FVec Ideal S1x128 .f32)
    (hu : ∀ p k : Fin 256, u (ix2 p k) = (if k ≤ p then 1 else 0 : EReal)) (p : Fin 256) (q : Fin 128) :
    k0_pay3 (F := Ideal) z b u r (ix2 p q) = (∑ k : Fin 256, if k ≤ p then opened (z (ix2 k q) + b (ix2 0 q)) else 0) + r (ix2 0 q) := by
  have e : ∀ k : Fin 256, (if k ≤ p then opened (z (ix2 k q) + b (ix2 0 q)) else 0)
      = u (ix2 p k) * opened (z (ix2 k q) + b (ix2 0 q)) + u (ix2 p k) * (opened (z (ix2 k q) + b (ix2 0 q)) - opened (z (ix2 k q) + b (ix2 0 q)))
        + u (ix2 p k) * ((opened (z (ix2 k q) + b (ix2 0 q)) - opened (z (ix2 k q) + b (ix2 0 q))) - (opened (z (ix2 k q) + b (ix2 0 q)) - opened (z (ix2 k q) + b (ix2 0 q)))) := fun k => by
    rw [hu]
    by_cases h : k ≤ p
    · rw [if_pos h, if_pos h, one_mul, one_mul, one_mul, parts _ (opened_ne_top _)]
    · rw [if_neg h, if_neg h, zero_mul, zero_mul, zero_mul, add_zero, add_zero]
  rw [Finset.sum_congr rfl fun k _ => e k, Finset.sum_add_distrib, Finset.sum_add_distrib]
  pointwise [k0_pay3, opened]
  rfl

theorem carried (z : FVec Ideal S256x128 .f32) (b : FVec Ideal S1x128 .f32) (u : FVec Ideal S256x256 .bf16) (r : FVec Ideal S1x128 .f32) (s : Fin 8) (q : Fin 128) :
    k0_pay1 (F := Ideal) (k0_pay4 (F := Ideal) z b u r) (ix2 s q) = k0_pay3 (F := Ideal) z b u r (ix2 255 q) := by
  pointwise [k0_pay1, k0_pay4]

theorem empty (y : S8x128.Idx) : k0_pay2 (F := Ideal) y = 0 := by pointwise [k0_pay2]

/-- A step reads and writes a block of tokens, and the whole of the others. -/
theorem places : ∀ t : Fin cfg0.N, win0_0.index t = ![t.val, 16] ∧ win0_1.index t = ![0, 0] ∧ win0_2.index t = ![0, 0] ∧ win0_3.index t = ![t.val, 0] := by
  decide +kernel

/-- A step's example. -/
def part (t : Fin cfg0.N) : Fin 2 := ⟨t.val / 16, by have := t.isLt; have e : cfg0.N = 32 := rfl; omega⟩

/-- A step's block of its example. -/
def spot (t : Fin cfg0.N) : Fin 16 := ⟨t.val % 16, by omega⟩

/-- Row `p` of a step's block, among the example's tokens. -/
def row (t : Fin cfg0.N) (p : Fin 256) : Fin 4096 := ⟨(spot t).val * 256 + p.val, by omega⟩

theorem cmp_le (p k : Fin 256) : IntOp.cmpi .sle (BitVec.ofNat 32 k.val) (BitVec.ofNat 32 p.val) = if k ≤ p then 1#1 else 0#1 := by
  revert p k
  decide +kernel

/-- The triangle of ones that the call finds. -/
theorem triangle (c : Dev nD) (p k : Fin 256) : (V m c main_v4 : FVec Ideal S256x256 .bf16) (ix2 p k) = (if k ≤ p then 1 else 0 : EReal) := by
  show StableHlo.after hostOps0 _ _ _ = _
  after_results
  pointwise []
  rw [cmp_le]
  by_cases h : k ≤ p
  · rw [if_pos h, if_pos h]
    show (((1#1).toNat : ℝ) : EReal) = 1
    norm_num
  · rw [if_neg h, if_neg h]
    show (((0#1).toNat : ℝ) : EReal) = 0
    norm_num

/-- The bias as the call finds it, eight rows alike. -/
theorem bias (c : Dev nD) (s : Fin 8) (q : Fin 128) : (V m c main_v0 : FVec Ideal S8x128 .f32) (ix2 s q) = (m ((c.tc : Thread nD τ).loc main_arg1) : FVec Ideal S128 .f32) (ix1 q) := by
  show StableHlo.after hostOps0 _ _ _ = _
  after_results
  pointwise []

theorem read_z (c : Dev nD) (t : Fin cfg0.N) (p : Fin 256) (q : Fin 128) :
    (iblk m c 0 t : FVec Ideal S256x128 .f32) (ix2 p q) = m ((c.tc : Thread nD τ).loc main_arg0) (ix2 (token (part t) (row t p)) ⟨2048 + q.val, by omega⟩) := by
  blk_ext [Exchange.GateBwd.token, row, spot, part, iblk, V, places t]

theorem read_b (c : Dev nD) (t : Fin cfg0.N) (s : Fin 8) (q : Fin 128) :
    (iblk m c 1 t : FVec Ideal S8x128 .f32) (ix2 s q) = (m ((c.tc : Thread nD τ).loc main_arg1) : FVec Ideal S128 .f32) (ix1 q) := by
  refine Eq.trans ?_ (bias m c s q)
  blk_ext [iblk, places t]

theorem read_u (c : Dev nD) (t : Fin cfg0.N) (p k : Fin 256) :
    (iblk m c 2 t : FVec Ideal S256x256 .bf16) (ix2 p k) = (if k ≤ p then 1 else 0 : EReal) := by
  refine Eq.trans ?_ (triangle m c p k)
  blk_ext [iblk, places t]

/-- The bias's row that a step reads. -/
def biasRow (c : Dev nD) (t : Fin cfg0.N) : FVec Ideal S1x128 .f32 := View.ld (iblk m c 1 t) (Rect.unit ![0, 0] ![1, 128] inb_S8x128_S1x128_0_0)

theorem biasRow_at (c : Dev nD) (t : Fin cfg0.N) (q : Fin 128) :
    biasRow m c t (ix2 0 q) = (m ((c.tc : Thread nD τ).loc main_arg1) : FVec Ideal S128 .f32) (ix1 q) :=
  (View.ld_unit_apply_of _ _ _ _ _ (ix2 (0 : Fin 8) q) (by intro a; fin_cases a <;> simp)).trans (read_b m c t 0 q)

/-- What a step finds carried: nothing at the first block of an example. -/
def entering (c : Dev nD) (t : Fin cfg0.N) : FVec Ideal S1x128 .f32 := fun y =>
  if t.val % 16 = 0 then 0 else (outsAt0 m c (t.val - 1) (Nat.lt_of_le_of_lt (Nat.sub_le _ _) t.isLt)).2 (ix2 0 (y 1))

theorem entering_first (c : Dev nD) (t : Fin cfg0.N) (h : t.val % 16 = 0) :
    (View.whole cc0_scratch0).readCov (Val := Elt Ideal) [⟨Rect.unit ![0, 0] ![8, 128] inb_S8x128_S8x128_0_0, k0_pay2 (F := Ideal)⟩]
      (Rect.unit ![0, 0] ![1, 128] inb_S8x128_S1x128_0_0).toLoadRect = entering m c t := by
  refine (View.readCov_fill _ _ _ _ _ (by intro a; fin_cases a <;> rfl)).trans (funext fun y => ?_)
  exact (empty _).trans (if_pos h).symm

theorem entering_next (c : Dev nD) (t : Fin cfg0.N) (h : ¬t.val % 16 = 0) :
    View.ld ((View.whole cc0_scratch0).read (Elt Ideal) ((Memref.isWhole_whole cc0_scratch0).unread
        (outsAt0 m c (t.val - 1) (Nat.lt_of_le_of_lt (Nat.sub_le _ _) t.isLt)).2)) (Rect.unit ![0, 0] ![1, 128] inb_S8x128_S1x128_0_0) = entering m c t := by
  refine funext fun y => (congrArg (fun v => View.ld v _ y) (Memref.IsWhole.read_unread _ _)).trans (Eq.trans ?_ (if_neg h).symm)
  refine View.ld_unit_apply_of _ _ _ _ _ (ix2 (0 : Fin 8) (y 1)) ?_
  intro a
  fin_cases a
  · show 0 = 0 + (y 0).val
    have : (y 0).val < 1 := (y 0).isLt
    omega
  · show (y 1).val = 0 + (y 1).val
    omega

/-- What a step writes. -/
def scan (c : Dev nD) (t : Fin cfg0.N) : FVec Ideal S256x128 .f32 := k0_pay3 (F := Ideal) (iblk m c 0 t) (biasRow m c t) (iblk m c 2 t) (entering m c t)

theorem wrote (c : Dev nD) (t : Fin cfg0.N) : (outsAt0 m c t.val t.isLt).1 = scan m c t := by
  unfold scan
  by_cases h : t.val % 16 = 0
  · rw [← entering_first m c t h, outsAt0_A m c t h]; funext y; frame_out; rfl
  · rw [← entering_next m c t h, outsAt0_B m c t h]; funext y; frame_out; rfl

theorem kept (c : Dev nD) (t : Fin cfg0.N) : (outsAt0 m c t.val t.isLt).2
    = k0_pay1 (F := Ideal) (k0_pay4 (F := Ideal) (iblk m c 0 t) (biasRow m c t) (iblk m c 2 t) (entering m c t)) := by
  by_cases h : t.val % 16 = 0
  · rw [← entering_first m c t h, outsAt0_A m c t h]; funext y; frame_out; rfl
  · rw [← entering_next m c t h, outsAt0_B m c t h]; funext y; frame_out; rfl

/-- The log of the gate. -/
abbrev logs (c : Dev nD) (p : Fin 8192) (q : Fin 128) : EReal :=
  opened (argument (m ((c.tc : Thread nD τ).loc main_arg0)) (m ((c.tc : Thread nD τ).loc main_arg1)) p q)

/-- The sum of a block of an example. -/
def whole (c : Dev nD) (e : Fin 2) (q : Fin 128) (a : Fin 16) : EReal := ∑ k : Fin 256, logs m c (token e ⟨a.val * 256 + k.val, by omega⟩) q

theorem scan_at (c : Dev nD) (t : Fin cfg0.N) (p : Fin 256) (q : Fin 128) :
    scan m c t (ix2 p q) = (∑ k : Fin 256, if k ≤ p then logs m c (token (part t) (row t k)) q else 0) + entering m c t (ix2 0 q) := by
  refine (scanned _ _ _ _ (read_u m c t) p q).trans ?_
  simp only [read_z, biasRow_at]
  rfl

/-- A step finds carried the sum of the blocks before its own. -/
theorem entering_at (c : Dev nD) (q : Fin 128) : ∀ (n : ℕ) (hn : n < cfg0.N),
    entering m c ⟨n, hn⟩ (ix2 0 q) = ∑ a : Fin 16, if a < spot ⟨n, hn⟩ then whole m c (part ⟨n, hn⟩) q a else 0 := by
  intro n
  have first : ∀ (n : ℕ) (hn : n < cfg0.N), n % 16 = 0 →
      entering m c ⟨n, hn⟩ (ix2 0 q) = ∑ a : Fin 16, if a < spot ⟨n, hn⟩ then whole m c (part ⟨n, hn⟩) q a else 0 := fun n hn h => by
    refine (if_pos h).trans (Finset.sum_eq_zero fun a _ => if_neg fun g => ?_).symm
    have g' : a.val < n % 16 := g
    omega
  induction n with
  | zero => exact fun hn => first 0 hn rfl
  | succ n ih =>
    intro hn
    by_cases h : (n + 1) % 16 = 0
    · exact first (n + 1) hn h
    · have hn' : n < cfg0.N := Nat.lt_of_succ_lt hn
      have e : entering m c ⟨n + 1, hn⟩ (ix2 0 q) = (outsAt0 m c n hn').2 (ix2 0 q) := if_neg h
      rw [e, kept m c ⟨n, hn'⟩, carried]
      refine (scan_at m c ⟨n, hn'⟩ 255 q).trans ?_
      rw [ih hn']
      refine Eq.trans (congrArg (· + _) (Finset.sum_congr rfl fun k _ => if_pos (Fin.le_last k))) ((further (whole m c (part ⟨n, hn'⟩) q) (spot ⟨n, hn'⟩)).trans ?_)
      have ep : part ⟨n + 1, hn⟩ = part ⟨n, hn'⟩ := Fin.ext (by show (n + 1) / 16 = n / 16; omega)
      rw [ep]
      refine Finset.sum_congr rfl fun a _ => if_congr ⟨fun g => ?_, fun g => ?_⟩ rfl rfl
      · have g' : a.val ≤ n % 16 := g
        show a.val < (n + 1) % 16
        omega
      · have g' : a.val < (n + 1) % 16 := g
        show a.val ≤ n % 16
        omega

theorem step (c : Dev nD) (t : Fin cfg0.N) (p : Fin 256) (q : Fin 128) :
    scan m c t (ix2 p q) = cum (m ((c.tc : Thread nD τ).loc main_arg0)) (m ((c.tc : Thread nD τ).loc main_arg1)) (ix2 (token (part t) (row t p)) q) := by
  rw [cum_at, scan_at m c, entering_at m c q t.val t.isLt]
  exact upto (fun s => logs m c (token (part t) s) q) (spot t) p

/-- The call ends with the cumulated gate. -/
theorem final (c : Dev nD) : (dats m 0 c).arrAt 3 cfg0.N = cum (m ((c.tc : Thread nD τ).loc main_arg0)) (m ((c.tc : Thread nD τ).loc main_arg1)) := by
  refine (dats m 0 c).arrAt_eq_of_covers 3 _ (by decide +kernel) fun t hf y => ?_
  blk_simp
  rw [after0_3, wrote]
  have e : ((cfg0.win 3).blk t).view.emb y = ix2 (token (part t) (row t (y 0))) (y 1) := by blk_ext [Exchange.GateBwd.token, row, spot, part, places t]
  have e' : y = ix2 (y 0) (y 1) := by blk_ext []
  exact (congrArg _ e').trans ((step m c t (y 0) (y 1)).trans (congrArg _ e.symm))

end Exchange.Gate

end
-- ==== Proof.Gate.Claims.lean ====
/-
  The forgetting gate: the frames, and the result against the reference's.
-/
module

public import proofs.«01_k».proof.Defs
public import proofs.«01_k».proof.Proof.Gen.Gate
public import proofs.«01_k».proof.Proof.Gen.GateRefIdeal.Run
public import proofs.«01_k».proof.Proof.Gate.Value

@[expose] public section

set_option maxRecDepth 16384

noncomputable section

namespace Exchange.Gate

open Cert.GateIdeal Cert.GateIdeal.Gen Idealize.ShloMosaic Idealize.ShloMosaic.TcCoe Idealize.ShloMosaic.Pipeline Idealize.SL.Sem

variable (m : (ℓ : Loc nD τ sig) → Buf (Elt Ideal) ℓ)

/-- The call ends with the cumulated gate. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v5) = cum (m ((c.tc : Thread nD τ).loc main_arg0)) (m ((c.tc : Thread nD τ).loc main_arg1))) :=
  (θ_run defs _ _).mono (fun _ h c => ((h c).1 3).trans (final m c)) (run_main m g)

/-- The call's body table is one text, whichever floats it is read at. -/
theorem same : Cert.Gate.defs (F := Bits) = defs (F := Bits) :=
  congrArg (Pipeline.defs _) (congrArg Defs.onTc (funext fun l => funext fun p => match l, p with | 0, (_, _) => rfl))

theorem frame : Cert.quiescent_Gate (hGate := Cert.Gate.Gen.facts) := fun m g _ => by
  rw [same]
  exact Gen.frame (F := Bits) m g

theorem frame_ideal : Cert.quiescent_GateIdeal (hGateIdeal := Gen.facts) := fun m g _ => Gen.frame (F := Ideal) m g

theorem frame_ref_ideal : Cert.quiescent_GateRefIdeal (hGateRefIdeal := Cert.GateRefIdeal.Gen.facts) := fun m g _ =>
  (θ_run Cert.GateRefIdeal.defs _ _).mono (fun _ h => ⟨fun c => (h c).2, funext fun s => ((by decide : ∀ _ : SemLoc Cert.GateRefIdeal.sig, False) s.2).elim⟩)
    (Cert.GateRefIdeal.Value.run (F := Ideal) m g)

theorem algebraic : Cert.algebraic_GateIdeal_GateRefIdeal (hGateIdeal := Gen.facts) (hGateRefIdeal := Cert.GateRefIdeal.Gen.facts) :=
  fun m g m' g' _ hA =>
    ⟨fun c => cum (m ((c.tc : Thread nD τ).loc main_arg0)) (m ((c.tc : Thread nD τ).loc main_arg1)),
    (θ_run defs _ _).mono (fun _ h c => ⟨h.1 c, h.2 c⟩) (θ_run_and (run m g) (Gen.unchanged (F := Ideal) m g)),
    (θ_run Cert.GateRefIdeal.defs _ _).mono (fun _ h c => ⟨(h c).1.trans (by rw [(hA c).1, (hA c).2]; rfl), (h c).2⟩)
      (Cert.GateRefIdeal.Value.run (F := Ideal) m' g')⟩

end Exchange.Gate

end
-- ==== Proof.Launch.lean ====
/-
  A launch whose first step is taken for the whole machine: whatever the launch deals to the devices (their buffers, their
  semaphore counters, what they owe, their credit) may be redealt ACROSS devices before any of them runs. This is what a kernel
  needs that writes into a peer's result buffer without asking first: the right to write that buffer belongs to the peer at
  launch, and no message of the program hands it over.
-/
module

public import Idealize.ShloMosaic.Lib.Pipeline.Regions
public import Idealize.ShloMosaic.Lib.Pipeline.Kit
public import Idealize.ShloMosaic.Lib.Rounds
public import Idealize.ShloMosaic.Lib.Tactic

@[expose] public section

noncomputable section

namespace Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

/-- What the launch deals device `c`: its scoped storage, its other buffers at the launch memory, its other counters at zero,
    what it owes, its generator and its credit. -/
def hand (O₀ : Dev nD → CellTallies nD τ sig Unit) (m : (ℓ : Loc nD τ sig) → Buf Val ℓ) (g : Dev nD → PrngReg) (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ prngReg c (g c) ∗ Pipeline.launchCred O₀ c)

/-- The level assignment of the whole machine, from each device's right to assign its own cells' levels; the threads that have
    no pair to assign contribute nothing. -/
theorem levels_assigned (L : GSem nD τ sig → Finset Unit) (lv : GSem nD τ sig → Unit → ℕ) (hL : ∀ g : GSem nD τ sig, g.1.2 ≠ .tc → L g = ∅) :
    (bigSep Finset.univ fun c : Dev nD => levels0 (Ix := Unit) (Val := Val) (Name := ℕ) (U := U) (Lvl := ℕ) (τ := τ) (sig := sig) c)
      ⊢ (|==> levAts L lv : sProp 𝕄) := by
  have hswap (A B : sProp 𝕄) : iprop(A ∗ B) ⊢ iprop(B ∗ BI.emp) := by
    iintro ⟨-, H⟩
    isplitl [H]; · iexact H
    iempintro
  have hnone : ∀ (d : Dev nD), ∀ p ∈ Finset.univ.erase (Proc.tc : Proc τ), (coreLevAts ((d, p) : Thread nD τ) L lv : sProp 𝕄) = BI.emp := fun d p hp => by
    unfold coreLevAts
    refine (bigSep_congr fun sm _ => ?_).trans (BI.bigSep_emp_const Finset.univ)
    rw [hL (((d, p) : Thread nD τ), sm) (Finset.ne_of_mem_erase hp), BI.bigSep_empty]
  have hall : (levAts L lv : sProp 𝕄) = iprop((bigSep Finset.univ fun d : Dev nD => coreLevAts (d.tc : Thread nD τ) L lv) ∗ BI.emp) := by
    refine (bigSep_univ_prod fun g : GSem nD τ sig => bigSep (L g) fun ι => levAt g ι (lv g ι)).trans ?_
    refine (bigSep_threads (fun c : Thread nD τ => coreLevAts c L lv)).trans ?_
    rw [show (bigSep Finset.univ fun d : Dev nD => bigSep (Finset.univ.erase Proc.tc) fun p => (coreLevAts ((d, p) : Thread nD τ) L lv : sProp 𝕄)) = BI.emp from
      (bigSep_congr fun d _ => (bigSep_congr (hnone d)).trans (BI.bigSep_emp_const _)).trans (BI.bigSep_emp_const _)]
  refine (bigSep_mono fun c _ => lev_assign_cells (c.tc : Thread nD τ) L lv).trans ((BI.bigSep_bupd _ _).trans (BI.bupd_mono ?_))
  rw [hall, bigSep_sep']
  exact hswap _ _

/-- THE LAUNCH. From the devices' hands all together the proof makes one assertion `P c` per device (`hinit`, across the machine);
    from `P c` device `c`'s `main` runs to `T c` with its scoped counters at zero and nothing owed (`hwp`); `T` is read against the final state. -/
theorem θ_run_dealt {Λ : Labels} (defs : Defs nD τ sig Val Λ) (𝒱 : Variants)
    (m : (ℓ : Loc nD τ sig) → Buf Val ℓ) (g : Dev nD → PrngReg) (main : Dev nD → Prog (TpuEff nD τ sig Val Λ .tc) PUnit)
    (O₀ : Dev nD → CellTallies nD τ sig Unit) (L : GSem nD τ sig → Finset Unit) (lv : GSem nD τ sig → Unit → ℕ)
    (hL : ∀ g : GSem nD τ sig, g.1.2 ≠ .tc → L g = ∅) (u₀ : U) (P T : Dev nD → sProp 𝕄)
    (hinit : iprop(bigSep Finset.univ (hand O₀ m g) ∗ levAts L lv ∗ ownU u₀) ⊢ |={Set.univ}=> bigSep Finset.univ P)
    (hwp : ∀ c, P c ⊢ wp frame (wpE defs 𝒱 (c.tc : Thread nD τ) none) Set.univ (main c) fun _ =>
      iprop((T c ∗ scopedSems0 (c.tc : Thread nD τ)) ∗ ∃ W, owes (c.tc : Thread nD τ) (0 : CellTallies nD τ sig Unit) W))
    (QY : Dev nD → MemSt nD τ sig Val → Prop)
    (hfin : ∀ c (s' : Phys nD τ sig Val), iprop(T c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  let fin : Dev nD → sProp 𝕄 := fun c => iprop(T c ∗ scopedSems0 (c.tc : Thread nD τ))
  have hread (c : Dev nD) (s' : Phys nD τ sig Val) : iprop(fin c ∗ SI s') ⊢ |={Set.univ}=>
      iprop(⌜QY c s'.mem ∧ ∀ sm : SemLoc sig, sm.isScoped .tc = true → s'.mem.sem ((c.tc : Thread nD τ), sm) = 0⌝ ∗ SI s') := by
    simp only [fin]
    iintro ⟨⟨HT, Hss⟩, HSI⟩
    ihave %hz := (tcScoped_read_pers c s') $$ [Hss HSI]
    · isplitl [Hss] <;> iassumption
    imod (hfin c s') $$ [HT HSI] with ⟨%hy, HSI⟩
    · isplitl [HT] <;> iassumption
    imodintro
    isplitr
    · ipureintro; exact ⟨hy, hz⟩
    · iexact HSI
  have hcore (c : Dev nD) : coreInit (Ix := Unit) (Name := ℕ) (U := U) (Lvl := ℕ) (Pipeline.owing O₀) 0 (⟨m, fun _ => 0, g⟩ : MemSt nD τ sig Val) (c.tc : Thread nD τ)
      ⊢ iprop(hand O₀ m g c ∗ levels0 c) := by
    refine (Pipeline.coreInit_boundary_owing O₀ m g c).trans ?_
    unfold hand
    iintro ⟨Hb, Hub, Hus, HO, Hlv, Hp, Hc⟩
    isplitr [Hlv]
    · isplitl [Hb]; · iexact Hb
      isplitl [Hub]; · iexact Hub
      isplitl [Hus]; · iexact Hus
      isplitl [HO]; · iexact HO
      isplitl [Hp] <;> iassumption
    · iexact Hlv
  have hcores : (bigSep Finset.univ fun d : Dev nD =>
        coreInit (Ix := Unit) (Name := ℕ) (U := U) (Lvl := ℕ) (Pipeline.owing O₀) 0 (⟨m, fun _ => 0, g⟩ : MemSt nD τ sig Val) (d.tc : Thread nD τ))
      ⊢ iprop(bigSep Finset.univ (hand O₀ m g)
        ∗ bigSep Finset.univ fun c : Dev nD => levels0 (Ix := Unit) (Val := Val) (Name := ℕ) (U := U) (Lvl := ℕ) (τ := τ) (sig := sig) c) :=
    (bigSep_mono fun c _ => hcore c).trans (Entails.of_eq (bigSep_sep' _ _ _))
  refine (θ_run defs _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (Pipeline.owing O₀) 0 (noBookings fun _ => le_rfl) (Pipeline.owing_of_ne O₀) u₀ (fun _ => P) (fun _ => fin)
      (fun _ => iprop(emp)) Set.univ ?_ (fun _ c => ?_) fun _ => ?_))
  · iintro ⟨Hcores, Hu⟩
    ihave Hc := hcores $$ Hcores
    icases Hc with ⟨Hh, Hlv⟩
    imod (levels_assigned L lv hL) $$ Hlv with Hla
    imod hinit $$ [Hh Hla Hu] with HP
    · isplitl [Hh]; · iexact Hh
      isplitl [Hla] <;> iassumption
    imodintro
    iexists ()
    isplitl [HP]; · iexact HP
    iempintro
  · refine (hwp c).trans (Entails.of_eq ?_)
    unfold post
    simp only [liftTc_tc, fin]
  · iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Exchange

end
-- ==== Proof.Call.lean ====
/-
  A kernel call with no pipelined window: its body runs once, on buffers that stay where they are. Such a call is a step of @main
  from what its body needs to what its body leaves.
-/
module

public import proofs.«01_k».proof.Proof.Launch

@[expose] public section

noncomputable section

namespace Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg PCfg BodyObligation)

variable {nD : Nat} {τ : Topo} {sig : RefSig} {Val : EltTy → Type} {U : Type} [URA U] {Λ₀ : Labels}

local notation "𝕄" => MT nD τ sig Unit Val ℕ U ℕ

/-- The proof data of a call without windows: `X` before its one point, `Y` after it, the core owing `O` before and nothing after;
    the scoped buffers pass by. -/
def onceDat (cfg : Cfg sig Λ₀) (hW : IsEmpty (Fin cfg.W)) (c : Dev nD) (X Y : sProp 𝕄) (O : CellTallies nD τ sig Unit) :
    Dat τ Val Unit ℕ U ℕ cfg c where
  A w := hW.elim w
  after w := hW.elim w
  Φ t := if t.val = 0 then iprop(X ∗ scopedBufs (c.tc : Thread nD τ)) else iprop(Y ∗ scopedBufs (c.tc : Thread nD τ))
  q w := hW.elim w
  owed t := if t.val = 0 then O else 0

theorem onceDat_Φ_first (cfg : Cfg sig Λ₀) (hW : IsEmpty (Fin cfg.W)) (c : Dev nD) (X Y : sProp 𝕄) (O : CellTallies nD τ sig Unit) (t : Fin (cfg.N + 1)) (h : t.val = 0) :
    (onceDat cfg hW c X Y O : Dat τ Val Unit ℕ U ℕ cfg c).Φ t = (iprop(X ∗ scopedBufs (c.tc : Thread nD τ)) : sProp 𝕄) := by
  unfold onceDat; dsimp only; exact if_pos h

theorem onceDat_Φ_later (cfg : Cfg sig Λ₀) (hW : IsEmpty (Fin cfg.W)) (c : Dev nD) (X Y : sProp 𝕄) (O : CellTallies nD τ sig Unit) (t : Fin (cfg.N + 1)) (h : t.val ≠ 0) :
    (onceDat cfg hW c X Y O : Dat τ Val Unit ℕ U ℕ cfg c).Φ t = (iprop(Y ∗ scopedBufs (c.tc : Thread nD τ)) : sProp 𝕄) := by
  unfold onceDat; dsimp only; exact if_neg h

theorem onceDat_owed_first (cfg : Cfg sig Λ₀) (hW : IsEmpty (Fin cfg.W)) (c : Dev nD) (X Y : sProp 𝕄) (O : CellTallies nD τ sig Unit) (t : Fin (cfg.N + 1)) (h : t.val = 0) :
    (onceDat cfg hW c X Y O : Dat τ Val Unit ℕ U ℕ cfg c).owed t = O := by
  unfold onceDat; dsimp only; exact if_pos h

theorem onceDat_owed_later (cfg : Cfg sig Λ₀) (hW : IsEmpty (Fin cfg.W)) (c : Dev nD) (X Y : sProp 𝕄) (O : CellTallies nD τ sig Unit) (t : Fin (cfg.N + 1)) (h : t.val ≠ 0) :
    (onceDat cfg hW c X Y O : Dat τ Val Unit ℕ U ℕ cfg c).owed t = 0 := by
  unfold onceDat; dsimp only; exact if_neg h

/-- One run of the body, from `X` and the debt to `Y` and no debt, is the call's obligation. -/
theorem onceDat_body (cfg : Cfg sig Λ₀) (hW : IsEmpty (Fin cfg.W)) (hN : cfg.N = 1) (c : Dev nD) (X Y : sProp 𝕄) (O : CellTallies nD τ sig Unit)
    (defs₀ : Defs nD τ sig Val Λ₀) (𝒱₀ : Variants)
    (hrun : ∀ (t : Fin cfg.N) (W : Waits sig Unit) (K : sProp 𝕄),
      iprop((X ∗ owes (c.tc : Thread nD τ) O W) ∗ ((Y ∗ ∃ W', owes (c.tc : Thread nD τ) (0 : CellTallies nD τ sig Unit) W') -∗ K))
        ⊢ wp frame (wpE defs₀ 𝒱₀ (c.tc : Thread nD τ) none) Set.univ (defs₀ .tc cfg.body (cfg.bodyArgs t (cfg.slots t))) fun _ => K) :
    BodyObligation (onceDat cfg hW c X Y O) defs₀ 𝒱₀ () Set.univ := fun t => by
  have ht : t.val = 0 := by have := t.isLt; omega
  have hemp (Φ : Fin cfg.W → sProp 𝕄) : bigSep Finset.univ Φ = (BI.emp : sProp 𝕄) := by
    rw [Finset.univ_eq_empty]; exact BI.bigSep_empty
  rw [hemp, hemp]
  have hs : t.succ.val ≠ 0 := by rw [Fin.val_succ]; omega
  rw [onceDat_Φ_first cfg hW c X Y O _ ht, onceDat_Φ_later cfg hW c X Y O _ hs]
  unfold Dat.owesAt Pipeline.owesWithin
  rw [onceDat_owed_first cfg hW c X Y O _ ht, onceDat_owed_later cfg hW c X Y O _ hs]
  iintro ⟨⟨HX, Hsc⟩, ⟨%W, -, HO⟩, -⟩
  iapply (hrun t W _)
  isplitl [HX HO]; · isplitl [HX] <;> iassumption
  iintro ⟨HY, ⟨%W', HO⟩⟩
  isplitl [HY Hsc]; · isplitl [HY] <;> iassumption
  isplitl [HO]
  · iexists W'
    isplitr; · ipureintro; exact fun _ _ => Or.inl trivial
    iexact HO
  iempintro

variable {P : Type} [Fintype P] [DecidableEq P] (pcs : P → PCfg sig Λ₀ Val) (a : (p : P) → (pcs p).Adm)
  (pdats : (p : P) → (c : Dev nD) → Dat τ Val Unit ℕ U ℕ (Pipeline.pin pcs a p) c)
  (phinj : Function.Injective (Pipeline.cellOf (nD := nD) (τ := τ) (Pipeline.pin pcs a))) (p : P)
  (defs₀ : Defs nD τ sig Val Λ₀) (𝒱₀ : Variants)

include phinj in
/-- THE CALL as a step of @main: from `X` and the debt to whatever `Y` and the untouched counters `I` give (`hY`), which must include
    every scoped counter back at zero. -/
theorem wp_once [∀ e, Nonempty (Val e)] (EP : Emb (Rounds.URounds (GSem nD τ sig) Unit) (MT nD τ sig Unit Val ℕ U ℕ)) (hW : IsEmpty (Fin (Pipeline.pin pcs a p).W)) (hK : IsEmpty (Fin (pcs p).pre.K)) (hN : (Pipeline.pin pcs a p).N = 1)
    (c : Dev nD) (X Y Y' I : sProp 𝕄) (O : CellTallies nD τ sig Unit)
    (hdat : pdats p c = onceDat (Pipeline.pin pcs a p) hW c X Y O)
    (hrun : ∀ (t : Fin (Pipeline.pin pcs a p).N) (W : Waits sig Unit) (K : sProp 𝕄),
      iprop((X ∗ owes (c.tc : Thread nD τ) O W) ∗ ((Y ∗ ∃ W', owes (c.tc : Thread nD τ) (0 : CellTallies nD τ sig Unit) W') -∗ K))
        ⊢ wp frame (wpE defs₀ 𝒱₀ (c.tc : Thread nD τ) none) Set.univ
            (defs₀ .tc (Pipeline.pin pcs a p).body ((Pipeline.pin pcs a p).bodyArgs t ((Pipeline.pin pcs a p).slots t))) fun _ => K)
    (hY : iprop(Y ∗ I) ⊢ iprop(Y' ∗ scopedSems0 (c.tc : Thread nD τ)))
    {k : PUnit → Prog (TpuEff nD τ sig Val (Pipeline.Sig Λ₀ P fun p => (pcs p).Adm) Proc.tc) PUnit} {Q : PUnit → sProp 𝕄} :
    iprop(X ∗ owes (c.tc : Thread nD τ) O ∅ ∗ I ∗ scopedBufs (c.tc : Thread nD τ))
      ⊢ iprop(((Y' ∗ scopedSems0 (c.tc : Thread nD τ) ∗ scopedBufs (c.tc : Thread nD τ) ∗ ∃ W, owes (c.tc : Thread nD τ) (0 : CellTallies nD τ sig Unit) W)
              -∗ wp frame (wpE (Pipeline.defs pcs defs₀) (Variants.lift 𝒱₀) (c.tc : Thread nD τ) none) Set.univ (k ⟨⟩) Q)
          -∗ wp frame (wpE (Pipeline.defs pcs defs₀) (Variants.lift 𝒱₀) (c.tc : Thread nD τ) none) Set.univ (.op (.customCall (Pipeline.entry p) ()) k) Q) := by
  have hemp (Φ : Fin (Pipeline.pin pcs a p).W → sProp 𝕄) : bigSep Finset.univ Φ = (BI.emp : sProp 𝕄) := by
    rw [Finset.univ_eq_empty]; exact BI.bigSep_empty
  have hempK (Φ : Fin (pcs p).pre.K → sProp 𝕄) : bigSep Finset.univ Φ = (BI.emp : sProp 𝕄) := by
    rw [Finset.univ_eq_empty]; exact BI.bigSep_empty
  have hlast : (Fin.last (Pipeline.pin pcs a p).N).val ≠ 0 := by rw [Fin.val_last, hN]; decide
  have hΦ0 : (pdats p c).Φ 0 = (iprop(X ∗ scopedBufs (c.tc : Thread nD τ)) : sProp 𝕄) := by rw [hdat]; exact onceDat_Φ_first _ hW c X Y O _ rfl
  have hΦ1 : (pdats p c).Φ (Fin.last _) = (iprop(Y ∗ scopedBufs (c.tc : Thread nD τ)) : sProp 𝕄) := by rw [hdat]; exact onceDat_Φ_later _ hW c X Y O _ hlast
  have ho0 : (pdats p c).owed 0 = O := by rw [hdat]; exact onceDat_owed_first _ hW c X Y O _ rfl
  have ho1 : (pdats p c).owed (Fin.last _) = 0 := by rw [hdat]; exact onceDat_owed_later _ hW c X Y O _ hlast
  have hcells : (Pipeline.cellsSems0 (Pipeline.pin pcs a) p c : sProp 𝕄) = BI.emp := hemp _
  have hstag : (Dat.staging (Pipeline.pin pcs a p) c : sProp 𝕄) = BI.emp := hemp _
  have hpre : (owes (c.tc : Thread nD τ) O ∅ : sProp 𝕄) ⊢ Pipeline.EntryPre (Pipeline.pin pcs a) pdats () EP (fun _ => 0) p c := by
    have hw : (iprop(⌜True⌝) : sProp 𝕄) ⊢ Pipeline.cellsWaits (Pipeline.pin pcs a) pdats () p c :=
      Pipeline.cellsWaits_intro _ pdats () p c fun w => hW.elim w
    have harr : ((pdats p c).arrays ((pdats p c).arrAt · 0) : sProp 𝕄) = BI.emp := hemp _
    have hini : (Pipeline.cellsInit (Pipeline.pin pcs a) pdats EP (fun _ => 0) p c : sProp 𝕄) = BI.emp := hemp _
    have htok : (Pipeline.toksInit (Pipeline.pin pcs a) EP p c : sProp 𝕄) = BI.emp := hemp _
    show _ ⊢ iprop((pdats p c).arrays ((pdats p c).arrAt · 0) ∗ (pdats p c).owesAt () 0
      ∗ Pipeline.cellsWaits (Pipeline.pin pcs a) pdats () p c ∗ Pipeline.cellsInit (Pipeline.pin pcs a) pdats EP (fun _ => 0) p c
      ∗ Pipeline.toksInit (Pipeline.pin pcs a) EP p c)
    rw [harr, hini, htok]
    unfold Dat.owesAt Pipeline.owesWithin
    rw [ho0]
    iintro HO
    isplitr; · iempintro
    isplitl [HO]
    · iexists ∅
      isplitr; · ipureintro; rw [Finset.coe_empty]; exact Set.empty_subset _
      iexact HO
    isplitr; · iapply hw; ipureintro; trivial
    isplitr; · iempintro
    iempintro
  have hpost : Pipeline.EntryPost (Pipeline.pin pcs a) pdats () p c ⊢ iprop(∃ W, owes (c.tc : Thread nD τ) (0 : CellTallies nD τ sig Unit) W) := by
    unfold Pipeline.EntryPost Pipeline.PerCore.EntryPost Dat.owesAt Pipeline.owesWithin
    rw [ho1]
    iintro ⟨-, ⟨%W, -, HO⟩⟩
    iexists W; iexact HO
  have hcall := Pipeline.wp_customCall_entry_frame pcs a pdats () EP (fun _ => 0) phinj p defs₀ 𝒱₀ (fun k => hK.elim k) c Set.univ (fun _ _ => Set.mem_univ _)
      (by rw [hdat]; exact (onceDat_body _ hW hN c X Y O defs₀ 𝒱₀ hrun).loose) (fun w => hW.elim w) none (fun u h => nomatch h)
      (X := X) (Y := Y') (R := scopedBufs (c.tc : Thread nD τ)) (I := I)
      (by
        rw [hstag]
        iintro H
        isplitr; · iempintro
        iexact H)
      (by
        rw [hΦ0]
        iintro ⟨H, -, Hs⟩
        isplitl [H] <;> iassumption)
      (by
        rw [hΦ1]
        iintro ⟨⟨H, Hs⟩, -, -, HI⟩
        ihave H := hY $$ [H HI]
        · isplitl [H] <;> iassumption
        icases H with ⟨H, Hss⟩
        isplitl [H]; · iexact H
        isplitl [Hss] <;> iassumption) (k := k) (Q := Q)
  iintro ⟨HX, HO, HI, Hsc⟩ Hk
  iapply hcall $$ [HX HO HI Hsc]
  · isplitl [HO]; · iapply hpre; iexact HO
    isplitr; · unfold Pipeline.prefHeld; rw [hempK]; iempintro
    isplitl [HX]; · iexact HX
    isplitl [HI] <;> iassumption
  iintro ⟨HE, HY, Hss, Hsc⟩
  iapply Hk
  isplitl [HY]; · iexact HY
  isplitl [Hss]; · iexact Hss
  isplitl [Hsc]; · iexact Hsc
  iapply hpost; iexact HE

end Exchange

end
-- ==== Proof.Cells.lean ====
/-
  An exchange in which every semaphore counts ONE thing once: one copy's departure, one copy's arrival, or one copy inside the device.
  The plan names each such cell, how much it counts, whose copy pays it, and what the payment hands to the cell's owner. From the plan
  follow the cells' schedule, their opening for the whole machine at launch, and the three steps of a device: send, copy, wait.
-/
module

public import proofs.«01_k».proof.Proof.Call

@[expose] public section

noncomputable section

namespace Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (cellInv reached atPos dutyTok roundState)

variable {nD : Nat} {τ : Topo} {sig : RefSig} {Val : EltTy → Type}

local notation "𝕄" => MT nD τ sig Unit Val ℕ (UR sig nD τ) ℕ

/-- The plan of an exchange. Cell `k` of a device counts `amt k` once; device `c` pays that of device `tgt k c`; `arr` are the cells
    paid by another device's copy, owed from launch; `lvl` orders the waits; `pay c k` is what device `c` finds when its cell `k` is paid. -/
structure Plan (nD : Nat) (τ : Topo) (sig : RefSig) (Val : EltTy → Type) where
  K : ℕ
  sem : Fin K → SemLoc sig
  inj : Function.Injective sem
  sems_scoped : ∀ k, (sem k).isScoped .tc = true
  amt : Fin K → ℕ
  amt_pos : ∀ k, 0 < amt k
  tgt : Fin K → Dev nD ≃ Dev nD
  arr : Finset (Fin K)
  lvl : Fin K → ℕ
  pay : Dev nD → Fin K → sProp (MT nD τ sig Unit Val ℕ (UR sig nD τ) ℕ)
  storable : ∀ c k, BI.Storable (upEmb : UEmb _ (MT nD τ sig Unit Val ℕ (UR sig nD τ) ℕ)) (pay c k)

/-- Where the cells' ghost state sits. -/
abbrev EX : Emb (UR sig nD τ) (MT nD τ sig Unit Val ℕ (UR sig nD τ) ℕ) := emb₁

namespace Plan

variable (P : Plan nD τ sig Val)

/-- Cell `k` of device `c`. -/
def cell (ck : Dev nD × Fin P.K) : GSem nD τ sig := ((ck.1.tc : Thread nD τ), P.sem ck.2)

theorem cell_inj : Function.Injective P.cell := by
  rintro ⟨c, k⟩ ⟨c', k'⟩ h
  have h1 : (c.tc : Thread nD τ) = c'.tc := congrArg (fun g : GSem nD τ sig => g.1) h
  have h2 : P.sem k = P.sem k' := congrArg (fun g : GSem nD τ sig => g.2) h
  have h3 : c = c' := congrArg Prod.fst h1
  rw [h3, P.inj h2]

open Classical in
/-- Which cell of the plan a counter is. -/
def idx (g : GSem nD τ sig) : Option (Dev nD × Fin P.K) := if h : ∃ ck, P.cell ck = g then some h.choose else none

theorem idx_cell (ck : Dev nD × Fin P.K) : P.idx (P.cell ck) = some ck := by
  have h : ∃ ck', P.cell ck' = P.cell ck := ⟨ck, rfl⟩
  unfold idx
  rw [dif_pos h]
  exact congrArg some (P.cell_inj h.choose_spec)

theorem idx_some {g : GSem nD τ sig} {ck : Dev nD × Fin P.K} (h : P.idx g = some ck) : P.cell ck = g := by
  unfold idx at h
  split at h
  · rename_i h'
    rw [← Option.some.inj h]; exact h'.choose_spec
  · exact absurd h (by simp)

/-- The cells' schedule: one round with one duty each. -/
def sched : Rounds.Schedule (GSem nD τ sig) Unit 𝕄 where
  duties g r := if r = 0 ∧ (P.idx g).isSome then {()} else ∅
  amount g _ _ := match P.idx g with | some ck => P.amt ck.2 | none => 1
  payload g _ _ := match P.idx g with | some ck => P.pay ck.1 ck.2 | none => iprop(emp)
  amount_pos g r d h := by
    split
    · exact P.amt_pos _
    · exact Nat.one_pos

theorem duties_cell (ck : Dev nD × Fin P.K) : P.sched.duties (P.cell ck) 0 = {()} := by
  show (if 0 = 0 ∧ (P.idx (P.cell ck)).isSome then ({()} : Finset Unit) else ∅) = _
  rw [P.idx_cell, if_pos ⟨rfl, rfl⟩]

theorem duties_later (g : GSem nD τ sig) : ∀ r, 1 ≤ r → P.sched.duties g r = ∅ := fun r hr => by
  show (if r = 0 ∧ (P.idx g).isSome then ({()} : Finset Unit) else ∅) = _
  rw [if_neg]; rintro ⟨h, -⟩; omega

theorem amount_cell (ck : Dev nD × Fin P.K) (r : ℕ) (d : Unit) : P.sched.amount (P.cell ck) r d = P.amt ck.2 := by
  show (match P.idx (P.cell ck) with | some ck => P.amt ck.2 | none => 1) = _
  rw [P.idx_cell]

theorem payload_cell (ck : Dev nD × Fin P.K) (r : ℕ) (d : Unit) : P.sched.payload (P.cell ck) r d = P.pay ck.1 ck.2 := by
  show (match P.idx (P.cell ck) with | some ck => P.pay ck.1 ck.2 | none => iprop(emp)) = _
  rw [P.idx_cell]

theorem expect_cell (ck : Dev nD × Fin P.K) : P.sched.expect (P.cell ck) 0 = P.amt ck.2 := by
  unfold Rounds.Schedule.expect Rounds.Schedule.amountOf
  rw [P.duties_cell, Finset.sum_singleton, P.amount_cell]

instance payload_storable (g : GSem nD τ sig) (r : ℕ) (d : Unit) : BI.Storable (upEmb : UEmb _ 𝕄) (P.sched.payload g r d) := by
  show BI.Storable upEmb (match P.idx g with | some ck => P.pay ck.1 ck.2 | none => iprop(emp))
  split
  · exact P.storable _ _
  · infer_instance

/-- What device `c` still owes: the arrivals `s` at their targets. -/
def debt (s : Finset (Fin P.K)) (c : Dev nD) : CellTallies nD τ sig Unit := ∑ k ∈ s, tallyAt (P.cell (P.tgt k c, k)) () (P.amt k)

theorem debt_erase {s : Finset (Fin P.K)} {k : Fin P.K} (hk : k ∈ s) (c : Dev nD) :
    P.debt s c = P.debt (s.erase k) c + tallyAt (P.cell (P.tgt k c, k)) () (P.amt k) := (Finset.sum_erase_add s _ hk).symm

theorem debt_empty (c : Dev nD) : P.debt ∅ c = 0 := rfl

/-- Every cell of the plan has its level; no other counter has one. -/
def levels (g : GSem nD τ sig) : Finset Unit := if (P.idx g).isSome then {()} else ∅
def level (g : GSem nD τ sig) (_ : Unit) : ℕ := match P.idx g with | some ck => P.lvl ck.2 | none => 0

theorem levels_cell (ck : Dev nD × Fin P.K) : P.levels (P.cell ck) = {()} := by
  unfold levels; rw [P.idx_cell]; rfl
theorem level_cell (ck : Dev nD × Fin P.K) (i : Unit) : P.level (P.cell ck) i = P.lvl ck.2 := by
  unfold level; rw [P.idx_cell]
theorem levels_tc (g : GSem nD τ sig) (h : g.1.2 ≠ .tc) : P.levels g = ∅ := by
  unfold levels
  rcases hi : P.idx g with _ | ck
  · rfl
  · exact absurd (by rw [← P.idx_some hi]; rfl) h

theorem debt_pos {s : Finset (Fin P.K)} {c : Dev nD} {g : GSem nD τ sig} {i : Unit} (h : 0 < P.debt s c g i) :
    ∃ k ∈ s, g = P.cell (P.tgt k c, k) := by
  by_contra hno
  push Not at hno
  have : P.debt s c g i = 0 := by
    unfold debt
    rw [Finset.sum_apply, Finsupp.finsetSum_apply]
    refine Finset.sum_eq_zero fun k hk => ?_
    by_contra hne
    exact hno k hk (Pipeline.tallyAt_pos (Nat.pos_of_ne_zero hne)).1
  omega

/-- A wait on cell `k` is allowed below everything still owed. -/
theorem mayWait {s : Finset (Fin P.K)} {k : Fin P.K} (hs : ∀ k' ∈ s, P.lvl k < P.lvl k') (c : Dev nD) :
    (levAts P.levels P.level : sProp 𝕄) ⊢ MayWait (c.tc : Thread nD τ) (P.sem k) () (P.debt s c) :=
  Pipeline.mayWait_of_levAts (by rw [show (((c.tc : Thread nD τ), P.sem k) : GSem nD τ sig) = P.cell (c, k) from rfl, P.levels_cell]; exact Finset.mem_singleton_self _)
    fun g i hg => by
      obtain ⟨k', hk', rfl⟩ := P.debt_pos hg
      refine ⟨by rw [P.levels_cell]; exact Finset.mem_singleton_self _, ?_⟩
      rw [show (((c.tc : Thread nD τ), P.sem k) : GSem nD τ sig) = P.cell (c, k) from rfl, P.level_cell, P.level_cell]
      exact hs k' hk'

/-! ## What a device knows and holds -/

def cells : Finset (GSem nD τ sig) := Finset.univ.map ⟨P.cell, P.cell_inj⟩

theorem mem_cells (ck : Dev nD × Fin P.K) : P.cell ck ∈ P.cells := Finset.mem_map.mpr ⟨ck, Finset.mem_univ _, rfl⟩

/-- Every cell's invariant is there and every cell is in its round. -/
def records (κ : GSem nD τ sig → ℕ) : sProp 𝕄 :=
  iprop((bigSep P.cells fun g => cellInv EX P.sched (κ g) g) ∗ (bigSep P.cells fun g => reached EX g 0) ∗ levAts P.levels P.level)

instance records_persistent (κ : GSem nD τ sig → ℕ) : BI.Persistent (P.records κ) := by unfold records; infer_instance

theorem inv_at (κ : GSem nD τ sig → ℕ) (ck : Dev nD × Fin P.K) : P.records κ ⊢ cellInv EX P.sched (κ (P.cell ck)) (P.cell ck) := by
  have h : (bigSep P.cells fun g => (cellInv EX P.sched (κ g) g : sProp 𝕄)) ⊢ cellInv EX P.sched (κ (P.cell ck)) (P.cell ck) :=
    bigSep_elim (P.mem_cells ck)
  unfold records
  iintro ⟨H, -, -⟩
  iapply h; iexact H
theorem reached_at (κ : GSem nD τ sig → ℕ) (ck : Dev nD × Fin P.K) : P.records κ ⊢ reached EX (P.cell ck) 0 := by
  have h : (bigSep P.cells fun g => (reached EX g 0 : sProp 𝕄)) ⊢ reached EX (P.cell ck) 0 := bigSep_elim (P.mem_cells ck)
  unfold records
  iintro ⟨-, H, -⟩
  iapply h; iexact H
theorem levs_at (κ : GSem nD τ sig → ℕ) : P.records κ ⊢ levAts P.levels P.level := by
  unfold records
  iintro ⟨-, -, H⟩
  iexact H

/-- The owner's place at cell `k` before the payment is taken, and after. -/
def before (c : Dev nD) (k : Fin P.K) : sProp 𝕄 := atPos EX (P.cell (c, k)) 0 ∅ 0
def after (c : Dev nD) (k : Fin P.K) : sProp 𝕄 := atPos EX (P.cell (c, k)) 1 ∅ 0
/-- Device `c`'s right to pay the cell `k` of its target. -/
def right (c : Dev nD) (k : Fin P.K) : sProp 𝕄 := dutyTok EX (P.cell (P.tgt k c, k)) 0 ()
/-- The payment of the cell `k` of device `c` is sure to come. -/
def sure (c : Dev nD) (k : Fin P.K) : sProp 𝕄 := cred (tallyAt (P.cell (c, k)) () (P.amt k))

/-- What device `c` starts its body with, its memory apart. -/
def start (c : Dev nD) : sProp 𝕄 :=
  iprop((bigSep Finset.univ fun k => P.before c k) ∗ (bigSep Finset.univ fun k => P.right c k) ∗ bigSep P.arr fun k => P.sure c k)

end Plan

end Exchange

end
-- ==== Proof.Steps.lean ====
/-
  The steps of a device in an exchange by plan: a send, a copy inside the device, a wait; and, at the end, every counter back at zero.
-/
module

public import proofs.«01_k».proof.Proof.Cells

@[expose] public section

noncomputable section

namespace Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (cellInv reached atPos dutyTok roundState)

variable {nD : Nat} {τ : Topo} {sig : RefSig} {Val : EltTy → Type} {Λ : Labels}

local notation "𝕄" => MT nD τ sig Unit Val ℕ (UR sig nD τ) ℕ

namespace Plan

variable (P : Plan nD τ sig Val) {defs : Defs nD τ sig Val Λ} (𝒱 : Variants)

/-- A SEND to device `d`: departure counted on the own cell `kS`, arrival on `d`'s cell `kR`. The source's share is given up until the departure
    is waited for, the destination's memory until `d` has waited for the arrival; one arrival less is owed. -/
theorem send (κ : GSem nD τ sig → ℕ) (c d : Dev nD) (kS kR : Fin P.K) (hS : P.tgt kS c = c) (hR : P.tgt kR c = d)
    {s : Finset (Fin P.K)} (hs : kR ∈ s) {sp sp' : Space} {sh : Shape} {e : EltTy}
    {src : Memref sig ((c.tc : Thread nD τ)).2.kind sp sh e} {dst : Memref sig ((d.tc : Thread nD τ)).2.kind sp' sh e} {hsc : dst.view.ref.isScScratch = false}
    {sS sem : SemLoc sig} (hsS : P.sem kS = sS) (hsem' : P.sem kR = sem)
    {hsrc : src.view.WordExact} {hdst : dst.view.WordExact} {hsem : DmaTarget.Typed sp sem (.remote (d.tc : Thread nD τ) dst sS hsc)}
    {α : Type} {k : PUnit → Prog (TpuEff nD τ sig Val Λ ((c.tc : Thread nD τ)).2) α} {q : PosShare TreeShare}
    {fs : Buf Val (src.view.loc (c.tc : Thread nD τ))} {fd : Buf Val (dst.view.loc (d.tc : Thread nD τ))}
    (hN : dst.view.amount sem = P.amt kR) (hN' : P.amt kS = P.amt kR)
    (hpay₁ : (src.view.loc (c.tc : Thread nD τ) ↦[src.view.set]{q} fs) ⊢ P.pay c kS)
    (hpay₂ : (dst.view.loc (d.tc : Thread nD τ) ↦[dst.view.set]{fullShare} (dst.view.write Val fd (src.view.read Val fs) Finset.univ)) ⊢ P.pay d kR)
    (hr : τ.routes (c.tc : Thread nD τ) (d.tc : Thread nD τ) = true) {W : Waits sig Unit} {Q : α → sProp 𝕄} :
    iprop(P.records κ ∗ (src.view.loc (c.tc : Thread nD τ) ↦[src.view.set]{q} fs) ∗ (dst.view.loc (d.tc : Thread nD τ) ↦[dst.view.set]{fullShare} fd)
        ∗ owes (c.tc : Thread nD τ) (P.debt s c) W ∗ P.right c kS ∗ P.right c kR)
      ⊢ iprop(((P.sure c kS ∗ owes (c.tc : Thread nD τ) (P.debt (s.erase kR) c) W) -∗ wp frame (wpE defs 𝒱 (c.tc : Thread nD τ) none) Set.univ (k ⟨⟩) Q)
          -∗ wp frame (wpE defs 𝒱 (c.tc : Thread nD τ) none) Set.univ (.op (.enqueueDma src (.remote (d.tc : Thread nD τ) dst sS hsc) sem hsrc hdst hsem) k) Q) := by
  subst hR hsS hsem'
  have hO := P.debt_erase hs c
  have hd₁ : () ∈ P.sched.duties ((c.tc : Thread nD τ), P.sem kS) 0 := by
    rw [show (((c.tc : Thread nD τ), P.sem kS) : GSem nD τ sig) = P.cell (c, kS) from rfl, P.duties_cell]; exact Finset.mem_singleton_self _
  have hd₂ : () ∈ P.sched.duties (((P.tgt kR c).tc : Thread nD τ), P.sem kR) 0 := by
    rw [show ((((P.tgt kR c).tc : Thread nD τ), P.sem kR) : GSem nD τ sig) = P.cell (P.tgt kR c, kR) from rfl, P.duties_cell]; exact Finset.mem_singleton_self _
  have h := Rounds.wp_send_pointsTo (defs := defs) (Γ := .empty) 𝒱 EX P.sched (c.tc : Thread nD τ) none (c' := ((P.tgt kR c).tc : Thread nD τ)) (src := src) (dst := dst) (hsc := hsc)
    (sS := P.sem kS) (sem := P.sem kR) (hsrc := hsrc) (hdst := hdst) (hsem := hsem) (k := k) (q := q) (fs := fs) (fd := fd) (r₁ := 0) (r₂ := 0) (d₁ := ()) (d₂ := ())
    (κ₁ := κ (P.cell (c, kS))) (κ₂ := κ (P.cell (P.tgt kR c, kR))) hd₁ hd₂ () () (P.amt kR) hN ((P.amount_cell (c, kS) 0 ()).trans hN') (P.amount_cell (P.tgt kR c, kR) 0 ())
    (P.debt (s.erase kR) c) hO (W := W) (hpay₁.trans (Entails.of_eq (P.payload_cell (c, kS) 0 ()).symm))
    (hpay₂.trans (Entails.of_eq (P.payload_cell (P.tgt kR c, kR) 0 ()).symm)) (Es := Set.univ) (Q := Q) hr
  have hrS : P.right c kS = dutyTok EX (P.cell (c, kS)) 0 () := by unfold right; rw [hS]
  rw [hrS]
  unfold right sure
  rw [hN']
  iintro ⟨#Hrec, Hsrc, Hdst, HO, HtS, HtR⟩ Hk
  iapply h $$ [Hsrc Hdst HO HtS HtR]
  · isplitr; · iapply (P.inv_at κ (c, kS)); iexact Hrec
    isplitr; · iapply (P.inv_at κ (P.tgt kR c, kR)); iexact Hrec
    isplitl [Hsrc]; · iexact Hsrc
    isplitl [Hdst]; · iexact Hdst
    isplitl [HO]; · iexact HO
    isplitl [HtS]; · iexact HtS
    isplitr; · iapply (P.reached_at κ (c, kS)); iexact Hrec
    isplitl [HtR]; · iexact HtR
    iapply (P.reached_at κ (P.tgt kR c, kR)); iexact Hrec
  iexact Hk

/-- A COPY inside the device, counted on its cell `kL`. -/
theorem copy (κ : GSem nD τ sig → ℕ) (c : Dev nD) (kL : Fin P.K) (hL : P.tgt kL c = c) {sp sp' : Space} {sh : Shape} {e : EltTy}
    {src : Memref sig ((c.tc : Thread nD τ)).2.kind sp sh e} {dst : Memref sig ((c.tc : Thread nD τ)).2.kind sp' sh e}
    {sem : SemLoc sig} (hsem' : P.sem kL = sem)
    {hsrc : src.view.WordExact} {hdst : dst.view.WordExact} {hsem : DmaTarget.Typed (nD := nD) sp sem (.here dst)}
    {α : Type} {k : PUnit → Prog (TpuEff nD τ sig Val Λ ((c.tc : Thread nD τ)).2) α} {q : PosShare TreeShare}
    {fs : Buf Val (src.view.loc (c.tc : Thread nD τ))} {fd : Buf Val (dst.view.loc (c.tc : Thread nD τ))}
    (hN : dst.view.amount sem = P.amt kL)
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ P.pay c kL) {Q : α → sProp 𝕄} :
    iprop(P.records κ ∗ (src.view.loc (c.tc : Thread nD τ) ↦[src.view.set]{q} fs) ∗ (dst.view.loc (c.tc : Thread nD τ) ↦[dst.view.set]{fullShare} fd)
        ∗ P.right c kL)
      ⊢ iprop((P.sure c kL -∗ wp frame (wpE defs 𝒱 (c.tc : Thread nD τ) none) Set.univ (k ⟨⟩) Q)
          -∗ wp frame (wpE defs 𝒱 (c.tc : Thread nD τ) none) Set.univ (.op (.enqueueDma src (.here dst) sem hsrc hdst hsem) k) Q) := by
  subst hsem'
  have hd : () ∈ P.sched.duties ((c.tc : Thread nD τ), P.sem kL) 0 := by
    rw [show (((c.tc : Thread nD τ), P.sem kL) : GSem nD τ sig) = P.cell (c, kL) from rfl, P.duties_cell]; exact Finset.mem_singleton_self _
  have h := Rounds.wp_copy_pointsTo (defs := defs) (Γ := .empty) 𝒱 EX P.sched (c.tc : Thread nD τ) none (src := src) (dst := dst)
    (sem := P.sem kL) (hsrc := hsrc) (hdst := hdst) (hsem := hsem) (k := k) (q := q) (fs := fs) (fd := fd) (r := 0) (d := ())
    (κ := κ (P.cell (c, kL))) hd () (P.amt kL) hN (P.amount_cell (c, kL) 0 ()) (hpay.trans (Entails.of_eq (P.payload_cell (c, kL) 0 ()).symm)) (Es := Set.univ) (Q := Q)
  have hrL : P.right c kL = dutyTok EX (P.cell (c, kL)) 0 () := by unfold right; rw [hL]
  rw [hrL]
  unfold sure
  iintro ⟨#Hrec, Hsrc, Hdst, HtL⟩ Hk
  iapply h $$ [Hsrc Hdst HtL]
  · isplitr; · iapply (P.inv_at κ (c, kL)); iexact Hrec
    isplitl [Hsrc]; · iexact Hsrc
    isplitl [Hdst]; · iexact Hdst
    isplitl [HtL]; · iexact HtL
    iapply (P.reached_at κ (c, kL)); iexact Hrec
  iexact Hk

/-- A WAIT on cell `k`, whose payment is sure: the device finds what the payment hands over. -/
theorem wait (κ : GSem nD τ sig → ℕ) (c : Dev nD) (kk : Fin P.K) {s : Finset (Fin P.K)} (hs : ∀ k' ∈ s, P.lvl kk < P.lvl k')
    {sp sp' : Space} {sh sh' : Shape} {e e' : EltTy} {sem : DmaSem sig} (hsem' : P.sem kk = .dma sem)
    {src : Memref sig ((c.tc : Thread nD τ)).2.kind sp' sh' e'} {κ' : Kind} {dst : Memref sig κ' sp sh e} {hsrc : src.view.WordExact} {hdst : dst.view.WordExact}
    (hN : dst.view.dmaCredit = P.amt kk)
    {α : Type} {k : PUnit → Prog (TpuEff nD τ sig Val Λ ((c.tc : Thread nD τ)).2) α} {W : Waits sig Unit} {Q : α → sProp 𝕄} :
    iprop(P.records κ ∗ P.sure c kk ∗ owes (c.tc : Thread nD τ) (P.debt s c) W ∗ P.before c kk)
      ⊢ iprop((((∃ W', owes (c.tc : Thread nD τ) (P.debt s c) W') ∗ P.after c kk ∗ P.pay c kk)
            -∗ wp frame (wpE defs 𝒱 (c.tc : Thread nD τ) none) Set.univ (k ⟨⟩) Q)
          -∗ wp frame (wpE defs 𝒱 (c.tc : Thread nD τ) none) Set.univ (.op (.waitDma2 sem src dst hsrc hdst) k) Q) := by
  have h := Rounds.wp_wait_rest_token (defs := defs) (Γ := .empty) 𝒱 EX P.sched (c.tc : Thread nD τ) none (w := .waitDma2 sem src dst hsrc hdst) (sm := .dma sem)
    (κ := κ (P.cell (c, kk))) (wpE_waitDma2_eq 𝒱 (c.tc : Thread nD τ) none Set.univ) (Set.mem_univ _) (k := k) () (O := P.debt s c) (W := W)
    (R := 0) (m := 0) (T := ∅) (Q := Q)
    ((Nat.zero_add _).trans (hN.trans (by rw [← hsem', show (((c.tc : Thread nD τ), P.sem kk) : GSem nD τ sig) = P.cell (c, kk) from rfl, P.expect_cell])))
  have hg : (((c.tc : Thread nD τ), SemLoc.dma sem) : GSem nD τ sig) = P.cell (c, kk) := by rw [← hsem']; rfl
  have hdu : P.sched.duties (P.cell (c, kk)) 0 \ ∅ = {()} := by rw [P.duties_cell]; rfl
  rw [hg, hN, hdu, bigSep_singleton, P.payload_cell] at h
  have hmw := P.mayWait hs c
  rw [hsem'] at hmw
  unfold sure before after
  iintro ⟨#Hrec, Hc, HO, Hat⟩ Hk
  iapply h $$ [Hc HO Hat]
  · isplitr; · iapply (P.inv_at κ (c, kk)); iexact Hrec
    isplitl [Hc]; · iexact Hc
    isplitl [HO]; · iexact HO
    isplitr; · iapply hmw; iapply (P.levs_at κ); iexact Hrec
    iexact Hat
  iintro ⟨HO, Hat, -, Hpay⟩
  iapply Hk
  isplitl [HO]; · iexists _; iexact HO
  isplitl [Hat]; · iexact Hat
  iexact Hpay

/-- A cell whose payment was taken gives its counter back at zero. -/
theorem close (κ : GSem nD τ sig → ℕ) (c : Dev nD) (k : Fin P.K) :
    iprop(P.records κ ∗ P.after c k) ⊢ (|={Set.univ}=> semVal (P.cell (c, k)) 0 : sProp 𝕄) := by
  have h := Rounds.cell_close EX P.sched (g := P.cell (c, k)) (Set.mem_univ (κ (P.cell (c, k)))) id (P.duties_later (P.cell (c, k)))
  unfold after
  iintro ⟨#Hrec, Hat⟩
  iapply h
  isplitr; · iapply (P.inv_at κ (c, k)); iexact Hrec
  iexact Hat

/-- All of them. -/
theorem close_all (κ : GSem nD τ sig → ℕ) (c : Dev nD) :
    iprop(P.records κ ∗ bigSep Finset.univ fun k => P.after c k) ⊢ (|={Set.univ}=> bigSep Finset.univ fun k => semVal (P.cell (c, k)) 0 : sProp 𝕄) := by
  have hstep (s : Finset (Fin P.K)) : iprop(P.records κ ∗ bigSep s fun k => P.after c k) ⊢ (|={Set.univ}=> bigSep s fun k => semVal (P.cell (c, k)) 0 : sProp 𝕄) := by
    induction s using Finset.induction_on with
    | empty =>
      rw [BI.bigSep_empty, BI.bigSep_empty]
      iintro -; imodintro; iempintro
    | insert a s ha ih =>
      have e1 : (bigSep (insert a s) fun k => P.after c k) = iprop(P.after c a ∗ bigSep s fun k => P.after c k) := bigSep_insert ha
      have e2 : (bigSep (insert a s) fun k => (semVal (P.cell (c, k)) 0 : sProp 𝕄)) = iprop(semVal (P.cell (c, a)) 0 ∗ bigSep s fun k => semVal (P.cell (c, k)) 0) :=
        bigSep_insert ha
      rw [e1, e2]
      iintro ⟨#Hrec, Ha, Hs⟩
      imod (P.close κ c a) $$ [Ha] with Ha
      · isplitr; · iexact Hrec
        iexact Ha
      imod ih $$ [Hs] with Hs
      · isplitr; · iexact Hrec
        iexact Hs
      imodintro
      isplitl [Ha]; · iexact Ha
      iexact Hs
  exact hstep Finset.univ

end Plan

end Exchange

end
-- ==== Proof.Open.lean ====
/-
  A program that is one exchange by plan. At launch every cell of the machine is opened at once and the memory redealt across the
  devices; each device then runs the body once; at the end every counter is back at zero.
-/
module

public import proofs.«01_k».proof.Proof.Steps

@[expose] public section

noncomputable section

namespace Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (cellInv reached atPos dutyTok roundState)
open Idealize.ShloMosaic.Pipeline (Cfg PCfg Dat)

variable {nD : Nat} {τ : Topo} {sig : RefSig} {Val : EltTy → Type}

local notation "𝕄" => MT nD τ sig Unit Val ℕ (UR sig nD τ) ℕ

namespace Plan

variable (P : Plan nD τ sig Val)

/-- The right to pay each cell, as the launch deals it. -/
def rights : Finset (GSem nD τ sig × ℕ × Unit) :=
  Finset.univ.map ⟨fun ck => (P.cell ck, 0, ()), fun _ _ h => P.cell_inj (congrArg Prod.fst h)⟩

/-- The scoped counters that the plan does not use. -/
def idle : Finset (SemLoc sig) := (Finset.univ.filter fun sm : SemLoc sig => sm.isScoped .tc = true) \ Finset.univ.map ⟨P.sem, P.inj⟩
def idleSems (c : Dev nD) : sProp 𝕄 := bigSep P.idle fun sm => semVal ((c.tc : Thread nD τ), sm) 0

theorem sems_split (c : Dev nD) :
    (scopedSems0 (c.tc : Thread nD τ) : sProp 𝕄) = iprop((bigSep Finset.univ fun k => semVal (P.cell (c, k)) 0) ∗ P.idleSems c) := by
  rw [show (c.tc : Thread nD τ) = (c, .tc) from rfl, scopedSems0_tc c]
  have hsub : (Finset.univ.map ⟨P.sem, P.inj⟩ : Finset (SemLoc sig)) ⊆ Finset.univ.filter fun sm : SemLoc sig => sm.isScoped .tc = true := by
    intro sm h
    obtain ⟨k, -, rfl⟩ := Finset.mem_map.mp h
    exact Finset.mem_filter.mpr ⟨Finset.mem_univ _, P.sems_scoped k⟩
  refine (BI.bigSep_sdiff_split hsub).trans ?_
  rw [bigSep_map]
  rfl

/-- The rights, redealt: each device gets those to pay its targets. -/
theorem rights_dealt :
    (bigSep P.rights fun x => (dutyTok EX x.1 x.2.1 x.2.2 : sProp 𝕄)) = bigSep Finset.univ fun c : Dev nD => bigSep Finset.univ fun k => P.right c k := by
  unfold rights
  rw [bigSep_map]
  refine (BI.bigSep_univ_prod (fun ck : Dev nD × Fin P.K => (dutyTok EX (P.cell ck) 0 () : sProp 𝕄))).trans ?_
  rw [BI.bigSep_univ_comm, BI.bigSep_univ_comm (fun (c : Dev nD) k => P.right c k)]
  exact bigSep_congr fun k _ => BI.bigSep_univ_equiv (P.tgt k) (fun c : Dev nD => (dutyTok EX (P.cell (c, k)) 0 () : sProp 𝕄))

/-- A bigSep over the cells is one over the devices of one over the plan. -/
theorem over_cells (Φ : GSem nD τ sig → sProp 𝕄) :
    bigSep P.cells Φ = bigSep Finset.univ fun c : Dev nD => bigSep Finset.univ fun k => Φ (P.cell (c, k)) := by
  unfold cells
  rw [bigSep_map]
  exact BI.bigSep_univ_prod (fun ck : Dev nD × Fin P.K => Φ (P.cell ck))

/-- What the others owe a device is its assurance that the arrivals will come. -/
theorem assured (c : Dev nD) : (Pipeline.launchCred (P.debt P.arr) c : sProp 𝕄) ⊢ bigSep P.arr fun k => P.sure c k := by
  have h : (P.debt P.arr : Dev nD → CellTallies nD τ sig Unit)
      = fun d => ∑ k ∈ P.arr, (fun k (d : Dev nD) => (tallyAt (((P.tgt k d).tc : Thread nD τ), P.sem k) () (P.amt k) : CellTallies nD τ sig Unit)) k d := rfl
  rw [h, Pipeline.launchCred_sum]
  exact bigSep_mono fun k _ => Pipeline.launchCred_tallyAt (P.sem k) (P.tgt k) (P.tgt k).symm (P.tgt k).apply_symm_apply (P.tgt k).symm_apply_apply () (P.amt k) c

/-- What device `c` has when it calls its body. -/
def ready (mem : Dev nD → sProp 𝕄) (c : Dev nD) : sProp 𝕄 :=
  iprop((∃ κ, P.records κ ∗ P.start c ∗ mem c) ∗ owes (c.tc : Thread nD τ) (P.debt P.arr c) ∅ ∗ P.idleSems c ∗ scopedBufs (c.tc : Thread nD τ))

theorem split4 (A B C D : Dev nD → sProp 𝕄) :
    (bigSep Finset.univ fun c => iprop(A c ∗ B c ∗ C c ∗ D c))
      = iprop((bigSep Finset.univ A) ∗ (bigSep Finset.univ B) ∗ (bigSep Finset.univ C) ∗ bigSep Finset.univ D) := by
  rw [bigSep_sep', bigSep_sep', bigSep_sep']

theorem split5 (A B C D E : Dev nD → sProp 𝕄) :
    (bigSep Finset.univ fun c => iprop(A c ∗ B c ∗ C c ∗ D c ∗ E c))
      = iprop((bigSep Finset.univ A) ∗ (bigSep Finset.univ B) ∗ (bigSep Finset.univ C) ∗ (bigSep Finset.univ D) ∗ bigSep Finset.univ E) := by
  rw [bigSep_sep', bigSep_sep', bigSep_sep', bigSep_sep']

/-- THE OPENING, across the machine. -/
theorem opened (mem : Dev nD → sProp 𝕄) (m : (ℓ : Loc nD τ sig) → Buf Val ℓ) (g : Dev nD → PrngReg)
    (hmem : (bigSep Finset.univ fun c : Dev nD => (unscopedBufs c (fun b => m ((c.tc : Thread nD τ).loc b)) : sProp 𝕄)) ⊢ bigSep Finset.univ mem) :
    iprop(bigSep Finset.univ (hand (P.debt P.arr) m g) ∗ levAts P.levels P.level ∗ ownU (Rounds.initOf P.cells P.rights))
      ⊢ (|={Set.univ}=> bigSep Finset.univ (P.ready mem) : sProp 𝕄) := by
  have hhand (c : Dev nD) : (hand (P.debt P.arr) m g c : sProp 𝕄)
      ⊢ iprop((unscopedBufs c (fun b => m ((c.tc : Thread nD τ).loc b))) ∗ (bigSep Finset.univ fun k => semVal (P.cell (c, k)) 0)
        ∗ (bigSep P.arr fun k => P.sure c k) ∗ (owes (c.tc : Thread nD τ) (P.debt P.arr c) ∅ ∗ P.idleSems c ∗ scopedBufs (c.tc : Thread nD τ))) := by
    unfold hand boundary
    rw [P.sems_split c]
    iintro ⟨⟨Hb, ⟨Hs, Hi⟩, -⟩, Hub, -, HO, -, Hc⟩
    isplitl [Hub]; · iexact Hub
    isplitl [Hs]; · iexact Hs
    isplitl [Hc]; · iapply (P.assured c); iexact Hc
    isplitl [HO]; · iexact HO
    isplitl [Hi]; · iexact Hi
    iexact Hb
  have hhands : (bigSep Finset.univ (hand (P.debt P.arr) m g) : sProp 𝕄) ⊢ iprop((bigSep Finset.univ fun c : Dev nD => unscopedBufs c (fun b => m ((c.tc : Thread nD τ).loc b)))
      ∗ (bigSep Finset.univ fun c : Dev nD => bigSep Finset.univ fun k => semVal (P.cell (c, k)) 0)
      ∗ (bigSep Finset.univ fun c : Dev nD => bigSep P.arr fun k => P.sure c k)
      ∗ (bigSep Finset.univ fun c : Dev nD => iprop(owes (c.tc : Thread nD τ) (P.debt P.arr c) ∅ ∗ P.idleSems c ∗ scopedBufs (c.tc : Thread nD τ)))) := (bigSep_mono (s := Finset.univ) fun (c : Dev nD) _ => hhand c).trans (Entails.of_eq (split4 _ _ _ _))
  have hbody : iprop((bigSep P.cells fun gs => semVal gs 0) ∗ bigSep P.cells fun gs => roundState EX P.sched gs 0)
      ⊢ (bigSep P.cells fun gs => Rounds.body EX P.sched gs : sProp 𝕄) :=
    (Entails.of_eq (bigSep_sep' _ _ _).symm).trans (bigSep_mono fun gs _ => Rounds.body_intro EX P.sched gs)
  have hend (κ : GSem nD τ sig → ℕ) :
      iprop(P.records κ ∗ (bigSep Finset.univ fun c : Dev nD => bigSep Finset.univ fun k => P.before c k)
        ∗ (bigSep Finset.univ fun c : Dev nD => bigSep Finset.univ fun k => P.right c k)
        ∗ (bigSep Finset.univ fun c : Dev nD => bigSep P.arr fun k => P.sure c k) ∗ bigSep Finset.univ mem
        ∗ (bigSep Finset.univ fun c : Dev nD => iprop(owes (c.tc : Thread nD τ) (P.debt P.arr c) ∅ ∗ P.idleSems c ∗ scopedBufs (c.tc : Thread nD τ))))
      ⊢ (bigSep Finset.univ (P.ready mem) : sProp 𝕄) := by
    have hone (c : Dev nD) : iprop(P.records κ ∗ (bigSep Finset.univ fun k => P.before c k) ∗ (bigSep Finset.univ fun k => P.right c k)
        ∗ (bigSep P.arr fun k => P.sure c k) ∗ mem c
        ∗ (owes (c.tc : Thread nD τ) (P.debt P.arr c) ∅ ∗ P.idleSems c ∗ scopedBufs (c.tc : Thread nD τ))) ⊢ P.ready mem c := by
      unfold ready start
      iintro ⟨Hr, H1, H2, H3, H4, H5⟩
      isplitr [H5]
      · iexists κ
        isplitl [Hr]; · iexact Hr
        isplitl [H1 H2 H3]
        · isplitl [H1]; · iexact H1
          isplitl [H2] <;> iassumption
        iexact H4
      iexact H5
    refine BIBase.Entails.trans ?_ (bigSep_mono fun c _ => hone c)
    have hrec : P.records κ ⊢ (bigSep Finset.univ fun _ : Dev nD => P.records κ : sProp 𝕄) := BI.bigSep_intro_persistent fun _ _ => .rfl
    refine BIBase.Entails.trans (sep_mono_left hrec) (Entails.of_eq ?_)
    exact ((bigSep_sep' _ _ _).trans (congrArg _ (split5 _ _ _ _ _))).symm
  have hsem : (bigSep Finset.univ fun c : Dev nD => bigSep Finset.univ fun k => (semVal (P.cell (c, k)) 0 : sProp 𝕄)) ⊢ bigSep P.cells fun gs => semVal gs 0 :=
    Entails.of_eq (P.over_cells fun gs => (semVal gs 0 : sProp 𝕄)).symm
  have hat : (bigSep P.cells fun gs => (atPos EX gs 0 ∅ 0 : sProp 𝕄)) ⊢ bigSep Finset.univ fun c : Dev nD => bigSep Finset.univ fun k => P.before c k :=
    Entails.of_eq (P.over_cells fun gs => (atPos EX gs 0 ∅ 0 : sProp 𝕄))
  have htk : (bigSep P.rights fun x => (dutyTok EX x.1 x.2.1 x.2.2 : sProp 𝕄)) ⊢ bigSep Finset.univ fun c : Dev nD => bigSep Finset.univ fun k => P.right c k :=
    Entails.of_eq P.rights_dealt
  rw [show (ownU (Rounds.initOf P.cells P.rights) : sProp 𝕄) = BI.own (EX (Rounds.initOf P.cells P.rights)) from rfl]
  iintro ⟨Hh, #Hlev, Hu⟩
  ihave Hh := hhands $$ Hh
  icases Hh with ⟨Hub, Hs, Hc, Hrest⟩
  imod (Rounds.fund EX P.sched P.cells P.rights) $$ Hu with ⟨Hst, #Hre, Hat, Htk⟩
  ihave Hb := hbody $$ [Hs Hst]
  · isplitl [Hs]; · iapply hsem; iexact Hs
    iexact Hst
  imod (inv_alloc_family P.cells (Rounds.body EX P.sched) ∅) $$ Hb with ⟨%κ, -, #Hinv⟩
  imodintro
  iapply (hend κ)
  isplitr
  · unfold records
    isplitr; · iexact Hinv
    isplitr; · iexact Hre
    iexact Hlev
  isplitl [Hat]; · iapply hat; iexact Hat
  isplitl [Htk]; · iapply htk; iexact Htk
  isplitl [Hc]; · iexact Hc
  isplitl [Hub]; · iapply hmem; iexact Hub
  iexact Hrest

/-- THE PROGRAM that is one call of the exchange's body: from the body's run (`hrun`, from the device's share of the opening and its memory
    `mem` to `res` with every payment taken) the whole machine's run, `res` read against the final memory. -/
theorem θ_run_once [∀ e, Nonempty (Val e)] {Λ₀ : Labels} {I : Type} [Fintype I] [DecidableEq I] (pcs : I → PCfg sig Λ₀ Val) (a : (p : I) → (pcs p).Adm)
    (phinj : Function.Injective (Pipeline.cellOf (nD := nD) (τ := τ) (Pipeline.pin pcs a))) (p : I) (defs₀ : Defs nD τ sig Val Λ₀) (𝒱₀ : Variants)
    (hW : ∀ p, IsEmpty (Fin (Pipeline.pin pcs a p).W)) (hK : IsEmpty (Fin (pcs p).pre.K)) (hN : (Pipeline.pin pcs a p).N = 1)
    (main : Dev nD → Prog (TpuEff nD τ sig Val (Pipeline.Sig Λ₀ I fun p => (pcs p).Adm) Proc.tc) PUnit)
    (hmain : ∀ c, main c = .op (.customCall (Pipeline.entry p) ()) fun _ => .ret ⟨⟩)
    (m : (ℓ : Loc nD τ sig) → Buf Val ℓ) (g : Dev nD → PrngReg) (mem res : Dev nD → sProp 𝕄)
    (hmem : (bigSep Finset.univ fun c : Dev nD => (unscopedBufs c (fun b => m ((c.tc : Thread nD τ).loc b)) : sProp 𝕄)) ⊢ bigSep Finset.univ mem)
    (hrun : ∀ (c : Dev nD) (κ : GSem nD τ sig → ℕ) (t : Fin (Pipeline.pin pcs a p).N) (W : Waits sig Unit) (K : sProp 𝕄),
      iprop(P.records κ ∗ P.start c ∗ mem c ∗ owes (c.tc : Thread nD τ) (P.debt P.arr c) W
          ∗ ((res c ∗ (bigSep Finset.univ fun k => P.after c k) ∗ ∃ W', owes (c.tc : Thread nD τ) (0 : CellTallies nD τ sig Unit) W') -∗ |={Set.univ}=> K))
        ⊢ wp frame (wpE defs₀ 𝒱₀ (c.tc : Thread nD τ) none) Set.univ
            (defs₀ .tc (Pipeline.pin pcs a p).body ((Pipeline.pin pcs a p).bodyArgs t ((Pipeline.pin pcs a p).slots t))) fun _ => K)
    (QY : Dev nD → MemSt nD τ sig Val → Prop)
    (hfin : ∀ c (s' : Phys nD τ sig Val), iprop(res c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  let X : Dev nD → sProp 𝕄 := fun c => iprop(∃ κ, P.records κ ∗ P.start c ∗ mem c)
  let Y : Dev nD → sProp 𝕄 := fun c => iprop(res c ∗ bigSep Finset.univ fun k => semVal (P.cell (c, k)) 0)
  let pdats : (p' : I) → (c : Dev nD) → Dat τ Val Unit ℕ (UR sig nD τ) ℕ (Pipeline.pin pcs a p') c :=
    fun p' c => onceDat (Pipeline.pin pcs a p') (hW p') c (X c) (Y c) (P.debt P.arr c)
  refine θ_run_dealt (Pipeline.defs pcs defs₀) (Variants.lift 𝒱₀) m g main (P.debt P.arr) P.levels P.level P.levels_tc
    (Rounds.initOf P.cells P.rights) (P.ready mem) res (P.opened mem m g hmem) (fun c => ?_) QY hfin hQ
  have hbody (t : Fin (Pipeline.pin pcs a p).N) (W : Waits sig Unit) (K : sProp 𝕄) :
      iprop((X c ∗ owes (c.tc : Thread nD τ) (P.debt P.arr c) W) ∗ ((Y c ∗ ∃ W', owes (c.tc : Thread nD τ) (0 : CellTallies nD τ sig Unit) W') -∗ K))
        ⊢ wp frame (wpE defs₀ 𝒱₀ (c.tc : Thread nD τ) none) Set.univ
            (defs₀ .tc (Pipeline.pin pcs a p).body ((Pipeline.pin pcs a p).bodyArgs t ((Pipeline.pin pcs a p).slots t))) fun _ => K := by
    simp only [X, Y]
    iintro ⟨⟨⟨%κ, #Hrec, Hst, Hm⟩, HO⟩, Hk⟩
    iapply (hrun c κ t W K)
    isplitr; · iexact Hrec
    isplitl [Hst]; · iexact Hst
    isplitl [Hm]; · iexact Hm
    isplitl [HO]; · iexact HO
    iintro ⟨Hr, Ha, HO⟩
    imod (P.close_all κ c) $$ [Ha] with Hs
    · isplitr; · iexact Hrec
      iexact Ha
    imodintro
    iapply Hk
    isplitl [Hr Hs]
    · isplitl [Hr] <;> iassumption
    iexact HO
  have hY : iprop(Y c ∗ P.idleSems c) ⊢ iprop(res c ∗ scopedSems0 (c.tc : Thread nD τ)) := by
    rw [P.sems_split c]
    simp only [Y]
    iintro ⟨⟨Hr, Hs⟩, Hi⟩
    isplitl [Hr]; · iexact Hr
    isplitl [Hs] <;> iassumption
  have hcall := wp_once pcs a pdats phinj p defs₀ 𝒱₀ EX (hW p) hK hN c (X c) (Y c) (res c) (P.idleSems c) (P.debt P.arr c) rfl hbody hY
    (k := fun _ => .ret ⟨⟩)
    (Q := fun _ => iprop((res c ∗ scopedSems0 (c.tc : Thread nD τ)) ∗ ∃ W, owes (c.tc : Thread nD τ) (0 : CellTallies nD τ sig Unit) W))
  rw [hmain c]
  unfold ready
  iintro ⟨HX, HO, HI, Hb⟩
  iapply hcall $$ [HX HO HI Hb]
  · isplitl [HX]; · iexact HX
    isplitl [HO]; · iexact HO
    isplitl [HI] <;> iassumption
  iintro ⟨Hr, Hs, Hb, HO⟩
  rw [wp_ret]
  imodintro
  isplitl [Hr Hs]
  · isplitl [Hr] <;> iassumption
  iexact HO

end Plan

end Exchange

end
-- ==== Proof.Zones.lean ====
/-
  Parts of a buffer that several devices write: a buffer cut into zones by a key of its entries, the zones that a kernel's windows are,
  and what a copy leaves in its zone.
-/
module

public import proofs.«01_k».proof.Proof.Open
public import Idealize.ShloMosaic.Lib.ValueIdxCore
public import Idealize.ShloMosaic.Lib.ValueLayout

@[expose] public section

noncomputable section

namespace Exchange

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (UR sig nD τ) ℕ

/-- The entries whose key is among `A`. -/
def zone {I κ : Type} [Fintype I] [DecidableEq κ] (key : I → κ) (A : Finset κ) : Finset I := Finset.univ.filter fun i => key i ∈ A

theorem mem_zone {I κ : Type} [Fintype I] [DecidableEq κ] {key : I → κ} {A : Finset κ} {i : I} : i ∈ zone key A ↔ key i ∈ A :=
  ⟨fun h => (Finset.mem_filter.mp h).2, fun h => Finset.mem_filter.mpr ⟨Finset.mem_univ _, h⟩⟩

/-- A whole buffer is its zones, when every key is in exactly one of them. -/
theorem zone_cut {ℓ : Loc nD τ sig} {κ T : Type} [DecidableEq κ] [Fintype T] [DecidableEq T] (key : Idx ℓ → κ) (A : T → Finset κ)
    (hd : ∀ k t t', k ∈ A t → k ∈ A t' → t = t') (hc : ∀ k, ∃ t, k ∈ A t) (q : PosShare TreeShare) (f : Buf Val ℓ) :
    (ℓ ↦{q} f : sProp 𝕄) = bigSep Finset.univ fun t => ℓ ↦[zone key (A t)]{q} f := by
  have h : (ℓ ↦[Finset.univ.biUnion fun t => zone key (A t)]{q} f : sProp 𝕄) = bigSep Finset.univ fun t => ℓ ↦[zone key (A t)]{q} f :=
    pointsTo_biUnion Finset.univ (fun t => zone key (A t)) fun t _ t' _ hne =>
      Finset.disjoint_left.mpr fun i h1 h2 => hne (hd (key i) t t' (mem_zone.mp h1) (mem_zone.mp h2))
  have hu : (Finset.univ.biUnion fun t => zone key (A t)) = Finset.univ := by
    ext i
    obtain ⟨t, ht⟩ := hc (key i)
    exact ⟨fun _ => Finset.mem_univ _, fun _ => Finset.mem_biUnion.mpr ⟨t, Finset.mem_univ _, mem_zone.mpr ht⟩⟩
  rw [hu] at h
  exact h

/-- A part of a buffer, the rest let go. -/
theorem part {ℓ : Loc nD τ sig} (S : Finset (Idx ℓ)) (q : PosShare TreeShare) (f : Buf Val ℓ) : (ℓ ↦{q} f : sProp 𝕄) ⊢ ℓ ↦[S]{q} f := by
  have h : (ℓ ↦{q} f : sProp 𝕄) ⊢ iprop((ℓ ↦[S]{q} f) ∗ (ℓ ↦[Finset.univ \ S]{q} f)) := (pointsTo_split_subset (Finset.subset_univ S)).1
  iintro H
  ihave H := h $$ H
  icases H with ⟨H, -⟩
  iexact H

/-- Two shares of one part. -/
theorem halves {ℓ : Loc nD τ sig} (S : Finset (Idx ℓ)) (q : PosShare TreeShare) (f : Buf Val ℓ) :
    (ℓ ↦[S]{q} f : sProp 𝕄) ⊢ iprop((ℓ ↦[S]{q.left} f) ∗ ℓ ↦[S]{q.right} f) := (pointsTo_share (PosShare.mem_left_op_right q)).1

/-- One of them. -/
theorem left_half {ℓ : Loc nD τ sig} (S : Finset (Idx ℓ)) (q : PosShare TreeShare) (f : Buf Val ℓ) :
    (ℓ ↦[S]{q} f : sProp 𝕄) ⊢ (ℓ ↦[S]{q.left} f) := by
  iintro H
  ihave H := (halves S q f) $$ H
  icases H with ⟨H, -⟩
  iexact H

/-- Nothing need be kept. -/
theorem let_go (P : sProp 𝕄) : P ⊢ iprop(emp) := by
  iintro -
  iempintro

/-- A copy that has landed leaves `G` where it wrote, if that is what its source reads. -/
theorem landed {c d : Thread nD τ} {sp sp' : Space} {sh : Shape} {e : EltTy} (src : View sig c.2.kind sp sh e) (dst : View sig d.2.kind sp' sh e)
    (q : PosShare TreeShare) (fs : Buf Val (src.loc c)) (fd G : Buf Val (dst.loc d)) (h : ∀ x, src.read Val fs x = dst.read Val G x) :
    (dst.loc d ↦[dst.set]{q} (dst.write Val fd (src.read Val fs) Finset.univ) : sProp 𝕄) = (dst.loc d ↦[dst.set]{q} G) := by
  refine pointsTo_congr fun i hi => ?_
  obtain ⟨x, -, rfl⟩ := Finset.mem_map.mp hi
  rw [View.write_emb_of_mem _ _ (h := Finset.mem_univ x), h, View.read_apply]
  exact cast_cast _ _ _

/-! ## A window: one row of the first axis, a stretch of the second, all of the third -/

section Box

variable {n N L p q h : ℕ} {off : Fin 3 → ℕ}

/-- Which entries it holds. -/
theorem mem_box {inb : ∀ a, off a + (⟨3, ![1, h, L]⟩ : Shape).size a ≤ (⟨3, ![n, N, L]⟩ : Shape).size a} (ho : off = ![p, q, 0]) (i : (⟨3, ![n, N, L]⟩ : Shape).Idx) :
    i ∈ (Rect.unit (s := ⟨3, ![n, N, L]⟩) off (⟨3, ![1, h, L]⟩ : Shape).size inb).set ↔ (i 0).val = p ∧ q ≤ (i 1).val ∧ (i 1).val < q + h := by
  subst ho
  rw [Rect.mem_set_unit]
  have h2 : (i 2).val < L := (i 2).isLt
  constructor
  · intro hi
    have h0 : p ≤ (i 0).val ∧ (i 0).val < p + 1 := hi 0
    have h1 : q ≤ (i 1).val ∧ (i 1).val < q + h := hi 1
    omega
  · rintro ⟨h0, h1, h1'⟩ a
    match a with
    | ⟨0, _⟩ => exact (⟨by omega, by omega⟩ : p ≤ (i 0).val ∧ (i 0).val < p + 1)
    | ⟨1, _⟩ => exact (⟨h1, h1'⟩ : q ≤ (i 1).val ∧ (i 1).val < q + h)
    | ⟨2, _⟩ => exact (⟨Nat.zero_le _, by omega⟩ : 0 ≤ (i 2).val ∧ (i 2).val < 0 + L)

/-- Which entry is its `(r, l)`. -/
theorem box_emb {inb : ∀ a, off a + (⟨3, ![1, h, L]⟩ : Shape).size a ≤ (⟨3, ![n, N, L]⟩ : Shape).size a} (ho : off = ![p, q, 0])
    (hn : (⟨2, ![h, L]⟩ : Shape).numel = (⟨3, ![1, h, L]⟩ : Shape).numel) (r : Fin h) (l : Fin L) (a : Fin n) (b : Fin N) (ha : a.val = p) (hb : b.val = q + r.val) :
    (Rect.unit (s := ⟨3, ![n, N, L]⟩) off (⟨3, ![1, h, L]⟩ : Shape).size inb).emb (Shape.reshapeEquiv hn (ix2 r l)) = ix3 a b l := by
  subst ho
  rw [reshapeEquiv_ix2_1ab]
  funext x
  refine Fin.ext ?_
  match x with
  | ⟨0, _⟩ => exact (show p + 1 * 0 = a.val by omega)
  | ⟨1, _⟩ => exact (show q + 1 * r.val = b.val by omega)
  | ⟨2, _⟩ => exact (show 0 + 1 * l.val = l.val by omega)

end Box

/-! ## The steps of a device, by zones -/

namespace Plan

variable (P : Plan nD τ sig Val) {Λ : Labels} {defs : Defs nD τ sig Val Λ} (𝒱 : Variants)

/-- A send into the zone `D` of device `d`, which leaves `G` there. -/
theorem send_to (κ : GSem nD τ sig → ℕ) (c d : Dev nD) (kS kR : Fin P.K) (hS : P.tgt kS c = c) (hR : P.tgt kR c = d)
    {s : Finset (Fin P.K)} (hs : kR ∈ s) {sp sp' : Space} {sh : Shape} {e : EltTy}
    {src : Memref sig ((c.tc : Thread nD τ)).2.kind sp sh e} {dst : Memref sig ((d.tc : Thread nD τ)).2.kind sp' sh e} {hsc : dst.view.ref.isScScratch = false}
    {sS sem : SemLoc sig} (hsS : P.sem kS = sS) (hsem' : P.sem kR = sem)
    {hsrc : src.view.WordExact} {hdst : dst.view.WordExact} {hsem : DmaTarget.Typed sp sem (.remote (d.tc : Thread nD τ) dst sS hsc)}
    {α : Type} {k : PUnit → Prog (TpuEff nD τ sig Val Λ ((c.tc : Thread nD τ)).2) α} {q : PosShare TreeShare}
    {fs : Buf Val (src.view.loc (c.tc : Thread nD τ))} {fd : Buf Val (dst.view.loc (d.tc : Thread nD τ))}
    (hN : dst.view.amount sem = P.amt kR) (hN' : P.amt kS = P.amt kR)
    (hpay₁ : (src.view.loc (c.tc : Thread nD τ) ↦[src.view.set]{q} fs) ⊢ P.pay c kS)
    (D : Finset (Idx (dst.view.loc (d.tc : Thread nD τ)))) (hD : dst.view.set = D) (G : Buf Val (dst.view.loc (d.tc : Thread nD τ)))
    (hG : ∀ x, src.view.read Val fs x = dst.view.read Val G x)
    (hpay₂ : (dst.view.loc (d.tc : Thread nD τ) ↦[D]{fullShare} G) ⊢ P.pay d kR)
    (hr : τ.routes (c.tc : Thread nD τ) (d.tc : Thread nD τ) = true) {W : Waits sig Unit} {Q : α → sProp 𝕄} :
    iprop(P.records κ ∗ (src.view.loc (c.tc : Thread nD τ) ↦[src.view.set]{q} fs) ∗ (dst.view.loc (d.tc : Thread nD τ) ↦[D]{fullShare} fd)
        ∗ owes (c.tc : Thread nD τ) (P.debt s c) W ∗ P.right c kS ∗ P.right c kR)
      ⊢ iprop(((P.sure c kS ∗ owes (c.tc : Thread nD τ) (P.debt (s.erase kR) c) W) -∗ wp frame (wpE defs 𝒱 (c.tc : Thread nD τ) none) Set.univ (k ⟨⟩) Q)
          -∗ wp frame (wpE defs 𝒱 (c.tc : Thread nD τ) none) Set.univ (.op (.enqueueDma src (.remote (d.tc : Thread nD τ) dst sS hsc) sem hsrc hdst hsem) k) Q) := by
  subst hD
  exact P.send 𝒱 κ c d kS kR hS hR hs hsS hsem' hN hN' hpay₁ ((Entails.of_eq (landed src.view dst.view fullShare fs fd G hG)).trans hpay₂) hr

/-- A copy inside the device into its zone `D`, which leaves `G` there. -/
theorem copy_to (κ : GSem nD τ sig → ℕ) (c : Dev nD) (kL : Fin P.K) (hL : P.tgt kL c = c) {sp sp' : Space} {sh : Shape} {e : EltTy}
    {src : Memref sig ((c.tc : Thread nD τ)).2.kind sp sh e} {dst : Memref sig ((c.tc : Thread nD τ)).2.kind sp' sh e}
    {sem : SemLoc sig} (hsem' : P.sem kL = sem)
    {hsrc : src.view.WordExact} {hdst : dst.view.WordExact} {hsem : DmaTarget.Typed (nD := nD) sp sem (.here dst)}
    {α : Type} {k : PUnit → Prog (TpuEff nD τ sig Val Λ ((c.tc : Thread nD τ)).2) α} {q : PosShare TreeShare}
    {fs : Buf Val (src.view.loc (c.tc : Thread nD τ))} {fd : Buf Val (dst.view.loc (c.tc : Thread nD τ))}
    (hN : dst.view.amount sem = P.amt kL)
    (D : Finset (Idx (dst.view.loc (c.tc : Thread nD τ)))) (hD : dst.view.set = D) (G : Buf Val (dst.view.loc (c.tc : Thread nD τ)))
    (hG : ∀ x, src.view.read Val fs x = dst.view.read Val G x)
    (hpay : (dst.view.loc (c.tc : Thread nD τ) ↦[D]{fullShare} G) ⊢ P.pay c kL) {Q : α → sProp 𝕄} :
    iprop(P.records κ ∗ (src.view.loc (c.tc : Thread nD τ) ↦[src.view.set]{q} fs) ∗ (dst.view.loc (c.tc : Thread nD τ) ↦[D]{fullShare} fd)
        ∗ P.right c kL)
      ⊢ iprop((P.sure c kL -∗ wp frame (wpE defs 𝒱 (c.tc : Thread nD τ) none) Set.univ (k ⟨⟩) Q)
          -∗ wp frame (wpE defs 𝒱 (c.tc : Thread nD τ) none) Set.univ (.op (.enqueueDma src (.here dst) sem hsrc hdst hsem) k) Q) := by
  subst hD
  refine P.copy 𝒱 κ c kL hL hsem' hN ?_
  rw [landed src.view dst.view fullShare fs fd G hG]
  iintro ⟨H, -⟩
  iapply hpay
  iexact H

end Plan

/-- The zones of all devices, each dealt to the device that is to write it. -/
theorem dealt {T : Type} [Fintype T] [DecidableEq T] (E : T → Dev nD ≃ Dev nD) (Φ : Dev nD → T → sProp 𝕄) :
    (bigSep Finset.univ fun c : Dev nD => bigSep Finset.univ fun t : T => Φ c t)
      = bigSep Finset.univ fun c : Dev nD => bigSep Finset.univ fun t : T => Φ (E t c) t := by
  have h (s : Finset T) : (bigSep Finset.univ fun c : Dev nD => bigSep s fun t : T => Φ c t) = bigSep Finset.univ fun c : Dev nD => bigSep s fun t : T => Φ (E t c) t := by
    induction s using Finset.induction_on with
    | empty => simp only [bigSep_empty]
    | insert a s ha ih =>
      have e1 : (fun c : Dev nD => bigSep (insert a s) fun t : T => Φ c t) = fun c => iprop(Φ c a ∗ bigSep s fun t : T => Φ c t) := funext fun c => bigSep_insert ha
      have e2 : (fun c : Dev nD => bigSep (insert a s) fun t : T => Φ (E t c) t) = fun c => iprop(Φ (E a c) a ∗ bigSep s fun t : T => Φ (E t c) t) :=
        funext fun c => bigSep_insert ha
      rw [e1, e2]
      refine (bigSep_sep' _ _ _).trans (Eq.trans ?_ (bigSep_sep' _ _ _).symm)
      rw [ih, bigSep_univ_equiv (E a) fun c => Φ c a]
  exact h Finset.univ

end Exchange

end
-- ==== Proof.Gather.Run.lean ====
/-
  The gathering of the weights (`gather_weights`): each device copies its own rows in place, sends one half of them to the same core of every
  other chip, and passes what it receives on to its sibling, from whom it receives the other halves. Its plan has thirteen cells: six
  departures, six arrivals, and the copy inside the device.
-/
module

public import proofs.«01_k».proof.Proof.Zones
public import proofs.«01_k».proof.Proof.Gen.GatherIdeal.Points
public import proofs.«01_k».proof.Proof.Gen.GatherIdeal.Launch
public import proofs.«01_k».proof.Proof.Gen.GatherIdeal.Skeleton

@[expose] public section

noncomputable section

namespace Exchange.Gather

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.GatherIdeal Cert.GatherIdeal.Gen

variable {F : FTy → Type} [FloatOps F]

local notation "𝕄" => MT nD τ sig Unit (Elt F) ℕ (UR sig nD τ) ℕ

/-! ## The devices and the zones of the output -/

def chip (d : Dev nD) : Fin 4 := ⟨d.val / 2, by have : d.val < 8 := d.isLt; omega⟩
def core (d : Dev nD) : Fin 2 := ⟨d.val % 2, by omega⟩

/-- The same core of the chip across the first axis, across the second, across both; and the other core of the chip. -/
def near₁ (c : Dev nD) : Dev nD := ⟨k0_dev1 c, k0_dev1_lt c⟩
def near₂ (c : Dev nD) : Dev nD := ⟨k0_dev2 c, k0_dev2_lt c⟩
def near₃ (c : Dev nD) : Dev nD := ⟨k0_dev3 c, k0_dev3_lt c⟩
def sib (c : Dev nD) : Dev nD := ⟨k0_dev4 c, k0_dev4_lt c⟩

def near₁E : Dev nD ≃ Dev nD := ⟨near₁, near₁, by unfold Function.LeftInverse; decide +kernel, by unfold Function.RightInverse Function.LeftInverse; decide +kernel⟩
def near₂E : Dev nD ≃ Dev nD := ⟨near₂, near₂, by unfold Function.LeftInverse; decide +kernel, by unfold Function.RightInverse Function.LeftInverse; decide +kernel⟩
def near₃E : Dev nD ≃ Dev nD := ⟨near₃, near₃, by unfold Function.LeftInverse; decide +kernel, by unfold Function.RightInverse Function.LeftInverse; decide +kernel⟩
def sibE : Dev nD ≃ Dev nD := ⟨sib, sib, by unfold Function.LeftInverse; decide +kernel, by unfold Function.RightInverse Function.LeftInverse; decide +kernel⟩

/-- An entry's chip, and the half of the chip's rows that it is in. -/
def key (i : S4x12288x1024.Idx) : Fin 4 × Fin 2 := (i 0, ⟨(i 1).val / 6144, by have : (i 1).val < 12288 := (i 1).isLt; omega⟩)

theorem key_eq (i : S4x12288x1024.Idx) (p : Fin 4) (h : Fin 2) : key i = (p, h) ↔ (i 0).val = p.val ∧ (i 1).val / 6144 = h.val :=
  ⟨fun e => ⟨congrArg (fun k => k.1.val) e, congrArg (fun k => k.2.val) e⟩, fun e => Prod.ext (Fin.ext e.1) (Fin.ext e.2)⟩

/-- Zone `t` of device `d`: the halves from the same core of the three other chips, the halves from the sibling, the own rows. -/
def zones (d : Dev nD) : Fin 7 → Finset (Fin 4 × Fin 2) :=
  ![{(chip (near₁ d), core d)}, {(chip (near₂ d), core d)}, {(chip (near₃ d), core d)},
    {(chip (near₁ d), core (sib d))}, {(chip (near₂ d), core (sib d))}, {(chip (near₃ d), core (sib d))}, {(chip d, 0), (chip d, 1)}]

theorem zones_apart (d : Dev nD) : ∀ k t t', k ∈ zones d t → k ∈ zones d t' → t = t' := by revert d; decide +kernel
theorem zones_all (d : Dev nD) : ∀ k, ∃ t, k ∈ zones d t := by revert d; decide +kernel

/-- The device that writes zone `t`, for each device written. -/
def into : Fin 7 → Dev nD ≃ Dev nD := ![near₁E, near₂E, near₃E, sibE, sibE, sibE, Equiv.refl _]

/-! ## The windows -/

/-- The window of the output at `off`, half a chip's rows. -/
abbrev win (off : Fin 3 → ℕ) (inb : ∀ a, off a + S1x6144x1024.size a ≤ S4x12288x1024.size a) : Memref sig .tc .hbm S6144x1024 .bf16 :=
  ((Memref.whole main_v1).slice (Rect.unit (s := S4x12288x1024) off S1x6144x1024.size inb) (fun _ => rfl)).squeeze S6144x1024 squeezes_S1x6144x1024_S6144x1024

/-- The window of the output where device `c` puts its own rows. -/
abbrev slot (c : Dev nD) : Memref sig .tc .hbm S12288x1024 .bf16 :=
  ((Memref.whole main_v1).slice (Rect.unit (s := S4x12288x1024) (k0_off1 c) S1x12288x1024.size (k0_off1_inb c)) (fun _ => rfl)).squeeze S12288x1024 squeezes_S1x12288x1024_S12288x1024

/-- The half of its rows that device `c` sends. -/
abbrev half (c : Dev nD) : Memref sig .tc .hbm S6144x1024 .bf16 :=
  (Memref.whole main_arg0).slice (Rect.unit (s := S12288x1024) (k0_off3 c) S6144x1024.size (k0_off3_inb c)) (fun _ => rfl)

theorem win_set (off : Fin 3 → ℕ) (inb : ∀ a, off a + S1x6144x1024.size a ≤ S4x12288x1024.size a) (p : Fin 4) (h : Fin 2) (ho : off = ![p.val, 6144 * h.val, 0]) :
    (win off inb).view.set = zone key {(p, h)} := by
  ext i
  have hi : (i 1).val < 12288 := (i 1).isLt
  rw [View.set_reshape, View.set_slice_whole, mem_zone, Finset.mem_singleton]
  refine (mem_box ho i).trans (Iff.trans ?_ (key_eq i p h).symm)
  omega

theorem slot_set (c : Dev nD) : (slot c).view.set = zone key {(chip c, 0), (chip c, 1)} := by
  ext i
  have hi : (i 1).val < 12288 := (i 1).isLt
  rw [View.set_reshape, View.set_slice_whole, mem_zone, Finset.mem_insert, Finset.mem_singleton]
  refine (mem_box (p := (chip c).val) (q := 0) ((k0_off1_eq c).trans (congrArg (fun a => ![a, 0, 0]) (show _ = c.val / 2 by have : c.val < 8 := c.isLt; omega))) i).trans ?_
  refine Iff.trans ?_ (or_congr (key_eq i (chip c) 0) (key_eq i (chip c) 1)).symm
  show _ ↔ (i 0).val = (chip c).val ∧ (i 1).val / 6144 = 0 ∨ (i 0).val = (chip c).val ∧ (i 1).val / 6144 = 1
  omega

/-! ## What the output ends with -/

variable (m : (ℓ : Loc nD τ sig) → Buf (Elt F) ℓ)

/-- The rows that device `d` starts with. -/
def rows (d : Dev nD) : S12288x1024.Idx → Elt F .bf16 := m ((d.tc : Thread nD τ).loc main_arg0)

/-- From which device an entry of device `c`'s output comes. -/
def origin (c : Dev nD) (i : S4x12288x1024.Idx) : Dev nD :=
  if (key i).1 = chip c then c else ⟨2 * (key i).1.val + (key i).2.val, by have := (key i).1.isLt; have := (key i).2.isLt; show _ < 8; omega⟩

/-- The output of device `c`. -/
def final (c : Dev nD) : S4x12288x1024.Idx → Elt F .bf16 := fun i => rows m (origin c i) (ix2 (i 1) (i 2))

theorem final_own (c : Dev nD) (i : S4x12288x1024.Idx) (h : (key i).1 = chip c) : final m c i = rows m c (ix2 (i 1) (i 2)) := by
  unfold final origin
  rw [if_pos h]

theorem final_sent (c d : Dev nD) (i : S4x12288x1024.Idx) (h : key i = (chip c, core c)) (hd : chip c ≠ chip d) : final m d i = rows m c (ix2 (i 1) (i 2)) := by
  unfold final origin
  have h0 : (key i).1 = chip c := congrArg Prod.fst h
  have h1 : (key i).2 = core c := congrArg Prod.snd h
  rw [if_neg (h0 ▸ hd)]
  refine congrArg (fun o => rows m o _) (Fin.ext ?_)
  show 2 * (key i).1.val + (key i).2.val = c.val
  rw [h0, h1]
  show 2 * (c.val / 2) + c.val % 2 = c.val
  omega

theorem final_passed (c d : Dev nD) (i : S4x12288x1024.Idx) (h : chip c = chip d) (hi : (key i).1 ≠ chip c) : final m c i = final m d i := by
  unfold final origin
  rw [if_neg hi, if_neg (h ▸ hi)]

/-- Zone `A` of device `d`'s output, with contents `f`. -/
def holds (d : Dev nD) (q : PosShare TreeShare) (A : Finset (Fin 4 × Fin 2)) (f : S4x12288x1024.Idx → Elt F .bf16) : sProp 𝕄 :=
  ((d.tc : Thread nD τ).loc main_v1) ↦[zone key A]{q} f

instance holds_storable (d : Dev nD) (q : PosShare TreeShare) (A : Finset (Fin 4 × Fin 2)) (f : S4x12288x1024.Idx → Elt F .bf16) :
    BI.Storable (upEmb : UEmb _ (MT nD τ sig Unit (Elt F) ℕ (UR sig nD τ) ℕ)) (holds (F := F) d q A f) := by unfold holds; infer_instance

/-! ## The plan -/

/-- Semaphore `k` of an array of six. -/
abbrev semAt (a : DmaSems sig S6) (k : ℕ) (h : ∀ x, ![k] x + S1.size x ≤ S6.size x) : SemLoc sig :=
  .dma ((a.slice (Rect.unit (s := S6) ![k] S1.size h)).squeeze S_ squeezes_S1_S_).sem

/-- The arrivals: cells 6 to 11. -/
abbrev arrs : Finset (Fin 13) := {6, 7, 8, 9, 10, 11}

/-- The order in which the cells are waited for. -/
def lvls : Fin 13 → ℕ := ![0, 0, 0, 0, 0, 0, 0, 0, 0, 1, 1, 1, 0]

/-- The plan: cells 0 to 5 count the departures, cells 6 to 11 the arrivals in the zones 0 to 5, cell 12 the own copy. What comes from
    another chip is waited for before what the sibling passes on. -/
def plan : Plan nD τ sig (Elt F) where
  K := 13
  sem := ![semAt cc0_scratch0 0 inb_S6_S1_0, semAt cc0_scratch0 1 inb_S6_S1_1, semAt cc0_scratch0 2 inb_S6_S1_2,
    semAt cc0_scratch0 3 inb_S6_S1_3, semAt cc0_scratch0 4 inb_S6_S1_4, semAt cc0_scratch0 5 inb_S6_S1_5,
    semAt cc0_scratch1 0 inb_S6_S1_0, semAt cc0_scratch1 1 inb_S6_S1_1, semAt cc0_scratch1 2 inb_S6_S1_2,
    semAt cc0_scratch1 3 inb_S6_S1_3, semAt cc0_scratch1 4 inb_S6_S1_4, semAt cc0_scratch1 5 inb_S6_S1_5, .dma cc0_scratch2.sem]
  inj := by decide +kernel
  sems_scoped := by decide +kernel
  amt k := if k = 12 then (slot 0).view.dmaCredit else (half 0).view.dmaCredit
  amt_pos k := by
    split
    · exact View.dmaCredit_pos _ (by decide +kernel)
    · exact View.dmaCredit_pos _ (by decide +kernel)
  tgt := ![Equiv.refl _, Equiv.refl _, Equiv.refl _, Equiv.refl _, Equiv.refl _, Equiv.refl _, near₁E, near₂E, near₃E, sibE, sibE, sibE, Equiv.refl _]
  arr := arrs
  lvl := lvls
  pay c k := if h : k.val < 6 then iprop(emp) else holds c fullShare (zones c ⟨k.val - 6, by omega⟩) (final m c)
  storable c k := by split <;> infer_instance

/-- The rows of device `c`, at the share `q`. -/
def keeps (c : Dev nD) (q : PosShare TreeShare) : sProp 𝕄 := ((c.tc : Thread nD τ).loc main_arg0) ↦{q} m ((c.tc : Thread nD τ).loc main_arg0)

/-- The memory that device `c` works with: its rows, and the zones that it writes. -/
def mem (c : Dev nD) : sProp 𝕄 :=
  iprop(keeps m c fullShare ∗ bigSep Finset.univ fun t => holds (into t c) fullShare (zones (into t c) t) (m (((into t c).tc : Thread nD τ).loc main_v1)))

/-- What it ends with: its rows as they were, and its output. -/
def res (c : Dev nD) : sProp 𝕄 :=
  iprop(keeps m c fullShare.left ∗ (((c.tc : Thread nD τ).loc main_v1) ↦{fullShare.left} final m c))

theorem cut (d : Dev nD) (q : PosShare TreeShare) (f : S4x12288x1024.Idx → Elt F .bf16) :
    (((d.tc : Thread nD τ).loc main_v1) ↦{q} f : sProp 𝕄) = bigSep Finset.univ fun t => holds d q (zones d t) f :=
  zone_cut (ℓ := (d.tc : Thread nD τ).loc main_v1) key (zones d) (zones_apart d) (zones_all d) q f

theorem mem_dealt : (bigSep Finset.univ fun c : Dev nD => (unscopedBufs c (fun b => m ((c.tc : Thread nD τ).loc b)) : sProp 𝕄))
    ⊢ bigSep Finset.univ (mem m) := by
  have h1 (c : Dev nD) : (unscopedBufs c (fun b => m ((c.tc : Thread nD τ).loc b)) : sProp 𝕄)
      ⊢ iprop(keeps m c fullShare ∗ bigSep Finset.univ fun t => holds c fullShare (zones c t) (m ((c.tc : Thread nD τ).loc main_v1))) := by
    unfold unscopedBufs
    rw [bigSep_eq_bigSepL_of_eq [main_arg0, main_v1] (by decide) (by decide) _, ← cut]
    exact .rfl
  have h2 := dealt into fun (c : Dev nD) t => (holds c fullShare (zones c t) (m ((c.tc : Thread nD τ).loc main_v1)) : sProp 𝕄)
  refine (bigSep_mono fun c _ => h1 c).trans ?_
  unfold mem
  refine (Entails.of_eq (bigSep_sep' _ _ _)).trans (BIBase.Entails.trans ?_ (Entails.of_eq (bigSep_sep' _ _ _).symm))
  rw [h2]

/-- The shares of its rows that a device lends: one is kept. -/
theorem lend (c : Dev nD) : (keeps m c fullShare : sProp 𝕄) ⊢ iprop(keeps m c fullShare.left ∗ keeps m c fullShare.right.left ∗ keeps m c fullShare.right.right.left
    ∗ keeps m c fullShare.right.right.right.left ∗ keeps m c fullShare.right.right.right.right) := by
  have h (q : PosShare TreeShare) : (keeps m c q : sProp 𝕄) ⊢ iprop(keeps m c q.left ∗ keeps m c q.right) := halves _ q _
  iintro H
  ihave H := (h _) $$ H
  icases H with ⟨H0, H⟩
  ihave H := (h _) $$ H
  icases H with ⟨H1, H⟩
  ihave H := (h _) $$ H
  icases H with ⟨H2, H⟩
  ihave H := (h _) $$ H
  icases H with ⟨H3, H⟩
  isplitl [H0]; · iexact H0
  isplitl [H1]; · iexact H1
  isplitl [H2]; · iexact H2
  isplitl [H3] <;> iassumption

/-! ## What each copy does -/

theorem chip_val (c : Dev nD) : 2 * (c.val / 4) + (c.val / 2) % 2 = (chip c).val := by
  have : c.val < 8 := c.isLt
  show _ = c.val / 2
  omega

theorem off₂ (c : Dev nD) : k0_off2 c = ![(chip c).val, 6144 * (core c).val, 0] := by revert c; decide +kernel
theorem off₄ (c : Dev nD) : k0_off4 c = ![(chip (near₁ c)).val, 6144 * (core c).val, 0] := by revert c; decide +kernel
theorem off₅ (c : Dev nD) : k0_off5 c = ![(chip (near₂ c)).val, 6144 * (core c).val, 0] := by revert c; decide +kernel
theorem off₆ (c : Dev nD) : k0_off6 c = ![(chip (near₃ c)).val, 6144 * (core c).val, 0] := by revert c; decide +kernel

/-- What lands in another chip's output is what `final` says. -/
theorem first_lands (c d : Dev nD) (hd : chip c ≠ chip d) (x : S6144x1024.Idx) :
    (half c).view.read (Elt F) (m ((c.tc : Thread nD τ).loc main_arg0)) x = (win (k0_off2 c) (k0_off2_inb c)).view.read (Elt F) (final m d) x := by
  obtain ⟨r, l, rfl⟩ : ∃ (r : Fin 6144) (l : Fin 1024), x = ix2 r l := ⟨x 0, x 1, eq_ix2 x⟩
  have hc : c.val % 2 < 2 := Nat.mod_lt _ Nat.zero_lt_two
  have hr : r.val < 6144 := r.isLt
  have e1 : (win (k0_off2 c) (k0_off2_inb c)).view.emb (ix2 r l) = ix3 (chip c) (⟨6144 * (c.val % 2) + r.val, by omega⟩ : Fin 12288) l :=
    box_emb (off₂ c) _ r l (chip c) (⟨6144 * (c.val % 2) + r.val, by omega⟩ : Fin 12288) rfl rfl
  have e2 : (half c).view.emb (ix2 r l) = ix2 (⟨6144 * (c.val % 2) + r.val, by omega⟩ : Fin 12288) l := by
    have he : ∀ a, (((half c).view.emb (ix2 r l)) a).val = k0_off3 c a + (ix2 r l a).val := fun a => by
      show k0_off3 c a + 1 * _ = _
      rw [Nat.one_mul]
    funext a
    refine Fin.ext ((he a).trans ?_)
    rw [k0_off3_eq c]
    match a with
    | ⟨0, _⟩ => rfl
    | ⟨1, _⟩ => exact Nat.zero_add _
  show m ((c.tc : Thread nD τ).loc main_arg0) ((half c).view.emb (ix2 r l)) = final m d ((win (k0_off2 c) (k0_off2_inb c)).view.emb (ix2 r l))
  rw [e1, e2]
  refine (final_sent m c d (ix3 (chip c) (⟨6144 * (c.val % 2) + r.val, by omega⟩ : Fin 12288) l) ((key_eq _ _ _).mpr ⟨rfl, ?_⟩) hd).symm
  show (6144 * (c.val % 2) + r.val) / 6144 = c.val % 2
  omega

/-- What a device passes on is what its sibling's `final` says. -/
theorem passed_lands (c d : Dev nD) (h : chip c = chip d) (off : Fin 3 → ℕ) (inb : ∀ a, off a + S1x6144x1024.size a ≤ S4x12288x1024.size a) (p : Fin 4)
    (ho : off = ![p.val, 6144 * (core c).val, 0]) (hp : p ≠ chip c) (x : S6144x1024.Idx) :
    (win off inb).view.read (Elt F) (final m c) x = (win off inb).view.read (Elt F) (final m d) x := by
  have hx := (win off inb).view.emb_mem_set x
  rw [win_set off inb p (core c) ho, mem_zone, Finset.mem_singleton] at hx
  exact final_passed m c d _ h fun e => hp ((congrArg Prod.fst hx).symm.trans e)

/-- What a device copies in place is what its own `final` says. -/
theorem own_lands (c : Dev nD) (x : S12288x1024.Idx) :
    (Memref.whole main_arg0 : Memref sig .tc .hbm S12288x1024 .bf16).view.read (Elt F) (m ((c.tc : Thread nD τ).loc main_arg0)) x
      = (slot c).view.read (Elt F) (final m c) x := by
  obtain ⟨r, l, rfl⟩ : ∃ (r : Fin 12288) (l : Fin 1024), x = ix2 r l := ⟨x 0, x 1, eq_ix2 x⟩
  have e1 : (slot c).view.emb (ix2 r l) = ix3 (chip c) r l :=
    box_emb ((k0_off1_eq c).trans (congrArg (fun a => ![a, 0, 0]) (chip_val c))) _ r l _ _ rfl (Nat.zero_add _).symm
  show m ((c.tc : Thread nD τ).loc main_arg0) (ix2 r l) = final m c ((slot c).view.emb (ix2 r l))
  rw [e1]
  exact (final_own m c (ix3 (chip c) r l) rfl).symm

theorem sib₅ (c : Dev nD) : (⟨k0_dev5 c, k0_dev5_lt c⟩ : Dev nD) = sib c := by revert c; decide +kernel
theorem sib₆ (c : Dev nD) : (⟨k0_dev6 c, k0_dev6_lt c⟩ : Dev nD) = sib c := by revert c; decide +kernel

/-! ## The steps -/

/-- Sending half of the own rows to the same core of another chip. -/
theorem send_first (𝒱 : Variants) (κ : GSem nD τ sig → ℕ) (c d : Dev nD) (kS kR : Fin 13) (t : Fin 7) (hS : (plan m).tgt kS c = c) (hR : (plan m).tgt kR c = d)
    {s : Finset (Fin 13)} (hs : kR ∈ s) {hsc : (win (k0_off2 c) (k0_off2_inb c)).view.ref.isScScratch = false}
    {sS sem : SemLoc sig} (hsS : (plan m).sem kS = sS) (hsem' : (plan m).sem kR = sem)
    {hsrc : (half c).view.WordExact} {hdst : (win (k0_off2 c) (k0_off2_inb c)).view.WordExact} {hsem : DmaTarget.Typed .hbm sem (.remote (d.tc : Thread nD τ) (win (k0_off2 c) (k0_off2_inb c)) sS hsc)}
    {k : PUnit → Prog (TpuEff nD τ sig (Elt F) Λ₀ .tc) PUnit} {q : PosShare TreeShare} {fd : S4x12288x1024.Idx → Elt F .bf16}
    (hN : (win (k0_off2 c) (k0_off2_inb c)).view.amount sem = (plan m).amt kR) (hN' : (plan m).amt kS = (plan m).amt kR)
    (hp : (plan m).pay c kS = iprop(emp)) (hp' : (plan m).pay d kR = holds d fullShare (zones d t) (final m d))
    (hz : zones d t = {(chip c, core c)}) (hd : chip c ≠ chip d) (hr : τ.routes (c.tc : Thread nD τ) (d.tc : Thread nD τ) = true) {W : Waits sig Unit} {Q : PUnit → sProp 𝕄} :
    iprop((plan m).records κ ∗ keeps m c q ∗ holds d fullShare (zones d t) fd ∗ owes (c.tc : Thread nD τ) ((plan m).debt s c) W ∗ (plan m).right c kS ∗ (plan m).right c kR)
      ⊢ iprop((((plan m).sure c kS ∗ owes (c.tc : Thread nD τ) ((plan m).debt (s.erase kR) c) W) -∗ wp frame (wpE defs₀ 𝒱 (c.tc : Thread nD τ) none) Set.univ (k ⟨⟩) Q)
          -∗ wp frame (wpE defs₀ 𝒱 (c.tc : Thread nD τ) none) Set.univ (.op (.enqueueDma (half c) (.remote (d.tc : Thread nD τ) (win (k0_off2 c) (k0_off2_inb c)) sS hsc) sem hsrc hdst hsem) k) Q) := by
  have h := (plan m).send_to (k := k) (defs := defs₀ (F := F)) 𝒱 κ c d kS kR hS hR hs (src := half c) (dst := win (k0_off2 c) (k0_off2_inb c)) (hsc := hsc) (sS := sS) (sem := sem) hsS hsem'
    (hsrc := hsrc) (hdst := hdst) (hsem := hsem) (q := q) (fs := m ((c.tc : Thread nD τ).loc main_arg0)) (fd := fd) hN hN'
    (by rw [hp]; exact let_go _) (zone key (zones d t)) (by rw [hz]; exact win_set _ _ _ _ (off₂ c)) (final m d) (first_lands m c d hd)
    (by rw [hp']; exact .rfl) hr (W := W) (Q := Q)
  refine BIBase.Entails.trans ?_ h
  have hk : (keeps m c q : sProp 𝕄) ⊢ ((half c).view.loc (c.tc : Thread nD τ) ↦[(half c).view.set]{q} (m ((c.tc : Thread nD τ).loc main_arg0))) := part _ q _
  have ho : (holds d fullShare (zones d t) fd : sProp 𝕄) ⊢ ((win (k0_off2 c) (k0_off2_inb c)).view.loc (d.tc : Thread nD τ) ↦[zone key (zones d t)]{fullShare} fd) := .rfl
  iintro ⟨Hrec, Hk, Ho, H⟩
  isplitl [Hrec]; · iexact Hrec
  isplitl [Hk]; · iapply hk; iexact Hk
  isplitl [Ho]; · iapply ho; iexact Ho
  iexact H

/-- Passing on to the sibling what another chip sent. -/
theorem send_passed (𝒱 : Variants) (κ : GSem nD τ sig → ℕ) (c d : Dev nD) (hd : d = sib c) (kS kR : Fin 13) (t t' : Fin 7) (hS : (plan m).tgt kS c = c) (hR : (plan m).tgt kR c = sib c)
    {s : Finset (Fin 13)} (hs : kR ∈ s) (off : Fin 3 → ℕ) (inb : ∀ a, off a + S1x6144x1024.size a ≤ S4x12288x1024.size a) (p : Fin 4)
    (hoff : off = ![p.val, 6144 * (core c).val, 0]) (hpc : p ≠ chip c) {hsc : (win off inb).view.ref.isScScratch = false}
    {sS sem : SemLoc sig} (hsS : (plan m).sem kS = sS) (hsem' : (plan m).sem kR = sem)
    {hsrc hdst : (win off inb).view.WordExact} {hsem : DmaTarget.Typed .hbm sem (.remote (d.tc : Thread nD τ) (win off inb) sS hsc)}
    {k : PUnit → Prog (TpuEff nD τ sig (Elt F) Λ₀ .tc) PUnit} {q : PosShare TreeShare} {fd : S4x12288x1024.Idx → Elt F .bf16}
    (hN : (win off inb).view.amount sem = (plan m).amt kR) (hN' : (plan m).amt kS = (plan m).amt kR)
    (hp : (plan m).pay c kS = iprop(emp)) (hp' : (plan m).pay (sib c) kR = holds (sib c) fullShare (zones (sib c) t') (final m (sib c)))
    (hz : zones c t = {(p, core c)}) (hz' : zones (sib c) t' = {(p, core c)}) {W : Waits sig Unit} {Q : PUnit → sProp 𝕄} :
    iprop((plan m).records κ ∗ holds c q (zones c t) (final m c) ∗ holds (sib c) fullShare (zones (sib c) t') fd ∗ owes (c.tc : Thread nD τ) ((plan m).debt s c) W ∗ (plan m).right c kS ∗ (plan m).right c kR)
      ⊢ iprop((((plan m).sure c kS ∗ owes (c.tc : Thread nD τ) ((plan m).debt (s.erase kR) c) W) -∗ wp frame (wpE defs₀ 𝒱 (c.tc : Thread nD τ) none) Set.univ (k ⟨⟩) Q)
          -∗ wp frame (wpE defs₀ 𝒱 (c.tc : Thread nD τ) none) Set.univ (.op (.enqueueDma (win off inb) (.remote (d.tc : Thread nD τ) (win off inb) sS hsc) sem hsrc hdst hsem) k) Q) := by
  subst hd
  have hset := win_set off inb p (core c) hoff
  have hchip : chip c = chip (sib c) := (by decide +kernel : ∀ c, chip c = chip (sib c)) c
  have hr : τ.routes (c.tc : Thread nD τ) ((sib c).tc : Thread nD τ) = true := by routes
  have h := (plan m).send_to (k := k) (defs := defs₀ (F := F)) 𝒱 κ c (sib c) kS kR hS hR hs (src := win off inb) (dst := win off inb) (hsc := hsc) (sS := sS) (sem := sem) hsS hsem'
    (hsrc := hsrc) (hdst := hdst) (hsem := hsem) (q := q) (fs := final m c) (fd := fd) hN hN'
    (by rw [hp]; exact let_go _) (zone key (zones (sib c) t')) (by rw [hz']; exact hset) (final m (sib c)) (passed_lands m c (sib c) hchip off inb p hoff hpc)
    (by rw [hp']; exact .rfl) hr (W := W) (Q := Q)
  refine BIBase.Entails.trans ?_ h
  have hk : (holds c q (zones c t) (final m c) : sProp 𝕄) ⊢ ((win off inb).view.loc (c.tc : Thread nD τ) ↦[(win off inb).view.set]{q} (final m c)) := by
    rw [hz, hset]; exact .rfl
  have ho : (holds (sib c) fullShare (zones (sib c) t') fd : sProp 𝕄) ⊢ ((win off inb).view.loc ((sib c).tc : Thread nD τ) ↦[zone key (zones (sib c) t')]{fullShare} fd) := .rfl
  iintro ⟨Hrec, Hk, Ho, H⟩
  isplitl [Hrec]; · iexact Hrec
  isplitl [Hk]; · iapply hk; iexact Hk
  isplitl [Ho]; · iapply ho; iexact Ho
  iexact H

/-- The copy of the own rows. -/
theorem copy_own (𝒱 : Variants) (κ : GSem nD τ sig → ℕ) (c : Dev nD) {sem : SemLoc sig} (hsem' : (plan m).sem (12 : Fin 13) = sem)
    {hsrc : (Memref.whole main_arg0 : Memref sig .tc .hbm S12288x1024 .bf16).view.WordExact} {hdst : (slot c).view.WordExact} {hsem : DmaTarget.Typed (nD := nD) (τ := τ) (p := .tc) .hbm sem (.here (slot c))}
    {k : PUnit → Prog (TpuEff nD τ sig (Elt F) Λ₀ .tc) PUnit} {q : PosShare TreeShare} {fd : S4x12288x1024.Idx → Elt F .bf16}
    (hN : (slot c).view.amount sem = (plan m).amt (12 : Fin 13)) (hp' : (plan m).pay c (12 : Fin 13) = holds c fullShare (zones c 6) (final m c)) {Q : PUnit → sProp 𝕄} :
    iprop((plan m).records κ ∗ keeps m c q ∗ holds c fullShare (zones c 6) fd ∗ (plan m).right c (12 : Fin 13))
      ⊢ iprop(((plan m).sure c (12 : Fin 13) -∗ wp frame (wpE defs₀ 𝒱 (c.tc : Thread nD τ) none) Set.univ (k ⟨⟩) Q)
          -∗ wp frame (wpE defs₀ 𝒱 (c.tc : Thread nD τ) none) Set.univ (.op (.enqueueDma (Memref.whole main_arg0 : Memref sig .tc .hbm S12288x1024 .bf16) (.here (slot c)) sem hsrc hdst hsem) k) Q) := by
  have h := (plan m).copy_to (k := k) (defs := defs₀ (F := F)) 𝒱 κ c (12 : Fin 13) rfl (src := Memref.whole main_arg0) (dst := slot c) (sem := sem) hsem'
    (hsrc := hsrc) (hdst := hdst) (hsem := hsem) (q := q) (fs := m ((c.tc : Thread nD τ).loc main_arg0)) (fd := fd) hN
    (zone key (zones c 6)) (slot_set c) (final m c) (own_lands m c) (by rw [hp']; exact .rfl) (Q := Q)
  refine BIBase.Entails.trans ?_ h
  have hk : (keeps m c q : sProp 𝕄) ⊢ ((Memref.whole main_arg0 : Memref sig .tc .hbm S12288x1024 .bf16).view.loc (c.tc : Thread nD τ) ↦[(Memref.whole main_arg0 : Memref sig .tc .hbm S12288x1024 .bf16).view.set]{q} (m ((c.tc : Thread nD τ).loc main_arg0))) := part _ q _
  have ho : (holds c fullShare (zones c 6) fd : sProp 𝕄) ⊢ ((slot c).view.loc (c.tc : Thread nD τ) ↦[zone key (zones c 6)]{fullShare} fd) := .rfl
  iintro ⟨Hrec, Hk, Ho, H⟩
  isplitl [Hrec]; · iexact Hrec
  isplitl [Hk]; · iapply hk; iexact Hk
  isplitl [Ho]; · iapply ho; iexact Ho
  iexact H

end Exchange.Gather

end
-- ==== Proof.Gather.Main.lean ====
/-
  The run of the gathering: every device's steps in order, and what the whole program ends with.
-/
module

public import proofs.«01_k».proof.Proof.Gather.Run

@[expose] public section

noncomputable section

namespace Exchange.Gather

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.GatherIdeal Cert.GatherIdeal.Gen

variable {F : FTy → Type} [FloatOps F]

local notation "𝕄" => MT nD τ sig Unit (Elt F) ℕ (UR sig nD τ) ℕ

variable (m : (ℓ : Loc nD τ sig) → Buf (Elt F) ℓ)

/-- What is left to arrive after the first, the second, … of the six sends. -/
def left₀ : Fin 7 → Finset (Fin 13) := ![arrs, {7, 8, 9, 10, 11}, {8, 9, 10, 11}, {9, 10, 11}, {10, 11}, {11}, ∅]

/-- One device's run: the own copy, three sends, and then what it receives, part of which it passes on. -/
theorem run (𝒱 : Variants) (c : Dev nD) (κ : GSem nD τ sig → ℕ) (W : Waits sig Unit) (K : sProp 𝕄) :
    iprop((plan m).records κ ∗ (plan m).start c ∗ mem m c ∗ owes (c.tc : Thread nD τ) ((plan m).debt (plan m).arr c) W
        ∗ ((res m c ∗ (bigSep Finset.univ fun k => (plan m).after c k) ∗ ∃ W', owes (c.tc : Thread nD τ) (0 : CellTallies nD τ sig Unit) W') -∗ |={Set.univ}=> K))
      ⊢ wp frame (wpE defs₀ 𝒱 (c.tc : Thread nD τ) none) Set.univ (bodyAt0 (F := F) t0_0) fun _ => K := by
  have e1 : (bigSep Finset.univ fun k => (plan m).before c k) = iprop((plan m).before c (0 : Fin 13) ∗ (plan m).before c (1 : Fin 13) ∗ (plan m).before c (2 : Fin 13) ∗ (plan m).before c (3 : Fin 13) ∗ (plan m).before c (4 : Fin 13) ∗ (plan m).before c (5 : Fin 13) ∗ (plan m).before c (6 : Fin 13) ∗ (plan m).before c (7 : Fin 13) ∗ (plan m).before c (8 : Fin 13) ∗ (plan m).before c (9 : Fin 13) ∗ (plan m).before c (10 : Fin 13) ∗ (plan m).before c (11 : Fin 13) ∗ (plan m).before c (12 : Fin 13)) :=
    bigSep_eq_bigSepL_of_eq (I := Fin 13) [0, 1, 2, 3, 4, 5, 6, 7, 8, 9, 10, 11, 12] (by decide : (Finset.univ : Finset (Fin 13)) = [0, 1, 2, 3, 4, 5, 6, 7, 8, 9, 10, 11, 12].toFinset) (by decide) _
  have e2 : (bigSep Finset.univ fun k => (plan m).right c k) = iprop((plan m).right c (0 : Fin 13) ∗ (plan m).right c (1 : Fin 13) ∗ (plan m).right c (2 : Fin 13) ∗ (plan m).right c (3 : Fin 13) ∗ (plan m).right c (4 : Fin 13) ∗ (plan m).right c (5 : Fin 13) ∗ (plan m).right c (6 : Fin 13) ∗ (plan m).right c (7 : Fin 13) ∗ (plan m).right c (8 : Fin 13) ∗ (plan m).right c (9 : Fin 13) ∗ (plan m).right c (10 : Fin 13) ∗ (plan m).right c (11 : Fin 13) ∗ (plan m).right c (12 : Fin 13)) :=
    bigSep_eq_bigSepL_of_eq (I := Fin 13) [0, 1, 2, 3, 4, 5, 6, 7, 8, 9, 10, 11, 12] (by decide : (Finset.univ : Finset (Fin 13)) = [0, 1, 2, 3, 4, 5, 6, 7, 8, 9, 10, 11, 12].toFinset) (by decide) _
  have e4 : (bigSep Finset.univ fun k => (plan m).after c k) = iprop((plan m).after c (0 : Fin 13) ∗ (plan m).after c (1 : Fin 13) ∗ (plan m).after c (2 : Fin 13) ∗ (plan m).after c (3 : Fin 13) ∗ (plan m).after c (4 : Fin 13) ∗ (plan m).after c (5 : Fin 13) ∗ (plan m).after c (6 : Fin 13) ∗ (plan m).after c (7 : Fin 13) ∗ (plan m).after c (8 : Fin 13) ∗ (plan m).after c (9 : Fin 13) ∗ (plan m).after c (10 : Fin 13) ∗ (plan m).after c (11 : Fin 13) ∗ (plan m).after c (12 : Fin 13)) :=
    bigSep_eq_bigSepL_of_eq (I := Fin 13) [0, 1, 2, 3, 4, 5, 6, 7, 8, 9, 10, 11, 12] (by decide : (Finset.univ : Finset (Fin 13)) = [0, 1, 2, 3, 4, 5, 6, 7, 8, 9, 10, 11, 12].toFinset) (by decide) _
  have e3 : (bigSep (plan m).arr fun k => (plan m).sure c k) = iprop((plan m).sure c (6 : Fin 13) ∗ (plan m).sure c (7 : Fin 13) ∗ (plan m).sure c (8 : Fin 13) ∗ (plan m).sure c (9 : Fin 13) ∗ (plan m).sure c (10 : Fin 13) ∗ (plan m).sure c (11 : Fin 13)) :=
    bigSep_eq_bigSepL_of_eq (I := Fin 13) [6, 7, 8, 9, 10, 11] (by decide : arrs = [6, 7, 8, 9, 10, 11].toFinset) (by decide) _
  have e5 : (bigSep Finset.univ fun t => holds (into t c) fullShare (zones (into t c) t) (m (((into t c).tc : Thread nD τ).loc main_v1)) : sProp 𝕄)
      = iprop(holds (near₁ c) fullShare (zones (near₁ c) 0) (m (((near₁ c).tc : Thread nD τ).loc main_v1)) ∗ holds (near₂ c) fullShare (zones (near₂ c) 1) (m (((near₂ c).tc : Thread nD τ).loc main_v1)) ∗ holds (near₃ c) fullShare (zones (near₃ c) 2) (m (((near₃ c).tc : Thread nD τ).loc main_v1)) ∗ holds (sib c) fullShare (zones (sib c) 3) (m (((sib c).tc : Thread nD τ).loc main_v1)) ∗ holds (sib c) fullShare (zones (sib c) 4) (m (((sib c).tc : Thread nD τ).loc main_v1)) ∗ holds (sib c) fullShare (zones (sib c) 5) (m (((sib c).tc : Thread nD τ).loc main_v1)) ∗ holds c fullShare (zones c 6) (m ((c.tc : Thread nD τ).loc main_v1))) :=
    bigSep_eq_bigSepL_of_eq (I := Fin 7) [0, 1, 2, 3, 4, 5, 6] (by decide) (by decide) _
  have e6 : (((c.tc : Thread nD τ).loc main_v1) ↦{fullShare.left} final m c : sProp 𝕄) = iprop(holds c fullShare.left (zones c 0) (final m c) ∗ holds c fullShare.left (zones c 1) (final m c) ∗ holds c fullShare.left (zones c 2) (final m c) ∗ holds c fullShare.left (zones c 3) (final m c) ∗ holds c fullShare.left (zones c 4) (final m c) ∗ holds c fullShare.left (zones c 5) (final m c) ∗ holds c fullShare.left (zones c 6) (final m c)) :=
    (cut c fullShare.left (final m c)).trans (bigSep_eq_bigSepL_of_eq (I := Fin 7) [0, 1, 2, 3, 4, 5, 6] (by decide) (by decide) _)
  have hz : (plan m).debt (left₀ 6) c = 0 := rfl
  have hcs : core (sib c) ≠ core c := (by decide +kernel : ∀ c, core (sib c) ≠ core c) c
  unfold Plan.start mem res bodyAt0
  rw [e1, e2, e3, e4, e5, e6, cc0_gather_weights_eq_skeleton]
  unfold cc0_gather_weights_skel
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  iintro ⟨#Hrec, ⟨⟨Hb0, Hb1, Hb2, Hb3, Hb4, Hb5, Hb6, Hb7, Hb8, Hb9, Hb10, Hb11, Hb12⟩, ⟨Hr0, Hr1, Hr2, Hr3, Hr4, Hr5, Hr6, Hr7, Hr8, Hr9, Hr10, Hr11, Hr12⟩, Hc6, Hc7, Hc8, Hc9, Hc10, Hc11⟩, ⟨Ha, Ho0, Ho1, Ho2, Ho3, Ho4, Ho5, Ho6⟩, HO, Hk⟩
  ihave Ha := (lend m c) $$ Ha
  icases Ha with ⟨Ha, Hl0, Hl1, Hl2, Hl3⟩
  iapply (copy_own m (k := _) 𝒱 κ c rfl rfl rfl) $$ [Hl3 Ho6 Hr12]
  · isplitr; · iexact Hrec
    isplitl [Hl3]; · iexact Hl3
    isplitl [Ho6] <;> iassumption
  iintro Hc12
  have hD0 : (plan m).debt ((left₀ 0).erase (6 : Fin 13)) c = (plan m).debt (left₀ 1) c := congrArg (fun s => (plan m).debt s c) (by decide : (left₀ 0).erase (6 : Fin 13) = left₀ 1)
  have hsend0 := fun k : PUnit → Prog (TpuEff nD τ sig (Elt F) Λ₀ .tc) PUnit => send_first m (k := k) 𝒱 κ c (near₁ c) (0 : Fin 13) (6 : Fin 13) 0 rfl rfl (s := left₀ 0) (by decide)
    (hsc := rfl) (sS := semAt cc0_scratch0 0 inb_S6_S1_0) (sem := semAt cc0_scratch1 0 inb_S6_S1_0) rfl rfl
    (hsrc := ((Memref.isWhole_whole main_arg0).wordExact_slice rfl _ (k0_off3_wordsbf16 c))) (hdst := ((Memref.isWhole_whole main_v1).wordExact_slice rfl _ (k0_off2_wordsbf16 c)).reshape _ _) (hsem := ⟨⟨rfl, Or.inl rfl⟩, trivial⟩)
    (q := fullShare.right.left) (fd := m (((near₁ c).tc : Thread nD τ).loc main_v1)) rfl rfl rfl rfl
    ((by decide +kernel : ∀ c, zones (near₁ c) 0 = {(chip c, core c)}) c) ((by decide +kernel : ∀ c, chip c ≠ chip (near₁ c)) c) (by routes) (W := W) (Q := fun _ => K)
  simp only [hD0] at hsend0
  iapply (hsend0 _) $$ [Hl0 Ho0 HO Hr0 Hr6]
  · isplitr; · iexact Hrec
    isplitl [Hl0]; · iexact Hl0
    isplitl [Ho0]; · iexact Ho0
    isplitl [HO]; · iexact HO
    isplitl [Hr0] <;> iassumption
  iintro ⟨Hc0, HO⟩
  have hD1 : (plan m).debt ((left₀ 1).erase (7 : Fin 13)) c = (plan m).debt (left₀ 2) c := congrArg (fun s => (plan m).debt s c) (by decide : (left₀ 1).erase (7 : Fin 13) = left₀ 2)
  have hsend1 := fun k : PUnit → Prog (TpuEff nD τ sig (Elt F) Λ₀ .tc) PUnit => send_first m (k := k) 𝒱 κ c (near₂ c) (1 : Fin 13) (7 : Fin 13) 1 rfl rfl (s := left₀ 1) (by decide)
    (hsc := rfl) (sS := semAt cc0_scratch0 1 inb_S6_S1_1) (sem := semAt cc0_scratch1 1 inb_S6_S1_1) rfl rfl
    (hsrc := ((Memref.isWhole_whole main_arg0).wordExact_slice rfl _ (k0_off3_wordsbf16 c))) (hdst := ((Memref.isWhole_whole main_v1).wordExact_slice rfl _ (k0_off2_wordsbf16 c)).reshape _ _) (hsem := ⟨⟨rfl, Or.inl rfl⟩, trivial⟩)
    (q := fullShare.right.right.left) (fd := m (((near₂ c).tc : Thread nD τ).loc main_v1)) rfl rfl rfl rfl
    ((by decide +kernel : ∀ c, zones (near₂ c) 1 = {(chip c, core c)}) c) ((by decide +kernel : ∀ c, chip c ≠ chip (near₂ c)) c) (by routes) (W := W) (Q := fun _ => K)
  simp only [hD1] at hsend1
  iapply (hsend1 _) $$ [Hl1 Ho1 HO Hr1 Hr7]
  · isplitr; · iexact Hrec
    isplitl [Hl1]; · iexact Hl1
    isplitl [Ho1]; · iexact Ho1
    isplitl [HO]; · iexact HO
    isplitl [Hr1] <;> iassumption
  iintro ⟨Hc1, HO⟩
  have hD2 : (plan m).debt ((left₀ 2).erase (8 : Fin 13)) c = (plan m).debt (left₀ 3) c := congrArg (fun s => (plan m).debt s c) (by decide : (left₀ 2).erase (8 : Fin 13) = left₀ 3)
  have hsend2 := fun k : PUnit → Prog (TpuEff nD τ sig (Elt F) Λ₀ .tc) PUnit => send_first m (k := k) 𝒱 κ c (near₃ c) (2 : Fin 13) (8 : Fin 13) 2 rfl rfl (s := left₀ 2) (by decide)
    (hsc := rfl) (sS := semAt cc0_scratch0 2 inb_S6_S1_2) (sem := semAt cc0_scratch1 2 inb_S6_S1_2) rfl rfl
    (hsrc := ((Memref.isWhole_whole main_arg0).wordExact_slice rfl _ (k0_off3_wordsbf16 c))) (hdst := ((Memref.isWhole_whole main_v1).wordExact_slice rfl _ (k0_off2_wordsbf16 c)).reshape _ _) (hsem := ⟨⟨rfl, Or.inl rfl⟩, trivial⟩)
    (q := fullShare.right.right.right.left) (fd := m (((near₃ c).tc : Thread nD τ).loc main_v1)) rfl rfl rfl rfl
    ((by decide +kernel : ∀ c, zones (near₃ c) 2 = {(chip c, core c)}) c) ((by decide +kernel : ∀ c, chip c ≠ chip (near₃ c)) c) (by routes) (W := W) (Q := fun _ => K)
  simp only [hD2] at hsend2
  iapply (hsend2 _) $$ [Hl2 Ho2 HO Hr2 Hr8]
  · isplitr; · iexact Hrec
    isplitl [Hl2]; · iexact Hl2
    isplitl [Ho2]; · iexact Ho2
    isplitl [HO]; · iexact HO
    isplitl [Hr2] <;> iassumption
  iintro ⟨Hc2, HO⟩
  iapply ((plan m).wait (defs := defs₀ (F := F)) 𝒱 κ c (6 : Fin 13) (s := left₀ 3) (by decide : ∀ k ∈ left₀ 3, lvls 6 < lvls k) rfl rfl) $$ [Hc6 HO Hb6]
  · isplitr; · iexact Hrec
    isplitl [Hc6]; · iexact Hc6
    isplitl [HO] <;> iassumption
  iintro ⟨⟨%W6, HO⟩, Ht6, Hp0⟩
  have hp0 : (plan m).pay c (6 : Fin 13) ⊢ iprop(holds c fullShare.left (zones c 0) (final m c) ∗ holds c fullShare.right (zones c 0) (final m c)) := halves _ _ _
  ihave Hp0 := hp0 $$ Hp0
  icases Hp0 with ⟨Hf0, Hg0⟩
  have hD3 : (plan m).debt ((left₀ 3).erase (9 : Fin 13)) c = (plan m).debt (left₀ 4) c := congrArg (fun s => (plan m).debt s c) (by decide : (left₀ 3).erase (9 : Fin 13) = left₀ 4)
  have hsend3 := fun k : PUnit → Prog (TpuEff nD τ sig (Elt F) Λ₀ .tc) PUnit => send_passed m (k := k) 𝒱 κ c ⟨k0_dev4 c, k0_dev4_lt c⟩ rfl (3 : Fin 13) (9 : Fin 13) 0 3 rfl rfl (s := left₀ 3) (by decide)
    (k0_off4 c) (k0_off4_inb c) (chip (near₁ c)) (off₄ c) ((by decide +kernel : ∀ c, chip (near₁ c) ≠ chip c) c)
    (hsc := rfl) (sS := semAt cc0_scratch0 3 inb_S6_S1_3) (sem := semAt cc0_scratch1 3 inb_S6_S1_3) rfl rfl
    (hsrc := ((Memref.isWhole_whole main_v1).wordExact_slice rfl _ (k0_off4_wordsbf16 c)).reshape _ _) (hdst := ((Memref.isWhole_whole main_v1).wordExact_slice rfl _ (k0_off4_wordsbf16 c)).reshape _ _) (hsem := ⟨⟨rfl, Or.inl rfl⟩, trivial⟩)
    (q := fullShare.right) (fd := m (((sib c).tc : Thread nD τ).loc main_v1)) rfl rfl rfl rfl rfl
    ((by decide +kernel : ∀ c, zones (sib c) 3 = {(chip (near₁ c), core c)}) c) (W := W6) (Q := fun _ => K)
  simp only [hD3] at hsend3
  iapply (hsend3 _) $$ [Hg0 Ho3 HO Hr3 Hr9]
  · isplitr; · iexact Hrec
    isplitl [Hg0]; · iexact Hg0
    isplitl [Ho3]; · iexact Ho3
    isplitl [HO]; · iexact HO
    isplitl [Hr3] <;> iassumption
  iintro ⟨Hc3, HO⟩
  iapply ((plan m).wait (defs := defs₀ (F := F)) 𝒱 κ c (7 : Fin 13) (s := left₀ 4) (by decide : ∀ k ∈ left₀ 4, lvls 7 < lvls k) rfl rfl) $$ [Hc7 HO Hb7]
  · isplitr; · iexact Hrec
    isplitl [Hc7]; · iexact Hc7
    isplitl [HO] <;> iassumption
  iintro ⟨⟨%W7, HO⟩, Ht7, Hp1⟩
  have hp1 : (plan m).pay c (7 : Fin 13) ⊢ iprop(holds c fullShare.left (zones c 1) (final m c) ∗ holds c fullShare.right (zones c 1) (final m c)) := halves _ _ _
  ihave Hp1 := hp1 $$ Hp1
  icases Hp1 with ⟨Hf1, Hg1⟩
  have hD4 : (plan m).debt ((left₀ 4).erase (10 : Fin 13)) c = (plan m).debt (left₀ 5) c := congrArg (fun s => (plan m).debt s c) (by decide : (left₀ 4).erase (10 : Fin 13) = left₀ 5)
  have hsend4 := fun k : PUnit → Prog (TpuEff nD τ sig (Elt F) Λ₀ .tc) PUnit => send_passed m (k := k) 𝒱 κ c ⟨k0_dev5 c, k0_dev5_lt c⟩ (sib₅ c) (4 : Fin 13) (10 : Fin 13) 1 4 rfl rfl (s := left₀ 4) (by decide)
    (k0_off5 c) (k0_off5_inb c) (chip (near₂ c)) (off₅ c) ((by decide +kernel : ∀ c, chip (near₂ c) ≠ chip c) c)
    (hsc := rfl) (sS := semAt cc0_scratch0 4 inb_S6_S1_4) (sem := semAt cc0_scratch1 4 inb_S6_S1_4) rfl rfl
    (hsrc := ((Memref.isWhole_whole main_v1).wordExact_slice rfl _ (k0_off5_wordsbf16 c)).reshape _ _) (hdst := ((Memref.isWhole_whole main_v1).wordExact_slice rfl _ (k0_off5_wordsbf16 c)).reshape _ _) (hsem := ⟨⟨rfl, Or.inl rfl⟩, trivial⟩)
    (q := fullShare.right) (fd := m (((sib c).tc : Thread nD τ).loc main_v1)) rfl rfl rfl rfl rfl
    ((by decide +kernel : ∀ c, zones (sib c) 4 = {(chip (near₂ c), core c)}) c) (W := W7) (Q := fun _ => K)
  simp only [hD4] at hsend4
  iapply (hsend4 _) $$ [Hg1 Ho4 HO Hr4 Hr10]
  · isplitr; · iexact Hrec
    isplitl [Hg1]; · iexact Hg1
    isplitl [Ho4]; · iexact Ho4
    isplitl [HO]; · iexact HO
    isplitl [Hr4] <;> iassumption
  iintro ⟨Hc4, HO⟩
  iapply ((plan m).wait (defs := defs₀ (F := F)) 𝒱 κ c (8 : Fin 13) (s := left₀ 5) (by decide : ∀ k ∈ left₀ 5, lvls 8 < lvls k) rfl rfl) $$ [Hc8 HO Hb8]
  · isplitr; · iexact Hrec
    isplitl [Hc8]; · iexact Hc8
    isplitl [HO] <;> iassumption
  iintro ⟨⟨%W8, HO⟩, Ht8, Hp2⟩
  have hp2 : (plan m).pay c (8 : Fin 13) ⊢ iprop(holds c fullShare.left (zones c 2) (final m c) ∗ holds c fullShare.right (zones c 2) (final m c)) := halves _ _ _
  ihave Hp2 := hp2 $$ Hp2
  icases Hp2 with ⟨Hf2, Hg2⟩
  have hD5 : (plan m).debt ((left₀ 5).erase (11 : Fin 13)) c = (plan m).debt (left₀ 6) c := congrArg (fun s => (plan m).debt s c) (by decide : (left₀ 5).erase (11 : Fin 13) = left₀ 6)
  have hsend5 := fun k : PUnit → Prog (TpuEff nD τ sig (Elt F) Λ₀ .tc) PUnit => send_passed m (k := k) 𝒱 κ c ⟨k0_dev6 c, k0_dev6_lt c⟩ (sib₆ c) (5 : Fin 13) (11 : Fin 13) 2 5 rfl rfl (s := left₀ 5) (by decide)
    (k0_off6 c) (k0_off6_inb c) (chip (near₃ c)) (off₆ c) ((by decide +kernel : ∀ c, chip (near₃ c) ≠ chip c) c)
    (hsc := rfl) (sS := semAt cc0_scratch0 5 inb_S6_S1_5) (sem := semAt cc0_scratch1 5 inb_S6_S1_5) rfl rfl
    (hsrc := ((Memref.isWhole_whole main_v1).wordExact_slice rfl _ (k0_off6_wordsbf16 c)).reshape _ _) (hdst := ((Memref.isWhole_whole main_v1).wordExact_slice rfl _ (k0_off6_wordsbf16 c)).reshape _ _) (hsem := ⟨⟨rfl, Or.inl rfl⟩, trivial⟩)
    (q := fullShare.right) (fd := m (((sib c).tc : Thread nD τ).loc main_v1)) rfl rfl rfl rfl rfl
    ((by decide +kernel : ∀ c, zones (sib c) 5 = {(chip (near₃ c), core c)}) c) (W := W8) (Q := fun _ => K)
  simp only [hD5] at hsend5
  iapply (hsend5 _) $$ [Hg2 Ho5 HO Hr5 Hr11]
  · isplitr; · iexact Hrec
    isplitl [Hg2]; · iexact Hg2
    isplitl [Ho5]; · iexact Ho5
    isplitl [HO]; · iexact HO
    isplitl [Hr5] <;> iassumption
  iintro ⟨Hc5, HO⟩
  iapply ((plan m).wait (defs := defs₀ (F := F)) 𝒱 κ c (9 : Fin 13) (s := left₀ 6) (by decide : ∀ k ∈ left₀ 6, lvls 9 < lvls k) rfl rfl) $$ [Hc9 HO Hb9]
  · isplitr; · iexact Hrec
    isplitl [Hc9]; · iexact Hc9
    isplitl [HO] <;> iassumption
  iintro ⟨⟨%W9, HO⟩, Ht9, Hf3⟩
  iapply ((plan m).wait (defs := defs₀ (F := F)) 𝒱 κ c (10 : Fin 13) (s := left₀ 6) (by decide : ∀ k ∈ left₀ 6, lvls 10 < lvls k) rfl rfl) $$ [Hc10 HO Hb10]
  · isplitr; · iexact Hrec
    isplitl [Hc10]; · iexact Hc10
    isplitl [HO] <;> iassumption
  iintro ⟨⟨%W10, HO⟩, Ht10, Hf4⟩
  iapply ((plan m).wait (defs := defs₀ (F := F)) 𝒱 κ c (11 : Fin 13) (s := left₀ 6) (by decide : ∀ k ∈ left₀ 6, lvls 11 < lvls k) rfl rfl) $$ [Hc11 HO Hb11]
  · isplitr; · iexact Hrec
    isplitl [Hc11]; · iexact Hc11
    isplitl [HO] <;> iassumption
  iintro ⟨⟨%W11, HO⟩, Ht11, Hf5⟩
  iapply ((plan m).wait (defs := defs₀ (F := F)) 𝒱 κ c (0 : Fin 13) (s := left₀ 6) (by decide : ∀ k ∈ left₀ 6, lvls 0 < lvls k) rfl rfl) $$ [Hc0 HO Hb0]
  · isplitr; · iexact Hrec
    isplitl [Hc0]; · iexact Hc0
    isplitl [HO] <;> iassumption
  iintro ⟨⟨%W0, HO⟩, Ht0, -⟩
  iapply ((plan m).wait (defs := defs₀ (F := F)) 𝒱 κ c (1 : Fin 13) (s := left₀ 6) (by decide : ∀ k ∈ left₀ 6, lvls 1 < lvls k) rfl rfl) $$ [Hc1 HO Hb1]
  · isplitr; · iexact Hrec
    isplitl [Hc1]; · iexact Hc1
    isplitl [HO] <;> iassumption
  iintro ⟨⟨%W1, HO⟩, Ht1, -⟩
  iapply ((plan m).wait (defs := defs₀ (F := F)) 𝒱 κ c (2 : Fin 13) (s := left₀ 6) (by decide : ∀ k ∈ left₀ 6, lvls 2 < lvls k) rfl rfl) $$ [Hc2 HO Hb2]
  · isplitr; · iexact Hrec
    isplitl [Hc2]; · iexact Hc2
    isplitl [HO] <;> iassumption
  iintro ⟨⟨%W2, HO⟩, Ht2, -⟩
  iapply ((plan m).wait (defs := defs₀ (F := F)) 𝒱 κ c (3 : Fin 13) (s := left₀ 6) (by decide : ∀ k ∈ left₀ 6, lvls 3 < lvls k) rfl rfl) $$ [Hc3 HO Hb3]
  · isplitr; · iexact Hrec
    isplitl [Hc3]; · iexact Hc3
    isplitl [HO] <;> iassumption
  iintro ⟨⟨%W3, HO⟩, Ht3, -⟩
  iapply ((plan m).wait (defs := defs₀ (F := F)) 𝒱 κ c (4 : Fin 13) (s := left₀ 6) (by decide : ∀ k ∈ left₀ 6, lvls 4 < lvls k) rfl rfl) $$ [Hc4 HO Hb4]
  · isplitr; · iexact Hrec
    isplitl [Hc4]; · iexact Hc4
    isplitl [HO] <;> iassumption
  iintro ⟨⟨%W4, HO⟩, Ht4, -⟩
  iapply ((plan m).wait (defs := defs₀ (F := F)) 𝒱 κ c (5 : Fin 13) (s := left₀ 6) (by decide : ∀ k ∈ left₀ 6, lvls 5 < lvls k) rfl rfl) $$ [Hc5 HO Hb5]
  · isplitr; · iexact Hrec
    isplitl [Hc5]; · iexact Hc5
    isplitl [HO] <;> iassumption
  iintro ⟨⟨%W5, HO⟩, Ht5, -⟩
  iapply ((plan m).wait (defs := defs₀ (F := F)) 𝒱 κ c (12 : Fin 13) (s := left₀ 6) (by decide : ∀ k ∈ left₀ 6, lvls 12 < lvls k) rfl rfl) $$ [Hc12 HO Hb12]
  · isplitr; · iexact Hrec
    isplitl [Hc12]; · iexact Hc12
    isplitl [HO] <;> iassumption
  iintro ⟨⟨%W12, HO⟩, Ht12, Hf6⟩
  have hq3 : (plan m).pay c (9 : Fin 13) ⊢ holds c fullShare.left (zones c 3) (final m c) := left_half _ _ _
  ihave Hf3 := hq3 $$ Hf3
  have hq4 : (plan m).pay c (10 : Fin 13) ⊢ holds c fullShare.left (zones c 4) (final m c) := left_half _ _ _
  ihave Hf4 := hq4 $$ Hf4
  have hq5 : (plan m).pay c (11 : Fin 13) ⊢ holds c fullShare.left (zones c 5) (final m c) := left_half _ _ _
  ihave Hf5 := hq5 $$ Hf5
  have hq6 : (plan m).pay c (12 : Fin 13) ⊢ holds c fullShare.left (zones c 6) (final m c) := left_half _ _ _
  ihave Hf6 := hq6 $$ Hf6
  rw [wp_ret]
  iapply Hk
  isplitl [Ha Hf0 Hf1 Hf2 Hf3 Hf4 Hf5 Hf6]
  · isplitl [Ha]; · iexact Ha
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    iexact Hf6
  isplitl [Ht0 Ht1 Ht2 Ht3 Ht4 Ht5 Ht6 Ht7 Ht8 Ht9 Ht10 Ht11 Ht12]
  · isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    iexact Ht12
  rw [hz]
  iexists _
  iexact HO

/-- THE PROGRAM: every device ends with the rows of all chips, its own rows as they were, every counter at zero. -/
theorem run_main (g : Dev nD → PrngReg) : θ_run (defs (F := F)) (onTc (τ := τ) (main (F := F))) ⟨m, fun _ => 0, g⟩ fun r =>
    (∀ c : Dev nD, r.2.mem ((c.tc : Thread nD τ).loc main_arg0) = m ((c.tc : Thread nD τ).loc main_arg0)
      ∧ r.2.mem ((c.tc : Thread nD τ).loc main_v1) = final m c) ∧ r.2.sem = fun _ => 0 := by
  refine (plan m).θ_run_once pcfgs (fun p => (cfgs p).toPCfg_adm) cellOf_inj 0 (defs₀ (F := F)) Variants.none
    (fun _ => ⟨fun w => w.elim0⟩) ⟨fun w => w.elim0⟩ N_0 main (fun c => rfl) m g (mem m) (res m) (mem_dealt m)
    (fun c κ t W K => run m _ c κ W K)
    (fun c μ => μ.mem ((c.tc : Thread nD τ).loc main_arg0) = m ((c.tc : Thread nD τ).loc main_arg0)
      ∧ μ.mem ((c.tc : Thread nD τ).loc main_v1) = final m c) (fun c s' => ?_) (fun s h hz => ⟨h, ?_⟩)
  · have h1 := fun q f => pointsTo_read_all (Ix := Unit) (Name := ℕ) (U := UR sig nD τ) (Lvl := ℕ) ({()} : Finset Unit) (fun _ => (c.tc : Thread nD τ).loc main_arg0) (fun _ => f) s' q
    have h2 := fun q f => pointsTo_read_all (Ix := Unit) (Name := ℕ) (U := UR sig nD τ) (Lvl := ℕ) ({()} : Finset Unit) (fun _ => (c.tc : Thread nD τ).loc main_v1) (fun _ => f) s' q
    simp only [bigSep_singleton, Finset.mem_singleton, forall_eq] at h1 h2
    unfold res keeps
    iintro ⟨⟨Ha, Ho⟩, HS⟩
    ihave H := (h1 _ _) $$ [Ha HS]
    · isplitl [Ha] <;> iassumption
    icases H with ⟨%e1, HS⟩
    ihave H := (h2 _ _) $$ [Ho HS]
    · isplitl [Ho] <;> iassumption
    icases H with ⟨%e2, HS⟩
    imodintro
    isplitr; · ipureintro; exact ⟨e1 () trivial, e2 () trivial⟩
    iexact HS
  · funext g'
    refine hz g' ?_
    have hs : ∀ sm : SemLoc sig, sm.isScoped .tc = true := by decide
    exact .inr (hs g'.2)

end Exchange.Gather

end
-- ==== Proof.Rows.lean ====
/-
  Rows in groups: the one fact of the references' values that both the gathering and the join use.
-/
module

public import Idealize.ShloMosaic.Lib.ValueIdxCore
public import Idealize.ShloMosaic.Lib.Pipeline.Value
public import Mathlib.Tactic.Ring

@[expose] public section

noncomputable section

namespace Exchange

open Idealize.ShloMosaic Idealize.ShloMosaic.Pipeline Idealize.ShloMosaic.ValueIdx

variable {α : Type} {P N L M : ℕ}

/-- Rows regrouped: row `b` of group `p` is row `N * p + b` of all. -/
theorem grouped_apply (e : (⟨2, ![M, L]⟩ : Shape).ShapeCasts ⟨3, ![P, N, L]⟩) (A : (⟨2, ![M, L]⟩ : Shape).Idx → α)
    (p : Fin P) (b : Fin N) (l : Fin L) (x : Fin M) (hx : x.val = N * p.val + b.val) :
    shapeCast ⟨3, ![P, N, L]⟩ A e (ix3 p b l) = A (ix2 x l) := by
  refine shapeCast_apply _ _ _ (ix2 x l) ?_
  rw [Shape.rowMajor_val_two, Shape.rowMajor_val_three]
  show x.val * L + l.val = (p.val * N + b.val) * L + l.val
  rw [hx]
  ring

end Exchange

end
-- ==== Proof.Gather.Value.lean ====
/-
  What the two sides of the gathering's value claims hold, entry by entry: the reference's array, and a device's output.
-/
module

public import proofs.«01_k».proof.Proof.Gather.Main
public import proofs.«01_k».proof.Proof.Gen.GatherRefIdeal.Run
public import proofs.«01_k».proof.Proof.Rows
public import Idealize.ShloMosaic.Lib.Layout
public import Idealize.ShloMosaic.Lib.Pipeline.Value

@[expose] public section

noncomputable section

namespace Exchange.Gather

open Idealize.ShloMosaic Idealize.ShloMosaic.Pipeline Idealize.ShloMosaic.TcCoe Idealize.ShloMosaic.ValueIdx
open Cert.GatherRefIdeal Cert.GatherRefIdeal.Facts₀

variable {α : Type}

/-- The reference's result. -/
def wanted (A : S49152x1024.Idx → α) : S4x12288x1024.Idx → α := shapeCast _ A shapeCasts_S49152x1024_S4x12288x1024

/-- The rows of device `d`, where it holds the block of its chip. -/
theorem rows_apply {F : FTy → Type} [FloatOps F] (m : (ℓ : Loc Cert.GatherIdeal.nD Cert.GatherIdeal.τ Cert.GatherIdeal.sig) → Buf (Elt F) ℓ) (d : Dev Cert.GatherIdeal.nD)
    (A : S49152x1024.Idx → Elt F .bf16)
    (hA : m ((d.tc : Thread Cert.GatherIdeal.nD Cert.GatherIdeal.τ).loc Cert.GatherIdeal.main_arg0)
      = Layout.blockN ⟨2, ![12288, 1024]⟩ ⟨2, ![49152, 1024]⟩ (Layout.meshBlock [2, 2, 2] ![[0, 1], []] d) A)
    (b : Fin 12288) (l : Fin 1024) (x : Fin 49152) (hx : x.val = 12288 * (d.val / 2) + b.val) :
    rows m d (ix2 b l) = A (ix2 x l) := by
  have hd : d.val < 8 := d.isLt
  unfold rows
  rw [hA, Layout.blockN_apply]
  refine congrArg A (funext fun a => Fin.ext ?_)
  rw [Layout.TilesN.idx_val]
  match a with
  | ⟨0, _⟩ =>
    have e : Layout.meshLin [2, 2, 2] d.val [0, 1] = d.val / 2 := (by decide +kernel : ∀ d : Fin 8, Layout.meshLin [2, 2, 2] d.val [0, 1] = d.val / 2) d
    show Layout.meshLin [2, 2, 2] d.val [0, 1] * 12288 + b.val = x.val
    rw [e, hx, Nat.mul_comm]
  | ⟨1, _⟩ =>
    show 0 * 1024 + l.val = l.val
    omega

/-- What every device ends with is the reference's result. -/
theorem gathered {F : FTy → Type} [FloatOps F] (m : (ℓ : Loc Cert.GatherIdeal.nD Cert.GatherIdeal.τ Cert.GatherIdeal.sig) → Buf (Elt F) ℓ)
    (A : S49152x1024.Idx → Elt F .bf16)
    (hA : ∀ d : Dev Cert.GatherIdeal.nD, m ((d.tc : Thread Cert.GatherIdeal.nD Cert.GatherIdeal.τ).loc Cert.GatherIdeal.main_arg0)
      = Layout.blockN ⟨2, ![12288, 1024]⟩ ⟨2, ![49152, 1024]⟩ (Layout.meshBlock [2, 2, 2] ![[0, 1], []] d) A) (c : Dev Cert.GatherIdeal.nD) :
    final m c = wanted A := by
  funext i
  obtain ⟨p, b, l, rfl⟩ : ∃ (p : Fin 4) (b : Fin 12288) (l : Fin 1024), i = ix3 p b l := ⟨i 0, i 1, i 2, eq_ix3 i⟩
  have hc : c.val < 8 := c.isLt
  have hp : p.val < 4 := p.isLt
  have hb : b.val < 12288 := b.isLt
  have ho : (origin c (ix3 p b l)).val / 2 = p.val := by
    unfold origin
    split
    · next h => exact (congrArg Fin.val h).symm
    · show (2 * p.val + b.val / 6144) / 2 = p.val
      omega
  refine (rows_apply m (origin c (ix3 p b l)) A (hA _) b l ⟨12288 * p.val + b.val, by omega⟩ (by rw [ho])).trans ?_
  exact (grouped_apply _ A p b l _ rfl).symm

end Exchange.Gather

end
-- ==== Proof.Gather.Claims.lean ====
/-
  The claims about the gathering: its frames, and its values against the reference's.
-/
module

public import proofs.«01_k».proof.Defs
public import proofs.«01_k».proof.Proof.Gen.Gather
public import proofs.«01_k».proof.Proof.Gen.GatherRef
public import proofs.«01_k».proof.Proof.Gather.Value

@[expose] public section

noncomputable section

namespace Exchange.Gather

open Idealize.ShloMosaic Idealize.ShloMosaic.TcCoe Idealize.SL.Sem

variable {F : FTy → Type} [FloatOps F]

/-- The reference ends with its result, its argument unchanged, and no semaphore to be anything but zero. -/
theorem run_ref (m : (ℓ : Loc Cert.GatherRefIdeal.nD Cert.GatherRefIdeal.τ Cert.GatherRefIdeal.sig) → Buf (Elt F) ℓ) (g : Dev Cert.GatherRefIdeal.nD → PrngReg) :
    θ_run (Cert.GatherRefIdeal.defs (F := F)) (onTc (τ := Cert.GatherRefIdeal.τ) (Cert.GatherRefIdeal.main (F := F))) ⟨m, fun _ => 0, g⟩ fun r =>
      (∀ c : Dev Cert.GatherRefIdeal.nD,
        r.2.mem ((c.tc : Thread Cert.GatherRefIdeal.nD Cert.GatherRefIdeal.τ).loc Cert.GatherRefIdeal.main_v0)
            = wanted (m ((c.tc : Thread Cert.GatherRefIdeal.nD Cert.GatherRefIdeal.τ).loc Cert.GatherRefIdeal.main_arg0))
          ∧ r.2.mem ((c.tc : Thread Cert.GatherRefIdeal.nD Cert.GatherRefIdeal.τ).loc Cert.GatherRefIdeal.main_arg0)
            = m ((c.tc : Thread Cert.GatherRefIdeal.nD Cert.GatherRefIdeal.τ).loc Cert.GatherRefIdeal.main_arg0))
      ∧ r.2.sem = fun _ => 0 :=
  (θ_run Cert.GatherRefIdeal.defs _ _).mono (fun r h => ⟨h, funext fun s => ((by decide : ∀ _ : SemLoc Cert.GatherRefIdeal.sig, False) s.2).elim⟩) (Cert.GatherRefIdeal.Value.run m g)

theorem frame : Cert.quiescent_Gather (hGather := Cert.Gather.Gen.facts) := fun m g _ =>
  (θ_run Cert.GatherIdeal.defs _ _).mono (fun _ h => ⟨fun c => (h.1 c).1, h.2⟩) (run_main (F := Bits) m g)

theorem frame_ideal : Cert.quiescent_GatherIdeal (hGatherIdeal := Cert.GatherIdeal.Gen.facts) := fun m g _ =>
  (θ_run Cert.GatherIdeal.defs _ _).mono (fun _ h => ⟨fun c => (h.1 c).1, h.2⟩) (run_main (F := Ideal) m g)

theorem frame_ref_ideal : Cert.quiescent_GatherRefIdeal (hGatherRefIdeal := Cert.GatherRefIdeal.Gen.facts) := fun m g _ =>
  (θ_run Cert.GatherRefIdeal.defs _ _).mono (fun _ h => ⟨fun c => (h.1 c).2, h.2⟩) (run_ref (F := Ideal) m g)

theorem frame_ref : Cert.quiescent_GatherRef (hGatherRef := Cert.GatherRef.Gen.facts) := fun m g _ =>
  (θ_run Cert.GatherRefIdeal.defs _ _).mono (fun _ h => ⟨fun c => (h.1 c).2, h.2⟩) (run_ref (F := Bits) m g)

theorem algebraic : Cert.algebraic_GatherIdeal_GatherRefIdeal (hGatherIdeal := Cert.GatherIdeal.Gen.facts) (hGatherRefIdeal := Cert.GatherRefIdeal.Gen.facts) :=
  fun m g m' g' _ hA => ⟨wanted (m' (((0 : Dev Cert.GatherRefIdeal.nD).tc : Thread Cert.GatherRefIdeal.nD Cert.GatherRefIdeal.τ).loc Cert.GatherRefIdeal.main_arg0)),
    (θ_run Cert.GatherIdeal.defs _ _).mono (fun _ h c => ⟨(h.1 c).2.trans (gathered m _ hA c), (h.1 c).1⟩) (run_main (F := Ideal) m g),
    (θ_run Cert.GatherRefIdeal.defs _ _).mono (fun _ h => h.1 0) (run_ref (F := Ideal) m' g')⟩

theorem bitexact : Cert.bitexact_Gather_GatherRef (hGather := Cert.Gather.Gen.facts) (hGatherRef := Cert.GatherRef.Gen.facts) :=
  fun m g m' g' _ hA => ⟨wanted (m' (((0 : Dev Cert.GatherRefIdeal.nD).tc : Thread Cert.GatherRefIdeal.nD Cert.GatherRefIdeal.τ).loc Cert.GatherRefIdeal.main_arg0)),
    (θ_run Cert.GatherIdeal.defs _ _).mono (fun _ h c => ⟨(h.1 c).2.trans (gathered m _ hA c), (h.1 c).1⟩) (run_main (F := Bits) m g),
    (θ_run Cert.GatherRefIdeal.defs _ _).mono (fun _ h => h.1 0) (run_ref (F := Bits) m' g')⟩

end Exchange.Gather

end
-- ==== Proof.Swap.Run.lean ====
/-
  The exchange between the two cores of a chip (`swap_halves`): each core sends the half of its blocks that its sibling keeps, and ends
  with the half that the sibling sent. Its plan has two cells: the departure of the own copy, and the arrival of the sibling's.
-/
module

public import proofs.«01_k».proof.Proof.Open
public import proofs.«01_k».proof.Proof.Gen.SwapIdeal.Points
public import proofs.«01_k».proof.Proof.Gen.SwapIdeal.Launch
public import proofs.«01_k».proof.Proof.Gen.SwapIdeal.Skeleton

@[expose] public section

noncomputable section

namespace Exchange.Swap

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.SwapIdeal Cert.SwapIdeal.Gen

variable {F : FTy → Type} [FloatOps F]

local notation "𝕄" => MT nD τ sig Unit (Elt F) ℕ (UR sig nD τ) ℕ

/-- The other core of the chip. -/
def sib (c : Dev nD) : Dev nD := ⟨k0_dev1 c, k0_dev1_lt c⟩

theorem sib_sib (c : Dev nD) : sib (sib c) = c := by revert c; decide +kernel

def sibE : Dev nD ≃ Dev nD := ⟨sib, sib, sib_sib, sib_sib⟩

/-- The half of its blocks that device `c` sends away. -/
abbrev half (c : Dev nD) : Memref sig .tc .hbm S4x6144x1024 .f32 :=
  (Memref.whole main_arg0).slice (Rect.unit (s := S4x12288x1024) (k0_off1 c) S4x6144x1024.size (k0_off1_inb c)) (fun _ => rfl)

/-- Where device `c` keeps what arrives. -/
abbrev out : Memref sig .tc .hbm S4x6144x1024 .f32 := Memref.whole main_v1

variable (m : (ℓ : Loc nD τ sig) → Buf (Elt F) ℓ)

/-- What device `c` sends. -/
def sent (c : Dev nD) : S4x6144x1024.Idx → Elt F .f32 := (half c).view.read (Elt F) (m ((c.tc : Thread nD τ).loc main_arg0))

/-- A share of the half that is sent. -/
def lent (c : Dev nD) : sProp 𝕄 :=
  ((half c).view.loc (c.tc : Thread nD τ) ↦[(half c).view.set]{fullShare.left} (m ((c.tc : Thread nD τ).loc main_arg0)))

/-- The output with contents `f`. -/
def holds (c : Dev nD) (f : S4x6144x1024.Idx → Elt F .f32) : sProp 𝕄 := ((c.tc : Thread nD τ).loc main_v1) ↦{fullShare} f

instance lent_storable (c : Dev nD) : BI.Storable (upEmb : UEmb _ (MT nD τ sig Unit (Elt F) ℕ (UR sig nD τ) ℕ)) (lent m c) := by
  unfold lent; infer_instance
instance holds_storable (c : Dev nD) (f : S4x6144x1024.Idx → Elt F .f32) :
    BI.Storable (upEmb : UEmb _ (MT nD τ sig Unit (Elt F) ℕ (UR sig nD τ) ℕ)) (holds (F := F) c f) := by unfold holds; infer_instance

/-- The plan: cell 0 counts the departure, cell 1 the arrival. -/
def plan : Plan nD τ sig (Elt F) where
  K := 2
  sem := ![.dma cc0_scratch0.sem, .dma cc0_scratch1.sem]
  inj := by decide +kernel
  sems_scoped := by decide +kernel
  amt _ := out.view.dmaCredit
  amt_pos _ := View.dmaCredit_pos _ (by decide +kernel)
  tgt := ![Equiv.refl _, sibE]
  arr := {1}
  lvl := ![0, 1]
  pay c k := if k = 0 then lent m c else holds c (sent m (sib c))
  storable c k := by split <;> infer_instance

/-- The memory that device `c` works with: its blocks, and its sibling's output. -/
def mem (c : Dev nD) : sProp 𝕄 :=
  iprop((((c.tc : Thread nD τ).loc main_arg0) ↦{fullShare} m ((c.tc : Thread nD τ).loc main_arg0))
    ∗ holds (sib c) (m (((sib c).tc : Thread nD τ).loc main_v1)))

/-- What it ends with: its blocks as they were, and what its sibling sent. -/
def res (c : Dev nD) : sProp 𝕄 :=
  iprop((((c.tc : Thread nD τ).loc main_arg0) ↦{fullShare.right} m ((c.tc : Thread nD τ).loc main_arg0)) ∗ holds c (sent m (sib c)))

theorem mem_dealt : (bigSep Finset.univ fun c : Dev nD => (unscopedBufs c (fun b => m ((c.tc : Thread nD τ).loc b)) : sProp 𝕄))
    ⊢ bigSep Finset.univ (mem m) := by
  have h1 (c : Dev nD) : (unscopedBufs c (fun b => m ((c.tc : Thread nD τ).loc b)) : sProp 𝕄)
      ⊢ iprop((((c.tc : Thread nD τ).loc main_arg0) ↦{fullShare} m ((c.tc : Thread nD τ).loc main_arg0))
        ∗ holds c (m ((c.tc : Thread nD τ).loc main_v1))) := by
    unfold unscopedBufs
    rw [bigSep_eq_bigSepL_of_eq [main_arg0, main_v1] (by decide) (by decide) _]
    exact .rfl
  have h2 := bigSep_univ_equiv sibE (fun c : Dev nD => (holds c (m ((c.tc : Thread nD τ).loc main_v1)) : sProp 𝕄))
  refine (bigSep_mono fun c _ => h1 c).trans ?_
  unfold mem
  refine (Entails.of_eq (bigSep_sep' _ _ _)).trans (BIBase.Entails.trans ?_ (Entails.of_eq (bigSep_sep' _ _ _).symm))
  rw [h2]
  exact .rfl

theorem arg_split (c : Dev nD) : (((c.tc : Thread nD τ).loc main_arg0) ↦{fullShare} m ((c.tc : Thread nD τ).loc main_arg0) : sProp 𝕄)
    ⊢ iprop(lent m c ∗ (((c.tc : Thread nD τ).loc main_arg0) ↦{fullShare.right} m ((c.tc : Thread nD τ).loc main_arg0))) := by
  have h1 : (((c.tc : Thread nD τ).loc main_arg0) ↦{fullShare} m ((c.tc : Thread nD τ).loc main_arg0) : sProp 𝕄) ⊢ iprop(
      (((c.tc : Thread nD τ).loc main_arg0) ↦{fullShare.left} m ((c.tc : Thread nD τ).loc main_arg0))
      ∗ (((c.tc : Thread nD τ).loc main_arg0) ↦{fullShare.right} m ((c.tc : Thread nD τ).loc main_arg0))) :=
    (pointsTo_share (PosShare.mem_left_op_right fullShare)).1
  have h2 : (((c.tc : Thread nD τ).loc main_arg0) ↦{fullShare.left} m ((c.tc : Thread nD τ).loc main_arg0) : sProp 𝕄) ⊢ iprop(
      (((c.tc : Thread nD τ).loc main_arg0) ↦[(half c).view.set]{fullShare.left} m ((c.tc : Thread nD τ).loc main_arg0))
      ∗ (((c.tc : Thread nD τ).loc main_arg0) ↦[Finset.univ \ (half c).view.set]{fullShare.left} m ((c.tc : Thread nD τ).loc main_arg0))) :=
    (pointsTo_split_subset (Finset.subset_univ (half c).view.set)).1
  unfold lent
  iintro H
  ihave H := h1 $$ H
  icases H with ⟨Hl, Hr⟩
  ihave Hl := h2 $$ Hl
  icases Hl with ⟨Hl, -⟩
  isplitl [Hl] <;> iassumption

/-- THE BODY on device `c`. -/
theorem run (𝒱 : Variants) (c : Dev nD) (κ : GSem nD τ sig → ℕ) (W : Waits sig Unit) (K : sProp 𝕄) :
    iprop((plan m).records κ ∗ (plan m).start c ∗ mem m c ∗ owes (c.tc : Thread nD τ) ((plan m).debt (plan m).arr c) W
        ∗ ((res m c ∗ (bigSep Finset.univ fun k => (plan m).after c k) ∗ ∃ W', owes (c.tc : Thread nD τ) (0 : CellTallies nD τ sig Unit) W') -∗ |={Set.univ}=> K))
      ⊢ wp frame (wpE defs₀ 𝒱 (c.tc : Thread nD τ) none) Set.univ (bodyAt0 (F := F) t0_0) fun _ => K := by
  have e1 : (bigSep Finset.univ fun k => (plan m).before c k) = iprop((plan m).before c (0 : Fin 2) ∗ (plan m).before c (1 : Fin 2)) := bigSep_fin_two _
  have e2 : (bigSep Finset.univ fun k => (plan m).right c k) = iprop((plan m).right c (0 : Fin 2) ∗ (plan m).right c (1 : Fin 2)) := bigSep_fin_two _
  have e3 : (bigSep (plan m).arr fun k => (plan m).sure c k) = (plan m).sure c (1 : Fin 2) := bigSep_singleton
  have e4 : (bigSep Finset.univ fun k => (plan m).after c k) = iprop((plan m).after c (0 : Fin 2) ∗ (plan m).after c (1 : Fin 2)) := bigSep_fin_two _
  unfold Plan.start mem res bodyAt0
  rw [e1, e2, e3, e4, cc0_swap_halves_eq_skeleton]
  unfold cc0_swap_halves_skel
  simp only [Prog.lift, Prog.bind_op, Prog.bind_ret, Prog.pure_eq_ret, wp_deviceId]
  have hD : (plan m).debt ((plan m).arr.erase (1 : Fin 2)) c = (plan m).debt ∅ c :=
    congrArg (fun s => (plan m).debt s c) (show ({1} : Finset (Fin 2)).erase 1 = ∅ by decide)
  have hz : (plan m).debt ∅ c = 0 := rfl
  have hl : lent m c ⊢ ((half c).view.loc (c.tc : Thread nD τ) ↦[(half c).view.set]{fullShare.left} (m ((c.tc : Thread nD τ).loc main_arg0)) : sProp 𝕄) := .rfl
  have hp : (plan m).pay c (1 : Fin 2) ⊢ holds c (sent m (sib c)) := .rfl
  have hpay₂ : (out.view.loc ((sib c).tc : Thread nD τ) ↦[out.view.set]{fullShare} (out.view.write (Elt F) (m (((sib c).tc : Thread nD τ).loc main_v1))
      ((half c).view.read (Elt F) (m ((c.tc : Thread nD τ).loc main_arg0))) Finset.univ) : sProp 𝕄) ⊢ (plan m).pay (sib c) (1 : Fin 2) := by
    show _ ⊢ holds (sib c) (sent m (sib (sib c)))
    rw [sib_sib, View.set_whole, View.write_whole_univ]
    exact .rfl
  have hsend := fun k : PUnit → Prog (TpuEff nD τ sig (Elt F) Λ₀ .tc) PUnit => (plan m).send (k := k) (defs := defs₀ (F := F)) 𝒱 κ c (sib c) (0 : Fin 2) (1 : Fin 2) rfl rfl (s := (plan m).arr) (Finset.mem_singleton_self _)
    (src := half c) (dst := out) (hsc := rfl) (sS := .dma cc0_scratch0.sem) (sem := .dma cc0_scratch1.sem) rfl rfl
    (hsrc := View.wordExact_bits rfl) (hdst := (Memref.isWhole_whole main_v1).wordExact) (hsem := ⟨⟨rfl, Or.inl rfl⟩, trivial⟩)
    (q := fullShare.left) (fs := m ((c.tc : Thread nD τ).loc main_arg0)) (fd := m (((sib c).tc : Thread nD τ).loc main_v1))
    rfl rfl .rfl hpay₂ (by routes) (W := W) (Q := fun _ => K)
  simp only [hD] at hsend
  iintro ⟨#Hrec, ⟨⟨Hb0, Hb1⟩, ⟨Hr0, Hr1⟩, Hc1⟩, ⟨Ha, Ho⟩, HO, Hk⟩
  ihave Ha := (arg_split m c) $$ Ha
  icases Ha with ⟨Hl, Ha⟩
  iapply (hsend _) $$ [Hl Ho HO Hr0 Hr1]
  · isplitr; · iexact Hrec
    isplitl [Hl]; · iapply hl; iexact Hl
    isplitl [Ho]
    · unfold holds
      rw [View.set_whole]
      iexact Ho
    isplitl [HO]; · iexact HO
    isplitl [Hr0] <;> iassumption
  iintro ⟨Hc0, HO⟩
  iapply ((plan m).wait (defs := defs₀ (F := F)) 𝒱 κ c (0 : Fin 2) (s := ∅) (fun k h => absurd h (Finset.notMem_empty k)) rfl rfl) $$ [Hc0 HO Hb0]
  · isplitr; · iexact Hrec
    isplitl [Hc0]; · iexact Hc0
    isplitl [HO] <;> iassumption
  iintro ⟨⟨%W1, HO⟩, Ht0, -⟩
  iapply ((plan m).wait (defs := defs₀ (F := F)) 𝒱 κ c (1 : Fin 2) (s := ∅) (fun k h => absurd h (Finset.notMem_empty k)) rfl rfl) $$ [Hc1 HO Hb1]
  · isplitr; · iexact Hrec
    isplitl [Hc1]; · iexact Hc1
    isplitl [HO] <;> iassumption
  iintro ⟨HO, Ht1, Hp⟩
  rw [wp_ret]
  iapply Hk
  isplitl [Ha Hp]
  · isplitl [Ha]; · iexact Ha
    iapply hp; iexact Hp
  isplitl [Ht0 Ht1]
  · isplitl [Ht0] <;> iassumption
  rw [hz]
  iexact HO

/-- THE PROGRAM: every device ends with what its sibling sent, its blocks as they were, every counter at zero. -/
theorem run_main (g : Dev nD → PrngReg) : θ_run (defs (F := F)) (onTc (τ := τ) (main (F := F))) ⟨m, fun _ => 0, g⟩ fun r =>
    (∀ c : Dev nD, r.2.mem ((c.tc : Thread nD τ).loc main_arg0) = m ((c.tc : Thread nD τ).loc main_arg0)
      ∧ r.2.mem ((c.tc : Thread nD τ).loc main_v1) = sent m (sib c)) ∧ r.2.sem = fun _ => 0 := by
  refine (plan m).θ_run_once pcfgs (fun p => (cfgs p).toPCfg_adm) cellOf_inj 0 (defs₀ (F := F)) Variants.none
    (fun _ => ⟨fun w => w.elim0⟩) ⟨fun w => w.elim0⟩ N_0 main (fun c => rfl) m g (mem m) (res m) (mem_dealt m)
    (fun c κ t W K => run m _ c κ W K)
    (fun c μ => μ.mem ((c.tc : Thread nD τ).loc main_arg0) = m ((c.tc : Thread nD τ).loc main_arg0)
      ∧ μ.mem ((c.tc : Thread nD τ).loc main_v1) = sent m (sib c)) (fun c s' => ?_) (fun s h hz => ⟨h, ?_⟩)
  · have h1 := fun q f => pointsTo_read_all (Ix := Unit) (Name := ℕ) (U := UR sig nD τ) (Lvl := ℕ) ({()} : Finset Unit) (fun _ => (c.tc : Thread nD τ).loc main_arg0) (fun _ => f) s' q
    have h2 := fun q f => pointsTo_read_all (Ix := Unit) (Name := ℕ) (U := UR sig nD τ) (Lvl := ℕ) ({()} : Finset Unit) (fun _ => (c.tc : Thread nD τ).loc main_v1) (fun _ => f) s' q
    simp only [bigSep_singleton, Finset.mem_singleton, forall_eq] at h1 h2
    unfold res holds
    iintro ⟨⟨Ha, Ho⟩, HS⟩
    ihave H := (h1 _ _) $$ [Ha HS]
    · isplitl [Ha] <;> iassumption
    icases H with ⟨%e1, HS⟩
    ihave H := (h2 _ _) $$ [Ho HS]
    · isplitl [Ho] <;> iassumption
    icases H with ⟨%e2, HS⟩
    imodintro
    isplitr; · ipureintro; exact ⟨e1 () trivial, e2 () trivial⟩
    iexact HS
  · funext g'
    refine hz g' ?_
    have hs : ∀ sm : SemLoc sig, sm.isScoped .tc = true := by decide
    exact .inr (hs g'.2)

end Exchange.Swap

end
-- ==== Proof.Swap.Value.lean ====
/-
  What the two sides of the swap's value claims hold, entry by entry: the reference's array, and what a device receives.
-/
module

public import proofs.«01_k».proof.Proof.Swap.Run
public import proofs.«01_k».proof.Proof.Gen.SwapRefIdeal.Run
public import Idealize.ShloMosaic.Lib.ValueIdxRank6
public import Idealize.ShloMosaic.Lib.ValueIdxCore
public import Idealize.ShloMosaic.Lib.Layout
public import Idealize.ShloMosaic.Lib.Pipeline.Value
public import Mathlib.Tactic.Ring

@[expose] public section

noncomputable section

namespace Exchange.Swap

open Idealize.ShloMosaic Idealize.ShloMosaic.Pipeline Idealize.ShloMosaic.TcCoe Idealize.ShloMosaic.ValueIdx
open Cert.SwapRefIdeal Cert.SwapRefIdeal.Facts₀

variable {α : Type} {R N L : ℕ}

/-- One of the two stacked arrays: of every chip, the blocks of core `o 1` at the half `o 3`. -/
def taken (o : Fin 6 → ℕ) (e₁ : (⟨3, ![32, N, L]⟩ : Shape).ShapeCasts ⟨6, ![4, 2, 4, 2, R, L]⟩)
    (e₂ : (⟨6, ![4, 2, 4, 2, R, L]⟩ : Shape).Slices o ⟨6, ![4, 1, 4, 1, R, L]⟩) (e₃ : (⟨6, ![4, 1, 4, 1, R, L]⟩ : Shape).ShapeCasts ⟨4, ![4, 4, R, L]⟩)
    (e₄ : (⟨4, ![4, 4, R, L]⟩ : Shape).BroadcastsInDim ⟨5, ![4, 1, 4, R, L]⟩ ![0, 2, 3, 4])
    (A : (⟨3, ![32, N, L]⟩ : Shape).Idx → α) : (⟨5, ![4, 1, 4, R, L]⟩ : Shape).Idx → α :=
  broadcastInDim _ ![0, 2, 3, 4] e₄ (shapeCast _ (extractStridedSlice ⟨6, ![4, 1, 4, 1, R, L]⟩ o (shapeCast _ A e₁) e₂) e₃)

/-- It holds, of chip `p`, the blocks of core `u` at half `v`. -/
theorem taken_apply (o : Fin 6 → ℕ) (e₁ : (⟨3, ![32, N, L]⟩ : Shape).ShapeCasts ⟨6, ![4, 2, 4, 2, R, L]⟩)
    (e₂ : (⟨6, ![4, 2, 4, 2, R, L]⟩ : Shape).Slices o ⟨6, ![4, 1, 4, 1, R, L]⟩) (e₃ : (⟨6, ![4, 1, 4, 1, R, L]⟩ : Shape).ShapeCasts ⟨4, ![4, 4, R, L]⟩)
    (e₄ : (⟨4, ![4, 4, R, L]⟩ : Shape).BroadcastsInDim ⟨5, ![4, 1, 4, R, L]⟩ ![0, 2, 3, 4]) (A : (⟨3, ![32, N, L]⟩ : Shape).Idx → α) (hN : N = 2 * R)
    (u v : Fin 2) (ho : o = ![0, u.val, 0, v.val, 0, 0]) (p b : Fin 4) (r : Fin R) (l : Fin L) (x : Fin 32) (y : Fin N)
    (hx : x.val = 8 * p.val + 4 * u.val + b.val) (hy : y.val = R * v.val + r.val) :
    taken o e₁ e₂ e₃ e₄ A (ix5 p 0 b r l) = A (ix3 x y l) := by
  subst ho
  unfold taken
  refine (broadcastInDim_apply _ _ _ _ (ix4 p b r l) fun a => ?_).trans ?_
  · match a with
    | ⟨0, _⟩ => rfl
    | ⟨1, _⟩ => rfl
    | ⟨2, _⟩ =>
      show r.val = if R = 1 then 0 else r.val
      split <;> omega
    | ⟨3, _⟩ =>
      show l.val = if L = 1 then 0 else l.val
      split <;> omega
  refine (shapeCast_apply _ _ _ (ix6 p 0 b 0 r l) ?_).trans ?_
  · rw [Shape.rowMajor_val_six, Shape.rowMajor_val_four]
    show ((((p.val * 1 + 0) * 4 + b.val) * 1 + 0) * R + r.val) * L + l.val = ((p.val * 4 + b.val) * R + r.val) * L + l.val
    ring
  refine (extractStridedSlice_apply _ _ _ _ (ix6 p u b v r l) fun a => ?_).trans ?_
  · match a with
    | ⟨0, _⟩ => exact (Nat.zero_add _).symm
    | ⟨1, _⟩ => rfl
    | ⟨2, _⟩ => exact (Nat.zero_add _).symm
    | ⟨3, _⟩ => rfl
    | ⟨4, _⟩ => exact (Nat.zero_add _).symm
    | ⟨5, _⟩ => exact (Nat.zero_add _).symm
  refine shapeCast_apply _ _ _ _ ?_
  rw [Shape.rowMajor_val_six, Shape.rowMajor_val_three]
  show (x.val * N + y.val) * L + l.val = ((((p.val * 2 + u.val) * 4 + b.val) * 2 + v.val) * R + r.val) * L + l.val
  rw [hx, hy, hN]
  ring

/-- The two stacked arrays put together: the reference's result before its last renaming of axes. -/
theorem stacked_apply (P₀ P₁ : (⟨5, ![4, 1, 4, R, L]⟩ : Shape).Idx → α)
    (e : Shape.Concatenates [⟨5, ![4, 1, 4, R, L]⟩, ⟨5, ![4, 1, 4, R, L]⟩] ⟨5, ![4, 2, 4, R, L]⟩ 1)
    (e' : (⟨5, ![4, 2, 4, R, L]⟩ : Shape).ShapeCasts ⟨3, ![32, R, L]⟩)
    (p b : Fin 4) (k : Fin 2) (r : Fin R) (l : Fin L) (x : Fin 32) (hx : x.val = 8 * p.val + 4 * k.val + b.val) :
    shapeCast ⟨3, ![32, R, L]⟩ (concatenate ⟨5, ![4, 2, 4, R, L]⟩ 1 [⟨⟨5, ![4, 1, 4, R, L]⟩, P₀⟩, ⟨⟨5, ![4, 1, 4, R, L]⟩, P₁⟩] e) e' (ix3 x r l)
      = if k.val = 0 then P₀ (ix5 p 0 b r l) else P₁ (ix5 p 0 b r l) := by
  refine (shapeCast_apply _ _ _ (ix5 p k b r l) ?_).trans ?_
  · rw [Shape.rowMajor_val_five, Shape.rowMajor_val_three]
    show (((p.val * 2 + k.val) * 4 + b.val) * R + r.val) * L + l.val = (x.val * R + r.val) * L + l.val
    rw [hx]
    ring
  match k with
  | ⟨0, _⟩ =>
    refine concatenate_pair_apply_left (s₁ := ⟨5, ![4, 1, 4, R, L]⟩) (s₂ := ⟨5, ![4, 1, 4, R, L]⟩) (t := ⟨5, ![4, 2, 4, R, L]⟩) 1 P₀ P₁ e
      (ix5 p (0 : Fin 2) b r l) rfl (ix5 p (0 : Fin 1) b r l) fun a => ?_
    match a with | ⟨0, _⟩ => rfl | ⟨1, _⟩ => rfl | ⟨2, _⟩ => rfl | ⟨3, _⟩ => rfl | ⟨4, _⟩ => rfl
  | ⟨1, _⟩ =>
    refine concatenate_pair_apply_right (s₁ := ⟨5, ![4, 1, 4, R, L]⟩) (s₂ := ⟨5, ![4, 1, 4, R, L]⟩) (t := ⟨5, ![4, 2, 4, R, L]⟩) 1 P₀ P₁ e
      (ix5 p (1 : Fin 2) b r l) rfl rfl (ix5 p (0 : Fin 1) b r l) (fun a ha => ?_) rfl
    match a with
    | ⟨0, _⟩ => rfl
    | ⟨1, _⟩ => exact absurd rfl ha
    | ⟨2, _⟩ => rfl
    | ⟨3, _⟩ => rfl
    | ⟨4, _⟩ => rfl

/-- The reference's result. -/
def wanted (A : S32x12288x1024.Idx → α) : S32x6144x1024.Idx → α :=
  shapeCast _ (concatenate S4x2x4x6144x1024 1
    [⟨S4x1x4x6144x1024, taken ![0, 1, 0, 0, 0, 0] shapeCasts_S32x12288x1024_S4x2x4x2x6144x1024 slices_S4x2x4x2x6144x1024_S4x1x4x1x6144x1024_0_1_0_0_0_0
        shapeCasts_S4x1x4x1x6144x1024_S4x4x6144x1024 bcast_S4x4x6144x1024_S4x1x4x6144x1024_0_2_3_4 A⟩,
     ⟨S4x1x4x6144x1024, taken ![0, 0, 0, 1, 0, 0] shapeCasts_S32x12288x1024_S4x2x4x2x6144x1024 slices_S4x2x4x2x6144x1024_S4x1x4x1x6144x1024_0_0_0_1_0_0
        shapeCasts_S4x1x4x1x6144x1024_S4x4x6144x1024 bcast_S4x4x6144x1024_S4x1x4x6144x1024_0_2_3_4 A⟩]
    concatenates_S4x1x4x6144x1024_S4x1x4x6144x1024_S4x2x4x6144x1024_d1) shapeCasts_S4x2x4x6144x1024_S32x6144x1024

/-- The reference's result, read at chip `p`, core `k`, block `b`: half `k` of the OTHER core's block. -/
theorem wanted_apply (A : S32x12288x1024.Idx → α) (p b : Fin 4) (k : Fin 2) (r : Fin 6144) (l : Fin 1024) (x x' : Fin 32) (y : Fin 12288)
    (hx : x.val = 8 * p.val + 4 * k.val + b.val) (hx' : x'.val = 8 * p.val + 4 * (1 - k.val) + b.val) (hy : y.val = 6144 * k.val + r.val) :
    wanted A (ix3 x r l) = A (ix3 x' y l) := by
  refine (stacked_apply _ _ _ _ p b k r l x hx).trans ?_
  match k, hx, hx', hy with
  | ⟨0, _⟩, _, hx', hy => exact taken_apply _ _ _ _ _ A (by decide) 1 0 rfl p b r l x' y hx' hy
  | ⟨1, _⟩, _, hx', hy => exact taken_apply _ _ _ _ _ A (by decide) 0 1 rfl p b r l x' y hx' hy

/-- What device `c` sends, where it holds its block of `A`. -/
theorem sent_apply {F : FTy → Type} [FloatOps F] (m : (ℓ : Loc Cert.SwapIdeal.nD Cert.SwapIdeal.τ Cert.SwapIdeal.sig) → Buf (Elt F) ℓ) (c : Dev Cert.SwapIdeal.nD)
    (A : S32x12288x1024.Idx → Elt F .f32) (h : Layout.Tiles ⟨3, ![4, 12288, 1024]⟩ ⟨3, ![32, 12288, 1024]⟩ 0 8)
    (hA : m ((c.tc : Thread Cert.SwapIdeal.nD Cert.SwapIdeal.τ).loc Cert.SwapIdeal.main_arg0) = Layout.block ⟨3, ![4, 12288, 1024]⟩ ⟨3, ![32, 12288, 1024]⟩ 0 8 c A h)
    (b : Fin 4) (r : Fin 6144) (l : Fin 1024) (x : Fin 32) (y : Fin 12288) (hx : x.val = 4 * c.val + b.val) (hy : y.val = 6144 - 6144 * (c.val % 2) + r.val) :
    sent m c (ix3 b r l) = A (ix3 x y l) := by
  have ho := Cert.SwapIdeal.Gen.k0_off1_eq c
  unfold sent
  rw [View.read_apply, hA, Layout.block_apply]
  refine congrArg A (funext fun a => Fin.ext ?_)
  rw [Layout.Tiles.idx_val]
  have he : ∀ a, (((half c).view.emb (ix3 b r l)) a).val = Cert.SwapIdeal.k0_off1 c a + (ix3 b r l a).val := fun a => by
    show Cert.SwapIdeal.k0_off1 c a + 1 * _ = _
    rw [Nat.one_mul]
  match a with
  | ⟨0, h0⟩ =>
    refine (if_pos rfl).trans ?_
    refine (congrArg (c.val * 4 + ·) (he ⟨0, h0⟩)).trans ?_
    rw [ho]
    show c.val * 4 + (0 + b.val) = x.val
    omega
  | ⟨1, h1⟩ =>
    refine (if_neg (show ¬(1 : ℕ) = 0 by decide)).trans ((he ⟨1, h1⟩).trans ?_)
    rw [ho]
    exact hy.symm
  | ⟨2, h2⟩ =>
    refine (if_neg (show ¬(2 : ℕ) = 0 by decide)).trans ((he ⟨2, h2⟩).trans ?_)
    rw [ho]
    exact Nat.zero_add _

/-- What device `c` receives is block `c` of the reference's result. -/
theorem received {F : FTy → Type} [FloatOps F] (m : (ℓ : Loc Cert.SwapIdeal.nD Cert.SwapIdeal.τ Cert.SwapIdeal.sig) → Buf (Elt F) ℓ)
    (A : S32x12288x1024.Idx → Elt F .f32) (h : Layout.Tiles ⟨3, ![4, 12288, 1024]⟩ ⟨3, ![32, 12288, 1024]⟩ 0 8)
    (h' : Layout.Tiles ⟨3, ![4, 6144, 1024]⟩ ⟨3, ![32, 6144, 1024]⟩ 0 8)
    (hA : ∀ c : Dev Cert.SwapIdeal.nD, m ((c.tc : Thread Cert.SwapIdeal.nD Cert.SwapIdeal.τ).loc Cert.SwapIdeal.main_arg0)
      = Layout.block ⟨3, ![4, 12288, 1024]⟩ ⟨3, ![32, 12288, 1024]⟩ 0 8 c A h) (c : Dev Cert.SwapIdeal.nD) :
    sent m (sib c) = Layout.block ⟨3, ![4, 6144, 1024]⟩ ⟨3, ![32, 6144, 1024]⟩ 0 8 c (wanted A) h' := by
  funext i
  obtain ⟨b, r, l, rfl⟩ : ∃ (b : Fin 4) (r : Fin 6144) (l : Fin 1024), i = ix3 b r l := ⟨i 0, i 1, i 2, eq_ix3 i⟩
  have hc : c.val < 8 := c.isLt
  have hs : (sib c).val = (4 * (c.val / 4) + 2 * ((c.val / 2) % 2) + 1) - c.val % 2 := Cert.SwapIdeal.Gen.k0_dev1_eq c
  have e : h'.idx c (ix3 b r l) = ix3 (⟨8 * (c.val / 2) + 4 * (c.val % 2) + b.val, by omega⟩ : Fin 32) r l := by
    funext a
    refine Fin.ext ?_
    rw [Layout.Tiles.idx_val]
    match a with
    | ⟨0, _⟩ =>
      refine (if_pos rfl).trans ?_
      show c.val * 4 + b.val = 8 * (c.val / 2) + 4 * (c.val % 2) + b.val
      omega
    | ⟨1, _⟩ => exact if_neg (show ¬(1 : ℕ) = 0 by decide)
    | ⟨2, _⟩ => exact if_neg (show ¬(2 : ℕ) = 0 by decide)
  rw [Layout.block_apply, e]
  rw [sent_apply m (sib c) A h (hA (sib c)) b r l ⟨4 * (sib c).val + b.val, by omega⟩ ⟨6144 * (c.val % 2) + r.val, by omega⟩ rfl
    (by show 6144 * (c.val % 2) + r.val = 6144 - 6144 * ((sib c).val % 2) + r.val; omega)]
  exact (wanted_apply A ⟨c.val / 2, by omega⟩ b ⟨c.val % 2, by omega⟩ r l _ _ _ rfl
    (by show 4 * (sib c).val + b.val = 8 * (c.val / 2) + 4 * (1 - c.val % 2) + b.val; omega) rfl).symm

end Exchange.Swap

end
-- ==== Proof.Swap.Claims.lean ====
/-
  The claims about the swap: its frames, and its values against the reference's.
-/
module

public import proofs.«01_k».proof.Defs
public import proofs.«01_k».proof.Proof.Gen.Swap
public import proofs.«01_k».proof.Proof.Gen.SwapRef
public import proofs.«01_k».proof.Proof.Swap.Value

@[expose] public section

noncomputable section

namespace Exchange.Swap

open Idealize.ShloMosaic Idealize.ShloMosaic.TcCoe Idealize.SL.Sem

variable {F : FTy → Type} [FloatOps F]

/-- The reference ends with its result, its argument unchanged, and no semaphore to be anything but zero. -/
theorem run_ref (m : (ℓ : Loc Cert.SwapRefIdeal.nD Cert.SwapRefIdeal.τ Cert.SwapRefIdeal.sig) → Buf (Elt F) ℓ) (g : Dev Cert.SwapRefIdeal.nD → PrngReg) :
    θ_run (Cert.SwapRefIdeal.defs (F := F)) (onTc (τ := Cert.SwapRefIdeal.τ) (Cert.SwapRefIdeal.main (F := F))) ⟨m, fun _ => 0, g⟩ fun r =>
      (∀ c : Dev Cert.SwapRefIdeal.nD,
        r.2.mem ((c.tc : Thread Cert.SwapRefIdeal.nD Cert.SwapRefIdeal.τ).loc Cert.SwapRefIdeal.main_v8)
            = wanted (m ((c.tc : Thread Cert.SwapRefIdeal.nD Cert.SwapRefIdeal.τ).loc Cert.SwapRefIdeal.main_arg0))
          ∧ r.2.mem ((c.tc : Thread Cert.SwapRefIdeal.nD Cert.SwapRefIdeal.τ).loc Cert.SwapRefIdeal.main_arg0)
            = m ((c.tc : Thread Cert.SwapRefIdeal.nD Cert.SwapRefIdeal.τ).loc Cert.SwapRefIdeal.main_arg0))
      ∧ r.2.sem = fun _ => 0 :=
  (θ_run Cert.SwapRefIdeal.defs _ _).mono (fun r h => ⟨h, funext fun s => ((by decide : ∀ _ : SemLoc Cert.SwapRefIdeal.sig, False) s.2).elim⟩) (Cert.SwapRefIdeal.Value.run m g)

theorem frame : Cert.quiescent_Swap (hSwap := Cert.Swap.Gen.facts) := fun m g _ =>
  (θ_run Cert.SwapIdeal.defs _ _).mono (fun _ h => ⟨fun c => (h.1 c).1, h.2⟩) (run_main (F := Bits) m g)

theorem frame_ideal : Cert.quiescent_SwapIdeal (hSwapIdeal := Cert.SwapIdeal.Gen.facts) := fun m g _ =>
  (θ_run Cert.SwapIdeal.defs _ _).mono (fun _ h => ⟨fun c => (h.1 c).1, h.2⟩) (run_main (F := Ideal) m g)

theorem frame_ref_ideal : Cert.quiescent_SwapRefIdeal (hSwapRefIdeal := Cert.SwapRefIdeal.Gen.facts) := fun m g _ =>
  (θ_run Cert.SwapRefIdeal.defs _ _).mono (fun _ h => ⟨fun c => (h.1 c).2, h.2⟩) (run_ref (F := Ideal) m g)

theorem frame_ref : Cert.quiescent_SwapRef (hSwapRef := Cert.SwapRef.Gen.facts) := fun m g _ =>
  (θ_run Cert.SwapRefIdeal.defs _ _).mono (fun _ h => ⟨fun c => (h.1 c).2, h.2⟩) (run_ref (F := Bits) m g)

theorem algebraic : Cert.algebraic_SwapIdeal_SwapRefIdeal (hSwapIdeal := Cert.SwapIdeal.Gen.facts) (hSwapRefIdeal := Cert.SwapRefIdeal.Gen.facts) :=
  fun m g m' g' _ hA => ⟨wanted (m' (((0 : Dev Cert.SwapRefIdeal.nD).tc : Thread Cert.SwapRefIdeal.nD Cert.SwapRefIdeal.τ).loc Cert.SwapRefIdeal.main_arg0)),
    (θ_run Cert.SwapIdeal.defs _ _).mono (fun _ h c => ⟨(h.1 c).2.trans (received m _ _ _ hA c), (h.1 c).1⟩) (run_main (F := Ideal) m g),
    (θ_run Cert.SwapRefIdeal.defs _ _).mono (fun _ h => h.1 0) (run_ref (F := Ideal) m' g')⟩

theorem bitexact : Cert.bitexact_Swap_SwapRef (hSwap := Cert.Swap.Gen.facts) (hSwapRef := Cert.SwapRef.Gen.facts) :=
  fun m g m' g' _ hA => ⟨wanted (m' (((0 : Dev Cert.SwapRefIdeal.nD).tc : Thread Cert.SwapRefIdeal.nD Cert.SwapRefIdeal.τ).loc Cert.SwapRefIdeal.main_arg0)),
    (θ_run Cert.SwapIdeal.defs _ _).mono (fun _ h c => ⟨(h.1 c).2.trans (received m _ _ _ hA c), (h.1 c).1⟩) (run_main (F := Bits) m g),
    (θ_run Cert.SwapRefIdeal.defs _ _).mono (fun _ h => h.1 0) (run_ref (F := Bits) m' g')⟩

end Exchange.Swap

end
-- ==== Proof.Scatter.Run.lean ====
/-
  The scatter of blocks over the chips (`scatter_chips`): each device copies its own chip's block in place and sends, to the same core of every
  other chip, that chip's block. Its plan has seven cells: three departures, three arrivals, and the copy inside the device.
-/
module

public import proofs.«01_k».proof.Proof.Zones
public import proofs.«01_k».proof.Proof.Gen.ScatterIdeal.Points
public import proofs.«01_k».proof.Proof.Gen.ScatterIdeal.Launch
public import proofs.«01_k».proof.Proof.Gen.ScatterIdeal.Skeleton

@[expose] public section

noncomputable section

namespace Exchange.Scatter

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.ScatterIdeal Cert.ScatterIdeal.Gen

variable {F : FTy → Type} [FloatOps F]

local notation "𝕄" => MT nD τ sig Unit (Elt F) ℕ (UR sig nD τ) ℕ

/-! ## The devices and the zones of the output -/

def chip (d : Dev nD) : Fin 4 := ⟨d.val / 2, by have : d.val < 8 := d.isLt; omega⟩

/-- The same core of the chip across the first axis, across the second, across both. -/
def near₁ (c : Dev nD) : Dev nD := ⟨k0_dev1 c, k0_dev1_lt c⟩
def near₂ (c : Dev nD) : Dev nD := ⟨k0_dev2 c, k0_dev2_lt c⟩
def near₃ (c : Dev nD) : Dev nD := ⟨k0_dev3 c, k0_dev3_lt c⟩

def near₁E : Dev nD ≃ Dev nD := ⟨near₁, near₁, by unfold Function.LeftInverse; decide +kernel, by unfold Function.RightInverse Function.LeftInverse; decide +kernel⟩
def near₂E : Dev nD ≃ Dev nD := ⟨near₂, near₂, by unfold Function.LeftInverse; decide +kernel, by unfold Function.RightInverse Function.LeftInverse; decide +kernel⟩
def near₃E : Dev nD ≃ Dev nD := ⟨near₃, near₃, by unfold Function.LeftInverse; decide +kernel, by unfold Function.RightInverse Function.LeftInverse; decide +kernel⟩

/-- An entry's block. -/
def key (i : S4x6144x1024.Idx) : Fin 4 := i 0

/-- Zone `t` of device `d`: the blocks from the three other chips, and the own one. -/
def zones (d : Dev nD) : Fin 4 → Finset (Fin 4) := ![{chip (near₁ d)}, {chip (near₂ d)}, {chip (near₃ d)}, {chip d}]

theorem zones_apart (d : Dev nD) : ∀ k t t', k ∈ zones d t → k ∈ zones d t' → t = t' := by revert d; decide +kernel
theorem zones_all (d : Dev nD) : ∀ k, ∃ t, k ∈ zones d t := by revert d; decide +kernel

/-- The device that writes zone `t`, for each device written. -/
def into : Fin 4 → Dev nD ≃ Dev nD := ![near₁E, near₂E, near₃E, Equiv.refl _]

/-! ## The windows -/

/-- The block of the argument, and the block of the output, at `off`. -/
abbrev src (off : Fin 3 → ℕ) (inb : ∀ a, off a + S1x6144x1024.size a ≤ S4x6144x1024.size a) : Memref sig .tc .hbm S6144x1024 .bf16 :=
  ((Memref.whole main_arg0).slice (Rect.unit (s := S4x6144x1024) off S1x6144x1024.size inb) (fun _ => rfl)).squeeze S6144x1024 squeezes_S1x6144x1024_S6144x1024
abbrev win (off : Fin 3 → ℕ) (inb : ∀ a, off a + S1x6144x1024.size a ≤ S4x6144x1024.size a) : Memref sig .tc .hbm S6144x1024 .bf16 :=
  ((Memref.whole main_v1).slice (Rect.unit (s := S4x6144x1024) off S1x6144x1024.size inb) (fun _ => rfl)).squeeze S6144x1024 squeezes_S1x6144x1024_S6144x1024

theorem win_set (off : Fin 3 → ℕ) (inb : ∀ a, off a + S1x6144x1024.size a ≤ S4x6144x1024.size a) (p : Fin 4) (ho : off = ![p.val, 0, 0]) :
    (win off inb).view.set = zone key {p} := by
  ext i
  have hi : (i 1).val < 6144 := (i 1).isLt
  rw [View.set_reshape, View.set_slice_whole, mem_zone, Finset.mem_singleton]
  refine (mem_box (p := p.val) (q := 0) ho i).trans (Iff.trans ?_ (Fin.ext_iff (a := key i) (b := p)).symm)
  show _ ↔ (i 0).val = p.val
  omega

/-! ## What the output ends with -/

variable (m : (ℓ : Loc nD τ sig) → Buf (Elt F) ℓ)

/-- The device of chip `p` with the core of device `c`. -/
def like (c : Dev nD) (p : Fin 4) : Dev nD := ⟨2 * p.val + c.val % 2, by have := p.isLt; show _ < 8; omega⟩

/-- The output of device `c`: from each chip, the block meant for `c`'s own. -/
def final (c : Dev nD) : S4x6144x1024.Idx → Elt F .bf16 :=
  fun i => (m ((Dev.tc (like c (key i)) : Thread nD τ).loc main_arg0) : S4x6144x1024.Idx → Elt F .bf16) (ix3 (chip c) (i 1) (i 2))

/-- Zone `A` of device `d`'s output, with contents `f`. -/
def holds (d : Dev nD) (q : PosShare TreeShare) (A : Finset (Fin 4)) (f : S4x6144x1024.Idx → Elt F .bf16) : sProp 𝕄 :=
  ((d.tc : Thread nD τ).loc main_v1) ↦[zone key A]{q} f

instance holds_storable (d : Dev nD) (q : PosShare TreeShare) (A : Finset (Fin 4)) (f : S4x6144x1024.Idx → Elt F .bf16) :
    BI.Storable (upEmb : UEmb _ (MT nD τ sig Unit (Elt F) ℕ (UR sig nD τ) ℕ)) (holds (F := F) d q A f) := by unfold holds; infer_instance

/-! ## The plan -/

/-- Semaphore `k` of an array of three. -/
abbrev semAt (a : DmaSems sig S3) (k : ℕ) (h : ∀ x, ![k] x + S1.size x ≤ S3.size x) : SemLoc sig :=
  .dma ((a.slice (Rect.unit (s := S3) ![k] S1.size h)).squeeze S_ squeezes_S1_S_).sem

/-- The arrivals: cells 3 to 5. -/
abbrev arrs : Finset (Fin 7) := {3, 4, 5}

/-- The plan: cells 0 to 2 count the departures, cells 3 to 5 the arrivals in the zones 0 to 2, cell 6 the own copy. -/
def plan : Plan nD τ sig (Elt F) where
  K := 7
  sem := ![semAt cc0_scratch0 0 inb_S3_S1_0, semAt cc0_scratch0 1 inb_S3_S1_1, semAt cc0_scratch0 2 inb_S3_S1_2,
    semAt cc0_scratch1 0 inb_S3_S1_0, semAt cc0_scratch1 1 inb_S3_S1_1, semAt cc0_scratch1 2 inb_S3_S1_2, .dma cc0_scratch2.sem]
  inj := by decide +kernel
  sems_scoped := by decide +kernel
  amt _ := (win (k0_off1 0) (k0_off1_inb 0)).view.dmaCredit
  amt_pos _ := View.dmaCredit_pos _ (by decide +kernel)
  tgt := ![Equiv.refl _, Equiv.refl _, Equiv.refl _, near₁E, near₂E, near₃E, Equiv.refl _]
  arr := arrs
  lvl _ := 0
  pay c k := if h : k.val < 3 then iprop(emp) else holds c fullShare (zones c ⟨k.val - 3, by omega⟩) (final m c)
  storable c k := by split <;> infer_instance

/-- The blocks of device `c`, at the share `q`. -/
def keeps (c : Dev nD) (q : PosShare TreeShare) : sProp 𝕄 := ((c.tc : Thread nD τ).loc main_arg0) ↦{q} m ((c.tc : Thread nD τ).loc main_arg0)

/-- The memory that device `c` works with: its blocks, and the zones that it writes. -/
def mem (c : Dev nD) : sProp 𝕄 :=
  iprop(keeps m c fullShare ∗ bigSep Finset.univ fun t => holds (into t c) fullShare (zones (into t c) t) (m (((into t c).tc : Thread nD τ).loc main_v1)))

/-- What it ends with: its blocks as they were, and its output. -/
def res (c : Dev nD) : sProp 𝕄 :=
  iprop(keeps m c fullShare.left ∗ (((c.tc : Thread nD τ).loc main_v1) ↦{fullShare} final m c))

theorem cut (d : Dev nD) (q : PosShare TreeShare) (f : S4x6144x1024.Idx → Elt F .bf16) :
    (((d.tc : Thread nD τ).loc main_v1) ↦{q} f : sProp 𝕄) = bigSep Finset.univ fun t => holds d q (zones d t) f :=
  zone_cut (ℓ := (d.tc : Thread nD τ).loc main_v1) key (zones d) (zones_apart d) (zones_all d) q f

theorem mem_dealt : (bigSep Finset.univ fun c : Dev nD => (unscopedBufs c (fun b => m ((c.tc : Thread nD τ).loc b)) : sProp 𝕄))
    ⊢ bigSep Finset.univ (mem m) := by
  have h1 (c : Dev nD) : (unscopedBufs c (fun b => m ((c.tc : Thread nD τ).loc b)) : sProp 𝕄)
      ⊢ iprop(keeps m c fullShare ∗ bigSep Finset.univ fun t => holds c fullShare (zones c t) (m ((c.tc : Thread nD τ).loc main_v1))) := by
    unfold unscopedBufs
    rw [bigSep_eq_bigSepL_of_eq [main_arg0, main_v1] (by decide) (by decide) _, ← cut]
    exact .rfl
  have h2 := dealt into fun (c : Dev nD) t => (holds c fullShare (zones c t) (m ((c.tc : Thread nD τ).loc main_v1)) : sProp 𝕄)
  refine (bigSep_mono fun c _ => h1 c).trans ?_
  unfold mem
  refine (Entails.of_eq (bigSep_sep' _ _ _)).trans (BIBase.Entails.trans ?_ (Entails.of_eq (bigSep_sep' _ _ _).symm))
  rw [h2]

/-- The shares of its blocks that a device lends: one is kept. -/
theorem lend (c : Dev nD) : (keeps m c fullShare : sProp 𝕄) ⊢ iprop(keeps m c fullShare.left ∗ keeps m c fullShare.right.left ∗ keeps m c fullShare.right.right.left
    ∗ keeps m c fullShare.right.right.right.left ∗ keeps m c fullShare.right.right.right.right) := by
  have h (q : PosShare TreeShare) : (keeps m c q : sProp 𝕄) ⊢ iprop(keeps m c q.left ∗ keeps m c q.right) := halves _ q _
  iintro H
  ihave H := (h _) $$ H
  icases H with ⟨H0, H⟩
  ihave H := (h _) $$ H
  icases H with ⟨H1, H⟩
  ihave H := (h _) $$ H
  icases H with ⟨H2, H⟩
  ihave H := (h _) $$ H
  icases H with ⟨H3, H4⟩
  isplitl [H0]; · iexact H0
  isplitl [H1]; · iexact H1
  isplitl [H2]; · iexact H2
  isplitl [H3] <;> iassumption

/-! ## The steps -/

theorem off₁ (c : Dev nD) : k0_off1 c = ![(chip c).val, 0, 0] := by revert c; decide +kernel

/-- What device `c` writes into device `d`'s output, from the block for `d`'s chip to the block of its own, is what `final` says. -/
theorem lands (c d : Dev nD) (off : Fin 3 → ℕ) (inb : ∀ a, off a + S1x6144x1024.size a ≤ S4x6144x1024.size a) (ho : off = ![(chip d).val, 0, 0])
    (hd : like d (chip c) = c) (x : S6144x1024.Idx) :
    (src off inb).view.read (Elt F) (m ((c.tc : Thread nD τ).loc main_arg0)) x = (win (k0_off1 c) (k0_off1_inb c)).view.read (Elt F) (final m d) x := by
  obtain ⟨r, l, rfl⟩ : ∃ (r : Fin 6144) (l : Fin 1024), x = ix2 r l := ⟨x 0, x 1, eq_ix2 x⟩
  have e1 : (win (k0_off1 c) (k0_off1_inb c)).view.emb (ix2 r l) = ix3 (chip c) r l := box_emb (off₁ c) _ r l _ _ rfl (Nat.zero_add _).symm
  have e2 : (src off inb).view.emb (ix2 r l) = ix3 (chip d) r l := box_emb ho _ r l _ _ rfl (Nat.zero_add _).symm
  show (m ((c.tc : Thread nD τ).loc main_arg0) : S4x6144x1024.Idx → Elt F .bf16) ((src off inb).view.emb (ix2 r l)) = final m d ((win (k0_off1 c) (k0_off1_inb c)).view.emb (ix2 r l))
  rw [e1, e2]
  show _ = (m ((Dev.tc (like d (chip c)) : Thread nD τ).loc main_arg0) : S4x6144x1024.Idx → Elt F .bf16) (ix3 (chip d) r l)
  rw [hd]

/-- Sending another chip its block. -/
theorem send (𝒱 : Variants) (κ : GSem nD τ sig → ℕ) (c d : Dev nD) (kS kR : Fin 7) (t : Fin 4) (hS : (plan m).tgt kS c = c) (hR : (plan m).tgt kR c = d)
    {s s' : Finset (Fin 7)} (hs : kR ∈ s) (hs' : s.erase kR = s') (off : Fin 3 → ℕ) (inb : ∀ a, off a + S1x6144x1024.size a ≤ S4x6144x1024.size a) (ho : off = ![(chip d).val, 0, 0])
    {hsc : (win (k0_off1 c) (k0_off1_inb c)).view.ref.isScScratch = false}
    {sS sem : SemLoc sig} (hsS : (plan m).sem kS = sS) (hsem' : (plan m).sem kR = sem)
    {hsrc : (src off inb).view.WordExact} {hdst : (win (k0_off1 c) (k0_off1_inb c)).view.WordExact} {hsem : DmaTarget.Typed .hbm sem (.remote (d.tc : Thread nD τ) (win (k0_off1 c) (k0_off1_inb c)) sS hsc)}
    {k : PUnit → Prog (TpuEff nD τ sig (Elt F) Λ₀ .tc) PUnit} {q : PosShare TreeShare} {fd : S4x6144x1024.Idx → Elt F .bf16}
    (hN : (win (k0_off1 c) (k0_off1_inb c)).view.amount sem = (plan m).amt kR)
    (hp : (plan m).pay c kS = iprop(emp)) (hp' : (plan m).pay d kR = holds d fullShare (zones d t) (final m d))
    (hz : zones d t = {chip c}) (hd : like d (chip c) = c) (hr : τ.routes (c.tc : Thread nD τ) (d.tc : Thread nD τ) = true) {W : Waits sig Unit} {Q : PUnit → sProp 𝕄} :
    iprop((plan m).records κ ∗ keeps m c q ∗ holds d fullShare (zones d t) fd ∗ owes (c.tc : Thread nD τ) ((plan m).debt s c) W ∗ (plan m).right c kS ∗ (plan m).right c kR)
      ⊢ iprop((((plan m).sure c kS ∗ owes (c.tc : Thread nD τ) ((plan m).debt s' c) W) -∗ wp frame (wpE defs₀ 𝒱 (c.tc : Thread nD τ) none) Set.univ (k ⟨⟩) Q)
          -∗ wp frame (wpE defs₀ 𝒱 (c.tc : Thread nD τ) none) Set.univ (.op (.enqueueDma (src off inb) (.remote (d.tc : Thread nD τ) (win (k0_off1 c) (k0_off1_inb c)) sS hsc) sem hsrc hdst hsem) k) Q) := by
  subst hs'
  have h := (plan m).send_to (k := k) (defs := defs₀ (F := F)) 𝒱 κ c d kS kR hS hR hs (src := src off inb) (dst := win (k0_off1 c) (k0_off1_inb c)) (hsc := hsc) (sS := sS) (sem := sem) hsS hsem'
    (hsrc := hsrc) (hdst := hdst) (hsem := hsem) (q := q) (fs := m ((c.tc : Thread nD τ).loc main_arg0)) (fd := fd) hN rfl
    (by rw [hp]; exact let_go _) (zone key (zones d t)) (by rw [hz]; exact win_set _ _ _ (off₁ c)) (final m d) (lands m c d off inb ho hd)
    (by rw [hp']; exact .rfl) hr (W := W) (Q := Q)
  refine BIBase.Entails.trans ?_ h
  have hk : (keeps m c q : sProp 𝕄) ⊢ ((src off inb).view.loc (c.tc : Thread nD τ) ↦[(src off inb).view.set]{q} (m ((c.tc : Thread nD τ).loc main_arg0))) := part _ q _
  have ho : (holds d fullShare (zones d t) fd : sProp 𝕄) ⊢ ((win (k0_off1 c) (k0_off1_inb c)).view.loc (d.tc : Thread nD τ) ↦[zone key (zones d t)]{fullShare} fd) := .rfl
  iintro ⟨Hrec, Hk, Ho, H⟩
  isplitl [Hrec]; · iexact Hrec
  isplitl [Hk]; · iapply hk; iexact Hk
  isplitl [Ho]; · iapply ho; iexact Ho
  iexact H

/-- The copy of the own block. -/
theorem copy_own (𝒱 : Variants) (κ : GSem nD τ sig → ℕ) (c : Dev nD) {sem : SemLoc sig} (hsem' : (plan m).sem (6 : Fin 7) = sem)
    {hsrc : (src (k0_off1 c) (k0_off1_inb c)).view.WordExact} {hdst : (win (k0_off1 c) (k0_off1_inb c)).view.WordExact}
    {hsem : DmaTarget.Typed (nD := nD) (τ := τ) (p := .tc) .hbm sem (.here (win (k0_off1 c) (k0_off1_inb c)))}
    {k : PUnit → Prog (TpuEff nD τ sig (Elt F) Λ₀ .tc) PUnit} {q : PosShare TreeShare} {fd : S4x6144x1024.Idx → Elt F .bf16}
    (hN : (win (k0_off1 c) (k0_off1_inb c)).view.amount sem = (plan m).amt (6 : Fin 7)) (hp' : (plan m).pay c (6 : Fin 7) = holds c fullShare (zones c 3) (final m c)) {Q : PUnit → sProp 𝕄} :
    iprop((plan m).records κ ∗ keeps m c q ∗ holds c fullShare (zones c 3) fd ∗ (plan m).right c (6 : Fin 7))
      ⊢ iprop(((plan m).sure c (6 : Fin 7) -∗ wp frame (wpE defs₀ 𝒱 (c.tc : Thread nD τ) none) Set.univ (k ⟨⟩) Q)
          -∗ wp frame (wpE defs₀ 𝒱 (c.tc : Thread nD τ) none) Set.univ (.op (.enqueueDma (src (k0_off1 c) (k0_off1_inb c)) (.here (win (k0_off1 c) (k0_off1_inb c))) sem hsrc hdst hsem) k) Q) := by
  have hd : like c (chip c) = c := (by decide +kernel : ∀ c, like c (chip c) = c) c
  have h := (plan m).copy_to (k := k) (defs := defs₀ (F := F)) 𝒱 κ c (6 : Fin 7) rfl (src := src (k0_off1 c) (k0_off1_inb c)) (dst := win (k0_off1 c) (k0_off1_inb c)) (sem := sem) hsem'
    (hsrc := hsrc) (hdst := hdst) (hsem := hsem) (q := q) (fs := m ((c.tc : Thread nD τ).loc main_arg0)) (fd := fd) hN
    (zone key (zones c 3)) (win_set _ _ _ (off₁ c)) (final m c) (lands m c c _ _ (off₁ c) hd) (by rw [hp']; exact .rfl) (Q := Q)
  refine BIBase.Entails.trans ?_ h
  have hk : (keeps m c q : sProp 𝕄) ⊢ ((src (k0_off1 c) (k0_off1_inb c)).view.loc (c.tc : Thread nD τ) ↦[(src (k0_off1 c) (k0_off1_inb c)).view.set]{q} (m ((c.tc : Thread nD τ).loc main_arg0))) := part _ q _
  have ho : (holds c fullShare (zones c 3) fd : sProp 𝕄) ⊢ ((win (k0_off1 c) (k0_off1_inb c)).view.loc (c.tc : Thread nD τ) ↦[zone key (zones c 3)]{fullShare} fd) := .rfl
  iintro ⟨Hrec, Hk, Ho, H⟩
  isplitl [Hrec]; · iexact Hrec
  isplitl [Hk]; · iapply hk; iexact Hk
  isplitl [Ho]; · iapply ho; iexact Ho
  iexact H

/-- What is left to arrive after none, one, two, all of the sends. -/
def left₀ : Fin 4 → Finset (Fin 7) := ![arrs, {4, 5}, {5}, ∅]

/-- One device's run: the own copy, the three sends, and then the waits. -/
theorem run (𝒱 : Variants) (c : Dev nD) (κ : GSem nD τ sig → ℕ) (W : Waits sig Unit) (K : sProp 𝕄) :
    iprop((plan m).records κ ∗ (plan m).start c ∗ mem m c ∗ owes (c.tc : Thread nD τ) ((plan m).debt (plan m).arr c) W
        ∗ ((res m c ∗ (bigSep Finset.univ fun k => (plan m).after c k) ∗ ∃ W', owes (c.tc : Thread nD τ) (0 : CellTallies nD τ sig Unit) W') -∗ |={Set.univ}=> K))
      ⊢ wp frame (wpE defs₀ 𝒱 (c.tc : Thread nD τ) none) Set.univ (bodyAt0 (F := F) t0_0) fun _ => K := by
  have e1 : (bigSep Finset.univ fun k => (plan m).before c k) = iprop((plan m).before c (0 : Fin 7) ∗ (plan m).before c (1 : Fin 7) ∗ (plan m).before c (2 : Fin 7) ∗ (plan m).before c (3 : Fin 7) ∗ (plan m).before c (4 : Fin 7) ∗ (plan m).before c (5 : Fin 7) ∗ (plan m).before c (6 : Fin 7)) :=
    bigSep_eq_bigSepL_of_eq (I := Fin 7) [0, 1, 2, 3, 4, 5, 6] (by decide : (Finset.univ : Finset (Fin 7)) = [0, 1, 2, 3, 4, 5, 6].toFinset) (by decide) _
  have e2 : (bigSep Finset.univ fun k => (plan m).right c k) = iprop((plan m).right c (0 : Fin 7) ∗ (plan m).right c (1 : Fin 7) ∗ (plan m).right c (2 : Fin 7) ∗ (plan m).right c (3 : Fin 7) ∗ (plan m).right c (4 : Fin 7) ∗ (plan m).right c (5 : Fin 7) ∗ (plan m).right c (6 : Fin 7)) :=
    bigSep_eq_bigSepL_of_eq (I := Fin 7) [0, 1, 2, 3, 4, 5, 6] (by decide : (Finset.univ : Finset (Fin 7)) = [0, 1, 2, 3, 4, 5, 6].toFinset) (by decide) _
  have e4 : (bigSep Finset.univ fun k => (plan m).after c k) = iprop((plan m).after c (0 : Fin 7) ∗ (plan m).after c (1 : Fin 7) ∗ (plan m).after c (2 : Fin 7) ∗ (plan m).after c (3 : Fin 7) ∗ (plan m).after c (4 : Fin 7) ∗ (plan m).after c (5 : Fin 7) ∗ (plan m).after c (6 : Fin 7)) :=
    bigSep_eq_bigSepL_of_eq (I := Fin 7) [0, 1, 2, 3, 4, 5, 6] (by decide : (Finset.univ : Finset (Fin 7)) = [0, 1, 2, 3, 4, 5, 6].toFinset) (by decide) _
  have e3 : (bigSep (plan m).arr fun k => (plan m).sure c k) = iprop((plan m).sure c (3 : Fin 7) ∗ (plan m).sure c (4 : Fin 7) ∗ (plan m).sure c (5 : Fin 7)) :=
    bigSep_eq_bigSepL_of_eq (I := Fin 7) [3, 4, 5] (by decide : arrs = [3, 4, 5].toFinset) (by decide) _
  have e5 : (bigSep Finset.univ fun t => holds (into t c) fullShare (zones (into t c) t) (m (((into t c).tc : Thread nD τ).loc main_v1)) : sProp 𝕄)
      = iprop(holds (near₁ c) fullShare (zones (near₁ c) 0) (m (((near₁ c).tc : Thread nD τ).loc main_v1)) ∗ holds (near₂ c) fullShare (zones (near₂ c) 1) (m (((near₂ c).tc : Thread nD τ).loc main_v1)) ∗ holds (near₃ c) fullShare (zones (near₃ c) 2) (m (((near₃ c).tc : Thread nD τ).loc main_v1)) ∗ holds c fullShare (zones c 3) (m ((c.tc : Thread nD τ).loc main_v1))) :=
    bigSep_eq_bigSepL_of_eq (I := Fin 4) [0, 1, 2, 3] (by decide) (by decide) _
  have e6 : (((c.tc : Thread nD τ).loc main_v1) ↦{fullShare} final m c : sProp 𝕄) = iprop(holds c fullShare (zones c 0) (final m c) ∗ holds c fullShare (zones c 1) (final m c) ∗ holds c fullShare (zones c 2) (final m c) ∗ holds c fullShare (zones c 3) (final m c)) :=
    (cut c fullShare (final m c)).trans (bigSep_eq_bigSepL_of_eq (I := Fin 4) [0, 1, 2, 3] (by decide) (by decide) _)
  have hz : (plan m).debt (left₀ 3) c = 0 := rfl
  unfold Plan.start mem res bodyAt0
  rw [e1, e2, e3, e4, e5, e6, cc0_scatter_chips_eq_skeleton]
  unfold cc0_scatter_chips_skel
  rw [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  iintro ⟨#Hrec, ⟨⟨Hb0, Hb1, Hb2, Hb3, Hb4, Hb5, Hb6⟩, ⟨Hr0, Hr1, Hr2, Hr3, Hr4, Hr5, Hr6⟩, Hc3, Hc4, Hc5⟩, ⟨Ha, Ho0, Ho1, Ho2, Ho3⟩, HO, Hk⟩
  ihave Ha := (lend m c) $$ Ha
  icases Ha with ⟨Ha, Hl0, Hl1, Hl2, Hl3⟩
  iapply (copy_own m (k := _) 𝒱 κ c rfl rfl rfl) $$ [Hl3 Ho3 Hr6]
  · isplitr; · iexact Hrec
    isplitl [Hl3]; · iexact Hl3
    isplitl [Ho3] <;> iassumption
  iintro Hc6
  iapply (send m (k := _) 𝒱 κ c (near₁ c) (0 : Fin 7) (3 : Fin 7) 0 rfl rfl (s := left₀ 0) (s' := left₀ 1) (by decide) (by decide)
    (k0_off2 c) (k0_off2_inb c) ((by decide +kernel : ∀ c, k0_off2 c = ![(chip (near₁ c)).val, 0, 0]) c) rfl rfl rfl rfl rfl
    ((by decide +kernel : ∀ c, zones (near₁ c) 0 = {chip c}) c) ((by decide +kernel : ∀ c, like (near₁ c) (chip c) = c) c) (by routes)) $$ [Hl0 Ho0 HO Hr0 Hr3]
  · isplitr; · iexact Hrec
    isplitl [Hl0]; · iexact Hl0
    isplitl [Ho0]; · iexact Ho0
    isplitl [HO]; · iexact HO
    isplitl [Hr0] <;> iassumption
  iintro ⟨Hc0, HO⟩
  iapply (send m (k := _) 𝒱 κ c (near₂ c) (1 : Fin 7) (4 : Fin 7) 1 rfl rfl (s := left₀ 1) (s' := left₀ 2) (by decide) (by decide)
    (k0_off3 c) (k0_off3_inb c) ((by decide +kernel : ∀ c, k0_off3 c = ![(chip (near₂ c)).val, 0, 0]) c) rfl rfl rfl rfl rfl
    ((by decide +kernel : ∀ c, zones (near₂ c) 1 = {chip c}) c) ((by decide +kernel : ∀ c, like (near₂ c) (chip c) = c) c) (by routes)) $$ [Hl1 Ho1 HO Hr1 Hr4]
  · isplitr; · iexact Hrec
    isplitl [Hl1]; · iexact Hl1
    isplitl [Ho1]; · iexact Ho1
    isplitl [HO]; · iexact HO
    isplitl [Hr1] <;> iassumption
  iintro ⟨Hc1, HO⟩
  iapply (send m (k := _) 𝒱 κ c (near₃ c) (2 : Fin 7) (5 : Fin 7) 2 rfl rfl (s := left₀ 2) (s' := left₀ 3) (by decide) (by decide)
    (k0_off4 c) (k0_off4_inb c) ((by decide +kernel : ∀ c, k0_off4 c = ![(chip (near₃ c)).val, 0, 0]) c) rfl rfl rfl rfl rfl
    ((by decide +kernel : ∀ c, zones (near₃ c) 2 = {chip c}) c) ((by decide +kernel : ∀ c, like (near₃ c) (chip c) = c) c) (by routes)) $$ [Hl2 Ho2 HO Hr2 Hr5]
  · isplitr; · iexact Hrec
    isplitl [Hl2]; · iexact Hl2
    isplitl [Ho2]; · iexact Ho2
    isplitl [HO]; · iexact HO
    isplitl [Hr2] <;> iassumption
  iintro ⟨Hc2, HO⟩
  iapply ((plan m).wait (defs := defs₀ (F := F)) 𝒱 κ c (0 : Fin 7) (s := left₀ 3) (fun k h => absurd h (Finset.notMem_empty k)) rfl rfl) $$ [Hc0 HO Hb0]
  · isplitr; · iexact Hrec
    isplitl [Hc0]; · iexact Hc0
    isplitl [HO] <;> iassumption
  iintro ⟨⟨%W0, HO⟩, Ht0, -⟩
  iapply ((plan m).wait (defs := defs₀ (F := F)) 𝒱 κ c (3 : Fin 7) (s := left₀ 3) (fun k h => absurd h (Finset.notMem_empty k)) rfl rfl) $$ [Hc3 HO Hb3]
  · isplitr; · iexact Hrec
    isplitl [Hc3]; · iexact Hc3
    isplitl [HO] <;> iassumption
  iintro ⟨⟨%W3, HO⟩, Ht3, Hf0⟩
  iapply ((plan m).wait (defs := defs₀ (F := F)) 𝒱 κ c (1 : Fin 7) (s := left₀ 3) (fun k h => absurd h (Finset.notMem_empty k)) rfl rfl) $$ [Hc1 HO Hb1]
  · isplitr; · iexact Hrec
    isplitl [Hc1]; · iexact Hc1
    isplitl [HO] <;> iassumption
  iintro ⟨⟨%W1, HO⟩, Ht1, -⟩
  iapply ((plan m).wait (defs := defs₀ (F := F)) 𝒱 κ c (4 : Fin 7) (s := left₀ 3) (fun k h => absurd h (Finset.notMem_empty k)) rfl rfl) $$ [Hc4 HO Hb4]
  · isplitr; · iexact Hrec
    isplitl [Hc4]; · iexact Hc4
    isplitl [HO] <;> iassumption
  iintro ⟨⟨%W4, HO⟩, Ht4, Hf1⟩
  iapply ((plan m).wait (defs := defs₀ (F := F)) 𝒱 κ c (2 : Fin 7) (s := left₀ 3) (fun k h => absurd h (Finset.notMem_empty k)) rfl rfl) $$ [Hc2 HO Hb2]
  · isplitr; · iexact Hrec
    isplitl [Hc2]; · iexact Hc2
    isplitl [HO] <;> iassumption
  iintro ⟨⟨%W2, HO⟩, Ht2, -⟩
  iapply ((plan m).wait (defs := defs₀ (F := F)) 𝒱 κ c (5 : Fin 7) (s := left₀ 3) (fun k h => absurd h (Finset.notMem_empty k)) rfl rfl) $$ [Hc5 HO Hb5]
  · isplitr; · iexact Hrec
    isplitl [Hc5]; · iexact Hc5
    isplitl [HO] <;> iassumption
  iintro ⟨⟨%W5, HO⟩, Ht5, Hf2⟩
  iapply ((plan m).wait (defs := defs₀ (F := F)) 𝒱 κ c (6 : Fin 7) (s := left₀ 3) (fun k h => absurd h (Finset.notMem_empty k)) rfl rfl) $$ [Hc6 HO Hb6]
  · isplitr; · iexact Hrec
    isplitl [Hc6]; · iexact Hc6
    isplitl [HO] <;> iassumption
  iintro ⟨⟨%W6, HO⟩, Ht6, Hf3⟩
  have hq0 : (plan m).pay c (3 : Fin 7) ⊢ holds c fullShare (zones c 0) (final m c) := .rfl
  have hq1 : (plan m).pay c (4 : Fin 7) ⊢ holds c fullShare (zones c 1) (final m c) := .rfl
  have hq2 : (plan m).pay c (5 : Fin 7) ⊢ holds c fullShare (zones c 2) (final m c) := .rfl
  have hq3 : (plan m).pay c (6 : Fin 7) ⊢ holds c fullShare (zones c 3) (final m c) := .rfl
  rw [wp_ret]
  iapply Hk
  isplitl [Ha Hf0 Hf1 Hf2 Hf3]
  · isplitl [Ha]; · iexact Ha
    isplitl [Hf0]; · iapply hq0; iexact Hf0
    isplitl [Hf1]; · iapply hq1; iexact Hf1
    isplitl [Hf2]; · iapply hq2; iexact Hf2
    iapply hq3; iexact Hf3
  isplitl [Ht0 Ht1 Ht2 Ht3 Ht4 Ht5 Ht6]
  · isplitl [Ht0]; · iexact Ht0
    isplitl [Ht1]; · iexact Ht1
    isplitl [Ht2]; · iexact Ht2
    isplitl [Ht3]; · iexact Ht3
    isplitl [Ht4]; · iexact Ht4
    isplitl [Ht5] <;> iassumption
  rw [hz]
  iexists _
  iexact HO

/-- THE PROGRAM: every device ends with the blocks meant for it, its own blocks as they were, every counter at zero. -/
theorem run_main (g : Dev nD → PrngReg) : θ_run (defs (F := F)) (onTc (τ := τ) (main (F := F))) ⟨m, fun _ => 0, g⟩ fun r =>
    (∀ c : Dev nD, r.2.mem ((c.tc : Thread nD τ).loc main_arg0) = m ((c.tc : Thread nD τ).loc main_arg0)
      ∧ r.2.mem ((c.tc : Thread nD τ).loc main_v1) = final m c) ∧ r.2.sem = fun _ => 0 := by
  refine (plan m).θ_run_once pcfgs (fun p => (cfgs p).toPCfg_adm) cellOf_inj 0 (defs₀ (F := F)) Variants.none
    (fun _ => ⟨fun w => w.elim0⟩) ⟨fun w => w.elim0⟩ N_0 main (fun c => rfl) m g (mem m) (res m) (mem_dealt m)
    (fun c κ t W K => run m _ c κ W K)
    (fun c μ => μ.mem ((c.tc : Thread nD τ).loc main_arg0) = m ((c.tc : Thread nD τ).loc main_arg0)
      ∧ μ.mem ((c.tc : Thread nD τ).loc main_v1) = final m c) (fun c s' => ?_) (fun s h hz => ⟨h, ?_⟩)
  · have h1 := fun q f => pointsTo_read_all (Ix := Unit) (Name := ℕ) (U := UR sig nD τ) (Lvl := ℕ) ({()} : Finset Unit) (fun _ => (c.tc : Thread nD τ).loc main_arg0) (fun _ => f) s' q
    have h2 := fun q f => pointsTo_read_all (Ix := Unit) (Name := ℕ) (U := UR sig nD τ) (Lvl := ℕ) ({()} : Finset Unit) (fun _ => (c.tc : Thread nD τ).loc main_v1) (fun _ => f) s' q
    simp only [bigSep_singleton, Finset.mem_singleton, forall_eq] at h1 h2
    unfold res keeps
    iintro ⟨⟨Ha, Ho⟩, HS⟩
    ihave H := (h1 _ _) $$ [Ha HS]
    · isplitl [Ha] <;> iassumption
    icases H with ⟨%e1, HS⟩
    ihave H := (h2 _ _) $$ [Ho HS]
    · isplitl [Ho] <;> iassumption
    icases H with ⟨%e2, HS⟩
    imodintro
    isplitr; · ipureintro; exact ⟨e1 () trivial, e2 () trivial⟩
    iexact HS
  · funext g'
    refine hz g' ?_
    have hs : ∀ sm : SemLoc sig, sm.isScoped .tc = true := by decide
    exact .inr (hs g'.2)

end Exchange.Scatter

end
-- ==== Proof.Scatter.Value.lean ====
/-
  What the two sides of the scatter's value claims hold, entry by entry: the reference's array, and a device's output.
-/
module

public import proofs.«01_k».proof.Proof.Scatter.Run
public import proofs.«01_k».proof.Proof.Gen.ScatterRefIdeal.Run
public import Idealize.ShloMosaic.Lib.ValueIdxRank6
public import Idealize.ShloMosaic.Lib.ValueIdxCore
public import Idealize.ShloMosaic.Lib.Layout
public import Idealize.ShloMosaic.Lib.Pipeline.Value
public import Mathlib.Tactic.Ring

@[expose] public section

noncomputable section

namespace Exchange.Scatter

open Idealize.ShloMosaic Idealize.ShloMosaic.Pipeline Idealize.ShloMosaic.TcCoe Idealize.ShloMosaic.ValueIdx
open Cert.ScatterRefIdeal Cert.ScatterRefIdeal.Facts₀

variable {α : Type} {R L : ℕ}

/-- Chips and blocks exchanged: at chip `p`, core `u`, block `b` of the result is block `p` of chip `b`, core `u`. -/
theorem exchanged_apply (e₁ : (⟨3, ![32, R, L]⟩ : Shape).ShapeCasts ⟨5, ![4, 2, 4, R, L]⟩)
    (e₂ : (⟨5, ![4, 2, 4, R, L]⟩ : Shape).Transposes [2, 1, 0, 3, 4] ⟨5, ![4, 2, 4, R, L]⟩) (e₃ : (⟨5, ![4, 2, 4, R, L]⟩ : Shape).ShapeCasts ⟨3, ![32, R, L]⟩)
    (A : (⟨3, ![32, R, L]⟩ : Shape).Idx → α) (p b : Fin 4) (u : Fin 2) (r : Fin R) (l : Fin L) (x x' : Fin 32)
    (hx : x.val = 8 * p.val + 4 * u.val + b.val) (hx' : x'.val = 8 * b.val + 4 * u.val + p.val) :
    shapeCast ⟨3, ![32, R, L]⟩ (transpose ⟨5, ![4, 2, 4, R, L]⟩ [2, 1, 0, 3, 4] (shapeCast ⟨5, ![4, 2, 4, R, L]⟩ A e₁) e₂) e₃ (ix3 x r l) = A (ix3 x' r l) := by
  refine (shapeCast_apply _ _ _ (ix5 p u b r l) ?_).trans ?_
  · rw [Shape.rowMajor_val_five, Shape.rowMajor_val_three]
    show (((p.val * 2 + u.val) * 4 + b.val) * R + r.val) * L + l.val = (x.val * R + r.val) * L + l.val
    rw [hx]
    ring
  refine (transpose_apply _ _ _ _ (ix5 b u p r l) fun a => ?_).trans ?_
  · match a with | ⟨0, _⟩ => rfl | ⟨1, _⟩ => rfl | ⟨2, _⟩ => rfl | ⟨3, _⟩ => rfl | ⟨4, _⟩ => rfl
  refine shapeCast_apply _ _ _ (ix3 x' r l) ?_
  rw [Shape.rowMajor_val_five, Shape.rowMajor_val_three]
  show (x'.val * R + r.val) * L + l.val = (((b.val * 2 + u.val) * 4 + p.val) * R + r.val) * L + l.val
  rw [hx']
  ring

/-- The reference's result. -/
def wanted (A : S32x6144x1024.Idx → α) : S32x6144x1024.Idx → α :=
  shapeCast _ (transpose S4x2x4x6144x1024 [2, 1, 0, 3, 4] (shapeCast _ A shapeCasts_S32x6144x1024_S4x2x4x6144x1024)
    transposes_S4x2x4x6144x1024_S4x2x4x6144x1024_2_1_0_3_4) shapeCasts_S4x2x4x6144x1024_S32x6144x1024

/-- Where the entry at block `b` of device `c` is in the whole array. -/
theorem place (h : Layout.Tiles ⟨3, ![4, 6144, 1024]⟩ ⟨3, ![32, 6144, 1024]⟩ 0 8) (c : Fin 8) (b : Fin 4) (r : Fin 6144) (l : Fin 1024) (x : Fin 32)
    (hx : x.val = 4 * c.val + b.val) : h.idx c (ix3 b r l) = ix3 x r l := by
  funext a
  refine Fin.ext ?_
  rw [Layout.Tiles.idx_val]
  match a with
  | ⟨0, _⟩ =>
    refine (if_pos rfl).trans ?_
    show c.val * 4 + b.val = x.val
    omega
  | ⟨1, _⟩ => exact if_neg (show ¬(1 : ℕ) = 0 by decide)
  | ⟨2, _⟩ => exact if_neg (show ¬(2 : ℕ) = 0 by decide)

/-- What device `c` ends with is block `c` of the reference's result. -/
theorem received {F : FTy → Type} [FloatOps F] (m : (ℓ : Loc Cert.ScatterIdeal.nD Cert.ScatterIdeal.τ Cert.ScatterIdeal.sig) → Buf (Elt F) ℓ)
    (A : S32x6144x1024.Idx → Elt F .bf16) (h h' : Layout.Tiles ⟨3, ![4, 6144, 1024]⟩ ⟨3, ![32, 6144, 1024]⟩ 0 8)
    (hA : ∀ c : Dev Cert.ScatterIdeal.nD, m ((c.tc : Thread Cert.ScatterIdeal.nD Cert.ScatterIdeal.τ).loc Cert.ScatterIdeal.main_arg0)
      = Layout.block ⟨3, ![4, 6144, 1024]⟩ ⟨3, ![32, 6144, 1024]⟩ 0 8 c A h) (c : Dev Cert.ScatterIdeal.nD) :
    final m c = Layout.block ⟨3, ![4, 6144, 1024]⟩ ⟨3, ![32, 6144, 1024]⟩ 0 8 c (wanted A) h' := by
  funext i
  obtain ⟨b, r, l, rfl⟩ : ∃ (b : Fin 4) (r : Fin 6144) (l : Fin 1024), i = ix3 b r l := ⟨i 0, i 1, i 2, eq_ix3 i⟩
  have hc : c.val < 8 := c.isLt
  have hb : b.val < 4 := b.isLt
  show (m ((Dev.tc (like c b) : Thread Cert.ScatterIdeal.nD Cert.ScatterIdeal.τ).loc Cert.ScatterIdeal.main_arg0) : Cert.ScatterIdeal.S4x6144x1024.Idx → Elt F .bf16) (ix3 (chip c) r l) = _
  rw [hA (like c b), Layout.block_apply, Layout.block_apply,
    place h (like c b) (chip c) r l ⟨8 * b.val + 4 * (c.val % 2) + c.val / 2, by omega⟩
      (by show 8 * b.val + 4 * (c.val % 2) + c.val / 2 = 4 * (2 * b.val + c.val % 2) + c.val / 2; omega),
    place h' c b r l ⟨8 * (c.val / 2) + 4 * (c.val % 2) + b.val, by omega⟩ (by show 8 * (c.val / 2) + 4 * (c.val % 2) + b.val = 4 * c.val + b.val; omega)]
  exact (exchanged_apply _ _ _ A ⟨c.val / 2, by omega⟩ b ⟨c.val % 2, by omega⟩ r l _ _ rfl rfl).symm

end Exchange.Scatter

end
-- ==== Proof.Scatter.Claims.lean ====
/-
  The claims about the scatter: its frames, and its values against the reference's.
-/
module

public import proofs.«01_k».proof.Defs
public import proofs.«01_k».proof.Proof.Gen.Scatter
public import proofs.«01_k».proof.Proof.Gen.ScatterRef
public import proofs.«01_k».proof.Proof.Scatter.Value

@[expose] public section

noncomputable section

namespace Exchange.Scatter

open Idealize.ShloMosaic Idealize.ShloMosaic.TcCoe Idealize.SL.Sem

variable {F : FTy → Type} [FloatOps F]

/-- The reference ends with its result, its argument unchanged, and no semaphore to be anything but zero. -/
theorem run_ref (m : (ℓ : Loc Cert.ScatterRefIdeal.nD Cert.ScatterRefIdeal.τ Cert.ScatterRefIdeal.sig) → Buf (Elt F) ℓ) (g : Dev Cert.ScatterRefIdeal.nD → PrngReg) :
    θ_run (Cert.ScatterRefIdeal.defs (F := F)) (onTc (τ := Cert.ScatterRefIdeal.τ) (Cert.ScatterRefIdeal.main (F := F))) ⟨m, fun _ => 0, g⟩ fun r =>
      (∀ c : Dev Cert.ScatterRefIdeal.nD,
        r.2.mem ((c.tc : Thread Cert.ScatterRefIdeal.nD Cert.ScatterRefIdeal.τ).loc Cert.ScatterRefIdeal.main_v2)
            = wanted (m ((c.tc : Thread Cert.ScatterRefIdeal.nD Cert.ScatterRefIdeal.τ).loc Cert.ScatterRefIdeal.main_arg0))
          ∧ r.2.mem ((c.tc : Thread Cert.ScatterRefIdeal.nD Cert.ScatterRefIdeal.τ).loc Cert.ScatterRefIdeal.main_arg0)
            = m ((c.tc : Thread Cert.ScatterRefIdeal.nD Cert.ScatterRefIdeal.τ).loc Cert.ScatterRefIdeal.main_arg0))
      ∧ r.2.sem = fun _ => 0 :=
  (θ_run Cert.ScatterRefIdeal.defs _ _).mono (fun r h => ⟨h, funext fun s => ((by decide : ∀ _ : SemLoc Cert.ScatterRefIdeal.sig, False) s.2).elim⟩) (Cert.ScatterRefIdeal.Value.run m g)

theorem frame : Cert.quiescent_Scatter (hScatter := Cert.Scatter.Gen.facts) := fun m g _ =>
  (θ_run Cert.ScatterIdeal.defs _ _).mono (fun _ h => ⟨fun c => (h.1 c).1, h.2⟩) (run_main (F := Bits) m g)

theorem frame_ideal : Cert.quiescent_ScatterIdeal (hScatterIdeal := Cert.ScatterIdeal.Gen.facts) := fun m g _ =>
  (θ_run Cert.ScatterIdeal.defs _ _).mono (fun _ h => ⟨fun c => (h.1 c).1, h.2⟩) (run_main (F := Ideal) m g)

theorem frame_ref_ideal : Cert.quiescent_ScatterRefIdeal (hScatterRefIdeal := Cert.ScatterRefIdeal.Gen.facts) := fun m g _ =>
  (θ_run Cert.ScatterRefIdeal.defs _ _).mono (fun _ h => ⟨fun c => (h.1 c).2, h.2⟩) (run_ref (F := Ideal) m g)

theorem frame_ref : Cert.quiescent_ScatterRef (hScatterRef := Cert.ScatterRef.Gen.facts) := fun m g _ =>
  (θ_run Cert.ScatterRefIdeal.defs _ _).mono (fun _ h => ⟨fun c => (h.1 c).2, h.2⟩) (run_ref (F := Bits) m g)

theorem algebraic : Cert.algebraic_ScatterIdeal_ScatterRefIdeal (hScatterIdeal := Cert.ScatterIdeal.Gen.facts) (hScatterRefIdeal := Cert.ScatterRefIdeal.Gen.facts) :=
  fun m g m' g' _ hA => ⟨wanted (m' (((0 : Dev Cert.ScatterRefIdeal.nD).tc : Thread Cert.ScatterRefIdeal.nD Cert.ScatterRefIdeal.τ).loc Cert.ScatterRefIdeal.main_arg0)),
    (θ_run Cert.ScatterIdeal.defs _ _).mono (fun _ h c => ⟨(h.1 c).2.trans (received m _ _ _ hA c), (h.1 c).1⟩) (run_main (F := Ideal) m g),
    (θ_run Cert.ScatterRefIdeal.defs _ _).mono (fun _ h => h.1 0) (run_ref (F := Ideal) m' g')⟩

theorem bitexact : Cert.bitexact_Scatter_ScatterRef (hScatter := Cert.Scatter.Gen.facts) (hScatterRef := Cert.ScatterRef.Gen.facts) :=
  fun m g m' g' _ hA => ⟨wanted (m' (((0 : Dev Cert.ScatterRefIdeal.nD).tc : Thread Cert.ScatterRefIdeal.nD Cert.ScatterRefIdeal.τ).loc Cert.ScatterRefIdeal.main_arg0)),
    (θ_run Cert.ScatterIdeal.defs _ _).mono (fun _ h c => ⟨(h.1 c).2.trans (received m _ _ _ hA c), (h.1 c).1⟩) (run_main (F := Bits) m g),
    (θ_run Cert.ScatterRefIdeal.defs _ _).mono (fun _ h => h.1 0) (run_ref (F := Bits) m' g')⟩

end Exchange.Scatter

end
-- ==== Proof.Join.Run.lean ====
/-
  The join of halves (`join_halves`): each device copies its rows into its own place of its output and sends them to the same place of its
  sibling's. Its plan has three cells: the departure, the arrival, and the copy inside the device.
-/
module

public import proofs.«01_k».proof.Proof.Zones
public import proofs.«01_k».proof.Proof.Gen.JoinIdeal.Points
public import proofs.«01_k».proof.Proof.Gen.JoinIdeal.Launch
public import proofs.«01_k».proof.Proof.Gen.JoinIdeal.Skeleton

@[expose] public section

noncomputable section

namespace Exchange.Join

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.JoinIdeal Cert.JoinIdeal.Gen

variable {F : FTy → Type} [FloatOps F]

local notation "𝕄" => MT nD τ sig Unit (Elt F) ℕ (UR sig nD τ) ℕ

/-! ## The devices and the zones of the output -/

def core (d : Dev nD) : Fin 2 := ⟨d.val % 2, by omega⟩

/-- The device with core `p` on the chip of device `c`; the other core of the chip. -/
def mate (c : Dev nD) (p : Fin 2) : Dev nD := ⟨2 * (c.val / 2) + p.val, by have : c.val < 8 := c.isLt; have := p.isLt; show _ < 8; omega⟩
def sib (c : Dev nD) : Dev nD := mate c (1 - core c)

def sibE : Dev nD ≃ Dev nD := ⟨sib, sib, by unfold Function.LeftInverse; decide +kernel, by unfold Function.RightInverse Function.LeftInverse; decide +kernel⟩

/-- An entry's place: the core whose rows it is of. -/
def key (i : S2x6144x1024.Idx) : Fin 2 := i 0

/-- Zone `t` of device `d`: the sibling's rows, and the own. -/
def zones (d : Dev nD) : Fin 2 → Finset (Fin 2) := ![{core (sib d)}, {core d}]

theorem zones_apart (d : Dev nD) : ∀ k t t', k ∈ zones d t → k ∈ zones d t' → t = t' := by revert d; decide +kernel
theorem zones_all (d : Dev nD) : ∀ k, ∃ t, k ∈ zones d t := by revert d; decide +kernel

/-- The device that writes zone `t`, for each device written. -/
def into : Fin 2 → Dev nD ≃ Dev nD := ![sibE, Equiv.refl _]

/-! ## The windows -/

/-- A device's rows, and the place of the output at `off`. -/
abbrev own : Memref sig .tc .hbm S6144x1024 .f32 := Memref.whole main_arg0
abbrev win (off : Fin 3 → ℕ) (inb : ∀ a, off a + S1x6144x1024.size a ≤ S2x6144x1024.size a) : Memref sig .tc .hbm S6144x1024 .f32 :=
  ((Memref.whole main_v1).slice (Rect.unit (s := S2x6144x1024) off S1x6144x1024.size inb) (fun _ => rfl)).squeeze S6144x1024 squeezes_S1x6144x1024_S6144x1024

theorem win_set (off : Fin 3 → ℕ) (inb : ∀ a, off a + S1x6144x1024.size a ≤ S2x6144x1024.size a) (p : Fin 2) (ho : off = ![p.val, 0, 0]) :
    (win off inb).view.set = zone key {p} := by
  ext i
  have hi : (i 1).val < 6144 := (i 1).isLt
  rw [View.set_reshape, View.set_slice_whole, mem_zone, Finset.mem_singleton]
  refine (mem_box (p := p.val) (q := 0) ho i).trans (Iff.trans ?_ (Fin.ext_iff (a := key i) (b := p)).symm)
  show _ ↔ (i 0).val = p.val
  omega

/-! ## What the output ends with -/

variable (m : (ℓ : Loc nD τ sig) → Buf (Elt F) ℓ)

/-- The output of device `c`: at each place, the rows of that core of its chip. -/
def final (c : Dev nD) : S2x6144x1024.Idx → Elt F .f32 :=
  fun i => (m ((Dev.tc (mate c (key i)) : Thread nD τ).loc main_arg0) : S6144x1024.Idx → Elt F .f32) (ix2 (i 1) (i 2))

/-- Zone `A` of device `d`'s output, with contents `f`. -/
def holds (d : Dev nD) (A : Finset (Fin 2)) (f : S2x6144x1024.Idx → Elt F .f32) : sProp 𝕄 :=
  ((d.tc : Thread nD τ).loc main_v1) ↦[zone key A]{fullShare} f

instance holds_storable (d : Dev nD) (A : Finset (Fin 2)) (f : S2x6144x1024.Idx → Elt F .f32) :
    BI.Storable (upEmb : UEmb _ (MT nD τ sig Unit (Elt F) ℕ (UR sig nD τ) ℕ)) (holds (F := F) d A f) := by unfold holds; infer_instance

/-! ## The plan -/

/-- The plan: cell 0 counts the departure, cell 1 the arrival in zone 0, cell 2 the own copy. -/
def plan : Plan nD τ sig (Elt F) where
  K := 3
  sem := ![.dma cc0_scratch0.sem, .dma cc0_scratch1.sem, .dma cc0_scratch2.sem]
  inj := by decide +kernel
  sems_scoped := by decide +kernel
  amt _ := (win ![0, 0, 0] inb_S2x6144x1024_S1x6144x1024_0_0_0).view.dmaCredit
  amt_pos _ := View.dmaCredit_pos _ (by decide +kernel)
  tgt := ![Equiv.refl _, sibE, Equiv.refl _]
  arr := ({1} : Finset (Fin 3))
  lvl _ := 0
  pay c k := if h : k.val < 1 then iprop(emp) else holds c (zones c ⟨k.val - 1, by omega⟩) (final m c)
  storable c k := by split <;> infer_instance

/-- The rows of device `c`, at the share `q`. -/
def keeps (c : Dev nD) (q : PosShare TreeShare) : sProp 𝕄 := ((c.tc : Thread nD τ).loc main_arg0) ↦{q} m ((c.tc : Thread nD τ).loc main_arg0)

/-- The memory that device `c` works with: its rows, and the zones that it writes. -/
def mem (c : Dev nD) : sProp 𝕄 :=
  iprop(keeps m c fullShare ∗ bigSep Finset.univ fun t => holds (into t c) (zones (into t c) t) (m (((into t c).tc : Thread nD τ).loc main_v1)))

/-- What it ends with: its rows as they were, and its output. -/
def res (c : Dev nD) : sProp 𝕄 :=
  iprop(keeps m c fullShare.left ∗ (((c.tc : Thread nD τ).loc main_v1) ↦{fullShare} final m c))

theorem cut (d : Dev nD) (f : S2x6144x1024.Idx → Elt F .f32) :
    (((d.tc : Thread nD τ).loc main_v1) ↦{fullShare} f : sProp 𝕄) = bigSep Finset.univ fun t => holds d (zones d t) f :=
  zone_cut (ℓ := (d.tc : Thread nD τ).loc main_v1) key (zones d) (zones_apart d) (zones_all d) fullShare f

theorem mem_dealt : (bigSep Finset.univ fun c : Dev nD => (unscopedBufs c (fun b => m ((c.tc : Thread nD τ).loc b)) : sProp 𝕄))
    ⊢ bigSep Finset.univ (mem m) := by
  have h1 (c : Dev nD) : (unscopedBufs c (fun b => m ((c.tc : Thread nD τ).loc b)) : sProp 𝕄)
      ⊢ iprop(keeps m c fullShare ∗ bigSep Finset.univ fun t => holds c (zones c t) (m ((c.tc : Thread nD τ).loc main_v1))) := by
    unfold unscopedBufs
    rw [bigSep_eq_bigSepL_of_eq [main_arg0, main_v1] (by decide) (by decide) _, ← cut]
    exact .rfl
  have h2 := dealt into fun (c : Dev nD) t => (holds c (zones c t) (m ((c.tc : Thread nD τ).loc main_v1)) : sProp 𝕄)
  refine (bigSep_mono fun c _ => h1 c).trans ?_
  unfold mem
  refine (Entails.of_eq (bigSep_sep' _ _ _)).trans (BIBase.Entails.trans ?_ (Entails.of_eq (bigSep_sep' _ _ _).symm))
  rw [h2]

/-- The shares of its rows that a device lends: one is kept. -/
theorem lend (c : Dev nD) : (keeps m c fullShare : sProp 𝕄) ⊢ iprop(keeps m c fullShare.left ∗ keeps m c fullShare.right.left ∗ keeps m c fullShare.right.right) := by
  have h (q : PosShare TreeShare) : (keeps m c q : sProp 𝕄) ⊢ iprop(keeps m c q.left ∗ keeps m c q.right) := halves _ q _
  iintro H
  ihave H := (h _) $$ H
  icases H with ⟨H0, H⟩
  ihave H := (h _) $$ H
  icases H with ⟨H1, H2⟩
  isplitl [H0]; · iexact H0
  isplitl [H1] <;> iassumption

/-! ## The steps -/

/-- What device `c` writes into its place of device `d`'s output is what `final` says. -/
theorem lands (c d : Dev nD) (off : Fin 3 → ℕ) (inb : ∀ a, off a + S1x6144x1024.size a ≤ S2x6144x1024.size a) (ho : off = ![(core c).val, 0, 0])
    (hd : mate d (core c) = c) (x : S6144x1024.Idx) :
    own.view.read (Elt F) (m ((c.tc : Thread nD τ).loc main_arg0)) x = (win off inb).view.read (Elt F) (final m d) x := by
  obtain ⟨r, l, rfl⟩ : ∃ (r : Fin 6144) (l : Fin 1024), x = ix2 r l := ⟨x 0, x 1, eq_ix2 x⟩
  have e1 : (win off inb).view.emb (ix2 r l) = ix3 (core c) r l := box_emb ho _ r l _ _ rfl (Nat.zero_add _).symm
  show (m ((c.tc : Thread nD τ).loc main_arg0) : S6144x1024.Idx → Elt F .f32) (ix2 r l) = final m d ((win off inb).view.emb (ix2 r l))
  rw [e1]
  show _ = (m ((Dev.tc (mate d (core c)) : Thread nD τ).loc main_arg0) : S6144x1024.Idx → Elt F .f32) (ix2 r l)
  rw [hd]

/-- What one device does, with `off` the place of its core and `d` its sibling: the two copies, and the three waits. -/
theorem branch (𝒱 : Variants) (c d : Dev nD) (hd : d = sib c) (off : Fin 3 → ℕ) (inb : ∀ a, off a + S1x6144x1024.size a ≤ S2x6144x1024.size a)
    (ho : off = ![(core c).val, 0, 0]) {h1 h4 h8 h9 h11 : own.view.WordExact} {h2 h5 h7 h10 h12 : (win off inb).view.WordExact}
    {h3 : DmaTarget.Typed (nD := nD) (τ := τ) (p := .tc) .hbm (.dma cc0_scratch2.sem) (.here (win off inb))} {hsc : (win off inb).view.ref.isScScratch = false}
    {h6 : DmaTarget.Typed .hbm (.dma cc0_scratch1.sem) (.remote (d.tc : Thread nD τ) (win off inb) (.dma cc0_scratch0.sem) hsc)}
    (κ : GSem nD τ sig → ℕ) (W : Waits sig Unit) (K : sProp 𝕄) :
    iprop((plan m).records κ ∗ (plan m).start c ∗ mem m c ∗ owes (c.tc : Thread nD τ) ((plan m).debt (plan m).arr c) W
        ∗ ((res m c ∗ (bigSep Finset.univ fun k => (plan m).after c k) ∗ ∃ W', owes (c.tc : Thread nD τ) (0 : CellTallies nD τ sig Unit) W') -∗ |={Set.univ}=> K))
      ⊢ wp frame (wpE defs₀ 𝒱 (c.tc : Thread nD τ) none) Set.univ
          ((.op (.enqueueDma own (.here (win off inb)) (.dma cc0_scratch2.sem) h1 h2 h3) fun _ =>
            .op (.enqueueDma own (.remote (d.tc : Thread nD τ) (win off inb) (.dma cc0_scratch0.sem) hsc) (.dma cc0_scratch1.sem) h4 h5 h6) fun _ =>
            .op (.waitDma2 cc0_scratch0.sem (win off inb) own h7 h8) fun _ =>
            .op (.waitDma2 cc0_scratch1.sem own (win off inb) h9 h10) fun _ =>
            .op (.waitDma2 cc0_scratch2.sem own (win off inb) h11 h12) fun _ => .ret ⟨⟩ : Prog (TpuEff nD τ sig (Elt F) Λ₀ .tc) PUnit)) fun _ => K := by
  subst hd
  have e1 : (bigSep Finset.univ fun k => (plan m).before c k) = iprop((plan m).before c (0 : Fin 3) ∗ (plan m).before c (1 : Fin 3) ∗ (plan m).before c (2 : Fin 3)) :=
    bigSep_eq_bigSepL_of_eq (I := Fin 3) [0, 1, 2] (by decide : (Finset.univ : Finset (Fin 3)) = [0, 1, 2].toFinset) (by decide) _
  have e2 : (bigSep Finset.univ fun k => (plan m).right c k) = iprop((plan m).right c (0 : Fin 3) ∗ (plan m).right c (1 : Fin 3) ∗ (plan m).right c (2 : Fin 3)) :=
    bigSep_eq_bigSepL_of_eq (I := Fin 3) [0, 1, 2] (by decide : (Finset.univ : Finset (Fin 3)) = [0, 1, 2].toFinset) (by decide) _
  have e4 : (bigSep Finset.univ fun k => (plan m).after c k) = iprop((plan m).after c (0 : Fin 3) ∗ (plan m).after c (1 : Fin 3) ∗ (plan m).after c (2 : Fin 3)) :=
    bigSep_eq_bigSepL_of_eq (I := Fin 3) [0, 1, 2] (by decide : (Finset.univ : Finset (Fin 3)) = [0, 1, 2].toFinset) (by decide) _
  have e3 : (bigSep (plan m).arr fun k => (plan m).sure c k) = (plan m).sure c (1 : Fin 3) := bigSep_singleton
  have e5 : (bigSep Finset.univ fun t => holds (into t c) (zones (into t c) t) (m (((into t c).tc : Thread nD τ).loc main_v1)) : sProp 𝕄)
      = iprop(holds (sib c) (zones (sib c) 0) (m (((sib c).tc : Thread nD τ).loc main_v1)) ∗ holds c (zones c 1) (m ((c.tc : Thread nD τ).loc main_v1))) := bigSep_fin_two _
  have e6 : (((c.tc : Thread nD τ).loc main_v1) ↦{fullShare} final m c : sProp 𝕄) = iprop(holds c (zones c 0) (final m c) ∗ holds c (zones c 1) (final m c)) :=
    (cut c (final m c)).trans (bigSep_fin_two _)
  have hset : zones (sib c) 0 = {core c} := (by decide +kernel : ∀ c, zones (sib c) 0 = {core c}) c
  have hcopy := fun k : PUnit → Prog (TpuEff nD τ sig (Elt F) Λ₀ .tc) PUnit => (plan m).copy_to (k := k) (defs := defs₀ (F := F)) 𝒱 κ c (2 : Fin 3) rfl (src := own) (dst := win off inb) (sem := .dma cc0_scratch2.sem) rfl
    (hsrc := h1) (hdst := h2) (hsem := h3) (q := fullShare.right.right) (fs := m ((c.tc : Thread nD τ).loc main_arg0)) (fd := m ((c.tc : Thread nD τ).loc main_v1)) rfl
    (zone key (zones c 1)) (win_set off inb _ ho) (final m c) (lands m c c off inb ho ((by decide +kernel : ∀ c, mate c (core c) = c) c)) .rfl (Q := fun _ => K)
  have hsend := fun k : PUnit → Prog (TpuEff nD τ sig (Elt F) Λ₀ .tc) PUnit => (plan m).send_to (k := k) (defs := defs₀ (F := F)) 𝒱 κ c (sib c) (0 : Fin 3) (1 : Fin 3) rfl rfl (s := (plan m).arr) (Finset.mem_singleton_self _)
    (src := own) (dst := win off inb) (hsc := hsc) (sS := .dma cc0_scratch0.sem) (sem := .dma cc0_scratch1.sem) rfl rfl
    (hsrc := h4) (hdst := h5) (hsem := h6) (q := fullShare.right.left) (fs := m ((c.tc : Thread nD τ).loc main_arg0)) (fd := m (((sib c).tc : Thread nD τ).loc main_v1)) rfl rfl
    (let_go _) (zone key (zones (sib c) 0)) (by rw [hset]; exact win_set off inb _ ho) (final m (sib c)) (lands m c (sib c) off inb ho ((by decide +kernel : ∀ c, mate (sib c) (core c) = c) c))
    .rfl (by routes) (W := W) (Q := fun _ => K)
  have hD : (plan m).debt ((plan m).arr.erase (1 : Fin 3)) c = (plan m).debt ∅ c :=
    congrArg (fun s => (plan m).debt s c) (show ({1} : Finset (Fin 3)).erase 1 = ∅ by decide)
  have hz : (plan m).debt ∅ c = 0 := rfl
  simp only [hD] at hsend
  have hk (q : PosShare TreeShare) : (keeps m c q : sProp 𝕄) ⊢ (own.view.loc (c.tc : Thread nD τ) ↦[own.view.set]{q} (m ((c.tc : Thread nD τ).loc main_arg0))) := part _ q _
  have ho (d : Dev nD) (A : Finset (Fin 2)) (f : S2x6144x1024.Idx → Elt F .f32) : (holds d A f : sProp 𝕄) ⊢ ((win off inb).view.loc (d.tc : Thread nD τ) ↦[zone key A]{fullShare} f) := .rfl
  have hp0 : (plan m).pay c (1 : Fin 3) ⊢ holds c (zones c 0) (final m c) := .rfl
  have hp1 : (plan m).pay c (2 : Fin 3) ⊢ holds c (zones c 1) (final m c) := .rfl
  unfold Plan.start mem res
  rw [e1, e2, e3, e4, e5, e6]
  iintro ⟨#Hrec, ⟨⟨Hb0, Hb1, Hb2⟩, ⟨Hr0, Hr1, Hr2⟩, Hc1⟩, ⟨Ha, Ho0, Ho1⟩, HO, Hk⟩
  ihave Ha := (lend m c) $$ Ha
  icases Ha with ⟨Ha, Hl0, Hl1⟩
  iapply (hcopy _) $$ [Hl1 Ho1 Hr2]
  · isplitr; · iexact Hrec
    isplitl [Hl1]; · iapply (hk _); iexact Hl1
    isplitl [Ho1]; · iapply (ho _ _ _); iexact Ho1
    iexact Hr2
  iintro Hc2
  iapply (hsend _) $$ [Hl0 Ho0 HO Hr0 Hr1]
  · isplitr; · iexact Hrec
    isplitl [Hl0]; · iapply (hk _); iexact Hl0
    isplitl [Ho0]; · iapply (ho _ _ _); iexact Ho0
    isplitl [HO]; · iexact HO
    isplitl [Hr0] <;> iassumption
  iintro ⟨Hc0, HO⟩
  iapply ((plan m).wait (defs := defs₀ (F := F)) 𝒱 κ c (0 : Fin 3) (s := ∅) (fun k h => absurd h (Finset.notMem_empty k)) rfl rfl) $$ [Hc0 HO Hb0]
  · isplitr; · iexact Hrec
    isplitl [Hc0]; · iexact Hc0
    isplitl [HO] <;> iassumption
  iintro ⟨⟨%W1, HO⟩, Ht0, -⟩
  iapply ((plan m).wait (defs := defs₀ (F := F)) 𝒱 κ c (1 : Fin 3) (s := ∅) (fun k h => absurd h (Finset.notMem_empty k)) rfl rfl) $$ [Hc1 HO Hb1]
  · isplitr; · iexact Hrec
    isplitl [Hc1]; · iexact Hc1
    isplitl [HO] <;> iassumption
  iintro ⟨⟨%W2, HO⟩, Ht1, Hf0⟩
  iapply ((plan m).wait (defs := defs₀ (F := F)) 𝒱 κ c (2 : Fin 3) (s := ∅) (fun k h => absurd h (Finset.notMem_empty k)) rfl rfl) $$ [Hc2 HO Hb2]
  · isplitr; · iexact Hrec
    isplitl [Hc2]; · iexact Hc2
    isplitl [HO] <;> iassumption
  iintro ⟨HO, Ht2, Hf1⟩
  rw [wp_ret]
  iapply Hk
  isplitl [Ha Hf0 Hf1]
  · isplitl [Ha]; · iexact Ha
    isplitl [Hf0]
    · iapply hp0; iexact Hf0
    iapply hp1; iexact Hf1
  isplitl [Ht0 Ht1 Ht2]
  · isplitl [Ht0]; · iexact Ht0
    isplitl [Ht1] <;> iassumption
  rw [hz]
  iexact HO

/-- One device's run: the branch of its core. -/
theorem run (𝒱 : Variants) (c : Dev nD) (κ : GSem nD τ sig → ℕ) (W : Waits sig Unit) (K : sProp 𝕄) :
    iprop((plan m).records κ ∗ (plan m).start c ∗ mem m c ∗ owes (c.tc : Thread nD τ) ((plan m).debt (plan m).arr c) W
        ∗ ((res m c ∗ (bigSep Finset.univ fun k => (plan m).after c k) ∗ ∃ W', owes (c.tc : Thread nD τ) (0 : CellTallies nD τ sig Unit) W') -∗ |={Set.univ}=> K))
      ⊢ wp frame (wpE defs₀ 𝒱 (c.tc : Thread nD τ) none) Set.univ (bodyAt0 (F := F) t0_0) fun _ => K := by
  unfold bodyAt0
  rw [cc0_join_halves_eq_skeleton]
  unfold cc0_join_halves_skel
  simp only [Prog.lift, Prog.bind_op, Prog.bind_ret, Prog.pure_eq_ret, wp_deviceId]
  rcases (by decide +kernel : ∀ c, (k0_cond1 c = 1#1 ∧ ¬ k0_cond2 c = 1#1 ∧ core c = 0) ∨ (¬ k0_cond1 c = 1#1 ∧ k0_cond2 c = 1#1 ∧ core c = 1)) c with ⟨h1, h2, h⟩ | ⟨h1, h2, h⟩
  · rw [dif_pos h1, dif_neg h2]
    exact branch m 𝒱 c ⟨k0_dev1 c, k0_dev1_lt c h1⟩ ((by decide +kernel : ∀ c (h : k0_cond1 c = 1#1), (⟨k0_dev1 c, k0_dev1_lt c h⟩ : Dev nD) = sib c) c h1)
      ![0, 0, 0] inb_S2x6144x1024_S1x6144x1024_0_0_0 (by rw [h]; rfl) κ W K
  · rw [dif_neg h1, dif_pos h2]
    exact branch m 𝒱 c ⟨k0_dev2 c, k0_dev2_lt c h2⟩ ((by decide +kernel : ∀ c (h : k0_cond2 c = 1#1), (⟨k0_dev2 c, k0_dev2_lt c h⟩ : Dev nD) = sib c) c h2)
      ![1, 0, 0] inb_S2x6144x1024_S1x6144x1024_1_0_0 (by rw [h]; rfl) κ W K

/-- THE PROGRAM: every device ends with the rows of both cores of its chip, its own as they were, every counter at zero. -/
theorem run_main (g : Dev nD → PrngReg) : θ_run (defs (F := F)) (onTc (τ := τ) (main (F := F))) ⟨m, fun _ => 0, g⟩ fun r =>
    (∀ c : Dev nD, r.2.mem ((c.tc : Thread nD τ).loc main_arg0) = m ((c.tc : Thread nD τ).loc main_arg0)
      ∧ r.2.mem ((c.tc : Thread nD τ).loc main_v1) = final m c) ∧ r.2.sem = fun _ => 0 := by
  refine (plan m).θ_run_once pcfgs (fun p => (cfgs p).toPCfg_adm) cellOf_inj 0 (defs₀ (F := F)) Variants.none
    (fun _ => ⟨fun w => w.elim0⟩) ⟨fun w => w.elim0⟩ N_0 main (fun c => rfl) m g (mem m) (res m) (mem_dealt m)
    (fun c κ t W K => run m _ c κ W K)
    (fun c μ => μ.mem ((c.tc : Thread nD τ).loc main_arg0) = m ((c.tc : Thread nD τ).loc main_arg0)
      ∧ μ.mem ((c.tc : Thread nD τ).loc main_v1) = final m c) (fun c s' => ?_) (fun s h hz => ⟨h, ?_⟩)
  · have h1 := fun q f => pointsTo_read_all (Ix := Unit) (Name := ℕ) (U := UR sig nD τ) (Lvl := ℕ) ({()} : Finset Unit) (fun _ => (c.tc : Thread nD τ).loc main_arg0) (fun _ => f) s' q
    have h2 := fun q f => pointsTo_read_all (Ix := Unit) (Name := ℕ) (U := UR sig nD τ) (Lvl := ℕ) ({()} : Finset Unit) (fun _ => (c.tc : Thread nD τ).loc main_v1) (fun _ => f) s' q
    simp only [bigSep_singleton, Finset.mem_singleton, forall_eq] at h1 h2
    unfold res keeps
    iintro ⟨⟨Ha, Ho⟩, HS⟩
    ihave H := (h1 _ _) $$ [Ha HS]
    · isplitl [Ha] <;> iassumption
    icases H with ⟨%e1, HS⟩
    ihave H := (h2 _ _) $$ [Ho HS]
    · isplitl [Ho] <;> iassumption
    icases H with ⟨%e2, HS⟩
    imodintro
    isplitr; · ipureintro; exact ⟨e1 () trivial, e2 () trivial⟩
    iexact HS
  · funext g'
    refine hz g' ?_
    have hs : ∀ sm : SemLoc sig, sm.isScoped .tc = true := by decide
    exact .inr (hs g'.2)

end Exchange.Join

end
-- ==== Proof.Join.Value.lean ====
/-
  What the two sides of the join's value claims hold, entry by entry: the reference's array, and a device's output.
-/
module

public import proofs.«01_k».proof.Proof.Join.Run
public import proofs.«01_k».proof.Proof.Gen.JoinRefIdeal.Run
public import proofs.«01_k».proof.Proof.Rows
public import Idealize.ShloMosaic.Lib.Layout
public import Idealize.ShloMosaic.Lib.Pipeline.Value

@[expose] public section

noncomputable section

namespace Exchange.Join

open Idealize.ShloMosaic Idealize.ShloMosaic.Pipeline Idealize.ShloMosaic.TcCoe Idealize.ShloMosaic.ValueIdx
open Cert.JoinRefIdeal Cert.JoinRefIdeal.Facts₀

variable {α : Type}

/-- The reference's result. -/
def wanted (A : S49152x1024.Idx → α) : S8x6144x1024.Idx → α := shapeCast _ A shapeCasts_S49152x1024_S8x6144x1024

/-- The result is cut in one block for each chip. -/
theorem tiles : Layout.TilesN ⟨3, ![2, 6144, 1024]⟩ ⟨3, ![8, 6144, 1024]⟩ fun b => Layout.cutSize [2, 2, 2] (![[0, 1], [], []] b) := by decide

/-- What device `c` ends with is the block of its chip in the reference's result, when the devices hold the blocks of its argument. -/
theorem received {F : FTy → Type} [FloatOps F] (m : (ℓ : Loc Cert.JoinIdeal.nD Cert.JoinIdeal.τ Cert.JoinIdeal.sig) → Buf (Elt F) ℓ)
    (A : S49152x1024.Idx → Elt F .f32) (h : Layout.Tiles ⟨2, ![6144, 1024]⟩ ⟨2, ![49152, 1024]⟩ 0 8)
    (h' : Layout.TilesN ⟨3, ![2, 6144, 1024]⟩ ⟨3, ![8, 6144, 1024]⟩ fun b => Layout.cutSize [2, 2, 2] (![[0, 1], [], []] b))
    (hA : ∀ d : Dev Cert.JoinIdeal.nD, m ((d.tc : Thread Cert.JoinIdeal.nD Cert.JoinIdeal.τ).loc Cert.JoinIdeal.main_arg0)
      = Layout.block ⟨2, ![6144, 1024]⟩ ⟨2, ![49152, 1024]⟩ 0 8 d A h) (c : Dev Cert.JoinIdeal.nD) :
    final m c = Layout.blockN ⟨3, ![2, 6144, 1024]⟩ ⟨3, ![8, 6144, 1024]⟩ (Layout.meshBlock [2, 2, 2] ![[0, 1], [], []] c) (wanted A) := by
  funext i
  obtain ⟨u, r, l, rfl⟩ : ∃ (u : Fin 2) (r : Fin 6144) (l : Fin 1024), i = ix3 u r l := ⟨i 0, i 1, i 2, eq_ix3 i⟩
  have hc : c.val < 8 := c.isLt
  have hu : u.val < 2 := u.isLt
  have hr : r.val < 6144 := r.isLt
  have e1 : h.idx (mate c u) (ix2 r l) = ix2 (⟨6144 * (2 * (c.val / 2) + u.val) + r.val, by omega⟩ : Fin 49152) l := by
    funext a
    refine Fin.ext ?_
    rw [Layout.Tiles.idx_val]
    match a with
    | ⟨0, _⟩ =>
      refine (if_pos rfl).trans ?_
      show (2 * (c.val / 2) + u.val) * 6144 + r.val = 6144 * (2 * (c.val / 2) + u.val) + r.val
      omega
    | ⟨1, _⟩ => exact if_neg (show ¬(1 : ℕ) = 0 by decide)
  have e2 : h'.idx (Layout.meshBlock [2, 2, 2] ![[0, 1], [], []] c) (ix3 u r l) = ix3 (⟨2 * (c.val / 2) + u.val, by omega⟩ : Fin 8) r l := by
    funext a
    refine Fin.ext ?_
    rw [Layout.TilesN.idx_val]
    match a with
    | ⟨0, _⟩ =>
      have e : Layout.meshLin [2, 2, 2] c.val [0, 1] = c.val / 2 := (by decide +kernel : ∀ c : Fin 8, Layout.meshLin [2, 2, 2] c.val [0, 1] = c.val / 2) c
      show Layout.meshLin [2, 2, 2] c.val [0, 1] * 2 + u.val = 2 * (c.val / 2) + u.val
      rw [e, Nat.mul_comm]
    | ⟨1, _⟩ =>
      show 0 * 6144 + r.val = r.val
      omega
    | ⟨2, _⟩ =>
      show 0 * 1024 + l.val = l.val
      omega
  show (m ((Dev.tc (mate c u) : Thread Cert.JoinIdeal.nD Cert.JoinIdeal.τ).loc Cert.JoinIdeal.main_arg0) : Cert.JoinIdeal.S6144x1024.Idx → Elt F .f32) (ix2 r l) = _
  rw [hA (mate c u), Layout.block_apply, Layout.blockN_apply, e1, e2]
  exact (grouped_apply _ A ⟨2 * (c.val / 2) + u.val, by omega⟩ r l _ rfl).symm

end Exchange.Join

end
-- ==== Proof.Join.Claims.lean ====
/-
  The claims about the join: its frames, and its values against the reference's.
-/
module

public import proofs.«01_k».proof.Defs
public import proofs.«01_k».proof.Proof.Gen.Join
public import proofs.«01_k».proof.Proof.Gen.JoinRef
public import proofs.«01_k».proof.Proof.Join.Value

@[expose] public section

noncomputable section

namespace Exchange.Join

open Idealize.ShloMosaic Idealize.ShloMosaic.TcCoe Idealize.SL.Sem

variable {F : FTy → Type} [FloatOps F]

/-- The reference ends with its result, its argument unchanged, and no semaphore to be anything but zero. -/
theorem run_ref (m : (ℓ : Loc Cert.JoinRefIdeal.nD Cert.JoinRefIdeal.τ Cert.JoinRefIdeal.sig) → Buf (Elt F) ℓ) (g : Dev Cert.JoinRefIdeal.nD → PrngReg) :
    θ_run (Cert.JoinRefIdeal.defs (F := F)) (onTc (τ := Cert.JoinRefIdeal.τ) (Cert.JoinRefIdeal.main (F := F))) ⟨m, fun _ => 0, g⟩ fun r =>
      (∀ c : Dev Cert.JoinRefIdeal.nD,
        r.2.mem ((c.tc : Thread Cert.JoinRefIdeal.nD Cert.JoinRefIdeal.τ).loc Cert.JoinRefIdeal.main_v0)
            = wanted (m ((c.tc : Thread Cert.JoinRefIdeal.nD Cert.JoinRefIdeal.τ).loc Cert.JoinRefIdeal.main_arg0))
          ∧ r.2.mem ((c.tc : Thread Cert.JoinRefIdeal.nD Cert.JoinRefIdeal.τ).loc Cert.JoinRefIdeal.main_arg0)
            = m ((c.tc : Thread Cert.JoinRefIdeal.nD Cert.JoinRefIdeal.τ).loc Cert.JoinRefIdeal.main_arg0))
      ∧ r.2.sem = fun _ => 0 :=
  (θ_run Cert.JoinRefIdeal.defs _ _).mono (fun r h => ⟨h, funext fun s => ((by decide : ∀ _ : SemLoc Cert.JoinRefIdeal.sig, False) s.2).elim⟩) (Cert.JoinRefIdeal.Value.run m g)

theorem frame : Cert.quiescent_Join (hJoin := Cert.Join.Gen.facts) := fun m g _ =>
  (θ_run Cert.JoinIdeal.defs _ _).mono (fun _ h => ⟨fun c => (h.1 c).1, h.2⟩) (run_main (F := Bits) m g)

theorem frame_ideal : Cert.quiescent_JoinIdeal (hJoinIdeal := Cert.JoinIdeal.Gen.facts) := fun m g _ =>
  (θ_run Cert.JoinIdeal.defs _ _).mono (fun _ h => ⟨fun c => (h.1 c).1, h.2⟩) (run_main (F := Ideal) m g)

theorem frame_ref_ideal : Cert.quiescent_JoinRefIdeal (hJoinRefIdeal := Cert.JoinRefIdeal.Gen.facts) := fun m g _ =>
  (θ_run Cert.JoinRefIdeal.defs _ _).mono (fun _ h => ⟨fun c => (h.1 c).2, h.2⟩) (run_ref (F := Ideal) m g)

theorem frame_ref : Cert.quiescent_JoinRef (hJoinRef := Cert.JoinRef.Gen.facts) := fun m g _ =>
  (θ_run Cert.JoinRefIdeal.defs _ _).mono (fun _ h => ⟨fun c => (h.1 c).2, h.2⟩) (run_ref (F := Bits) m g)

theorem algebraic : Cert.algebraic_JoinIdeal_JoinRefIdeal (hJoinIdeal := Cert.JoinIdeal.Gen.facts) (hJoinRefIdeal := Cert.JoinRefIdeal.Gen.facts) :=
  fun m g m' g' _ hA => ⟨wanted (m' (((0 : Dev Cert.JoinRefIdeal.nD).tc : Thread Cert.JoinRefIdeal.nD Cert.JoinRefIdeal.τ).loc Cert.JoinRefIdeal.main_arg0)),
    (θ_run Cert.JoinIdeal.defs _ _).mono (fun _ h c => ⟨(h.1 c).2.trans (received m _ _ tiles hA c), (h.1 c).1⟩) (run_main (F := Ideal) m g),
    (θ_run Cert.JoinRefIdeal.defs _ _).mono (fun _ h => h.1 0) (run_ref (F := Ideal) m' g')⟩

theorem bitexact : Cert.bitexact_Join_JoinRef (hJoin := Cert.Join.Gen.facts) (hJoinRef := Cert.JoinRef.Gen.facts) :=
  fun m g m' g' _ hA => ⟨wanted (m' (((0 : Dev Cert.JoinRefIdeal.nD).tc : Thread Cert.JoinRefIdeal.nD Cert.JoinRefIdeal.τ).loc Cert.JoinRefIdeal.main_arg0)),
    (θ_run Cert.JoinIdeal.defs _ _).mono (fun _ h c => ⟨(h.1 c).2.trans (received m _ _ tiles hA c), (h.1 c).1⟩) (run_main (F := Bits) m g),
    (θ_run Cert.JoinRefIdeal.defs _ _).mono (fun _ h => h.1 0) (run_ref (F := Bits) m' g')⟩

end Exchange.Join

end
-- ==== Proof.Total.Sum.lean ====
/-
  The sum of the parts of a stack of arrays: its entries, and the sum as the reference writes it.
-/
module

public import Idealize.ShloMosaic.PureOps.Ideal.Laws
public import Idealize.ShloMosaic.Lib.IdealHost
public import Idealize.ShloMosaic.Lib.Pipeline.Value

@[expose] public section

noncomputable section

namespace Exchange.Total

open Idealize.ShloMosaic Idealize.ShloMosaic.ValueIdx
open scoped BigOperators

variable {n r l : ℕ}

/-- Entry `i` of part `k` of a stack. -/
def part (k : Fin n) (i : (⟨2, ![r, l]⟩ : Shape).Idx) : (⟨3, ![n, r, l]⟩ : Shape).Idx := ix3 k (i 0) (i 1)

/-- The sum of a stack's parts. -/
def total (x : (⟨3, ![n, r, l]⟩ : Shape).Idx → EReal) : (⟨2, ![r, l]⟩ : Shape).Idx → EReal := fun i => ∑ k : Fin n, x (part k i)

/-- An index is part `k`'s entry when its coordinates say so. -/
theorem eq_part {e : (⟨3, ![n, r, l]⟩ : Shape).Idx} {k : Fin n} {i : (⟨2, ![r, l]⟩ : Shape).Idx}
    (h0 : (e 0).val = k.val) (h1 : (e 1).val = (i 0).val) (h2 : (e 2).val = (i 1).val) : e = part k i := by
  funext a
  apply Fin.ext
  match a with
  | ⟨0, _⟩ => exact h0
  | ⟨1, _⟩ => exact h1
  | ⟨2, _⟩ => exact h2

/-- The reference's sum over the leading axis is the sum of the parts. -/
theorem host_total {u : Shape} (h' : (⟨3, ![n, r, l]⟩ : Shape).ReducesTo [0] ⟨2, ![r, l]⟩) (h : (⟨3, ![n, r, l]⟩ : Shape).Reduces [0] ⟨2, ![r, l]⟩)
    (hu : 0 < u.numel) (x : (⟨3, ![n, r, l]⟩ : Shape).Idx → EReal) :
    Host.reduceAdd (F := Ideal) (φ := .f32) x (constant (F := Ideal) u .f32 0x00000000#32) h' hu = total x := by
  funext i
  rw [hostReduceAdd_apply, Ideal.hostReduceAdd_single h' h]
  show Ideal.ofBits .f32 0x00000000#32 + _ = _
  rw [Ideal.ofBits_zero_f32, zero_add]
  refine Finset.sum_congr rfl fun k _ => congrArg x (funext fun a => Fin.ext ?_)
  match a with
  | ⟨0, _⟩ => rfl
  | ⟨1, _⟩ => rfl
  | ⟨2, _⟩ => rfl

end Exchange.Total

end
-- ==== Proof.Total.Chips.lean ====
/-
  The sum over the chips' parts of a gradient: its frames, and its value against the reference's.
-/
module

public import proofs.«01_k».proof.Defs
public import proofs.«01_k».proof.Proof.Gen.Total
public import proofs.«01_k».proof.Proof.Gen.TotalIdeal.Value
public import proofs.«01_k».proof.Proof.Gen.TotalRefIdeal.Run
public import proofs.«01_k».proof.Proof.Total.Sum

@[expose] public section

noncomputable section

namespace Exchange.Total.Chips

open Cert.TotalIdeal Cert.TotalIdeal.Gen Idealize.ShloMosaic Idealize.ShloMosaic.TcCoe Idealize.ShloMosaic.Pipeline Idealize.SL.Sem
open Cert.TotalIdeal.Value (canon4_eq ix4_0 ix4_1 ix4_2 ix4_3)

variable (m : (ℓ : Loc nD τ sig) → Buf (Elt Ideal) ℓ)

/-- The parts, as launched. -/
abbrev parts (c : Dev nD) : S4x6144x1024.Idx → EReal := m ((c.tc : Thread nD τ).loc main_arg0)

/-- The entries of each part that a step reads: those of the rows that it writes. -/
theorem read0 (c : Dev nD) (t : Fin cfg0.N) (y : S512x1024.Idx) : iblk m c 0 t (ix4_0 y) = parts m c (part 0 (((cfg0.win 4).blk t).view.emb y)) :=
  congrArg (parts m c) (eq_part rfl rfl rfl)

theorem read1 (c : Dev nD) (t : Fin cfg0.N) (y : S512x1024.Idx) : iblk m c 1 t (ix4_1 y) = parts m c (part 1 (((cfg0.win 4).blk t).view.emb y)) :=
  congrArg (parts m c) (eq_part rfl rfl rfl)

theorem read2 (c : Dev nD) (t : Fin cfg0.N) (y : S512x1024.Idx) : iblk m c 2 t (ix4_2 y) = parts m c (part 2 (((cfg0.win 4).blk t).view.emb y)) :=
  congrArg (parts m c) (eq_part rfl rfl rfl)

theorem read3 (c : Dev nD) (t : Fin cfg0.N) (y : S512x1024.Idx) : iblk m c 3 t (ix4_3 y) = parts m c (part 3 (((cfg0.win 4).blk t).view.emb y)) :=
  congrArg (parts m c) (eq_part rfl rfl rfl)

/-- A step writes its rows of the sum. -/
theorem flushed (c : Dev nD) (t : Fin cfg0.N) :
    (dats m 0 c).flushed 4 t = ((cfg0.win 4).blk t).view.read (Elt Ideal) (total (parts m c)) := by
  show (cfg0.win 4).cut (grid0.coords t) ((dats m 0 c).after 4 t) = _
  rw [after0_4]
  funext y
  refine (canon4_eq ..).trans ?_
  refine Eq.trans ?_ (Fin.sum_univ_four fun k => parts m c (part k (((cfg0.win 4).blk t).view.emb y))).symm
  have h0 : (![0, 0, 0] : Fin 3 → ℕ) = fun _ => 0 := by decide
  simp only [View.ld_unit_zero (S := S1x512x1024) h0]
  exact congrArg₂ (· + ·) (congrArg₂ (· + ·) (congrArg₂ (· + ·) (read0 m c t y) (read1 m c t y)) (read2 m c t y)) (read3 m c t y)

/-- The steps' rows are all the rows. -/
theorem rows : ∀ q : Fin 12, ∃ t : Fin cfg0.N, win0_4.index t 0 = q.val ∧ win0_4.index t 1 = 0 := by decide +kernel

theorem covered (i : S6144x1024.Idx) : ∃ t : Fin cfg0.N, (cfg0.win 4).flush t = true ∧ i ∈ ((cfg0.win 4).blk t).view.set := by
  have h0 : (i 0).val < 6144 := (i 0).isLt
  have h1 : (i 1).val < 1024 := (i 1).isLt
  obtain ⟨t, e0, e1⟩ := rows ⟨(i 0).val / 512, by omega⟩
  refine ⟨t, flush0_4 t, ?_⟩
  show i ∈ ((View.whole main_v0).slice (win0_4.rect t)).set
  rw [View.set_slice_whole, Rect.mem_set_unit]
  intro a
  match a with
  | ⟨0, _⟩ => show win0_4.index t 0 * 512 ≤ (i 0).val ∧ (i 0).val < win0_4.index t 0 * 512 + 512; rw [e0]; dsimp only; omega
  | ⟨1, _⟩ => show win0_4.index t 1 * 1024 ≤ (i 1).val ∧ (i 1).val < win0_4.index t 1 * 1024 + 1024; rw [e1]; omega

/-- The call ends with the sum of its parts. -/
theorem summed (c : Dev nD) : (dats m 0 c).arrAt 4 cfg0.N = total (parts m c) :=
  (dats m 0 c).arrAt_eq_of_cover 4 _ (fun t _ => flushed m c t) covered

/-- The call's body table is one text, whichever floats it is read at. -/
theorem same : Cert.Total.defs (F := Bits) = defs (F := Bits) :=
  congrArg (Pipeline.defs _) (congrArg Defs.onTc (funext fun l => funext fun p => match l, p with | 0, (_, _) => rfl))

theorem frame : Cert.quiescent_Total (hTotal := Cert.Total.Gen.facts) := fun m g _ => by
  rw [same]
  exact Gen.frame (F := Bits) m g

theorem frame_ideal : Cert.quiescent_TotalIdeal (hTotalIdeal := Gen.facts) := fun m g _ => Gen.frame (F := Ideal) m g

theorem frame_ref_ideal : Cert.quiescent_TotalRefIdeal (hTotalRefIdeal := Cert.TotalRefIdeal.Gen.facts) := fun m g _ =>
  (θ_run Cert.TotalRefIdeal.defs _ _).mono (fun _ h => ⟨fun c => (h c).2, funext fun s => ((by decide : ∀ _ : SemLoc Cert.TotalRefIdeal.sig, False) s.2).elim⟩)
    (Cert.TotalRefIdeal.Value.run (F := Ideal) m g)

theorem algebraic : Cert.algebraic_TotalIdeal_TotalRefIdeal (hTotalIdeal := Gen.facts) (hTotalRefIdeal := Cert.TotalRefIdeal.Gen.facts) :=
  fun m g m' g' _ hA => ⟨fun c => total (parts m c),
    (θ_run defs _ _).mono (fun _ h c => ⟨(h c).1.trans (summed m c), (h c).2⟩) (Cert.TotalIdeal.Value.run_blocks (F := Ideal) m g),
    (θ_run Cert.TotalRefIdeal.defs _ _).mono
      (fun _ h c => ⟨(h c).1.trans ((host_total _ (by decide) _ _).trans (congrArg total (hA c))), (h c).2⟩)
      (Cert.TotalRefIdeal.Value.run (F := Ideal) m' g')⟩

end Exchange.Total.Chips

end
-- ==== Proof.Total.Small.lean ====
/-
  The sum over the chips' parts of the small gradients, packed into one array: its frames, and its value against the reference's.
-/
module

public import proofs.«01_k».proof.Defs
public import proofs.«01_k».proof.Proof.Gen.TotalSmall
public import proofs.«01_k».proof.Proof.Gen.TotalSmallIdeal.Value
public import proofs.«01_k».proof.Proof.Gen.TotalSmallRefIdeal.Run
public import proofs.«01_k».proof.Proof.Total.Sum

@[expose] public section

noncomputable section

namespace Exchange.Total.Small

open Cert.TotalSmallIdeal Cert.TotalSmallIdeal.Gen Idealize.ShloMosaic Idealize.ShloMosaic.TcCoe Idealize.ShloMosaic.Pipeline Idealize.SL.Sem
open Cert.TotalSmallIdeal.Value (canon8_eq ix8_0 ix8_1 ix8_2 ix8_3 ix8_4 ix8_5 ix8_6 ix8_7)

variable (m : (ℓ : Loc nD τ sig) → Buf (Elt Ideal) ℓ)

/-- The parts, as launched. -/
abbrev parts (c : Dev nD) : S8x96x128.Idx → EReal := m ((c.tc : Thread nD τ).loc main_arg0)

/-- The entries of each part that the step reads. -/
theorem read0 (c : Dev nD) (t : Fin cfg0.N) (y : S96x128.Idx) : iblk m c 0 t (ix8_0 y) = parts m c (part 0 (((cfg0.win 8).blk t).view.emb y)) :=
  congrArg (parts m c) (eq_part rfl rfl rfl)

theorem read1 (c : Dev nD) (t : Fin cfg0.N) (y : S96x128.Idx) : iblk m c 1 t (ix8_1 y) = parts m c (part 1 (((cfg0.win 8).blk t).view.emb y)) :=
  congrArg (parts m c) (eq_part rfl rfl rfl)

theorem read2 (c : Dev nD) (t : Fin cfg0.N) (y : S96x128.Idx) : iblk m c 2 t (ix8_2 y) = parts m c (part 2 (((cfg0.win 8).blk t).view.emb y)) :=
  congrArg (parts m c) (eq_part rfl rfl rfl)

theorem read3 (c : Dev nD) (t : Fin cfg0.N) (y : S96x128.Idx) : iblk m c 3 t (ix8_3 y) = parts m c (part 3 (((cfg0.win 8).blk t).view.emb y)) :=
  congrArg (parts m c) (eq_part rfl rfl rfl)

theorem read4 (c : Dev nD) (t : Fin cfg0.N) (y : S96x128.Idx) : iblk m c 4 t (ix8_4 y) = parts m c (part 4 (((cfg0.win 8).blk t).view.emb y)) :=
  congrArg (parts m c) (eq_part rfl rfl rfl)

theorem read5 (c : Dev nD) (t : Fin cfg0.N) (y : S96x128.Idx) : iblk m c 5 t (ix8_5 y) = parts m c (part 5 (((cfg0.win 8).blk t).view.emb y)) :=
  congrArg (parts m c) (eq_part rfl rfl rfl)

theorem read6 (c : Dev nD) (t : Fin cfg0.N) (y : S96x128.Idx) : iblk m c 6 t (ix8_6 y) = parts m c (part 6 (((cfg0.win 8).blk t).view.emb y)) :=
  congrArg (parts m c) (eq_part rfl rfl rfl)

theorem read7 (c : Dev nD) (t : Fin cfg0.N) (y : S96x128.Idx) : iblk m c 7 t (ix8_7 y) = parts m c (part 7 (((cfg0.win 8).blk t).view.emb y)) :=
  congrArg (parts m c) (eq_part rfl rfl rfl)

/-- The step writes the rows of the sum. -/
theorem flushed (c : Dev nD) (t : Fin cfg0.N) :
    (dats m 0 c).flushed 8 t = ((cfg0.win 8).blk t).view.read (Elt Ideal) (total (parts m c)) := by
  show (cfg0.win 8).cut (grid0.coords t) ((dats m 0 c).after 8 t) = _
  rw [after0_8]
  funext y
  refine (canon8_eq ..).trans ?_
  refine Eq.trans ?_ (Fin.sum_univ_eight fun k => parts m c (part k (((cfg0.win 8).blk t).view.emb y))).symm
  have h0 : (![0, 0, 0] : Fin 3 → ℕ) = fun _ => 0 := by decide
  simp only [View.ld_unit_zero (S := S1x96x128) h0]
  exact congrArg₂ (· + ·) (congrArg₂ (· + ·) (congrArg₂ (· + ·) (congrArg₂ (· + ·) (congrArg₂ (· + ·) (congrArg₂ (· + ·) (congrArg₂ (· + ·) (read0 m c t y) (read1 m c t y)) (read2 m c t y)) (read3 m c t y)) (read4 m c t y)) (read5 m c t y)) (read6 m c t y)) (read7 m c t y)

/-- The one step writes them all. -/
theorem covered (i : S96x128.Idx) : ∃ t : Fin cfg0.N, (cfg0.win 8).flush t = true ∧ i ∈ ((cfg0.win 8).blk t).view.set := by
  refine ⟨t0_0, flush0_8 _, ?_⟩
  show i ∈ ((View.whole main_v0).slice (win0_8.rect t0_0)).set
  rw [View.set_slice_whole, Rect.mem_set_unit]
  intro a
  match a with
  | ⟨0, _⟩ => exact ⟨Nat.zero_le _, (i 0).isLt⟩
  | ⟨1, _⟩ => exact ⟨Nat.zero_le _, (i 1).isLt⟩

/-- The call ends with the sum of its parts. -/
theorem summed (c : Dev nD) : (dats m 0 c).arrAt 8 cfg0.N = total (parts m c) :=
  (dats m 0 c).arrAt_eq_of_cover 8 _ (fun t _ => flushed m c t) covered

/-- The call's body table is one text, whichever floats it is read at. -/
theorem same : Cert.TotalSmall.defs (F := Bits) = defs (F := Bits) :=
  congrArg (Pipeline.defs _) (congrArg Defs.onTc (funext fun l => funext fun p => match l, p with | 0, (_, _) => rfl))

theorem frame : Cert.quiescent_TotalSmall (hTotalSmall := Cert.TotalSmall.Gen.facts) := fun m g _ => by
  rw [same]
  exact Gen.frame (F := Bits) m g

theorem frame_ideal : Cert.quiescent_TotalSmallIdeal (hTotalSmallIdeal := Gen.facts) := fun m g _ => Gen.frame (F := Ideal) m g

theorem frame_ref_ideal : Cert.quiescent_TotalSmallRefIdeal (hTotalSmallRefIdeal := Cert.TotalSmallRefIdeal.Gen.facts) := fun m g _ =>
  (θ_run Cert.TotalSmallRefIdeal.defs _ _).mono (fun _ h => ⟨fun c => (h c).2, funext fun s => ((by decide : ∀ _ : SemLoc Cert.TotalSmallRefIdeal.sig, False) s.2).elim⟩)
    (Cert.TotalSmallRefIdeal.Value.run (F := Ideal) m g)

theorem algebraic : Cert.algebraic_TotalSmallIdeal_TotalSmallRefIdeal (hTotalSmallIdeal := Gen.facts) (hTotalSmallRefIdeal := Cert.TotalSmallRefIdeal.Gen.facts) :=
  fun m g m' g' _ hA => ⟨fun c => total (parts m c),
    (θ_run defs _ _).mono (fun _ h c => ⟨(h c).1.trans (summed m c), (h c).2⟩) (Cert.TotalSmallIdeal.Value.run_blocks (F := Ideal) m g),
    (θ_run Cert.TotalSmallRefIdeal.defs _ _).mono
      (fun _ h c => ⟨(h c).1.trans ((host_total _ (by decide) _ _).trans (congrArg total (hA c))), (h c).2⟩)
      (Cert.TotalSmallRefIdeal.Value.run (F := Ideal) m' g')⟩

end Exchange.Total.Small

end
-- ==== Proof.Adam.Step.lean ====
/-
  One AdamW step over the extended reals, on arrays of any shape: what the update call computes at an entry, and that
  the reference's whole-array operations compute the same.
-/
module

public import Idealize.ShloMosaic.PureOps.Ideal

@[expose] public section

noncomputable section

namespace Exchange.Adam

open Idealize.ShloMosaic

variable {S : Shape}

/-- A literal of the step: the number that its float word is. -/
abbrev lit (b : BitVec 32) : Ideal .f32 := Scalar.ofBits .f32 b

/-- The new first moment `β₁ m + (1 - β₁) g`, and the new second moment `β₂ v + (1 - β₂) g²`. -/
def newM (m g : S.Idx → Ideal .f32) : S.Idx → Ideal .f32 := fun i =>
  FloatOps.addf (FloatOps.mulf (lit 0x3F666666#32) (m i)) (FloatOps.mulf (lit 0x3DCCCCCD#32) (g i))
def newV (v g : S.Idx → Ideal .f32) : S.Idx → Ideal .f32 := fun i =>
  FloatOps.addf (FloatOps.mulf (lit 0x3F7FBE77#32) (v i)) (FloatOps.mulf (lit 0x3A83126F#32) (FloatOps.mulf (g i) (g i)))

/-- The change of the weight: minus the rate times the corrected first moment over the root of the corrected second, and the decay. -/
def delta (w m v g : S.Idx → Ideal .f32) : S.Idx → Ideal .f32 := fun i =>
  FloatOps.mulf (lit 0xBA83126F#32) (FloatOps.addf
    (FloatOps.divf (FloatOps.divf (newM m g i) (lit 0x3F26BD02#32))
      (FloatOps.addf (FloatOps.sqrt (FloatOps.divf (newV v g i) (lit 0x3C231ACC#32))) (lit 0x322BCC77#32)))
    (FloatOps.mulf (lit 0x3C23D70A#32) (w i)))

/-- A literal as an array, as the reference writes it. -/
abbrev all (h : (⟨0, ![]⟩ : Shape).BroadcastsInDim S ![]) (b : BitVec 32) : S.Idx → Ideal .f32 :=
  broadcastInDim S ![] h (constant (F := Ideal) ⟨0, ![]⟩ .f32 b)

/-- The reference's operations on arrays that equal the call's: the change, the first moment and the second moment of the step. -/
theorem host_step (h : (⟨0, ![]⟩ : Shape).BroadcastsInDim S ![]) {w m v g w' m' v' g' : S.Idx → Ideal .f32} (e : w' = w ∧ m' = m ∧ v' = v ∧ g' = g) :
    mulf (all h 0xBA83126F#32) (addf
        (Host.divf (Host.divf (addf (mulf (all h 0x3F666666#32) m') (mulf (all h 0x3DCCCCCD#32) g')) (all h 0x3F26BD02#32))
          (addf (Host.sqrt (Host.divf (addf (mulf (all h 0x3F7FBE77#32) v') (mulf (all h 0x3A83126F#32) (mulf g' g'))) (all h 0x3C231ACC#32))) (all h 0x322BCC77#32)))
        (mulf (all h 0x3C23D70A#32) w')) = delta w m v g
      ∧ addf (mulf (all h 0x3F666666#32) m') (mulf (all h 0x3DCCCCCD#32) g') = newM m g
      ∧ addf (mulf (all h 0x3F7FBE77#32) v') (mulf (all h 0x3A83126F#32) (mulf g' g')) = newV v g := by
  obtain ⟨rfl, rfl, rfl, rfl⟩ := e
  exact ⟨rfl, rfl, rfl⟩

end Exchange.Adam

end
-- ==== Proof.Adam.Claims.lean ====
/-
  The AdamW update at each shape that the version calls it at: its frames, and its three results against the reference's.
-/
module

public import proofs.«01_k».proof.Defs
public import proofs.«01_k».proof.Proof.Gen.UpdateFfnIn
public import proofs.«01_k».proof.Proof.Gen.UpdateFfnInIdeal.Value
public import proofs.«01_k».proof.Proof.Gen.UpdateFfnInRefIdeal.Run
public import proofs.«01_k».proof.Proof.Gen.UpdateFfnOut
public import proofs.«01_k».proof.Proof.Gen.UpdateFfnOutIdeal.Value
public import proofs.«01_k».proof.Proof.Gen.UpdateFfnOutRefIdeal.Run
public import proofs.«01_k».proof.Proof.Gen.UpdateQkv
public import proofs.«01_k».proof.Proof.Gen.UpdateQkvIdeal.Value
public import proofs.«01_k».proof.Proof.Gen.UpdateQkvRefIdeal.Run
public import proofs.«01_k».proof.Proof.Gen.UpdateKv
public import proofs.«01_k».proof.Proof.Gen.UpdateKvIdeal.Value
public import proofs.«01_k».proof.Proof.Gen.UpdateKvRefIdeal.Run
public import proofs.«01_k».proof.Proof.Gen.UpdateSquare
public import proofs.«01_k».proof.Proof.Gen.UpdateSquareIdeal.Value
public import proofs.«01_k».proof.Proof.Gen.UpdateSquareRefIdeal.Run
public import proofs.«01_k».proof.Proof.Gen.UpdateSmall
public import proofs.«01_k».proof.Proof.Gen.UpdateSmallIdeal.Value
public import proofs.«01_k».proof.Proof.Gen.UpdateSmallRefIdeal.Run
public import proofs.«01_k».proof.Proof.Adam.Step

@[expose] public section

noncomputable section

namespace Exchange.Adam

open Idealize.ShloMosaic Idealize.ShloMosaic.TcCoe Idealize.SL.Sem

/-! ## `ffn_w_in` -/

namespace FfnIn

/-- The call's body table is one text, whichever floats it is read at. -/
theorem same : Cert.UpdateFfnIn.defs (F := Bits) = Cert.UpdateFfnInIdeal.defs (F := Bits) :=
  congrArg (Pipeline.defs _) (congrArg Defs.onTc (funext fun l => funext fun p => match l, p with | 0, (_, _) => rfl))

theorem frame : Cert.quiescent_UpdateFfnIn (hUpdateFfnIn := Cert.UpdateFfnIn.Gen.facts) := fun m g _ => by
  rw [same]
  exact Cert.UpdateFfnInIdeal.Gen.frame (F := Bits) m g

theorem frame_ideal : Cert.quiescent_UpdateFfnInIdeal (hUpdateFfnInIdeal := Cert.UpdateFfnInIdeal.Gen.facts) := fun m g _ =>
  Cert.UpdateFfnInIdeal.Gen.frame (F := Ideal) m g

theorem frame_ref_ideal : Cert.quiescent_UpdateFfnInRefIdeal (hUpdateFfnInRefIdeal := Cert.UpdateFfnInRefIdeal.Gen.facts) := fun m g _ =>
  (θ_run Cert.UpdateFfnInRefIdeal.defs _ _).mono (fun _ h => ⟨fun c => (h c).2.2.2, funext fun s => ((by decide : ∀ _ : SemLoc Cert.UpdateFfnInRefIdeal.sig, False) s.2).elim⟩)
    (Cert.UpdateFfnInRefIdeal.Value.run (F := Ideal) m g)

theorem algebraic : Cert.algebraic_UpdateFfnInIdeal_UpdateFfnInRefIdeal (hUpdateFfnInIdeal := Cert.UpdateFfnInIdeal.Gen.facts) (hUpdateFfnInRefIdeal := Cert.UpdateFfnInRefIdeal.Gen.facts) :=
  fun m g m' g' _ hA => ⟨_, _, _, Cert.UpdateFfnInIdeal.Value.run (F := Ideal) m g,
    (θ_run Cert.UpdateFfnInRefIdeal.defs _ _).mono
      (fun _ h c => have s := host_step _ (hA c); ⟨(h c).1.trans s.1, (h c).2.1.trans s.2.1, (h c).2.2.1.trans s.2.2, (h c).2.2.2⟩)
      (Cert.UpdateFfnInRefIdeal.Value.run (F := Ideal) m' g')⟩

end FfnIn

/-! ## `ffn_w_out` -/

namespace FfnOut

/-- The call's body table is one text, whichever floats it is read at. -/
theorem same : Cert.UpdateFfnOut.defs (F := Bits) = Cert.UpdateFfnOutIdeal.defs (F := Bits) :=
  congrArg (Pipeline.defs _) (congrArg Defs.onTc (funext fun l => funext fun p => match l, p with | 0, (_, _) => rfl))

theorem frame : Cert.quiescent_UpdateFfnOut (hUpdateFfnOut := Cert.UpdateFfnOut.Gen.facts) := fun m g _ => by
  rw [same]
  exact Cert.UpdateFfnOutIdeal.Gen.frame (F := Bits) m g

theorem frame_ideal : Cert.quiescent_UpdateFfnOutIdeal (hUpdateFfnOutIdeal := Cert.UpdateFfnOutIdeal.Gen.facts) := fun m g _ =>
  Cert.UpdateFfnOutIdeal.Gen.frame (F := Ideal) m g

theorem frame_ref_ideal : Cert.quiescent_UpdateFfnOutRefIdeal (hUpdateFfnOutRefIdeal := Cert.UpdateFfnOutRefIdeal.Gen.facts) := fun m g _ =>
  (θ_run Cert.UpdateFfnOutRefIdeal.defs _ _).mono (fun _ h => ⟨fun c => (h c).2.2.2, funext fun s => ((by decide : ∀ _ : SemLoc Cert.UpdateFfnOutRefIdeal.sig, False) s.2).elim⟩)
    (Cert.UpdateFfnOutRefIdeal.Value.run (F := Ideal) m g)

theorem algebraic : Cert.algebraic_UpdateFfnOutIdeal_UpdateFfnOutRefIdeal (hUpdateFfnOutIdeal := Cert.UpdateFfnOutIdeal.Gen.facts) (hUpdateFfnOutRefIdeal := Cert.UpdateFfnOutRefIdeal.Gen.facts) :=
  fun m g m' g' _ hA => ⟨_, _, _, Cert.UpdateFfnOutIdeal.Value.run (F := Ideal) m g,
    (θ_run Cert.UpdateFfnOutRefIdeal.defs _ _).mono
      (fun _ h c => have s := host_step _ (hA c); ⟨(h c).1.trans s.1, (h c).2.1.trans s.2.1, (h c).2.2.1.trans s.2.2, (h c).2.2.2⟩)
      (Cert.UpdateFfnOutRefIdeal.Value.run (F := Ideal) m' g')⟩

end FfnOut

/-! ## `a_w_qkv` -/

namespace Qkv

/-- The call's body table is one text, whichever floats it is read at. -/
theorem same : Cert.UpdateQkv.defs (F := Bits) = Cert.UpdateQkvIdeal.defs (F := Bits) :=
  congrArg (Pipeline.defs _) (congrArg Defs.onTc (funext fun l => funext fun p => match l, p with | 0, (_, _) => rfl))

theorem frame : Cert.quiescent_UpdateQkv (hUpdateQkv := Cert.UpdateQkv.Gen.facts) := fun m g _ => by
  rw [same]
  exact Cert.UpdateQkvIdeal.Gen.frame (F := Bits) m g

theorem frame_ideal : Cert.quiescent_UpdateQkvIdeal (hUpdateQkvIdeal := Cert.UpdateQkvIdeal.Gen.facts) := fun m g _ =>
  Cert.UpdateQkvIdeal.Gen.frame (F := Ideal) m g

theorem frame_ref_ideal : Cert.quiescent_UpdateQkvRefIdeal (hUpdateQkvRefIdeal := Cert.UpdateQkvRefIdeal.Gen.facts) := fun m g _ =>
  (θ_run Cert.UpdateQkvRefIdeal.defs _ _).mono (fun _ h => ⟨fun c => (h c).2.2.2, funext fun s => ((by decide : ∀ _ : SemLoc Cert.UpdateQkvRefIdeal.sig, False) s.2).elim⟩)
    (Cert.UpdateQkvRefIdeal.Value.run (F := Ideal) m g)

theorem algebraic : Cert.algebraic_UpdateQkvIdeal_UpdateQkvRefIdeal (hUpdateQkvIdeal := Cert.UpdateQkvIdeal.Gen.facts) (hUpdateQkvRefIdeal := Cert.UpdateQkvRefIdeal.Gen.facts) :=
  fun m g m' g' _ hA => ⟨_, _, _, Cert.UpdateQkvIdeal.Value.run (F := Ideal) m g,
    (θ_run Cert.UpdateQkvRefIdeal.defs _ _).mono
      (fun _ h c => have s := host_step _ (hA c); ⟨(h c).1.trans s.1, (h c).2.1.trans s.2.1, (h c).2.2.1.trans s.2.2, (h c).2.2.2⟩)
      (Cert.UpdateQkvRefIdeal.Value.run (F := Ideal) m' g')⟩

end Qkv

/-! ## `kv_w` -/

namespace Kv

/-- The call's body table is one text, whichever floats it is read at. -/
theorem same : Cert.UpdateKv.defs (F := Bits) = Cert.UpdateKvIdeal.defs (F := Bits) :=
  congrArg (Pipeline.defs _) (congrArg Defs.onTc (funext fun l => funext fun p => match l, p with | 0, (_, _) => rfl))

theorem frame : Cert.quiescent_UpdateKv (hUpdateKv := Cert.UpdateKv.Gen.facts) := fun m g _ => by
  rw [same]
  exact Cert.UpdateKvIdeal.Gen.frame (F := Bits) m g

theorem frame_ideal : Cert.quiescent_UpdateKvIdeal (hUpdateKvIdeal := Cert.UpdateKvIdeal.Gen.facts) := fun m g _ =>
  Cert.UpdateKvIdeal.Gen.frame (F := Ideal) m g

theorem frame_ref_ideal : Cert.quiescent_UpdateKvRefIdeal (hUpdateKvRefIdeal := Cert.UpdateKvRefIdeal.Gen.facts) := fun m g _ =>
  (θ_run Cert.UpdateKvRefIdeal.defs _ _).mono (fun _ h => ⟨fun c => (h c).2.2.2, funext fun s => ((by decide : ∀ _ : SemLoc Cert.UpdateKvRefIdeal.sig, False) s.2).elim⟩)
    (Cert.UpdateKvRefIdeal.Value.run (F := Ideal) m g)

theorem algebraic : Cert.algebraic_UpdateKvIdeal_UpdateKvRefIdeal (hUpdateKvIdeal := Cert.UpdateKvIdeal.Gen.facts) (hUpdateKvRefIdeal := Cert.UpdateKvRefIdeal.Gen.facts) :=
  fun m g m' g' _ hA => ⟨_, _, _, Cert.UpdateKvIdeal.Value.run (F := Ideal) m g,
    (θ_run Cert.UpdateKvRefIdeal.defs _ _).mono
      (fun _ h c => have s := host_step _ (hA c); ⟨(h c).1.trans s.1, (h c).2.1.trans s.2.1, (h c).2.2.1.trans s.2.2, (h c).2.2.2⟩)
      (Cert.UpdateKvRefIdeal.Value.run (F := Ideal) m' g')⟩

end Kv

/-! ## `a_w_o`, `b_w_q` and `b_w_o`, of one shape -/

namespace Square

/-- The call's body table is one text, whichever floats it is read at. -/
theorem same : Cert.UpdateSquare.defs (F := Bits) = Cert.UpdateSquareIdeal.defs (F := Bits) :=
  congrArg (Pipeline.defs _) (congrArg Defs.onTc (funext fun l => funext fun p => match l, p with | 0, (_, _) => rfl))

theorem frame : Cert.quiescent_UpdateSquare (hUpdateSquare := Cert.UpdateSquare.Gen.facts) := fun m g _ => by
  rw [same]
  exact Cert.UpdateSquareIdeal.Gen.frame (F := Bits) m g

theorem frame_ideal : Cert.quiescent_UpdateSquareIdeal (hUpdateSquareIdeal := Cert.UpdateSquareIdeal.Gen.facts) := fun m g _ =>
  Cert.UpdateSquareIdeal.Gen.frame (F := Ideal) m g

theorem frame_ref_ideal : Cert.quiescent_UpdateSquareRefIdeal (hUpdateSquareRefIdeal := Cert.UpdateSquareRefIdeal.Gen.facts) := fun m g _ =>
  (θ_run Cert.UpdateSquareRefIdeal.defs _ _).mono (fun _ h => ⟨fun c => (h c).2.2.2, funext fun s => ((by decide : ∀ _ : SemLoc Cert.UpdateSquareRefIdeal.sig, False) s.2).elim⟩)
    (Cert.UpdateSquareRefIdeal.Value.run (F := Ideal) m g)

theorem algebraic : Cert.algebraic_UpdateSquareIdeal_UpdateSquareRefIdeal (hUpdateSquareIdeal := Cert.UpdateSquareIdeal.Gen.facts) (hUpdateSquareRefIdeal := Cert.UpdateSquareRefIdeal.Gen.facts) :=
  fun m g m' g' _ hA => ⟨_, _, _, Cert.UpdateSquareIdeal.Value.run (F := Ideal) m g,
    (θ_run Cert.UpdateSquareRefIdeal.defs _ _).mono
      (fun _ h c => have s := host_step _ (hA c); ⟨(h c).1.trans s.1, (h c).2.1.trans s.2.1, (h c).2.2.1.trans s.2.2, (h c).2.2.2⟩)
      (Cert.UpdateSquareRefIdeal.Value.run (F := Ideal) m' g')⟩

end Square

/-! ## the eight small weights, packed into one array -/

namespace Small

/-- The call's body table is one text, whichever floats it is read at. -/
theorem same : Cert.UpdateSmall.defs (F := Bits) = Cert.UpdateSmallIdeal.defs (F := Bits) :=
  congrArg (Pipeline.defs _) (congrArg Defs.onTc (funext fun l => funext fun p => match l, p with | 0, (_, _) => rfl))

theorem frame : Cert.quiescent_UpdateSmall (hUpdateSmall := Cert.UpdateSmall.Gen.facts) := fun m g _ => by
  rw [same]
  exact Cert.UpdateSmallIdeal.Gen.frame (F := Bits) m g

theorem frame_ideal : Cert.quiescent_UpdateSmallIdeal (hUpdateSmallIdeal := Cert.UpdateSmallIdeal.Gen.facts) := fun m g _ =>
  Cert.UpdateSmallIdeal.Gen.frame (F := Ideal) m g

theorem frame_ref_ideal : Cert.quiescent_UpdateSmallRefIdeal (hUpdateSmallRefIdeal := Cert.UpdateSmallRefIdeal.Gen.facts) := fun m g _ =>
  (θ_run Cert.UpdateSmallRefIdeal.defs _ _).mono (fun _ h => ⟨fun c => (h c).2.2.2, funext fun s => ((by decide : ∀ _ : SemLoc Cert.UpdateSmallRefIdeal.sig, False) s.2).elim⟩)
    (Cert.UpdateSmallRefIdeal.Value.run (F := Ideal) m g)

theorem algebraic : Cert.algebraic_UpdateSmallIdeal_UpdateSmallRefIdeal (hUpdateSmallIdeal := Cert.UpdateSmallIdeal.Gen.facts) (hUpdateSmallRefIdeal := Cert.UpdateSmallRefIdeal.Gen.facts) :=
  fun m g m' g' _ hA => ⟨_, _, _, Cert.UpdateSmallIdeal.Value.run (F := Ideal) m g,
    (θ_run Cert.UpdateSmallRefIdeal.defs _ _).mono
      (fun _ h c => have s := host_step _ (hA c); ⟨(h c).1.trans s.1, (h c).2.1.trans s.2.1, (h c).2.2.1.trans s.2.2, (h c).2.2.2⟩)
      (Cert.UpdateSmallRefIdeal.Value.run (F := Ideal) m' g')⟩

end Small

end Exchange.Adam

end
-- ==== Proof.Loss.Fold.lean ====
/-
  Sums over whole arrays: what regrouping an array's rows, or reducing some of its axes, leaves of its sum; and how a
  sum scales.
-/
module

public import Idealize.ShloMosaic.PureOps.Ideal.Laws
public import Idealize.ShloMosaic.Lib.IdealHost
public import Idealize.ShloMosaic.Lib.Pipeline.Value

@[expose] public section

noncomputable section

namespace Exchange.Loss

open Idealize.ShloMosaic Idealize.ShloMosaic.ValueIdx
open scoped BigOperators

/-- The sum of an array's entries. -/
def mass {s : Shape} (x : s.Idx → EReal) : EReal := ∑ i, x i

/-- The squares of the differences of two arrays. -/
def gaps {s : Shape} (x y : s.Idx → EReal) : s.Idx → EReal := fun i => (x i - y i) * (x i - y i)

/-- Reducing axes by addition keeps the sum. -/
theorem mass_reduced {s t : Shape} {axes : List (Fin s.rank)} (h : s.Reduces axes t) (x : s.Idx → EReal) :
    mass (Ideal.reduceAdd h x) = mass x :=
  Finset.sum_fiberwise Finset.univ (fun i => h.drop i) x

/-- Recasting the shape keeps the sum. -/
theorem mass_recast {s t : Shape} (h : s.ShapeCasts t) (x : s.Idx → EReal) : mass (shapeCast t x h) = mass x :=
  Equiv.sum_comp (Shape.reshapeEquiv h) x

theorem mass_add {s : Shape} (x y : s.Idx → EReal) : mass (fun i => x i + y i) = mass x + mass y :=
  Finset.sum_add_distrib

/-- A nonnegative real factor moves out of a sum. -/
theorem sum_scaled {ι : Type} (s : Finset ι) (f : ι → EReal) {k : ℝ} (hk : 0 ≤ k) :
    ∑ i ∈ s, f i * (k : EReal) = (∑ i ∈ s, f i) * (k : EReal) := by
  classical
  induction s using Finset.induction_on with
  | empty => rw [Finset.sum_empty, Finset.sum_empty, zero_mul]
  | insert a s ha ih =>
    rw [Finset.sum_insert ha, Finset.sum_insert ha, ih,
      EReal.right_distrib_of_nonneg_of_ne_top (EReal.coe_nonneg.mpr hk) (EReal.coe_ne_top k)]

/-- Row `r` of block `t`, of `k` blocks of `n` rows. -/
def rowOf {k n R : ℕ} (h : k * n = R) (t : Fin k) (r : Fin n) : Fin R := Fin.cast h (finProdFinEquiv (t, r))

theorem rowOf_val {k n R : ℕ} (h : k * n = R) (t : Fin k) (r : Fin n) : (rowOf h t r).val = r.val + n * t.val := rfl

/-- The sum of an array, block of rows by block of rows. -/
theorem mass_blocks {k n R l : ℕ} (h : k * n = R) (x : (⟨2, ![R, l]⟩ : Shape).Idx → EReal)
    (b : Fin k → (⟨2, ![n, l]⟩ : Shape).Idx → EReal) (hb : ∀ t y, b t y = x (ix2 (rowOf h t (y 0)) (y 1))) :
    ∑ t, mass (b t) = mass x := by
  have e : ∀ t, mass (b t) = ∑ r : Fin n, ∑ j : Fin l, x (ix2 (rowOf h t r) j) := fun t =>
    (sum_idx2 (b t)).trans (Finset.sum_congr rfl fun r _ => Finset.sum_congr rfl fun j _ => hb t (ix2 r j))
  rw [Finset.sum_congr rfl fun t _ => e t]
  unfold mass
  rw [sum_idx2 x, ← Fintype.sum_prod_type' (f := fun t r => ∑ j : Fin l, x (ix2 (rowOf h t r) j))]
  exact Equiv.sum_comp (finProdFinEquiv.trans (finCongr h)) fun r : Fin R => ∑ j : Fin l, x (ix2 r j)

/-! ## The constants -/

theorem half : Ideal.ofBits .f32 0x3F000000#32 = ((1 / 2 : ℝ) : EReal) := by
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

theorem per_width : Ideal.ofBits .f32 0x3A800000#32 = ((1 / 1024 : ℝ) : EReal) := by
  simp [Ideal.ofBits, Ideal.ieee, -EReal.coe_mul]; norm_num

theorem half_per_width : Ideal.ofBits .f32 0x3A000000#32 = ((1 / 2048 : ℝ) : EReal) := by
  simp [Ideal.ofBits, Ideal.ieee, -EReal.coe_mul]; norm_num

/-- Dividing by the width is scaling by its reciprocal. -/
theorem div_width (x : EReal) : Ideal.div x (Ideal.ofBits .f32 0x44800000#32) = x * ((1 / 1024 : ℝ) : EReal) := by
  rw [width, Ideal.div_coe (by norm_num)]

/-! ## The reference -/

/-- Half the sum, over the rows, of the rows' means is the sum scaled once. -/
theorem host_half_mean {R l : ℕ} {u t : Shape} (hr : (⟨2, ![R, l]⟩ : Shape).ReducesTo [1] ⟨1, ![R]⟩) (hr' : (⟨2, ![R, l]⟩ : Shape).Reduces [1] ⟨1, ![R]⟩)
    (ht : (⟨1, ![R]⟩ : Shape).ReducesTo [0] t) (h1 : ∀ b, t.size b = 1) (hu : 0 < u.numel)
    (hb : (⟨0, ![]⟩ : Shape).BroadcastsInDim ⟨1, ![R]⟩ (![] : Fin 0 → Fin 1)) (x : (⟨2, ![R, l]⟩ : Shape).Idx → EReal) (i : t.Idx) :
    mulf (F := Ideal) (φ := .f32) (constant (F := Ideal) t .f32 0x3F000000#32)
        (Host.reduceAdd (F := Ideal) (φ := .f32) (Host.divf (F := Ideal) (φ := .f32)
          (Host.reduceAdd (F := Ideal) (φ := .f32) x (constant (F := Ideal) u .f32 0x00000000#32) hr hu)
          (broadcastInDim ⟨1, ![R]⟩ ![] hb (constant (F := Ideal) ⟨0, ![]⟩ .f32 0x44800000#32)))
          (constant (F := Ideal) u .f32 0x00000000#32) ht hu) i = mass x * ((1 / 2048 : ℝ) : EReal) := by
  have e : ∀ r : (⟨1, ![R]⟩ : Shape).Idx, Host.divf (F := Ideal) (φ := .f32)
      (Host.reduceAdd (F := Ideal) (φ := .f32) x (constant (F := Ideal) u .f32 0x00000000#32) hr hu)
      (broadcastInDim ⟨1, ![R]⟩ ![] hb (constant (F := Ideal) ⟨0, ![]⟩ .f32 0x44800000#32)) r
        = Ideal.reduceAdd hr' x r * ((1 / 1024 : ℝ) : EReal) := fun r => by
    refine (div_width _).trans (congrArg (· * ((1 / 1024 : ℝ) : EReal)) ?_)
    rw [hostReduceAdd_apply, Ideal.hostReduceAdd_single hr hr', Ideal.reduceAdd_single]
    show Ideal.ofBits .f32 0x00000000#32 + _ = _
    rw [Ideal.ofBits_zero_f32, zero_add]
  show Ideal.ofBits .f32 0x3F000000#32 * Host.reduceAdd (F := Ideal) (φ := .f32) _ _ ht hu i = _
  rw [hostReduceAdd_apply, Ideal.hostReduceAdd_total ht h1]
  show _ * (Ideal.ofBits .f32 0x00000000#32 + _) = _
  rw [Ideal.ofBits_zero_f32, zero_add, Finset.sum_congr rfl fun r _ => e r, sum_scaled _ _ (by norm_num), half,
    show (∑ r, Ideal.reduceAdd hr' x r) = mass x from mass_reduced hr' x, mul_comm, mul_assoc, ← EReal.coe_mul]
  norm_num

end Exchange.Loss

end
-- ==== Proof.Loss.Value.lean ====
/-
  What the loss call leaves in its arrays: the gradient, and eight rows of partial sums of the squares.
-/
module

public import proofs.«01_k».proof.Proof.Gen.LossIdeal.Frame
public import proofs.«01_k».proof.Proof.Loss.Fold
public import Idealize.ShloMosaic.Lib.Pipeline.ValueKit

@[expose] public section

set_option maxRecDepth 16384

noncomputable section

namespace Exchange.Loss

open Cert.LossIdeal Cert.LossIdeal.Gen Idealize.ShloMosaic Idealize.ShloMosaic.TcCoe Idealize.ShloMosaic.Pipeline Idealize.ShloMosaic.ValueIdx
open scoped BigOperators

variable (m : (ℓ : Loc nD τ sig) → Buf (Elt Ideal) ℓ)

/-- The layer's output and the target, as launched. -/
abbrev found (c : Dev nD) : S8192x1024.Idx → EReal := m ((c.tc : Thread nD τ).loc main_arg0)
abbrev aimed (c : Dev nD) : S8192x1024.Idx → EReal := m ((c.tc : Thread nD τ).loc main_arg1)

/-- The gradient of the loss. -/
def slope (x y : S8192x1024.Idx → EReal) : S8192x1024.Idx → EReal := fun i => (x i - y i) * ((1 / 1024 : ℝ) : EReal)

/-- One step's contribution to the partial sums has the sum of the squares of the step's rows. -/
theorem mass_step (x y : S512x1024.Idx → EReal) (v : S8x1024.Idx → EReal) :
    mass (k0_pay4 (F := Ideal) x y v) = mass v + mass (gaps x y) := by
  have e : k0_pay4 (F := Ideal) x y v = fun i => v i + Ideal.reduceAdd reduces_S64x8x1024_S8x1024
      (shapeCast S64x8x1024 (gaps x y) shapeCasts_S512x1024_S64x8x1024) i := by
    unfold k0_pay4 k0_pay1
    rw [shapeCast_self]
    rfl
  rw [e, mass_add, mass_reduced, mass_recast]

theorem mass_zero : mass (k0_pay3 (F := Ideal)) = 0 :=
  Finset.sum_eq_zero fun i _ => Ideal.ofBits_zero_f32

/-- A step's rows of the two arrays. -/
abbrev rowsX (c : Dev nD) (t : Fin cfg0.N) : S512x1024.Idx → EReal := iblk m c 0 t
abbrev rowsY (c : Dev nD) (t : Fin cfg0.N) : S512x1024.Idx → EReal := iblk m c 1 t

theorem first (c : Dev nD) (t : Fin cfg0.N) (h : t.val % 16 = 0) :
    outsAt0 m c t.val t.isLt = (k0_pay2 (F := Ideal) (rowsX m c t) (rowsY m c t), k0_pay4 (F := Ideal) (rowsX m c t) (rowsY m c t) (k0_pay3 (F := Ideal))) := by
  rw [outsAt0_A m c t h]
  refine Prod.ext ?_ ?_
  · funext y
    frame_out
  · funext y
    frame_out

theorem later (c : Dev nD) (t : Fin cfg0.N) (h : ¬t.val % 16 = 0) :
    outsAt0 m c t.val t.isLt = (k0_pay2 (F := Ideal) (rowsX m c t) (rowsY m c t),
      k0_pay4 (F := Ideal) (rowsX m c t) (rowsY m c t) (outsAt0 m c (t.val - 1) (Nat.lt_of_le_of_lt (Nat.sub_le _ _) t.isLt)).2) := by
  rw [outsAt0_B m c t h]
  refine Prod.ext ?_ ?_
  · funext y
    frame_out
  · funext y
    frame_out

/-- The block of the gradient that a step leaves. -/
theorem left (c : Dev nD) (t : Fin cfg0.N) : (outsAt0 m c t.val t.isLt).1 = k0_pay2 (F := Ideal) (rowsX m c t) (rowsY m c t) := by
  by_cases h : t.val % 16 = 0
  · rw [first m c t h]
  · rw [later m c t h]

/-- The partial sums after a step have the sum of the squares so far. -/
theorem gathered (c : Dev nD) : ∀ (n : ℕ) (h : n < cfg0.N),
    mass (outsAt0 m c n h).2 = ∑ k : Fin (n + 1), mass (gaps (rowsX m c ⟨k.val, lt_of_le_of_lt (Nat.le_of_lt_succ k.isLt) h⟩)
      (rowsY m c ⟨k.val, lt_of_le_of_lt (Nat.le_of_lt_succ k.isLt) h⟩))
  | 0, h => by
    rw [first m c ⟨0, h⟩ rfl, mass_step, mass_zero, zero_add]
    exact (Fin.sum_univ_one (fun k : Fin 1 => mass (gaps (rowsX m c ⟨k.val, _⟩) (rowsY m c ⟨k.val, _⟩)))).symm
  | n + 1, h => by
    have hN : n + 1 < 16 := h
    rw [later m c ⟨n + 1, h⟩ (by dsimp only; omega), mass_step, Fin.sum_univ_castSucc]
    exact congrArg (· + _) (gathered c n _)

/-- A step reads the rows that it writes, and they follow the rows of the steps before it. -/
theorem at_rows : ∀ t : Fin cfg0.N, win0_2.index t 0 = t.val ∧ win0_2.index t 1 = 0 := by decide +kernel

theorem entry (t : Fin cfg0.N) (y : S512x1024.Idx) :
    ((cfg0.win 2).blk t).view.emb y = ValueIdx.ix2 (rowOf (k := 16) (n := 512) (R := 8192) rfl t (y 0)) (y 1) := by
  funext a
  apply Fin.ext
  match a with
  | ⟨0, _⟩ =>
    show win0_2.index t 0 * 512 + 1 * (y 0).val = (y 0).val + 512 * t.val
    rw [(at_rows t).1]; omega
  | ⟨1, _⟩ =>
    show win0_2.index t 1 * 1024 + 1 * (y 1).val = (y 1).val
    rw [(at_rows t).2]; omega

theorem readX (c : Dev nD) (t : Fin cfg0.N) (y : S512x1024.Idx) : rowsX m c t y = found m c (((cfg0.win 2).blk t).view.emb y) := rfl
theorem readY (c : Dev nD) (t : Fin cfg0.N) (y : S512x1024.Idx) : rowsY m c t y = aimed m c (((cfg0.win 2).blk t).view.emb y) := rfl

/-- The steps' squares are all the squares. -/
theorem steps (c : Dev nD) : ∑ t : Fin 16, mass (gaps (rowsX m c t) (rowsY m c t)) = mass (gaps (found m c) (aimed m c)) :=
  mass_blocks (k := 16) (n := 512) rfl _ (fun t => gaps (rowsX m c t) (rowsY m c t)) fun t y =>
    congrArg (gaps (found m c) (aimed m c)) (entry t y)

/-- The partial sums' array. -/
theorem sums (c : Dev nD) : (dats m 0 c).arrAt 3 cfg0.N = (outsAt0 m c 15 (by decide : 15 < cfg0.N)).2 := by
  refine (dats m 0 c).arrAt_eq_of_after_last 3 t0_15 (by decide +kernel) _ fun j => ?_
  blk_simp
  rw [after0_3]
  rfl

theorem mass_sums (c : Dev nD) : mass (s := S8x1024) ((dats m 0 c).arrAt 3 cfg0.N) = mass (gaps (found m c) (aimed m c)) := by
  rw [sums]
  exact (gathered m c 15 (by decide)).trans (steps m c)

/-- A step writes its rows of the gradient. -/
theorem flushed (c : Dev nD) (t : Fin cfg0.N) :
    (dats m 0 c).flushed 2 t = ((cfg0.win 2).blk t).view.read (Elt Ideal) (slope (found m c) (aimed m c)) := by
  show (cfg0.win 2).cut (grid0.coords t) ((dats m 0 c).after 2 t) = _
  rw [after0_2, left]
  funext y
  exact congrArg (_ * ·) per_width

theorem covered (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hq : (i 0).val / 512 < 16 := by omega
  have e := at_rows ⟨(i 0).val / 512, hq⟩
  refine ⟨⟨(i 0).val / 512, hq⟩, flush0_2 _, ?_⟩
  show i ∈ ((View.whole main_v0_0).slice (win0_2.rect ⟨(i 0).val / 512, hq⟩)).set
  rw [View.set_slice_whole, Rect.mem_set_unit]
  intro a
  match a with
  | ⟨0, _⟩ => show win0_2.index _ 0 * 512 ≤ (i 0).val ∧ (i 0).val < win0_2.index _ 0 * 512 + 512; rw [e.1]; dsimp only; omega
  | ⟨1, _⟩ => show win0_2.index _ 1 * 1024 ≤ (i 1).val ∧ (i 1).val < win0_2.index _ 1 * 1024 + 1024; rw [e.2]; omega

/-- The call ends with the gradient. -/
theorem sloped (c : Dev nD) : (dats m 0 c).arrAt 2 cfg0.N = slope (found m c) (aimed m c) :=
  (dats m 0 c).arrAt_eq_of_cover 2 _ (fun t _ => flushed m c t) covered

end Exchange.Loss

end
-- ==== Proof.Loss.Claims.lean ====
/-
  The loss and its gradient: the frames, and the values against the reference's.
-/
module

public import proofs.«01_k».proof.Defs
public import proofs.«01_k».proof.Proof.Gen.Loss
public import proofs.«01_k».proof.Proof.Gen.LossRefIdeal.Run
public import proofs.«01_k».proof.Proof.Loss.Value

@[expose] public section

set_option maxRecDepth 16384

noncomputable section

namespace Exchange.Loss

open Cert.LossIdeal Cert.LossIdeal.Gen Idealize.ShloMosaic Idealize.ShloMosaic.TcCoe Idealize.ShloMosaic.Pipeline Idealize.SL.Sem

variable (m : (ℓ : Loc nD τ sig) → Buf (Elt Ideal) ℓ)

/-- The loss of a layer's output against its target. -/
def loss (x y : S8192x1024.Idx → EReal) : S_.Idx → EReal := fun _ => mass (gaps x y) * ((1 / 2048 : ℝ) : EReal)

/-- The lines after the call sum its partial sums and scale them. -/
theorem tail_value (c : Dev nD) : Pipeline.afterTail₀ cfgs (dats m) 0 (V0 m) [hostOps1] c main_v2 = loss (found m c) (aimed m c) := by
  have e : Pipeline.afterTail₀ cfgs (dats m) 0 (V0 m) [hostOps1] c main_v2
      = mulf (F := Ideal) (φ := .f32) (Host.reduceAdd (F := Ideal) (φ := .f32) ((dats m 0 c).arrAt 3 cfg0.N) (constant (F := Ideal) S_ .f32 0x00000000#32)
          reducesTo_S8x1024_S_d0_1 h_S_) (constant (F := Ideal) S_ .f32 0x3A000000#32) := by
    unfold Pipeline.afterTail₀
    show StableHlo.after hostOps1 _ _ = _
    after_results
    rw [Pipeline.withArrays_arr spec0 winFacts0.arr_inj c _ _ 3]
  rw [e]
  funext i
  show Host.reduceAdd (F := Ideal) (φ := .f32) _ _ reducesTo_S8x1024_S_d0_1 h_S_ i * Ideal.ofBits .f32 0x3A000000#32 = _
  rw [ValueIdx.hostReduceAdd_apply, Ideal.hostReduceAdd_total _ (fun b => b.elim0), half_per_width]
  show (Ideal.ofBits .f32 0x00000000#32 + mass (s := S8x1024) ((dats m 0 c).arrAt 3 cfg0.N)) * _ = _
  rw [Ideal.ofBits_zero_f32, zero_add, mass_sums]
  rfl

/-- The call with the lines after it ends with the loss and its gradient. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v2) = loss (found m c) (aimed m c)
    ∧ r.2.mem ((c.tc : Thread nD τ).loc main_v0_0) = slope (found m c) (aimed m c)) :=
  (θ_run defs _ _).mono (fun _ h c => ⟨((h c).2 main_v2 (by decide)).trans (tail_value m c), ((h c).1 2).trans (sloped m c)⟩) (run_main m g)

/-- The call's body table is one text, whichever floats it is read at. -/
theorem same : Cert.Loss.defs (F := Bits) = defs (F := Bits) :=
  congrArg (Pipeline.defs _) (congrArg Defs.onTc (funext fun l => funext fun p => match l, p with | 0, (_, _) => rfl))

theorem frame : Cert.quiescent_Loss (hLoss := Cert.Loss.Gen.facts) := fun m g _ => by
  rw [same]
  exact Gen.frame (F := Bits) m g

theorem frame_ideal : Cert.quiescent_LossIdeal (hLossIdeal := Gen.facts) := fun m g _ => Gen.frame (F := Ideal) m g

theorem frame_ref_ideal : Cert.quiescent_LossRefIdeal (hLossRefIdeal := Cert.LossRefIdeal.Gen.facts) := fun m g _ =>
  (θ_run Cert.LossRefIdeal.defs _ _).mono (fun _ h => ⟨fun c => (h c).2.2, funext fun s => ((by decide : ∀ _ : SemLoc Cert.LossRefIdeal.sig, False) s.2).elim⟩)
    (Cert.LossRefIdeal.Value.run (F := Ideal) m g)

/-- The reference's gradient is the same one. -/
theorem ref_slope (x y : S8192x1024.Idx → EReal) :
    Host.divf (F := Ideal) (φ := .f32) (subf (F := Ideal) (φ := .f32) x y) (broadcastInDim S8192x1024 ![] Cert.LossRefIdeal.Gen.bcast_S_S8192x1024
      (constant (F := Ideal) S_ .f32 0x44800000#32)) = slope x y :=
  funext fun i => div_width _

theorem algebraic : Cert.algebraic_LossIdeal_LossRefIdeal (hLossIdeal := Gen.facts) (hLossRefIdeal := Cert.LossRefIdeal.Gen.facts) :=
  fun m g m' g' _ hA => ⟨fun c => loss (found m c) (aimed m c), fun c => slope (found m c) (aimed m c),
    (θ_run defs _ _).mono (fun _ h c => ⟨(h.1 c).1, (h.1 c).2, h.2 c⟩) (θ_run_and (run m g) (Gen.unchanged (F := Ideal) m g)),
    (θ_run Cert.LossRefIdeal.defs _ _).mono
      (fun _ h c => ⟨(h c).1.trans ((funext fun i => host_half_mean _ (by decide) _ (fun b => b.elim0) _ _ _ i).trans
          (congrArg₂ loss (hA c).1 (hA c).2)),
        (h c).2.1.trans ((ref_slope _ _).trans (congrArg₂ slope (hA c).1 (hA c).2)), (h c).2.2⟩)
      (Cert.LossRefIdeal.Value.run (F := Ideal) m' g')⟩

end Exchange.Loss

end
-- ==== Proof.FfnIn.Value.lean ====
/-
  The first projection of a feed-forward layer: every token against every device's columns.
-/
module

public import proofs.«01_k».proof.Proof.Gen.FfnInIdeal.Frame
public import proofs.«01_k».proof.Proof.Gen.FfnInRefIdeal
public import Idealize.ShloMosaic.Lib.Pipeline.ValueKit

@[expose] public section

set_option maxRecDepth 16384

noncomputable section

namespace Exchange.FfnIn

open Cert.FfnInIdeal Cert.FfnInIdeal.Gen Idealize.ShloMosaic Idealize.ShloMosaic.TcCoe Idealize.ShloMosaic.Pipeline
open scoped BigOperators

variable (m : (ℓ : Loc nD τ sig) → Buf (Elt Ideal) ℓ)

/-- The product, the devices' columns side by side, as the reference writes it. -/
def product (n : FVec Ideal S8192x1024 .bf16) (w : FVec Ideal S4x1024x1408 .bf16) : FVec Ideal S8192x5632 .f32 :=
  Host.dotGeneral (F := Ideal) (φ₁ := .f32) (φ₂ := .f32) Cert.FfnInRefIdeal.dot_S8192x1024_S1024x5632_S8192x5632_1_0_0_1_n_n none
    (extf (F := Ideal) .f32 n Cert.FfnInRefIdeal.Gen.bitsLt_bf16_f32)
    (shapeCast Cert.FfnInRefIdeal.S1024x5632 (transpose Cert.FfnInRefIdeal.S1024x4x1408 [1, 0, 2] (extf (F := Ideal) .f32 w Cert.FfnInRefIdeal.Gen.bitsLt_bf16_f32)
      Cert.FfnInRefIdeal.Gen.transposes_S4x1024x1408_S1024x4x1408_1_0_2) Cert.FfnInRefIdeal.Gen.shapeCasts_S1024x4x1408_S1024x5632)

/-- The device that a column belongs to, and its place there. -/
def piece (j : Fin 5632) : Fin 4 := ⟨j.val / 1408, by omega⟩
def place (j : Fin 5632) : Fin 1408 := ⟨j.val % 1408, by omega⟩

theorem product_at (n : FVec Ideal S8192x1024 .bf16) (w : FVec Ideal S4x1024x1408 .bf16) (i : S8192x5632.Idx) :
    product n w i = ∑ k : Fin 1024, n (ix2 (i 0) k) * w (ix3 (piece (i 1)) k (place (i 1))) := by
  pointwise [product, piece, place]

theorem cleared (y : S1024x1408.Idx) : k0_pay1 (F := Ideal) y = 0 := by pointwise [k0_pay1]

theorem added (s : FVec Ideal S1024x1408 .f32) (n : FVec Ideal S1024x1024 .bf16) (w : FVec Ideal S1x1024x1408 .bf16) (y : S1024x1408.Idx) :
    k0_pay2 (F := Ideal) s n w y = s y + ∑ k : Fin 1024, n (ix2 (y 0) k) * w (ix3 0 k (y 1)) := by
  pointwise [k0_pay2]

/-- Which rows and columns a step reads and writes. -/
theorem places : ∀ t : Fin cfg0.N, win0_0.index t = ![t.val / 4, 0] ∧ win0_1.index t = ![t.val % 4, 0, 0] ∧ win0_2.index t = ![t.val / 4, t.val % 4] := by
  decide +kernel

/-- A step writes its rows' products with one device's columns. -/
theorem wrote (c : Dev nD) (t : Fin cfg0.N) (y : S1024x1408.Idx) :
    outsAt0 m c t y = ∑ k : Fin 1024, (show FVec Ideal S1024x1024 .bf16 from iblk m c 0 t) (ix2 (y 0) k)
      * (show FVec Ideal S1x1024x1408 .bf16 from iblk m c 1 t) (ix3 0 k (y 1)) := by
  unfold outsAt0
  frame_out
  rw [added, cleared, zero_add]

/-- The call ends with the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  blk_simp
  rw [after0_2, wrote m c t, product_at]
  refine Fin.sum_fin_congr fun k => ?_
  congr 1 <;> blk_ext [piece, place, iblk, V, places t]

end Exchange.FfnIn

end
-- ==== Proof.FfnOut.Value.lean ====
/-
  The second projection of a feed-forward layer, halved and added to the layer's input.
-/
module

public import proofs.«01_k».proof.Proof.Gen.FfnOutIdeal.Frame
public import proofs.«01_k».proof.Proof.Gen.FfnOutRefIdeal
public import Idealize.ShloMosaic.Lib.Pipeline.ValueKit

@[expose] public section

set_option maxRecDepth 16384

noncomputable section

namespace Exchange.FfnOut

open Cert.FfnOutIdeal Cert.FfnOutIdeal.Gen Idealize.ShloMosaic Idealize.ShloMosaic.TcCoe Idealize.ShloMosaic.Pipeline
open scoped BigOperators

variable (m : (ℓ : Loc nD τ sig) → Buf (Elt Ideal) ℓ)

/-- The layer's output, as the reference writes it. -/
def output (a : FVec Ideal S8192x2816 .bf16) (w : FVec Ideal S1x2816x1024 .bf16) (h : FVec Ideal S8192x1024 .f32) : FVec Ideal S8192x1024 .f32 :=
  addf h (mulf (broadcastInDim S8192x1024 ![] Cert.FfnOutRefIdeal.Gen.bcast_S_S8192x1024 (constant (F := Ideal) Cert.FfnOutRefIdeal.S_ .f32 0x3F000000#32))
    (Host.dotGeneral (F := Ideal) (φ₁ := .f32) (φ₂ := .f32) Cert.FfnOutRefIdeal.dot_S8192x2816_S2816x1024_S8192x1024_1_0_0_1_n_n none
      (extf (F := Ideal) .f32 a Cert.FfnOutRefIdeal.Gen.bitsLt_bf16_f32)
      (extf (F := Ideal) .f32 (shapeCast Cert.FfnOutRefIdeal.S2816x1024 w Cert.FfnOutRefIdeal.Gen.shapeCasts_S1x2816x1024_S2816x1024) Cert.FfnOutRefIdeal.Gen.bitsLt_bf16_f32)))

theorem output_at (a : FVec Ideal S8192x2816 .bf16) (w : FVec Ideal S1x2816x1024 .bf16) (h : FVec Ideal S8192x1024 .f32) (i : S8192x1024.Idx) :
    output a w h i = h i + Ideal.ofBits .f32 0x3F000000#32 * ∑ l : Fin 2816, a (ix2 (i 0) l) * w (ix3 0 l (i 1)) := by
  pointwise [output]

theorem cleared (y : S1024x1024.Idx) : k0_pay1 (F := Ideal) y = 0 := by pointwise [k0_pay1]

/-- A step adds the products over its part of the inner dimension. -/
theorem added (s : FVec Ideal S1024x1024 .f32) (a : FVec Ideal S1024x1408 .bf16) (w : FVec Ideal S1x1408x1024 .bf16) (y : S1024x1024.Idx) :
    k0_pay2 (F := Ideal) s a w y = s y + ∑ k : Fin 1408, a (ix2 (y 0) k) * w (ix3 0 k (y 1)) := by
  pointwise [k0_pay2]

/-- The last step adds half the sum to the layer's input. -/
theorem joined (s h : FVec Ideal S1024x1024 .f32) (y : S1024x1024.Idx) : k0_pay3 (F := Ideal) s h y = h y + s y * Ideal.ofBits .f32 0x3F000000#32 := by
  pointwise [k0_pay3]

/-- Which rows and columns a step reads and writes. -/
theorem places : ∀ t : Fin cfg0.N, win0_0.index t = ![t.val / 2, t.val % 2] ∧ win0_1.index t = ![0, t.val % 2, 0]
    ∧ win0_2.index t = ![t.val / 2, 0] ∧ win0_3.index t = ![t.val / 2, 0] := by
  decide +kernel

/-- The sum that a block's last step leaves. -/
theorem summed (c : Dev nD) (t : Fin cfg0.N) (ht : t.val % 2 = 1) (y : S1024x1024.Idx) :
    (outsAt0 m c t.val t.isLt).2 y = ∑ s : Fin 2, ∑ k : Fin 1408,
      (show FVec Ideal S1024x1408 .bf16 from iblk m c 0 ⟨2 * (t.val / 2) + s.val, run_point_lt_of_flush t ht s⟩) (ix2 (y 0) k)
        * (show FVec Ideal S1x1408x1024 .bf16 from iblk m c 1 ⟨2 * (t.val / 2) + s.val, run_point_lt_of_flush t ht s⟩) (ix3 0 k (y 1)) := by
  rw [eq_sum_fin_of_reset_step_apply_of_flush (fun n h => (outsAt0 m c n h).2) 2 (fun _ => 0)
    (fun p j => ∑ k : Fin 1408, (show FVec Ideal S1024x1408 .bf16 from iblk m c 0 p) (ix2 (j 0) k) * (show FVec Ideal S1x1408x1024 .bf16 from iblk m c 1 p) (ix3 0 k (j 1)))
    (fun t h j => by
      rw [outsAt0_A m c t h (by omega)]; frame_out; rw [added, cleared])
    (fun t h j => by
      rw [outsAt0_B m c t h (by omega)]; frame_out; rw [added]; exact congrArg (fun v : FVec Ideal S1024x1024 .f32 => (v j + _ : EReal)) (Memref.IsWhole.read_unread _ _)) t ht y, zero_add]

/-- The last step of a block writes the layer's output there. -/
theorem wrote (c : Dev nD) (t : Fin cfg0.N) (ht : t.val % 2 = 1) (y : S1024x1024.Idx) :
    (outsAt0 m c t.val t.isLt).1 y = (show FVec Ideal S1024x1024 .f32 from iblk m c 2 t) y + (outsAt0 m c t.val t.isLt).2 y * Ideal.ofBits .f32 0x3F000000#32 := by
  rw [outsAt0_B m c t (by omega) ht]
  frame_out
  rw [joined]

/-- The call ends with the layer's output. -/
theorem final (c : Dev nD) : (dats m 0 c).arrAt 3 cfg0.N
    = output (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht := (flush0_3 t).mp hf
  blk_simp
  rw [after0_3, wrote m c t ht, summed m c t ht, output_at, mul_comm]
  refine congrArg₂ (fun a b : EReal => a + Ideal.ofBits .f32 0x3F000000#32 * b) ?_ ?_
  · blk_ext [iblk, V, places t]
  · refine Fin.sum_mul_add_congr fun s k hl => ?_
    congr 1 <;> blk_ext [iblk, V, places t, places ⟨_, run_point_lt_of_flush t ht s⟩]

end Exchange.FfnOut

end
-- ==== Proof.FfnOutDx.Value.lean ====
/-
  The gradient that a feed-forward layer's second projection passes back to its activations.
-/
module

public import proofs.«01_k».proof.Proof.Gen.FfnOutDxIdeal.Frame
public import proofs.«01_k».proof.Proof.Gen.FfnOutDxRefIdeal
public import Idealize.ShloMosaic.Lib.Pipeline.ValueKit

@[expose] public section

set_option maxRecDepth 16384

noncomputable section

namespace Exchange.FfnOutDx

open Cert.FfnOutDxIdeal Cert.FfnOutDxIdeal.Gen Idealize.ShloMosaic Idealize.ShloMosaic.TcCoe Idealize.ShloMosaic.Pipeline
open scoped BigOperators

variable (m : (ℓ : Loc nD τ sig) → Buf (Elt Ideal) ℓ)

/-- The gradient, as the reference writes it. -/
def grad (d : FVec Ideal S8192x1024 .f32) (w : FVec Ideal S1x2816x1024 .bf16) : FVec Ideal S8192x2816 .f32 :=
  mulf (broadcastInDim S8192x2816 ![] Cert.FfnOutDxRefIdeal.Gen.bcast_S_S8192x2816 (constant (F := Ideal) Cert.FfnOutDxRefIdeal.S_ .f32 0x3F000000#32))
    (Host.dotGeneral (F := Ideal) (φ₁ := .f32) (φ₂ := .f32) Cert.FfnOutDxRefIdeal.dot_S8192x1024_S1024x2816_S8192x2816_1_0_0_1_n_n none d
      (transpose Cert.FfnOutDxRefIdeal.S1024x2816 [1, 0] (extf (F := Ideal) .f32
        (shapeCast Cert.FfnOutDxRefIdeal.S2816x1024 w Cert.FfnOutDxRefIdeal.Gen.shapeCasts_S1x2816x1024_S2816x1024) Cert.FfnOutDxRefIdeal.Gen.bitsLt_bf16_f32)
        Cert.FfnOutDxRefIdeal.Gen.transposes_S2816x1024_S1024x2816_1_0))

theorem grad_at (d : FVec Ideal S8192x1024 .f32) (w : FVec Ideal S1x2816x1024 .bf16) (i : S8192x2816.Idx) :
    grad d w i = Ideal.ofBits .f32 0x3F000000#32 * ∑ k : Fin 1024, d (ix2 (i 0) k) * w (ix3 0 (i 1) k) := by
  pointwise [grad]

theorem cleared (y : S1024x1408.Idx) : k0_pay1 (F := Ideal) y = 0 := by pointwise [k0_pay1]

theorem added (s : FVec Ideal S1024x1408 .f32) (d : FVec Ideal S1024x1024 .f32) (w : FVec Ideal S1x1408x1024 .bf16) (y : S1024x1408.Idx) :
    k0_pay2 (F := Ideal) s d w y = s y + ∑ k : Fin 1024, d (ix2 (y 0) k) * w (ix3 0 (y 1) k) := by
  pointwise [k0_pay2]

theorem halved (s : FVec Ideal S1024x1408 .f32) (y : S1024x1408.Idx) : k0_pay3 (F := Ideal) s y = s y * Ideal.ofBits .f32 0x3F000000#32 := by
  pointwise [k0_pay3]

/-- Which rows and columns a step reads and writes. -/
theorem places : ∀ t : Fin cfg0.N, win0_0.index t = ![t.val / 2, 0] ∧ win0_1.index t = ![0, t.val % 2, 0] ∧ win0_2.index t = ![t.val / 2, t.val % 2] := by
  decide +kernel

/-- A step writes half its rows' products with its columns. -/
theorem wrote (c : Dev nD) (t : Fin cfg0.N) (y : S1024x1408.Idx) :
    outsAt0 m c t y = (∑ k : Fin 1024, (show FVec Ideal S1024x1024 .f32 from iblk m c 0 t) (ix2 (y 0) k)
      * (show FVec Ideal S1x1408x1024 .bf16 from iblk m c 1 t) (ix3 0 (y 1) k)) * Ideal.ofBits .f32 0x3F000000#32 := by
  unfold outsAt0
  frame_out
  rw [halved, added, cleared, zero_add]

/-- The call ends with the gradient. -/
theorem final (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  blk_simp
  rw [after0_2, wrote m c t, grad_at, mul_comm]
  refine congrArg (Ideal.ofBits .f32 0x3F000000#32 * ·) ?_
  refine Fin.sum_fin_congr fun k => ?_
  congr 1 <;> blk_ext [iblk, V, places t]

end Exchange.FfnOutDx

end
-- ==== Proof.FfnOutDw.Value.lean ====
/-
  The gradient of the second projection of a feed-forward layer: what the call leaves, summed over all the tokens.
-/
module

public import proofs.«01_k».proof.Proof.Gen.FfnOutDwIdeal.Frame
public import proofs.«01_k».proof.Proof.Gen.FfnOutDwRefIdeal
public import Idealize.ShloMosaic.Lib.Pipeline.ValueKit

@[expose] public section

set_option maxRecDepth 16384

noncomputable section

namespace Exchange.FfnOutDw

open Cert.FfnOutDwIdeal Cert.FfnOutDwIdeal.Gen Idealize.ShloMosaic Idealize.ShloMosaic.TcCoe Idealize.ShloMosaic.Pipeline
open scoped BigOperators

variable (m : (ℓ : Loc nD τ sig) → Buf (Elt Ideal) ℓ)

/-- The gradient, as the reference writes it. -/
def grad (a : FVec Ideal S8192x2816 .bf16) (d : FVec Ideal S8192x1024 .f32) : FVec Ideal S1x2816x1024 .f32 :=
  mulf (broadcastInDim S1x2816x1024 ![] Cert.FfnOutDwRefIdeal.Gen.bcast_S_S1x2816x1024 (constant (F := Ideal) Cert.FfnOutDwRefIdeal.S_ .f32 0x3F000000#32))
    (broadcastInDim S1x2816x1024 ![1, 2] Cert.FfnOutDwRefIdeal.Gen.bcast_S2816x1024_S1x2816x1024_1_2
      (Host.dotGeneral (F := Ideal) (φ₁ := .f32) (φ₂ := .f32) Cert.FfnOutDwRefIdeal.dot_S2816x8192_S8192x1024_S2816x1024_1_0_0_1_n_n none
        (transpose Cert.FfnOutDwRefIdeal.S2816x8192 [1, 0] (extf (F := Ideal) .f32 a Cert.FfnOutDwRefIdeal.Gen.bitsLt_bf16_f32)
          Cert.FfnOutDwRefIdeal.Gen.transposes_S8192x2816_S2816x8192_1_0) d))

theorem grad_at (a : FVec Ideal S8192x2816 .bf16) (d : FVec Ideal S8192x1024 .f32) (i : S1x2816x1024.Idx) :
    grad a d i = Ideal.ofBits .f32 0x3F000000#32 * ∑ l : Fin 8192, a (ix2 l (i 1)) * d (ix2 l (i 2)) := by
  pointwise [grad]

theorem cleared (y : S1408x1024.Idx) : k0_pay1 (F := Ideal) y = 0 := by pointwise [k0_pay1]

/-- A step adds its tokens' products. -/
theorem added (s : FVec Ideal S1408x1024 .f32) (a : FVec Ideal S1024x1408 .bf16) (d : FVec Ideal S1024x1024 .f32) (y : S1408x1024.Idx) :
    k0_pay2 (F := Ideal) s a d y = s y + ∑ k : Fin 1024, a (ix2 k (y 0)) * d (ix2 k (y 1)) := by
  pointwise [k0_pay2]

/-- The last step halves the sum. -/
theorem halved (s : FVec Ideal S1408x1024 .f32) (y : S1x1408x1024.Idx) :
    k0_pay3 (F := Ideal) s y = s (ix2 (y 1) (y 2)) * Ideal.ofBits .f32 0x3F000000#32 := by
  pointwise [k0_pay3]

/-- Which rows and columns a step reads and writes. -/
theorem places : ∀ t : Fin cfg0.N, win0_0.index t = ![t.val % 8, t.val / 8] ∧ win0_1.index t = ![t.val % 8, 0] ∧ win0_2.index t = ![0, t.val / 8, 0] := by
  decide +kernel

/-- The sum that a step leaves for the next. -/
theorem summed (c : Dev nD) (t : Fin cfg0.N) (ht : t.val % 8 = 7) (y : S1408x1024.Idx) :
    (outsAt0 m c t.val t.isLt).2 y = ∑ s : Fin 8, ∑ k : Fin 1024,
      (show FVec Ideal S1024x1408 .bf16 from iblk m c 0 ⟨8 * (t.val / 8) + s.val, run_point_lt_of_flush t ht s⟩) (ix2 k (y 0))
        * (show FVec Ideal S1024x1024 .f32 from iblk m c 1 ⟨8 * (t.val / 8) + s.val, run_point_lt_of_flush t ht s⟩) (ix2 k (y 1)) := by
  rw [eq_sum_fin_of_reset_step_apply_of_flush (fun n h => (outsAt0 m c n h).2) 8 (fun _ => 0)
    (fun p j => ∑ k : Fin 1024, (show FVec Ideal S1024x1408 .bf16 from iblk m c 0 p) (ix2 k (j 0)) * (show FVec Ideal S1024x1024 .f32 from iblk m c 1 p) (ix2 k (j 1)))
    (fun t h j => by
      rw [outsAt0_A m c t h (by omega)]; frame_out; rw [added, cleared])
    (fun t h j => by
      by_cases h' : t.val % 8 = 7
      · rw [outsAt0_C m c t h h']; frame_out; rw [added]; exact congrArg (fun v : FVec Ideal S1408x1024 .f32 => (v j + _ : EReal)) (Memref.IsWhole.read_unread _ _)
      · rw [outsAt0_B m c t h h']; frame_out; rw [added]; exact congrArg (fun v : FVec Ideal S1408x1024 .f32 => (v j + _ : EReal)) (Memref.IsWhole.read_unread _ _)) t ht y, zero_add]

/-- The last step of a block writes half its sum. -/
theorem wrote (c : Dev nD) (t : Fin cfg0.N) (ht : t.val % 8 = 7) (y : S1x1408x1024.Idx) :
    (outsAt0 m c t.val t.isLt).1 y = (outsAt0 m c t.val t.isLt).2 (ix2 (y 1) (y 2)) * Ideal.ofBits .f32 0x3F000000#32 := by
  rw [outsAt0_C m c t (by omega) ht]
  frame_out
  rw [halved]

/-- The call ends with the gradient. -/
theorem final (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, wrote m c t ht, summed m c t ht, grad_at, mul_comm]
  refine congrArg (Ideal.ofBits .f32 0x3F000000#32 * ·) ?_
  refine Fin.sum_mul_add_congr fun s k hl => ?_
  congr 1 <;> blk_ext [iblk, V, places t, places ⟨_, run_point_lt_of_flush t ht s⟩]

end Exchange.FfnOutDw

end
-- ==== Proof.FfnInDx.Value.lean ====
/-
  The gradient that a feed-forward layer's first projection passes back to its input, summed over the devices' columns.
-/
module

public import proofs.«01_k».proof.Proof.Gen.FfnInDxIdeal.Frame
public import proofs.«01_k».proof.Proof.Gen.FfnInDxRefIdeal
public import Idealize.ShloMosaic.Lib.Pipeline.ValueKit

@[expose] public section

set_option maxRecDepth 16384

noncomputable section

namespace Exchange.FfnInDx

open Cert.FfnInDxIdeal Cert.FfnInDxIdeal.Gen Idealize.ShloMosaic Idealize.ShloMosaic.TcCoe Idealize.ShloMosaic.Pipeline
open scoped BigOperators

variable (m : (ℓ : Loc nD τ sig) → Buf (Elt Ideal) ℓ)

/-- The gradient, as the reference writes it. -/
def grad (d : FVec Ideal S8192x5632 .bf16) (w : FVec Ideal S4x1024x1408 .bf16) : FVec Ideal S8192x1024 .f32 :=
  Host.dotGeneral (F := Ideal) (φ₁ := .f32) (φ₂ := .f32) Cert.FfnInDxRefIdeal.dot_S8192x5632_S5632x1024_S8192x1024_1_0_0_1_n_n none
    (extf (F := Ideal) .f32 d Cert.FfnInDxRefIdeal.Gen.bitsLt_bf16_f32)
    (transpose Cert.FfnInDxRefIdeal.S5632x1024 [1, 0] (shapeCast Cert.FfnInDxRefIdeal.S1024x5632
      (transpose Cert.FfnInDxRefIdeal.S1024x4x1408 [1, 0, 2] (extf (F := Ideal) .f32 w Cert.FfnInDxRefIdeal.Gen.bitsLt_bf16_f32)
        Cert.FfnInDxRefIdeal.Gen.transposes_S4x1024x1408_S1024x4x1408_1_0_2) Cert.FfnInDxRefIdeal.Gen.shapeCasts_S1024x4x1408_S1024x5632)
      Cert.FfnInDxRefIdeal.Gen.transposes_S1024x5632_S5632x1024_1_0)

/-- The device that a column belongs to, and its place there. -/
def piece (j : Fin 5632) : Fin 4 := ⟨j.val / 1408, by omega⟩
def place (j : Fin 5632) : Fin 1408 := ⟨j.val % 1408, by omega⟩

theorem grad_at (d : FVec Ideal S8192x5632 .bf16) (w : FVec Ideal S4x1024x1408 .bf16) (i : S8192x1024.Idx) :
    grad d w i = ∑ l : Fin 5632, d (ix2 (i 0) l) * w (ix3 (piece l) (i 1) (place l)) := by
  pointwise [grad, piece, place]

theorem cleared (y : S1024x1024.Idx) : k0_pay1 (F := Ideal) y = 0 := by pointwise [k0_pay1]

/-- A step adds the products over one device's columns. -/
theorem added (s : FVec Ideal S1024x1024 .f32) (d : FVec Ideal S1024x1408 .bf16) (w : FVec Ideal S1x1024x1408 .bf16) (y : S1024x1024.Idx) :
    k0_pay2 (F := Ideal) s d w y = s y + ∑ k : Fin 1408, d (ix2 (y 0) k) * w (ix3 0 (y 1) k) := by
  pointwise [k0_pay2]

/-- Which rows and columns a step reads and writes. -/
theorem places : ∀ t : Fin cfg0.N, win0_0.index t = ![t.val / 4, t.val % 4] ∧ win0_1.index t = ![t.val % 4, 0, 0] ∧ win0_2.index t = ![t.val / 4, 0] := by
  decide +kernel

/-- The sum that a block's last step leaves. -/
theorem summed (c : Dev nD) (t : Fin cfg0.N) (ht : t.val % 4 = 3) (y : S1024x1024.Idx) :
    (outsAt0 m c t.val t.isLt).2 y = ∑ s : Fin 4, ∑ k : Fin 1408,
      (show FVec Ideal S1024x1408 .bf16 from iblk m c 0 ⟨4 * (t.val / 4) + s.val, run_point_lt_of_flush t ht s⟩) (ix2 (y 0) k)
        * (show FVec Ideal S1x1024x1408 .bf16 from iblk m c 1 ⟨4 * (t.val / 4) + s.val, run_point_lt_of_flush t ht s⟩) (ix3 0 (y 1) k) := by
  rw [eq_sum_fin_of_reset_step_apply_of_flush (fun n h => (outsAt0 m c n h).2) 4 (fun _ => 0)
    (fun p j => ∑ k : Fin 1408, (show FVec Ideal S1024x1408 .bf16 from iblk m c 0 p) (ix2 (j 0) k) * (show FVec Ideal S1x1024x1408 .bf16 from iblk m c 1 p) (ix3 0 (j 1) k))
    (fun t h j => by
      rw [outsAt0_A m c t h (by omega)]; frame_out; rw [added, cleared])
    (fun t h j => by
      by_cases h' : t.val % 4 = 3
      · rw [outsAt0_C m c t h h']; frame_out; rw [added]; exact congrArg (fun v : FVec Ideal S1024x1024 .f32 => (v j + _ : EReal)) (Memref.IsWhole.read_unread _ _)
      · rw [outsAt0_B m c t h h']; frame_out; rw [added]; exact congrArg (fun v : FVec Ideal S1024x1024 .f32 => (v j + _ : EReal)) (Memref.IsWhole.read_unread _ _)) t ht y, zero_add]

/-- The last step of a block writes its sum. -/
theorem wrote (c : Dev nD) (t : Fin cfg0.N) (ht : t.val % 4 = 3) (y : S1024x1024.Idx) :
    (outsAt0 m c t.val t.isLt).1 y = (outsAt0 m c t.val t.isLt).2 y := by
  rw [outsAt0_C m c t (by omega) ht]
  frame_out

/-- The call ends with the gradient. -/
theorem final (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, wrote m c t ht, summed m c t ht, grad_at]
  refine Fin.sum_mul_add_congr fun s k hl => ?_
  congr 1 <;> blk_ext [piece, place, iblk, V, places t, places ⟨_, run_point_lt_of_flush t ht s⟩]

end Exchange.FfnInDx

end
-- ==== Proof.FfnInDw.Value.lean ====
/-
  The gradient of the first projection of a feed-forward layer: the devices' pieces of it, summed over all the tokens.
-/
module

public import proofs.«01_k».proof.Proof.Gen.FfnInDwIdeal.Frame
public import proofs.«01_k».proof.Proof.Gen.FfnInDwRefIdeal
public import Idealize.ShloMosaic.Lib.Pipeline.ValueKit

@[expose] public section

set_option maxRecDepth 16384

noncomputable section

namespace Exchange.FfnInDw

open Cert.FfnInDwIdeal Cert.FfnInDwIdeal.Gen Idealize.ShloMosaic Idealize.ShloMosaic.TcCoe Idealize.ShloMosaic.Pipeline
open scoped BigOperators

variable (m : (ℓ : Loc nD τ sig) → Buf (Elt Ideal) ℓ)

/-- The gradient, cut by columns into the devices' pieces, as the reference writes it. -/
def grad (n : FVec Ideal S8192x1024 .bf16) (d : FVec Ideal S8192x5632 .bf16) : FVec Ideal S4x1024x1408 .f32 :=
  transpose S4x1024x1408 [1, 0, 2] (shapeCast Cert.FfnInDwRefIdeal.S1024x4x1408
    (Host.dotGeneral (F := Ideal) (φ₁ := .f32) (φ₂ := .f32) Cert.FfnInDwRefIdeal.dot_S1024x8192_S8192x5632_S1024x5632_1_0_0_1_n_n none
      (transpose Cert.FfnInDwRefIdeal.S1024x8192 [1, 0] (extf (F := Ideal) .f32 n Cert.FfnInDwRefIdeal.Gen.bitsLt_bf16_f32)
        Cert.FfnInDwRefIdeal.Gen.transposes_S8192x1024_S1024x8192_1_0)
      (extf (F := Ideal) .f32 d Cert.FfnInDwRefIdeal.Gen.bitsLt_bf16_f32))
    Cert.FfnInDwRefIdeal.Gen.shapeCasts_S1024x5632_S1024x4x1408) Cert.FfnInDwRefIdeal.Gen.transposes_S1024x4x1408_S4x1024x1408_1_0_2

/-- Column `q` of piece `p` is column `1408 p + q` of the whole. -/
def column (i : S4x1024x1408.Idx) : Fin 5632 := ⟨(i 0).val * 1408 + (i 2).val, by
  have h0 : (i 0).val < 4 := (i 0).isLt
  have h2 : (i 2).val < 1408 := (i 2).isLt
  omega⟩

theorem grad_at (n : FVec Ideal S8192x1024 .bf16) (d : FVec Ideal S8192x5632 .bf16) (i : S4x1024x1408.Idx) :
    grad n d i = ∑ l : Fin 8192, n (ix2 l (i 1)) * d (ix2 l (column i)) := by
  pointwise [grad, column]

theorem cleared (y : S1024x1408.Idx) : k0_pay1 (F := Ideal) y = 0 := by pointwise [k0_pay1]

/-- A step adds its tokens' products. -/
theorem added (s : FVec Ideal S1024x1408 .f32) (n : FVec Ideal S1024x1024 .bf16) (d : FVec Ideal S1024x1408 .bf16) (y : S1024x1408.Idx) :
    k0_pay2 (F := Ideal) s n d y = s y + ∑ k : Fin 1024, n (ix2 k (y 0)) * d (ix2 k (y 1)) := by
  pointwise [k0_pay2]

theorem stored (s : FVec Ideal S1024x1408 .f32) (y : S1x1024x1408.Idx) : k0_pay3 (F := Ideal) s y = s (ix2 (y 1) (y 2)) := by
  pointwise [k0_pay3]

/-- Which rows and columns a step reads and writes. -/
theorem places : ∀ t : Fin cfg0.N, win0_0.index t = ![t.val % 8, 0] ∧ win0_1.index t = ![t.val % 8, t.val / 8] ∧ win0_2.index t = ![t.val / 8, 0, 0] := by
  decide +kernel

/-- The sum that a block's last step leaves. -/
theorem summed (c : Dev nD) (t : Fin cfg0.N) (ht : t.val % 8 = 7) (y : S1024x1408.Idx) :
    (outsAt0 m c t.val t.isLt).2 y = ∑ s : Fin 8, ∑ k : Fin 1024,
      (show FVec Ideal S1024x1024 .bf16 from iblk m c 0 ⟨8 * (t.val / 8) + s.val, run_point_lt_of_flush t ht s⟩) (ix2 k (y 0))
        * (show FVec Ideal S1024x1408 .bf16 from iblk m c 1 ⟨8 * (t.val / 8) + s.val, run_point_lt_of_flush t ht s⟩) (ix2 k (y 1)) := by
  rw [eq_sum_fin_of_reset_step_apply_of_flush (fun n h => (outsAt0 m c n h).2) 8 (fun _ => 0)
    (fun p j => ∑ k : Fin 1024, (show FVec Ideal S1024x1024 .bf16 from iblk m c 0 p) (ix2 k (j 0)) * (show FVec Ideal S1024x1408 .bf16 from iblk m c 1 p) (ix2 k (j 1)))
    (fun t h j => by
      rw [outsAt0_A m c t h (by omega)]; frame_out; rw [added, cleared])
    (fun t h j => by
      by_cases h' : t.val % 8 = 7
      · rw [outsAt0_C m c t h h']; frame_out; rw [added]; exact congrArg (fun v : FVec Ideal S1024x1408 .f32 => (v j + _ : EReal)) (Memref.IsWhole.read_unread _ _)
      · rw [outsAt0_B m c t h h']; frame_out; rw [added]; exact congrArg (fun v : FVec Ideal S1024x1408 .f32 => (v j + _ : EReal)) (Memref.IsWhole.read_unread _ _)) t ht y, zero_add]

/-- The last step of a block writes its sum. -/
theorem wrote (c : Dev nD) (t : Fin cfg0.N) (ht : t.val % 8 = 7) (y : S1x1024x1408.Idx) :
    (outsAt0 m c t.val t.isLt).1 y = (outsAt0 m c t.val t.isLt).2 (ix2 (y 1) (y 2)) := by
  rw [outsAt0_C m c t (by omega) ht]
  frame_out
  rw [stored]

/-- The call ends with the gradient's pieces. -/
theorem final (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, wrote m c t ht, summed m c t ht, grad_at]
  refine Fin.sum_mul_add_congr fun s k hl => ?_
  congr 1 <;> blk_ext [column, iblk, V, places t, places ⟨_, run_point_lt_of_flush t ht s⟩]

end Exchange.FfnInDw

end
-- ==== Proof.Feed.Claims.lean ====
/-
  The products of a feed-forward layer, forward and backward: each call's frames, and its result against the reference's.
-/
module

public import proofs.«01_k».proof.Defs
public import proofs.«01_k».proof.Proof.Gen.FfnIn
public import proofs.«01_k».proof.Proof.Gen.FfnInRefIdeal.Run
public import proofs.«01_k».proof.Proof.FfnIn.Value
public import proofs.«01_k».proof.Proof.Gen.FfnOut
public import proofs.«01_k».proof.Proof.Gen.FfnOutRefIdeal.Run
public import proofs.«01_k».proof.Proof.FfnOut.Value
public import proofs.«01_k».proof.Proof.Gen.FfnOutDx
public import proofs.«01_k».proof.Proof.Gen.FfnOutDxRefIdeal.Run
public import proofs.«01_k».proof.Proof.FfnOutDx.Value
public import proofs.«01_k».proof.Proof.Gen.FfnOutDw
public import proofs.«01_k».proof.Proof.Gen.FfnOutDwRefIdeal.Run
public import proofs.«01_k».proof.Proof.FfnOutDw.Value
public import proofs.«01_k».proof.Proof.Gen.FfnInDx
public import proofs.«01_k».proof.Proof.Gen.FfnInDxRefIdeal.Run
public import proofs.«01_k».proof.Proof.FfnInDx.Value
public import proofs.«01_k».proof.Proof.Gen.FfnInDw
public import proofs.«01_k».proof.Proof.Gen.FfnInDwRefIdeal.Run
public import proofs.«01_k».proof.Proof.FfnInDw.Value

@[expose] public section

noncomputable section

open Idealize.ShloMosaic Idealize.ShloMosaic.TcCoe Idealize.SL.Sem

/-! ## The layer's first product -/

namespace Exchange.FfnIn

open Cert.FfnInIdeal Cert.FfnInIdeal.Gen

/-- The call's body table is one text, whichever floats it is read at. -/
theorem same : Cert.FfnIn.defs (F := Bits) = defs (F := Bits) :=
  congrArg (Pipeline.defs _) (congrArg Defs.onTc (funext fun l => funext fun p => match l, p with | 0, (_, _) => rfl))

theorem frame : Cert.quiescent_FfnIn (hFfnIn := Cert.FfnIn.Gen.facts) := fun m g _ => by
  rw [same]
  exact Gen.frame (F := Bits) m g

theorem frame_ideal : Cert.quiescent_FfnInIdeal (hFfnInIdeal := Gen.facts) := fun m g _ => Gen.frame (F := Ideal) m g

theorem frame_ref_ideal : Cert.quiescent_FfnInRefIdeal (hFfnInRefIdeal := Cert.FfnInRefIdeal.Gen.facts) := fun m g _ =>
  (θ_run Cert.FfnInRefIdeal.defs _ _).mono (fun _ h => ⟨fun c => (h c).2, funext fun s => ((by decide : ∀ _ : SemLoc Cert.FfnInRefIdeal.sig, False) s.2).elim⟩)
    (Cert.FfnInRefIdeal.Value.run (F := Ideal) m g)

theorem algebraic : Cert.algebraic_FfnInIdeal_FfnInRefIdeal (hFfnInIdeal := Gen.facts) (hFfnInRefIdeal := Cert.FfnInRefIdeal.Gen.facts) :=
  fun m g m' g' _ hA => ⟨fun c => product (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.FfnInRefIdeal.defs _ _).mono (fun _ h c => ⟨(h c).1.trans (congrArg₂ product (hA c).1 (hA c).2), (h c).2⟩)
      (Cert.FfnInRefIdeal.Value.run (F := Ideal) m' g')⟩

end Exchange.FfnIn

/-! ## The layer's second product, with the residual stream -/

namespace Exchange.FfnOut

open Cert.FfnOutIdeal Cert.FfnOutIdeal.Gen

/-- The call's body table is one text, whichever floats it is read at. -/
theorem same : Cert.FfnOut.defs (F := Bits) = defs (F := Bits) :=
  congrArg (Pipeline.defs _) (congrArg Defs.onTc (funext fun l => funext fun p => match l, p with | 0, (_, _) => rfl))

theorem frame : Cert.quiescent_FfnOut (hFfnOut := Cert.FfnOut.Gen.facts) := fun m g _ => by
  rw [same]
  exact Gen.frame (F := Bits) m g

theorem frame_ideal : Cert.quiescent_FfnOutIdeal (hFfnOutIdeal := Gen.facts) := fun m g _ => Gen.frame (F := Ideal) m g

theorem frame_ref_ideal : Cert.quiescent_FfnOutRefIdeal (hFfnOutRefIdeal := Cert.FfnOutRefIdeal.Gen.facts) := fun m g _ =>
  (θ_run Cert.FfnOutRefIdeal.defs _ _).mono (fun _ h => ⟨fun c => (h c).2, funext fun s => ((by decide : ∀ _ : SemLoc Cert.FfnOutRefIdeal.sig, False) s.2).elim⟩)
    (Cert.FfnOutRefIdeal.Value.run (F := Ideal) m g)

theorem algebraic : Cert.algebraic_FfnOutIdeal_FfnOutRefIdeal (hFfnOutIdeal := Gen.facts) (hFfnOutRefIdeal := Cert.FfnOutRefIdeal.Gen.facts) :=
  fun m g m' g' _ hA => ⟨fun c => output (m ((c.tc : Thread nD τ).loc main_arg0)) (m ((c.tc : Thread nD τ).loc main_arg1)) (m ((c.tc : Thread nD τ).loc main_arg2)),
    (θ_run defs _ _).mono (fun _ h c => ⟨((h.1 c).1 3).trans (final m c), h.2 c⟩)
      (θ_run_and (run_main (F := Ideal) m g) (Gen.unchanged (F := Ideal) m g)),
    (θ_run Cert.FfnOutRefIdeal.defs _ _).mono (fun _ h c => ⟨(h c).1.trans (by rw [(hA c).1, (hA c).2.1, (hA c).2.2]; rfl), (h c).2⟩)
      (Cert.FfnOutRefIdeal.Value.run (F := Ideal) m' g')⟩

end Exchange.FfnOut

/-! ## The second product's input gradient -/

namespace Exchange.FfnOutDx

open Cert.FfnOutDxIdeal Cert.FfnOutDxIdeal.Gen

/-- The call's body table is one text, whichever floats it is read at. -/
theorem same : Cert.FfnOutDx.defs (F := Bits) = defs (F := Bits) :=
  congrArg (Pipeline.defs _) (congrArg Defs.onTc (funext fun l => funext fun p => match l, p with | 0, (_, _) => rfl))

theorem frame : Cert.quiescent_FfnOutDx (hFfnOutDx := Cert.FfnOutDx.Gen.facts) := fun m g _ => by
  rw [same]
  exact Gen.frame (F := Bits) m g

theorem frame_ideal : Cert.quiescent_FfnOutDxIdeal (hFfnOutDxIdeal := Gen.facts) := fun m g _ => Gen.frame (F := Ideal) m g

theorem frame_ref_ideal : Cert.quiescent_FfnOutDxRefIdeal (hFfnOutDxRefIdeal := Cert.FfnOutDxRefIdeal.Gen.facts) := fun m g _ =>
  (θ_run Cert.FfnOutDxRefIdeal.defs _ _).mono (fun _ h => ⟨fun c => (h c).2, funext fun s => ((by decide : ∀ _ : SemLoc Cert.FfnOutDxRefIdeal.sig, False) s.2).elim⟩)
    (Cert.FfnOutDxRefIdeal.Value.run (F := Ideal) m g)

theorem algebraic : Cert.algebraic_FfnOutDxIdeal_FfnOutDxRefIdeal (hFfnOutDxIdeal := Gen.facts) (hFfnOutDxRefIdeal := Cert.FfnOutDxRefIdeal.Gen.facts) :=
  fun m g m' g' _ hA => ⟨fun c => grad (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.FfnOutDxRefIdeal.defs _ _).mono (fun _ h c => ⟨(h c).1.trans (congrArg₂ grad (hA c).1 (hA c).2), (h c).2⟩)
      (Cert.FfnOutDxRefIdeal.Value.run (F := Ideal) m' g')⟩

end Exchange.FfnOutDx

/-! ## The second product's weight gradient -/

namespace Exchange.FfnOutDw

open Cert.FfnOutDwIdeal Cert.FfnOutDwIdeal.Gen

/-- The call's body table is one text, whichever floats it is read at. -/
theorem same : Cert.FfnOutDw.defs (F := Bits) = defs (F := Bits) :=
  congrArg (Pipeline.defs _) (congrArg Defs.onTc (funext fun l => funext fun p => match l, p with | 0, (_, _) => rfl))

theorem frame : Cert.quiescent_FfnOutDw (hFfnOutDw := Cert.FfnOutDw.Gen.facts) := fun m g _ => by
  rw [same]
  exact Gen.frame (F := Bits) m g

theorem frame_ideal : Cert.quiescent_FfnOutDwIdeal (hFfnOutDwIdeal := Gen.facts) := fun m g _ => Gen.frame (F := Ideal) m g

theorem frame_ref_ideal : Cert.quiescent_FfnOutDwRefIdeal (hFfnOutDwRefIdeal := Cert.FfnOutDwRefIdeal.Gen.facts) := fun m g _ =>
  (θ_run Cert.FfnOutDwRefIdeal.defs _ _).mono (fun _ h => ⟨fun c => (h c).2, funext fun s => ((by decide : ∀ _ : SemLoc Cert.FfnOutDwRefIdeal.sig, False) s.2).elim⟩)
    (Cert.FfnOutDwRefIdeal.Value.run (F := Ideal) m g)

theorem algebraic : Cert.algebraic_FfnOutDwIdeal_FfnOutDwRefIdeal (hFfnOutDwIdeal := Gen.facts) (hFfnOutDwRefIdeal := Cert.FfnOutDwRefIdeal.Gen.facts) :=
  fun m g m' g' _ hA => ⟨fun c => grad (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.FfnOutDwRefIdeal.defs _ _).mono (fun _ h c => ⟨(h c).1.trans (congrArg₂ grad (hA c).1 (hA c).2), (h c).2⟩)
      (Cert.FfnOutDwRefIdeal.Value.run (F := Ideal) m' g')⟩

end Exchange.FfnOutDw

/-! ## The first product's input gradient -/

namespace Exchange.FfnInDx

open Cert.FfnInDxIdeal Cert.FfnInDxIdeal.Gen

/-- The call's body table is one text, whichever floats it is read at. -/
theorem same : Cert.FfnInDx.defs (F := Bits) = defs (F := Bits) :=
  congrArg (Pipeline.defs _) (congrArg Defs.onTc (funext fun l => funext fun p => match l, p with | 0, (_, _) => rfl))

theorem frame : Cert.quiescent_FfnInDx (hFfnInDx := Cert.FfnInDx.Gen.facts) := fun m g _ => by
  rw [same]
  exact Gen.frame (F := Bits) m g

theorem frame_ideal : Cert.quiescent_FfnInDxIdeal (hFfnInDxIdeal := Gen.facts) := fun m g _ => Gen.frame (F := Ideal) m g

theorem frame_ref_ideal : Cert.quiescent_FfnInDxRefIdeal (hFfnInDxRefIdeal := Cert.FfnInDxRefIdeal.Gen.facts) := fun m g _ =>
  (θ_run Cert.FfnInDxRefIdeal.defs _ _).mono (fun _ h => ⟨fun c => (h c).2, funext fun s => ((by decide : ∀ _ : SemLoc Cert.FfnInDxRefIdeal.sig, False) s.2).elim⟩)
    (Cert.FfnInDxRefIdeal.Value.run (F := Ideal) m g)

theorem algebraic : Cert.algebraic_FfnInDxIdeal_FfnInDxRefIdeal (hFfnInDxIdeal := Gen.facts) (hFfnInDxRefIdeal := Cert.FfnInDxRefIdeal.Gen.facts) :=
  fun m g m' g' _ hA => ⟨fun c => grad (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.FfnInDxRefIdeal.defs _ _).mono (fun _ h c => ⟨(h c).1.trans (congrArg₂ grad (hA c).1 (hA c).2), (h c).2⟩)
      (Cert.FfnInDxRefIdeal.Value.run (F := Ideal) m' g')⟩

end Exchange.FfnInDx

/-! ## The first product's weight gradient -/

namespace Exchange.FfnInDw

open Cert.FfnInDwIdeal Cert.FfnInDwIdeal.Gen

/-- The call's body table is one text, whichever floats it is read at. -/
theorem same : Cert.FfnInDw.defs (F := Bits) = defs (F := Bits) :=
  congrArg (Pipeline.defs _) (congrArg Defs.onTc (funext fun l => funext fun p => match l, p with | 0, (_, _) => rfl))

theorem frame : Cert.quiescent_FfnInDw (hFfnInDw := Cert.FfnInDw.Gen.facts) := fun m g _ => by
  rw [same]
  exact Gen.frame (F := Bits) m g

theorem frame_ideal : Cert.quiescent_FfnInDwIdeal (hFfnInDwIdeal := Gen.facts) := fun m g _ => Gen.frame (F := Ideal) m g

theorem frame_ref_ideal : Cert.quiescent_FfnInDwRefIdeal (hFfnInDwRefIdeal := Cert.FfnInDwRefIdeal.Gen.facts) := fun m g _ =>
  (θ_run Cert.FfnInDwRefIdeal.defs _ _).mono (fun _ h => ⟨fun c => (h c).2, funext fun s => ((by decide : ∀ _ : SemLoc Cert.FfnInDwRefIdeal.sig, False) s.2).elim⟩)
    (Cert.FfnInDwRefIdeal.Value.run (F := Ideal) m g)

theorem algebraic : Cert.algebraic_FfnInDwIdeal_FfnInDwRefIdeal (hFfnInDwIdeal := Gen.facts) (hFfnInDwRefIdeal := Cert.FfnInDwRefIdeal.Gen.facts) :=
  fun m g m' g' _ hA => ⟨fun c => grad (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.FfnInDwRefIdeal.defs _ _).mono (fun _ h c => ⟨(h c).1.trans (congrArg₂ grad (hA c).1 (hA c).2), (h c).2⟩)
      (Cert.FfnInDwRefIdeal.Value.run (F := Ideal) m' g')⟩

end Exchange.FfnInDw

end
-- ==== Proof.Norm.Value.lean ====
/-
  The norm before a feed-forward layer: every row divided by the root of its mean square, times the gain.
-/
module

public import proofs.«01_k».proof.Proof.Gen.NormIdeal.Frame
public import proofs.«01_k».proof.Proof.Gen.NormRefIdeal
public import Idealize.ShloMosaic.Lib.Pipeline.ValueKit

@[expose] public section

set_option maxRecDepth 16384

noncomputable section

namespace Exchange.Norm

open Cert.NormIdeal Cert.NormIdeal.Gen Idealize.ShloMosaic Idealize.ShloMosaic.TcCoe Idealize.ShloMosaic.Pipeline
open scoped BigOperators

variable (m : (ℓ : Loc nD τ sig) → Buf (Elt Ideal) ℓ)

/-- The normed rows, as the reference writes them. -/
def normed (x : FVec Ideal S8192x1024 .f32) (g : FVec Ideal S1024 .f32) : FVec Ideal S8192x1024 .bf16 :=
  truncf .bf16 (mulf (mulf x (broadcastInDim S8192x1024 ![0, 1] Cert.NormRefIdeal.Gen.bcast_S8192x1_S8192x1024_0_1
      (Host.rsqrt (addf (Host.divf (broadcastInDim Cert.NormRefIdeal.S8192x1 ![0] Cert.NormRefIdeal.Gen.bcast_S8192_S8192x1_0
          (Host.reduceAdd (mulf x x) (constant (F := Ideal) Cert.NormRefIdeal.S_ .f32 0x00000000#32) Cert.NormRefIdeal.Gen.reducesTo_S8192x1024_S8192_d1 Cert.NormRefIdeal.Gen.h_S_))
        (broadcastInDim Cert.NormRefIdeal.S8192x1 ![] Cert.NormRefIdeal.Gen.bcast_S_S8192x1 (constant Cert.NormRefIdeal.S_ .f32 0x44800000#32)))
        (broadcastInDim Cert.NormRefIdeal.S8192x1 ![] Cert.NormRefIdeal.Gen.bcast_S_S8192x1 (constant Cert.NormRefIdeal.S_ .f32 0x358637BD#32))))))
    (broadcastInDim S8192x1024 ![0, 1] Cert.NormRefIdeal.Gen.bcast_S1x1024_S8192x1024_0_1 (broadcastInDim Cert.NormRefIdeal.S1x1024 ![1] Cert.NormRefIdeal.Gen.bcast_S1024_S1x1024_1 g)))
    Cert.NormRefIdeal.Gen.bitsLt_bf16_f32

/-- What a row with this sum of squares is multiplied by. -/
def rate (s : EReal) : EReal := Ideal.rsqrt (Ideal.div s (Ideal.ofBits .f32 0x44800000#32) + Ideal.ofBits .f32 0x358637BD#32)

theorem normed_at (x : FVec Ideal S8192x1024 .f32) (g : FVec Ideal S1024 .f32) (i : S8192x1024.Idx) :
    normed x g i = x i * rate (∑ l : Fin 1024, x (ix2 (i 0) l) * x (ix2 (i 0) l)) * g (ix1 (i 1)) := by
  pointwise [normed, rate]

theorem stored (x : FVec Ideal S512x1024 .f32) (g : FVec Ideal S1x1024 .f32) (y : S512x1024.Idx) :
    k0_pay1 (F := Ideal) x g y = x y * rate (∑ l : Fin 1024, x (ix2 (y 0) l) * x (ix2 (y 0) l)) * g (ix2 0 (y 1)) := by
  pointwise [k0_pay1, rate]

/-- A step reads and writes its own rows, and the whole gain. -/
theorem places : ∀ t : Fin cfg0.N, win0_0.index t = ![t.val, 0] ∧ win0_1.index t = ![0, 0] ∧ win0_2.index t = ![t.val, 0] := by
  decide +kernel

/-- The gain as the call finds it, a row of its own. -/
theorem gain (c : Dev nD) (q : Fin 1024) : (V m c main_v0 : FVec Ideal S1x1024 .f32) (ix2 0 q) = (m ((c.tc : Thread nD τ).loc main_arg1) : FVec Ideal S1024 .f32) (ix1 q) := by
  show StableHlo.after hostOps0 _ _ _ = _
  after_results
  pointwise []

theorem final (c : Dev nD) : (dats m 0 c).arrAt 2 cfg0.N = normed (m ((c.tc : Thread nD τ).loc main_arg0)) (m ((c.tc : Thread nD τ).loc main_arg1)) := by
  refine (dats m 0 c).arrAt_eq_of_covers 2 _ (by decide +kernel) fun t hf y => ?_
  blk_simp
  rw [after0_2, normed_at]
  frame_out
  rw [stored]
  refine congrArg₂ (fun a b : EReal => a * b) (congrArg₂ (fun a b : EReal => a * b) ?_ (congrArg rate (Finset.sum_congr rfl fun l _ => congrArg₂ (fun a b : EReal => a * b) ?_ ?_))) ?_
  · blk_ext [iblk, V, places t]
  · blk_ext [iblk, V, places t]
  · blk_ext [iblk, V, places t]
  · show iblk m c 1 t (ix2 0 (y 1)) = _
    refine Eq.trans ?_ ((gain m c (y 1)).trans ?_)
    · blk_ext [iblk, places t]
    · blk_ext [places t]

end Exchange.Norm

end
-- ==== Proof.Act.Value.lean ====
/-
  The gated activation of a feed-forward layer, entry by entry.
-/
module

public import proofs.«01_k».proof.Proof.Gen.ActIdeal.Frame
public import proofs.«01_k».proof.Proof.Gen.ActRefIdeal
public import Idealize.ShloMosaic.Lib.Pipeline.ValueKit

@[expose] public section

set_option maxRecDepth 16384

noncomputable section

namespace Exchange.Act

open Cert.ActIdeal Cert.ActIdeal.Gen Idealize.ShloMosaic Idealize.ShloMosaic.TcCoe Idealize.ShloMosaic.Pipeline

variable (m : (ℓ : Loc nD τ sig) → Buf (Elt Ideal) ℓ)

/-- The gates and what they let through: the two halves of the first product's columns. -/
abbrev gates (u : FVec Ideal S8192x5632 .f32) : FVec Ideal S8192x2816 .f32 := extractStridedSlice S8192x2816 ![0, 0] u Cert.ActRefIdeal.Gen.slices_S8192x5632_S8192x2816_0_0
abbrev ups (u : FVec Ideal S8192x5632 .f32) : FVec Ideal S8192x2816 .f32 := extractStridedSlice S8192x2816 ![0, 2816] u Cert.ActRefIdeal.Gen.slices_S8192x5632_S8192x2816_0_2816

abbrev ones : FVec Ideal S8192x2816 .f32 := broadcastInDim S8192x2816 ![] Cert.ActRefIdeal.Gen.bcast_S_S8192x2816 (constant (F := Ideal) Cert.ActRefIdeal.S_ .f32 0x3F800000#32)

/-- How far each gate is open. -/
abbrev opened (u : FVec Ideal S8192x5632 .f32) : FVec Ideal S8192x2816 .f32 := Host.divf ones (addf ones (Host.exp (Host.negf (gates u))))

/-- The activation, as the reference writes it. -/
def active (u : FVec Ideal S8192x5632 .f32) : FVec Ideal S8192x2816 .bf16 :=
  truncf .bf16 (mulf (mulf (gates u) (opened u)) (ups u)) Cert.ActRefIdeal.Gen.bitsLt_bf16_f32

/-- Column `q` of each half. -/
def left (q : Fin 2816) : Fin 5632 := ⟨q.val, by omega⟩
def right (q : Fin 2816) : Fin 5632 := ⟨2816 + q.val, by omega⟩

theorem active_at (u : FVec Ideal S8192x5632 .f32) (i : S8192x2816.Idx) :
    active u i = u (ix2 (i 0) (left (i 1))) * Ideal.logistic (u (ix2 (i 0) (left (i 1)))) * u (ix2 (i 0) (right (i 1))) := by
  pointwise [active, left, right, Ideal.logistic]

theorem stored (x y : FVec Ideal S256x2816 .f32) (j : S256x2816.Idx) : k0_pay1 (F := Ideal) x y j = x j * Ideal.logistic (x j) * y j := by
  pointwise [k0_pay1]

/-- A step reads the two halves of its own rows and writes these rows. -/
theorem places : ∀ t : Fin cfg0.N, win0_0.index t = ![t.val, 0] ∧ win0_1.index t = ![t.val, 1] ∧ win0_2.index t = ![t.val, 0] := by
  decide +kernel

theorem final (c : Dev nD) : (dats m 0 c).arrAt 2 cfg0.N = active (m ((c.tc : Thread nD τ).loc main_arg0)) := by
  refine (dats m 0 c).arrAt_eq_of_covers 2 _ (by decide +kernel) fun t hf y => ?_
  blk_simp
  rw [after0_2, active_at]
  frame_out
  rw [stored]
  refine congrArg₂ (fun a b : EReal => a * b) (congrArg (fun a : EReal => a * Ideal.logistic a) ?_) ?_
  · blk_ext [left, iblk, V, places t]
  · blk_ext [right, iblk, V, places t]

end Exchange.Act

end
-- ==== Proof.ActBwd.Value.lean ====
/-
  The gradient through the gated activation of a feed-forward layer, entry by entry.
-/
module

public import proofs.«01_k».proof.Proof.Gen.ActBwdIdeal.Frame
public import proofs.«01_k».proof.Proof.Gen.ActBwdRefIdeal
public import Idealize.ShloMosaic.Lib.Pipeline.ValueKit

@[expose] public section

set_option maxRecDepth 16384

noncomputable section

namespace Exchange.ActBwd

open Cert.ActBwdIdeal Cert.ActBwdIdeal.Gen Idealize.ShloMosaic Idealize.ShloMosaic.TcCoe Idealize.ShloMosaic.Pipeline

variable (m : (ℓ : Loc nD τ sig) → Buf (Elt Ideal) ℓ)

/-- The gates and what they let through: the two halves of the first product's columns. -/
abbrev gates (u : FVec Ideal S8192x5632 .f32) : FVec Ideal S8192x2816 .f32 := extractStridedSlice S8192x2816 ![0, 0] u Cert.ActBwdRefIdeal.Gen.slices_S8192x5632_S8192x2816_0_0
abbrev ups (u : FVec Ideal S8192x5632 .f32) : FVec Ideal S8192x2816 .f32 := extractStridedSlice S8192x2816 ![0, 2816] u Cert.ActBwdRefIdeal.Gen.slices_S8192x5632_S8192x2816_0_2816

abbrev ones : FVec Ideal S8192x2816 .f32 := broadcastInDim S8192x2816 ![] Cert.ActBwdRefIdeal.Gen.bcast_S_S8192x2816 (constant (F := Ideal) Cert.ActBwdRefIdeal.S_ .f32 0x3F800000#32)

/-- How far each gate is open. -/
abbrev opened (u : FVec Ideal S8192x5632 .f32) : FVec Ideal S8192x2816 .f32 := Host.divf ones (addf ones (Host.exp (Host.negf (gates u))))

/-- The gradient of the gates' columns, then that of the others, as the reference writes them. -/
def grad (u : FVec Ideal S8192x5632 .f32) (d : FVec Ideal S8192x2816 .f32) : FVec Ideal S8192x5632 .bf16 :=
  truncf .bf16 (concatenate S8192x5632 1
    [⟨S8192x2816, mulf (mulf d (ups u)) (addf (opened u) (mulf (mulf (gates u) (opened u)) (subf ones (opened u))))⟩,
      ⟨S8192x2816, mulf d (mulf (gates u) (opened u))⟩]
    Cert.ActBwdRefIdeal.Gen.concatenates_S8192x2816_S8192x2816_S8192x5632_d1) Cert.ActBwdRefIdeal.Gen.bitsLt_bf16_f32

/-- Column `q` of each half. -/
def left (q : Fin 2816) : Fin 5632 := ⟨q.val, by omega⟩
def right (q : Fin 2816) : Fin 5632 := ⟨2816 + q.val, by omega⟩

/-- An entry's gradients, from its gate, the entry that the gate lets through and the gradient of their product. -/
def slope (x y d : EReal) : EReal := d * y * (Ideal.logistic x + x * Ideal.logistic x * (1 - Ideal.logistic x))
def passed (x d : EReal) : EReal := d * (x * Ideal.logistic x)

theorem grad_left (u : FVec Ideal S8192x5632 .f32) (d : FVec Ideal S8192x2816 .f32) (p : Fin 8192) (q : Fin 2816) :
    grad u d (ix2 p (left q)) = slope (u (ix2 p (left q))) (u (ix2 p (right q))) (d (ix2 p q)) := by
  pointwise [grad, slope, left, right, Ideal.logistic]

theorem grad_right (u : FVec Ideal S8192x5632 .f32) (d : FVec Ideal S8192x2816 .f32) (p : Fin 8192) (q : Fin 2816) :
    grad u d (ix2 p (right q)) = passed (u (ix2 p (left q))) (d (ix2 p q)) := by
  pointwise [grad, passed, left, right, Ideal.logistic]

theorem stored_left (x d y : FVec Ideal S256x2816 .f32) (j : S256x2816.Idx) : k0_pay3 (F := Ideal) x d y j = slope (x j) (y j) (d j) := by
  pointwise [k0_pay3, k0_pay1, k0_pay2, slope]

theorem stored_right (x d : FVec Ideal S256x2816 .f32) (j : S256x2816.Idx) : k0_pay4 (F := Ideal) x d j = passed (x j) (d j) := by
  pointwise [k0_pay4, k0_pay1, k0_pay2, passed]

/-- A step reads the two halves of its own rows and writes these rows. -/
theorem places : ∀ t : Fin cfg0.N, win0_0.index t = ![t.val, 0] ∧ win0_1.index t = ![t.val, 1] ∧ win0_2.index t = ![t.val, 0] ∧ win0_3.index t = ![t.val, 0] := by
  decide +kernel

/-- Row `p` of a step's rows. -/
def row (t : Fin cfg0.N) (p : Fin 256) : Fin 8192 := ⟨256 * t.val + p.val, by have := t.isLt; have e : cfg0.N = 32 := rfl; omega⟩

theorem at_left (t : Fin cfg0.N) (j : S256x2816.Idx) : ((cfg0.win 3).blk t).view.emb (r0_1.idx j) = ix2 (row t (j 0)) (left (j 1)) := by
  have e := (places t).2.2.2
  funext a
  apply Fin.ext
  match a with
  | ⟨0, _⟩ => show win0_3.index t 0 * 256 + 1 * (0 + 1 * (j 0).val) = 256 * t.val + (j 0).val; rw [e]; show t.val * 256 + _ = _; omega
  | ⟨1, _⟩ => show win0_3.index t 1 * 5632 + 1 * (0 + 1 * (j 1).val) = (j 1).val; rw [e]; show 0 * 5632 + _ = _; omega

theorem at_right (t : Fin cfg0.N) (j : S256x2816.Idx) : ((cfg0.win 3).blk t).view.emb (r0_2.idx j) = ix2 (row t (j 0)) (right (j 1)) := by
  have e := (places t).2.2.2
  funext a
  apply Fin.ext
  match a with
  | ⟨0, _⟩ => show win0_3.index t 0 * 256 + 1 * (0 + 1 * (j 0).val) = 256 * t.val + (j 0).val; rw [e]; show t.val * 256 + _ = _; omega
  | ⟨1, _⟩ => show win0_3.index t 1 * 5632 + 1 * (2816 + 1 * (j 1).val) = 2816 + (j 1).val; rw [e]; show 0 * 5632 + _ = _; omega

/-- A load of a whole block is the block. -/
theorem whole (x : FVec Ideal S256x2816 .f32) : View.ld (Val := Elt Ideal) (e' := .f32) x r0_0 = x := by
  have h0 : (![0, 0] : Fin 2 → ℕ) = fun _ => 0 := by decide
  exact View.ld_unit_zero (S := S256x2816) h0 _ (show S256x2816.Idx → Elt Ideal .f32 from x)

theorem gate_read (c : Dev nD) (t : Fin cfg0.N) (j : S256x2816.Idx) :
    (iblk m c 0 t : FVec Ideal S256x2816 .f32) j = m ((c.tc : Thread nD τ).loc main_arg0) (ix2 (row t (j 0)) (left (j 1))) := by
  blk_ext [row, left, iblk, V, places t]

theorem up_read (c : Dev nD) (t : Fin cfg0.N) (j : S256x2816.Idx) :
    (iblk m c 1 t : FVec Ideal S256x2816 .f32) j = m ((c.tc : Thread nD τ).loc main_arg0) (ix2 (row t (j 0)) (right (j 1))) := by
  blk_ext [row, right, iblk, V, places t]

theorem grad_read (c : Dev nD) (t : Fin cfg0.N) (j : S256x2816.Idx) :
    (iblk m c 2 t : FVec Ideal S256x2816 .f32) j = m ((c.tc : Thread nD τ).loc main_arg1) (ix2 (row t (j 0)) (j 1)) := by
  blk_ext [row, iblk, V, places t]

/-- A step's left piece. -/
theorem wrote_left (c : Dev nD) (t : Fin cfg0.N) (j : S256x2816.Idx) :
    k0_pay3 (F := Ideal) (View.ld (iblk m c 0 t) r0_0) (View.ld (iblk m c 2 t) r0_0) (View.ld (iblk m c 1 t) r0_0) j
      = grad (m ((c.tc : Thread nD τ).loc main_arg0)) (m ((c.tc : Thread nD τ).loc main_arg1)) (((cfg0.win 3).blk t).view.emb (r0_1.idx j)) := by
  rw [at_left, whole, whole, whole]
  refine (stored_left _ _ _ _).trans (Eq.trans ?_ (grad_left _ _ _ _).symm)
  rw [gate_read, up_read, grad_read]

/-- A step's right piece. -/
theorem wrote_right (c : Dev nD) (t : Fin cfg0.N) (j : S256x2816.Idx) :
    k0_pay4 (F := Ideal) (View.ld (iblk m c 0 t) r0_0) (View.ld (iblk m c 2 t) r0_0) j
      = grad (m ((c.tc : Thread nD τ).loc main_arg0)) (m ((c.tc : Thread nD τ).loc main_arg1)) (((cfg0.win 3).blk t).view.emb (r0_2.idx j)) := by
  rw [at_right, whole, whole]
  refine (stored_right _ _ _).trans (Eq.trans ?_ (grad_right _ _ _ _).symm)
  rw [gate_read, grad_read]

theorem final (c : Dev nD) : (dats m 0 c).arrAt 3 cfg0.N = grad (m ((c.tc : Thread nD τ).loc main_arg0)) (m ((c.tc : Thread nD τ).loc main_arg1)) := by
  refine (dats m 0 c).arrAt_eq_of_covers 3 _ (by decide +kernel) fun t hf y => ?_
  blk_simp
  rw [after0_3]
  unfold out0_3
  refine View.canon_apply_of_pieces (Val := Elt Ideal) (fun y => grad (m ((c.tc : Thread nD τ).loc main_arg0)) (m ((c.tc : Thread nD τ).loc main_arg1)) (((cfg0.win 3).blk t).view.emb y)) _ ?_ y (cover0_3 _ _ y)
  intro piece h
  rcases List.mem_cons.mp h with rfl | h
  · exact wrote_right m c t
  · rcases List.mem_cons.mp h with rfl | h
    · exact wrote_left m c t
    · nomatch h

end Exchange.ActBwd

end
-- ==== Proof.QkvDw.Value.lean ====
/-
  The gradient of the dilated attention's projection: the devices' pieces of it, summed over all the tokens.
-/
module

public import proofs.«01_k».proof.Proof.Gen.QkvDwIdeal.Frame
public import proofs.«01_k».proof.Proof.Gen.QkvDwRefIdeal
public import Idealize.ShloMosaic.Lib.Pipeline.ValueKit

@[expose] public section

set_option maxRecDepth 16384

noncomputable section

namespace Exchange.QkvDw

open Cert.QkvDwIdeal Cert.QkvDwIdeal.Gen Idealize.ShloMosaic Idealize.ShloMosaic.TcCoe Idealize.ShloMosaic.Pipeline
open scoped BigOperators

variable (m : (ℓ : Loc nD τ sig) → Buf (Elt Ideal) ℓ)

/-- The gradient, cut by columns into the devices' pieces, as the reference writes it. -/
def grad (n : FVec Ideal S8192x1024 .bf16) (d : FVec Ideal S8192x9216 .bf16) : FVec Ideal S4x1024x2304 .f32 :=
  transpose S4x1024x2304 [1, 0, 2] (shapeCast Cert.QkvDwRefIdeal.S1024x4x2304
    (Host.dotGeneral (F := Ideal) (φ₁ := .f32) (φ₂ := .f32) Cert.QkvDwRefIdeal.dot_S1024x8192_S8192x9216_S1024x9216_1_0_0_1_n_n none
      (transpose Cert.QkvDwRefIdeal.S1024x8192 [1, 0] (extf (F := Ideal) .f32 n Cert.QkvDwRefIdeal.Gen.bitsLt_bf16_f32)
        Cert.QkvDwRefIdeal.Gen.transposes_S8192x1024_S1024x8192_1_0)
      (extf (F := Ideal) .f32 d Cert.QkvDwRefIdeal.Gen.bitsLt_bf16_f32))
    Cert.QkvDwRefIdeal.Gen.shapeCasts_S1024x9216_S1024x4x2304) Cert.QkvDwRefIdeal.Gen.transposes_S1024x4x2304_S4x1024x2304_1_0_2

/-- Column `q` of piece `p` is column `2304 p + q` of the whole. -/
def column (i : S4x1024x2304.Idx) : Fin 9216 := ⟨(i 0).val * 2304 + (i 2).val, by
  have h0 : (i 0).val < 4 := (i 0).isLt
  have h2 : (i 2).val < 2304 := (i 2).isLt
  omega⟩

theorem grad_at (n : FVec Ideal S8192x1024 .bf16) (d : FVec Ideal S8192x9216 .bf16) (i : S4x1024x2304.Idx) :
    grad n d i = ∑ l : Fin 8192, n (ix2 l (i 1)) * d (ix2 l (column i)) := by
  pointwise [grad, column]

theorem cleared (y : S1024x1152.Idx) : k0_pay1 (F := Ideal) y = 0 := by pointwise [k0_pay1]

/-- A step adds its tokens' products. -/
theorem added (s : FVec Ideal S1024x1152 .f32) (n : FVec Ideal S1024x1024 .bf16) (d : FVec Ideal S1024x1152 .bf16) (y : S1024x1152.Idx) :
    k0_pay2 (F := Ideal) s n d y = s y + ∑ k : Fin 1024, n (ix2 k (y 0)) * d (ix2 k (y 1)) := by
  pointwise [k0_pay2]

theorem stored (s : FVec Ideal S1024x1152 .f32) (y : S1x1024x1152.Idx) : k0_pay3 (F := Ideal) s y = s (ix2 (y 1) (y 2)) := by
  pointwise [k0_pay3]

/-- Which rows and columns a step reads and writes. -/
theorem places : ∀ t : Fin cfg0.N, win0_0.index t = ![t.val % 8, 0] ∧ win0_1.index t = ![t.val % 8, t.val / 8] ∧ win0_2.index t = ![t.val / 8 / 2, 0, t.val / 8 % 2] := by
  decide +kernel

/-- The sum that a block's last step leaves. -/
theorem summed (c : Dev nD) (t : Fin cfg0.N) (ht : t.val % 8 = 7) (y : S1024x1152.Idx) :
    (outsAt0 m c t.val t.isLt).2 y = ∑ s : Fin 8, ∑ k : Fin 1024,
      (show FVec Ideal S1024x1024 .bf16 from iblk m c 0 ⟨8 * (t.val / 8) + s.val, run_point_lt_of_flush t ht s⟩) (ix2 k (y 0))
        * (show FVec Ideal S1024x1152 .bf16 from iblk m c 1 ⟨8 * (t.val / 8) + s.val, run_point_lt_of_flush t ht s⟩) (ix2 k (y 1)) := by
  rw [eq_sum_fin_of_reset_step_apply_of_flush (fun n h => (outsAt0 m c n h).2) 8 (fun _ => 0)
    (fun p j => ∑ k : Fin 1024, (show FVec Ideal S1024x1024 .bf16 from iblk m c 0 p) (ix2 k (j 0)) * (show FVec Ideal S1024x1152 .bf16 from iblk m c 1 p) (ix2 k (j 1)))
    (fun t h j => by
      rw [outsAt0_A m c t h (by omega)]; frame_out; rw [added, cleared])
    (fun t h j => by
      by_cases h' : t.val % 8 = 7
      · rw [outsAt0_C m c t h h']; frame_out; rw [added]; exact congrArg (fun v : FVec Ideal S1024x1152 .f32 => (v j + _ : EReal)) (Memref.IsWhole.read_unread _ _)
      · rw [outsAt0_B m c t h h']; frame_out; rw [added]; exact congrArg (fun v : FVec Ideal S1024x1152 .f32 => (v j + _ : EReal)) (Memref.IsWhole.read_unread _ _)) t ht y, zero_add]

/-- The last step of a block writes its sum. -/
theorem wrote (c : Dev nD) (t : Fin cfg0.N) (ht : t.val % 8 = 7) (y : S1x1024x1152.Idx) :
    (outsAt0 m c t.val t.isLt).1 y = (outsAt0 m c t.val t.isLt).2 (ix2 (y 1) (y 2)) := by
  rw [outsAt0_C m c t (by omega) ht]
  frame_out
  rw [stored]

/-- The call ends with the gradient's pieces. -/
theorem final (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, wrote m c t ht, summed m c t ht, grad_at]
  refine Fin.sum_mul_add_congr fun s k hl => ?_
  congr 1 <;> blk_ext [column, iblk, V, places t, places ⟨_, run_point_lt_of_flush t ht s⟩]

end Exchange.QkvDw

end
-- ==== Proof.KvDw.Value.lean ====
/-
  The gradient of the shared keys' and values' projection, summed over all the tokens.
-/
module

public import proofs.«01_k».proof.Proof.Gen.KvDwIdeal.Frame
public import proofs.«01_k».proof.Proof.Gen.KvDwRefIdeal
public import Idealize.ShloMosaic.Lib.Pipeline.ValueKit

@[expose] public section

set_option maxRecDepth 16384

noncomputable section

namespace Exchange.KvDw

open Cert.KvDwIdeal Cert.KvDwIdeal.Gen Idealize.ShloMosaic Idealize.ShloMosaic.TcCoe Idealize.ShloMosaic.Pipeline
open scoped BigOperators

variable (m : (ℓ : Loc nD τ sig) → Buf (Elt Ideal) ℓ)

/-- The gradient, as the reference writes it. -/
def grad (n : FVec Ideal S8192x1024 .bf16) (d : FVec Ideal S8192x2304 .bf16) : FVec Ideal S1x1024x2304 .f32 :=
  broadcastInDim S1x1024x2304 ![1, 2] Cert.KvDwRefIdeal.Gen.bcast_S1024x2304_S1x1024x2304_1_2
    (Host.dotGeneral (F := Ideal) (φ₁ := .f32) (φ₂ := .f32) Cert.KvDwRefIdeal.dot_S1024x8192_S8192x2304_S1024x2304_1_0_0_1_n_n none
      (transpose Cert.KvDwRefIdeal.S1024x8192 [1, 0] (extf (F := Ideal) .f32 n Cert.KvDwRefIdeal.Gen.bitsLt_bf16_f32)
        Cert.KvDwRefIdeal.Gen.transposes_S8192x1024_S1024x8192_1_0)
      (extf (F := Ideal) .f32 d Cert.KvDwRefIdeal.Gen.bitsLt_bf16_f32))

theorem grad_at (n : FVec Ideal S8192x1024 .bf16) (d : FVec Ideal S8192x2304 .bf16) (i : S1x1024x2304.Idx) :
    grad n d i = ∑ l : Fin 8192, n (ix2 l (i 1)) * d (ix2 l (i 2)) := by
  pointwise [grad]

theorem cleared (y : S1024x1152.Idx) : k0_pay1 (F := Ideal) y = 0 := by pointwise [k0_pay1]

/-- A step adds its tokens' products. -/
theorem added (s : FVec Ideal S1024x1152 .f32) (n : FVec Ideal S1024x1024 .bf16) (d : FVec Ideal S1024x1152 .bf16) (y : S1024x1152.Idx) :
    k0_pay2 (F := Ideal) s n d y = s y + ∑ k : Fin 1024, n (ix2 k (y 0)) * d (ix2 k (y 1)) := by
  pointwise [k0_pay2]

theorem stored (s : FVec Ideal S1024x1152 .f32) (y : S1x1024x1152.Idx) : k0_pay3 (F := Ideal) s y = s (ix2 (y 1) (y 2)) := by
  pointwise [k0_pay3]

/-- Which rows and columns a step reads and writes. -/
theorem places : ∀ t : Fin cfg0.N, win0_0.index t = ![t.val % 8, 0] ∧ win0_1.index t = ![t.val % 8, t.val / 8] ∧ win0_2.index t = ![0, 0, t.val / 8] := by
  decide +kernel

/-- The sum that a block's last step leaves. -/
theorem summed (c : Dev nD) (t : Fin cfg0.N) (ht : t.val % 8 = 7) (y : S1024x1152.Idx) :
    (outsAt0 m c t.val t.isLt).2 y = ∑ s : Fin 8, ∑ k : Fin 1024,
      (show FVec Ideal S1024x1024 .bf16 from iblk m c 0 ⟨8 * (t.val / 8) + s.val, run_point_lt_of_flush t ht s⟩) (ix2 k (y 0))
        * (show FVec Ideal S1024x1152 .bf16 from iblk m c 1 ⟨8 * (t.val / 8) + s.val, run_point_lt_of_flush t ht s⟩) (ix2 k (y 1)) := by
  rw [eq_sum_fin_of_reset_step_apply_of_flush (fun n h => (outsAt0 m c n h).2) 8 (fun _ => 0)
    (fun p j => ∑ k : Fin 1024, (show FVec Ideal S1024x1024 .bf16 from iblk m c 0 p) (ix2 k (j 0)) * (show FVec Ideal S1024x1152 .bf16 from iblk m c 1 p) (ix2 k (j 1)))
    (fun t h j => by
      rw [outsAt0_A m c t h (by omega)]; frame_out; rw [added, cleared])
    (fun t h j => by
      by_cases h' : t.val % 8 = 7
      · rw [outsAt0_C m c t h h']; frame_out; rw [added]; exact congrArg (fun v : FVec Ideal S1024x1152 .f32 => (v j + _ : EReal)) (Memref.IsWhole.read_unread _ _)
      · rw [outsAt0_B m c t h h']; frame_out; rw [added]; exact congrArg (fun v : FVec Ideal S1024x1152 .f32 => (v j + _ : EReal)) (Memref.IsWhole.read_unread _ _)) t ht y, zero_add]

/-- The last step of a block writes its sum. -/
theorem wrote (c : Dev nD) (t : Fin cfg0.N) (ht : t.val % 8 = 7) (y : S1x1024x1152.Idx) :
    (outsAt0 m c t.val t.isLt).1 y = (outsAt0 m c t.val t.isLt).2 (ix2 (y 1) (y 2)) := by
  rw [outsAt0_C m c t (by omega) ht]
  frame_out
  rw [stored]

/-- The call ends with the gradient. -/
theorem final (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, wrote m c t ht, summed m c t ht, grad_at]
  refine Fin.sum_mul_add_congr fun s k hl => ?_
  congr 1 <;> blk_ext [iblk, V, places t, places ⟨_, run_point_lt_of_flush t ht s⟩]

end Exchange.KvDw

end
-- ==== Proof.QueryDw.Value.lean ====
/-
  The gradient of the forgetting attention's queries' projection, summed over all the tokens.
-/
module

public import proofs.«01_k».proof.Proof.Gen.QueryDwIdeal.Frame
public import proofs.«01_k».proof.Proof.Gen.QueryDwRefIdeal
public import Idealize.ShloMosaic.Lib.Pipeline.ValueKit

@[expose] public section

set_option maxRecDepth 16384

noncomputable section

namespace Exchange.QueryDw

open Cert.QueryDwIdeal Cert.QueryDwIdeal.Gen Idealize.ShloMosaic Idealize.ShloMosaic.TcCoe Idealize.ShloMosaic.Pipeline
open scoped BigOperators

variable (m : (ℓ : Loc nD τ sig) → Buf (Elt Ideal) ℓ)

/-- The gradient, as the reference writes it. -/
def grad (n : FVec Ideal S8192x1024 .bf16) (d : FVec Ideal S8192x1024 .bf16) : FVec Ideal S1x1024x1024 .f32 :=
  broadcastInDim S1x1024x1024 ![1, 2] Cert.QueryDwRefIdeal.Gen.bcast_S1024x1024_S1x1024x1024_1_2
    (Host.dotGeneral (F := Ideal) (φ₁ := .f32) (φ₂ := .f32) Cert.QueryDwRefIdeal.dot_S1024x8192_S8192x1024_S1024x1024_1_0_0_1_n_n none
      (transpose Cert.QueryDwRefIdeal.S1024x8192 [1, 0] (extf (F := Ideal) .f32 n Cert.QueryDwRefIdeal.Gen.bitsLt_bf16_f32)
        Cert.QueryDwRefIdeal.Gen.transposes_S8192x1024_S1024x8192_1_0)
      (extf (F := Ideal) .f32 d Cert.QueryDwRefIdeal.Gen.bitsLt_bf16_f32))

theorem grad_at (n : FVec Ideal S8192x1024 .bf16) (d : FVec Ideal S8192x1024 .bf16) (i : S1x1024x1024.Idx) :
    grad n d i = ∑ l : Fin 8192, n (ix2 l (i 1)) * d (ix2 l (i 2)) := by
  pointwise [grad]

theorem cleared (y : S1024x1024.Idx) : k0_pay1 (F := Ideal) y = 0 := by pointwise [k0_pay1]

/-- A step adds its tokens' products. -/
theorem added (s : FVec Ideal S1024x1024 .f32) (n : FVec Ideal S1024x1024 .bf16) (d : FVec Ideal S1024x1024 .bf16) (y : S1024x1024.Idx) :
    k0_pay2 (F := Ideal) s n d y = s y + ∑ k : Fin 1024, n (ix2 k (y 0)) * d (ix2 k (y 1)) := by
  pointwise [k0_pay2]

theorem stored (s : FVec Ideal S1024x1024 .f32) (y : S1x1024x1024.Idx) : k0_pay3 (F := Ideal) s y = s (ix2 (y 1) (y 2)) := by
  pointwise [k0_pay3]

/-- Which rows and columns a step reads and writes. -/
theorem places : ∀ t : Fin cfg0.N, win0_0.index t = ![t.val % 8, 0] ∧ win0_1.index t = ![t.val % 8, 0] ∧ win0_2.index t = ![0, 0, 0] := by
  decide +kernel

/-- The sum that a block's last step leaves. -/
theorem summed (c : Dev nD) (t : Fin cfg0.N) (ht : t.val % 8 = 7) (y : S1024x1024.Idx) :
    (outsAt0 m c t.val t.isLt).2 y = ∑ s : Fin 8, ∑ k : Fin 1024,
      (show FVec Ideal S1024x1024 .bf16 from iblk m c 0 ⟨8 * (t.val / 8) + s.val, run_point_lt_of_flush t ht s⟩) (ix2 k (y 0))
        * (show FVec Ideal S1024x1024 .bf16 from iblk m c 1 ⟨8 * (t.val / 8) + s.val, run_point_lt_of_flush t ht s⟩) (ix2 k (y 1)) := by
  rw [eq_sum_fin_of_reset_step_apply_of_flush (fun n h => (outsAt0 m c n h).2) 8 (fun _ => 0)
    (fun p j => ∑ k : Fin 1024, (show FVec Ideal S1024x1024 .bf16 from iblk m c 0 p) (ix2 k (j 0)) * (show FVec Ideal S1024x1024 .bf16 from iblk m c 1 p) (ix2 k (j 1)))
    (fun t h j => by
      rw [outsAt0_A m c t h (by omega)]; frame_out; rw [added, cleared])
    (fun t h j => by
      by_cases h' : t.val % 8 = 7
      · rw [outsAt0_C m c t h h']; frame_out; rw [added]; exact congrArg (fun v : FVec Ideal S1024x1024 .f32 => (v j + _ : EReal)) (Memref.IsWhole.read_unread _ _)
      · rw [outsAt0_B m c t h h']; frame_out; rw [added]; exact congrArg (fun v : FVec Ideal S1024x1024 .f32 => (v j + _ : EReal)) (Memref.IsWhole.read_unread _ _)) t ht y, zero_add]

/-- The last step of a block writes its sum. -/
theorem wrote (c : Dev nD) (t : Fin cfg0.N) (ht : t.val % 8 = 7) (y : S1x1024x1024.Idx) :
    (outsAt0 m c t.val t.isLt).1 y = (outsAt0 m c t.val t.isLt).2 (ix2 (y 1) (y 2)) := by
  rw [outsAt0_C m c t (by omega) ht]
  frame_out
  rw [stored]

/-- The call ends with the gradient. -/
theorem final (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, wrote m c t ht, summed m c t ht, grad_at]
  refine Fin.sum_mul_add_congr fun s k hl => ?_
  congr 1 <;> blk_ext [iblk, V, places t, places ⟨_, run_point_lt_of_flush t ht s⟩]

end Exchange.QueryDw

end
-- ==== Proof.MixDw.Value.lean ====
/-
  The gradient of an attention's output projection, summed over all the tokens.
-/
module

public import proofs.«01_k».proof.Proof.Gen.MixDwIdeal.Frame
public import proofs.«01_k».proof.Proof.Gen.MixDwRefIdeal
public import Idealize.ShloMosaic.Lib.Pipeline.ValueKit

@[expose] public section

set_option maxRecDepth 16384

noncomputable section

namespace Exchange.MixDw

open Cert.MixDwIdeal Cert.MixDwIdeal.Gen Idealize.ShloMosaic Idealize.ShloMosaic.TcCoe Idealize.ShloMosaic.Pipeline
open scoped BigOperators

variable (m : (ℓ : Loc nD τ sig) → Buf (Elt Ideal) ℓ)

/-- The gradient, as the reference writes it. -/
def grad (n : FVec Ideal S8192x1024 .f32) (d : FVec Ideal S8192x1024 .f32) : FVec Ideal S1x1024x1024 .f32 :=
  broadcastInDim S1x1024x1024 ![1, 2] Cert.MixDwRefIdeal.Gen.bcast_S1024x1024_S1x1024x1024_1_2
    (Host.dotGeneral (F := Ideal) (φ₁ := .f32) (φ₂ := .f32) Cert.MixDwRefIdeal.dot_S1024x8192_S8192x1024_S1024x1024_1_0_0_1_n_n none
      (transpose Cert.MixDwRefIdeal.S1024x8192 [1, 0] n
        Cert.MixDwRefIdeal.Gen.transposes_S8192x1024_S1024x8192_1_0)
      d)

theorem grad_at (n : FVec Ideal S8192x1024 .f32) (d : FVec Ideal S8192x1024 .f32) (i : S1x1024x1024.Idx) :
    grad n d i = ∑ l : Fin 8192, n (ix2 l (i 1)) * d (ix2 l (i 2)) := by
  pointwise [grad]

theorem cleared (y : S1024x1024.Idx) : k0_pay1 (F := Ideal) y = 0 := by pointwise [k0_pay1]

/-- A step adds its tokens' products. -/
theorem added (s : FVec Ideal S1024x1024 .f32) (n : FVec Ideal S1024x1024 .f32) (d : FVec Ideal S1024x1024 .f32) (y : S1024x1024.Idx) :
    k0_pay2 (F := Ideal) s n d y = s y + ∑ k : Fin 1024, n (ix2 k (y 0)) * d (ix2 k (y 1)) := by
  pointwise [k0_pay2]

theorem stored (s : FVec Ideal S1024x1024 .f32) (y : S1x1024x1024.Idx) : k0_pay3 (F := Ideal) s y = s (ix2 (y 1) (y 2)) := by
  pointwise [k0_pay3]

/-- Which rows and columns a step reads and writes. -/
theorem places : ∀ t : Fin cfg0.N, win0_0.index t = ![t.val % 8, 0] ∧ win0_1.index t = ![t.val % 8, 0] ∧ win0_2.index t = ![0, 0, 0] := by
  decide +kernel

/-- The sum that a block's last step leaves. -/
theorem summed (c : Dev nD) (t : Fin cfg0.N) (ht : t.val % 8 = 7) (y : S1024x1024.Idx) :
    (outsAt0 m c t.val t.isLt).2 y = ∑ s : Fin 8, ∑ k : Fin 1024,
      (show FVec Ideal S1024x1024 .f32 from iblk m c 0 ⟨8 * (t.val / 8) + s.val, run_point_lt_of_flush t ht s⟩) (ix2 k (y 0))
        * (show FVec Ideal S1024x1024 .f32 from iblk m c 1 ⟨8 * (t.val / 8) + s.val, run_point_lt_of_flush t ht s⟩) (ix2 k (y 1)) := by
  rw [eq_sum_fin_of_reset_step_apply_of_flush (fun n h => (outsAt0 m c n h).2) 8 (fun _ => 0)
    (fun p j => ∑ k : Fin 1024, (show FVec Ideal S1024x1024 .f32 from iblk m c 0 p) (ix2 k (j 0)) * (show FVec Ideal S1024x1024 .f32 from iblk m c 1 p) (ix2 k (j 1)))
    (fun t h j => by
      rw [outsAt0_A m c t h (by omega)]; frame_out; rw [added, cleared])
    (fun t h j => by
      by_cases h' : t.val % 8 = 7
      · rw [outsAt0_C m c t h h']; frame_out; rw [added]; exact congrArg (fun v : FVec Ideal S1024x1024 .f32 => (v j + _ : EReal)) (Memref.IsWhole.read_unread _ _)
      · rw [outsAt0_B m c t h h']; frame_out; rw [added]; exact congrArg (fun v : FVec Ideal S1024x1024 .f32 => (v j + _ : EReal)) (Memref.IsWhole.read_unread _ _)) t ht y, zero_add]

/-- The last step of a block writes its sum. -/
theorem wrote (c : Dev nD) (t : Fin cfg0.N) (ht : t.val % 8 = 7) (y : S1x1024x1024.Idx) :
    (outsAt0 m c t.val t.isLt).1 y = (outsAt0 m c t.val t.isLt).2 (ix2 (y 1) (y 2)) := by
  rw [outsAt0_C m c t (by omega) ht]
  frame_out
  rw [stored]

/-- The call ends with the gradient. -/
theorem final (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, wrote m c t ht, summed m c t ht, grad_at]
  refine Fin.sum_mul_add_congr fun s k hl => ?_
  congr 1 <;> blk_ext [iblk, V, places t, places ⟨_, run_point_lt_of_flush t ht s⟩]

end Exchange.MixDw

end
-- ==== Proof.Parts.Claims.lean ====
/-
  The norm, the activation and its gradient, and the attentions' weight gradients: each call's frames, and its result against the reference's.
-/
module

public import proofs.«01_k».proof.Defs
public import proofs.«01_k».proof.Proof.Gen.Norm
public import proofs.«01_k».proof.Proof.Gen.NormRefIdeal.Run
public import proofs.«01_k».proof.Proof.Norm.Value
public import proofs.«01_k».proof.Proof.Gen.Act
public import proofs.«01_k».proof.Proof.Gen.ActRefIdeal.Run
public import proofs.«01_k».proof.Proof.Act.Value
public import proofs.«01_k».proof.Proof.Gen.ActBwd
public import proofs.«01_k».proof.Proof.Gen.ActBwdRefIdeal.Run
public import proofs.«01_k».proof.Proof.ActBwd.Value
public import proofs.«01_k».proof.Proof.Gen.QkvDw
public import proofs.«01_k».proof.Proof.Gen.QkvDwRefIdeal.Run
public import proofs.«01_k».proof.Proof.QkvDw.Value
public import proofs.«01_k».proof.Proof.Gen.KvDw
public import proofs.«01_k».proof.Proof.Gen.KvDwRefIdeal.Run
public import proofs.«01_k».proof.Proof.KvDw.Value
public import proofs.«01_k».proof.Proof.Gen.QueryDw
public import proofs.«01_k».proof.Proof.Gen.QueryDwRefIdeal.Run
public import proofs.«01_k».proof.Proof.QueryDw.Value
public import proofs.«01_k».proof.Proof.Gen.MixDw
public import proofs.«01_k».proof.Proof.Gen.MixDwRefIdeal.Run
public import proofs.«01_k».proof.Proof.MixDw.Value

@[expose] public section

noncomputable section

open Idealize.ShloMosaic Idealize.ShloMosaic.TcCoe Idealize.SL.Sem

/-! ## The norm -/

namespace Exchange.Norm

open Cert.NormIdeal Cert.NormIdeal.Gen

/-- The call's body table is one text, whichever floats it is read at. -/
theorem same : Cert.Norm.defs (F := Bits) = defs (F := Bits) :=
  congrArg (Pipeline.defs _) (congrArg Defs.onTc (funext fun l => funext fun p => match l, p with | 0, (_, _) => rfl))

theorem frame : Cert.quiescent_Norm (hNorm := Cert.Norm.Gen.facts) := fun m g _ => by
  rw [same]
  exact Gen.frame (F := Bits) m g

theorem frame_ideal : Cert.quiescent_NormIdeal (hNormIdeal := Gen.facts) := fun m g _ => Gen.frame (F := Ideal) m g

theorem frame_ref_ideal : Cert.quiescent_NormRefIdeal (hNormRefIdeal := Cert.NormRefIdeal.Gen.facts) := fun m g _ =>
  (θ_run Cert.NormRefIdeal.defs _ _).mono (fun _ h => ⟨fun c => (h c).2, funext fun s => ((by decide : ∀ _ : SemLoc Cert.NormRefIdeal.sig, False) s.2).elim⟩)
    (Cert.NormRefIdeal.Value.run (F := Ideal) m g)

theorem algebraic : Cert.algebraic_NormIdeal_NormRefIdeal (hNormIdeal := Gen.facts) (hNormRefIdeal := Cert.NormRefIdeal.Gen.facts) :=
  fun m g m' g' _ hA => ⟨fun c => normed (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.NormRefIdeal.defs _ _).mono (fun _ h c => ⟨(h c).1.trans (congrArg₂ normed (hA c).1 (hA c).2), (h c).2⟩)
      (Cert.NormRefIdeal.Value.run (F := Ideal) m' g')⟩

end Exchange.Norm

/-! ## The gated activation -/

namespace Exchange.Act

open Cert.ActIdeal Cert.ActIdeal.Gen

/-- The call's body table is one text, whichever floats it is read at. -/
theorem same : Cert.Act.defs (F := Bits) = defs (F := Bits) :=
  congrArg (Pipeline.defs _) (congrArg Defs.onTc (funext fun l => funext fun p => match l, p with | 0, (_, _) => rfl))

theorem frame : Cert.quiescent_Act (hAct := Cert.Act.Gen.facts) := fun m g _ => by
  rw [same]
  exact Gen.frame (F := Bits) m g

theorem frame_ideal : Cert.quiescent_ActIdeal (hActIdeal := Gen.facts) := fun m g _ => Gen.frame (F := Ideal) m g

theorem frame_ref_ideal : Cert.quiescent_ActRefIdeal (hActRefIdeal := Cert.ActRefIdeal.Gen.facts) := fun m g _ =>
  (θ_run Cert.ActRefIdeal.defs _ _).mono (fun _ h => ⟨fun c => (h c).2, funext fun s => ((by decide : ∀ _ : SemLoc Cert.ActRefIdeal.sig, False) s.2).elim⟩)
    (Cert.ActRefIdeal.Value.run (F := Ideal) m g)

theorem algebraic : Cert.algebraic_ActIdeal_ActRefIdeal (hActIdeal := Gen.facts) (hActRefIdeal := Cert.ActRefIdeal.Gen.facts) :=
  fun m g m' g' _ hA => ⟨fun c => active (m ((c.tc : Thread nD τ).loc main_arg0)),
    (θ_run defs _ _).mono (fun _ h c => ⟨((h.1 c).1 2).trans (final m c), h.2 c⟩)
      (θ_run_and (run_main (F := Ideal) m g) (Gen.unchanged (F := Ideal) m g)),
    (θ_run Cert.ActRefIdeal.defs _ _).mono (fun _ h c => ⟨(h c).1.trans (congrArg active (hA c)), (h c).2⟩)
      (Cert.ActRefIdeal.Value.run (F := Ideal) m' g')⟩

end Exchange.Act

/-! ## The activation's gradient -/

namespace Exchange.ActBwd

open Cert.ActBwdIdeal Cert.ActBwdIdeal.Gen

/-- The call's body table is one text, whichever floats it is read at. -/
theorem same : Cert.ActBwd.defs (F := Bits) = defs (F := Bits) :=
  congrArg (Pipeline.defs _) (congrArg Defs.onTc (funext fun l => funext fun p => match l, p with | 0, (_, _) => rfl))

theorem frame : Cert.quiescent_ActBwd (hActBwd := Cert.ActBwd.Gen.facts) := fun m g _ => by
  rw [same]
  exact Gen.frame (F := Bits) m g

theorem frame_ideal : Cert.quiescent_ActBwdIdeal (hActBwdIdeal := Gen.facts) := fun m g _ => Gen.frame (F := Ideal) m g

theorem frame_ref_ideal : Cert.quiescent_ActBwdRefIdeal (hActBwdRefIdeal := Cert.ActBwdRefIdeal.Gen.facts) := fun m g _ =>
  (θ_run Cert.ActBwdRefIdeal.defs _ _).mono (fun _ h => ⟨fun c => (h c).2, funext fun s => ((by decide : ∀ _ : SemLoc Cert.ActBwdRefIdeal.sig, False) s.2).elim⟩)
    (Cert.ActBwdRefIdeal.Value.run (F := Ideal) m g)

theorem algebraic : Cert.algebraic_ActBwdIdeal_ActBwdRefIdeal (hActBwdIdeal := Gen.facts) (hActBwdRefIdeal := Cert.ActBwdRefIdeal.Gen.facts) :=
  fun m g m' g' _ hA => ⟨fun c => grad (m ((c.tc : Thread nD τ).loc main_arg0)) (m ((c.tc : Thread nD τ).loc main_arg1)),
    (θ_run defs _ _).mono (fun _ h c => ⟨((h.1 c).1 3).trans (final m c), h.2 c⟩)
      (θ_run_and (run_main (F := Ideal) m g) (Gen.unchanged (F := Ideal) m g)),
    (θ_run Cert.ActBwdRefIdeal.defs _ _).mono (fun _ h c => ⟨(h c).1.trans (congrArg₂ grad (hA c).1 (hA c).2), (h c).2⟩)
      (Cert.ActBwdRefIdeal.Value.run (F := Ideal) m' g')⟩

end Exchange.ActBwd

/-! ## The weight gradient of the queries, keys and values -/

namespace Exchange.QkvDw

open Cert.QkvDwIdeal Cert.QkvDwIdeal.Gen

/-- The call's body table is one text, whichever floats it is read at. -/
theorem same : Cert.QkvDw.defs (F := Bits) = defs (F := Bits) :=
  congrArg (Pipeline.defs _) (congrArg Defs.onTc (funext fun l => funext fun p => match l, p with | 0, (_, _) => rfl))

theorem frame : Cert.quiescent_QkvDw (hQkvDw := Cert.QkvDw.Gen.facts) := fun m g _ => by
  rw [same]
  exact Gen.frame (F := Bits) m g

theorem frame_ideal : Cert.quiescent_QkvDwIdeal (hQkvDwIdeal := Gen.facts) := fun m g _ => Gen.frame (F := Ideal) m g

theorem frame_ref_ideal : Cert.quiescent_QkvDwRefIdeal (hQkvDwRefIdeal := Cert.QkvDwRefIdeal.Gen.facts) := fun m g _ =>
  (θ_run Cert.QkvDwRefIdeal.defs _ _).mono (fun _ h => ⟨fun c => (h c).2, funext fun s => ((by decide : ∀ _ : SemLoc Cert.QkvDwRefIdeal.sig, False) s.2).elim⟩)
    (Cert.QkvDwRefIdeal.Value.run (F := Ideal) m g)

theorem algebraic : Cert.algebraic_QkvDwIdeal_QkvDwRefIdeal (hQkvDwIdeal := Gen.facts) (hQkvDwRefIdeal := Cert.QkvDwRefIdeal.Gen.facts) :=
  fun m g m' g' _ hA => ⟨fun c => grad (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.QkvDwRefIdeal.defs _ _).mono (fun _ h c => ⟨(h c).1.trans (congrArg₂ grad (hA c).1 (hA c).2), (h c).2⟩)
      (Cert.QkvDwRefIdeal.Value.run (F := Ideal) m' g')⟩

end Exchange.QkvDw

/-! ## The weight gradient of the shared keys and values -/

namespace Exchange.KvDw

open Cert.KvDwIdeal Cert.KvDwIdeal.Gen

/-- The call's body table is one text, whichever floats it is read at. -/
theorem same : Cert.KvDw.defs (F := Bits) = defs (F := Bits) :=
  congrArg (Pipeline.defs _) (congrArg Defs.onTc (funext fun l => funext fun p => match l, p with | 0, (_, _) => rfl))

theorem frame : Cert.quiescent_KvDw (hKvDw := Cert.KvDw.Gen.facts) := fun m g _ => by
  rw [same]
  exact Gen.frame (F := Bits) m g

theorem frame_ideal : Cert.quiescent_KvDwIdeal (hKvDwIdeal := Gen.facts) := fun m g _ => Gen.frame (F := Ideal) m g

theorem frame_ref_ideal : Cert.quiescent_KvDwRefIdeal (hKvDwRefIdeal := Cert.KvDwRefIdeal.Gen.facts) := fun m g _ =>
  (θ_run Cert.KvDwRefIdeal.defs _ _).mono (fun _ h => ⟨fun c => (h c).2, funext fun s => ((by decide : ∀ _ : SemLoc Cert.KvDwRefIdeal.sig, False) s.2).elim⟩)
    (Cert.KvDwRefIdeal.Value.run (F := Ideal) m g)

theorem algebraic : Cert.algebraic_KvDwIdeal_KvDwRefIdeal (hKvDwIdeal := Gen.facts) (hKvDwRefIdeal := Cert.KvDwRefIdeal.Gen.facts) :=
  fun m g m' g' _ hA => ⟨fun c => grad (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.KvDwRefIdeal.defs _ _).mono (fun _ h c => ⟨(h c).1.trans (congrArg₂ grad (hA c).1 (hA c).2), (h c).2⟩)
      (Cert.KvDwRefIdeal.Value.run (F := Ideal) m' g')⟩

end Exchange.KvDw

/-! ## The weight gradient of the second attention's queries -/

namespace Exchange.QueryDw

open Cert.QueryDwIdeal Cert.QueryDwIdeal.Gen

/-- The call's body table is one text, whichever floats it is read at. -/
theorem same : Cert.QueryDw.defs (F := Bits) = defs (F := Bits) :=
  congrArg (Pipeline.defs _) (congrArg Defs.onTc (funext fun l => funext fun p => match l, p with | 0, (_, _) => rfl))

theorem frame : Cert.quiescent_QueryDw (hQueryDw := Cert.QueryDw.Gen.facts) := fun m g _ => by
  rw [same]
  exact Gen.frame (F := Bits) m g

theorem frame_ideal : Cert.quiescent_QueryDwIdeal (hQueryDwIdeal := Gen.facts) := fun m g _ => Gen.frame (F := Ideal) m g

theorem frame_ref_ideal : Cert.quiescent_QueryDwRefIdeal (hQueryDwRefIdeal := Cert.QueryDwRefIdeal.Gen.facts) := fun m g _ =>
  (θ_run Cert.QueryDwRefIdeal.defs _ _).mono (fun _ h => ⟨fun c => (h c).2, funext fun s => ((by decide : ∀ _ : SemLoc Cert.QueryDwRefIdeal.sig, False) s.2).elim⟩)
    (Cert.QueryDwRefIdeal.Value.run (F := Ideal) m g)

theorem algebraic : Cert.algebraic_QueryDwIdeal_QueryDwRefIdeal (hQueryDwIdeal := Gen.facts) (hQueryDwRefIdeal := Cert.QueryDwRefIdeal.Gen.facts) :=
  fun m g m' g' _ hA => ⟨fun c => grad (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.QueryDwRefIdeal.defs _ _).mono (fun _ h c => ⟨(h c).1.trans (congrArg₂ grad (hA c).1 (hA c).2), (h c).2⟩)
      (Cert.QueryDwRefIdeal.Value.run (F := Ideal) m' g')⟩

end Exchange.QueryDw

/-! ## The weight gradient of an attention's output -/

namespace Exchange.MixDw

open Cert.MixDwIdeal Cert.MixDwIdeal.Gen

/-- The call's body table is one text, whichever floats it is read at. -/
theorem same : Cert.MixDw.defs (F := Bits) = defs (F := Bits) :=
  congrArg (Pipeline.defs _) (congrArg Defs.onTc (funext fun l => funext fun p => match l, p with | 0, (_, _) => rfl))

theorem frame : Cert.quiescent_MixDw (hMixDw := Cert.MixDw.Gen.facts) := fun m g _ => by
  rw [same]
  exact Gen.frame (F := Bits) m g

theorem frame_ideal : Cert.quiescent_MixDwIdeal (hMixDwIdeal := Gen.facts) := fun m g _ => Gen.frame (F := Ideal) m g

theorem frame_ref_ideal : Cert.quiescent_MixDwRefIdeal (hMixDwRefIdeal := Cert.MixDwRefIdeal.Gen.facts) := fun m g _ =>
  (θ_run Cert.MixDwRefIdeal.defs _ _).mono (fun _ h => ⟨fun c => (h c).2, funext fun s => ((by decide : ∀ _ : SemLoc Cert.MixDwRefIdeal.sig, False) s.2).elim⟩)
    (Cert.MixDwRefIdeal.Value.run (F := Ideal) m g)

theorem algebraic : Cert.algebraic_MixDwIdeal_MixDwRefIdeal (hMixDwIdeal := Gen.facts) (hMixDwRefIdeal := Cert.MixDwRefIdeal.Gen.facts) :=
  fun m g m' g' _ hA => ⟨fun c => grad (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.MixDwRefIdeal.defs _ _).mono (fun _ h c => ⟨(h c).1.trans (congrArg₂ grad (hA c).1 (hA c).2), (h c).2⟩)
      (Cert.MixDwRefIdeal.Value.run (F := Ideal) m' g')⟩

end Exchange.MixDw

end
-- ==== Proof.NormBwd.Value.lean ====
/-
  The gradient of the norm before a feed-forward layer: the gradient of the layer's input, every row on its own, and the
  gradient of the gain, summed over the rows.
-/
module

public import proofs.«01_k».proof.Proof.Gen.NormBwdIdeal.Frame
public import proofs.«01_k».proof.Proof.Gen.NormBwdRefIdeal
public import Idealize.ShloMosaic.Lib.Pipeline.ValueKit

@[expose] public section

set_option maxRecDepth 16384

noncomputable section

namespace Exchange.NormBwd

open Cert.NormBwdIdeal Cert.NormBwdIdeal.Gen Idealize.ShloMosaic Idealize.ShloMosaic.TcCoe Idealize.ShloMosaic.Pipeline
open scoped BigOperators

variable (m : (ℓ : Loc nD τ sig) → Buf (Elt Ideal) ℓ)

/-- What each row is multiplied by, as the reference writes it. -/
def rates (x : FVec Ideal S8192x1024 .f32) : FVec Ideal Cert.NormBwdRefIdeal.S8192x1 .f32 :=
  Host.rsqrt (addf (Host.divf (broadcastInDim Cert.NormBwdRefIdeal.S8192x1 ![0] Cert.NormBwdRefIdeal.Gen.bcast_S8192_S8192x1_0
      (Host.reduceAdd (mulf x x) (constant (F := Ideal) Cert.NormBwdRefIdeal.S_ .f32 0x00000000#32) Cert.NormBwdRefIdeal.Gen.reducesTo_S8192x1024_S8192_d1 Cert.NormBwdRefIdeal.Gen.h_S_))
    (broadcastInDim Cert.NormBwdRefIdeal.S8192x1 ![] Cert.NormBwdRefIdeal.Gen.bcast_S_S8192x1 (constant Cert.NormBwdRefIdeal.S_ .f32 0x44800000#32)))
    (broadcastInDim Cert.NormBwdRefIdeal.S8192x1 ![] Cert.NormBwdRefIdeal.Gen.bcast_S_S8192x1 (constant Cert.NormBwdRefIdeal.S_ .f32 0x358637BD#32)))

/-- The rows without the gain. -/
def unit (x : FVec Ideal S8192x1024 .f32) : FVec Ideal S8192x1024 .f32 :=
  mulf x (broadcastInDim S8192x1024 ![0, 1] Cert.NormBwdRefIdeal.Gen.bcast_S8192x1_S8192x1024_0_1 (rates x))

/-- The gradient of the rows without the gain. -/
def scaled (g : FVec Ideal S1024 .f32) (d : FVec Ideal S8192x1024 .f32) : FVec Ideal S8192x1024 .f32 :=
  mulf d (broadcastInDim S8192x1024 ![0, 1] Cert.NormBwdRefIdeal.Gen.bcast_S1x1024_S8192x1024_0_1 (broadcastInDim Cert.NormBwdRefIdeal.S1x1024 ![1] Cert.NormBwdRefIdeal.Gen.bcast_S1024_S1x1024_1 g))

/-- The gradient of the layer's input. -/
def back (x : FVec Ideal S8192x1024 .f32) (g : FVec Ideal S1024 .f32) (d r : FVec Ideal S8192x1024 .f32) : FVec Ideal S8192x1024 .f32 :=
  addf r (mulf (broadcastInDim S8192x1024 ![0, 1] Cert.NormBwdRefIdeal.Gen.bcast_S8192x1_S8192x1024_0_1 (rates x)) (subf (scaled g d)
    (mulf (unit x) (broadcastInDim S8192x1024 ![0, 1] Cert.NormBwdRefIdeal.Gen.bcast_S8192x1_S8192x1024_0_1
      (Host.divf (broadcastInDim Cert.NormBwdRefIdeal.S8192x1 ![0] Cert.NormBwdRefIdeal.Gen.bcast_S8192_S8192x1_0
        (Host.reduceAdd (mulf (scaled g d) (unit x)) (constant (F := Ideal) Cert.NormBwdRefIdeal.S_ .f32 0x00000000#32) Cert.NormBwdRefIdeal.Gen.reducesTo_S8192x1024_S8192_d1 Cert.NormBwdRefIdeal.Gen.h_S_))
        (broadcastInDim Cert.NormBwdRefIdeal.S8192x1 ![] Cert.NormBwdRefIdeal.Gen.bcast_S_S8192x1 (constant Cert.NormBwdRefIdeal.S_ .f32 0x44800000#32)))))))

/-- The gradient of the gain. -/
def gainGrad (x d : FVec Ideal S8192x1024 .f32) : FVec Ideal S1024 .f32 :=
  Host.reduceAdd (mulf d (unit x)) (constant (F := Ideal) Cert.NormBwdRefIdeal.S_ .f32 0x00000000#32) Cert.NormBwdRefIdeal.Gen.reducesTo_S8192x1024_S1024_d0 Cert.NormBwdRefIdeal.Gen.h_S_

/-- What a row with this sum of squares is multiplied by. -/
def rate (s : EReal) : EReal := Ideal.rsqrt (Ideal.div s (Ideal.ofBits .f32 0x44800000#32) + Ideal.ofBits .f32 0x358637BD#32)

/-- A row's entry of the gradient: from the row, the gain, the row of the gradient, and the residual's entry. -/
def entry (x g d : Fin 1024 → EReal) (r : EReal) (q : Fin 1024) : EReal :=
  r + rate (∑ l, x l * x l) * (d q * g q - x q * rate (∑ l, x l * x l)
    * Ideal.div (∑ k, d k * g k * (x k * rate (∑ l, x l * x l))) (Ideal.ofBits .f32 0x44800000#32))

/-- A row's part of an entry of the gain's gradient. -/
def part (x d : Fin 1024 → EReal) (q : Fin 1024) : EReal := d q * (x q * rate (∑ l, x l * x l))

theorem back_at (x : FVec Ideal S8192x1024 .f32) (g : FVec Ideal S1024 .f32) (d r : FVec Ideal S8192x1024 .f32) (p : Fin 8192) (q : Fin 1024) :
    back x g d r (ix2 p q) = entry (fun l => x (ix2 p l)) (fun l => g (ix1 l)) (fun l => d (ix2 p l)) (r (ix2 p q)) q := by
  pointwise [back, unit, scaled, rates, rate, entry]

theorem gainGrad_at (x d : FVec Ideal S8192x1024 .f32) (q : Fin 1024) :
    gainGrad x d (ix1 q) = ∑ p : Fin 8192, part (fun l => x (ix2 p l)) (fun l => d (ix2 p l)) q := by
  pointwise [gainGrad, unit, rates, rate, part]

theorem stored (x d r : FVec Ideal S512x1024 .f32) (g : FVec Ideal S1x1024 .f32) (p : Fin 512) (q : Fin 1024) :
    k0_pay4 (F := Ideal) x d g r (ix2 p q) = entry (fun l => x (ix2 p l)) (fun l => g (ix2 0 l)) (fun l => d (ix2 p l)) (r (ix2 p q)) q := by
  pointwise [k0_pay4, k0_pay3, k0_pay2, rate, entry]

theorem cleared (y : S8x1024.Idx) : k0_pay5 (F := Ideal) y = 0 := by pointwise [k0_pay5]

/-- Row `s` of the eight that the `r`-th eight of a step's rows adds to. -/
def deal (r : Fin 64) (s : Fin 8) : Fin 512 := ⟨r.val * 8 + s.val, by omega⟩

theorem added (x d : FVec Ideal S512x1024 .f32) (v : FVec Ideal S8x1024 .f32) (y : S8x1024.Idx) :
    k0_pay1 (F := Ideal) (k0_pay6 v) (k0_pay7 x d) y
      = v y + ∑ r : Fin 64, part (fun l => x (ix2 (deal r (y 0)) l)) (fun l => d (ix2 (deal r (y 0)) l)) (y 1) := by
  pointwise [k0_pay1, k0_pay6, k0_pay7, k0_pay3, k0_pay2, rate, part, deal]

/-- A step reads and writes its own rows, the whole gain, and the whole eight rows. -/
theorem places : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := by
  decide +kernel

/-- The gain as the call finds it, a row of its own. -/
theorem gain (c : Dev nD) (q : Fin 1024) : (V m c main_v0 : FVec Ideal S1x1024 .f32) (ix2 0 q) = (m ((c.tc : Thread nD τ).loc main_arg1) : FVec Ideal S1024 .f32) (ix1 q) := by
  show StableHlo.after hostOps0 _ _ _ = _
  after_results
  pointwise []

/-- Row `p` of a step's rows. -/
def row (t : Fin cfg0.N) (p : Fin 512) : Fin 8192 := ⟨t.val * 512 + p.val, by have := t.isLt; have e : cfg0.N = 16 := rfl; omega⟩

theorem read_x (c : Dev nD) (t : Fin cfg0.N) (p : Fin 512) (l : Fin 1024) :
    (iblk m c 0 t : FVec Ideal S512x1024 .f32) (ix2 p l) = m ((c.tc : Thread nD τ).loc main_arg0) (ix2 (row t p) l) := by
  blk_ext [row, iblk, V, places t]

theorem read_g (c : Dev nD) (t : Fin cfg0.N) (l : Fin 1024) :
    (iblk m c 1 t : FVec Ideal S1x1024 .f32) (ix2 0 l) = (m ((c.tc : Thread nD τ).loc main_arg1) : FVec Ideal S1024 .f32) (ix1 l) := by
  refine Eq.trans ?_ (gain m c l)
  blk_ext [iblk, places t]

theorem read_d (c : Dev nD) (t : Fin cfg0.N) (p : Fin 512) (l : Fin 1024) :
    (iblk m c 2 t : FVec Ideal S512x1024 .f32) (ix2 p l) = m ((c.tc : Thread nD τ).loc main_arg2) (ix2 (row t p) l) := by
  blk_ext [row, iblk, V, places t]

theorem read_r (c : Dev nD) (t : Fin cfg0.N) (p : Fin 512) (l : Fin 1024) :
    (iblk m c 3 t : FVec Ideal S512x1024 .f32) (ix2 p l) = m ((c.tc : Thread nD τ).loc main_arg3) (ix2 (row t p) l) := by
  blk_ext [row, iblk, V, places t]

/-- The block of the input's gradient that a step leaves. -/
theorem wrote (c : Dev nD) (t : Fin cfg0.N) :
    (outsAt0 m c t.val t.isLt).1 = k0_pay4 (F := Ideal) (iblk m c 0 t) (iblk m c 2 t) (iblk m c 1 t) (iblk m c 3 t) := by
  by_cases h : t.val % 16 = 0
  · rw [outsAt0_A m c t h]; funext y; frame_out
  · rw [outsAt0_B m c t h]; funext y; frame_out

theorem step (c : Dev nD) (t : Fin cfg0.N) (p : Fin 512) (q : Fin 1024) :
    k0_pay4 (F := Ideal) (iblk m c 0 t) (iblk m c 2 t) (iblk m c 1 t) (iblk m c 3 t) (ix2 p q)
      = back (m ((c.tc : Thread nD τ).loc main_arg0)) (m ((c.tc : Thread nD τ).loc main_arg1)) (m ((c.tc : Thread nD τ).loc main_arg2)) (m ((c.tc : Thread nD τ).loc main_arg3)) (ix2 (row t p) q) := by
  refine (stored _ _ _ _ p q).trans (Eq.trans ?_ (back_at _ _ _ _ (row t p) q).symm)
  simp only [read_x, read_g, read_d, read_r]

/-- The call ends with the gradient of the layer's input. -/
theorem final (c : Dev nD) : (dats m 0 c).arrAt 4 cfg0.N
    = back (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4, wrote]
  have e : ((cfg0.win 4).blk t).view.emb y = ix2 (row t (y 0)) (y 1) := by blk_ext [row, places t]
  have e' : y = ix2 (y 0) (y 1) := by blk_ext []
  exact (congrArg _ e').trans ((step m c t (y 0) (y 1)).trans (congrArg _ e.symm))

/-- What the gain's eight rows hold after the last step. -/
theorem summed (c : Dev nD) (t : Fin cfg0.N) (ht : t.val % 16 = 15) (y : S8x1024.Idx) :
    (outsAt0 m c t.val t.isLt).2 y = ∑ s : Fin 16, ∑ r : Fin 64,
      part (fun l => (show FVec Ideal S512x1024 .f32 from iblk m c 0 ⟨16 * (t.val / 16) + s.val, run_point_lt_of_flush t ht s⟩) (ix2 (deal r (y 0)) l))
        (fun l => (show FVec Ideal S512x1024 .f32 from iblk m c 2 ⟨16 * (t.val / 16) + s.val, run_point_lt_of_flush t ht s⟩) (ix2 (deal r (y 0)) l)) (y 1) := by
  rw [eq_sum_fin_of_reset_step_apply_of_flush (fun n h => (outsAt0 m c n h).2) 16 (fun _ => 0)
    (fun p j => ∑ r : Fin 64, part (fun l => (show FVec Ideal S512x1024 .f32 from iblk m c 0 p) (ix2 (deal r (j 0)) l))
      (fun l => (show FVec Ideal S512x1024 .f32 from iblk m c 2 p) (ix2 (deal r (j 0)) l)) (j 1))
    (fun t h j => by
      rw [outsAt0_A m c t h]; frame_out; rw [added, cleared])
    (fun t h j => by
      rw [outsAt0_B m c t h]; frame_out; rw [added]) t ht y, zero_add]

/-- The gain's eight rows. -/
abbrev eights (c : Dev nD) : FVec Ideal S8x1024 .f32 := (dats m 0 c).arrAt 5 cfg0.N

theorem eights_at (c : Dev nD) : eights m c = (outsAt0 m c 15 (by decide : 15 < cfg0.N)).2 := by
  refine (dats m 0 c).arrAt_eq_of_after_last 5 t0_15 (by decide +kernel) _ fun j => ?_
  blk_simp
  rw [after0_5]
  rfl

/-- The eight rows add up to the gain's gradient. -/
theorem columns (c : Dev nD) (q : Fin 1024) :
    ∑ s : Fin 8, eights m c (ix2 s q) = gainGrad (m ((c.tc : Thread nD τ).loc main_arg0)) (m ((c.tc : Thread nD τ).loc main_arg2)) (ix1 q) := by
  rw [gainGrad_at]
  refine (Fin.sum_fin_congr fun s => (congrFun (eights_at m c) (ix2 s q)).trans (summed m c t0_15 rfl (ix2 s q))).trans ?_
  rw [Finset.sum_comm]
  refine Eq.trans (Fin.sum_fin_congr fun t => ?_) (Fin.sum_mul_add_congr (S := 16) (n := 512) (F := fun t k => part (fun l => (m ((c.tc : Thread nD τ).loc main_arg0) : FVec Ideal S8192x1024 .f32) (ix2 (row t k) l))
      (fun l => (m ((c.tc : Thread nD τ).loc main_arg2) : FVec Ideal S8192x1024 .f32) (ix2 (row t k) l)) q) fun t k hl => rfl)
  rw [Finset.sum_comm]
  refine Fin.sum_mul_add_congr fun r s hl => ?_
  have e : (⟨16 * (t0_15.val / 16) + t.val, run_point_lt_of_flush t0_15 rfl t⟩ : Fin cfg0.N) = t := Fin.ext (Nat.zero_add _)
  refine (congrArg (fun u : Fin cfg0.N => part (fun l => (iblk m c 0 u : FVec Ideal S512x1024 .f32) (ix2 (deal r s) l))
    (fun l => (iblk m c 2 u : FVec Ideal S512x1024 .f32) (ix2 (deal r s) l)) q) e).trans ?_
  exact congrArg₂ (fun a b => part a b q) (funext fun l => read_x m c t _ l) (funext fun l => read_d m c t _ l)

end Exchange.NormBwd

end
-- ==== Proof.NormBwd.Claims.lean ====
/-
  The norm's gradient: the frames, and the two results against the reference's.
-/
module

public import proofs.«01_k».proof.Defs
public import proofs.«01_k».proof.Proof.Gen.NormBwd
public import proofs.«01_k».proof.Proof.Gen.NormBwdRefIdeal.Run
public import proofs.«01_k».proof.Proof.NormBwd.Value

@[expose] public section

set_option maxRecDepth 16384

noncomputable section

namespace Exchange.NormBwd

open Cert.NormBwdIdeal Cert.NormBwdIdeal.Gen Idealize.ShloMosaic Idealize.ShloMosaic.TcCoe Idealize.ShloMosaic.Pipeline Idealize.SL.Sem

variable (m : (ℓ : Loc nD τ sig) → Buf (Elt Ideal) ℓ)

/-- The line after the call adds the gain's eight rows. -/
theorem tail_value (c : Dev nD) : Pipeline.afterTail₀ cfgs (dats m) 0 (V0 m) [hostOps1] c main_v2
    = gainGrad (m ((c.tc : Thread nD τ).loc main_arg0)) (m ((c.tc : Thread nD τ).loc main_arg2)) := by
  have e : Pipeline.afterTail₀ cfgs (dats m) 0 (V0 m) [hostOps1] c main_v2
      = Host.reduceAdd (F := Ideal) (φ := .f32) (eights m c) (constant (F := Ideal) S_ .f32 0x00000000#32) reducesTo_S8x1024_S1024_d0 h_S_ := by
    unfold Pipeline.afterTail₀
    show StableHlo.after hostOps1 _ _ = _
    after_results
    rw [Pipeline.withArrays_arr spec0 winFacts0.arr_inj c _ _ 5]
  rw [e]
  funext i
  obtain ⟨q, rfl⟩ : ∃ q : Fin 1024, i = ix1 q := ⟨i 0, by funext a; fin_cases a; rfl⟩
  rw [← columns]
  pointwise []

/-- The call with the line after it ends with the two gradients. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v1_0)
        = back (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v2) = gainGrad (m ((c.tc : Thread nD τ).loc main_arg0)) (m ((c.tc : Thread nD τ).loc main_arg2))) :=
  (θ_run defs _ _).mono (fun _ h c => ⟨((h c).1 4).trans (final m c), ((h c).2 main_v2 (by decide)).trans (tail_value m c)⟩) (run_main m g)

/-- The call's body table is one text, whichever floats it is read at. -/
theorem same : Cert.NormBwd.defs (F := Bits) = defs (F := Bits) :=
  congrArg (Pipeline.defs _) (congrArg Defs.onTc (funext fun l => funext fun p => match l, p with | 0, (_, _) => rfl))

theorem frame : Cert.quiescent_NormBwd (hNormBwd := Cert.NormBwd.Gen.facts) := fun m g _ => by
  rw [same]
  exact Gen.frame (F := Bits) m g

theorem frame_ideal : Cert.quiescent_NormBwdIdeal (hNormBwdIdeal := Gen.facts) := fun m g _ => Gen.frame (F := Ideal) m g

theorem frame_ref_ideal : Cert.quiescent_NormBwdRefIdeal (hNormBwdRefIdeal := Cert.NormBwdRefIdeal.Gen.facts) := fun m g _ =>
  (θ_run Cert.NormBwdRefIdeal.defs _ _).mono (fun _ h => ⟨fun c => (h c).2.2, funext fun s => ((by decide : ∀ _ : SemLoc Cert.NormBwdRefIdeal.sig, False) s.2).elim⟩)
    (Cert.NormBwdRefIdeal.Value.run (F := Ideal) m g)

theorem algebraic : Cert.algebraic_NormBwdIdeal_NormBwdRefIdeal (hNormBwdIdeal := Gen.facts) (hNormBwdRefIdeal := Cert.NormBwdRefIdeal.Gen.facts) :=
  fun m g m' g' _ hA =>
    ⟨fun c => back (m ((c.tc : Thread nD τ).loc main_arg0)) (m ((c.tc : Thread nD τ).loc main_arg1)) (m ((c.tc : Thread nD τ).loc main_arg2)) (m ((c.tc : Thread nD τ).loc main_arg3)),
      fun c => gainGrad (m ((c.tc : Thread nD τ).loc main_arg0)) (m ((c.tc : Thread nD τ).loc main_arg2)),
    (θ_run defs _ _).mono (fun _ h c => ⟨(h.1 c).1, (h.1 c).2, h.2 c⟩) (θ_run_and (run m g) (Gen.unchanged (F := Ideal) m g)),
    (θ_run Cert.NormBwdRefIdeal.defs _ _).mono
      (fun _ h c => ⟨(h c).1.trans (by rw [(hA c).1, (hA c).2.1, (hA c).2.2.1, (hA c).2.2.2]; rfl),
        (h c).2.1.trans (congrArg₂ gainGrad (hA c).1 (hA c).2.2.1), (h c).2.2⟩)
      (Cert.NormBwdRefIdeal.Value.run (F := Ideal) m' g')⟩

end Exchange.NormBwd

end
-- ==== Proof.QkvIn.Value.lean ====
/-
  The projection to the first attention's queries, keys and values: every token against every device's columns.
-/
module

public import proofs.«01_k».proof.Proof.Gen.QkvInIdeal.Frame
public import proofs.«01_k».proof.Proof.Gen.QkvInRefIdeal
public import Idealize.ShloMosaic.Lib.Pipeline.ValueKit

@[expose] public section

set_option maxRecDepth 16384

noncomputable section

namespace Exchange.QkvIn

open Cert.QkvInIdeal Cert.QkvInIdeal.Gen Idealize.ShloMosaic Idealize.ShloMosaic.TcCoe Idealize.ShloMosaic.Pipeline
open scoped BigOperators

variable (m : (ℓ : Loc nD τ sig) → Buf (Elt Ideal) ℓ)

/-- The product, the devices' columns side by side, as the reference writes it. -/
def product (n : FVec Ideal S8192x1024 .bf16) (w : FVec Ideal S4x1024x2304 .bf16) : FVec Ideal S8192x9216 .f32 :=
  Host.dotGeneral (F := Ideal) (φ₁ := .f32) (φ₂ := .f32) Cert.QkvInRefIdeal.dot_S8192x1024_S1024x9216_S8192x9216_1_0_0_1_n_n none
    (extf (F := Ideal) .f32 n Cert.QkvInRefIdeal.Gen.bitsLt_bf16_f32)
    (shapeCast Cert.QkvInRefIdeal.S1024x9216 (transpose Cert.QkvInRefIdeal.S1024x4x2304 [1, 0, 2] (extf (F := Ideal) .f32 w Cert.QkvInRefIdeal.Gen.bitsLt_bf16_f32)
      Cert.QkvInRefIdeal.Gen.transposes_S4x1024x2304_S1024x4x2304_1_0_2) Cert.QkvInRefIdeal.Gen.shapeCasts_S1024x4x2304_S1024x9216)

/-- The device that a column belongs to, and its place there. -/
def piece (j : Fin 9216) : Fin 4 := ⟨j.val / 2304, by omega⟩
def place (j : Fin 9216) : Fin 2304 := ⟨j.val % 2304, by omega⟩

theorem product_at (n : FVec Ideal S8192x1024 .bf16) (w : FVec Ideal S4x1024x2304 .bf16) (i : S8192x9216.Idx) :
    product n w i = ∑ k : Fin 1024, n (ix2 (i 0) k) * w (ix3 (piece (i 1)) k (place (i 1))) := by
  pointwise [product, piece, place]

theorem cleared (y : S1024x1152.Idx) : k0_pay1 (F := Ideal) y = 0 := by pointwise [k0_pay1]

theorem added (s : FVec Ideal S1024x1152 .f32) (n : FVec Ideal S1024x1024 .bf16) (w : FVec Ideal S1x1024x1152 .bf16) (y : S1024x1152.Idx) :
    k0_pay2 (F := Ideal) s n w y = s y + ∑ k : Fin 1024, n (ix2 (y 0) k) * w (ix3 0 k (y 1)) := by
  pointwise [k0_pay2]

/-- Which rows and columns a step reads and writes: two steps share a device's columns. -/
theorem places : ∀ t : Fin cfg0.N, win0_0.index t = ![t.val / 8, 0] ∧ win0_1.index t = ![t.val % 8 / 2, 0, t.val % 2] ∧ win0_2.index t = ![t.val / 8, t.val % 8] := by
  decide +kernel

/-- A step writes its rows' products with half of one device's columns. -/
theorem wrote (c : Dev nD) (t : Fin cfg0.N) (y : S1024x1152.Idx) :
    outsAt0 m c t y = ∑ k : Fin 1024, (show FVec Ideal S1024x1024 .bf16 from iblk m c 0 t) (ix2 (y 0) k)
      * (show FVec Ideal S1x1024x1152 .bf16 from iblk m c 1 t) (ix3 0 k (y 1)) := by
  unfold outsAt0
  frame_out
  rw [added, cleared, zero_add]

/-- The call ends with the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  blk_simp
  rw [after0_2, wrote m c t, product_at]
  refine Fin.sum_fin_congr fun k => ?_
  congr 1 <;> blk_ext [piece, place, iblk, V, places t]

end Exchange.QkvIn

end
-- ==== Proof.QkvDx.Value.lean ====
/-
  The gradient that the first attention's queries, keys and values pass back to their input, summed over the devices' columns.
-/
module

public import proofs.«01_k».proof.Proof.Gen.QkvDxIdeal.Frame
public import proofs.«01_k».proof.Proof.Gen.QkvDxRefIdeal
public import Idealize.ShloMosaic.Lib.Pipeline.ValueKit

@[expose] public section

set_option maxRecDepth 16384

noncomputable section

namespace Exchange.QkvDx

open Cert.QkvDxIdeal Cert.QkvDxIdeal.Gen Idealize.ShloMosaic Idealize.ShloMosaic.TcCoe Idealize.ShloMosaic.Pipeline
open scoped BigOperators

variable (m : (ℓ : Loc nD τ sig) → Buf (Elt Ideal) ℓ)

/-- The gradient, as the reference writes it. -/
def grad (d : FVec Ideal S8192x9216 .bf16) (w : FVec Ideal S4x1024x2304 .bf16) : FVec Ideal S8192x1024 .f32 :=
  Host.dotGeneral (F := Ideal) (φ₁ := .f32) (φ₂ := .f32) Cert.QkvDxRefIdeal.dot_S8192x9216_S9216x1024_S8192x1024_1_0_0_1_n_n none
    (extf (F := Ideal) .f32 d Cert.QkvDxRefIdeal.Gen.bitsLt_bf16_f32)
    (transpose Cert.QkvDxRefIdeal.S9216x1024 [1, 0] (shapeCast Cert.QkvDxRefIdeal.S1024x9216
      (transpose Cert.QkvDxRefIdeal.S1024x4x2304 [1, 0, 2] (extf (F := Ideal) .f32 w Cert.QkvDxRefIdeal.Gen.bitsLt_bf16_f32)
        Cert.QkvDxRefIdeal.Gen.transposes_S4x1024x2304_S1024x4x2304_1_0_2) Cert.QkvDxRefIdeal.Gen.shapeCasts_S1024x4x2304_S1024x9216)
      Cert.QkvDxRefIdeal.Gen.transposes_S1024x9216_S9216x1024_1_0)

/-- The device that a column belongs to, and its place there. -/
def piece (j : Fin 9216) : Fin 4 := ⟨j.val / 2304, by omega⟩
def place (j : Fin 9216) : Fin 2304 := ⟨j.val % 2304, by omega⟩

theorem grad_at (d : FVec Ideal S8192x9216 .bf16) (w : FVec Ideal S4x1024x2304 .bf16) (i : S8192x1024.Idx) :
    grad d w i = ∑ l : Fin 9216, d (ix2 (i 0) l) * w (ix3 (piece l) (i 1) (place l)) := by
  pointwise [grad, piece, place]

theorem cleared (y : S1024x1024.Idx) : k0_pay1 (F := Ideal) y = 0 := by pointwise [k0_pay1]

/-- A step adds the products over half of one device's columns. -/
theorem added (s : FVec Ideal S1024x1024 .f32) (d : FVec Ideal S1024x1152 .bf16) (w : FVec Ideal S1x1024x1152 .bf16) (y : S1024x1024.Idx) :
    k0_pay2 (F := Ideal) s d w y = s y + ∑ k : Fin 1152, d (ix2 (y 0) k) * w (ix3 0 (y 1) k) := by
  pointwise [k0_pay2]

/-- Which rows and columns a step reads and writes. -/
theorem places : ∀ t : Fin cfg0.N, win0_0.index t = ![t.val / 8, t.val % 8] ∧ win0_1.index t = ![t.val % 8 / 2, 0, t.val % 2] ∧ win0_2.index t = ![t.val / 8, 0] := by
  decide +kernel

/-- The sum that a block's last step leaves. -/
theorem summed (c : Dev nD) (t : Fin cfg0.N) (ht : t.val % 8 = 7) (y : S1024x1024.Idx) :
    (outsAt0 m c t.val t.isLt).2 y = ∑ s : Fin 8, ∑ k : Fin 1152,
      (show FVec Ideal S1024x1152 .bf16 from iblk m c 0 ⟨8 * (t.val / 8) + s.val, run_point_lt_of_flush t ht s⟩) (ix2 (y 0) k)
        * (show FVec Ideal S1x1024x1152 .bf16 from iblk m c 1 ⟨8 * (t.val / 8) + s.val, run_point_lt_of_flush t ht s⟩) (ix3 0 (y 1) k) := by
  rw [eq_sum_fin_of_reset_step_apply_of_flush (fun n h => (outsAt0 m c n h).2) 8 (fun _ => 0)
    (fun p j => ∑ k : Fin 1152, (show FVec Ideal S1024x1152 .bf16 from iblk m c 0 p) (ix2 (j 0) k) * (show FVec Ideal S1x1024x1152 .bf16 from iblk m c 1 p) (ix3 0 (j 1) k))
    (fun t h j => by
      rw [outsAt0_A m c t h (by omega)]; frame_out; rw [added, cleared])
    (fun t h j => by
      by_cases h' : t.val % 8 = 7
      · rw [outsAt0_C m c t h h']; frame_out; rw [added]; exact congrArg (fun v : FVec Ideal S1024x1024 .f32 => (v j + _ : EReal)) (Memref.IsWhole.read_unread _ _)
      · rw [outsAt0_B m c t h h']; frame_out; rw [added]; exact congrArg (fun v : FVec Ideal S1024x1024 .f32 => (v j + _ : EReal)) (Memref.IsWhole.read_unread _ _)) t ht y, zero_add]

/-- The last step of a block writes its sum. -/
theorem wrote (c : Dev nD) (t : Fin cfg0.N) (ht : t.val % 8 = 7) (y : S1024x1024.Idx) :
    (outsAt0 m c t.val t.isLt).1 y = (outsAt0 m c t.val t.isLt).2 y := by
  rw [outsAt0_C m c t (by omega) ht]
  frame_out

/-- The call ends with the gradient. -/
theorem final (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, wrote m c t ht, summed m c t ht, grad_at]
  refine Fin.sum_mul_add_congr fun s k hl => ?_
  congr 1 <;> blk_ext [piece, place, iblk, V, places t, places ⟨_, run_point_lt_of_flush t ht s⟩]

end Exchange.QkvDx

end
-- ==== Proof.KvIn.Value.lean ====
/-
  The projection to the shared keys, values and gates.
-/
module

public import proofs.«01_k».proof.Proof.Gen.KvInIdeal.Frame
public import proofs.«01_k».proof.Proof.Gen.KvInRefIdeal
public import Idealize.ShloMosaic.Lib.Pipeline.ValueKit

@[expose] public section

set_option maxRecDepth 16384

noncomputable section

namespace Exchange.KvIn

open Cert.KvInIdeal Cert.KvInIdeal.Gen Idealize.ShloMosaic Idealize.ShloMosaic.TcCoe Idealize.ShloMosaic.Pipeline
open scoped BigOperators

variable (m : (ℓ : Loc nD τ sig) → Buf (Elt Ideal) ℓ)

/-- The product, as the reference writes it. -/
def product (n : FVec Ideal S8192x1024 .bf16) (w : FVec Ideal S1x1024x2304 .bf16) : FVec Ideal S8192x2304 .f32 :=
  Host.dotGeneral (F := Ideal) (φ₁ := .f32) (φ₂ := .f32) Cert.KvInRefIdeal.dot_S8192x1024_S1024x2304_S8192x2304_1_0_0_1_n_n none
    (extf (F := Ideal) .f32 n Cert.KvInRefIdeal.Gen.bitsLt_bf16_f32)
    (extf (F := Ideal) .f32 (shapeCast Cert.KvInRefIdeal.S1024x2304 w Cert.KvInRefIdeal.Gen.shapeCasts_S1x1024x2304_S1024x2304) Cert.KvInRefIdeal.Gen.bitsLt_bf16_f32)

theorem product_at (n : FVec Ideal S8192x1024 .bf16) (w : FVec Ideal S1x1024x2304 .bf16) (i : S8192x2304.Idx) :
    product n w i = ∑ k : Fin 1024, n (ix2 (i 0) k) * w (ix3 0 k (i 1)) := by
  pointwise [product]

theorem cleared (y : S1024x1152.Idx) : k0_pay1 (F := Ideal) y = 0 := by pointwise [k0_pay1]

theorem added (s : FVec Ideal S1024x1152 .f32) (n : FVec Ideal S1024x1024 .bf16) (w : FVec Ideal S1x1024x1152 .bf16) (y : S1024x1152.Idx) :
    k0_pay2 (F := Ideal) s n w y = s y + ∑ k : Fin 1024, n (ix2 (y 0) k) * w (ix3 0 k (y 1)) := by
  pointwise [k0_pay2]

/-- Which rows and columns a step reads and writes. -/
theorem places : ∀ t : Fin cfg0.N, win0_0.index t = ![t.val / 2, 0] ∧ win0_1.index t = ![0, 0, t.val % 2] ∧ win0_2.index t = ![t.val / 2, t.val % 2] := by
  decide +kernel

/-- A step writes its rows' products with half the columns. -/
theorem wrote (c : Dev nD) (t : Fin cfg0.N) (y : S1024x1152.Idx) :
    outsAt0 m c t y = ∑ k : Fin 1024, (show FVec Ideal S1024x1024 .bf16 from iblk m c 0 t) (ix2 (y 0) k)
      * (show FVec Ideal S1x1024x1152 .bf16 from iblk m c 1 t) (ix3 0 k (y 1)) := by
  unfold outsAt0
  frame_out
  rw [added, cleared, zero_add]

/-- The call ends with the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  blk_simp
  rw [after0_2, wrote m c t, product_at]
  refine Fin.sum_fin_congr fun k => ?_
  congr 1 <;> blk_ext [iblk, V, places t]

end Exchange.KvIn

end
-- ==== Proof.KvDx.Value.lean ====
/-
  The gradient that the shared keys, values and gates pass back to their input, summed over the columns.
-/
module

public import proofs.«01_k».proof.Proof.Gen.KvDxIdeal.Frame
public import proofs.«01_k».proof.Proof.Gen.KvDxRefIdeal
public import Idealize.ShloMosaic.Lib.Pipeline.ValueKit

@[expose] public section

set_option maxRecDepth 16384

noncomputable section

namespace Exchange.KvDx

open Cert.KvDxIdeal Cert.KvDxIdeal.Gen Idealize.ShloMosaic Idealize.ShloMosaic.TcCoe Idealize.ShloMosaic.Pipeline
open scoped BigOperators

variable (m : (ℓ : Loc nD τ sig) → Buf (Elt Ideal) ℓ)

/-- The gradient, as the reference writes it. -/
def grad (d : FVec Ideal S8192x2304 .bf16) (w : FVec Ideal S1x1024x2304 .bf16) : FVec Ideal S8192x1024 .f32 :=
  Host.dotGeneral (F := Ideal) (φ₁ := .f32) (φ₂ := .f32) Cert.KvDxRefIdeal.dot_S8192x2304_S2304x1024_S8192x1024_1_0_0_1_n_n none
    (extf (F := Ideal) .f32 d Cert.KvDxRefIdeal.Gen.bitsLt_bf16_f32)
    (transpose Cert.KvDxRefIdeal.S2304x1024 [1, 0] (extf (F := Ideal) .f32
      (shapeCast Cert.KvDxRefIdeal.S1024x2304 w Cert.KvDxRefIdeal.Gen.shapeCasts_S1x1024x2304_S1024x2304) Cert.KvDxRefIdeal.Gen.bitsLt_bf16_f32)
      Cert.KvDxRefIdeal.Gen.transposes_S1024x2304_S2304x1024_1_0)

theorem grad_at (d : FVec Ideal S8192x2304 .bf16) (w : FVec Ideal S1x1024x2304 .bf16) (i : S8192x1024.Idx) :
    grad d w i = ∑ l : Fin 2304, d (ix2 (i 0) l) * w (ix3 0 (i 1) l) := by
  pointwise [grad]

theorem cleared (y : S1024x1024.Idx) : k0_pay1 (F := Ideal) y = 0 := by pointwise [k0_pay1]

/-- A step adds the products over half the columns. -/
theorem added (s : FVec Ideal S1024x1024 .f32) (d : FVec Ideal S1024x1152 .bf16) (w : FVec Ideal S1x1024x1152 .bf16) (y : S1024x1024.Idx) :
    k0_pay2 (F := Ideal) s d w y = s y + ∑ k : Fin 1152, d (ix2 (y 0) k) * w (ix3 0 (y 1) k) := by
  pointwise [k0_pay2]

/-- Which rows and columns a step reads and writes. -/
theorem places : ∀ t : Fin cfg0.N, win0_0.index t = ![t.val / 2, t.val % 2] ∧ win0_1.index t = ![0, 0, t.val % 2] ∧ win0_2.index t = ![t.val / 2, 0] := by
  decide +kernel

/-- The sum that a block's last step leaves. -/
theorem summed (c : Dev nD) (t : Fin cfg0.N) (ht : t.val % 2 = 1) (y : S1024x1024.Idx) :
    (outsAt0 m c t.val t.isLt).2 y = ∑ s : Fin 2, ∑ k : Fin 1152,
      (show FVec Ideal S1024x1152 .bf16 from iblk m c 0 ⟨2 * (t.val / 2) + s.val, run_point_lt_of_flush t ht s⟩) (ix2 (y 0) k)
        * (show FVec Ideal S1x1024x1152 .bf16 from iblk m c 1 ⟨2 * (t.val / 2) + s.val, run_point_lt_of_flush t ht s⟩) (ix3 0 (y 1) k) := by
  rw [eq_sum_fin_of_reset_step_apply_of_flush (fun n h => (outsAt0 m c n h).2) 2 (fun _ => 0)
    (fun p j => ∑ k : Fin 1152, (show FVec Ideal S1024x1152 .bf16 from iblk m c 0 p) (ix2 (j 0) k) * (show FVec Ideal S1x1024x1152 .bf16 from iblk m c 1 p) (ix3 0 (j 1) k))
    (fun t h j => by
      rw [outsAt0_A m c t h (by omega)]; frame_out; rw [added, cleared])
    (fun t h j => by
      rw [outsAt0_B m c t h (by omega)]; frame_out; rw [added]; exact congrArg (fun v : FVec Ideal S1024x1024 .f32 => (v j + _ : EReal)) (Memref.IsWhole.read_unread _ _)) t ht y, zero_add]

/-- The last step of a block writes its sum. -/
theorem wrote (c : Dev nD) (t : Fin cfg0.N) (ht : t.val % 2 = 1) (y : S1024x1024.Idx) :
    (outsAt0 m c t.val t.isLt).1 y = (outsAt0 m c t.val t.isLt).2 y := by
  rw [outsAt0_B m c t (by omega) ht]
  frame_out

/-- The call ends with the gradient. -/
theorem final (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, wrote m c t ht, summed m c t ht, grad_at]
  refine Fin.sum_mul_add_congr fun s k hl => ?_
  congr 1 <;> blk_ext [iblk, V, places t, places ⟨_, run_point_lt_of_flush t ht s⟩]

end Exchange.KvDx

end
-- ==== Proof.QueryIn.Value.lean ====
/-
  The projection to the second attention's queries.
-/
module

public import proofs.«01_k».proof.Proof.Gen.QueryInIdeal.Frame
public import proofs.«01_k».proof.Proof.Gen.QueryInRefIdeal
public import Idealize.ShloMosaic.Lib.Pipeline.ValueKit

@[expose] public section

set_option maxRecDepth 16384

noncomputable section

namespace Exchange.QueryIn

open Cert.QueryInIdeal Cert.QueryInIdeal.Gen Idealize.ShloMosaic Idealize.ShloMosaic.TcCoe Idealize.ShloMosaic.Pipeline
open scoped BigOperators

variable (m : (ℓ : Loc nD τ sig) → Buf (Elt Ideal) ℓ)

/-- The product, as the reference writes it. -/
def product (n : FVec Ideal S8192x1024 .bf16) (w : FVec Ideal S1x1024x1024 .bf16) : FVec Ideal S8192x1024 .f32 :=
  Host.dotGeneral (F := Ideal) (φ₁ := .f32) (φ₂ := .f32) Cert.QueryInRefIdeal.dot_S8192x1024_S1024x1024_S8192x1024_1_0_0_1_n_n none
    (extf (F := Ideal) .f32 n Cert.QueryInRefIdeal.Gen.bitsLt_bf16_f32)
    (extf (F := Ideal) .f32 (shapeCast Cert.QueryInRefIdeal.S1024x1024 w Cert.QueryInRefIdeal.Gen.shapeCasts_S1x1024x1024_S1024x1024) Cert.QueryInRefIdeal.Gen.bitsLt_bf16_f32)

theorem product_at (n : FVec Ideal S8192x1024 .bf16) (w : FVec Ideal S1x1024x1024 .bf16) (i : S8192x1024.Idx) :
    product n w i = ∑ k : Fin 1024, n (ix2 (i 0) k) * w (ix3 0 k (i 1)) := by
  pointwise [product]

theorem cleared (y : S1024x1024.Idx) : k0_pay1 (F := Ideal) y = 0 := by pointwise [k0_pay1]

theorem added (s : FVec Ideal S1024x1024 .f32) (n : FVec Ideal S1024x1024 .bf16) (w : FVec Ideal S1x1024x1024 .bf16) (y : S1024x1024.Idx) :
    k0_pay2 (F := Ideal) s n w y = s y + ∑ k : Fin 1024, n (ix2 (y 0) k) * w (ix3 0 k (y 1)) := by
  pointwise [k0_pay2]

/-- A step reads and writes its rows, and reads the whole weight. -/
theorem places : ∀ t : Fin cfg0.N, win0_0.index t = ![t.val, 0] ∧ win0_1.index t = ![0, 0, 0] ∧ win0_2.index t = ![t.val, 0] := by
  decide +kernel

/-- A step writes its rows' products. -/
theorem wrote (c : Dev nD) (t : Fin cfg0.N) (y : S1024x1024.Idx) :
    outsAt0 m c t y = ∑ k : Fin 1024, (show FVec Ideal S1024x1024 .bf16 from iblk m c 0 t) (ix2 (y 0) k)
      * (show FVec Ideal S1x1024x1024 .bf16 from iblk m c 1 t) (ix3 0 k (y 1)) := by
  unfold outsAt0
  frame_out
  rw [added, cleared, zero_add]

/-- The call ends with the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  blk_simp
  rw [after0_2, wrote m c t, product_at]
  refine Fin.sum_fin_congr fun k => ?_
  congr 1 <;> blk_ext [iblk, V, places t]

end Exchange.QueryIn

end
-- ==== Proof.QueryDx.Value.lean ====
/-
  The gradient that the second attention's queries pass back to their input.
-/
module

public import proofs.«01_k».proof.Proof.Gen.QueryDxIdeal.Frame
public import proofs.«01_k».proof.Proof.Gen.QueryDxRefIdeal
public import Idealize.ShloMosaic.Lib.Pipeline.ValueKit

@[expose] public section

set_option maxRecDepth 16384

noncomputable section

namespace Exchange.QueryDx

open Cert.QueryDxIdeal Cert.QueryDxIdeal.Gen Idealize.ShloMosaic Idealize.ShloMosaic.TcCoe Idealize.ShloMosaic.Pipeline
open scoped BigOperators

variable (m : (ℓ : Loc nD τ sig) → Buf (Elt Ideal) ℓ)

/-- The gradient, as the reference writes it. -/
def grad (d : FVec Ideal S8192x1024 .bf16) (w : FVec Ideal S1x1024x1024 .bf16) : FVec Ideal S8192x1024 .f32 :=
  Host.dotGeneral (F := Ideal) (φ₁ := .f32) (φ₂ := .f32) Cert.QueryDxRefIdeal.dot_S8192x1024_S1024x1024_S8192x1024_1_0_0_1_n_n none
    (extf (F := Ideal) .f32 d Cert.QueryDxRefIdeal.Gen.bitsLt_bf16_f32)
    (transpose Cert.QueryDxRefIdeal.S1024x1024 [1, 0] (extf (F := Ideal) .f32
      (shapeCast Cert.QueryDxRefIdeal.S1024x1024 w Cert.QueryDxRefIdeal.Gen.shapeCasts_S1x1024x1024_S1024x1024) Cert.QueryDxRefIdeal.Gen.bitsLt_bf16_f32)
      Cert.QueryDxRefIdeal.Gen.transposes_S1024x1024_S1024x1024_1_0)

theorem grad_at (d : FVec Ideal S8192x1024 .bf16) (w : FVec Ideal S1x1024x1024 .bf16) (i : S8192x1024.Idx) :
    grad d w i = ∑ k : Fin 1024, d (ix2 (i 0) k) * w (ix3 0 (i 1) k) := by
  pointwise [grad]

theorem cleared (y : S1024x1024.Idx) : k0_pay1 (F := Ideal) y = 0 := by pointwise [k0_pay1]

theorem added (s : FVec Ideal S1024x1024 .f32) (d : FVec Ideal S1024x1024 .bf16) (w : FVec Ideal S1x1024x1024 .bf16) (y : S1024x1024.Idx) :
    k0_pay2 (F := Ideal) s d w y = s y + ∑ k : Fin 1024, d (ix2 (y 0) k) * w (ix3 0 (y 1) k) := by
  pointwise [k0_pay2]

/-- A step reads and writes its rows, and reads the whole weight. -/
theorem places : ∀ t : Fin cfg0.N, win0_0.index t = ![t.val, 0] ∧ win0_1.index t = ![0, 0, 0] ∧ win0_2.index t = ![t.val, 0] := by
  decide +kernel

/-- A step writes its rows' products. -/
theorem wrote (c : Dev nD) (t : Fin cfg0.N) (y : S1024x1024.Idx) :
    outsAt0 m c t y = ∑ k : Fin 1024, (show FVec Ideal S1024x1024 .bf16 from iblk m c 0 t) (ix2 (y 0) k)
      * (show FVec Ideal S1x1024x1024 .bf16 from iblk m c 1 t) (ix3 0 (y 1) k) := by
  unfold outsAt0
  frame_out
  rw [added, cleared, zero_add]

/-- The call ends with the gradient. -/
theorem final (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  blk_simp
  rw [after0_2, wrote m c t, grad_at]
  refine Fin.sum_fin_congr fun k => ?_
  congr 1 <;> blk_ext [iblk, V, places t]

end Exchange.QueryDx

end
-- ==== Proof.MixOut.Value.lean ====
/-
  The projection of an attention's output, added to the layer's input.
-/
module

public import proofs.«01_k».proof.Proof.Gen.MixOutIdeal.Frame
public import proofs.«01_k».proof.Proof.Gen.MixOutRefIdeal
public import Idealize.ShloMosaic.Lib.Pipeline.ValueKit

@[expose] public section

set_option maxRecDepth 16384

noncomputable section

namespace Exchange.MixOut

open Cert.MixOutIdeal Cert.MixOutIdeal.Gen Idealize.ShloMosaic Idealize.ShloMosaic.TcCoe Idealize.ShloMosaic.Pipeline
open scoped BigOperators

variable (m : (ℓ : Loc nD τ sig) → Buf (Elt Ideal) ℓ)

/-- The layer's output, as the reference writes it. -/
def output (a : FVec Ideal S8192x1024 .f32) (w : FVec Ideal S1x1024x1024 .bf16) (h : FVec Ideal S8192x1024 .f32) : FVec Ideal S8192x1024 .f32 :=
  addf h (Host.dotGeneral (F := Ideal) (φ₁ := .f32) (φ₂ := .f32) Cert.MixOutRefIdeal.dot_S8192x1024_S1024x1024_S8192x1024_1_0_0_1_n_n none a
    (extf (F := Ideal) .f32 (shapeCast Cert.MixOutRefIdeal.S1024x1024 w Cert.MixOutRefIdeal.Gen.shapeCasts_S1x1024x1024_S1024x1024) Cert.MixOutRefIdeal.Gen.bitsLt_bf16_f32))

theorem output_at (a : FVec Ideal S8192x1024 .f32) (w : FVec Ideal S1x1024x1024 .bf16) (h : FVec Ideal S8192x1024 .f32) (i : S8192x1024.Idx) :
    output a w h i = h i + ∑ k : Fin 1024, a (ix2 (i 0) k) * w (ix3 0 k (i 1)) := by
  pointwise [output]

theorem cleared (y : S1024x1024.Idx) : k0_pay1 (F := Ideal) y = 0 := by pointwise [k0_pay1]

theorem added (s a : FVec Ideal S1024x1024 .f32) (w : FVec Ideal S1x1024x1024 .bf16) (y : S1024x1024.Idx) :
    k0_pay2 (F := Ideal) s a w y = s y + ∑ k : Fin 1024, a (ix2 (y 0) k) * w (ix3 0 k (y 1)) := by
  pointwise [k0_pay2]

theorem joined (s h : FVec Ideal S1024x1024 .f32) (y : S1024x1024.Idx) : k0_pay3 (F := Ideal) s h y = h y + s y := by
  pointwise [k0_pay3]

/-- A step reads and writes its rows, and reads the whole weight. -/
theorem places : ∀ t : Fin cfg0.N, win0_0.index t = ![t.val, 0] ∧ win0_1.index t = ![0, 0, 0] ∧ win0_2.index t = ![t.val, 0] ∧ win0_3.index t = ![t.val, 0] := by
  decide +kernel

/-- A step adds its rows' products to the layer's input there. -/
theorem wrote (c : Dev nD) (t : Fin cfg0.N) (y : S1024x1024.Idx) :
    outsAt0 m c t y = (show FVec Ideal S1024x1024 .f32 from iblk m c 2 t) y + ∑ k : Fin 1024, (show FVec Ideal S1024x1024 .f32 from iblk m c 0 t) (ix2 (y 0) k)
      * (show FVec Ideal S1x1024x1024 .bf16 from iblk m c 1 t) (ix3 0 k (y 1)) := by
  unfold outsAt0
  frame_out
  rw [joined, added, cleared, zero_add]

/-- The call ends with the layer's output. -/
theorem final (c : Dev nD) : (dats m 0 c).arrAt 3 cfg0.N
    = output (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3, wrote m c t, output_at]
  refine congrArg₂ (fun a b : EReal => a + b) ?_ ?_
  · blk_ext [iblk, V, places t]
  · refine Fin.sum_fin_congr fun k => ?_
    congr 1 <;> blk_ext [iblk, V, places t]

end Exchange.MixOut

end
-- ==== Proof.MixDx.Value.lean ====
/-
  The gradient that an attention's output projection passes back to its input.
-/
module

public import proofs.«01_k».proof.Proof.Gen.MixDxIdeal.Frame
public import proofs.«01_k».proof.Proof.Gen.MixDxRefIdeal
public import Idealize.ShloMosaic.Lib.Pipeline.ValueKit

@[expose] public section

set_option maxRecDepth 16384

noncomputable section

namespace Exchange.MixDx

open Cert.MixDxIdeal Cert.MixDxIdeal.Gen Idealize.ShloMosaic Idealize.ShloMosaic.TcCoe Idealize.ShloMosaic.Pipeline
open scoped BigOperators

variable (m : (ℓ : Loc nD τ sig) → Buf (Elt Ideal) ℓ)

/-- The gradient, as the reference writes it. -/
def grad (d : FVec Ideal S8192x1024 .f32) (w : FVec Ideal S1x1024x1024 .bf16) : FVec Ideal S8192x1024 .f32 :=
  Host.dotGeneral (F := Ideal) (φ₁ := .f32) (φ₂ := .f32) Cert.MixDxRefIdeal.dot_S8192x1024_S1024x1024_S8192x1024_1_0_0_1_n_n none d
    (transpose Cert.MixDxRefIdeal.S1024x1024 [1, 0] (extf (F := Ideal) .f32
      (shapeCast Cert.MixDxRefIdeal.S1024x1024 w Cert.MixDxRefIdeal.Gen.shapeCasts_S1x1024x1024_S1024x1024) Cert.MixDxRefIdeal.Gen.bitsLt_bf16_f32)
      Cert.MixDxRefIdeal.Gen.transposes_S1024x1024_S1024x1024_1_0)

theorem grad_at (d : FVec Ideal S8192x1024 .f32) (w : FVec Ideal S1x1024x1024 .bf16) (i : S8192x1024.Idx) :
    grad d w i = ∑ k : Fin 1024, d (ix2 (i 0) k) * w (ix3 0 (i 1) k) := by
  pointwise [grad]

theorem cleared (y : S1024x1024.Idx) : k0_pay1 (F := Ideal) y = 0 := by pointwise [k0_pay1]

theorem added (s : FVec Ideal S1024x1024 .f32) (d : FVec Ideal S1024x1024 .f32) (w : FVec Ideal S1x1024x1024 .bf16) (y : S1024x1024.Idx) :
    k0_pay2 (F := Ideal) s d w y = s y + ∑ k : Fin 1024, d (ix2 (y 0) k) * w (ix3 0 (y 1) k) := by
  pointwise [k0_pay2]

/-- A step reads and writes its rows, and reads the whole weight. -/
theorem places : ∀ t : Fin cfg0.N, win0_0.index t = ![t.val, 0] ∧ win0_1.index t = ![0, 0, 0] ∧ win0_2.index t = ![t.val, 0] := by
  decide +kernel

/-- A step writes its rows' products. -/
theorem wrote (c : Dev nD) (t : Fin cfg0.N) (y : S1024x1024.Idx) :
    outsAt0 m c t y = ∑ k : Fin 1024, (show FVec Ideal S1024x1024 .f32 from iblk m c 0 t) (ix2 (y 0) k)
      * (show FVec Ideal S1x1024x1024 .bf16 from iblk m c 1 t) (ix3 0 (y 1) k) := by
  unfold outsAt0
  frame_out
  rw [added, cleared, zero_add]

/-- The call ends with the gradient. -/
theorem final (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  blk_simp
  rw [after0_2, wrote m c t, grad_at]
  refine Fin.sum_fin_congr fun k => ?_
  congr 1 <;> blk_ext [iblk, V, places t]

end Exchange.MixDx

end
-- ==== Proof.Attend.Claims.lean ====
/-
  The attentions' products and their input gradients: each call's frames, and its result against the reference's.
-/
module

public import proofs.«01_k».proof.Defs
public import proofs.«01_k».proof.Proof.Gen.QkvIn
public import proofs.«01_k».proof.Proof.Gen.QkvInRefIdeal.Run
public import proofs.«01_k».proof.Proof.QkvIn.Value
public import proofs.«01_k».proof.Proof.Gen.QkvDx
public import proofs.«01_k».proof.Proof.Gen.QkvDxRefIdeal.Run
public import proofs.«01_k».proof.Proof.QkvDx.Value
public import proofs.«01_k».proof.Proof.Gen.KvIn
public import proofs.«01_k».proof.Proof.Gen.KvInRefIdeal.Run
public import proofs.«01_k».proof.Proof.KvIn.Value
public import proofs.«01_k».proof.Proof.Gen.KvDx
public import proofs.«01_k».proof.Proof.Gen.KvDxRefIdeal.Run
public import proofs.«01_k».proof.Proof.KvDx.Value
public import proofs.«01_k».proof.Proof.Gen.QueryIn
public import proofs.«01_k».proof.Proof.Gen.QueryInRefIdeal.Run
public import proofs.«01_k».proof.Proof.QueryIn.Value
public import proofs.«01_k».proof.Proof.Gen.QueryDx
public import proofs.«01_k».proof.Proof.Gen.QueryDxRefIdeal.Run
public import proofs.«01_k».proof.Proof.QueryDx.Value
public import proofs.«01_k».proof.Proof.Gen.MixOut
public import proofs.«01_k».proof.Proof.Gen.MixOutRefIdeal.Run
public import proofs.«01_k».proof.Proof.MixOut.Value
public import proofs.«01_k».proof.Proof.Gen.MixDx
public import proofs.«01_k».proof.Proof.Gen.MixDxRefIdeal.Run
public import proofs.«01_k».proof.Proof.MixDx.Value

@[expose] public section

noncomputable section

open Idealize.ShloMosaic Idealize.ShloMosaic.TcCoe Idealize.SL.Sem

/-! ## The first attention's queries, keys and values -/

namespace Exchange.QkvIn

open Cert.QkvInIdeal Cert.QkvInIdeal.Gen

/-- The call's body table is one text, whichever floats it is read at. -/
theorem same : Cert.QkvIn.defs (F := Bits) = defs (F := Bits) :=
  congrArg (Pipeline.defs _) (congrArg Defs.onTc (funext fun l => funext fun p => match l, p with | 0, (_, _) => rfl))

theorem frame : Cert.quiescent_QkvIn (hQkvIn := Cert.QkvIn.Gen.facts) := fun m g _ => by
  rw [same]
  exact Gen.frame (F := Bits) m g

theorem frame_ideal : Cert.quiescent_QkvInIdeal (hQkvInIdeal := Gen.facts) := fun m g _ => Gen.frame (F := Ideal) m g

theorem frame_ref_ideal : Cert.quiescent_QkvInRefIdeal (hQkvInRefIdeal := Cert.QkvInRefIdeal.Gen.facts) := fun m g _ =>
  (θ_run Cert.QkvInRefIdeal.defs _ _).mono (fun _ h => ⟨fun c => (h c).2, funext fun s => ((by decide : ∀ _ : SemLoc Cert.QkvInRefIdeal.sig, False) s.2).elim⟩)
    (Cert.QkvInRefIdeal.Value.run (F := Ideal) m g)

theorem algebraic : Cert.algebraic_QkvInIdeal_QkvInRefIdeal (hQkvInIdeal := Gen.facts) (hQkvInRefIdeal := Cert.QkvInRefIdeal.Gen.facts) :=
  fun m g m' g' _ hA => ⟨fun c => product (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.QkvInRefIdeal.defs _ _).mono (fun _ h c => ⟨(h c).1.trans (congrArg₂ product (hA c).1 (hA c).2), (h c).2⟩)
      (Cert.QkvInRefIdeal.Value.run (F := Ideal) m' g')⟩

end Exchange.QkvIn

/-! ## Their input gradient -/

namespace Exchange.QkvDx

open Cert.QkvDxIdeal Cert.QkvDxIdeal.Gen

/-- The call's body table is one text, whichever floats it is read at. -/
theorem same : Cert.QkvDx.defs (F := Bits) = defs (F := Bits) :=
  congrArg (Pipeline.defs _) (congrArg Defs.onTc (funext fun l => funext fun p => match l, p with | 0, (_, _) => rfl))

theorem frame : Cert.quiescent_QkvDx (hQkvDx := Cert.QkvDx.Gen.facts) := fun m g _ => by
  rw [same]
  exact Gen.frame (F := Bits) m g

theorem frame_ideal : Cert.quiescent_QkvDxIdeal (hQkvDxIdeal := Gen.facts) := fun m g _ => Gen.frame (F := Ideal) m g

theorem frame_ref_ideal : Cert.quiescent_QkvDxRefIdeal (hQkvDxRefIdeal := Cert.QkvDxRefIdeal.Gen.facts) := fun m g _ =>
  (θ_run Cert.QkvDxRefIdeal.defs _ _).mono (fun _ h => ⟨fun c => (h c).2, funext fun s => ((by decide : ∀ _ : SemLoc Cert.QkvDxRefIdeal.sig, False) s.2).elim⟩)
    (Cert.QkvDxRefIdeal.Value.run (F := Ideal) m g)

theorem algebraic : Cert.algebraic_QkvDxIdeal_QkvDxRefIdeal (hQkvDxIdeal := Gen.facts) (hQkvDxRefIdeal := Cert.QkvDxRefIdeal.Gen.facts) :=
  fun m g m' g' _ hA => ⟨fun c => grad (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.QkvDxRefIdeal.defs _ _).mono (fun _ h c => ⟨(h c).1.trans (congrArg₂ grad (hA c).1 (hA c).2), (h c).2⟩)
      (Cert.QkvDxRefIdeal.Value.run (F := Ideal) m' g')⟩

end Exchange.QkvDx

/-! ## The shared keys, values and gates -/

namespace Exchange.KvIn

open Cert.KvInIdeal Cert.KvInIdeal.Gen

/-- The call's body table is one text, whichever floats it is read at. -/
theorem same : Cert.KvIn.defs (F := Bits) = defs (F := Bits) :=
  congrArg (Pipeline.defs _) (congrArg Defs.onTc (funext fun l => funext fun p => match l, p with | 0, (_, _) => rfl))

theorem frame : Cert.quiescent_KvIn (hKvIn := Cert.KvIn.Gen.facts) := fun m g _ => by
  rw [same]
  exact Gen.frame (F := Bits) m g

theorem frame_ideal : Cert.quiescent_KvInIdeal (hKvInIdeal := Gen.facts) := fun m g _ => Gen.frame (F := Ideal) m g

theorem frame_ref_ideal : Cert.quiescent_KvInRefIdeal (hKvInRefIdeal := Cert.KvInRefIdeal.Gen.facts) := fun m g _ =>
  (θ_run Cert.KvInRefIdeal.defs _ _).mono (fun _ h => ⟨fun c => (h c).2, funext fun s => ((by decide : ∀ _ : SemLoc Cert.KvInRefIdeal.sig, False) s.2).elim⟩)
    (Cert.KvInRefIdeal.Value.run (F := Ideal) m g)

theorem algebraic : Cert.algebraic_KvInIdeal_KvInRefIdeal (hKvInIdeal := Gen.facts) (hKvInRefIdeal := Cert.KvInRefIdeal.Gen.facts) :=
  fun m g m' g' _ hA => ⟨fun c => product (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.KvInRefIdeal.defs _ _).mono (fun _ h c => ⟨(h c).1.trans (congrArg₂ product (hA c).1 (hA c).2), (h c).2⟩)
      (Cert.KvInRefIdeal.Value.run (F := Ideal) m' g')⟩

end Exchange.KvIn

/-! ## Their input gradient -/

namespace Exchange.KvDx

open Cert.KvDxIdeal Cert.KvDxIdeal.Gen

/-- The call's body table is one text, whichever floats it is read at. -/
theorem same : Cert.KvDx.defs (F := Bits) = defs (F := Bits) :=
  congrArg (Pipeline.defs _) (congrArg Defs.onTc (funext fun l => funext fun p => match l, p with | 0, (_, _) => rfl))

theorem frame : Cert.quiescent_KvDx (hKvDx := Cert.KvDx.Gen.facts) := fun m g _ => by
  rw [same]
  exact Gen.frame (F := Bits) m g

theorem frame_ideal : Cert.quiescent_KvDxIdeal (hKvDxIdeal := Gen.facts) := fun m g _ => Gen.frame (F := Ideal) m g

theorem frame_ref_ideal : Cert.quiescent_KvDxRefIdeal (hKvDxRefIdeal := Cert.KvDxRefIdeal.Gen.facts) := fun m g _ =>
  (θ_run Cert.KvDxRefIdeal.defs _ _).mono (fun _ h => ⟨fun c => (h c).2, funext fun s => ((by decide : ∀ _ : SemLoc Cert.KvDxRefIdeal.sig, False) s.2).elim⟩)
    (Cert.KvDxRefIdeal.Value.run (F := Ideal) m g)

theorem algebraic : Cert.algebraic_KvDxIdeal_KvDxRefIdeal (hKvDxIdeal := Gen.facts) (hKvDxRefIdeal := Cert.KvDxRefIdeal.Gen.facts) :=
  fun m g m' g' _ hA => ⟨fun c => grad (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.KvDxRefIdeal.defs _ _).mono (fun _ h c => ⟨(h c).1.trans (congrArg₂ grad (hA c).1 (hA c).2), (h c).2⟩)
      (Cert.KvDxRefIdeal.Value.run (F := Ideal) m' g')⟩

end Exchange.KvDx

/-! ## The second attention's queries -/

namespace Exchange.QueryIn

open Cert.QueryInIdeal Cert.QueryInIdeal.Gen

/-- The call's body table is one text, whichever floats it is read at. -/
theorem same : Cert.QueryIn.defs (F := Bits) = defs (F := Bits) :=
  congrArg (Pipeline.defs _) (congrArg Defs.onTc (funext fun l => funext fun p => match l, p with | 0, (_, _) => rfl))

theorem frame : Cert.quiescent_QueryIn (hQueryIn := Cert.QueryIn.Gen.facts) := fun m g _ => by
  rw [same]
  exact Gen.frame (F := Bits) m g

theorem frame_ideal : Cert.quiescent_QueryInIdeal (hQueryInIdeal := Gen.facts) := fun m g _ => Gen.frame (F := Ideal) m g

theorem frame_ref_ideal : Cert.quiescent_QueryInRefIdeal (hQueryInRefIdeal := Cert.QueryInRefIdeal.Gen.facts) := fun m g _ =>
  (θ_run Cert.QueryInRefIdeal.defs _ _).mono (fun _ h => ⟨fun c => (h c).2, funext fun s => ((by decide : ∀ _ : SemLoc Cert.QueryInRefIdeal.sig, False) s.2).elim⟩)
    (Cert.QueryInRefIdeal.Value.run (F := Ideal) m g)

theorem algebraic : Cert.algebraic_QueryInIdeal_QueryInRefIdeal (hQueryInIdeal := Gen.facts) (hQueryInRefIdeal := Cert.QueryInRefIdeal.Gen.facts) :=
  fun m g m' g' _ hA => ⟨fun c => product (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.QueryInRefIdeal.defs _ _).mono (fun _ h c => ⟨(h c).1.trans (congrArg₂ product (hA c).1 (hA c).2), (h c).2⟩)
      (Cert.QueryInRefIdeal.Value.run (F := Ideal) m' g')⟩

end Exchange.QueryIn

/-! ## Their input gradient -/

namespace Exchange.QueryDx

open Cert.QueryDxIdeal Cert.QueryDxIdeal.Gen

/-- The call's body table is one text, whichever floats it is read at. -/
theorem same : Cert.QueryDx.defs (F := Bits) = defs (F := Bits) :=
  congrArg (Pipeline.defs _) (congrArg Defs.onTc (funext fun l => funext fun p => match l, p with | 0, (_, _) => rfl))

theorem frame : Cert.quiescent_QueryDx (hQueryDx := Cert.QueryDx.Gen.facts) := fun m g _ => by
  rw [same]
  exact Gen.frame (F := Bits) m g

theorem frame_ideal : Cert.quiescent_QueryDxIdeal (hQueryDxIdeal := Gen.facts) := fun m g _ => Gen.frame (F := Ideal) m g

theorem frame_ref_ideal : Cert.quiescent_QueryDxRefIdeal (hQueryDxRefIdeal := Cert.QueryDxRefIdeal.Gen.facts) := fun m g _ =>
  (θ_run Cert.QueryDxRefIdeal.defs _ _).mono (fun _ h => ⟨fun c => (h c).2, funext fun s => ((by decide : ∀ _ : SemLoc Cert.QueryDxRefIdeal.sig, False) s.2).elim⟩)
    (Cert.QueryDxRefIdeal.Value.run (F := Ideal) m g)

theorem algebraic : Cert.algebraic_QueryDxIdeal_QueryDxRefIdeal (hQueryDxIdeal := Gen.facts) (hQueryDxRefIdeal := Cert.QueryDxRefIdeal.Gen.facts) :=
  fun m g m' g' _ hA => ⟨fun c => grad (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.QueryDxRefIdeal.defs _ _).mono (fun _ h c => ⟨(h c).1.trans (congrArg₂ grad (hA c).1 (hA c).2), (h c).2⟩)
      (Cert.QueryDxRefIdeal.Value.run (F := Ideal) m' g')⟩

end Exchange.QueryDx

/-! ## An attention's output -/

namespace Exchange.MixOut

open Cert.MixOutIdeal Cert.MixOutIdeal.Gen

/-- The call's body table is one text, whichever floats it is read at. -/
theorem same : Cert.MixOut.defs (F := Bits) = defs (F := Bits) :=
  congrArg (Pipeline.defs _) (congrArg Defs.onTc (funext fun l => funext fun p => match l, p with | 0, (_, _) => rfl))

theorem frame : Cert.quiescent_MixOut (hMixOut := Cert.MixOut.Gen.facts) := fun m g _ => by
  rw [same]
  exact Gen.frame (F := Bits) m g

theorem frame_ideal : Cert.quiescent_MixOutIdeal (hMixOutIdeal := Gen.facts) := fun m g _ => Gen.frame (F := Ideal) m g

theorem frame_ref_ideal : Cert.quiescent_MixOutRefIdeal (hMixOutRefIdeal := Cert.MixOutRefIdeal.Gen.facts) := fun m g _ =>
  (θ_run Cert.MixOutRefIdeal.defs _ _).mono (fun _ h => ⟨fun c => (h c).2, funext fun s => ((by decide : ∀ _ : SemLoc Cert.MixOutRefIdeal.sig, False) s.2).elim⟩)
    (Cert.MixOutRefIdeal.Value.run (F := Ideal) m g)

theorem algebraic : Cert.algebraic_MixOutIdeal_MixOutRefIdeal (hMixOutIdeal := Gen.facts) (hMixOutRefIdeal := Cert.MixOutRefIdeal.Gen.facts) :=
  fun m g m' g' _ hA => ⟨fun c => output (m ((c.tc : Thread nD τ).loc main_arg0)) (m ((c.tc : Thread nD τ).loc main_arg1)) (m ((c.tc : Thread nD τ).loc main_arg2)),
    (θ_run defs _ _).mono (fun _ h c => ⟨((h.1 c).1 3).trans (final m c), h.2 c⟩)
      (θ_run_and (run_main (F := Ideal) m g) (Gen.unchanged (F := Ideal) m g)),
    (θ_run Cert.MixOutRefIdeal.defs _ _).mono (fun _ h c => ⟨(h c).1.trans (by rw [(hA c).1, (hA c).2.1, (hA c).2.2]; rfl), (h c).2⟩)
      (Cert.MixOutRefIdeal.Value.run (F := Ideal) m' g')⟩

end Exchange.MixOut

/-! ## Its input gradient -/

namespace Exchange.MixDx

open Cert.MixDxIdeal Cert.MixDxIdeal.Gen

/-- The call's body table is one text, whichever floats it is read at. -/
theorem same : Cert.MixDx.defs (F := Bits) = defs (F := Bits) :=
  congrArg (Pipeline.defs _) (congrArg Defs.onTc (funext fun l => funext fun p => match l, p with | 0, (_, _) => rfl))

theorem frame : Cert.quiescent_MixDx (hMixDx := Cert.MixDx.Gen.facts) := fun m g _ => by
  rw [same]
  exact Gen.frame (F := Bits) m g

theorem frame_ideal : Cert.quiescent_MixDxIdeal (hMixDxIdeal := Gen.facts) := fun m g _ => Gen.frame (F := Ideal) m g

theorem frame_ref_ideal : Cert.quiescent_MixDxRefIdeal (hMixDxRefIdeal := Cert.MixDxRefIdeal.Gen.facts) := fun m g _ =>
  (θ_run Cert.MixDxRefIdeal.defs _ _).mono (fun _ h => ⟨fun c => (h c).2, funext fun s => ((by decide : ∀ _ : SemLoc Cert.MixDxRefIdeal.sig, False) s.2).elim⟩)
    (Cert.MixDxRefIdeal.Value.run (F := Ideal) m g)

theorem algebraic : Cert.algebraic_MixDxIdeal_MixDxRefIdeal (hMixDxIdeal := Gen.facts) (hMixDxRefIdeal := Cert.MixDxRefIdeal.Gen.facts) :=
  fun m g m' g' _ hA => ⟨fun c => grad (m ((c.tc : Thread nD τ).loc main_arg0)) (m ((c.tc : Thread nD τ).loc main_arg1)),
    (θ_run defs _ _).mono (fun _ h c => ⟨((h.1 c).1 2).trans (final m c), h.2 c⟩)
      (θ_run_and (run_main (F := Ideal) m g) (Gen.unchanged (F := Ideal) m g)),
    (θ_run Cert.MixDxRefIdeal.defs _ _).mono (fun _ h c => ⟨(h c).1.trans (congrArg₂ grad (hA c).1 (hA c).2), (h c).2⟩)
      (Cert.MixDxRefIdeal.Value.run (F := Ideal) m' g')⟩

end Exchange.MixDx

end
-- ==== Proof.lean ====
/-
  The proof of `Cert.Claim`: each call's frames and its values against its reference.
-/
module

public import proofs.«01_k».proof.Defs
public import proofs.«01_k».proof.Proof.Gen.Swap
public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapIdeal.Points
public import proofs.«01_k».proof.Proof.Gen.SwapRefIdeal
public import proofs.«01_k».proof.Proof.Gen.SwapRefIdeal.Run
public import proofs.«01_k».proof.Proof.Gen.SwapRef
public import proofs.«01_k».proof.Proof.Gen.Gather
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherRefIdeal
public import proofs.«01_k».proof.Proof.Gen.GatherRefIdeal.Run
public import proofs.«01_k».proof.Proof.Gen.GatherRef
public import proofs.«01_k».proof.Proof.Gen.Scatter
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import proofs.«01_k».proof.Proof.Gen.ScatterRefIdeal
public import proofs.«01_k».proof.Proof.Gen.ScatterRefIdeal.Run
public import proofs.«01_k».proof.Proof.Gen.ScatterRef
public import proofs.«01_k».proof.Proof.Gen.Join
public import proofs.«01_k».proof.Proof.Gen.JoinIdeal
public import proofs.«01_k».proof.Proof.Gen.JoinIdeal.Skeleton
public import proofs.«01_k».proof.Proof.Gen.JoinIdeal.Launch
public import proofs.«01_k».proof.Proof.Gen.JoinIdeal.Points
public import proofs.«01_k».proof.Proof.Gen.JoinRefIdeal
public import proofs.«01_k».proof.Proof.Gen.JoinRefIdeal.Run
public import proofs.«01_k».proof.Proof.Gen.JoinRef
public import proofs.«01_k».proof.Proof.Gen.Total
public import proofs.«01_k».proof.Proof.Gen.TotalIdeal
public import proofs.«01_k».proof.Proof.Gen.TotalIdeal.Skeleton
public import proofs.«01_k».proof.Proof.Gen.TotalIdeal.Launch
public import proofs.«01_k».proof.Proof.Gen.TotalIdeal.Points
public import proofs.«01_k».proof.Proof.Gen.TotalIdeal.Frame
public import proofs.«01_k».proof.Proof.Gen.TotalIdeal.Value
public import proofs.«01_k».proof.Proof.Gen.TotalRefIdeal
public import proofs.«01_k».proof.Proof.Gen.TotalRefIdeal.Run
public import proofs.«01_k».proof.Proof.Gen.TotalSmall
public import proofs.«01_k».proof.Proof.Gen.TotalSmallIdeal
public import proofs.«01_k».proof.Proof.Gen.TotalSmallIdeal.Skeleton
public import proofs.«01_k».proof.Proof.Gen.TotalSmallIdeal.Launch
public import proofs.«01_k».proof.Proof.Gen.TotalSmallIdeal.Points
public import proofs.«01_k».proof.Proof.Gen.TotalSmallIdeal.Frame
public import proofs.«01_k».proof.Proof.Gen.TotalSmallIdeal.Value
public import proofs.«01_k».proof.Proof.Gen.TotalSmallRefIdeal
public import proofs.«01_k».proof.Proof.Gen.TotalSmallRefIdeal.Run
public import proofs.«01_k».proof.Proof.Gen.UpdateFfnIn
public import proofs.«01_k».proof.Proof.Gen.UpdateFfnInIdeal
public import proofs.«01_k».proof.Proof.Gen.UpdateFfnInIdeal.Skeleton
public import proofs.«01_k».proof.Proof.Gen.UpdateFfnInIdeal.Launch
public import proofs.«01_k».proof.Proof.Gen.UpdateFfnInIdeal.Points
public import proofs.«01_k».proof.Proof.Gen.UpdateFfnInIdeal.Frame
public import proofs.«01_k».proof.Proof.Gen.UpdateFfnInIdeal.Value
public import proofs.«01_k».proof.Proof.Gen.UpdateFfnInRefIdeal
public import proofs.«01_k».proof.Proof.Gen.UpdateFfnInRefIdeal.Run
public import proofs.«01_k».proof.Proof.Gen.UpdateFfnOut
public import proofs.«01_k».proof.Proof.Gen.UpdateFfnOutIdeal
public import proofs.«01_k».proof.Proof.Gen.UpdateFfnOutIdeal.Skeleton
public import proofs.«01_k».proof.Proof.Gen.UpdateFfnOutIdeal.Launch
public import proofs.«01_k».proof.Proof.Gen.UpdateFfnOutIdeal.Points
public import proofs.«01_k».proof.Proof.Gen.UpdateFfnOutIdeal.Frame
public import proofs.«01_k».proof.Proof.Gen.UpdateFfnOutIdeal.Value
public import proofs.«01_k».proof.Proof.Gen.UpdateFfnOutRefIdeal
public import proofs.«01_k».proof.Proof.Gen.UpdateFfnOutRefIdeal.Run
public import proofs.«01_k».proof.Proof.Gen.UpdateQkv
public import proofs.«01_k».proof.Proof.Gen.UpdateQkvIdeal
public import proofs.«01_k».proof.Proof.Gen.UpdateQkvIdeal.Skeleton
public import proofs.«01_k».proof.Proof.Gen.UpdateQkvIdeal.Launch
public import proofs.«01_k».proof.Proof.Gen.UpdateQkvIdeal.Points
public import proofs.«01_k».proof.Proof.Gen.UpdateQkvIdeal.Frame
public import proofs.«01_k».proof.Proof.Gen.UpdateQkvIdeal.Value
public import proofs.«01_k».proof.Proof.Gen.UpdateQkvRefIdeal
public import proofs.«01_k».proof.Proof.Gen.UpdateQkvRefIdeal.Run
public import proofs.«01_k».proof.Proof.Gen.UpdateKv
public import proofs.«01_k».proof.Proof.Gen.UpdateKvIdeal
public import proofs.«01_k».proof.Proof.Gen.UpdateKvIdeal.Skeleton
public import proofs.«01_k».proof.Proof.Gen.UpdateKvIdeal.Launch
public import proofs.«01_k».proof.Proof.Gen.UpdateKvIdeal.Points
public import proofs.«01_k».proof.Proof.Gen.UpdateKvIdeal.Frame
public import proofs.«01_k».proof.Proof.Gen.UpdateKvIdeal.Value
public import proofs.«01_k».proof.Proof.Gen.UpdateKvRefIdeal
public import proofs.«01_k».proof.Proof.Gen.UpdateKvRefIdeal.Run
public import proofs.«01_k».proof.Proof.Gen.UpdateSquare
public import proofs.«01_k».proof.Proof.Gen.UpdateSquareIdeal
public import proofs.«01_k».proof.Proof.Gen.UpdateSquareIdeal.Skeleton
public import proofs.«01_k».proof.Proof.Gen.UpdateSquareIdeal.Launch
public import proofs.«01_k».proof.Proof.Gen.UpdateSquareIdeal.Points
public import proofs.«01_k».proof.Proof.Gen.UpdateSquareIdeal.Frame
public import proofs.«01_k».proof.Proof.Gen.UpdateSquareIdeal.Value
public import proofs.«01_k».proof.Proof.Gen.UpdateSquareRefIdeal
public import proofs.«01_k».proof.Proof.Gen.UpdateSquareRefIdeal.Run
public import proofs.«01_k».proof.Proof.Gen.UpdateSmall
public import proofs.«01_k».proof.Proof.Gen.UpdateSmallIdeal
public import proofs.«01_k».proof.Proof.Gen.UpdateSmallIdeal.Skeleton
public import proofs.«01_k».proof.Proof.Gen.UpdateSmallIdeal.Launch
public import proofs.«01_k».proof.Proof.Gen.UpdateSmallIdeal.Points
public import proofs.«01_k».proof.Proof.Gen.UpdateSmallIdeal.Frame
public import proofs.«01_k».proof.Proof.Gen.UpdateSmallIdeal.Value
public import proofs.«01_k».proof.Proof.Gen.UpdateSmallRefIdeal
public import proofs.«01_k».proof.Proof.Gen.UpdateSmallRefIdeal.Run
public import proofs.«01_k».proof.Proof.Gen.Loss
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.FfnIn
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnOut
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnOutDx
public import proofs.«01_k».proof.Proof.Gen.FfnOutDxIdeal
public import proofs.«01_k».proof.Proof.Gen.FfnOutDxIdeal.Skeleton
public import proofs.«01_k».proof.Proof.Gen.FfnOutDxIdeal.Launch
public import proofs.«01_k».proof.Proof.Gen.FfnOutDxIdeal.Points
public import proofs.«01_k».proof.Proof.Gen.FfnOutDxIdeal.Frame
public import proofs.«01_k».proof.Proof.Gen.FfnOutDxIdeal.Value
public import proofs.«01_k».proof.Proof.Gen.FfnOutDxRefIdeal
public import proofs.«01_k».proof.Proof.Gen.FfnOutDxRefIdeal.Run
public import proofs.«01_k».proof.Proof.Gen.FfnOutDw
public import proofs.«01_k».proof.Proof.Gen.FfnOutDwIdeal
public import proofs.«01_k».proof.Proof.Gen.FfnOutDwIdeal.Skeleton
public import proofs.«01_k».proof.Proof.Gen.FfnOutDwIdeal.Launch
public import proofs.«01_k».proof.Proof.Gen.FfnOutDwIdeal.Points
public import proofs.«01_k».proof.Proof.Gen.FfnOutDwIdeal.Frame
public import proofs.«01_k».proof.Proof.Gen.FfnOutDwIdeal.Value
public import proofs.«01_k».proof.Proof.Gen.FfnOutDwRefIdeal
public import proofs.«01_k».proof.Proof.Gen.FfnOutDwRefIdeal.Run
public import proofs.«01_k».proof.Proof.Gen.FfnInDw
public import proofs.«01_k».proof.Proof.Gen.FfnInDwIdeal
public import proofs.«01_k».proof.Proof.Gen.FfnInDwIdeal.Skeleton
public import proofs.«01_k».proof.Proof.Gen.FfnInDwIdeal.Launch
public import proofs.«01_k».proof.Proof.Gen.FfnInDwIdeal.Points
public import proofs.«01_k».proof.Proof.Gen.FfnInDwIdeal.Frame
public import proofs.«01_k».proof.Proof.Gen.FfnInDwIdeal.Value
public import proofs.«01_k».proof.Proof.Gen.FfnInDwRefIdeal
public import proofs.«01_k».proof.Proof.Gen.FfnInDwRefIdeal.Run
public import proofs.«01_k».proof.Proof.Gen.FfnInDx
public import proofs.«01_k».proof.Proof.Gen.FfnInDxIdeal
public import proofs.«01_k».proof.Proof.Gen.FfnInDxIdeal.Skeleton
public import proofs.«01_k».proof.Proof.Gen.FfnInDxIdeal.Launch
public import proofs.«01_k».proof.Proof.Gen.FfnInDxIdeal.Points
public import proofs.«01_k».proof.Proof.Gen.FfnInDxIdeal.Frame
public import proofs.«01_k».proof.Proof.Gen.FfnInDxRefIdeal
public import proofs.«01_k».proof.Proof.Gen.FfnInDxRefIdeal.Run
public import proofs.«01_k».proof.Proof.Gen.Norm
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormBwd
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdRefIdeal
public import proofs.«01_k».proof.Proof.Gen.NormBwdRefIdeal.Run
public import proofs.«01_k».proof.Proof.Gen.Act
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.ActBwd
public import proofs.«01_k».proof.Proof.Gen.ActBwdIdeal
public import proofs.«01_k».proof.Proof.Gen.ActBwdIdeal.Skeleton
public import proofs.«01_k».proof.Proof.Gen.ActBwdIdeal.Launch
public import proofs.«01_k».proof.Proof.Gen.ActBwdIdeal.Points
public import proofs.«01_k».proof.Proof.Gen.ActBwdIdeal.Frame
public import proofs.«01_k».proof.Proof.Gen.ActBwdIdeal.Value
public import proofs.«01_k».proof.Proof.Gen.ActBwdRefIdeal
public import proofs.«01_k».proof.Proof.Gen.ActBwdRefIdeal.Run
public import proofs.«01_k».proof.Proof.Gen.QkvDw
public import proofs.«01_k».proof.Proof.Gen.QkvDwIdeal
public import proofs.«01_k».proof.Proof.Gen.QkvDwIdeal.Skeleton
public import proofs.«01_k».proof.Proof.Gen.QkvDwIdeal.Launch
public import proofs.«01_k».proof.Proof.Gen.QkvDwIdeal.Points
public import proofs.«01_k».proof.Proof.Gen.QkvDwIdeal.Frame
public import proofs.«01_k».proof.Proof.Gen.QkvDwIdeal.Value
public import proofs.«01_k».proof.Proof.Gen.QkvDwRefIdeal
public import proofs.«01_k».proof.Proof.Gen.QkvDwRefIdeal.Run
public import proofs.«01_k».proof.Proof.Gen.KvDw
public import proofs.«01_k».proof.Proof.Gen.KvDwIdeal
public import proofs.«01_k».proof.Proof.Gen.KvDwIdeal.Skeleton
public import proofs.«01_k».proof.Proof.Gen.KvDwIdeal.Launch
public import proofs.«01_k».proof.Proof.Gen.KvDwIdeal.Points
public import proofs.«01_k».proof.Proof.Gen.KvDwIdeal.Frame
public import proofs.«01_k».proof.Proof.Gen.KvDwIdeal.Value
public import proofs.«01_k».proof.Proof.Gen.KvDwRefIdeal
public import proofs.«01_k».proof.Proof.Gen.KvDwRefIdeal.Run
public import proofs.«01_k».proof.Proof.Gen.QueryDw
public import proofs.«01_k».proof.Proof.Gen.QueryDwIdeal
public import proofs.«01_k».proof.Proof.Gen.QueryDwIdeal.Skeleton
public import proofs.«01_k».proof.Proof.Gen.QueryDwIdeal.Launch
public import proofs.«01_k».proof.Proof.Gen.QueryDwIdeal.Points
public import proofs.«01_k».proof.Proof.Gen.QueryDwIdeal.Frame
public import proofs.«01_k».proof.Proof.Gen.QueryDwIdeal.Value
public import proofs.«01_k».proof.Proof.Gen.QueryDwRefIdeal
public import proofs.«01_k».proof.Proof.Gen.QueryDwRefIdeal.Run
public import proofs.«01_k».proof.Proof.Gen.MixDw
public import proofs.«01_k».proof.Proof.Gen.MixDwIdeal
public import proofs.«01_k».proof.Proof.Gen.MixDwIdeal.Skeleton
public import proofs.«01_k».proof.Proof.Gen.MixDwIdeal.Launch
public import proofs.«01_k».proof.Proof.Gen.MixDwIdeal.Points
public import proofs.«01_k».proof.Proof.Gen.MixDwIdeal.Frame
public import proofs.«01_k».proof.Proof.Gen.MixDwIdeal.Value
public import proofs.«01_k».proof.Proof.Gen.MixDwRefIdeal
public import proofs.«01_k».proof.Proof.Gen.MixDwRefIdeal.Run
public import proofs.«01_k».proof.Proof.Gen.QkvIn
public import proofs.«01_k».proof.Proof.Gen.QkvInIdeal
public import proofs.«01_k».proof.Proof.Gen.QkvInIdeal.Skeleton
public import proofs.«01_k».proof.Proof.Gen.QkvInIdeal.Launch
public import proofs.«01_k».proof.Proof.Gen.QkvInIdeal.Points
public import proofs.«01_k».proof.Proof.Gen.QkvInIdeal.Frame
public import proofs.«01_k».proof.Proof.Gen.QkvInRefIdeal
public import proofs.«01_k».proof.Proof.Gen.QkvInRefIdeal.Run
public import proofs.«01_k».proof.Proof.Gen.QkvDx
public import proofs.«01_k».proof.Proof.Gen.QkvDxIdeal
public import proofs.«01_k».proof.Proof.Gen.QkvDxIdeal.Skeleton
public import proofs.«01_k».proof.Proof.Gen.QkvDxIdeal.Launch
public import proofs.«01_k».proof.Proof.Gen.QkvDxIdeal.Points
public import proofs.«01_k».proof.Proof.Gen.QkvDxIdeal.Frame
public import proofs.«01_k».proof.Proof.Gen.QkvDxRefIdeal
public import proofs.«01_k».proof.Proof.Gen.QkvDxRefIdeal.Run
public import proofs.«01_k».proof.Proof.Gen.KvIn
public import proofs.«01_k».proof.Proof.Gen.KvInIdeal
public import proofs.«01_k».proof.Proof.Gen.KvInIdeal.Skeleton
public import proofs.«01_k».proof.Proof.Gen.KvInIdeal.Launch
public import proofs.«01_k».proof.Proof.Gen.KvInIdeal.Points
public import proofs.«01_k».proof.Proof.Gen.KvInIdeal.Frame
public import proofs.«01_k».proof.Proof.Gen.KvInRefIdeal
public import proofs.«01_k».proof.Proof.Gen.KvInRefIdeal.Run
public import proofs.«01_k».proof.Proof.Gen.KvDx
public import proofs.«01_k».proof.Proof.Gen.KvDxIdeal
public import proofs.«01_k».proof.Proof.Gen.KvDxIdeal.Skeleton
public import proofs.«01_k».proof.Proof.Gen.KvDxIdeal.Launch
public import proofs.«01_k».proof.Proof.Gen.KvDxIdeal.Points
public import proofs.«01_k».proof.Proof.Gen.KvDxIdeal.Frame
public import proofs.«01_k».proof.Proof.Gen.KvDxRefIdeal
public import proofs.«01_k».proof.Proof.Gen.KvDxRefIdeal.Run
public import proofs.«01_k».proof.Proof.Gen.QueryIn
public import proofs.«01_k».proof.Proof.Gen.QueryInIdeal
public import proofs.«01_k».proof.Proof.Gen.QueryInIdeal.Skeleton
public import proofs.«01_k».proof.Proof.Gen.QueryInIdeal.Launch
public import proofs.«01_k».proof.Proof.Gen.QueryInIdeal.Points
public import proofs.«01_k».proof.Proof.Gen.QueryInIdeal.Frame
public import proofs.«01_k».proof.Proof.Gen.QueryInRefIdeal
public import proofs.«01_k».proof.Proof.Gen.QueryInRefIdeal.Run
public import proofs.«01_k».proof.Proof.Gen.QueryDx
public import proofs.«01_k».proof.Proof.Gen.QueryDxIdeal
public import proofs.«01_k».proof.Proof.Gen.QueryDxIdeal.Skeleton
public import proofs.«01_k».proof.Proof.Gen.QueryDxIdeal.Launch
public import proofs.«01_k».proof.Proof.Gen.QueryDxIdeal.Points
public import proofs.«01_k».proof.Proof.Gen.QueryDxIdeal.Frame
public import proofs.«01_k».proof.Proof.Gen.QueryDxRefIdeal
public import proofs.«01_k».proof.Proof.Gen.QueryDxRefIdeal.Run
public import proofs.«01_k».proof.Proof.Gen.MixOut
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.MixOutRefIdeal.Run
public import proofs.«01_k».proof.Proof.Gen.MixDx
public import proofs.«01_k».proof.Proof.Gen.MixDxIdeal
public import proofs.«01_k».proof.Proof.Gen.MixDxIdeal.Skeleton
public import proofs.«01_k».proof.Proof.Gen.MixDxIdeal.Launch
public import proofs.«01_k».proof.Proof.Gen.MixDxIdeal.Points
public import proofs.«01_k».proof.Proof.Gen.MixDxIdeal.Frame
public import proofs.«01_k».proof.Proof.Gen.MixDxRefIdeal
public import proofs.«01_k».proof.Proof.Gen.MixDxRefIdeal.Run
public import proofs.«01_k».proof.Proof.Gen.GateBwd
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdRefIdeal
public import proofs.«01_k».proof.Proof.Gen.GateBwdRefIdeal.Run
public import proofs.«01_k».proof.Proof.Gen.Gate
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateRefIdeal.Run
public import proofs.«01_k».proof.Proof.Gen.Pre_dcum_finite
public import proofs.«01_k».proof.Proof.GateBwd.Claims
public import proofs.«01_k».proof.Proof.Gate.Claims
public import proofs.«01_k».proof.Proof.Gather.Claims
public import proofs.«01_k».proof.Proof.Swap.Claims
public import proofs.«01_k».proof.Proof.Scatter.Claims
public import proofs.«01_k».proof.Proof.Join.Claims
public import proofs.«01_k».proof.Proof.Total.Chips
public import proofs.«01_k».proof.Proof.Total.Small
public import proofs.«01_k».proof.Proof.Adam.Claims
public import proofs.«01_k».proof.Proof.Loss.Claims
public import proofs.«01_k».proof.Proof.Feed.Claims
public import proofs.«01_k».proof.Proof.Parts.Claims
public import proofs.«01_k».proof.Proof.NormBwd.Claims
public import proofs.«01_k».proof.Proof.Attend.Claims
public import Idealize.ShloMosaic.Adequacy
public import Idealize.ShloMosaic.Init

@[expose] public section

noncomputable section

namespace Cert.Proof

open Idealize.ShloMosaic Idealize.SL.Sem

theorem claim : Cert.Claim :=
  ⟨Cert.Gather.Gen.facts, Cert.GatherIdeal.Gen.facts, Cert.GatherRefIdeal.Gen.facts, Cert.GatherRef.Gen.facts,
    Cert.Swap.Gen.facts, Cert.SwapIdeal.Gen.facts, Cert.SwapRefIdeal.Gen.facts, Cert.SwapRef.Gen.facts,
    Cert.Scatter.Gen.facts, Cert.ScatterIdeal.Gen.facts, Cert.ScatterRefIdeal.Gen.facts, Cert.ScatterRef.Gen.facts,
    Cert.Join.Gen.facts, Cert.JoinIdeal.Gen.facts, Cert.JoinRefIdeal.Gen.facts, Cert.JoinRef.Gen.facts,
    Cert.Total.Gen.facts, Cert.TotalIdeal.Gen.facts, Cert.TotalRefIdeal.Gen.facts,
    Cert.TotalSmall.Gen.facts, Cert.TotalSmallIdeal.Gen.facts, Cert.TotalSmallRefIdeal.Gen.facts,
    Cert.UpdateFfnIn.Gen.facts, Cert.UpdateFfnInIdeal.Gen.facts, Cert.UpdateFfnInRefIdeal.Gen.facts,
    Cert.UpdateFfnOut.Gen.facts, Cert.UpdateFfnOutIdeal.Gen.facts, Cert.UpdateFfnOutRefIdeal.Gen.facts,
    Cert.UpdateQkv.Gen.facts, Cert.UpdateQkvIdeal.Gen.facts, Cert.UpdateQkvRefIdeal.Gen.facts,
    Cert.UpdateKv.Gen.facts, Cert.UpdateKvIdeal.Gen.facts, Cert.UpdateKvRefIdeal.Gen.facts,
    Cert.UpdateSquare.Gen.facts, Cert.UpdateSquareIdeal.Gen.facts, Cert.UpdateSquareRefIdeal.Gen.facts,
    Cert.UpdateSmall.Gen.facts, Cert.UpdateSmallIdeal.Gen.facts, Cert.UpdateSmallRefIdeal.Gen.facts,
    Cert.Loss.Gen.facts, Cert.LossIdeal.Gen.facts, Cert.LossRefIdeal.Gen.facts,
    Cert.FfnIn.Gen.facts, Cert.FfnInIdeal.Gen.facts, Cert.FfnInRefIdeal.Gen.facts,
    Cert.FfnOut.Gen.facts, Cert.FfnOutIdeal.Gen.facts, Cert.FfnOutRefIdeal.Gen.facts,
    Cert.FfnOutDx.Gen.facts, Cert.FfnOutDxIdeal.Gen.facts, Cert.FfnOutDxRefIdeal.Gen.facts,
    Cert.FfnOutDw.Gen.facts, Cert.FfnOutDwIdeal.Gen.facts, Cert.FfnOutDwRefIdeal.Gen.facts,
    Cert.FfnInDx.Gen.facts, Cert.FfnInDxIdeal.Gen.facts, Cert.FfnInDxRefIdeal.Gen.facts,
    Cert.FfnInDw.Gen.facts, Cert.FfnInDwIdeal.Gen.facts, Cert.FfnInDwRefIdeal.Gen.facts,
    Cert.Norm.Gen.facts, Cert.NormIdeal.Gen.facts, Cert.NormRefIdeal.Gen.facts,
    Cert.NormBwd.Gen.facts, Cert.NormBwdIdeal.Gen.facts, Cert.NormBwdRefIdeal.Gen.facts,
    Cert.Act.Gen.facts, Cert.ActIdeal.Gen.facts, Cert.ActRefIdeal.Gen.facts,
    Cert.ActBwd.Gen.facts, Cert.ActBwdIdeal.Gen.facts, Cert.ActBwdRefIdeal.Gen.facts,
    Cert.QkvDw.Gen.facts, Cert.QkvDwIdeal.Gen.facts, Cert.QkvDwRefIdeal.Gen.facts,
    Cert.KvDw.Gen.facts, Cert.KvDwIdeal.Gen.facts, Cert.KvDwRefIdeal.Gen.facts,
    Cert.QueryDw.Gen.facts, Cert.QueryDwIdeal.Gen.facts, Cert.QueryDwRefIdeal.Gen.facts,
    Cert.MixDw.Gen.facts, Cert.MixDwIdeal.Gen.facts, Cert.MixDwRefIdeal.Gen.facts,
    Cert.QkvIn.Gen.facts, Cert.QkvInIdeal.Gen.facts, Cert.QkvInRefIdeal.Gen.facts,
    Cert.QkvDx.Gen.facts, Cert.QkvDxIdeal.Gen.facts, Cert.QkvDxRefIdeal.Gen.facts,
    Cert.KvIn.Gen.facts, Cert.KvInIdeal.Gen.facts, Cert.KvInRefIdeal.Gen.facts,
    Cert.KvDx.Gen.facts, Cert.KvDxIdeal.Gen.facts, Cert.KvDxRefIdeal.Gen.facts,
    Cert.QueryIn.Gen.facts, Cert.QueryInIdeal.Gen.facts, Cert.QueryInRefIdeal.Gen.facts,
    Cert.QueryDx.Gen.facts, Cert.QueryDxIdeal.Gen.facts, Cert.QueryDxRefIdeal.Gen.facts,
    Cert.MixOut.Gen.facts, Cert.MixOutIdeal.Gen.facts, Cert.MixOutRefIdeal.Gen.facts,
    Cert.MixDx.Gen.facts, Cert.MixDxIdeal.Gen.facts, Cert.MixDxRefIdeal.Gen.facts,
    Cert.GateBwd.Gen.facts, Cert.GateBwdIdeal.Gen.facts, Cert.GateBwdRefIdeal.Gen.facts,
    Cert.Gate.Gen.facts, Cert.GateIdeal.Gen.facts, Cert.GateRefIdeal.Gen.facts, Cert.Pre_dcum_finite.Gen.facts,
    Exchange.Gather.frame, Exchange.Gather.frame_ideal, Exchange.Gather.frame_ref_ideal, Exchange.Gather.frame_ref,
    Exchange.Swap.frame, Exchange.Swap.frame_ideal, Exchange.Swap.frame_ref_ideal, Exchange.Swap.frame_ref,
    Exchange.Scatter.frame, Exchange.Scatter.frame_ideal, Exchange.Scatter.frame_ref_ideal, Exchange.Scatter.frame_ref,
    Exchange.Join.frame, Exchange.Join.frame_ideal, Exchange.Join.frame_ref_ideal, Exchange.Join.frame_ref,
    Exchange.Total.Chips.frame, Exchange.Total.Chips.frame_ideal, Exchange.Total.Chips.frame_ref_ideal,
    Exchange.Total.Small.frame, Exchange.Total.Small.frame_ideal, Exchange.Total.Small.frame_ref_ideal,
    Exchange.Adam.FfnIn.frame, Exchange.Adam.FfnIn.frame_ideal, Exchange.Adam.FfnIn.frame_ref_ideal,
    Exchange.Adam.FfnOut.frame, Exchange.Adam.FfnOut.frame_ideal, Exchange.Adam.FfnOut.frame_ref_ideal,
    Exchange.Adam.Qkv.frame, Exchange.Adam.Qkv.frame_ideal, Exchange.Adam.Qkv.frame_ref_ideal,
    Exchange.Adam.Kv.frame, Exchange.Adam.Kv.frame_ideal, Exchange.Adam.Kv.frame_ref_ideal,
    Exchange.Adam.Square.frame, Exchange.Adam.Square.frame_ideal, Exchange.Adam.Square.frame_ref_ideal,
    Exchange.Adam.Small.frame, Exchange.Adam.Small.frame_ideal, Exchange.Adam.Small.frame_ref_ideal,
    Exchange.Loss.frame, Exchange.Loss.frame_ideal, Exchange.Loss.frame_ref_ideal,
    Exchange.FfnIn.frame, Exchange.FfnIn.frame_ideal, Exchange.FfnIn.frame_ref_ideal,
    Exchange.FfnOut.frame, Exchange.FfnOut.frame_ideal, Exchange.FfnOut.frame_ref_ideal,
    Exchange.FfnOutDx.frame, Exchange.FfnOutDx.frame_ideal, Exchange.FfnOutDx.frame_ref_ideal,
    Exchange.FfnOutDw.frame, Exchange.FfnOutDw.frame_ideal, Exchange.FfnOutDw.frame_ref_ideal,
    Exchange.FfnInDx.frame, Exchange.FfnInDx.frame_ideal, Exchange.FfnInDx.frame_ref_ideal,
    Exchange.FfnInDw.frame, Exchange.FfnInDw.frame_ideal, Exchange.FfnInDw.frame_ref_ideal,
    Exchange.Norm.frame, Exchange.Norm.frame_ideal, Exchange.Norm.frame_ref_ideal,
    Exchange.NormBwd.frame, Exchange.NormBwd.frame_ideal, Exchange.NormBwd.frame_ref_ideal,
    Exchange.Act.frame, Exchange.Act.frame_ideal, Exchange.Act.frame_ref_ideal,
    Exchange.ActBwd.frame, Exchange.ActBwd.frame_ideal, Exchange.ActBwd.frame_ref_ideal,
    Exchange.QkvDw.frame, Exchange.QkvDw.frame_ideal, Exchange.QkvDw.frame_ref_ideal,
    Exchange.KvDw.frame, Exchange.KvDw.frame_ideal, Exchange.KvDw.frame_ref_ideal,
    Exchange.QueryDw.frame, Exchange.QueryDw.frame_ideal, Exchange.QueryDw.frame_ref_ideal,
    Exchange.MixDw.frame, Exchange.MixDw.frame_ideal, Exchange.MixDw.frame_ref_ideal,
    Exchange.QkvIn.frame, Exchange.QkvIn.frame_ideal, Exchange.QkvIn.frame_ref_ideal,
    Exchange.QkvDx.frame, Exchange.QkvDx.frame_ideal, Exchange.QkvDx.frame_ref_ideal,
    Exchange.KvIn.frame, Exchange.KvIn.frame_ideal, Exchange.KvIn.frame_ref_ideal,
    Exchange.KvDx.frame, Exchange.KvDx.frame_ideal, Exchange.KvDx.frame_ref_ideal,
    Exchange.QueryIn.frame, Exchange.QueryIn.frame_ideal, Exchange.QueryIn.frame_ref_ideal,
    Exchange.QueryDx.frame, Exchange.QueryDx.frame_ideal, Exchange.QueryDx.frame_ref_ideal,
    Exchange.MixOut.frame, Exchange.MixOut.frame_ideal, Exchange.MixOut.frame_ref_ideal,
    Exchange.MixDx.frame, Exchange.MixDx.frame_ideal, Exchange.MixDx.frame_ref_ideal,
    Exchange.GateBwd.frame, Exchange.GateBwd.frame_ideal, Exchange.GateBwd.frame_ideal_pre, Exchange.GateBwd.frame_ref_ideal, Exchange.GateBwd.frame_ref_ideal_pre,
    Exchange.Gate.frame, Exchange.Gate.frame_ideal, Exchange.Gate.frame_ref_ideal,
    trivial, Exchange.Gather.algebraic, Exchange.Gather.bitexact,
    trivial, Exchange.Swap.algebraic, Exchange.Swap.bitexact,
    trivial, Exchange.Scatter.algebraic, Exchange.Scatter.bitexact,
    trivial, Exchange.Join.algebraic, Exchange.Join.bitexact,
    trivial, Exchange.Total.Chips.algebraic,
    trivial, Exchange.Total.Small.algebraic,
    trivial, Exchange.Adam.FfnIn.algebraic,
    trivial, Exchange.Adam.FfnOut.algebraic,
    trivial, Exchange.Adam.Qkv.algebraic,
    trivial, Exchange.Adam.Kv.algebraic,
    trivial, Exchange.Adam.Square.algebraic,
    trivial, Exchange.Adam.Small.algebraic,
    trivial, Exchange.Loss.algebraic,
    trivial, Exchange.FfnIn.algebraic,
    trivial, Exchange.FfnOut.algebraic,
    trivial, Exchange.FfnOutDx.algebraic,
    trivial, Exchange.FfnOutDw.algebraic,
    trivial, Exchange.FfnInDx.algebraic,
    trivial, Exchange.FfnInDw.algebraic,
    trivial, Exchange.Norm.algebraic,
    trivial, Exchange.NormBwd.algebraic,
    trivial, Exchange.Act.algebraic,
    trivial, Exchange.ActBwd.algebraic,
    trivial, Exchange.QkvDw.algebraic,
    trivial, Exchange.KvDw.algebraic,
    trivial, Exchange.QueryDw.algebraic,
    trivial, Exchange.MixDw.algebraic,
    trivial, Exchange.QkvIn.algebraic,
    trivial, Exchange.QkvDx.algebraic,
    trivial, Exchange.KvIn.algebraic,
    trivial, Exchange.KvDx.algebraic,
    trivial, Exchange.QueryIn.algebraic,
    trivial, Exchange.QueryDx.algebraic,
    trivial, Exchange.MixOut.algebraic,
    trivial, Exchange.MixDx.algebraic,
    trivial, Exchange.GateBwd.algebraic,
    trivial, Exchange.Gate.algebraic⟩

end Cert.Proof

end
